-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite2 [hPre_finite2 : Cert.Pre_finite2.Facts] (m : (ℓ : Loc Cert.FfnIdeal.nD Cert.FfnIdeal.τ Cert.FfnIdeal.sig) → Buf (Elt Ideal) ℓ) : Prop :=
  ∀ c : Dev Cert.FfnIdeal.nD,
    (Cert.Pre_finite2.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).1 = (fun _ => 1#1)
    ∧ (Cert.Pre_finite2.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.1 = (fun _ => 1#1)
    ∧ (Cert.Pre_finite2.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.2.1 = (fun _ => 1#1)
    ∧ (Cert.Pre_finite2.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.2.2 = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_finite2 [hPre_finite2 : Cert.Pre_finite2.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_finite2.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))).1 = (fun _ => 1#1)
    ∧ (Cert.Pre_finite2.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))).2.1 = (fun _ => 1#1)
    ∧ (Cert.Pre_finite2.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))).2.2.1 = (fun _ => 1#1)
    ∧ (Cert.Pre_finite2.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))).2.2.2 = (fun _ => 1#1)

def Pre_FfnDx (m : (ℓ : Loc Cert.FfnDx.nD Cert.FfnDx.τ Cert.FfnDx.sig) → Buf (Elt Bits) ℓ) : Prop :=
  True

def Pre_FfnDxIdeal (m : (ℓ : Loc Cert.FfnDxIdeal.nD Cert.FfnDxIdeal.τ Cert.FfnDxIdeal.sig) → Buf (Elt Ideal) ℓ) : Prop :=
  True

def Pre_FfnDxReferenceIdeal (m : (ℓ : Loc Cert.FfnDxReferenceIdeal.nD Cert.FfnDxReferenceIdeal.τ Cert.FfnDxReferenceIdeal.sig) → Buf (Elt Ideal) ℓ) : Prop :=
  True

def Pre_FfnDwDown (m : (ℓ : Loc Cert.FfnDwDown.nD Cert.FfnDwDown.τ Cert.FfnDwDown.sig) → Buf (Elt Bits) ℓ) : Prop :=
  True

def Pre_FfnDwDownIdeal (m : (ℓ : Loc Cert.FfnDwDownIdeal.nD Cert.FfnDwDownIdeal.τ Cert.FfnDwDownIdeal.sig) → Buf (Elt Ideal) ℓ) : Prop :=
  True

def Pre_FfnDwDownReferenceIdeal (m : (ℓ : Loc Cert.FfnDwDownReferenceIdeal.nD Cert.FfnDwDownReferenceIdeal.τ Cert.FfnDwDownReferenceIdeal.sig) → Buf (Elt Ideal) ℓ) : Prop :=
  True

def Pre_FfnDwUp (m : (ℓ : Loc Cert.FfnDwUp.nD Cert.FfnDwUp.τ Cert.FfnDwUp.sig) → Buf (Elt Bits) ℓ) : Prop :=
  True

def Pre_FfnDwUpIdeal (m : (ℓ : Loc Cert.FfnDwUpIdeal.nD Cert.FfnDwUpIdeal.τ Cert.FfnDwUpIdeal.sig) → Buf (Elt Ideal) ℓ) : Prop :=
  True

def Pre_FfnDwUpReferenceIdeal (m : (ℓ : Loc Cert.FfnDwUpReferenceIdeal.nD Cert.FfnDwUpReferenceIdeal.τ Cert.FfnDwUpReferenceIdeal.sig) → Buf (Elt Ideal) ℓ) : Prop :=
  True

def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerReferenceIdeal (m : (ℓ : Loc Cert.MixerReferenceIdeal.nD Cert.MixerReferenceIdeal.τ Cert.MixerReferenceIdeal.sig) → Buf (Elt Ideal) ℓ) : Prop :=
  True

def Pre_MixerBack (m : (ℓ : Loc Cert.MixerBack.nD Cert.MixerBack.τ Cert.MixerBack.sig) → Buf (Elt Bits) ℓ) : Prop :=
  True

def Pre_MixerBackIdeal (m : (ℓ : Loc Cert.MixerBackIdeal.nD Cert.MixerBackIdeal.τ Cert.MixerBackIdeal.sig) → Buf (Elt Ideal) ℓ) : Prop :=
  True

def Pre_MixerBackReferenceIdeal (m : (ℓ : Loc Cert.MixerBackReferenceIdeal.nD Cert.MixerBackReferenceIdeal.τ Cert.MixerBackReferenceIdeal.sig) → Buf (Elt Ideal) ℓ) : Prop :=
  True

def Pre_MixerDwIn (m : (ℓ : Loc Cert.MixerDwIn.nD Cert.MixerDwIn.τ Cert.MixerDwIn.sig) → Buf (Elt Bits) ℓ) : Prop :=
  True

def Pre_MixerDwInIdeal (m : (ℓ : Loc Cert.MixerDwInIdeal.nD Cert.MixerDwInIdeal.τ Cert.MixerDwInIdeal.sig) → Buf (Elt Ideal) ℓ) : Prop :=
  True

def Pre_MixerDwInReferenceIdeal (m : (ℓ : Loc Cert.MixerDwInReferenceIdeal.nD Cert.MixerDwInReferenceIdeal.τ Cert.MixerDwInReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_ProjBack (m : (ℓ : Loc Cert.ProjBack.nD Cert.ProjBack.τ Cert.ProjBack.sig) → Buf (Elt Bits) ℓ) : Prop :=
  True

def Pre_ProjBackIdeal (m : (ℓ : Loc Cert.ProjBackIdeal.nD Cert.ProjBackIdeal.τ Cert.ProjBackIdeal.sig) → Buf (Elt Ideal) ℓ) : Prop :=
  True

def Pre_ProjBackReferenceIdeal (m : (ℓ : Loc Cert.ProjBackReferenceIdeal.nD Cert.ProjBackReferenceIdeal.τ Cert.ProjBackReferenceIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvReferenceIdeal (m : (ℓ : Loc Cert.KvReferenceIdeal.nD Cert.KvReferenceIdeal.τ Cert.KvReferenceIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite12 [hPre_finite12 : Cert.Pre_finite12.Facts] (m : (ℓ : Loc Cert.AttnIdeal.nD Cert.AttnIdeal.τ Cert.AttnIdeal.sig) → Buf (Elt Ideal) ℓ) : Prop :=
  ∀ c : Dev Cert.AttnIdeal.nD,
    (Cert.Pre_finite12.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).1 = (fun _ => 1#1)
    ∧ (Cert.Pre_finite12.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.1 = (fun _ => 1#1)
    ∧ (Cert.Pre_finite12.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2.1 = (fun _ => 1#1)
    ∧ (Cert.Pre_finite12.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2.2.1 = (fun _ => 1#1)
    ∧ (Cert.Pre_finite12.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2.2.2.1 = (fun _ => 1#1)
    ∧ (Cert.Pre_finite12.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2.2.2.2 = (fun _ => 1#1)

def Pre_AttnReferenceIdeal (m : (ℓ : Loc Cert.AttnReferenceIdeal.nD Cert.AttnReferenceIdeal.τ Cert.AttnReferenceIdeal.sig) → Buf (Elt Ideal) ℓ) : Prop :=
  True

def Pre_AttnReferenceIdeal_finite12 [hPre_finite12 : Cert.Pre_finite12.Facts] (m : (ℓ : Loc Cert.AttnReferenceIdeal.nD Cert.AttnReferenceIdeal.τ Cert.AttnReferenceIdeal.sig) → Buf (Elt Ideal) ℓ) : Prop :=
  ∀ c : Dev Cert.AttnReferenceIdeal.nD,
    (Cert.Pre_finite12.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4)) (m ((c.tc : Thread Cert.AttnReferenceIdeal.nD Cert.AttnReferenceIdeal.τ).loc Cert.AttnReferenceIdeal.main_arg5))).1 = (fun _ => 1#1)
    ∧ (Cert.Pre_finite12.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4)) (m ((c.tc : Thread Cert.AttnReferenceIdeal.nD Cert.AttnReferenceIdeal.τ).loc Cert.AttnReferenceIdeal.main_arg5))).2.1 = (fun _ => 1#1)
    ∧ (Cert.Pre_finite12.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4)) (m ((c.tc : Thread Cert.AttnReferenceIdeal.nD Cert.AttnReferenceIdeal.τ).loc Cert.AttnReferenceIdeal.main_arg5))).2.2.1 = (fun _ => 1#1)
    ∧ (Cert.Pre_finite12.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4)) (m ((c.tc : Thread Cert.AttnReferenceIdeal.nD Cert.AttnReferenceIdeal.τ).loc Cert.AttnReferenceIdeal.main_arg5))).2.2.2.1 = (fun _ => 1#1)
    ∧ (Cert.Pre_finite12.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4)) (m ((c.tc : Thread Cert.AttnReferenceIdeal.nD Cert.AttnReferenceIdeal.τ).loc Cert.AttnReferenceIdeal.main_arg5))).2.2.2.2.1 = (fun _ => 1#1)
    ∧ (Cert.Pre_finite12.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4)) (m ((c.tc : Thread Cert.AttnReferenceIdeal.nD Cert.AttnReferenceIdeal.τ).loc Cert.AttnReferenceIdeal.main_arg5))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnIdeal_pre_finite2 [hFfnIdeal : Cert.FfnIdeal.Facts] [hPre_finite2 : Cert.Pre_finite2.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite2 m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_FfnReferenceIdeal_pre_finite2 [hFfnReferenceIdeal : Cert.FfnReferenceIdeal.Facts] [hPre_finite2 : Cert.Pre_finite2.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_finite2 m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_FfnDx [hFfnDx : Cert.FfnDx.Facts] : Prop :=
  ∀ (m : (ℓ : Loc Cert.FfnDx.nD Cert.FfnDx.τ Cert.FfnDx.sig) → Buf (Elt Bits) ℓ) (g : Dev Cert.FfnDx.nD → PrngReg), Pre_FfnDx m →
    θ_run (Cert.FfnDx.defs (F := Bits)) (onTc (τ := Cert.FfnDx.τ) (Cert.FfnDx.main (F := Bits))) ⟨m, fun _ => 0, g⟩ (fun r => (∀ c : Dev Cert.FfnDx.nD,
      r.2.mem ((c.tc : Thread Cert.FfnDx.nD Cert.FfnDx.τ).loc Cert.FfnDx.main_arg0) = m ((c.tc : Thread Cert.FfnDx.nD Cert.FfnDx.τ).loc Cert.FfnDx.main_arg0)
      ∧ r.2.mem ((c.tc : Thread Cert.FfnDx.nD Cert.FfnDx.τ).loc Cert.FfnDx.main_arg1) = m ((c.tc : Thread Cert.FfnDx.nD Cert.FfnDx.τ).loc Cert.FfnDx.main_arg1)
      ∧ r.2.mem ((c.tc : Thread Cert.FfnDx.nD Cert.FfnDx.τ).loc Cert.FfnDx.main_arg2) = m ((c.tc : Thread Cert.FfnDx.nD Cert.FfnDx.τ).loc Cert.FfnDx.main_arg2))
      ∧ r.2.sem = fun _ => 0)

def quiescent_FfnDxIdeal [hFfnDxIdeal : Cert.FfnDxIdeal.Facts] : Prop :=
  ∀ (m : (ℓ : Loc Cert.FfnDxIdeal.nD Cert.FfnDxIdeal.τ Cert.FfnDxIdeal.sig) → Buf (Elt Ideal) ℓ) (g : Dev Cert.FfnDxIdeal.nD → PrngReg), Pre_FfnDxIdeal m →
    θ_run (Cert.FfnDxIdeal.defs (F := Ideal)) (onTc (τ := Cert.FfnDxIdeal.τ) (Cert.FfnDxIdeal.main (F := Ideal))) ⟨m, fun _ => 0, g⟩ (fun r => (∀ c : Dev Cert.FfnDxIdeal.nD,
      r.2.mem ((c.tc : Thread Cert.FfnDxIdeal.nD Cert.FfnDxIdeal.τ).loc Cert.FfnDxIdeal.main_arg0) = m ((c.tc : Thread Cert.FfnDxIdeal.nD Cert.FfnDxIdeal.τ).loc Cert.FfnDxIdeal.main_arg0)
      ∧ r.2.mem ((c.tc : Thread Cert.FfnDxIdeal.nD Cert.FfnDxIdeal.τ).loc Cert.FfnDxIdeal.main_arg1) = m ((c.tc : Thread Cert.FfnDxIdeal.nD Cert.FfnDxIdeal.τ).loc Cert.FfnDxIdeal.main_arg1)
      ∧ r.2.mem ((c.tc : Thread Cert.FfnDxIdeal.nD Cert.FfnDxIdeal.τ).loc Cert.FfnDxIdeal.main_arg2) = m ((c.tc : Thread Cert.FfnDxIdeal.nD Cert.FfnDxIdeal.τ).loc Cert.FfnDxIdeal.main_arg2))
      ∧ r.2.sem = fun _ => 0)

def quiescent_FfnDxReferenceIdeal [hFfnDxReferenceIdeal : Cert.FfnDxReferenceIdeal.Facts] : Prop :=
  ∀ (m : (ℓ : Loc Cert.FfnDxReferenceIdeal.nD Cert.FfnDxReferenceIdeal.τ Cert.FfnDxReferenceIdeal.sig) → Buf (Elt Ideal) ℓ) (g : Dev Cert.FfnDxReferenceIdeal.nD → PrngReg), Pre_FfnDxReferenceIdeal m →
    θ_run (Cert.FfnDxReferenceIdeal.defs (F := Ideal)) (onTc (τ := Cert.FfnDxReferenceIdeal.τ) (Cert.FfnDxReferenceIdeal.main (F := Ideal))) ⟨m, fun _ => 0, g⟩ (fun r => (∀ c : Dev Cert.FfnDxReferenceIdeal.nD,
      r.2.mem ((c.tc : Thread Cert.FfnDxReferenceIdeal.nD Cert.FfnDxReferenceIdeal.τ).loc Cert.FfnDxReferenceIdeal.main_arg0) = m ((c.tc : Thread Cert.FfnDxReferenceIdeal.nD Cert.FfnDxReferenceIdeal.τ).loc Cert.FfnDxReferenceIdeal.main_arg0)
      ∧ r.2.mem ((c.tc : Thread Cert.FfnDxReferenceIdeal.nD Cert.FfnDxReferenceIdeal.τ).loc Cert.FfnDxReferenceIdeal.main_arg1) = m ((c.tc : Thread Cert.FfnDxReferenceIdeal.nD Cert.FfnDxReferenceIdeal.τ).loc Cert.FfnDxReferenceIdeal.main_arg1)
      ∧ r.2.mem ((c.tc : Thread Cert.FfnDxReferenceIdeal.nD Cert.FfnDxReferenceIdeal.τ).loc Cert.FfnDxReferenceIdeal.main_arg2) = m ((c.tc : Thread Cert.FfnDxReferenceIdeal.nD Cert.FfnDxReferenceIdeal.τ).loc Cert.FfnDxReferenceIdeal.main_arg2))
      ∧ r.2.sem = fun _ => 0)

def quiescent_FfnDwDown [hFfnDwDown : Cert.FfnDwDown.Facts] : Prop :=
  ∀ (m : (ℓ : Loc Cert.FfnDwDown.nD Cert.FfnDwDown.τ Cert.FfnDwDown.sig) → Buf (Elt Bits) ℓ) (g : Dev Cert.FfnDwDown.nD → PrngReg), Pre_FfnDwDown m →
    θ_run (Cert.FfnDwDown.defs (F := Bits)) (onTc (τ := Cert.FfnDwDown.τ) (Cert.FfnDwDown.main (F := Bits))) ⟨m, fun _ => 0, g⟩ (fun r => (∀ c : Dev Cert.FfnDwDown.nD,
      r.2.mem ((c.tc : Thread Cert.FfnDwDown.nD Cert.FfnDwDown.τ).loc Cert.FfnDwDown.main_arg0) = m ((c.tc : Thread Cert.FfnDwDown.nD Cert.FfnDwDown.τ).loc Cert.FfnDwDown.main_arg0)
      ∧ r.2.mem ((c.tc : Thread Cert.FfnDwDown.nD Cert.FfnDwDown.τ).loc Cert.FfnDwDown.main_arg1) = m ((c.tc : Thread Cert.FfnDwDown.nD Cert.FfnDwDown.τ).loc Cert.FfnDwDown.main_arg1)
      ∧ r.2.mem ((c.tc : Thread Cert.FfnDwDown.nD Cert.FfnDwDown.τ).loc Cert.FfnDwDown.main_arg2) = m ((c.tc : Thread Cert.FfnDwDown.nD Cert.FfnDwDown.τ).loc Cert.FfnDwDown.main_arg2)
      ∧ r.2.mem ((c.tc : Thread Cert.FfnDwDown.nD Cert.FfnDwDown.τ).loc Cert.FfnDwDown.main_arg3) = m ((c.tc : Thread Cert.FfnDwDown.nD Cert.FfnDwDown.τ).loc Cert.FfnDwDown.main_arg3))
      ∧ r.2.sem = fun _ => 0)

def quiescent_FfnDwDownIdeal [hFfnDwDownIdeal : Cert.FfnDwDownIdeal.Facts] : Prop :=
  ∀ (m : (ℓ : Loc Cert.FfnDwDownIdeal.nD Cert.FfnDwDownIdeal.τ Cert.FfnDwDownIdeal.sig) → Buf (Elt Ideal) ℓ) (g : Dev Cert.FfnDwDownIdeal.nD → PrngReg), Pre_FfnDwDownIdeal m →
    θ_run (Cert.FfnDwDownIdeal.defs (F := Ideal)) (onTc (τ := Cert.FfnDwDownIdeal.τ) (Cert.FfnDwDownIdeal.main (F := Ideal))) ⟨m, fun _ => 0, g⟩ (fun r => (∀ c : Dev Cert.FfnDwDownIdeal.nD,
      r.2.mem ((c.tc : Thread Cert.FfnDwDownIdeal.nD Cert.FfnDwDownIdeal.τ).loc Cert.FfnDwDownIdeal.main_arg0) = m ((c.tc : Thread Cert.FfnDwDownIdeal.nD Cert.FfnDwDownIdeal.τ).loc Cert.FfnDwDownIdeal.main_arg0)
      ∧ r.2.mem ((c.tc : Thread Cert.FfnDwDownIdeal.nD Cert.FfnDwDownIdeal.τ).loc Cert.FfnDwDownIdeal.main_arg1) = m ((c.tc : Thread Cert.FfnDwDownIdeal.nD Cert.FfnDwDownIdeal.τ).loc Cert.FfnDwDownIdeal.main_arg1)
      ∧ r.2.mem ((c.tc : Thread Cert.FfnDwDownIdeal.nD Cert.FfnDwDownIdeal.τ).loc Cert.FfnDwDownIdeal.main_arg2) = m ((c.tc : Thread Cert.FfnDwDownIdeal.nD Cert.FfnDwDownIdeal.τ).loc Cert.FfnDwDownIdeal.main_arg2)
      ∧ r.2.mem ((c.tc : Thread Cert.FfnDwDownIdeal.nD Cert.FfnDwDownIdeal.τ).loc Cert.FfnDwDownIdeal.main_arg3) = m ((c.tc : Thread Cert.FfnDwDownIdeal.nD Cert.FfnDwDownIdeal.τ).loc Cert.FfnDwDownIdeal.main_arg3))
      ∧ r.2.sem = fun _ => 0)

def quiescent_FfnDwDownReferenceIdeal [hFfnDwDownReferenceIdeal : Cert.FfnDwDownReferenceIdeal.Facts] : Prop :=
  ∀ (m : (ℓ : Loc Cert.FfnDwDownReferenceIdeal.nD Cert.FfnDwDownReferenceIdeal.τ Cert.FfnDwDownReferenceIdeal.sig) → Buf (Elt Ideal) ℓ) (g : Dev Cert.FfnDwDownReferenceIdeal.nD → PrngReg), Pre_FfnDwDownReferenceIdeal m →
    θ_run (Cert.FfnDwDownReferenceIdeal.defs (F := Ideal)) (onTc (τ := Cert.FfnDwDownReferenceIdeal.τ) (Cert.FfnDwDownReferenceIdeal.main (F := Ideal))) ⟨m, fun _ => 0, g⟩ (fun r => (∀ c : Dev Cert.FfnDwDownReferenceIdeal.nD,
      r.2.mem ((c.tc : Thread Cert.FfnDwDownReferenceIdeal.nD Cert.FfnDwDownReferenceIdeal.τ).loc Cert.FfnDwDownReferenceIdeal.main_arg0) = m ((c.tc : Thread Cert.FfnDwDownReferenceIdeal.nD Cert.FfnDwDownReferenceIdeal.τ).loc Cert.FfnDwDownReferenceIdeal.main_arg0)
      ∧ r.2.mem ((c.tc : Thread Cert.FfnDwDownReferenceIdeal.nD Cert.FfnDwDownReferenceIdeal.τ).loc Cert.FfnDwDownReferenceIdeal.main_arg1) = m ((c.tc : Thread Cert.FfnDwDownReferenceIdeal.nD Cert.FfnDwDownReferenceIdeal.τ).loc Cert.FfnDwDownReferenceIdeal.main_arg1)
      ∧ r.2.mem ((c.tc : Thread Cert.FfnDwDownReferenceIdeal.nD Cert.FfnDwDownReferenceIdeal.τ).loc Cert.FfnDwDownReferenceIdeal.main_arg2) = m ((c.tc : Thread Cert.FfnDwDownReferenceIdeal.nD Cert.FfnDwDownReferenceIdeal.τ).loc Cert.FfnDwDownReferenceIdeal.main_arg2)
      ∧ r.2.mem ((c.tc : Thread Cert.FfnDwDownReferenceIdeal.nD Cert.FfnDwDownReferenceIdeal.τ).loc Cert.FfnDwDownReferenceIdeal.main_arg3) = m ((c.tc : Thread Cert.FfnDwDownReferenceIdeal.nD Cert.FfnDwDownReferenceIdeal.τ).loc Cert.FfnDwDownReferenceIdeal.main_arg3))
      ∧ r.2.sem = fun _ => 0)

def quiescent_FfnDwUp [hFfnDwUp : Cert.FfnDwUp.Facts] : Prop :=
  ∀ (m : (ℓ : Loc Cert.FfnDwUp.nD Cert.FfnDwUp.τ Cert.FfnDwUp.sig) → Buf (Elt Bits) ℓ) (g : Dev Cert.FfnDwUp.nD → PrngReg), Pre_FfnDwUp m →
    θ_run (Cert.FfnDwUp.defs (F := Bits)) (onTc (τ := Cert.FfnDwUp.τ) (Cert.FfnDwUp.main (F := Bits))) ⟨m, fun _ => 0, g⟩ (fun r => (∀ c : Dev Cert.FfnDwUp.nD,
      r.2.mem ((c.tc : Thread Cert.FfnDwUp.nD Cert.FfnDwUp.τ).loc Cert.FfnDwUp.main_arg0) = m ((c.tc : Thread Cert.FfnDwUp.nD Cert.FfnDwUp.τ).loc Cert.FfnDwUp.main_arg0)
      ∧ r.2.mem ((c.tc : Thread Cert.FfnDwUp.nD Cert.FfnDwUp.τ).loc Cert.FfnDwUp.main_arg1) = m ((c.tc : Thread Cert.FfnDwUp.nD Cert.FfnDwUp.τ).loc Cert.FfnDwUp.main_arg1)
      ∧ r.2.mem ((c.tc : Thread Cert.FfnDwUp.nD Cert.FfnDwUp.τ).loc Cert.FfnDwUp.main_arg2) = m ((c.tc : Thread Cert.FfnDwUp.nD Cert.FfnDwUp.τ).loc Cert.FfnDwUp.main_arg2)
      ∧ r.2.mem ((c.tc : Thread Cert.FfnDwUp.nD Cert.FfnDwUp.τ).loc Cert.FfnDwUp.main_arg3) = m ((c.tc : Thread Cert.FfnDwUp.nD Cert.FfnDwUp.τ).loc Cert.FfnDwUp.main_arg3))
      ∧ r.2.sem = fun _ => 0)

def quiescent_FfnDwUpIdeal [hFfnDwUpIdeal : Cert.FfnDwUpIdeal.Facts] : Prop :=
  ∀ (m : (ℓ : Loc Cert.FfnDwUpIdeal.nD Cert.FfnDwUpIdeal.τ Cert.FfnDwUpIdeal.sig) → Buf (Elt Ideal) ℓ) (g : Dev Cert.FfnDwUpIdeal.nD → PrngReg), Pre_FfnDwUpIdeal m →
    θ_run (Cert.FfnDwUpIdeal.defs (F := Ideal)) (onTc (τ := Cert.FfnDwUpIdeal.τ) (Cert.FfnDwUpIdeal.main (F := Ideal))) ⟨m, fun _ => 0, g⟩ (fun r => (∀ c : Dev Cert.FfnDwUpIdeal.nD,
      r.2.mem ((c.tc : Thread Cert.FfnDwUpIdeal.nD Cert.FfnDwUpIdeal.τ).loc Cert.FfnDwUpIdeal.main_arg0) = m ((c.tc : Thread Cert.FfnDwUpIdeal.nD Cert.FfnDwUpIdeal.τ).loc Cert.FfnDwUpIdeal.main_arg0)
      ∧ r.2.mem ((c.tc : Thread Cert.FfnDwUpIdeal.nD Cert.FfnDwUpIdeal.τ).loc Cert.FfnDwUpIdeal.main_arg1) = m ((c.tc : Thread Cert.FfnDwUpIdeal.nD Cert.FfnDwUpIdeal.τ).loc Cert.FfnDwUpIdeal.main_arg1)
      ∧ r.2.mem ((c.tc : Thread Cert.FfnDwUpIdeal.nD Cert.FfnDwUpIdeal.τ).loc Cert.FfnDwUpIdeal.main_arg2) = m ((c.tc : Thread Cert.FfnDwUpIdeal.nD Cert.FfnDwUpIdeal.τ).loc Cert.FfnDwUpIdeal.main_arg2)
      ∧ r.2.mem ((c.tc : Thread Cert.FfnDwUpIdeal.nD Cert.FfnDwUpIdeal.τ).loc Cert.FfnDwUpIdeal.main_arg3) = m ((c.tc : Thread Cert.FfnDwUpIdeal.nD Cert.FfnDwUpIdeal.τ).loc Cert.FfnDwUpIdeal.main_arg3))
      ∧ r.2.sem = fun _ => 0)

def quiescent_FfnDwUpReferenceIdeal [hFfnDwUpReferenceIdeal : Cert.FfnDwUpReferenceIdeal.Facts] : Prop :=
  ∀ (m : (ℓ : Loc Cert.FfnDwUpReferenceIdeal.nD Cert.FfnDwUpReferenceIdeal.τ Cert.FfnDwUpReferenceIdeal.sig) → Buf (Elt Ideal) ℓ) (g : Dev Cert.FfnDwUpReferenceIdeal.nD → PrngReg), Pre_FfnDwUpReferenceIdeal m →
    θ_run (Cert.FfnDwUpReferenceIdeal.defs (F := Ideal)) (onTc (τ := Cert.FfnDwUpReferenceIdeal.τ) (Cert.FfnDwUpReferenceIdeal.main (F := Ideal))) ⟨m, fun _ => 0, g⟩ (fun r => (∀ c : Dev Cert.FfnDwUpReferenceIdeal.nD,
      r.2.mem ((c.tc : Thread Cert.FfnDwUpReferenceIdeal.nD Cert.FfnDwUpReferenceIdeal.τ).loc Cert.FfnDwUpReferenceIdeal.main_arg0) = m ((c.tc : Thread Cert.FfnDwUpReferenceIdeal.nD Cert.FfnDwUpReferenceIdeal.τ).loc Cert.FfnDwUpReferenceIdeal.main_arg0)
      ∧ r.2.mem ((c.tc : Thread Cert.FfnDwUpReferenceIdeal.nD Cert.FfnDwUpReferenceIdeal.τ).loc Cert.FfnDwUpReferenceIdeal.main_arg1) = m ((c.tc : Thread Cert.FfnDwUpReferenceIdeal.nD Cert.FfnDwUpReferenceIdeal.τ).loc Cert.FfnDwUpReferenceIdeal.main_arg1)
      ∧ r.2.mem ((c.tc : Thread Cert.FfnDwUpReferenceIdeal.nD Cert.FfnDwUpReferenceIdeal.τ).loc Cert.FfnDwUpReferenceIdeal.main_arg2) = m ((c.tc : Thread Cert.FfnDwUpReferenceIdeal.nD Cert.FfnDwUpReferenceIdeal.τ).loc Cert.FfnDwUpReferenceIdeal.main_arg2)
      ∧ r.2.mem ((c.tc : Thread Cert.FfnDwUpReferenceIdeal.nD Cert.FfnDwUpReferenceIdeal.τ).loc Cert.FfnDwUpReferenceIdeal.main_arg3) = m ((c.tc : Thread Cert.FfnDwUpReferenceIdeal.nD Cert.FfnDwUpReferenceIdeal.τ).loc Cert.FfnDwUpReferenceIdeal.main_arg3))
      ∧ r.2.sem = fun _ => 0)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5)
      ∧ r.2.mem ((c.tc : Thread Cert.Mixer.nD Cert.Mixer.τ).loc Cert.Mixer.main_arg6) = m ((c.tc : Thread Cert.Mixer.nD Cert.Mixer.τ).loc Cert.Mixer.main_arg6))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6))
      ∧ r.2.sem = fun _ => 0)

def quiescent_MixerReferenceIdeal [hMixerReferenceIdeal : Cert.MixerReferenceIdeal.Facts] : Prop :=
  ∀ (m : (ℓ : Loc Cert.MixerReferenceIdeal.nD Cert.MixerReferenceIdeal.τ Cert.MixerReferenceIdeal.sig) → Buf (Elt Ideal) ℓ) (g : Dev Cert.MixerReferenceIdeal.nD → PrngReg), Pre_MixerReferenceIdeal m →
    θ_run (Cert.MixerReferenceIdeal.defs (F := Ideal)) (onTc (τ := Cert.MixerReferenceIdeal.τ) (Cert.MixerReferenceIdeal.main (F := Ideal))) ⟨m, fun _ => 0, g⟩ (fun r => (∀ c : Dev Cert.MixerReferenceIdeal.nD,
      r.2.mem ((c.tc : Thread Cert.MixerReferenceIdeal.nD Cert.MixerReferenceIdeal.τ).loc Cert.MixerReferenceIdeal.main_arg0) = m ((c.tc : Thread Cert.MixerReferenceIdeal.nD Cert.MixerReferenceIdeal.τ).loc Cert.MixerReferenceIdeal.main_arg0)
      ∧ r.2.mem ((c.tc : Thread Cert.MixerReferenceIdeal.nD Cert.MixerReferenceIdeal.τ).loc Cert.MixerReferenceIdeal.main_arg1) = m ((c.tc : Thread Cert.MixerReferenceIdeal.nD Cert.MixerReferenceIdeal.τ).loc Cert.MixerReferenceIdeal.main_arg1)
      ∧ r.2.mem ((c.tc : Thread Cert.MixerReferenceIdeal.nD Cert.MixerReferenceIdeal.τ).loc Cert.MixerReferenceIdeal.main_arg2) = m ((c.tc : Thread Cert.MixerReferenceIdeal.nD Cert.MixerReferenceIdeal.τ).loc Cert.MixerReferenceIdeal.main_arg2)
      ∧ r.2.mem ((c.tc : Thread Cert.MixerReferenceIdeal.nD Cert.MixerReferenceIdeal.τ).loc Cert.MixerReferenceIdeal.main_arg3) = m ((c.tc : Thread Cert.MixerReferenceIdeal.nD Cert.MixerReferenceIdeal.τ).loc Cert.MixerReferenceIdeal.main_arg3)
      ∧ r.2.mem ((c.tc : Thread Cert.MixerReferenceIdeal.nD Cert.MixerReferenceIdeal.τ).loc Cert.MixerReferenceIdeal.main_arg4) = m ((c.tc : Thread Cert.MixerReferenceIdeal.nD Cert.MixerReferenceIdeal.τ).loc Cert.MixerReferenceIdeal.main_arg4)
      ∧ r.2.mem ((c.tc : Thread Cert.MixerReferenceIdeal.nD Cert.MixerReferenceIdeal.τ).loc Cert.MixerReferenceIdeal.main_arg5) = m ((c.tc : Thread Cert.MixerReferenceIdeal.nD Cert.MixerReferenceIdeal.τ).loc Cert.MixerReferenceIdeal.main_arg5)
      ∧ r.2.mem ((c.tc : Thread Cert.MixerReferenceIdeal.nD Cert.MixerReferenceIdeal.τ).loc Cert.MixerReferenceIdeal.main_arg6) = m ((c.tc : Thread Cert.MixerReferenceIdeal.nD Cert.MixerReferenceIdeal.τ).loc Cert.MixerReferenceIdeal.main_arg6))
      ∧ r.2.sem = fun _ => 0)

def quiescent_MixerBack [hMixerBack : Cert.MixerBack.Facts] : Prop :=
  ∀ (m : (ℓ : Loc Cert.MixerBack.nD Cert.MixerBack.τ Cert.MixerBack.sig) → Buf (Elt Bits) ℓ) (g : Dev Cert.MixerBack.nD → PrngReg), Pre_MixerBack m →
    θ_run (Cert.MixerBack.defs (F := Bits)) (onTc (τ := Cert.MixerBack.τ) (Cert.MixerBack.main (F := Bits))) ⟨m, fun _ => 0, g⟩ (fun r => (∀ c : Dev Cert.MixerBack.nD,
      r.2.mem ((c.tc : Thread Cert.MixerBack.nD Cert.MixerBack.τ).loc Cert.MixerBack.main_arg0) = m ((c.tc : Thread Cert.MixerBack.nD Cert.MixerBack.τ).loc Cert.MixerBack.main_arg0)
      ∧ r.2.mem ((c.tc : Thread Cert.MixerBack.nD Cert.MixerBack.τ).loc Cert.MixerBack.main_arg1) = m ((c.tc : Thread Cert.MixerBack.nD Cert.MixerBack.τ).loc Cert.MixerBack.main_arg1)
      ∧ r.2.mem ((c.tc : Thread Cert.MixerBack.nD Cert.MixerBack.τ).loc Cert.MixerBack.main_arg2) = m ((c.tc : Thread Cert.MixerBack.nD Cert.MixerBack.τ).loc Cert.MixerBack.main_arg2)
      ∧ r.2.mem ((c.tc : Thread Cert.MixerBack.nD Cert.MixerBack.τ).loc Cert.MixerBack.main_arg3) = m ((c.tc : Thread Cert.MixerBack.nD Cert.MixerBack.τ).loc Cert.MixerBack.main_arg3)
      ∧ r.2.mem ((c.tc : Thread Cert.MixerBack.nD Cert.MixerBack.τ).loc Cert.MixerBack.main_arg4) = m ((c.tc : Thread Cert.MixerBack.nD Cert.MixerBack.τ).loc Cert.MixerBack.main_arg4)
      ∧ r.2.mem ((c.tc : Thread Cert.MixerBack.nD Cert.MixerBack.τ).loc Cert.MixerBack.main_arg5) = m ((c.tc : Thread Cert.MixerBack.nD Cert.MixerBack.τ).loc Cert.MixerBack.main_arg5))
      ∧ r.2.sem = fun _ => 0)

def quiescent_MixerBackIdeal [hMixerBackIdeal : Cert.MixerBackIdeal.Facts] : Prop :=
  ∀ (m : (ℓ : Loc Cert.MixerBackIdeal.nD Cert.MixerBackIdeal.τ Cert.MixerBackIdeal.sig) → Buf (Elt Ideal) ℓ) (g : Dev Cert.MixerBackIdeal.nD → PrngReg), Pre_MixerBackIdeal m →
    θ_run (Cert.MixerBackIdeal.defs (F := Ideal)) (onTc (τ := Cert.MixerBackIdeal.τ) (Cert.MixerBackIdeal.main (F := Ideal))) ⟨m, fun _ => 0, g⟩ (fun r => (∀ c : Dev Cert.MixerBackIdeal.nD,
      r.2.mem ((c.tc : Thread Cert.MixerBackIdeal.nD Cert.MixerBackIdeal.τ).loc Cert.MixerBackIdeal.main_arg0) = m ((c.tc : Thread Cert.MixerBackIdeal.nD Cert.MixerBackIdeal.τ).loc Cert.MixerBackIdeal.main_arg0)
      ∧ r.2.mem ((c.tc : Thread Cert.MixerBackIdeal.nD Cert.MixerBackIdeal.τ).loc Cert.MixerBackIdeal.main_arg1) = m ((c.tc : Thread Cert.MixerBackIdeal.nD Cert.MixerBackIdeal.τ).loc Cert.MixerBackIdeal.main_arg1)
      ∧ r.2.mem ((c.tc : Thread Cert.MixerBackIdeal.nD Cert.MixerBackIdeal.τ).loc Cert.MixerBackIdeal.main_arg2) = m ((c.tc : Thread Cert.MixerBackIdeal.nD Cert.MixerBackIdeal.τ).loc Cert.MixerBackIdeal.main_arg2)
      ∧ r.2.mem ((c.tc : Thread Cert.MixerBackIdeal.nD Cert.MixerBackIdeal.τ).loc Cert.MixerBackIdeal.main_arg3) = m ((c.tc : Thread Cert.MixerBackIdeal.nD Cert.MixerBackIdeal.τ).loc Cert.MixerBackIdeal.main_arg3)
      ∧ r.2.mem ((c.tc : Thread Cert.MixerBackIdeal.nD Cert.MixerBackIdeal.τ).loc Cert.MixerBackIdeal.main_arg4) = m ((c.tc : Thread Cert.MixerBackIdeal.nD Cert.MixerBackIdeal.τ).loc Cert.MixerBackIdeal.main_arg4)
      ∧ r.2.mem ((c.tc : Thread Cert.MixerBackIdeal.nD Cert.MixerBackIdeal.τ).loc Cert.MixerBackIdeal.main_arg5) = m ((c.tc : Thread Cert.MixerBackIdeal.nD Cert.MixerBackIdeal.τ).loc Cert.MixerBackIdeal.main_arg5))
      ∧ r.2.sem = fun _ => 0)

def quiescent_MixerBackReferenceIdeal [hMixerBackReferenceIdeal : Cert.MixerBackReferenceIdeal.Facts] : Prop :=
  ∀ (m : (ℓ : Loc Cert.MixerBackReferenceIdeal.nD Cert.MixerBackReferenceIdeal.τ Cert.MixerBackReferenceIdeal.sig) → Buf (Elt Ideal) ℓ) (g : Dev Cert.MixerBackReferenceIdeal.nD → PrngReg), Pre_MixerBackReferenceIdeal m →
    θ_run (Cert.MixerBackReferenceIdeal.defs (F := Ideal)) (onTc (τ := Cert.MixerBackReferenceIdeal.τ) (Cert.MixerBackReferenceIdeal.main (F := Ideal))) ⟨m, fun _ => 0, g⟩ (fun r => (∀ c : Dev Cert.MixerBackReferenceIdeal.nD,
      r.2.mem ((c.tc : Thread Cert.MixerBackReferenceIdeal.nD Cert.MixerBackReferenceIdeal.τ).loc Cert.MixerBackReferenceIdeal.main_arg0) = m ((c.tc : Thread Cert.MixerBackReferenceIdeal.nD Cert.MixerBackReferenceIdeal.τ).loc Cert.MixerBackReferenceIdeal.main_arg0)
      ∧ r.2.mem ((c.tc : Thread Cert.MixerBackReferenceIdeal.nD Cert.MixerBackReferenceIdeal.τ).loc Cert.MixerBackReferenceIdeal.main_arg1) = m ((c.tc : Thread Cert.MixerBackReferenceIdeal.nD Cert.MixerBackReferenceIdeal.τ).loc Cert.MixerBackReferenceIdeal.main_arg1)
      ∧ r.2.mem ((c.tc : Thread Cert.MixerBackReferenceIdeal.nD Cert.MixerBackReferenceIdeal.τ).loc Cert.MixerBackReferenceIdeal.main_arg2) = m ((c.tc : Thread Cert.MixerBackReferenceIdeal.nD Cert.MixerBackReferenceIdeal.τ).loc Cert.MixerBackReferenceIdeal.main_arg2)
      ∧ r.2.mem ((c.tc : Thread Cert.MixerBackReferenceIdeal.nD Cert.MixerBackReferenceIdeal.τ).loc Cert.MixerBackReferenceIdeal.main_arg3) = m ((c.tc : Thread Cert.MixerBackReferenceIdeal.nD Cert.MixerBackReferenceIdeal.τ).loc Cert.MixerBackReferenceIdeal.main_arg3)
      ∧ r.2.mem ((c.tc : Thread Cert.MixerBackReferenceIdeal.nD Cert.MixerBackReferenceIdeal.τ).loc Cert.MixerBackReferenceIdeal.main_arg4) = m ((c.tc : Thread Cert.MixerBackReferenceIdeal.nD Cert.MixerBackReferenceIdeal.τ).loc Cert.MixerBackReferenceIdeal.main_arg4)
      ∧ r.2.mem ((c.tc : Thread Cert.MixerBackReferenceIdeal.nD Cert.MixerBackReferenceIdeal.τ).loc Cert.MixerBackReferenceIdeal.main_arg5) = m ((c.tc : Thread Cert.MixerBackReferenceIdeal.nD Cert.MixerBackReferenceIdeal.τ).loc Cert.MixerBackReferenceIdeal.main_arg5))
      ∧ r.2.sem = fun _ => 0)

def quiescent_MixerDwIn [hMixerDwIn : Cert.MixerDwIn.Facts] : Prop :=
  ∀ (m : (ℓ : Loc Cert.MixerDwIn.nD Cert.MixerDwIn.τ Cert.MixerDwIn.sig) → Buf (Elt Bits) ℓ) (g : Dev Cert.MixerDwIn.nD → PrngReg), Pre_MixerDwIn m →
    θ_run (Cert.MixerDwIn.defs (F := Bits)) (onTc (τ := Cert.MixerDwIn.τ) (Cert.MixerDwIn.main (F := Bits))) ⟨m, fun _ => 0, g⟩ (fun r => (∀ c : Dev Cert.MixerDwIn.nD,
      r.2.mem ((c.tc : Thread Cert.MixerDwIn.nD Cert.MixerDwIn.τ).loc Cert.MixerDwIn.main_arg0) = m ((c.tc : Thread Cert.MixerDwIn.nD Cert.MixerDwIn.τ).loc Cert.MixerDwIn.main_arg0)
      ∧ r.2.mem ((c.tc : Thread Cert.MixerDwIn.nD Cert.MixerDwIn.τ).loc Cert.MixerDwIn.main_arg1) = m ((c.tc : Thread Cert.MixerDwIn.nD Cert.MixerDwIn.τ).loc Cert.MixerDwIn.main_arg1)
      ∧ r.2.mem ((c.tc : Thread Cert.MixerDwIn.nD Cert.MixerDwIn.τ).loc Cert.MixerDwIn.main_arg2) = m ((c.tc : Thread Cert.MixerDwIn.nD Cert.MixerDwIn.τ).loc Cert.MixerDwIn.main_arg2))
      ∧ r.2.sem = fun _ => 0)

def quiescent_MixerDwInIdeal [hMixerDwInIdeal : Cert.MixerDwInIdeal.Facts] : Prop :=
  ∀ (m : (ℓ : Loc Cert.MixerDwInIdeal.nD Cert.MixerDwInIdeal.τ Cert.MixerDwInIdeal.sig) → Buf (Elt Ideal) ℓ) (g : Dev Cert.MixerDwInIdeal.nD → PrngReg), Pre_MixerDwInIdeal m →
    θ_run (Cert.MixerDwInIdeal.defs (F := Ideal)) (onTc (τ := Cert.MixerDwInIdeal.τ) (Cert.MixerDwInIdeal.main (F := Ideal))) ⟨m, fun _ => 0, g⟩ (fun r => (∀ c : Dev Cert.MixerDwInIdeal.nD,
      r.2.mem ((c.tc : Thread Cert.MixerDwInIdeal.nD Cert.MixerDwInIdeal.τ).loc Cert.MixerDwInIdeal.main_arg0) = m ((c.tc : Thread Cert.MixerDwInIdeal.nD Cert.MixerDwInIdeal.τ).loc Cert.MixerDwInIdeal.main_arg0)
      ∧ r.2.mem ((c.tc : Thread Cert.MixerDwInIdeal.nD Cert.MixerDwInIdeal.τ).loc Cert.MixerDwInIdeal.main_arg1) = m ((c.tc : Thread Cert.MixerDwInIdeal.nD Cert.MixerDwInIdeal.τ).loc Cert.MixerDwInIdeal.main_arg1)
      ∧ r.2.mem ((c.tc : Thread Cert.MixerDwInIdeal.nD Cert.MixerDwInIdeal.τ).loc Cert.MixerDwInIdeal.main_arg2) = m ((c.tc : Thread Cert.MixerDwInIdeal.nD Cert.MixerDwInIdeal.τ).loc Cert.MixerDwInIdeal.main_arg2))
      ∧ r.2.sem = fun _ => 0)

def quiescent_MixerDwInReferenceIdeal [hMixerDwInReferenceIdeal : Cert.MixerDwInReferenceIdeal.Facts] : Prop :=
  ∀ (m : (ℓ : Loc Cert.MixerDwInReferenceIdeal.nD Cert.MixerDwInReferenceIdeal.τ Cert.MixerDwInReferenceIdeal.sig) → Buf (Elt Ideal) ℓ) (g : Dev Cert.MixerDwInReferenceIdeal.nD → PrngReg), Pre_MixerDwInReferenceIdeal m →
    θ_run (Cert.MixerDwInReferenceIdeal.defs (F := Ideal)) (onTc (τ := Cert.MixerDwInReferenceIdeal.τ) (Cert.MixerDwInReferenceIdeal.main (F := Ideal))) ⟨m, fun _ => 0, g⟩ (fun r => (∀ c : Dev Cert.MixerDwInReferenceIdeal.nD,
      r.2.mem ((c.tc : Thread Cert.MixerDwInReferenceIdeal.nD Cert.MixerDwInReferenceIdeal.τ).loc Cert.MixerDwInReferenceIdeal.main_arg0) = m ((c.tc : Thread Cert.MixerDwInReferenceIdeal.nD Cert.MixerDwInReferenceIdeal.τ).loc Cert.MixerDwInReferenceIdeal.main_arg0)
      ∧ r.2.mem ((c.tc : Thread Cert.MixerDwInReferenceIdeal.nD Cert.MixerDwInReferenceIdeal.τ).loc Cert.MixerDwInReferenceIdeal.main_arg1) = m ((c.tc : Thread Cert.MixerDwInReferenceIdeal.nD Cert.MixerDwInReferenceIdeal.τ).loc Cert.MixerDwInReferenceIdeal.main_arg1)
      ∧ r.2.mem ((c.tc : Thread Cert.MixerDwInReferenceIdeal.nD Cert.MixerDwInReferenceIdeal.τ).loc Cert.MixerDwInReferenceIdeal.main_arg2) = m ((c.tc : Thread Cert.MixerDwInReferenceIdeal.nD Cert.MixerDwInReferenceIdeal.τ).loc Cert.MixerDwInReferenceIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6))
      ∧ r.2.sem = fun _ => 0)

def quiescent_ProjBack [hProjBack : Cert.ProjBack.Facts] : Prop :=
  ∀ (m : (ℓ : Loc Cert.ProjBack.nD Cert.ProjBack.τ Cert.ProjBack.sig) → Buf (Elt Bits) ℓ) (g : Dev Cert.ProjBack.nD → PrngReg), Pre_ProjBack m →
    θ_run (Cert.ProjBack.defs (F := Bits)) (onTc (τ := Cert.ProjBack.τ) (Cert.ProjBack.main (F := Bits))) ⟨m, fun _ => 0, g⟩ (fun r => (∀ c : Dev Cert.ProjBack.nD,
      r.2.mem ((c.tc : Thread Cert.ProjBack.nD Cert.ProjBack.τ).loc Cert.ProjBack.main_arg0) = m ((c.tc : Thread Cert.ProjBack.nD Cert.ProjBack.τ).loc Cert.ProjBack.main_arg0)
      ∧ r.2.mem ((c.tc : Thread Cert.ProjBack.nD Cert.ProjBack.τ).loc Cert.ProjBack.main_arg1) = m ((c.tc : Thread Cert.ProjBack.nD Cert.ProjBack.τ).loc Cert.ProjBack.main_arg1)
      ∧ r.2.mem ((c.tc : Thread Cert.ProjBack.nD Cert.ProjBack.τ).loc Cert.ProjBack.main_arg2) = m ((c.tc : Thread Cert.ProjBack.nD Cert.ProjBack.τ).loc Cert.ProjBack.main_arg2)
      ∧ r.2.mem ((c.tc : Thread Cert.ProjBack.nD Cert.ProjBack.τ).loc Cert.ProjBack.main_arg3) = m ((c.tc : Thread Cert.ProjBack.nD Cert.ProjBack.τ).loc Cert.ProjBack.main_arg3)
      ∧ r.2.mem ((c.tc : Thread Cert.ProjBack.nD Cert.ProjBack.τ).loc Cert.ProjBack.main_arg4) = m ((c.tc : Thread Cert.ProjBack.nD Cert.ProjBack.τ).loc Cert.ProjBack.main_arg4)
      ∧ r.2.mem ((c.tc : Thread Cert.ProjBack.nD Cert.ProjBack.τ).loc Cert.ProjBack.main_arg5) = m ((c.tc : Thread Cert.ProjBack.nD Cert.ProjBack.τ).loc Cert.ProjBack.main_arg5)
      ∧ r.2.mem ((c.tc : Thread Cert.ProjBack.nD Cert.ProjBack.τ).loc Cert.ProjBack.main_arg6) = m ((c.tc : Thread Cert.ProjBack.nD Cert.ProjBack.τ).loc Cert.ProjBack.main_arg6))
      ∧ r.2.sem = fun _ => 0)

def quiescent_ProjBackIdeal [hProjBackIdeal : Cert.ProjBackIdeal.Facts] : Prop :=
  ∀ (m : (ℓ : Loc Cert.ProjBackIdeal.nD Cert.ProjBackIdeal.τ Cert.ProjBackIdeal.sig) → Buf (Elt Ideal) ℓ) (g : Dev Cert.ProjBackIdeal.nD → PrngReg), Pre_ProjBackIdeal m →
    θ_run (Cert.ProjBackIdeal.defs (F := Ideal)) (onTc (τ := Cert.ProjBackIdeal.τ) (Cert.ProjBackIdeal.main (F := Ideal))) ⟨m, fun _ => 0, g⟩ (fun r => (∀ c : Dev Cert.ProjBackIdeal.nD,
      r.2.mem ((c.tc : Thread Cert.ProjBackIdeal.nD Cert.ProjBackIdeal.τ).loc Cert.ProjBackIdeal.main_arg0) = m ((c.tc : Thread Cert.ProjBackIdeal.nD Cert.ProjBackIdeal.τ).loc Cert.ProjBackIdeal.main_arg0)
      ∧ r.2.mem ((c.tc : Thread Cert.ProjBackIdeal.nD Cert.ProjBackIdeal.τ).loc Cert.ProjBackIdeal.main_arg1) = m ((c.tc : Thread Cert.ProjBackIdeal.nD Cert.ProjBackIdeal.τ).loc Cert.ProjBackIdeal.main_arg1)
      ∧ r.2.mem ((c.tc : Thread Cert.ProjBackIdeal.nD Cert.ProjBackIdeal.τ).loc Cert.ProjBackIdeal.main_arg2) = m ((c.tc : Thread Cert.ProjBackIdeal.nD Cert.ProjBackIdeal.τ).loc Cert.ProjBackIdeal.main_arg2)
      ∧ r.2.mem ((c.tc : Thread Cert.ProjBackIdeal.nD Cert.ProjBackIdeal.τ).loc Cert.ProjBackIdeal.main_arg3) = m ((c.tc : Thread Cert.ProjBackIdeal.nD Cert.ProjBackIdeal.τ).loc Cert.ProjBackIdeal.main_arg3)
      ∧ r.2.mem ((c.tc : Thread Cert.ProjBackIdeal.nD Cert.ProjBackIdeal.τ).loc Cert.ProjBackIdeal.main_arg4) = m ((c.tc : Thread Cert.ProjBackIdeal.nD Cert.ProjBackIdeal.τ).loc Cert.ProjBackIdeal.main_arg4)
      ∧ r.2.mem ((c.tc : Thread Cert.ProjBackIdeal.nD Cert.ProjBackIdeal.τ).loc Cert.ProjBackIdeal.main_arg5) = m ((c.tc : Thread Cert.ProjBackIdeal.nD Cert.ProjBackIdeal.τ).loc Cert.ProjBackIdeal.main_arg5)
      ∧ r.2.mem ((c.tc : Thread Cert.ProjBackIdeal.nD Cert.ProjBackIdeal.τ).loc Cert.ProjBackIdeal.main_arg6) = m ((c.tc : Thread Cert.ProjBackIdeal.nD Cert.ProjBackIdeal.τ).loc Cert.ProjBackIdeal.main_arg6))
      ∧ r.2.sem = fun _ => 0)

def quiescent_ProjBackReferenceIdeal [hProjBackReferenceIdeal : Cert.ProjBackReferenceIdeal.Facts] : Prop :=
  ∀ (m : (ℓ : Loc Cert.ProjBackReferenceIdeal.nD Cert.ProjBackReferenceIdeal.τ Cert.ProjBackReferenceIdeal.sig) → Buf (Elt Ideal) ℓ) (g : Dev Cert.ProjBackReferenceIdeal.nD → PrngReg), Pre_ProjBackReferenceIdeal m →
    θ_run (Cert.ProjBackReferenceIdeal.defs (F := Ideal)) (onTc (τ := Cert.ProjBackReferenceIdeal.τ) (Cert.ProjBackReferenceIdeal.main (F := Ideal))) ⟨m, fun _ => 0, g⟩ (fun r => (∀ c : Dev Cert.ProjBackReferenceIdeal.nD,
      r.2.mem ((c.tc : Thread Cert.ProjBackReferenceIdeal.nD Cert.ProjBackReferenceIdeal.τ).loc Cert.ProjBackReferenceIdeal.main_arg0) = m ((c.tc : Thread Cert.ProjBackReferenceIdeal.nD Cert.ProjBackReferenceIdeal.τ).loc Cert.ProjBackReferenceIdeal.main_arg0)
      ∧ r.2.mem ((c.tc : Thread Cert.ProjBackReferenceIdeal.nD Cert.ProjBackReferenceIdeal.τ).loc Cert.ProjBackReferenceIdeal.main_arg1) = m ((c.tc : Thread Cert.ProjBackReferenceIdeal.nD Cert.ProjBackReferenceIdeal.τ).loc Cert.ProjBackReferenceIdeal.main_arg1)
      ∧ r.2.mem ((c.tc : Thread Cert.ProjBackReferenceIdeal.nD Cert.ProjBackReferenceIdeal.τ).loc Cert.ProjBackReferenceIdeal.main_arg2) = m ((c.tc : Thread Cert.ProjBackReferenceIdeal.nD Cert.ProjBackReferenceIdeal.τ).loc Cert.ProjBackReferenceIdeal.main_arg2)
      ∧ r.2.mem ((c.tc : Thread Cert.ProjBackReferenceIdeal.nD Cert.ProjBackReferenceIdeal.τ).loc Cert.ProjBackReferenceIdeal.main_arg3) = m ((c.tc : Thread Cert.ProjBackReferenceIdeal.nD Cert.ProjBackReferenceIdeal.τ).loc Cert.ProjBackReferenceIdeal.main_arg3)
      ∧ r.2.mem ((c.tc : Thread Cert.ProjBackReferenceIdeal.nD Cert.ProjBackReferenceIdeal.τ).loc Cert.ProjBackReferenceIdeal.main_arg4) = m ((c.tc : Thread Cert.ProjBackReferenceIdeal.nD Cert.ProjBackReferenceIdeal.τ).loc Cert.ProjBackReferenceIdeal.main_arg4)
      ∧ r.2.mem ((c.tc : Thread Cert.ProjBackReferenceIdeal.nD Cert.ProjBackReferenceIdeal.τ).loc Cert.ProjBackReferenceIdeal.main_arg5) = m ((c.tc : Thread Cert.ProjBackReferenceIdeal.nD Cert.ProjBackReferenceIdeal.τ).loc Cert.ProjBackReferenceIdeal.main_arg5)
      ∧ r.2.mem ((c.tc : Thread Cert.ProjBackReferenceIdeal.nD Cert.ProjBackReferenceIdeal.τ).loc Cert.ProjBackReferenceIdeal.main_arg6) = m ((c.tc : Thread Cert.ProjBackReferenceIdeal.nD Cert.ProjBackReferenceIdeal.τ).loc Cert.ProjBackReferenceIdeal.main_arg6))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1)
      ∧ r.2.mem ((c.tc : Thread Cert.Kv.nD Cert.Kv.τ).loc Cert.Kv.main_arg2) = m ((c.tc : Thread Cert.Kv.nD Cert.Kv.τ).loc Cert.Kv.main_arg2)
      ∧ r.2.mem ((c.tc : Thread Cert.Kv.nD Cert.Kv.τ).loc Cert.Kv.main_arg3) = m ((c.tc : Thread Cert.Kv.nD Cert.Kv.τ).loc Cert.Kv.main_arg3)
      ∧ r.2.mem ((c.tc : Thread Cert.Kv.nD Cert.Kv.τ).loc Cert.Kv.main_arg4) = m ((c.tc : Thread Cert.Kv.nD Cert.Kv.τ).loc Cert.Kv.main_arg4))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
      ∧ r.2.mem ((c.tc : Thread Cert.KvIdeal.nD Cert.KvIdeal.τ).loc Cert.KvIdeal.main_arg3) = m ((c.tc : Thread Cert.KvIdeal.nD Cert.KvIdeal.τ).loc Cert.KvIdeal.main_arg3)
      ∧ r.2.mem ((c.tc : Thread Cert.KvIdeal.nD Cert.KvIdeal.τ).loc Cert.KvIdeal.main_arg4) = m ((c.tc : Thread Cert.KvIdeal.nD Cert.KvIdeal.τ).loc Cert.KvIdeal.main_arg4))
      ∧ r.2.sem = fun _ => 0)

def quiescent_KvReferenceIdeal [hKvReferenceIdeal : Cert.KvReferenceIdeal.Facts] : Prop :=
  ∀ (m : (ℓ : Loc Cert.KvReferenceIdeal.nD Cert.KvReferenceIdeal.τ Cert.KvReferenceIdeal.sig) → Buf (Elt Ideal) ℓ) (g : Dev Cert.KvReferenceIdeal.nD → PrngReg), Pre_KvReferenceIdeal m →
    θ_run (Cert.KvReferenceIdeal.defs (F := Ideal)) (onTc (τ := Cert.KvReferenceIdeal.τ) (Cert.KvReferenceIdeal.main (F := Ideal))) ⟨m, fun _ => 0, g⟩ (fun r => (∀ c : Dev Cert.KvReferenceIdeal.nD,
      r.2.mem ((c.tc : Thread Cert.KvReferenceIdeal.nD Cert.KvReferenceIdeal.τ).loc Cert.KvReferenceIdeal.main_arg0) = m ((c.tc : Thread Cert.KvReferenceIdeal.nD Cert.KvReferenceIdeal.τ).loc Cert.KvReferenceIdeal.main_arg0)
      ∧ r.2.mem ((c.tc : Thread Cert.KvReferenceIdeal.nD Cert.KvReferenceIdeal.τ).loc Cert.KvReferenceIdeal.main_arg1) = m ((c.tc : Thread Cert.KvReferenceIdeal.nD Cert.KvReferenceIdeal.τ).loc Cert.KvReferenceIdeal.main_arg1)
      ∧ r.2.mem ((c.tc : Thread Cert.KvReferenceIdeal.nD Cert.KvReferenceIdeal.τ).loc Cert.KvReferenceIdeal.main_arg2) = m ((c.tc : Thread Cert.KvReferenceIdeal.nD Cert.KvReferenceIdeal.τ).loc Cert.KvReferenceIdeal.main_arg2)
      ∧ r.2.mem ((c.tc : Thread Cert.KvReferenceIdeal.nD Cert.KvReferenceIdeal.τ).loc Cert.KvReferenceIdeal.main_arg3) = m ((c.tc : Thread Cert.KvReferenceIdeal.nD Cert.KvReferenceIdeal.τ).loc Cert.KvReferenceIdeal.main_arg3)
      ∧ r.2.mem ((c.tc : Thread Cert.KvReferenceIdeal.nD Cert.KvReferenceIdeal.τ).loc Cert.KvReferenceIdeal.main_arg4) = m ((c.tc : Thread Cert.KvReferenceIdeal.nD Cert.KvReferenceIdeal.τ).loc Cert.KvReferenceIdeal.main_arg4))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnIdeal_pre_finite12 [hAttnIdeal : Cert.AttnIdeal.Facts] [hPre_finite12 : Cert.Pre_finite12.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite12 m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3)
      ∧ r.2.mem ((c.tc : Thread Cert.AttnReferenceIdeal.nD Cert.AttnReferenceIdeal.τ).loc Cert.AttnReferenceIdeal.main_arg4) = m ((c.tc : Thread Cert.AttnReferenceIdeal.nD Cert.AttnReferenceIdeal.τ).loc Cert.AttnReferenceIdeal.main_arg4)
      ∧ r.2.mem ((c.tc : Thread Cert.AttnReferenceIdeal.nD Cert.AttnReferenceIdeal.τ).loc Cert.AttnReferenceIdeal.main_arg5) = m ((c.tc : Thread Cert.AttnReferenceIdeal.nD Cert.AttnReferenceIdeal.τ).loc Cert.AttnReferenceIdeal.main_arg5))
      ∧ r.2.sem = fun _ => 0)

def quiescent_AttnReferenceIdeal_pre_finite12 [hAttnReferenceIdeal : Cert.AttnReferenceIdeal.Facts] [hPre_finite12 : Cert.Pre_finite12.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal_finite12 m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3)
      ∧ r.2.mem ((c.tc : Thread Cert.AttnReferenceIdeal.nD Cert.AttnReferenceIdeal.τ).loc Cert.AttnReferenceIdeal.main_arg4) = m ((c.tc : Thread Cert.AttnReferenceIdeal.nD Cert.AttnReferenceIdeal.τ).loc Cert.AttnReferenceIdeal.main_arg4)
      ∧ r.2.mem ((c.tc : Thread Cert.AttnReferenceIdeal.nD Cert.AttnReferenceIdeal.τ).loc Cert.AttnReferenceIdeal.main_arg5) = m ((c.tc : Thread Cert.AttnReferenceIdeal.nD Cert.AttnReferenceIdeal.τ).loc Cert.AttnReferenceIdeal.main_arg5))
      ∧ r.2.sem = fun _ => 0)

def preserves_Kernel_KernelIdeal : Prop :=
  IdealRules.named_const.Statement Cert.KernelIdeal.κ "cube" .f32 0x3D372713#32 ((8943 / 200000 : ℝ) : EReal)
  ∧ IdealRules.named_const.Statement Cert.KernelIdeal.κ "cube3" .f32 0x3E095D4F#32 ((26829 / 200000 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_v98) = v2 c
          ∧ r.2.mem ((c.tc : Thread Cert.ReferenceIdeal.nD Cert.ReferenceIdeal.τ).loc Cert.ReferenceIdeal.main_v99) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Ffn_FfnIdeal : Prop :=
  True

def algebraic_FfnIdeal_FfnReferenceIdeal_pre_finite2 [hFfnIdeal : Cert.FfnIdeal.Facts] [hFfnReferenceIdeal : Cert.FfnReferenceIdeal.Facts] [hPre_finite2 : Cert.Pre_finite2.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal_finite2 m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v11)) (v1 : (c : Dev Cert.FfnIdeal.nD) → Buf (Elt Ideal) ((c.tc : Thread Cert.FfnIdeal.nD Cert.FfnIdeal.τ).loc Cert.FfnIdeal.main_v12)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v11) = v0 c
          ∧ r.2.mem ((c.tc : Thread Cert.FfnIdeal.nD Cert.FfnIdeal.τ).loc Cert.FfnIdeal.main_v12) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v5) = v0 c
          ∧ r.2.mem ((c.tc : Thread Cert.FfnReferenceIdeal.nD Cert.FfnReferenceIdeal.τ).loc Cert.FfnReferenceIdeal.main_v15) = v1 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_FfnDx_FfnDxIdeal : Prop :=
  True

def algebraic_FfnDxIdeal_FfnDxReferenceIdeal [hFfnDxIdeal : Cert.FfnDxIdeal.Facts] [hFfnDxReferenceIdeal : Cert.FfnDxReferenceIdeal.Facts] : Prop :=
  ∀ (m : (ℓ : Loc Cert.FfnDxIdeal.nD Cert.FfnDxIdeal.τ Cert.FfnDxIdeal.sig) → Buf (Elt Ideal) ℓ) (g : Dev Cert.FfnDxIdeal.nD → PrngReg)
    (m' : (ℓ : Loc Cert.FfnDxReferenceIdeal.nD Cert.FfnDxReferenceIdeal.τ Cert.FfnDxReferenceIdeal.sig) → Buf (Elt Ideal) ℓ) (g' : Dev Cert.FfnDxReferenceIdeal.nD → PrngReg), Pre_FfnDxIdeal m →
    (∀ c : Dev Cert.FfnDxIdeal.nD,
      m' ((c.tc : Thread Cert.FfnDxReferenceIdeal.nD Cert.FfnDxReferenceIdeal.τ).loc Cert.FfnDxReferenceIdeal.main_arg0) = m ((c.tc : Thread Cert.FfnDxIdeal.nD Cert.FfnDxIdeal.τ).loc Cert.FfnDxIdeal.main_arg0)
      ∧ m' ((c.tc : Thread Cert.FfnDxReferenceIdeal.nD Cert.FfnDxReferenceIdeal.τ).loc Cert.FfnDxReferenceIdeal.main_arg1) = m ((c.tc : Thread Cert.FfnDxIdeal.nD Cert.FfnDxIdeal.τ).loc Cert.FfnDxIdeal.main_arg1)
      ∧ m' ((c.tc : Thread Cert.FfnDxReferenceIdeal.nD Cert.FfnDxReferenceIdeal.τ).loc Cert.FfnDxReferenceIdeal.main_arg2) = m ((c.tc : Thread Cert.FfnDxIdeal.nD Cert.FfnDxIdeal.τ).loc Cert.FfnDxIdeal.main_arg2)) →
    ∃ (v0 : (c : Dev Cert.FfnDxIdeal.nD) → Buf (Elt Ideal) ((c.tc : Thread Cert.FfnDxIdeal.nD Cert.FfnDxIdeal.τ).loc Cert.FfnDxIdeal.main_v7)),
      θ_run (Cert.FfnDxIdeal.defs (F := Ideal)) (onTc (τ := Cert.FfnDxIdeal.τ) (Cert.FfnDxIdeal.main (F := Ideal))) ⟨m, fun _ => 0, g⟩ (fun r => ∀ c : Dev Cert.FfnDxIdeal.nD,
          r.2.mem ((c.tc : Thread Cert.FfnDxIdeal.nD Cert.FfnDxIdeal.τ).loc Cert.FfnDxIdeal.main_v7) = v0 c
          ∧ r.2.mem ((c.tc : Thread Cert.FfnDxIdeal.nD Cert.FfnDxIdeal.τ).loc Cert.FfnDxIdeal.main_arg0) = m ((c.tc : Thread Cert.FfnDxIdeal.nD Cert.FfnDxIdeal.τ).loc Cert.FfnDxIdeal.main_arg0)
          ∧ r.2.mem ((c.tc : Thread Cert.FfnDxIdeal.nD Cert.FfnDxIdeal.τ).loc Cert.FfnDxIdeal.main_arg1) = m ((c.tc : Thread Cert.FfnDxIdeal.nD Cert.FfnDxIdeal.τ).loc Cert.FfnDxIdeal.main_arg1)
          ∧ r.2.mem ((c.tc : Thread Cert.FfnDxIdeal.nD Cert.FfnDxIdeal.τ).loc Cert.FfnDxIdeal.main_arg2) = m ((c.tc : Thread Cert.FfnDxIdeal.nD Cert.FfnDxIdeal.τ).loc Cert.FfnDxIdeal.main_arg2))
      ∧ θ_run (Cert.FfnDxReferenceIdeal.defs (F := Ideal)) (onTc (τ := Cert.FfnDxReferenceIdeal.τ) (Cert.FfnDxReferenceIdeal.main (F := Ideal))) ⟨m', fun _ => 0, g'⟩ (fun r => ∀ c : Dev Cert.FfnDxReferenceIdeal.nD,
          r.2.mem ((c.tc : Thread Cert.FfnDxReferenceIdeal.nD Cert.FfnDxReferenceIdeal.τ).loc Cert.FfnDxReferenceIdeal.main_v12) = v0 c
          ∧ r.2.mem ((c.tc : Thread Cert.FfnDxReferenceIdeal.nD Cert.FfnDxReferenceIdeal.τ).loc Cert.FfnDxReferenceIdeal.main_arg0) = m' ((c.tc : Thread Cert.FfnDxReferenceIdeal.nD Cert.FfnDxReferenceIdeal.τ).loc Cert.FfnDxReferenceIdeal.main_arg0)
          ∧ r.2.mem ((c.tc : Thread Cert.FfnDxReferenceIdeal.nD Cert.FfnDxReferenceIdeal.τ).loc Cert.FfnDxReferenceIdeal.main_arg1) = m' ((c.tc : Thread Cert.FfnDxReferenceIdeal.nD Cert.FfnDxReferenceIdeal.τ).loc Cert.FfnDxReferenceIdeal.main_arg1)
          ∧ r.2.mem ((c.tc : Thread Cert.FfnDxReferenceIdeal.nD Cert.FfnDxReferenceIdeal.τ).loc Cert.FfnDxReferenceIdeal.main_arg2) = m' ((c.tc : Thread Cert.FfnDxReferenceIdeal.nD Cert.FfnDxReferenceIdeal.τ).loc Cert.FfnDxReferenceIdeal.main_arg2))

def preserves_FfnDwDown_FfnDwDownIdeal : Prop :=
  True

def algebraic_FfnDwDownIdeal_FfnDwDownReferenceIdeal [hFfnDwDownIdeal : Cert.FfnDwDownIdeal.Facts] [hFfnDwDownReferenceIdeal : Cert.FfnDwDownReferenceIdeal.Facts] : Prop :=
  ∀ (m : (ℓ : Loc Cert.FfnDwDownIdeal.nD Cert.FfnDwDownIdeal.τ Cert.FfnDwDownIdeal.sig) → Buf (Elt Ideal) ℓ) (g : Dev Cert.FfnDwDownIdeal.nD → PrngReg)
    (m' : (ℓ : Loc Cert.FfnDwDownReferenceIdeal.nD Cert.FfnDwDownReferenceIdeal.τ Cert.FfnDwDownReferenceIdeal.sig) → Buf (Elt Ideal) ℓ) (g' : Dev Cert.FfnDwDownReferenceIdeal.nD → PrngReg), Pre_FfnDwDownIdeal m →
    (∀ c : Dev Cert.FfnDwDownIdeal.nD,
      m' ((c.tc : Thread Cert.FfnDwDownReferenceIdeal.nD Cert.FfnDwDownReferenceIdeal.τ).loc Cert.FfnDwDownReferenceIdeal.main_arg0) = m ((c.tc : Thread Cert.FfnDwDownIdeal.nD Cert.FfnDwDownIdeal.τ).loc Cert.FfnDwDownIdeal.main_arg0)
      ∧ m' ((c.tc : Thread Cert.FfnDwDownReferenceIdeal.nD Cert.FfnDwDownReferenceIdeal.τ).loc Cert.FfnDwDownReferenceIdeal.main_arg1) = m ((c.tc : Thread Cert.FfnDwDownIdeal.nD Cert.FfnDwDownIdeal.τ).loc Cert.FfnDwDownIdeal.main_arg1)
      ∧ m' ((c.tc : Thread Cert.FfnDwDownReferenceIdeal.nD Cert.FfnDwDownReferenceIdeal.τ).loc Cert.FfnDwDownReferenceIdeal.main_arg2) = m ((c.tc : Thread Cert.FfnDwDownIdeal.nD Cert.FfnDwDownIdeal.τ).loc Cert.FfnDwDownIdeal.main_arg2)
      ∧ m' ((c.tc : Thread Cert.FfnDwDownReferenceIdeal.nD Cert.FfnDwDownReferenceIdeal.τ).loc Cert.FfnDwDownReferenceIdeal.main_arg3) = m ((c.tc : Thread Cert.FfnDwDownIdeal.nD Cert.FfnDwDownIdeal.τ).loc Cert.FfnDwDownIdeal.main_arg3)) →
    ∃ (v0 : (c : Dev Cert.FfnDwDownIdeal.nD) → Buf (Elt Ideal) ((c.tc : Thread Cert.FfnDwDownIdeal.nD Cert.FfnDwDownIdeal.τ).loc Cert.FfnDwDownIdeal.main_v5)),
      θ_run (Cert.FfnDwDownIdeal.defs (F := Ideal)) (onTc (τ := Cert.FfnDwDownIdeal.τ) (Cert.FfnDwDownIdeal.main (F := Ideal))) ⟨m, fun _ => 0, g⟩ (fun r => ∀ c : Dev Cert.FfnDwDownIdeal.nD,
          r.2.mem ((c.tc : Thread Cert.FfnDwDownIdeal.nD Cert.FfnDwDownIdeal.τ).loc Cert.FfnDwDownIdeal.main_v5) = v0 c
          ∧ r.2.mem ((c.tc : Thread Cert.FfnDwDownIdeal.nD Cert.FfnDwDownIdeal.τ).loc Cert.FfnDwDownIdeal.main_arg0) = m ((c.tc : Thread Cert.FfnDwDownIdeal.nD Cert.FfnDwDownIdeal.τ).loc Cert.FfnDwDownIdeal.main_arg0)
          ∧ r.2.mem ((c.tc : Thread Cert.FfnDwDownIdeal.nD Cert.FfnDwDownIdeal.τ).loc Cert.FfnDwDownIdeal.main_arg1) = m ((c.tc : Thread Cert.FfnDwDownIdeal.nD Cert.FfnDwDownIdeal.τ).loc Cert.FfnDwDownIdeal.main_arg1)
          ∧ r.2.mem ((c.tc : Thread Cert.FfnDwDownIdeal.nD Cert.FfnDwDownIdeal.τ).loc Cert.FfnDwDownIdeal.main_arg2) = m ((c.tc : Thread Cert.FfnDwDownIdeal.nD Cert.FfnDwDownIdeal.τ).loc Cert.FfnDwDownIdeal.main_arg2)
          ∧ r.2.mem ((c.tc : Thread Cert.FfnDwDownIdeal.nD Cert.FfnDwDownIdeal.τ).loc Cert.FfnDwDownIdeal.main_arg3) = m ((c.tc : Thread Cert.FfnDwDownIdeal.nD Cert.FfnDwDownIdeal.τ).loc Cert.FfnDwDownIdeal.main_arg3))
      ∧ θ_run (Cert.FfnDwDownReferenceIdeal.defs (F := Ideal)) (onTc (τ := Cert.FfnDwDownReferenceIdeal.τ) (Cert.FfnDwDownReferenceIdeal.main (F := Ideal))) ⟨m', fun _ => 0, g'⟩ (fun r => ∀ c : Dev Cert.FfnDwDownReferenceIdeal.nD,
          r.2.mem ((c.tc : Thread Cert.FfnDwDownReferenceIdeal.nD Cert.FfnDwDownReferenceIdeal.τ).loc Cert.FfnDwDownReferenceIdeal.main_v18) = v0 c
          ∧ r.2.mem ((c.tc : Thread Cert.FfnDwDownReferenceIdeal.nD Cert.FfnDwDownReferenceIdeal.τ).loc Cert.FfnDwDownReferenceIdeal.main_arg0) = m' ((c.tc : Thread Cert.FfnDwDownReferenceIdeal.nD Cert.FfnDwDownReferenceIdeal.τ).loc Cert.FfnDwDownReferenceIdeal.main_arg0)
          ∧ r.2.mem ((c.tc : Thread Cert.FfnDwDownReferenceIdeal.nD Cert.FfnDwDownReferenceIdeal.τ).loc Cert.FfnDwDownReferenceIdeal.main_arg1) = m' ((c.tc : Thread Cert.FfnDwDownReferenceIdeal.nD Cert.FfnDwDownReferenceIdeal.τ).loc Cert.FfnDwDownReferenceIdeal.main_arg1)
          ∧ r.2.mem ((c.tc : Thread Cert.FfnDwDownReferenceIdeal.nD Cert.FfnDwDownReferenceIdeal.τ).loc Cert.FfnDwDownReferenceIdeal.main_arg2) = m' ((c.tc : Thread Cert.FfnDwDownReferenceIdeal.nD Cert.FfnDwDownReferenceIdeal.τ).loc Cert.FfnDwDownReferenceIdeal.main_arg2)
          ∧ r.2.mem ((c.tc : Thread Cert.FfnDwDownReferenceIdeal.nD Cert.FfnDwDownReferenceIdeal.τ).loc Cert.FfnDwDownReferenceIdeal.main_arg3) = m' ((c.tc : Thread Cert.FfnDwDownReferenceIdeal.nD Cert.FfnDwDownReferenceIdeal.τ).loc Cert.FfnDwDownReferenceIdeal.main_arg3))

def preserves_FfnDwUp_FfnDwUpIdeal : Prop :=
  True

def algebraic_FfnDwUpIdeal_FfnDwUpReferenceIdeal [hFfnDwUpIdeal : Cert.FfnDwUpIdeal.Facts] [hFfnDwUpReferenceIdeal : Cert.FfnDwUpReferenceIdeal.Facts] : Prop :=
  ∀ (m : (ℓ : Loc Cert.FfnDwUpIdeal.nD Cert.FfnDwUpIdeal.τ Cert.FfnDwUpIdeal.sig) → Buf (Elt Ideal) ℓ) (g : Dev Cert.FfnDwUpIdeal.nD → PrngReg)
    (m' : (ℓ : Loc Cert.FfnDwUpReferenceIdeal.nD Cert.FfnDwUpReferenceIdeal.τ Cert.FfnDwUpReferenceIdeal.sig) → Buf (Elt Ideal) ℓ) (g' : Dev Cert.FfnDwUpReferenceIdeal.nD → PrngReg), Pre_FfnDwUpIdeal m →
    (∀ c : Dev Cert.FfnDwUpIdeal.nD,
      m' ((c.tc : Thread Cert.FfnDwUpReferenceIdeal.nD Cert.FfnDwUpReferenceIdeal.τ).loc Cert.FfnDwUpReferenceIdeal.main_arg0) = m ((c.tc : Thread Cert.FfnDwUpIdeal.nD Cert.FfnDwUpIdeal.τ).loc Cert.FfnDwUpIdeal.main_arg0)
      ∧ m' ((c.tc : Thread Cert.FfnDwUpReferenceIdeal.nD Cert.FfnDwUpReferenceIdeal.τ).loc Cert.FfnDwUpReferenceIdeal.main_arg1) = m ((c.tc : Thread Cert.FfnDwUpIdeal.nD Cert.FfnDwUpIdeal.τ).loc Cert.FfnDwUpIdeal.main_arg1)
      ∧ m' ((c.tc : Thread Cert.FfnDwUpReferenceIdeal.nD Cert.FfnDwUpReferenceIdeal.τ).loc Cert.FfnDwUpReferenceIdeal.main_arg2) = m ((c.tc : Thread Cert.FfnDwUpIdeal.nD Cert.FfnDwUpIdeal.τ).loc Cert.FfnDwUpIdeal.main_arg2)
      ∧ m' ((c.tc : Thread Cert.FfnDwUpReferenceIdeal.nD Cert.FfnDwUpReferenceIdeal.τ).loc Cert.FfnDwUpReferenceIdeal.main_arg3) = m ((c.tc : Thread Cert.FfnDwUpIdeal.nD Cert.FfnDwUpIdeal.τ).loc Cert.FfnDwUpIdeal.main_arg3)) →
    ∃ (v0 : (c : Dev Cert.FfnDwUpIdeal.nD) → Buf (Elt Ideal) ((c.tc : Thread Cert.FfnDwUpIdeal.nD Cert.FfnDwUpIdeal.τ).loc Cert.FfnDwUpIdeal.main_v5)),
      θ_run (Cert.FfnDwUpIdeal.defs (F := Ideal)) (onTc (τ := Cert.FfnDwUpIdeal.τ) (Cert.FfnDwUpIdeal.main (F := Ideal))) ⟨m, fun _ => 0, g⟩ (fun r => ∀ c : Dev Cert.FfnDwUpIdeal.nD,
          r.2.mem ((c.tc : Thread Cert.FfnDwUpIdeal.nD Cert.FfnDwUpIdeal.τ).loc Cert.FfnDwUpIdeal.main_v5) = v0 c
          ∧ r.2.mem ((c.tc : Thread Cert.FfnDwUpIdeal.nD Cert.FfnDwUpIdeal.τ).loc Cert.FfnDwUpIdeal.main_arg0) = m ((c.tc : Thread Cert.FfnDwUpIdeal.nD Cert.FfnDwUpIdeal.τ).loc Cert.FfnDwUpIdeal.main_arg0)
          ∧ r.2.mem ((c.tc : Thread Cert.FfnDwUpIdeal.nD Cert.FfnDwUpIdeal.τ).loc Cert.FfnDwUpIdeal.main_arg1) = m ((c.tc : Thread Cert.FfnDwUpIdeal.nD Cert.FfnDwUpIdeal.τ).loc Cert.FfnDwUpIdeal.main_arg1)
          ∧ r.2.mem ((c.tc : Thread Cert.FfnDwUpIdeal.nD Cert.FfnDwUpIdeal.τ).loc Cert.FfnDwUpIdeal.main_arg2) = m ((c.tc : Thread Cert.FfnDwUpIdeal.nD Cert.FfnDwUpIdeal.τ).loc Cert.FfnDwUpIdeal.main_arg2)
          ∧ r.2.mem ((c.tc : Thread Cert.FfnDwUpIdeal.nD Cert.FfnDwUpIdeal.τ).loc Cert.FfnDwUpIdeal.main_arg3) = m ((c.tc : Thread Cert.FfnDwUpIdeal.nD Cert.FfnDwUpIdeal.τ).loc Cert.FfnDwUpIdeal.main_arg3))
      ∧ θ_run (Cert.FfnDwUpReferenceIdeal.defs (F := Ideal)) (onTc (τ := Cert.FfnDwUpReferenceIdeal.τ) (Cert.FfnDwUpReferenceIdeal.main (F := Ideal))) ⟨m', fun _ => 0, g'⟩ (fun r => ∀ c : Dev Cert.FfnDwUpReferenceIdeal.nD,
          r.2.mem ((c.tc : Thread Cert.FfnDwUpReferenceIdeal.nD Cert.FfnDwUpReferenceIdeal.τ).loc Cert.FfnDwUpReferenceIdeal.main_v29) = v0 c
          ∧ r.2.mem ((c.tc : Thread Cert.FfnDwUpReferenceIdeal.nD Cert.FfnDwUpReferenceIdeal.τ).loc Cert.FfnDwUpReferenceIdeal.main_arg0) = m' ((c.tc : Thread Cert.FfnDwUpReferenceIdeal.nD Cert.FfnDwUpReferenceIdeal.τ).loc Cert.FfnDwUpReferenceIdeal.main_arg0)
          ∧ r.2.mem ((c.tc : Thread Cert.FfnDwUpReferenceIdeal.nD Cert.FfnDwUpReferenceIdeal.τ).loc Cert.FfnDwUpReferenceIdeal.main_arg1) = m' ((c.tc : Thread Cert.FfnDwUpReferenceIdeal.nD Cert.FfnDwUpReferenceIdeal.τ).loc Cert.FfnDwUpReferenceIdeal.main_arg1)
          ∧ r.2.mem ((c.tc : Thread Cert.FfnDwUpReferenceIdeal.nD Cert.FfnDwUpReferenceIdeal.τ).loc Cert.FfnDwUpReferenceIdeal.main_arg2) = m' ((c.tc : Thread Cert.FfnDwUpReferenceIdeal.nD Cert.FfnDwUpReferenceIdeal.τ).loc Cert.FfnDwUpReferenceIdeal.main_arg2)
          ∧ r.2.mem ((c.tc : Thread Cert.FfnDwUpReferenceIdeal.nD Cert.FfnDwUpReferenceIdeal.τ).loc Cert.FfnDwUpReferenceIdeal.main_arg3) = m' ((c.tc : Thread Cert.FfnDwUpReferenceIdeal.nD Cert.FfnDwUpReferenceIdeal.τ).loc Cert.FfnDwUpReferenceIdeal.main_arg3))

def preserves_Mixer_MixerIdeal : Prop :=
  IdealRules.named_const.Statement Cert.MixerIdeal.κ "cube" .f32 0x3D372713#32 ((8943 / 200000 : ℝ) : EReal)

def algebraic_MixerIdeal_MixerReferenceIdeal [hMixerIdeal : Cert.MixerIdeal.Facts] [hMixerReferenceIdeal : Cert.MixerReferenceIdeal.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.MixerReferenceIdeal.nD Cert.MixerReferenceIdeal.τ Cert.MixerReferenceIdeal.sig) → Buf (Elt Ideal) ℓ) (g' : Dev Cert.MixerReferenceIdeal.nD → PrngReg), Pre_MixerIdeal m →
    (∀ c : Dev Cert.MixerIdeal.nD,
      m' ((c.tc : Thread Cert.MixerReferenceIdeal.nD Cert.MixerReferenceIdeal.τ).loc Cert.MixerReferenceIdeal.main_arg0) = m ((c.tc : Thread Cert.MixerIdeal.nD Cert.MixerIdeal.τ).loc Cert.MixerIdeal.main_arg0)
      ∧ m' ((c.tc : Thread Cert.MixerReferenceIdeal.nD Cert.MixerReferenceIdeal.τ).loc Cert.MixerReferenceIdeal.main_arg1) = m ((c.tc : Thread Cert.MixerIdeal.nD Cert.MixerIdeal.τ).loc Cert.MixerIdeal.main_arg1)
      ∧ m' ((c.tc : Thread Cert.MixerReferenceIdeal.nD Cert.MixerReferenceIdeal.τ).loc Cert.MixerReferenceIdeal.main_arg2) = m ((c.tc : Thread Cert.MixerIdeal.nD Cert.MixerIdeal.τ).loc Cert.MixerIdeal.main_arg2)
      ∧ m' ((c.tc : Thread Cert.MixerReferenceIdeal.nD Cert.MixerReferenceIdeal.τ).loc Cert.MixerReferenceIdeal.main_arg3) = m ((c.tc : Thread Cert.MixerIdeal.nD Cert.MixerIdeal.τ).loc Cert.MixerIdeal.main_arg3)
      ∧ m' ((c.tc : Thread Cert.MixerReferenceIdeal.nD Cert.MixerReferenceIdeal.τ).loc Cert.MixerReferenceIdeal.main_arg4) = m ((c.tc : Thread Cert.MixerIdeal.nD Cert.MixerIdeal.τ).loc Cert.MixerIdeal.main_arg4)
      ∧ m' ((c.tc : Thread Cert.MixerReferenceIdeal.nD Cert.MixerReferenceIdeal.τ).loc Cert.MixerReferenceIdeal.main_arg5) = m ((c.tc : Thread Cert.MixerIdeal.nD Cert.MixerIdeal.τ).loc Cert.MixerIdeal.main_arg5)
      ∧ m' ((c.tc : Thread Cert.MixerReferenceIdeal.nD Cert.MixerReferenceIdeal.τ).loc Cert.MixerReferenceIdeal.main_arg6) = m ((c.tc : Thread Cert.MixerIdeal.nD Cert.MixerIdeal.τ).loc Cert.MixerIdeal.main_arg6)) →
    ∃ (v0 : (c : Dev Cert.MixerIdeal.nD) → Buf (Elt Ideal) ((c.tc : Thread Cert.MixerIdeal.nD Cert.MixerIdeal.τ).loc Cert.MixerIdeal.main_v4)) (v1 : (c : Dev Cert.MixerIdeal.nD) → Buf (Elt Ideal) ((c.tc : Thread Cert.MixerIdeal.nD Cert.MixerIdeal.τ).loc Cert.MixerIdeal.main_v7)) (v2 : (c : Dev Cert.MixerIdeal.nD) → Buf (Elt Ideal) ((c.tc : Thread Cert.MixerIdeal.nD Cert.MixerIdeal.τ).loc Cert.MixerIdeal.main_v10)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v4) = v0 c
          ∧ r.2.mem ((c.tc : Thread Cert.MixerIdeal.nD Cert.MixerIdeal.τ).loc Cert.MixerIdeal.main_v7) = v1 c
          ∧ r.2.mem ((c.tc : Thread Cert.MixerIdeal.nD Cert.MixerIdeal.τ).loc Cert.MixerIdeal.main_v10) = v2 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
          ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
          ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
          ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
          ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6))
      ∧ θ_run (Cert.MixerReferenceIdeal.defs (F := Ideal)) (onTc (τ := Cert.MixerReferenceIdeal.τ) (Cert.MixerReferenceIdeal.main (F := Ideal))) ⟨m', fun _ => 0, g'⟩ (fun r => ∀ c : Dev Cert.MixerReferenceIdeal.nD,
          r.2.mem ((c.tc : Thread Cert.MixerReferenceIdeal.nD Cert.MixerReferenceIdeal.τ).loc Cert.MixerReferenceIdeal.main_v0) = v0 c
          ∧ r.2.mem ((c.tc : Thread Cert.MixerReferenceIdeal.nD Cert.MixerReferenceIdeal.τ).loc Cert.MixerReferenceIdeal.main_v40) = v1 c
          ∧ r.2.mem ((c.tc : Thread Cert.MixerReferenceIdeal.nD Cert.MixerReferenceIdeal.τ).loc Cert.MixerReferenceIdeal.main_v42) = v2 c
          ∧ r.2.mem ((c.tc : Thread Cert.MixerReferenceIdeal.nD Cert.MixerReferenceIdeal.τ).loc Cert.MixerReferenceIdeal.main_arg0) = m' ((c.tc : Thread Cert.MixerReferenceIdeal.nD Cert.MixerReferenceIdeal.τ).loc Cert.MixerReferenceIdeal.main_arg0)
          ∧ r.2.mem ((c.tc : Thread Cert.MixerReferenceIdeal.nD Cert.MixerReferenceIdeal.τ).loc Cert.MixerReferenceIdeal.main_arg1) = m' ((c.tc : Thread Cert.MixerReferenceIdeal.nD Cert.MixerReferenceIdeal.τ).loc Cert.MixerReferenceIdeal.main_arg1)
          ∧ r.2.mem ((c.tc : Thread Cert.MixerReferenceIdeal.nD Cert.MixerReferenceIdeal.τ).loc Cert.MixerReferenceIdeal.main_arg2) = m' ((c.tc : Thread Cert.MixerReferenceIdeal.nD Cert.MixerReferenceIdeal.τ).loc Cert.MixerReferenceIdeal.main_arg2)
          ∧ r.2.mem ((c.tc : Thread Cert.MixerReferenceIdeal.nD Cert.MixerReferenceIdeal.τ).loc Cert.MixerReferenceIdeal.main_arg3) = m' ((c.tc : Thread Cert.MixerReferenceIdeal.nD Cert.MixerReferenceIdeal.τ).loc Cert.MixerReferenceIdeal.main_arg3)
          ∧ r.2.mem ((c.tc : Thread Cert.MixerReferenceIdeal.nD Cert.MixerReferenceIdeal.τ).loc Cert.MixerReferenceIdeal.main_arg4) = m' ((c.tc : Thread Cert.MixerReferenceIdeal.nD Cert.MixerReferenceIdeal.τ).loc Cert.MixerReferenceIdeal.main_arg4)
          ∧ r.2.mem ((c.tc : Thread Cert.MixerReferenceIdeal.nD Cert.MixerReferenceIdeal.τ).loc Cert.MixerReferenceIdeal.main_arg5) = m' ((c.tc : Thread Cert.MixerReferenceIdeal.nD Cert.MixerReferenceIdeal.τ).loc Cert.MixerReferenceIdeal.main_arg5)
          ∧ r.2.mem ((c.tc : Thread Cert.MixerReferenceIdeal.nD Cert.MixerReferenceIdeal.τ).loc Cert.MixerReferenceIdeal.main_arg6) = m' ((c.tc : Thread Cert.MixerReferenceIdeal.nD Cert.MixerReferenceIdeal.τ).loc Cert.MixerReferenceIdeal.main_arg6))

def preserves_MixerBack_MixerBackIdeal : Prop :=
  True

def algebraic_MixerBackIdeal_MixerBackReferenceIdeal [hMixerBackIdeal : Cert.MixerBackIdeal.Facts] [hMixerBackReferenceIdeal : Cert.MixerBackReferenceIdeal.Facts] : Prop :=
  ∀ (m : (ℓ : Loc Cert.MixerBackIdeal.nD Cert.MixerBackIdeal.τ Cert.MixerBackIdeal.sig) → Buf (Elt Ideal) ℓ) (g : Dev Cert.MixerBackIdeal.nD → PrngReg)
    (m' : (ℓ : Loc Cert.MixerBackReferenceIdeal.nD Cert.MixerBackReferenceIdeal.τ Cert.MixerBackReferenceIdeal.sig) → Buf (Elt Ideal) ℓ) (g' : Dev Cert.MixerBackReferenceIdeal.nD → PrngReg), Pre_MixerBackIdeal m →
    (∀ c : Dev Cert.MixerBackIdeal.nD,
      m' ((c.tc : Thread Cert.MixerBackReferenceIdeal.nD Cert.MixerBackReferenceIdeal.τ).loc Cert.MixerBackReferenceIdeal.main_arg0) = m ((c.tc : Thread Cert.MixerBackIdeal.nD Cert.MixerBackIdeal.τ).loc Cert.MixerBackIdeal.main_arg0)
      ∧ m' ((c.tc : Thread Cert.MixerBackReferenceIdeal.nD Cert.MixerBackReferenceIdeal.τ).loc Cert.MixerBackReferenceIdeal.main_arg1) = m ((c.tc : Thread Cert.MixerBackIdeal.nD Cert.MixerBackIdeal.τ).loc Cert.MixerBackIdeal.main_arg1)
      ∧ m' ((c.tc : Thread Cert.MixerBackReferenceIdeal.nD Cert.MixerBackReferenceIdeal.τ).loc Cert.MixerBackReferenceIdeal.main_arg2) = m ((c.tc : Thread Cert.MixerBackIdeal.nD Cert.MixerBackIdeal.τ).loc Cert.MixerBackIdeal.main_arg2)
      ∧ m' ((c.tc : Thread Cert.MixerBackReferenceIdeal.nD Cert.MixerBackReferenceIdeal.τ).loc Cert.MixerBackReferenceIdeal.main_arg3) = m ((c.tc : Thread Cert.MixerBackIdeal.nD Cert.MixerBackIdeal.τ).loc Cert.MixerBackIdeal.main_arg3)
      ∧ m' ((c.tc : Thread Cert.MixerBackReferenceIdeal.nD Cert.MixerBackReferenceIdeal.τ).loc Cert.MixerBackReferenceIdeal.main_arg4) = m ((c.tc : Thread Cert.MixerBackIdeal.nD Cert.MixerBackIdeal.τ).loc Cert.MixerBackIdeal.main_arg4)
      ∧ m' ((c.tc : Thread Cert.MixerBackReferenceIdeal.nD Cert.MixerBackReferenceIdeal.τ).loc Cert.MixerBackReferenceIdeal.main_arg5) = m ((c.tc : Thread Cert.MixerBackIdeal.nD Cert.MixerBackIdeal.τ).loc Cert.MixerBackIdeal.main_arg5)) →
    ∃ (v0 : (c : Dev Cert.MixerBackIdeal.nD) → Buf (Elt Ideal) ((c.tc : Thread Cert.MixerBackIdeal.nD Cert.MixerBackIdeal.τ).loc Cert.MixerBackIdeal.main_v2)) (v1 : (c : Dev Cert.MixerBackIdeal.nD) → Buf (Elt Ideal) ((c.tc : Thread Cert.MixerBackIdeal.nD Cert.MixerBackIdeal.τ).loc Cert.MixerBackIdeal.main_v3)) (v2 : (c : Dev Cert.MixerBackIdeal.nD) → Buf (Elt Ideal) ((c.tc : Thread Cert.MixerBackIdeal.nD Cert.MixerBackIdeal.τ).loc Cert.MixerBackIdeal.main_v7)),
      θ_run (Cert.MixerBackIdeal.defs (F := Ideal)) (onTc (τ := Cert.MixerBackIdeal.τ) (Cert.MixerBackIdeal.main (F := Ideal))) ⟨m, fun _ => 0, g⟩ (fun r => ∀ c : Dev Cert.MixerBackIdeal.nD,
          r.2.mem ((c.tc : Thread Cert.MixerBackIdeal.nD Cert.MixerBackIdeal.τ).loc Cert.MixerBackIdeal.main_v2) = v0 c
          ∧ r.2.mem ((c.tc : Thread Cert.MixerBackIdeal.nD Cert.MixerBackIdeal.τ).loc Cert.MixerBackIdeal.main_v3) = v1 c
          ∧ r.2.mem ((c.tc : Thread Cert.MixerBackIdeal.nD Cert.MixerBackIdeal.τ).loc Cert.MixerBackIdeal.main_v7) = v2 c
          ∧ r.2.mem ((c.tc : Thread Cert.MixerBackIdeal.nD Cert.MixerBackIdeal.τ).loc Cert.MixerBackIdeal.main_arg0) = m ((c.tc : Thread Cert.MixerBackIdeal.nD Cert.MixerBackIdeal.τ).loc Cert.MixerBackIdeal.main_arg0)
          ∧ r.2.mem ((c.tc : Thread Cert.MixerBackIdeal.nD Cert.MixerBackIdeal.τ).loc Cert.MixerBackIdeal.main_arg1) = m ((c.tc : Thread Cert.MixerBackIdeal.nD Cert.MixerBackIdeal.τ).loc Cert.MixerBackIdeal.main_arg1)
          ∧ r.2.mem ((c.tc : Thread Cert.MixerBackIdeal.nD Cert.MixerBackIdeal.τ).loc Cert.MixerBackIdeal.main_arg2) = m ((c.tc : Thread Cert.MixerBackIdeal.nD Cert.MixerBackIdeal.τ).loc Cert.MixerBackIdeal.main_arg2)
          ∧ r.2.mem ((c.tc : Thread Cert.MixerBackIdeal.nD Cert.MixerBackIdeal.τ).loc Cert.MixerBackIdeal.main_arg3) = m ((c.tc : Thread Cert.MixerBackIdeal.nD Cert.MixerBackIdeal.τ).loc Cert.MixerBackIdeal.main_arg3)
          ∧ r.2.mem ((c.tc : Thread Cert.MixerBackIdeal.nD Cert.MixerBackIdeal.τ).loc Cert.MixerBackIdeal.main_arg4) = m ((c.tc : Thread Cert.MixerBackIdeal.nD Cert.MixerBackIdeal.τ).loc Cert.MixerBackIdeal.main_arg4)
          ∧ r.2.mem ((c.tc : Thread Cert.MixerBackIdeal.nD Cert.MixerBackIdeal.τ).loc Cert.MixerBackIdeal.main_arg5) = m ((c.tc : Thread Cert.MixerBackIdeal.nD Cert.MixerBackIdeal.τ).loc Cert.MixerBackIdeal.main_arg5))
      ∧ θ_run (Cert.MixerBackReferenceIdeal.defs (F := Ideal)) (onTc (τ := Cert.MixerBackReferenceIdeal.τ) (Cert.MixerBackReferenceIdeal.main (F := Ideal))) ⟨m', fun _ => 0, g'⟩ (fun r => ∀ c : Dev Cert.MixerBackReferenceIdeal.nD,
          r.2.mem ((c.tc : Thread Cert.MixerBackReferenceIdeal.nD Cert.MixerBackReferenceIdeal.τ).loc Cert.MixerBackReferenceIdeal.main_v5) = v0 c
          ∧ r.2.mem ((c.tc : Thread Cert.MixerBackReferenceIdeal.nD Cert.MixerBackReferenceIdeal.τ).loc Cert.MixerBackReferenceIdeal.main_v13) = v1 c
          ∧ r.2.mem ((c.tc : Thread Cert.MixerBackReferenceIdeal.nD Cert.MixerBackReferenceIdeal.τ).loc Cert.MixerBackReferenceIdeal.main_v11) = v2 c
          ∧ r.2.mem ((c.tc : Thread Cert.MixerBackReferenceIdeal.nD Cert.MixerBackReferenceIdeal.τ).loc Cert.MixerBackReferenceIdeal.main_arg0) = m' ((c.tc : Thread Cert.MixerBackReferenceIdeal.nD Cert.MixerBackReferenceIdeal.τ).loc Cert.MixerBackReferenceIdeal.main_arg0)
          ∧ r.2.mem ((c.tc : Thread Cert.MixerBackReferenceIdeal.nD Cert.MixerBackReferenceIdeal.τ).loc Cert.MixerBackReferenceIdeal.main_arg1) = m' ((c.tc : Thread Cert.MixerBackReferenceIdeal.nD Cert.MixerBackReferenceIdeal.τ).loc Cert.MixerBackReferenceIdeal.main_arg1)
          ∧ r.2.mem ((c.tc : Thread Cert.MixerBackReferenceIdeal.nD Cert.MixerBackReferenceIdeal.τ).loc Cert.MixerBackReferenceIdeal.main_arg2) = m' ((c.tc : Thread Cert.MixerBackReferenceIdeal.nD Cert.MixerBackReferenceIdeal.τ).loc Cert.MixerBackReferenceIdeal.main_arg2)
          ∧ r.2.mem ((c.tc : Thread Cert.MixerBackReferenceIdeal.nD Cert.MixerBackReferenceIdeal.τ).loc Cert.MixerBackReferenceIdeal.main_arg3) = m' ((c.tc : Thread Cert.MixerBackReferenceIdeal.nD Cert.MixerBackReferenceIdeal.τ).loc Cert.MixerBackReferenceIdeal.main_arg3)
          ∧ r.2.mem ((c.tc : Thread Cert.MixerBackReferenceIdeal.nD Cert.MixerBackReferenceIdeal.τ).loc Cert.MixerBackReferenceIdeal.main_arg4) = m' ((c.tc : Thread Cert.MixerBackReferenceIdeal.nD Cert.MixerBackReferenceIdeal.τ).loc Cert.MixerBackReferenceIdeal.main_arg4)
          ∧ r.2.mem ((c.tc : Thread Cert.MixerBackReferenceIdeal.nD Cert.MixerBackReferenceIdeal.τ).loc Cert.MixerBackReferenceIdeal.main_arg5) = m' ((c.tc : Thread Cert.MixerBackReferenceIdeal.nD Cert.MixerBackReferenceIdeal.τ).loc Cert.MixerBackReferenceIdeal.main_arg5))

def preserves_MixerDwIn_MixerDwInIdeal : Prop :=
  True

def algebraic_MixerDwInIdeal_MixerDwInReferenceIdeal [hMixerDwInIdeal : Cert.MixerDwInIdeal.Facts] [hMixerDwInReferenceIdeal : Cert.MixerDwInReferenceIdeal.Facts] : Prop :=
  ∀ (m : (ℓ : Loc Cert.MixerDwInIdeal.nD Cert.MixerDwInIdeal.τ Cert.MixerDwInIdeal.sig) → Buf (Elt Ideal) ℓ) (g : Dev Cert.MixerDwInIdeal.nD → PrngReg)
    (m' : (ℓ : Loc Cert.MixerDwInReferenceIdeal.nD Cert.MixerDwInReferenceIdeal.τ Cert.MixerDwInReferenceIdeal.sig) → Buf (Elt Ideal) ℓ) (g' : Dev Cert.MixerDwInReferenceIdeal.nD → PrngReg), Pre_MixerDwInIdeal m →
    (∀ c : Dev Cert.MixerDwInIdeal.nD,
      m' ((c.tc : Thread Cert.MixerDwInReferenceIdeal.nD Cert.MixerDwInReferenceIdeal.τ).loc Cert.MixerDwInReferenceIdeal.main_arg0) = m ((c.tc : Thread Cert.MixerDwInIdeal.nD Cert.MixerDwInIdeal.τ).loc Cert.MixerDwInIdeal.main_arg0)
      ∧ m' ((c.tc : Thread Cert.MixerDwInReferenceIdeal.nD Cert.MixerDwInReferenceIdeal.τ).loc Cert.MixerDwInReferenceIdeal.main_arg1) = m ((c.tc : Thread Cert.MixerDwInIdeal.nD Cert.MixerDwInIdeal.τ).loc Cert.MixerDwInIdeal.main_arg1)
      ∧ m' ((c.tc : Thread Cert.MixerDwInReferenceIdeal.nD Cert.MixerDwInReferenceIdeal.τ).loc Cert.MixerDwInReferenceIdeal.main_arg2) = m ((c.tc : Thread Cert.MixerDwInIdeal.nD Cert.MixerDwInIdeal.τ).loc Cert.MixerDwInIdeal.main_arg2)) →
    ∃ (v0 : (c : Dev Cert.MixerDwInIdeal.nD) → Buf (Elt Ideal) ((c.tc : Thread Cert.MixerDwInIdeal.nD Cert.MixerDwInIdeal.τ).loc Cert.MixerDwInIdeal.main_v0)),
      θ_run (Cert.MixerDwInIdeal.defs (F := Ideal)) (onTc (τ := Cert.MixerDwInIdeal.τ) (Cert.MixerDwInIdeal.main (F := Ideal))) ⟨m, fun _ => 0, g⟩ (fun r => ∀ c : Dev Cert.MixerDwInIdeal.nD,
          r.2.mem ((c.tc : Thread Cert.MixerDwInIdeal.nD Cert.MixerDwInIdeal.τ).loc Cert.MixerDwInIdeal.main_v0) = v0 c
          ∧ r.2.mem ((c.tc : Thread Cert.MixerDwInIdeal.nD Cert.MixerDwInIdeal.τ).loc Cert.MixerDwInIdeal.main_arg0) = m ((c.tc : Thread Cert.MixerDwInIdeal.nD Cert.MixerDwInIdeal.τ).loc Cert.MixerDwInIdeal.main_arg0)
          ∧ r.2.mem ((c.tc : Thread Cert.MixerDwInIdeal.nD Cert.MixerDwInIdeal.τ).loc Cert.MixerDwInIdeal.main_arg1) = m ((c.tc : Thread Cert.MixerDwInIdeal.nD Cert.MixerDwInIdeal.τ).loc Cert.MixerDwInIdeal.main_arg1)
          ∧ r.2.mem ((c.tc : Thread Cert.MixerDwInIdeal.nD Cert.MixerDwInIdeal.τ).loc Cert.MixerDwInIdeal.main_arg2) = m ((c.tc : Thread Cert.MixerDwInIdeal.nD Cert.MixerDwInIdeal.τ).loc Cert.MixerDwInIdeal.main_arg2))
      ∧ θ_run (Cert.MixerDwInReferenceIdeal.defs (F := Ideal)) (onTc (τ := Cert.MixerDwInReferenceIdeal.τ) (Cert.MixerDwInReferenceIdeal.main (F := Ideal))) ⟨m', fun _ => 0, g'⟩ (fun r => ∀ c : Dev Cert.MixerDwInReferenceIdeal.nD,
          r.2.mem ((c.tc : Thread Cert.MixerDwInReferenceIdeal.nD Cert.MixerDwInReferenceIdeal.τ).loc Cert.MixerDwInReferenceIdeal.main_v9) = v0 c
          ∧ r.2.mem ((c.tc : Thread Cert.MixerDwInReferenceIdeal.nD Cert.MixerDwInReferenceIdeal.τ).loc Cert.MixerDwInReferenceIdeal.main_arg0) = m' ((c.tc : Thread Cert.MixerDwInReferenceIdeal.nD Cert.MixerDwInReferenceIdeal.τ).loc Cert.MixerDwInReferenceIdeal.main_arg0)
          ∧ r.2.mem ((c.tc : Thread Cert.MixerDwInReferenceIdeal.nD Cert.MixerDwInReferenceIdeal.τ).loc Cert.MixerDwInReferenceIdeal.main_arg1) = m' ((c.tc : Thread Cert.MixerDwInReferenceIdeal.nD Cert.MixerDwInReferenceIdeal.τ).loc Cert.MixerDwInReferenceIdeal.main_arg1)
          ∧ r.2.mem ((c.tc : Thread Cert.MixerDwInReferenceIdeal.nD Cert.MixerDwInReferenceIdeal.τ).loc Cert.MixerDwInReferenceIdeal.main_arg2) = m' ((c.tc : Thread Cert.MixerDwInReferenceIdeal.nD Cert.MixerDwInReferenceIdeal.τ).loc Cert.MixerDwInReferenceIdeal.main_arg2))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)
      ∧ m' ((c.tc : Thread Cert.ProjReferenceIdeal.nD Cert.ProjReferenceIdeal.τ).loc Cert.ProjReferenceIdeal.main_arg4) = m ((c.tc : Thread Cert.ProjIdeal.nD Cert.ProjIdeal.τ).loc Cert.ProjIdeal.main_arg4)
      ∧ m' ((c.tc : Thread Cert.ProjReferenceIdeal.nD Cert.ProjReferenceIdeal.τ).loc Cert.ProjReferenceIdeal.main_arg5) = m ((c.tc : Thread Cert.ProjIdeal.nD Cert.ProjIdeal.τ).loc Cert.ProjIdeal.main_arg5)
      ∧ m' ((c.tc : Thread Cert.ProjReferenceIdeal.nD Cert.ProjReferenceIdeal.τ).loc Cert.ProjReferenceIdeal.main_arg6) = m ((c.tc : Thread Cert.ProjIdeal.nD Cert.ProjIdeal.τ).loc Cert.ProjIdeal.main_arg6)) →
    ∃ (v0 : (c : Dev Cert.ProjIdeal.nD) → Buf (Elt Ideal) ((c.tc : Thread Cert.ProjIdeal.nD Cert.ProjIdeal.τ).loc Cert.ProjIdeal.main_v6)) (v1 : (c : Dev Cert.ProjIdeal.nD) → Buf (Elt Ideal) ((c.tc : Thread Cert.ProjIdeal.nD Cert.ProjIdeal.τ).loc Cert.ProjIdeal.main_v8)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v6) = v0 c
          ∧ r.2.mem ((c.tc : Thread Cert.ProjIdeal.nD Cert.ProjIdeal.τ).loc Cert.ProjIdeal.main_v8) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v4) = v0 c
          ∧ r.2.mem ((c.tc : Thread Cert.ProjReferenceIdeal.nD Cert.ProjReferenceIdeal.τ).loc Cert.ProjReferenceIdeal.main_v10) = v1 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4)
          ∧ r.2.mem ((c.tc : Thread Cert.ProjReferenceIdeal.nD Cert.ProjReferenceIdeal.τ).loc Cert.ProjReferenceIdeal.main_arg5) = m' ((c.tc : Thread Cert.ProjReferenceIdeal.nD Cert.ProjReferenceIdeal.τ).loc Cert.ProjReferenceIdeal.main_arg5)
          ∧ r.2.mem ((c.tc : Thread Cert.ProjReferenceIdeal.nD Cert.ProjReferenceIdeal.τ).loc Cert.ProjReferenceIdeal.main_arg6) = m' ((c.tc : Thread Cert.ProjReferenceIdeal.nD Cert.ProjReferenceIdeal.τ).loc Cert.ProjReferenceIdeal.main_arg6))

def preserves_ProjBack_ProjBackIdeal : Prop :=
  True

def algebraic_ProjBackIdeal_ProjBackReferenceIdeal [hProjBackIdeal : Cert.ProjBackIdeal.Facts] [hProjBackReferenceIdeal : Cert.ProjBackReferenceIdeal.Facts] : Prop :=
  ∀ (m : (ℓ : Loc Cert.ProjBackIdeal.nD Cert.ProjBackIdeal.τ Cert.ProjBackIdeal.sig) → Buf (Elt Ideal) ℓ) (g : Dev Cert.ProjBackIdeal.nD → PrngReg)
    (m' : (ℓ : Loc Cert.ProjBackReferenceIdeal.nD Cert.ProjBackReferenceIdeal.τ Cert.ProjBackReferenceIdeal.sig) → Buf (Elt Ideal) ℓ) (g' : Dev Cert.ProjBackReferenceIdeal.nD → PrngReg), Pre_ProjBackIdeal m →
    (∀ c : Dev Cert.ProjBackIdeal.nD,
      m' ((c.tc : Thread Cert.ProjBackReferenceIdeal.nD Cert.ProjBackReferenceIdeal.τ).loc Cert.ProjBackReferenceIdeal.main_arg0) = m ((c.tc : Thread Cert.ProjBackIdeal.nD Cert.ProjBackIdeal.τ).loc Cert.ProjBackIdeal.main_arg0)
      ∧ m' ((c.tc : Thread Cert.ProjBackReferenceIdeal.nD Cert.ProjBackReferenceIdeal.τ).loc Cert.ProjBackReferenceIdeal.main_arg1) = m ((c.tc : Thread Cert.ProjBackIdeal.nD Cert.ProjBackIdeal.τ).loc Cert.ProjBackIdeal.main_arg1)
      ∧ m' ((c.tc : Thread Cert.ProjBackReferenceIdeal.nD Cert.ProjBackReferenceIdeal.τ).loc Cert.ProjBackReferenceIdeal.main_arg2) = m ((c.tc : Thread Cert.ProjBackIdeal.nD Cert.ProjBackIdeal.τ).loc Cert.ProjBackIdeal.main_arg2)
      ∧ m' ((c.tc : Thread Cert.ProjBackReferenceIdeal.nD Cert.ProjBackReferenceIdeal.τ).loc Cert.ProjBackReferenceIdeal.main_arg3) = m ((c.tc : Thread Cert.ProjBackIdeal.nD Cert.ProjBackIdeal.τ).loc Cert.ProjBackIdeal.main_arg3)
      ∧ m' ((c.tc : Thread Cert.ProjBackReferenceIdeal.nD Cert.ProjBackReferenceIdeal.τ).loc Cert.ProjBackReferenceIdeal.main_arg4) = m ((c.tc : Thread Cert.ProjBackIdeal.nD Cert.ProjBackIdeal.τ).loc Cert.ProjBackIdeal.main_arg4)
      ∧ m' ((c.tc : Thread Cert.ProjBackReferenceIdeal.nD Cert.ProjBackReferenceIdeal.τ).loc Cert.ProjBackReferenceIdeal.main_arg5) = m ((c.tc : Thread Cert.ProjBackIdeal.nD Cert.ProjBackIdeal.τ).loc Cert.ProjBackIdeal.main_arg5)
      ∧ m' ((c.tc : Thread Cert.ProjBackReferenceIdeal.nD Cert.ProjBackReferenceIdeal.τ).loc Cert.ProjBackReferenceIdeal.main_arg6) = m ((c.tc : Thread Cert.ProjBackIdeal.nD Cert.ProjBackIdeal.τ).loc Cert.ProjBackIdeal.main_arg6)) →
    ∃ (v0 : (c : Dev Cert.ProjBackIdeal.nD) → Buf (Elt Ideal) ((c.tc : Thread Cert.ProjBackIdeal.nD Cert.ProjBackIdeal.τ).loc Cert.ProjBackIdeal.main_v4)) (v1 : (c : Dev Cert.ProjBackIdeal.nD) → Buf (Elt Ideal) ((c.tc : Thread Cert.ProjBackIdeal.nD Cert.ProjBackIdeal.τ).loc Cert.ProjBackIdeal.main_v6)) (v2 : (c : Dev Cert.ProjBackIdeal.nD) → Buf (Elt Ideal) ((c.tc : Thread Cert.ProjBackIdeal.nD Cert.ProjBackIdeal.τ).loc Cert.ProjBackIdeal.main_v7)),
      θ_run (Cert.ProjBackIdeal.defs (F := Ideal)) (onTc (τ := Cert.ProjBackIdeal.τ) (Cert.ProjBackIdeal.main (F := Ideal))) ⟨m, fun _ => 0, g⟩ (fun r => ∀ c : Dev Cert.ProjBackIdeal.nD,
          r.2.mem ((c.tc : Thread Cert.ProjBackIdeal.nD Cert.ProjBackIdeal.τ).loc Cert.ProjBackIdeal.main_v4) = v0 c
          ∧ r.2.mem ((c.tc : Thread Cert.ProjBackIdeal.nD Cert.ProjBackIdeal.τ).loc Cert.ProjBackIdeal.main_v6) = v1 c
          ∧ r.2.mem ((c.tc : Thread Cert.ProjBackIdeal.nD Cert.ProjBackIdeal.τ).loc Cert.ProjBackIdeal.main_v7) = v2 c
          ∧ r.2.mem ((c.tc : Thread Cert.ProjBackIdeal.nD Cert.ProjBackIdeal.τ).loc Cert.ProjBackIdeal.main_arg0) = m ((c.tc : Thread Cert.ProjBackIdeal.nD Cert.ProjBackIdeal.τ).loc Cert.ProjBackIdeal.main_arg0)
          ∧ r.2.mem ((c.tc : Thread Cert.ProjBackIdeal.nD Cert.ProjBackIdeal.τ).loc Cert.ProjBackIdeal.main_arg1) = m ((c.tc : Thread Cert.ProjBackIdeal.nD Cert.ProjBackIdeal.τ).loc Cert.ProjBackIdeal.main_arg1)
          ∧ r.2.mem ((c.tc : Thread Cert.ProjBackIdeal.nD Cert.ProjBackIdeal.τ).loc Cert.ProjBackIdeal.main_arg2) = m ((c.tc : Thread Cert.ProjBackIdeal.nD Cert.ProjBackIdeal.τ).loc Cert.ProjBackIdeal.main_arg2)
          ∧ r.2.mem ((c.tc : Thread Cert.ProjBackIdeal.nD Cert.ProjBackIdeal.τ).loc Cert.ProjBackIdeal.main_arg3) = m ((c.tc : Thread Cert.ProjBackIdeal.nD Cert.ProjBackIdeal.τ).loc Cert.ProjBackIdeal.main_arg3)
          ∧ r.2.mem ((c.tc : Thread Cert.ProjBackIdeal.nD Cert.ProjBackIdeal.τ).loc Cert.ProjBackIdeal.main_arg4) = m ((c.tc : Thread Cert.ProjBackIdeal.nD Cert.ProjBackIdeal.τ).loc Cert.ProjBackIdeal.main_arg4)
          ∧ r.2.mem ((c.tc : Thread Cert.ProjBackIdeal.nD Cert.ProjBackIdeal.τ).loc Cert.ProjBackIdeal.main_arg5) = m ((c.tc : Thread Cert.ProjBackIdeal.nD Cert.ProjBackIdeal.τ).loc Cert.ProjBackIdeal.main_arg5)
          ∧ r.2.mem ((c.tc : Thread Cert.ProjBackIdeal.nD Cert.ProjBackIdeal.τ).loc Cert.ProjBackIdeal.main_arg6) = m ((c.tc : Thread Cert.ProjBackIdeal.nD Cert.ProjBackIdeal.τ).loc Cert.ProjBackIdeal.main_arg6))
      ∧ θ_run (Cert.ProjBackReferenceIdeal.defs (F := Ideal)) (onTc (τ := Cert.ProjBackReferenceIdeal.τ) (Cert.ProjBackReferenceIdeal.main (F := Ideal))) ⟨m', fun _ => 0, g'⟩ (fun r => ∀ c : Dev Cert.ProjBackReferenceIdeal.nD,
          r.2.mem ((c.tc : Thread Cert.ProjBackReferenceIdeal.nD Cert.ProjBackReferenceIdeal.τ).loc Cert.ProjBackReferenceIdeal.main_v15) = v0 c
          ∧ r.2.mem ((c.tc : Thread Cert.ProjBackReferenceIdeal.nD Cert.ProjBackReferenceIdeal.τ).loc Cert.ProjBackReferenceIdeal.main_v16) = v1 c
          ∧ r.2.mem ((c.tc : Thread Cert.ProjBackReferenceIdeal.nD Cert.ProjBackReferenceIdeal.τ).loc Cert.ProjBackReferenceIdeal.main_v11) = v2 c
          ∧ r.2.mem ((c.tc : Thread Cert.ProjBackReferenceIdeal.nD Cert.ProjBackReferenceIdeal.τ).loc Cert.ProjBackReferenceIdeal.main_arg0) = m' ((c.tc : Thread Cert.ProjBackReferenceIdeal.nD Cert.ProjBackReferenceIdeal.τ).loc Cert.ProjBackReferenceIdeal.main_arg0)
          ∧ r.2.mem ((c.tc : Thread Cert.ProjBackReferenceIdeal.nD Cert.ProjBackReferenceIdeal.τ).loc Cert.ProjBackReferenceIdeal.main_arg1) = m' ((c.tc : Thread Cert.ProjBackReferenceIdeal.nD Cert.ProjBackReferenceIdeal.τ).loc Cert.ProjBackReferenceIdeal.main_arg1)
          ∧ r.2.mem ((c.tc : Thread Cert.ProjBackReferenceIdeal.nD Cert.ProjBackReferenceIdeal.τ).loc Cert.ProjBackReferenceIdeal.main_arg2) = m' ((c.tc : Thread Cert.ProjBackReferenceIdeal.nD Cert.ProjBackReferenceIdeal.τ).loc Cert.ProjBackReferenceIdeal.main_arg2)
          ∧ r.2.mem ((c.tc : Thread Cert.ProjBackReferenceIdeal.nD Cert.ProjBackReferenceIdeal.τ).loc Cert.ProjBackReferenceIdeal.main_arg3) = m' ((c.tc : Thread Cert.ProjBackReferenceIdeal.nD Cert.ProjBackReferenceIdeal.τ).loc Cert.ProjBackReferenceIdeal.main_arg3)
          ∧ r.2.mem ((c.tc : Thread Cert.ProjBackReferenceIdeal.nD Cert.ProjBackReferenceIdeal.τ).loc Cert.ProjBackReferenceIdeal.main_arg4) = m' ((c.tc : Thread Cert.ProjBackReferenceIdeal.nD Cert.ProjBackReferenceIdeal.τ).loc Cert.ProjBackReferenceIdeal.main_arg4)
          ∧ r.2.mem ((c.tc : Thread Cert.ProjBackReferenceIdeal.nD Cert.ProjBackReferenceIdeal.τ).loc Cert.ProjBackReferenceIdeal.main_arg5) = m' ((c.tc : Thread Cert.ProjBackReferenceIdeal.nD Cert.ProjBackReferenceIdeal.τ).loc Cert.ProjBackReferenceIdeal.main_arg5)
          ∧ r.2.mem ((c.tc : Thread Cert.ProjBackReferenceIdeal.nD Cert.ProjBackReferenceIdeal.τ).loc Cert.ProjBackReferenceIdeal.main_arg6) = m' ((c.tc : Thread Cert.ProjBackReferenceIdeal.nD Cert.ProjBackReferenceIdeal.τ).loc Cert.ProjBackReferenceIdeal.main_arg6))

def preserves_Kv_KvIdeal : Prop :=
  True

def algebraic_KvIdeal_KvReferenceIdeal [hKvIdeal : Cert.KvIdeal.Facts] [hKvReferenceIdeal : Cert.KvReferenceIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvReferenceIdeal.nD Cert.KvReferenceIdeal.τ Cert.KvReferenceIdeal.sig) → Buf (Elt Ideal) ℓ) (g' : Dev Cert.KvReferenceIdeal.nD → PrngReg), Pre_KvIdeal m →
    (∀ c : Dev Cert.KvIdeal.nD,
      m' ((c.tc : Thread Cert.KvReferenceIdeal.nD Cert.KvReferenceIdeal.τ).loc Cert.KvReferenceIdeal.main_arg0) = m ((c.tc : Thread Cert.KvIdeal.nD Cert.KvIdeal.τ).loc Cert.KvIdeal.main_arg0)
      ∧ m' ((c.tc : Thread Cert.KvReferenceIdeal.nD Cert.KvReferenceIdeal.τ).loc Cert.KvReferenceIdeal.main_arg1) = m ((c.tc : Thread Cert.KvIdeal.nD Cert.KvIdeal.τ).loc Cert.KvIdeal.main_arg1)
      ∧ m' ((c.tc : Thread Cert.KvReferenceIdeal.nD Cert.KvReferenceIdeal.τ).loc Cert.KvReferenceIdeal.main_arg2) = m ((c.tc : Thread Cert.KvIdeal.nD Cert.KvIdeal.τ).loc Cert.KvIdeal.main_arg2)
      ∧ m' ((c.tc : Thread Cert.KvReferenceIdeal.nD Cert.KvReferenceIdeal.τ).loc Cert.KvReferenceIdeal.main_arg3) = m ((c.tc : Thread Cert.KvIdeal.nD Cert.KvIdeal.τ).loc Cert.KvIdeal.main_arg3)
      ∧ m' ((c.tc : Thread Cert.KvReferenceIdeal.nD Cert.KvReferenceIdeal.τ).loc Cert.KvReferenceIdeal.main_arg4) = m ((c.tc : Thread Cert.KvIdeal.nD Cert.KvIdeal.τ).loc Cert.KvIdeal.main_arg4)) →
    ∃ (v0 : (c : Dev Cert.KvIdeal.nD) → Buf (Elt Ideal) ((c.tc : Thread Cert.KvIdeal.nD Cert.KvIdeal.τ).loc Cert.KvIdeal.main_v3_0)) (v1 : (c : Dev Cert.KvIdeal.nD) → Buf (Elt Ideal) ((c.tc : Thread Cert.KvIdeal.nD Cert.KvIdeal.τ).loc Cert.KvIdeal.main_v3_1)) (v2 : (c : Dev Cert.KvIdeal.nD) → Buf (Elt Ideal) ((c.tc : Thread Cert.KvIdeal.nD Cert.KvIdeal.τ).loc Cert.KvIdeal.main_v4)) (v3 : (c : Dev Cert.KvIdeal.nD) → Buf (Elt Ideal) ((c.tc : Thread Cert.KvIdeal.nD Cert.KvIdeal.τ).loc Cert.KvIdeal.main_v5)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v3_0) = v0 c
          ∧ r.2.mem ((c.tc : Thread Cert.KvIdeal.nD Cert.KvIdeal.τ).loc Cert.KvIdeal.main_v3_1) = v1 c
          ∧ r.2.mem ((c.tc : Thread Cert.KvIdeal.nD Cert.KvIdeal.τ).loc Cert.KvIdeal.main_v4) = v2 c
          ∧ r.2.mem ((c.tc : Thread Cert.KvIdeal.nD Cert.KvIdeal.τ).loc Cert.KvIdeal.main_v5) = v3 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
          ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
          ∧ r.2.mem ((c.tc : Thread Cert.KvIdeal.nD Cert.KvIdeal.τ).loc Cert.KvIdeal.main_arg3) = m ((c.tc : Thread Cert.KvIdeal.nD Cert.KvIdeal.τ).loc Cert.KvIdeal.main_arg3)
          ∧ r.2.mem ((c.tc : Thread Cert.KvIdeal.nD Cert.KvIdeal.τ).loc Cert.KvIdeal.main_arg4) = m ((c.tc : Thread Cert.KvIdeal.nD Cert.KvIdeal.τ).loc Cert.KvIdeal.main_arg4))
      ∧ θ_run (Cert.KvReferenceIdeal.defs (F := Ideal)) (onTc (τ := Cert.KvReferenceIdeal.τ) (Cert.KvReferenceIdeal.main (F := Ideal))) ⟨m', fun _ => 0, g'⟩ (fun r => ∀ c : Dev Cert.KvReferenceIdeal.nD,
          r.2.mem ((c.tc : Thread Cert.KvReferenceIdeal.nD Cert.KvReferenceIdeal.τ).loc Cert.KvReferenceIdeal.main_v14) = v0 c
          ∧ r.2.mem ((c.tc : Thread Cert.KvReferenceIdeal.nD Cert.KvReferenceIdeal.τ).loc Cert.KvReferenceIdeal.main_v17) = v1 c
          ∧ r.2.mem ((c.tc : Thread Cert.KvReferenceIdeal.nD Cert.KvReferenceIdeal.τ).loc Cert.KvReferenceIdeal.main_v19) = v2 c
          ∧ r.2.mem ((c.tc : Thread Cert.KvReferenceIdeal.nD Cert.KvReferenceIdeal.τ).loc Cert.KvReferenceIdeal.main_v11) = v3 c
          ∧ r.2.mem ((c.tc : Thread Cert.KvReferenceIdeal.nD Cert.KvReferenceIdeal.τ).loc Cert.KvReferenceIdeal.main_arg0) = m' ((c.tc : Thread Cert.KvReferenceIdeal.nD Cert.KvReferenceIdeal.τ).loc Cert.KvReferenceIdeal.main_arg0)
          ∧ r.2.mem ((c.tc : Thread Cert.KvReferenceIdeal.nD Cert.KvReferenceIdeal.τ).loc Cert.KvReferenceIdeal.main_arg1) = m' ((c.tc : Thread Cert.KvReferenceIdeal.nD Cert.KvReferenceIdeal.τ).loc Cert.KvReferenceIdeal.main_arg1)
          ∧ r.2.mem ((c.tc : Thread Cert.KvReferenceIdeal.nD Cert.KvReferenceIdeal.τ).loc Cert.KvReferenceIdeal.main_arg2) = m' ((c.tc : Thread Cert.KvReferenceIdeal.nD Cert.KvReferenceIdeal.τ).loc Cert.KvReferenceIdeal.main_arg2)
          ∧ r.2.mem ((c.tc : Thread Cert.KvReferenceIdeal.nD Cert.KvReferenceIdeal.τ).loc Cert.KvReferenceIdeal.main_arg3) = m' ((c.tc : Thread Cert.KvReferenceIdeal.nD Cert.KvReferenceIdeal.τ).loc Cert.KvReferenceIdeal.main_arg3)
          ∧ r.2.mem ((c.tc : Thread Cert.KvReferenceIdeal.nD Cert.KvReferenceIdeal.τ).loc Cert.KvReferenceIdeal.main_arg4) = m' ((c.tc : Thread Cert.KvReferenceIdeal.nD Cert.KvReferenceIdeal.τ).loc Cert.KvReferenceIdeal.main_arg4))

def preserves_Attn_AttnIdeal : Prop :=
  IdealRules.named_const.Statement Cert.AttnIdeal.κ "masked" .f32 0xF149F2CA#32 ⊥

def algebraic_AttnIdeal_AttnReferenceIdeal_pre_finite12 [hAttnIdeal : Cert.AttnIdeal.Facts] [hAttnReferenceIdeal : Cert.AttnReferenceIdeal.Facts] [hPre_finite12 : Cert.Pre_finite12.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnIdeal_finite12 m →
    (∀ c : Dev Cert.AttnIdeal.nD,
      m' ((c.tc : Thread Cert.AttnReferenceIdeal.nD Cert.AttnReferenceIdeal.τ).loc Cert.AttnReferenceIdeal.main_arg0) = m ((c.tc : Thread Cert.AttnIdeal.nD Cert.AttnIdeal.τ).loc Cert.AttnIdeal.main_arg0)
      ∧ m' ((c.tc : Thread Cert.AttnReferenceIdeal.nD Cert.AttnReferenceIdeal.τ).loc Cert.AttnReferenceIdeal.main_arg1) = m ((c.tc : Thread Cert.AttnIdeal.nD Cert.AttnIdeal.τ).loc Cert.AttnIdeal.main_arg1)
      ∧ m' ((c.tc : Thread Cert.AttnReferenceIdeal.nD Cert.AttnReferenceIdeal.τ).loc Cert.AttnReferenceIdeal.main_arg2) = m ((c.tc : Thread Cert.AttnIdeal.nD Cert.AttnIdeal.τ).loc Cert.AttnIdeal.main_arg2)
      ∧ m' ((c.tc : Thread Cert.AttnReferenceIdeal.nD Cert.AttnReferenceIdeal.τ).loc Cert.AttnReferenceIdeal.main_arg3) = m ((c.tc : Thread Cert.AttnIdeal.nD Cert.AttnIdeal.τ).loc Cert.AttnIdeal.main_arg3)
      ∧ m' ((c.tc : Thread Cert.AttnReferenceIdeal.nD Cert.AttnReferenceIdeal.τ).loc Cert.AttnReferenceIdeal.main_arg4) = m ((c.tc : Thread Cert.AttnIdeal.nD Cert.AttnIdeal.τ).loc Cert.AttnIdeal.main_arg4)
      ∧ m' ((c.tc : Thread Cert.AttnReferenceIdeal.nD Cert.AttnReferenceIdeal.τ).loc Cert.AttnReferenceIdeal.main_arg5) = m ((c.tc : Thread Cert.AttnIdeal.nD Cert.AttnIdeal.τ).loc Cert.AttnIdeal.main_arg5)) →
    ∃ (v0 : (c : Dev Cert.AttnIdeal.nD) → Buf (Elt Ideal) ((c.tc : Thread Cert.AttnIdeal.nD Cert.AttnIdeal.τ).loc Cert.AttnIdeal.main_v15_0)) (v1 : (c : Dev Cert.AttnIdeal.nD) → Buf (Elt Ideal) ((c.tc : Thread Cert.AttnIdeal.nD Cert.AttnIdeal.τ).loc Cert.AttnIdeal.main_v16_0)) (v2 : (c : Dev Cert.AttnIdeal.nD) → Buf (Elt Ideal) ((c.tc : Thread Cert.AttnIdeal.nD Cert.AttnIdeal.τ).loc Cert.AttnIdeal.main_v16_1)) (v3 : (c : Dev Cert.AttnIdeal.nD) → Buf (Elt Ideal) ((c.tc : Thread Cert.AttnIdeal.nD Cert.AttnIdeal.τ).loc Cert.AttnIdeal.main_v17_0)) (v4 : (c : Dev Cert.AttnIdeal.nD) → Buf (Elt Ideal) ((c.tc : Thread Cert.AttnIdeal.nD Cert.AttnIdeal.τ).loc Cert.AttnIdeal.main_v17_1)) (v5 : (c : Dev Cert.AttnIdeal.nD) → Buf (Elt Ideal) ((c.tc : Thread Cert.AttnIdeal.nD Cert.AttnIdeal.τ).loc Cert.AttnIdeal.main_v16_6)) (v6 : (c : Dev Cert.AttnIdeal.nD) → Buf (Elt Ideal) ((c.tc : Thread Cert.AttnIdeal.nD Cert.AttnIdeal.τ).loc Cert.AttnIdeal.main_v18)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v15_0) = v0 c
          ∧ r.2.mem ((c.tc : Thread Cert.AttnIdeal.nD Cert.AttnIdeal.τ).loc Cert.AttnIdeal.main_v16_0) = v1 c
          ∧ r.2.mem ((c.tc : Thread Cert.AttnIdeal.nD Cert.AttnIdeal.τ).loc Cert.AttnIdeal.main_v16_1) = v2 c
          ∧ r.2.mem ((c.tc : Thread Cert.AttnIdeal.nD Cert.AttnIdeal.τ).loc Cert.AttnIdeal.main_v17_0) = v3 c
          ∧ r.2.mem ((c.tc : Thread Cert.AttnIdeal.nD Cert.AttnIdeal.τ).loc Cert.AttnIdeal.main_v17_1) = v4 c
          ∧ r.2.mem ((c.tc : Thread Cert.AttnIdeal.nD Cert.AttnIdeal.τ).loc Cert.AttnIdeal.main_v16_6) = v5 c
          ∧ r.2.mem ((c.tc : Thread Cert.AttnIdeal.nD Cert.AttnIdeal.τ).loc Cert.AttnIdeal.main_v18) = v6 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          r.2.mem ((c.tc : Thread Cert.AttnReferenceIdeal.nD Cert.AttnReferenceIdeal.τ).loc Cert.AttnReferenceIdeal.main_v178) = v0 c
          ∧ r.2.mem ((c.tc : Thread Cert.AttnReferenceIdeal.nD Cert.AttnReferenceIdeal.τ).loc Cert.AttnReferenceIdeal.main_v179) = v1 c
          ∧ r.2.mem ((c.tc : Thread Cert.AttnReferenceIdeal.nD Cert.AttnReferenceIdeal.τ).loc Cert.AttnReferenceIdeal.main_v181) = v2 c
          ∧ r.2.mem ((c.tc : Thread Cert.AttnReferenceIdeal.nD Cert.AttnReferenceIdeal.τ).loc Cert.AttnReferenceIdeal.main_v182) = v3 c
          ∧ r.2.mem ((c.tc : Thread Cert.AttnReferenceIdeal.nD Cert.AttnReferenceIdeal.τ).loc Cert.AttnReferenceIdeal.main_v184) = v4 c
          ∧ r.2.mem ((c.tc : Thread Cert.AttnReferenceIdeal.nD Cert.AttnReferenceIdeal.τ).loc Cert.AttnReferenceIdeal.main_v150) = v5 c
          ∧ r.2.mem ((c.tc : Thread Cert.AttnReferenceIdeal.nD Cert.AttnReferenceIdeal.τ).loc Cert.AttnReferenceIdeal.main_v145) = v6 c
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0)
          ∧ r.2.mem ((c.tc : Thread Cert.AttnReferenceIdeal.nD Cert.AttnReferenceIdeal.τ).loc Cert.AttnReferenceIdeal.main_arg1) = m' ((c.tc : Thread Cert.AttnReferenceIdeal.nD Cert.AttnReferenceIdeal.τ).loc Cert.AttnReferenceIdeal.main_arg1)
          ∧ r.2.mem ((c.tc : Thread Cert.AttnReferenceIdeal.nD Cert.AttnReferenceIdeal.τ).loc Cert.AttnReferenceIdeal.main_arg2) = m' ((c.tc : Thread Cert.AttnReferenceIdeal.nD Cert.AttnReferenceIdeal.τ).loc Cert.AttnReferenceIdeal.main_arg2)
          ∧ r.2.mem ((c.tc : Thread Cert.AttnReferenceIdeal.nD Cert.AttnReferenceIdeal.τ).loc Cert.AttnReferenceIdeal.main_arg3) = m' ((c.tc : Thread Cert.AttnReferenceIdeal.nD Cert.AttnReferenceIdeal.τ).loc Cert.AttnReferenceIdeal.main_arg3)
          ∧ r.2.mem ((c.tc : Thread Cert.AttnReferenceIdeal.nD Cert.AttnReferenceIdeal.τ).loc Cert.AttnReferenceIdeal.main_arg4) = m' ((c.tc : Thread Cert.AttnReferenceIdeal.nD Cert.AttnReferenceIdeal.τ).loc Cert.AttnReferenceIdeal.main_arg4)
          ∧ r.2.mem ((c.tc : Thread Cert.AttnReferenceIdeal.nD Cert.AttnReferenceIdeal.τ).loc Cert.AttnReferenceIdeal.main_arg5) = m' ((c.tc : Thread Cert.AttnReferenceIdeal.nD Cert.AttnReferenceIdeal.τ).loc Cert.AttnReferenceIdeal.main_arg5))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hFfnDx : Cert.FfnDx.Facts) (hFfnDxIdeal : Cert.FfnDxIdeal.Facts) (hFfnDxReferenceIdeal : Cert.FfnDxReferenceIdeal.Facts) (hFfnDwDown : Cert.FfnDwDown.Facts) (hFfnDwDownIdeal : Cert.FfnDwDownIdeal.Facts) (hFfnDwDownReferenceIdeal : Cert.FfnDwDownReferenceIdeal.Facts) (hFfnDwUp : Cert.FfnDwUp.Facts) (hFfnDwUpIdeal : Cert.FfnDwUpIdeal.Facts) (hFfnDwUpReferenceIdeal : Cert.FfnDwUpReferenceIdeal.Facts) (hMixer : Cert.Mixer.Facts) (hMixerIdeal : Cert.MixerIdeal.Facts) (hMixerReferenceIdeal : Cert.MixerReferenceIdeal.Facts) (hMixerBack : Cert.MixerBack.Facts) (hMixerBackIdeal : Cert.MixerBackIdeal.Facts) (hMixerBackReferenceIdeal : Cert.MixerBackReferenceIdeal.Facts) (hMixerDwIn : Cert.MixerDwIn.Facts) (hMixerDwInIdeal : Cert.MixerDwInIdeal.Facts) (hMixerDwInReferenceIdeal : Cert.MixerDwInReferenceIdeal.Facts) (hProj : Cert.Proj.Facts) (hProjIdeal : Cert.ProjIdeal.Facts) (hProjReferenceIdeal : Cert.ProjReferenceIdeal.Facts) (hProjBack : Cert.ProjBack.Facts) (hProjBackIdeal : Cert.ProjBackIdeal.Facts) (hProjBackReferenceIdeal : Cert.ProjBackReferenceIdeal.Facts) (hKv : Cert.Kv.Facts) (hKvIdeal : Cert.KvIdeal.Facts) (hKvReferenceIdeal : Cert.KvReferenceIdeal.Facts) (hAttn : Cert.Attn.Facts) (hAttnIdeal : Cert.AttnIdeal.Facts) (hAttnReferenceIdeal : Cert.AttnReferenceIdeal.Facts) (hPre_finite : Cert.Pre_finite.Facts) (hPre_finite2 : Cert.Pre_finite2.Facts) (hPre_finite12 : Cert.Pre_finite12.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnIdeal_pre_finite2 (hFfnIdeal := hFfnIdeal) (hPre_finite2 := hPre_finite2)
    ∧ quiescent_FfnReferenceIdeal (hFfnReferenceIdeal := hFfnReferenceIdeal)
    ∧ quiescent_FfnReferenceIdeal_pre_finite2 (hFfnReferenceIdeal := hFfnReferenceIdeal) (hPre_finite2 := hPre_finite2)
    ∧ quiescent_FfnDx (hFfnDx := hFfnDx)
    ∧ quiescent_FfnDxIdeal (hFfnDxIdeal := hFfnDxIdeal)
    ∧ quiescent_FfnDxReferenceIdeal (hFfnDxReferenceIdeal := hFfnDxReferenceIdeal)
    ∧ quiescent_FfnDwDown (hFfnDwDown := hFfnDwDown)
    ∧ quiescent_FfnDwDownIdeal (hFfnDwDownIdeal := hFfnDwDownIdeal)
    ∧ quiescent_FfnDwDownReferenceIdeal (hFfnDwDownReferenceIdeal := hFfnDwDownReferenceIdeal)
    ∧ quiescent_FfnDwUp (hFfnDwUp := hFfnDwUp)
    ∧ quiescent_FfnDwUpIdeal (hFfnDwUpIdeal := hFfnDwUpIdeal)
    ∧ quiescent_FfnDwUpReferenceIdeal (hFfnDwUpReferenceIdeal := hFfnDwUpReferenceIdeal)
    ∧ quiescent_Mixer (hMixer := hMixer)
    ∧ quiescent_MixerIdeal (hMixerIdeal := hMixerIdeal)
    ∧ quiescent_MixerReferenceIdeal (hMixerReferenceIdeal := hMixerReferenceIdeal)
    ∧ quiescent_MixerBack (hMixerBack := hMixerBack)
    ∧ quiescent_MixerBackIdeal (hMixerBackIdeal := hMixerBackIdeal)
    ∧ quiescent_MixerBackReferenceIdeal (hMixerBackReferenceIdeal := hMixerBackReferenceIdeal)
    ∧ quiescent_MixerDwIn (hMixerDwIn := hMixerDwIn)
    ∧ quiescent_MixerDwInIdeal (hMixerDwInIdeal := hMixerDwInIdeal)
    ∧ quiescent_MixerDwInReferenceIdeal (hMixerDwInReferenceIdeal := hMixerDwInReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_ProjBack (hProjBack := hProjBack)
    ∧ quiescent_ProjBackIdeal (hProjBackIdeal := hProjBackIdeal)
    ∧ quiescent_ProjBackReferenceIdeal (hProjBackReferenceIdeal := hProjBackReferenceIdeal)
    ∧ quiescent_Kv (hKv := hKv)
    ∧ quiescent_KvIdeal (hKvIdeal := hKvIdeal)
    ∧ quiescent_KvReferenceIdeal (hKvReferenceIdeal := hKvReferenceIdeal)
    ∧ quiescent_Attn (hAttn := hAttn)
    ∧ quiescent_AttnIdeal (hAttnIdeal := hAttnIdeal)
    ∧ quiescent_AttnIdeal_pre_finite12 (hAttnIdeal := hAttnIdeal) (hPre_finite12 := hPre_finite12)
    ∧ quiescent_AttnReferenceIdeal (hAttnReferenceIdeal := hAttnReferenceIdeal)
    ∧ quiescent_AttnReferenceIdeal_pre_finite12 (hAttnReferenceIdeal := hAttnReferenceIdeal) (hPre_finite12 := hPre_finite12)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnReferenceIdeal_pre_finite2 (hFfnIdeal := hFfnIdeal) (hFfnReferenceIdeal := hFfnReferenceIdeal) (hPre_finite2 := hPre_finite2)
    ∧ preserves_FfnDx_FfnDxIdeal
    ∧ algebraic_FfnDxIdeal_FfnDxReferenceIdeal (hFfnDxIdeal := hFfnDxIdeal) (hFfnDxReferenceIdeal := hFfnDxReferenceIdeal)
    ∧ preserves_FfnDwDown_FfnDwDownIdeal
    ∧ algebraic_FfnDwDownIdeal_FfnDwDownReferenceIdeal (hFfnDwDownIdeal := hFfnDwDownIdeal) (hFfnDwDownReferenceIdeal := hFfnDwDownReferenceIdeal)
    ∧ preserves_FfnDwUp_FfnDwUpIdeal
    ∧ algebraic_FfnDwUpIdeal_FfnDwUpReferenceIdeal (hFfnDwUpIdeal := hFfnDwUpIdeal) (hFfnDwUpReferenceIdeal := hFfnDwUpReferenceIdeal)
    ∧ preserves_Mixer_MixerIdeal
    ∧ algebraic_MixerIdeal_MixerReferenceIdeal (hMixerIdeal := hMixerIdeal) (hMixerReferenceIdeal := hMixerReferenceIdeal)
    ∧ preserves_MixerBack_MixerBackIdeal
    ∧ algebraic_MixerBackIdeal_MixerBackReferenceIdeal (hMixerBackIdeal := hMixerBackIdeal) (hMixerBackReferenceIdeal := hMixerBackReferenceIdeal)
    ∧ preserves_MixerDwIn_MixerDwInIdeal
    ∧ algebraic_MixerDwInIdeal_MixerDwInReferenceIdeal (hMixerDwInIdeal := hMixerDwInIdeal) (hMixerDwInReferenceIdeal := hMixerDwInReferenceIdeal)
    ∧ preserves_Proj_ProjIdeal
    ∧ algebraic_ProjIdeal_ProjReferenceIdeal (hProjIdeal := hProjIdeal) (hProjReferenceIdeal := hProjReferenceIdeal)
    ∧ preserves_ProjBack_ProjBackIdeal
    ∧ algebraic_ProjBackIdeal_ProjBackReferenceIdeal (hProjBackIdeal := hProjBackIdeal) (hProjBackReferenceIdeal := hProjBackReferenceIdeal)
    ∧ preserves_Kv_KvIdeal
    ∧ algebraic_KvIdeal_KvReferenceIdeal (hKvIdeal := hKvIdeal) (hKvReferenceIdeal := hKvReferenceIdeal)
    ∧ preserves_Attn_AttnIdeal
    ∧ algebraic_AttnIdeal_AttnReferenceIdeal_pre_finite12 (hAttnIdeal := hAttnIdeal) (hAttnReferenceIdeal := hAttnReferenceIdeal) (hPre_finite12 := hPre_finite12)
-- ==== Pre_finite.lean ====
abbrev S2048x4096 : Shape := ⟨2, ![2048, 4096]⟩
abbrev S2048 : Shape := ⟨1, ![2048]⟩
abbrev S8x128x128 : Shape := ⟨3, ![8, 128, 128]⟩
abbrev S8x128 : Shape := ⟨2, ![8, 128]⟩
abbrev S2048x2048 : Shape := ⟨2, ![2048, 2048]⟩
abbrev S_ : Shape := ⟨0, ![]⟩

class Facts : Prop where
  bcast_S_S2048x4096 : S_.BroadcastsInDim S2048x4096 (![] : Fin 0 → Fin S2048x4096.rank)
  bcast_S_S2048 : S_.BroadcastsInDim S2048 (![] : Fin 0 → Fin S2048.rank)
  bcast_S_S8x128x128 : S_.BroadcastsInDim S8x128x128 (![] : Fin 0 → Fin S8x128x128.rank)
  bcast_S_S8x128 : S_.BroadcastsInDim S8x128 (![] : Fin 0 → Fin S8x128.rank)
  bcast_S_S2048x2048 : S_.BroadcastsInDim S2048x2048 (![] : Fin 0 → Fin S2048x2048.rank)

variable [Facts]

def fn {F : FTy → Type} [FloatOps F] (main_arg0 : FVec F S2048x4096 .f32) (main_arg1 : FVec F S2048 .f32) (main_arg2 : FVec F S8x128x128 .f32) (main_arg3 : FVec F S8x128 .f32) (main_arg4 : FVec F S2048x2048 .f32) : IVec S2048x4096 1 × IVec S2048 1 × IVec S8x128x128 1 × IVec S8x128 1 × IVec S2048x2048 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_v3 : FVec F S2048 .f32 := Host.absf main_arg1
  let main_cst_0 : FVec F S_ .f32 := constant S_ .f32 0x7F800000#32
  let main_v4 : FVec F S2048 .f32 := broadcastInDim S2048 ![] bcast_S_S2048 main_cst_0
  let main_v5 : IVec S2048 1 := cmpf .olt main_v3 main_v4
  let main_v6 : FVec F S8x128x128 .f32 := Host.absf main_arg2
  let main_cst_1 : FVec F S_ .f32 := constant S_ .f32 0x7F800000#32
  let main_v7 : FVec F S8x128x128 .f32 := broadcastInDim S8x128x128 ![] bcast_S_S8x128x128 main_cst_1
  let main_v8 : IVec S8x128x128 1 := cmpf .olt main_v6 main_v7
  let main_v9 : FVec F S8x128 .f32 := Host.absf main_arg3
  let main_cst_2 : FVec F S_ .f32 := constant S_ .f32 0x7F800000#32
  let main_v10 : FVec F S8x128 .f32 := broadcastInDim S8x128 ![] bcast_S_S8x128 main_cst_2
  let main_v11 : IVec S8x128 1 := cmpf .olt main_v9 main_v10
  let main_v12 : FVec F S2048x2048 .f32 := Host.absf main_arg4
  let main_cst_3 : FVec F S_ .f32 := constant S_ .f32 0x7F800000#32
  let main_v13 : FVec F S2048x2048 .f32 := broadcastInDim S2048x2048 ![] bcast_S_S2048x2048 main_cst_3
  let main_v14 : IVec S2048x2048 1 := cmpf .olt main_v12 main_v13
  (main_v2, main_v5, main_v8, main_v11, main_v14)
-- ==== Pre_finite12.lean ====
abbrev S2048x2048 : Shape := ⟨2, ![2048, 2048]⟩
abbrev S4x2048x64 : Shape := ⟨3, ![4, 2048, 64]⟩
abbrev S32x128x256 : Shape := ⟨3, ![32, 128, 256]⟩
abbrev S32 : Shape := ⟨1, ![32]⟩
abbrev S_ : Shape := ⟨0, ![]⟩

class Facts : Prop where
  bitsLt_bf16_f32 : FTy.bits .bf16 < FTy.bits .f32
  bcast_S_S2048x2048 : S_.BroadcastsInDim S2048x2048 (![] : Fin 0 → Fin S2048x2048.rank)
  bcast_S_S4x2048x64 : S_.BroadcastsInDim S4x2048x64 (![] : Fin 0 → Fin S4x2048x64.rank)
  bcast_S_S32x128x256 : S_.BroadcastsInDim S32x128x256 (![] : Fin 0 → Fin S32x128x256.rank)
  bcast_S_S32 : S_.BroadcastsInDim S32 (![] : Fin 0 → Fin S32.rank)

variable [Facts]

def fn_part1 {F : FTy → Type} [FloatOps F] (main_v3 : IVec S2048x2048 1) (main_v7 : IVec S4x2048x64 1) (main_v11 : IVec S4x2048x64 1) (main_v14 : IVec S32x128x256 1) (main_v17 : IVec S32 1) (main_v18 : FVec F S2048x2048 .f32) : IVec S2048x2048 1 × IVec S4x2048x64 1 × IVec S4x2048x64 1 × IVec S32x128x256 1 × IVec S32 1 × IVec S2048x2048 1 :=
  let main_v19 : FVec F S2048x2048 .f32 := Host.absf main_v18
  let main_cst_4 : FVec F S_ .f32 := constant S_ .f32 0x7F800000#32
  let main_v20 : FVec F S2048x2048 .f32 := broadcastInDim S2048x2048 ![] bcast_S_S2048x2048 main_cst_4
  let main_v21 : IVec S2048x2048 1 := cmpf .olt main_v19 main_v20
  (main_v3, main_v7, main_v11, main_v14, main_v17, main_v21)

def fn {F : FTy → Type} [FloatOps F] (main_arg0 : FVec F S2048x2048 .bf16) (main_arg1 : FVec F S4x2048x64 .bf16) (main_arg2 : FVec F S4x2048x64 .bf16) (main_arg3 : FVec F S32x128x256 .f32) (main_arg4 : FVec F S32 .f32) (main_arg5 : FVec F S2048x2048 .bf16) : IVec S2048x2048 1 × IVec S4x2048x64 1 × IVec S4x2048x64 1 × IVec S32x128x256 1 × IVec S32 1 × IVec S2048x2048 1 :=
  let main_v0 : FVec F S2048x2048 .f32 := (extf .f32 · bitsLt_bf16_f32) main_arg0
  let main_v1 : FVec F S2048x2048 .f32 := Host.absf main_v0
  let main_cst : FVec F S_ .f32 := constant S_ .f32 0x7F800000#32
  let main_v2 : FVec F S2048x2048 .f32 := broadcastInDim S2048x2048 ![] bcast_S_S2048x2048 main_cst
  let main_v3 : IVec S2048x2048 1 := cmpf .olt main_v1 main_v2
  let main_v4 : FVec F S4x2048x64 .f32 := (extf .f32 · bitsLt_bf16_f32) main_arg1
  let main_v5 : FVec F S4x2048x64 .f32 := Host.absf main_v4
  let main_cst_0 : FVec F S_ .f32 := constant S_ .f32 0x7F800000#32
  let main_v6 : FVec F S4x2048x64 .f32 := broadcastInDim S4x2048x64 ![] bcast_S_S4x2048x64 main_cst_0
  let main_v7 : IVec S4x2048x64 1 := cmpf .olt main_v5 main_v6
  let main_v8 : FVec F S4x2048x64 .f32 := (extf .f32 · bitsLt_bf16_f32) main_arg2
  let main_v9 : FVec F S4x2048x64 .f32 := Host.absf main_v8
  let main_cst_1 : FVec F S_ .f32 := constant S_ .f32 0x7F800000#32
  let main_v10 : FVec F S4x2048x64 .f32 := broadcastInDim S4x2048x64 ![] bcast_S_S4x2048x64 main_cst_1
  let main_v11 : IVec S4x2048x64 1 := cmpf .olt main_v9 main_v10
  let main_v12 : FVec F S32x128x256 .f32 := Host.absf main_arg3
  let main_cst_2 : FVec F S_ .f32 := constant S_ .f32 0x7F800000#32
  let main_v13 : FVec F S32x128x256 .f32 := broadcastInDim S32x128x256 ![] bcast_S_S32x128x256 main_cst_2
  let main_v14 : IVec S32x128x256 1 := cmpf .olt main_v12 main_v13
  let main_v15 : FVec F S32 .f32 := Host.absf main_arg4
  let main_cst_3 : FVec F S_ .f32 := constant S_ .f32 0x7F800000#32
  let main_v16 : FVec F S32 .f32 := broadcastInDim S32 ![] bcast_S_S32 main_cst_3
  let main_v17 : IVec S32 1 := cmpf .olt main_v15 main_v16
  let main_v18 : FVec F S2048x2048 .f32 := (extf .f32 · bitsLt_bf16_f32) main_arg5
  fn_part1 (F := F) main_v3 main_v7 main_v11 main_v14 main_v17 main_v18
-- ==== Pre_finite2.lean ====
abbrev S2048x2048 : Shape := ⟨2, ![2048, 2048]⟩
abbrev S2048x5632 : Shape := ⟨2, ![2048, 5632]⟩
abbrev S5632x2048 : Shape := ⟨2, ![5632, 2048]⟩
abbrev S_ : Shape := ⟨0, ![]⟩

class Facts : Prop where
  bcast_S_S2048x2048 : S_.BroadcastsInDim S2048x2048 (![] : Fin 0 → Fin S2048x2048.rank)
  bcast_S_S2048x5632 : S_.BroadcastsInDim S2048x5632 (![] : Fin 0 → Fin S2048x5632.rank)
  bcast_S_S5632x2048 : S_.BroadcastsInDim S5632x2048 (![] : Fin 0 → Fin S5632x2048.rank)

variable [Facts]

def fn {F : FTy → Type} [FloatOps F] (main_arg0 : FVec F S2048x2048 .f32) (main_arg1 : FVec F S2048x5632 .f32) (main_arg2 : FVec F S2048x5632 .f32) (main_arg3 : FVec F S5632x2048 .f32) (main_arg4 : FVec F S2048x2048 .f32) (main_arg5 : FVec F S2048x2048 .f32) : IVec S2048x2048 1 × IVec S2048x5632 1 × IVec S5632x2048 1 × IVec S2048x2048 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_v3 : FVec F S2048x5632 .f32 := Host.absf main_arg2
  let main_cst_0 : FVec F S_ .f32 := constant S_ .f32 0x7F800000#32
  let main_v4 : FVec F S2048x5632 .f32 := broadcastInDim S2048x5632 ![] bcast_S_S2048x5632 main_cst_0
  let main_v5 : IVec S2048x5632 1 := cmpf .olt main_v3 main_v4
  let main_v6 : FVec F S5632x2048 .f32 := Host.absf main_arg3
  let main_cst_1 : FVec F S_ .f32 := constant S_ .f32 0x7F800000#32
  let main_v7 : FVec F S5632x2048 .f32 := broadcastInDim S5632x2048 ![] bcast_S_S5632x2048 main_cst_1
  let main_v8 : IVec S5632x2048 1 := cmpf .olt main_v6 main_v7
  let main_v9 : FVec F S2048x2048 .f32 := Host.absf main_arg5
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  (main_v2, main_v5, main_v8, main_v11)
-- ==== Kernel.lean ====
abbrev S2048x4096 : Shape := ⟨2, ![2048, 4096]⟩
abbrev S2048 : Shape := ⟨1, ![2048]⟩
abbrev S8x128x128 : Shape := ⟨3, ![8, 128, 128]⟩
abbrev S8x128 : Shape := ⟨2, ![8, 128]⟩
abbrev S2048x2048 : Shape := ⟨2, ![2048, 2048]⟩
abbrev S1x2048 : Shape := ⟨2, ![1, 2048]⟩
abbrev S128x8 : Shape := ⟨2, ![128, 8]⟩
abbrev S8x8x128 : Shape := ⟨3, ![8, 8, 128]⟩
abbrev S128x4096 : Shape := ⟨2, ![128, 4096]⟩
abbrev S128x2048 : Shape := ⟨2, ![128, 2048]⟩
abbrev S128 : Shape := ⟨1, ![128]⟩
abbrev S128x1 : Shape := ⟨2, ![128, 1]⟩
abbrev S128x128 : Shape := ⟨2, ![128, 128]⟩
abbrev S8x256 : Shape := ⟨2, ![8, 256]⟩
abbrev S1x128x128 : Shape := ⟨3, ![1, 128, 128]⟩
abbrev S128x256 : Shape := ⟨2, ![128, 256]⟩
abbrev S1x8x128 : Shape := ⟨3, ![1, 8, 128]⟩

abbrev nBuf : Space → Nat
  | .hbm => 11
  | .vmem => 13
  | .smem => 0
  | _ => 0

abbrev bufTy : (tb : Table) → Fin (tcTables nBuf tb) → BufTy
  | .hbm, ⟨0, _⟩ => ⟨S2048x4096, .f32⟩
  | .hbm, ⟨1, _⟩ => ⟨S2048, .f32⟩
  | .hbm, ⟨2, _⟩ => ⟨S8x128x128, .f32⟩
  | .hbm, ⟨3, _⟩ => ⟨S8x128, .f32⟩
  | .hbm, ⟨4, _⟩ => ⟨S2048x2048, .f32⟩
  | .hbm, ⟨5, _⟩ => ⟨S1x2048, .f32⟩
  | .hbm, ⟨6, _⟩ => ⟨S128x8, .f32⟩
  | .hbm, ⟨7, _⟩ => ⟨S2048x4096, .bf16⟩
  | .hbm, ⟨8, _⟩ => ⟨S8x128x128, .f32⟩
  | .hbm, ⟨9, _⟩ => ⟨S8x8x128, .f32⟩
  | .hbm, ⟨10, _⟩ => ⟨S1x2048, .f32⟩
  | .local _ .vmem, ⟨0, _⟩ => ⟨S128x4096, .f32⟩
  | .local _ .vmem, ⟨1, _⟩ => ⟨S128x4096, .f32⟩
  | .local _ .vmem, ⟨2, _⟩ => ⟨S128x2048, .f32⟩
  | .local _ .vmem, ⟨3, _⟩ => ⟨S128x2048, .f32⟩
  | .local _ .vmem, ⟨4, _⟩ => ⟨S1x2048, .f32⟩
  | .local _ .vmem, ⟨5, _⟩ => ⟨S8x128x128, .f32⟩
  | .local _ .vmem, ⟨6, _⟩ => ⟨S128x8, .f32⟩
  | .local _ .vmem, ⟨7, _⟩ => ⟨S128x4096, .bf16⟩
  | .local _ .vmem, ⟨8, _⟩ => ⟨S128x4096, .bf16⟩
  | .local _ .vmem, ⟨9, _⟩ => ⟨S8x128x128, .f32⟩
  | .local _ .vmem, ⟨10, _⟩ => ⟨S8x8x128, .f32⟩
  | .local _ .vmem, ⟨11, _⟩ => ⟨S1x2048, .f32⟩
  | .local _ .vmem, ⟨12, _⟩ => ⟨S128x2048, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c0_i32 : BitVec 32 := 0#32
  let v84 : BitVec 1 := Scalar.cmpi .eq arg0 c0_i32
  let v437 : BitVec 32 := Scalar.extui v84
  let c0_i32_257 : BitVec 32 := 0#32
  let v438 : BitVec 1 := Scalar.cmpi .ne v437 c0_i32_257
  v438

def k0_cond3 (i : grid0.Coords) : BitVec 1 :=
  let arg0 : BitVec 32 := BitVec.ofNat 32 (i 0).val
  let c0_i32 : BitVec 32 := 0#32
  let v84 : BitVec 1 := Scalar.cmpi .eq arg0 c0_i32
  let v_true : BitVec 1 := 1#1
  let v439 : BitVec 1 := Scalar.xori v84 v_true
  let v440 : BitVec 32 := Scalar.extui v439
  let c0_i32_258 : BitVec 32 := 0#32
  let v441 : BitVec 1 := Scalar.cmpi .ne v440 c0_i32_258
  v441

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== KernelIdeal.lean ====
variable {F : FTy → Type} [FloatOps F] [Named F]
def κ : String → Option EReal := fun
  | "cube" => some ((8943 / 200000 : ℝ) : EReal)
  | "cube3" => some ((26829 / 200000 : ℝ) : EReal)
  | _ => none
-- ==== ReferenceIdeal.lean ====
abbrev S2048x4096 : Shape := ⟨2, ![2048, 4096]⟩
abbrev S2048 : Shape := ⟨1, ![2048]⟩
abbrev S8x128x128 : Shape := ⟨3, ![8, 128, 128]⟩
abbrev S8x128 : Shape := ⟨2, ![8, 128]⟩
abbrev S2048x2048 : Shape := ⟨2, ![2048, 2048]⟩
abbrev S_ : Shape := ⟨0, ![]⟩
abbrev S2048x1 : Shape := ⟨2, ![2048, 1]⟩
abbrev S1x2048 : Shape := ⟨2, ![1, 2048]⟩
abbrev S16x128x8x256 : Shape := ⟨4, ![16, 128, 8, 256]⟩
abbrev S128x128 : Shape := ⟨2, ![128, 128]⟩
abbrev S8x16x256x128 : Shape := ⟨4, ![8, 16, 256, 128]⟩
abbrev S128x8 : Shape := ⟨2, ![128, 8]⟩
abbrev S1x128x8x1 : Shape := ⟨4, ![1, 128, 8, 1]⟩
abbrev S8x1x128 : Shape := ⟨3, ![8, 1, 128]⟩
abbrev S8x8x128 : Shape := ⟨3, ![8, 8, 128]⟩

abbrev nBuf : Space → Nat
  | .hbm => 139
  | .vmem => 0
  | .smem => 0
  | _ => 0

abbrev hbmTy0_0 (i : Nat) : BufTy := match i % 128 with
  | 0 => ⟨S2048x4096, .f32⟩
  | 1 => ⟨S2048, .f32⟩
  | 2 => ⟨S8x128x128, .f32⟩
  | 3 => ⟨S8x128, .f32⟩
  | 4 => ⟨S2048x2048, .f32⟩
  | 5 => ⟨S_, .f32⟩
  | 6 => ⟨S_, .f32⟩
  | 7 => ⟨S_, .f32⟩
  | 8 => ⟨S2048x4096, .f32⟩
  | 9 => ⟨S2048x4096, .f32⟩
  | 10 => ⟨S2048x4096, .f32⟩
  | 11 => ⟨S_, .f32⟩
  | 12 => ⟨S2048x4096, .f32⟩
  | 13 => ⟨S2048x4096, .f32⟩
  | 14 => ⟨S2048x4096, .f32⟩
  | 15 => ⟨S2048x4096, .f32⟩
  | 16 => ⟨S2048x4096, .f32⟩
  | 17 => ⟨S_, .f32⟩
  | 18 => ⟨S2048x4096, .f32⟩
  | 19 => ⟨S2048x4096, .f32⟩
  | 20 => ⟨S2048x4096, .f32⟩
  | 21 => ⟨S_, .f32⟩
  | 22 => ⟨S2048x4096, .f32⟩
  | 23 => ⟨S2048x4096, .f32⟩
  | 24 => ⟨S_, .f32⟩
  | 25 => ⟨S2048x4096, .f32⟩
  | 26 => ⟨S2048x4096, .f32⟩
  | 27 => ⟨S2048x4096, .f32⟩
  | 28 => ⟨S_, .f32⟩
  | 29 => ⟨S2048x4096, .f32⟩
  | 30 => ⟨S2048x4096, .f32⟩
  | 31 => ⟨S_, .f32⟩
  | 32 => ⟨S2048x4096, .f32⟩
  | 33 => ⟨S2048x4096, .f32⟩
  | 34 => ⟨S2048x4096, .f32⟩
  | 35 => ⟨S2048x2048, .f32⟩
  | 36 => ⟨S2048x2048, .f32⟩
  | 37 => ⟨S2048x2048, .f32⟩
  | 38 => ⟨S_, .f32⟩
  | 39 => ⟨S2048, .f32⟩
  | 40 => ⟨S2048x1, .f32⟩
  | 41 => ⟨S_, .f32⟩
  | 42 => ⟨S2048x1, .f32⟩
  | 43 => ⟨S2048x1, .f32⟩
  | 44 => ⟨S_, .f32⟩
  | 45 => ⟨S2048x1, .f32⟩
  | 46 => ⟨S2048x1, .f32⟩
  | 47 => ⟨S2048x1, .f32⟩
  | 48 => ⟨S2048x1, .f32⟩
  | 49 => ⟨S_, .f32⟩
  | 50 => ⟨S2048x1, .f32⟩
  | 51 => ⟨S2048x1, .f32⟩
  | 52 => ⟨S2048x2048, .f32⟩
  | 53 => ⟨S2048x2048, .f32⟩
  | 54 => ⟨S1x2048, .f32⟩
  | 55 => ⟨S2048x2048, .f32⟩
  | 56 => ⟨S2048x2048, .f32⟩
  | 57 => ⟨S16x128x8x256, .f32⟩
  | 58 => ⟨S128x128, .i32⟩
  | 59 => ⟨S_, .i32⟩
  | 60 => ⟨S128x128, .i32⟩
  | 61 => ⟨S128x128, .i32⟩
  | 62 => ⟨S128x128, .i32⟩
  | 63 => ⟨S128x128, .i1⟩
  | 64 => ⟨S8x128x128, .i1⟩
  | 65 => ⟨S_, .f32⟩
  | 66 => ⟨S8x128x128, .f32⟩
  | 67 => ⟨S8x128x128, .f32⟩
  | 68 => ⟨S_, .f32⟩
  | 69 => ⟨S8x128x128, .f32⟩
  | 70 => ⟨S8x16x256x128, .f32⟩
  | 71 => ⟨S16x128x8x256, .f32⟩
  | 72 => ⟨S128x8, .f32⟩
  | 73 => ⟨S1x128x8x1, .f32⟩
  | 74 => ⟨S16x128x8x256, .f32⟩
  | 75 => ⟨S16x128x8x256, .f32⟩
  | 76 => ⟨S2048x2048, .f32⟩
  | 77 => ⟨S2048x2048, .f32⟩
  | 78 => ⟨S2048x2048, .f32⟩
  | 79 => ⟨S2048x2048, .f32⟩
  | 80 => ⟨S16x128x8x256, .f32⟩
  | 81 => ⟨S_, .f32⟩
  | 82 => ⟨S128x8, .f32⟩
  | 83 => ⟨S1x128x8x1, .f32⟩
  | 84 => ⟨S_, .f32⟩
  | 85 => ⟨S128x8, .f32⟩
  | 86 => ⟨S8x128, .f32⟩
  | 87 => ⟨S8x16x256x128, .f32⟩
  | 88 => ⟨S8x128x128, .f32⟩
  | 89 => ⟨S8x16x256x128, .f32⟩
  | 90 => ⟨S16x128x8x256, .f32⟩
  | 91 => ⟨S_, .f32⟩
  | 92 => ⟨S8x128x128, .f32⟩
  | 93 => ⟨S8x128x128, .f32⟩
  | 94 => ⟨S2048x2048, .f32⟩
  | 95 => ⟨S2048x2048, .f32⟩
  | 96 => ⟨S_, .f32⟩
  | 97 => ⟨S2048, .f32⟩
  | 98 => ⟨S1x2048, .f32⟩
  | 99 => ⟨S2048x2048, .f32⟩
  | 100 => ⟨S2048x2048, .f32⟩
  | 101 => ⟨S_, .f32⟩
  | 102 => ⟨S2048, .f32⟩
  | 103 => ⟨S2048x2048, .f32⟩
  | 104 => ⟨S_, .f32⟩
  | 105 => ⟨S2048, .f32⟩
  | 106 => ⟨S2048x1, .f32⟩
  | 107 => ⟨S2048x2048, .f32⟩
  | 108 => ⟨S2048x2048, .f32⟩
  | 109 => ⟨S2048x1, .f32⟩
  | 110 => ⟨S_, .f32⟩
  | 111 => ⟨S2048x1, .f32⟩
  | 112 => ⟨S2048x1, .f32⟩
  | 113 => ⟨S_, .f32⟩
  | 114 => ⟨S2048, .f32⟩
  | 115 => ⟨S2048x2048, .f32⟩
  | 116 => ⟨S2048x2048, .f32⟩
  | 117 => ⟨S2048x2048, .f32⟩
  | 118 => ⟨S2048x2048, .f32⟩
  | 119 => ⟨S2048x2048, .f32⟩
  | 120 => ⟨S2048x4096, .f32⟩
  | 121 => ⟨S2048x4096, .f32⟩
  | 122 => ⟨S2048x4096, .f32⟩
  | 123 => ⟨S_, .f32⟩
  | 124 => ⟨S2048x4096, .f32⟩
  | 125 => ⟨S2048x4096, .f32⟩
  | 126 => ⟨S2048x4096, .f32⟩
  | 127 => ⟨S_, .f32⟩
  | _ => ⟨S2048x4096, .f32⟩

abbrev hbmTy0_1 (i : Nat) : BufTy := match i % 128 with
  | 0 => ⟨S2048x4096, .f32⟩
  | 1 => ⟨S2048x4096, .f32⟩
  | 2 => ⟨S2048x4096, .f32⟩
  | 3 => ⟨S2048x4096, .f32⟩
  | 4 => ⟨S2048x4096, .f32⟩
  | 5 => ⟨S2048x4096, .f32⟩
  | 6 => ⟨S2048x4096, .f32⟩
  | 7 => ⟨S2048x4096, .bf16⟩
  | 8 => ⟨S8x1x128, .f32⟩
  | 9 => ⟨S8x8x128, .f32⟩
  | 10 => ⟨S1x2048, .f32⟩
  | _ => ⟨S2048x4096, .f32⟩

abbrev hbmTy (i : Nat) : BufTy := match i / 128 with
  | 0 => hbmTy0_0 i
  | 1 => hbmTy0_1 i
  | _ => ⟨S2048x4096, .f32⟩

abbrev bufTy : (tb : Table) → Fin (tcTables nBuf tb) → BufTy
  | .hbm, ⟨i, _⟩ => hbmTy i
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_10 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_call0_v0 : Ref sig .tc := ⟨.hbm, 58, rfl⟩
abbrev main_call0_c : Ref sig .tc := ⟨.hbm, 59, rfl⟩
abbrev main_call0_v1 : Ref sig .tc := ⟨.hbm, 60, rfl⟩
abbrev main_call0_v2 : Ref sig .tc := ⟨.hbm, 61, rfl⟩
abbrev main_call0_v3 : Ref sig .tc := ⟨.hbm, 62, rfl⟩
abbrev main_call0_v4 : Ref sig .tc := ⟨.hbm, 63, rfl⟩
abbrev main_v41_1 : Ref sig .tc := ⟨.hbm, 64, rfl⟩
abbrev main_call0_cst : Ref sig .tc := ⟨.hbm, 65, rfl⟩
abbrev main_call0_v6 : Ref sig .tc := ⟨.hbm, 66, rfl⟩
abbrev main_v41_0 : Ref sig .tc := ⟨.hbm, 67, rfl⟩
abbrev main_call0_cst_0 : Ref sig .tc := ⟨.hbm, 68, rfl⟩
abbrev main_v41_2 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_11 : Ref sig .tc := ⟨.hbm, 81, rfl⟩
abbrev main_v53 : Ref sig .tc := ⟨.hbm, 82, rfl⟩
abbrev main_v54 : Ref sig .tc := ⟨.hbm, 83, rfl⟩
abbrev main_cst_12 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_call1_cst : Ref sig .tc := ⟨.hbm, 91, rfl⟩
abbrev main_call1_v0 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_13 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_14 : Ref sig .tc := ⟨.hbm, 101, rfl⟩
abbrev main_v68 : Ref sig .tc := ⟨.hbm, 102, rfl⟩
abbrev main_v69 : Ref sig .tc := ⟨.hbm, 103, rfl⟩
abbrev main_cst_15 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_cst_16 : Ref sig .tc := ⟨.hbm, 110, rfl⟩
abbrev main_v75 : Ref sig .tc := ⟨.hbm, 111, rfl⟩
abbrev main_v76 : Ref sig .tc := ⟨.hbm, 112, rfl⟩
abbrev main_cst_17 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_cst_18 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_cst_19 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩

abbrev nD : Nat := 1
abbrev τ : Topo := Topo.v7x

variable {F : FTy → Type} [FloatOps F]
-- ==== Ffn.lean ====
abbrev S2048x2048 : Shape := ⟨2, ![2048, 2048]⟩
abbrev S2048x5632 : Shape := ⟨2, ![2048, 5632]⟩
abbrev S5632x2048 : Shape := ⟨2, ![5632, 2048]⟩
abbrev S8x704x2048 : Shape := ⟨3, ![8, 704, 2048]⟩
abbrev S8x1408x2048 : Shape := ⟨3, ![8, 1408, 2048]⟩
abbrev S2x8x2048x704 : Shape := ⟨4, ![2, 8, 2048, 704]⟩
abbrev S8x2048x704 : Shape := ⟨3, ![8, 2048, 704]⟩
abbrev S1024x2048 : Shape := ⟨2, ![1024, 2048]⟩
abbrev S1x704x2048 : Shape := ⟨3, ![1, 704, 2048]⟩
abbrev S2x1x1024x704 : Shape := ⟨4, ![2, 1, 1024, 704]⟩
abbrev S1x1024x704 : Shape := ⟨3, ![1, 1024, 704]⟩
abbrev S704x2048 : Shape := ⟨2, ![704, 2048]⟩
abbrev S1024x704 : Shape := ⟨2, ![1024, 704]⟩
abbrev S1x1x1024x704 : Shape := ⟨4, ![1, 1, 1024, 704]⟩
abbrev S8x512x704 : Shape := ⟨3, ![8, 512, 704]⟩
abbrev S8x704x1024 : Shape := ⟨3, ![8, 704, 1024]⟩
abbrev S512x1024 : Shape := ⟨2, ![512, 1024]⟩
abbrev S1x512x704 : Shape := ⟨3, ![1, 512, 704]⟩
abbrev S512x704 : Shape := ⟨2, ![512, 704]⟩
abbrev S1x704x1024 : Shape := ⟨3, ![1, 704, 1024]⟩
abbrev S704x1024 : Shape := ⟨2, ![704, 1024]⟩

abbrev nBuf : Space → Nat
  | .hbm => 20
  | .vmem => 26
  | .smem => 0
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S2048x2048, .f32⟩
  | .hbm, ⟨5, _⟩ => ⟨S2048x2048, .f32⟩
  | .hbm, ⟨6, _⟩ => ⟨S2048x2048, .bf16⟩
  | .hbm, ⟨7, _⟩ => ⟨S2048x2048, .bf16⟩
  | .hbm, ⟨8, _⟩ => ⟨S5632x2048, .f32⟩
  | .hbm, ⟨9, _⟩ => ⟨S8x704x2048, .f32⟩
  | .hbm, ⟨10, _⟩ => ⟨S5632x2048, .f32⟩
  | .hbm, ⟨11, _⟩ => ⟨S8x704x2048, .f32⟩
  | .hbm, ⟨12, _⟩ => ⟨S8x1408x2048, .f32⟩
  | .hbm, ⟨13, _⟩ => ⟨S8x1408x2048, .bf16⟩
  | .hbm, ⟨14, _⟩ => ⟨S8x704x2048, .f32⟩
  | .hbm, ⟨15, _⟩ => ⟨S8x704x2048, .bf16⟩
  | .hbm, ⟨16, _⟩ => ⟨S2x8x2048x704, .bf16⟩
  | .hbm, ⟨17, _⟩ => ⟨S8x2048x704, .bf16⟩
  | .hbm, ⟨18, _⟩ => ⟨S2048x2048, .f32⟩
  | .hbm, ⟨19, _⟩ => ⟨S2x8x2048x704, .bf16⟩
  | .local _ .vmem, ⟨0, _⟩ => ⟨S1024x2048, .bf16⟩
  | .local _ .vmem, ⟨1, _⟩ => ⟨S1024x2048, .bf16⟩
  | .local _ .vmem, ⟨2, _⟩ => ⟨S1x704x2048, .bf16⟩
  | .local _ .vmem, ⟨3, _⟩ => ⟨S1x704x2048, .bf16⟩
  | .local _ .vmem, ⟨4, _⟩ => ⟨S1x704x2048, .bf16⟩
  | .local _ .vmem, ⟨5, _⟩ => ⟨S1x704x2048, .bf16⟩
  | .local _ .vmem, ⟨6, _⟩ => ⟨S2x1x1024x704, .bf16⟩
  | .local _ .vmem, ⟨7, _⟩ => ⟨S2x1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S8x512x704, .bf16⟩
  | .local _ .vmem, ⟨11, _⟩ => ⟨S8x512x704, .bf16⟩
  | .local _ .vmem, ⟨12, _⟩ => ⟨S8x704x1024, .bf16⟩
  | .local _ .vmem, ⟨13, _⟩ => ⟨S8x704x1024, .bf16⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S1024x2048, .bf16⟩
  | .local _ .vmem, ⟨19, _⟩ => ⟨S1024x2048, .bf16⟩
  | .local _ .vmem, ⟨20, _⟩ => ⟨S1x704x2048, .bf16⟩
  | .local _ .vmem, ⟨21, _⟩ => ⟨S1x704x2048, .bf16⟩
  | .local _ .vmem, ⟨22, _⟩ => ⟨S2x1x1024x704, .bf16⟩
  | .local _ .vmem, ⟨23, _⟩ => ⟨S2x1x1024x704, .bf16⟩
  | .local _ .vmem, ⟨24, _⟩ => ⟨S2x1x1024x704, .bf16⟩
  | .local _ .vmem, ⟨25, _⟩ => ⟨S2x1x1024x704, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg1.toNat, c1_i32.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2x1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![4, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S8x512x704 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S8x704x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![2, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc2_transform_2 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc2_transform_3 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1x704x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2x1x1024x704 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S2x1x1024x704 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]
-- ==== FfnReferenceIdeal.lean ====
abbrev S2048x2048 : Shape := ⟨2, ![2048, 2048]⟩
abbrev S2048x5632 : Shape := ⟨2, ![2048, 5632]⟩
abbrev S5632x2048 : Shape := ⟨2, ![5632, 2048]⟩
abbrev S_ : Shape := ⟨0, ![]⟩
abbrev S1x2048x5632 : Shape := ⟨3, ![1, 2048, 5632]⟩
abbrev S2x2048x5632 : Shape := ⟨3, ![2, 2048, 5632]⟩
abbrev S2x2048x8x704 : Shape := ⟨4, ![2, 2048, 8, 704]⟩
abbrev S2x8x2048x704 : Shape := ⟨4, ![2, 8, 2048, 704]⟩

abbrev nBuf : Space → Nat
  | .hbm => 37
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S2048x2048, .f32⟩
  | .hbm, ⟨5, _⟩ => ⟨S2048x2048, .f32⟩
  | .hbm, ⟨6, _⟩ => ⟨S2048x5632, .f32⟩
  | .hbm, ⟨7, _⟩ => ⟨S2048x5632, .f32⟩
  | .hbm, ⟨8, _⟩ => ⟨S2048x5632, .f32⟩
  | .hbm, ⟨9, _⟩ => ⟨S2048x5632, .f32⟩
  | .hbm, ⟨10, _⟩ => ⟨S_, .f32⟩
  | .hbm, ⟨11, _⟩ => ⟨S2048x5632, .f32⟩
  | .hbm, ⟨12, _⟩ => ⟨S2048x5632, .f32⟩
  | .hbm, ⟨13, _⟩ => ⟨S_, .f32⟩
  | .hbm, ⟨14, _⟩ => ⟨S2048x5632, .f32⟩
  | .hbm, ⟨15, _⟩ => ⟨S2048x5632, .f32⟩
  | .hbm, ⟨16, _⟩ => ⟨S_, .f32⟩
  | .hbm, ⟨17, _⟩ => ⟨S2048x5632, .f32⟩
  | .hbm, ⟨18, _⟩ => ⟨S2048x5632, .f32⟩
  | .hbm, ⟨19, _⟩ => ⟨S2048x5632, .f32⟩
  | .hbm, ⟨20, _⟩ => ⟨S2048x5632, .f32⟩
  | .hbm, ⟨21, _⟩ => ⟨S2048x5632, .f32⟩
  | .hbm, ⟨22, _⟩ => ⟨S2048x2048, .f32⟩
  | .hbm, ⟨23, _⟩ => ⟨S2048x2048, .f32⟩
  | .hbm, ⟨24, _⟩ => ⟨S2048x5632, .f32⟩
  | .hbm, ⟨25, _⟩ => ⟨S2048x5632, .f32⟩
  | .hbm, ⟨26, _⟩ => ⟨S2048x5632, .f32⟩
  | .hbm, ⟨27, _⟩ => ⟨S2048x5632, .f32⟩
  | .hbm, ⟨28, _⟩ => ⟨S2048x5632, .f32⟩
  | .hbm, ⟨29, _⟩ => ⟨S2048x5632, .f32⟩
  | .hbm, ⟨30, _⟩ => ⟨S2048x5632, .f32⟩
  | .hbm, ⟨31, _⟩ => ⟨S1x2048x5632, .f32⟩
  | .hbm, ⟨32, _⟩ => ⟨S1x2048x5632, .f32⟩
  | .hbm, ⟨33, _⟩ => ⟨S2x2048x5632, .f32⟩
  | .hbm, ⟨34, _⟩ => ⟨S2x2048x8x704, .f32⟩
  | .hbm, ⟨35, _⟩ => ⟨S2x8x2048x704, .f32⟩
  | .hbm, ⟨36, _⟩ => ⟨S2x8x2048x704, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v2_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v2_1 : Ref sig .tc := ⟨.hbm, 19, rfl⟩
abbrev main_v2_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩

abbrev nD : Nat := 1
abbrev τ : Topo := Topo.v7x

variable {F : FTy → Type} [FloatOps F]
-- ==== FfnDx.lean ====
abbrev S2x8x2048x704 : Shape := ⟨4, ![2, 8, 2048, 704]⟩
abbrev S2048x5632 : Shape := ⟨2, ![2048, 5632]⟩
abbrev S4x4x2048x704 : Shape := ⟨4, ![4, 4, 2048, 704]⟩
abbrev S5632x2048 : Shape := ⟨2, ![5632, 2048]⟩
abbrev S8x704x2048 : Shape := ⟨3, ![8, 704, 2048]⟩
abbrev S8x1408x2048 : Shape := ⟨3, ![8, 1408, 2048]⟩
abbrev S2048x2048 : Shape := ⟨2, ![2048, 2048]⟩
abbrev S1x4x1024x704 : Shape := ⟨4, ![1, 4, 1024, 704]⟩
abbrev S4x704x1024 : Shape := ⟨3, ![4, 704, 1024]⟩
abbrev S1024x1024 : Shape := ⟨2, ![1024, 1024]⟩
abbrev S1x1x1024x704 : Shape := ⟨4, ![1, 1, 1024, 704]⟩
abbrev S1024x704 : Shape := ⟨2, ![1024, 704]⟩
abbrev S1x704x1024 : Shape := ⟨3, ![1, 704, 1024]⟩
abbrev S704x1024 : Shape := ⟨2, ![704, 1024]⟩

abbrev nBuf : Space → Nat
  | .hbm => 11
  | .vmem => 7
  | .smem => 0
  | _ => 0

abbrev bufTy : (tb : Table) → Fin (tcTables nBuf tb) → BufTy
  | .hbm, ⟨0, _⟩ => ⟨S2x8x2048x704, .bf16⟩
  | .hbm, ⟨1, _⟩ => ⟨S2048x5632, .f32⟩
  | .hbm, ⟨2, _⟩ => ⟨S2048x5632, .f32⟩
  | .hbm, ⟨3, _⟩ => ⟨S4x4x2048x704, .bf16⟩
  | .hbm, ⟨4, _⟩ => ⟨S5632x2048, .f32⟩
  | .hbm, ⟨5, _⟩ => ⟨S8x704x2048, .f32⟩
  | .hbm, ⟨6, _⟩ => ⟨S5632x2048, .f32⟩
  | .hbm, ⟨7, _⟩ => ⟨S8x704x2048, .f32⟩
  | .hbm, ⟨8, _⟩ => ⟨S8x1408x2048, .f32⟩
  | .hbm, ⟨9, _⟩ => ⟨S8x1408x2048, .bf16⟩
  | .hbm, ⟨10, _⟩ => ⟨S2048x2048, .f32⟩
  | .local _ .vmem, ⟨0, _⟩ => ⟨S1x4x1024x704, .bf16⟩
  | .local _ .vmem, ⟨1, _⟩ => ⟨S1x4x1024x704, .bf16⟩
  | .local _ .vmem, ⟨2, _⟩ => ⟨S4x704x1024, .bf16⟩
  | .local _ .vmem, ⟨3, _⟩ => ⟨S4x704x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2x8x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v29 : BitVec 1 := Scalar.cmpi .eq arg2 c3_i32
  let v30 : BitVec 32 := Scalar.extui v29
  let c0_i32_30 : BitVec 32 := 0#32
  let v31 : BitVec 1 := Scalar.cmpi .ne v30 c0_i32_30
  v31

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg2 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.divsi arg2 c2_i32_3
  let c0_i32_4 : BitVec 32 := 0#32
  let v11 : BitVec 1 := Scalar.cmpi .sgt arg2 c0_i32_4
  let v12 : BitVec 32 := Scalar.extui v11
  let c0_i32_5 : BitVec 32 := 0#32
  let v13 : BitVec 1 := Scalar.cmpi .slt arg2 c0_i32_5
  let v14 : BitVec 32 := Scalar.extui v13
  let v15 : BitVec 32 := Scalar.subi v12 v14
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg2 c2_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  ![v9.toNat, v26.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x4x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDxReferenceIdeal.lean ====
abbrev S2x8x2048x704 : Shape := ⟨4, ![2, 8, 2048, 704]⟩
abbrev S2048x5632 : Shape := ⟨2, ![2048, 5632]⟩
abbrev S_ : Shape := ⟨0, ![]⟩
abbrev S2048x2048 : Shape := ⟨2, ![2048, 2048]⟩
abbrev S2x2048x8x704 : Shape := ⟨4, ![2, 2048, 8, 704]⟩
abbrev S2x2048x5632 : Shape := ⟨3, ![2, 2048, 5632]⟩
abbrev S1x2048x5632 : Shape := ⟨3, ![1, 2048, 5632]⟩

abbrev nBuf : Space → Nat
  | .hbm => 17
  | .vmem => 0
  | .smem => 0
  | _ => 0

abbrev bufTy : (tb : Table) → Fin (tcTables nBuf tb) → BufTy
  | .hbm, ⟨0, _⟩ => ⟨S2x8x2048x704, .bf16⟩
  | .hbm, ⟨1, _⟩ => ⟨S2048x5632, .f32⟩
  | .hbm, ⟨2, _⟩ => ⟨S2048x5632, .f32⟩
  | .hbm, ⟨3, _⟩ => ⟨S_, .f32⟩
  | .hbm, ⟨4, _⟩ => ⟨S2048x2048, .f32⟩
  | .hbm, ⟨5, _⟩ => ⟨S2048x5632, .f32⟩
  | .hbm, ⟨6, _⟩ => ⟨S2048x5632, .f32⟩
  | .hbm, ⟨7, _⟩ => ⟨S2x8x2048x704, .f32⟩
  | .hbm, ⟨8, _⟩ => ⟨S2x2048x8x704, .f32⟩
  | .hbm, ⟨9, _⟩ => ⟨S2x2048x5632, .f32⟩
  | .hbm, ⟨10, _⟩ => ⟨S1x2048x5632, .f32⟩
  | .hbm, ⟨11, _⟩ => ⟨S2048x5632, .f32⟩
  | .hbm, ⟨12, _⟩ => ⟨S1x2048x5632, .f32⟩
  | .hbm, ⟨13, _⟩ => ⟨S2048x5632, .f32⟩
  | .hbm, ⟨14, _⟩ => ⟨S2048x2048, .f32⟩
  | .hbm, ⟨15, _⟩ => ⟨S2048x2048, .f32⟩
  | .hbm, ⟨16, _⟩ => ⟨S2048x2048, .f32⟩
  | _, _ => ⟨S2x8x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== FfnDwDown.lean ====
abbrev S8x2048x704 : Shape := ⟨3, ![8, 2048, 704]⟩
abbrev S2048x2048 : Shape := ⟨2, ![2048, 2048]⟩
abbrev S4x2048x704 : Shape := ⟨3, ![4, 2048, 704]⟩
abbrev S_ : Shape := ⟨0, ![]⟩
abbrev S1 : Shape := ⟨1, ![1]⟩
abbrev S2 : Shape := ⟨1, ![2]⟩
abbrev S4x2x2048x704 : Shape := ⟨4, ![4, 2, 2048, 704]⟩
abbrev S4x704x2048 : Shape := ⟨3, ![4, 704, 2048]⟩
abbrev S1x1x2048x704 : Shape := ⟨4, ![1, 1, 2048, 704]⟩
abbrev S2048x1024 : Shape := ⟨2, ![2048, 1024]⟩
abbrev S1x2048x704 : Shape := ⟨3, ![1, 2048, 704]⟩
abbrev S1x704x1024 : Shape := ⟨3, ![1, 704, 1024]⟩
abbrev S2048x704 : Shape := ⟨2, ![2048, 704]⟩
abbrev S704x1024 : Shape := ⟨2, ![704, 1024]⟩

abbrev nBuf : Space → Nat
  | .hbm => 11
  | .vmem => 10
  | .smem => 1
  | _ => 0

abbrev bufTy : (tb : Table) → Fin (tcTables nBuf tb) → BufTy
  | .hbm, ⟨0, _⟩ => ⟨S8x2048x704, .bf16⟩
  | .hbm, ⟨1, _⟩ => ⟨S2048x2048, .bf16⟩
  | .hbm, ⟨2, _⟩ => ⟨S4x2048x704, .bf16⟩
  | .hbm, ⟨3, _⟩ => ⟨S2048x2048, .bf16⟩
  | .hbm, ⟨4, _⟩ => ⟨S_, .i32⟩
  | .hbm, ⟨5, _⟩ => ⟨S_, .i32⟩
  | .hbm, ⟨6, _⟩ => ⟨S1, .i32⟩
  | .hbm, ⟨7, _⟩ => ⟨S1, .i32⟩
  | .hbm, ⟨8, _⟩ => ⟨S2, .i32⟩
  | .hbm, ⟨9, _⟩ => ⟨S4x2x2048x704, .bf16⟩
  | .hbm, ⟨10, _⟩ => ⟨S4x704x2048, .bf16⟩
  | .local _ .vmem, ⟨0, _⟩ => ⟨S1x1x2048x704, .bf16⟩
  | .local _ .vmem, ⟨1, _⟩ => ⟨S1x1x2048x704, .bf16⟩
  | .local _ .vmem, ⟨2, _⟩ => ⟨S2048x1024, .bf16⟩
  | .local _ .vmem, ⟨3, _⟩ => ⟨S2048x1024, .bf16⟩
  | .local _ .vmem, ⟨4, _⟩ => ⟨S1x2048x704, .bf16⟩
  | .local _ .vmem, ⟨5, _⟩ => ⟨S1x2048x704, .bf16⟩
  | .local _ .vmem, ⟨6, _⟩ => ⟨S2048x1024, .bf16⟩
  | .local _ .vmem, ⟨7, _⟩ => ⟨S2048x1024, .bf16⟩
  | .local _ .vmem, ⟨8, _⟩ => ⟨S1x704x1024, .bf16⟩
  | .local _ .vmem, ⟨9, _⟩ => ⟨S1x704x1024, .bf16⟩
  | .local _ .smem, ⟨0, _⟩ => ⟨S2, .i32⟩
  | _, _ => ⟨S8x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v4 : Ref sig .tc := ⟨.hbm, 9, rfl⟩
abbrev main_v5 : Ref sig .tc := ⟨.hbm, 10, rfl⟩
abbrev main_v3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 2], ![false, false]⟩

abbrev pre0 : Pipeline.Prefetch sig := ⟨1, ![main_v3.idx], fun | 0 => main_v3.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S2) ![0] S1.size inb_S2_S1_0) numel1_S1
  let c0_i32 : BitVec 32 := 0#32
  let c0_i32_0 : BitVec 32 := 0#32
  let c0_i32_1 : BitVec 32 := 0#32
  ![arg0.toNat, v0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FfnDwDownReferenceIdeal.lean ====
abbrev S8x2048x704 : Shape := ⟨3, ![8, 2048, 704]⟩
abbrev S2048x2048 : Shape := ⟨2, ![2048, 2048]⟩
abbrev S4x2048x704 : Shape := ⟨3, ![4, 2048, 704]⟩
abbrev S4x2x2048x704 : Shape := ⟨4, ![4, 2, 2048, 704]⟩
abbrev S4x1x2048x704 : Shape := ⟨4, ![4, 1, 2048, 704]⟩
abbrev S1x4x2048x704 : Shape := ⟨4, ![1, 4, 2048, 704]⟩
abbrev S2x4x2048x704 : Shape := ⟨4, ![2, 4, 2048, 704]⟩
abbrev S2x2048x4x704 : Shape := ⟨4, ![2, 2048, 4, 704]⟩
abbrev S2x2048x2816 : Shape := ⟨3, ![2, 2048, 2816]⟩
abbrev S_ : Shape := ⟨0, ![]⟩
abbrev S2816x2048 : Shape := ⟨2, ![2816, 2048]⟩
abbrev S2x2048x2048 : Shape := ⟨3, ![2, 2048, 2048]⟩
abbrev S1x2048x2048 : Shape := ⟨3, ![1, 2048, 2048]⟩
abbrev S2048x2816 : Shape := ⟨2, ![2048, 2816]⟩
abbrev S4x704x2048 : Shape := ⟨3, ![4, 704, 2048]⟩

abbrev nBuf : Space → Nat
  | .hbm => 24
  | .vmem => 0
  | .smem => 0
  | _ => 0

abbrev bufTy : (tb : Table) → Fin (tcTables nBuf tb) → BufTy
  | .hbm, ⟨0, _⟩ => ⟨S8x2048x704, .bf16⟩
  | .hbm, ⟨1, _⟩ => ⟨S2048x2048, .bf16⟩
  | .hbm, ⟨2, _⟩ => ⟨S4x2048x704, .bf16⟩
  | .hbm, ⟨3, _⟩ => ⟨S2048x2048, .bf16⟩
  | .hbm, ⟨4, _⟩ => ⟨S4x2x2048x704, .bf16⟩
  | .hbm, ⟨5, _⟩ => ⟨S4x1x2048x704, .bf16⟩
  | .hbm, ⟨6, _⟩ => ⟨S4x2048x704, .bf16⟩
  | .hbm, ⟨7, _⟩ => ⟨S1x4x2048x704, .bf16⟩
  | .hbm, ⟨8, _⟩ => ⟨S1x4x2048x704, .bf16⟩
  | .hbm, ⟨9, _⟩ => ⟨S2x4x2048x704, .bf16⟩
  | .hbm, ⟨10, _⟩ => ⟨S2x4x2048x704, .f32⟩
  | .hbm, ⟨11, _⟩ => ⟨S2x2048x4x704, .f32⟩
  | .hbm, ⟨12, _⟩ => ⟨S2x2048x2816, .f32⟩
  | .hbm, ⟨13, _⟩ => ⟨S_, .f32⟩
  | .hbm, ⟨14, _⟩ => ⟨S2816x2048, .f32⟩
  | .hbm, ⟨15, _⟩ => ⟨S2x2048x2048, .f32⟩
  | .hbm, ⟨16, _⟩ => ⟨S1x2048x2048, .bf16⟩
  | .hbm, ⟨17, _⟩ => ⟨S1x2048x2048, .bf16⟩
  | .hbm, ⟨18, _⟩ => ⟨S2x2048x2048, .bf16⟩
  | .hbm, ⟨19, _⟩ => ⟨S2x2048x2048, .f32⟩
  | .hbm, ⟨20, _⟩ => ⟨S2048x2816, .f32⟩
  | .hbm, ⟨21, _⟩ => ⟨S2816x2048, .f32⟩
  | .hbm, ⟨22, _⟩ => ⟨S4x704x2048, .f32⟩
  | .hbm, ⟨23, _⟩ => ⟨S4x704x2048, .bf16⟩
  | _, _ => ⟨S8x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩

abbrev nD : Nat := 1
abbrev τ : Topo := Topo.v7x

variable {F : FTy → Type} [FloatOps F]
-- ==== FfnDwUp.lean ====
abbrev S2x8x2048x704 : Shape := ⟨4, ![2, 8, 2048, 704]⟩
abbrev S2048x2048 : Shape := ⟨2, ![2048, 2048]⟩
abbrev S2x4x2048x704 : Shape := ⟨4, ![2, 4, 2048, 704]⟩
abbrev S_ : Shape := ⟨0, ![]⟩
abbrev S1 : Shape := ⟨1, ![1]⟩
abbrev S2 : Shape := ⟨1, ![2]⟩
abbrev S2x4x2x2048x704 : Shape := ⟨5, ![2, 4, 2, 2048, 704]⟩
abbrev S4x1408x2048 : Shape := ⟨3, ![4, 1408, 2048]⟩
abbrev S1x1x1x2048x704 : Shape := ⟨5, ![1, 1, 1, 2048, 704]⟩
abbrev S2048x1024 : Shape := ⟨2, ![2048, 1024]⟩
abbrev S1x1x2048x704 : Shape := ⟨4, ![1, 1, 2048, 704]⟩
abbrev S1x704x1024 : Shape := ⟨3, ![1, 704, 1024]⟩
abbrev S2048x704 : Shape := ⟨2, ![2048, 704]⟩
abbrev S704x1024 : Shape := ⟨2, ![704, 1024]⟩

abbrev nBuf : Space → Nat
  | .hbm => 11
  | .vmem => 10
  | .smem => 1
  | _ => 0

abbrev bufTy : (tb : Table) → Fin (tcTables nBuf tb) → BufTy
  | .hbm, ⟨0, _⟩ => ⟨S2x8x2048x704, .bf16⟩
  | .hbm, ⟨1, _⟩ => ⟨S2048x2048, .bf16⟩
  | .hbm, ⟨2, _⟩ => ⟨S2x4x2048x704, .bf16⟩
  | .hbm, ⟨3, _⟩ => ⟨S2048x2048, .bf16⟩
  | .hbm, ⟨4, _⟩ => ⟨S_, .i32⟩
  | .hbm, ⟨5, _⟩ => ⟨S_, .i32⟩
  | .hbm, ⟨6, _⟩ => ⟨S1, .i32⟩
  | .hbm, ⟨7, _⟩ => ⟨S1, .i32⟩
  | .hbm, ⟨8, _⟩ => ⟨S2, .i32⟩
  | .hbm, ⟨9, _⟩ => ⟨S2x4x2x2048x704, .bf16⟩
  | .hbm, ⟨10, _⟩ => ⟨S4x1408x2048, .bf16⟩
  | .local _ .vmem, ⟨0, _⟩ => ⟨S1x1x1x2048x704, .bf16⟩
  | .local _ .vmem, ⟨1, _⟩ => ⟨S1x1x1x2048x704, .bf16⟩
  | .local _ .vmem, ⟨2, _⟩ => ⟨S2048x1024, .bf16⟩
  | .local _ .vmem, ⟨3, _⟩ => ⟨S2048x1024, .bf16⟩
  | .local _ .vmem, ⟨4, _⟩ => ⟨S1x1x2048x704, .bf16⟩
  | .local _ .vmem, ⟨5, _⟩ => ⟨S1x1x2048x704, .bf16⟩
  | .local _ .vmem, ⟨6, _⟩ => ⟨S2048x1024, .bf16⟩
  | .local _ .vmem, ⟨7, _⟩ => ⟨S2048x1024, .bf16⟩
  | .local _ .vmem, ⟨8, _⟩ => ⟨S1x704x1024, .bf16⟩
  | .local _ .vmem, ⟨9, _⟩ => ⟨S1x704x1024, .bf16⟩
  | .local _ .smem, ⟨0, _⟩ => ⟨S2, .i32⟩
  | _, _ => ⟨S2x8x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v4 : Ref sig .tc := ⟨.hbm, 9, rfl⟩
abbrev main_v5 : Ref sig .tc := ⟨.hbm, 10, rfl⟩
abbrev main_v3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 4, 2], ![false, false, false]⟩

abbrev pre0 : Pipeline.Prefetch sig := ⟨1, ![main_v3.idx], fun | 0 => main_v3.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S2) ![0] S1.size inb_S2_S1_0) numel1_S1
  let c0_i32 : BitVec 32 := 0#32
  let c0_i32_0 : BitVec 32 := 0#32
  let c0_i32_1 : BitVec 32 := 0#32
  ![arg0.toNat, arg1.toNat, v0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat, arg2.toNat]

abbrev stage0_0 : Fin 2 → Memref sig .tc .vmem S1x1x1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== FfnDwUpReferenceIdeal.lean ====
abbrev S2x8x2048x704 : Shape := ⟨4, ![2, 8, 2048, 704]⟩
abbrev S2048x2048 : Shape := ⟨2, ![2048, 2048]⟩
abbrev S2x4x2048x704 : Shape := ⟨4, ![2, 4, 2048, 704]⟩
abbrev S2x4x2x2048x704 : Shape := ⟨5, ![2, 4, 2, 2048, 704]⟩
abbrev S2x4x1x2048x704 : Shape := ⟨5, ![2, 4, 1, 2048, 704]⟩
abbrev S1x2x4x2048x704 : Shape := ⟨5, ![1, 2, 4, 2048, 704]⟩
abbrev S2x2x4x2048x704 : Shape := ⟨5, ![2, 2, 4, 2048, 704]⟩
abbrev S2x2x2048x4x704 : Shape := ⟨5, ![2, 2, 2048, 4, 704]⟩
abbrev S2x2x2048x2816 : Shape := ⟨4, ![2, 2, 2048, 2816]⟩
abbrev S1x2048x2048 : Shape := ⟨3, ![1, 2048, 2048]⟩
abbrev S2x2048x2048 : Shape := ⟨3, ![2, 2048, 2048]⟩
abbrev S_ : Shape := ⟨0, ![]⟩
abbrev S2048x2816 : Shape := ⟨2, ![2048, 2816]⟩
abbrev S2x2048x2816 : Shape := ⟨3, ![2, 2048, 2816]⟩
abbrev S1x2x2048x2816 : Shape := ⟨4, ![1, 2, 2048, 2816]⟩
abbrev S2816x2048 : Shape := ⟨2, ![2816, 2048]⟩
abbrev S4x704x2048 : Shape := ⟨3, ![4, 704, 2048]⟩
abbrev S4x1408x2048 : Shape := ⟨3, ![4, 1408, 2048]⟩

abbrev nBuf : Space → Nat
  | .hbm => 35
  | .vmem => 0
  | .smem => 0
  | _ => 0

abbrev bufTy : (tb : Table) → Fin (tcTables nBuf tb) → BufTy
  | .hbm, ⟨0, _⟩ => ⟨S2x8x2048x704, .bf16⟩
  | .hbm, ⟨1, _⟩ => ⟨S2048x2048, .bf16⟩
  | .hbm, ⟨2, _⟩ => ⟨S2x4x2048x704, .bf16⟩
  | .hbm, ⟨3, _⟩ => ⟨S2048x2048, .bf16⟩
  | .hbm, ⟨4, _⟩ => ⟨S2x4x2x2048x704, .bf16⟩
  | .hbm, ⟨5, _⟩ => ⟨S2x4x1x2048x704, .bf16⟩
  | .hbm, ⟨6, _⟩ => ⟨S2x4x2048x704, .bf16⟩
  | .hbm, ⟨7, _⟩ => ⟨S1x2x4x2048x704, .bf16⟩
  | .hbm, ⟨8, _⟩ => ⟨S1x2x4x2048x704, .bf16⟩
  | .hbm, ⟨9, _⟩ => ⟨S2x2x4x2048x704, .bf16⟩
  | .hbm, ⟨10, _⟩ => ⟨S2x2x4x2048x704, .f32⟩
  | .hbm, ⟨11, _⟩ => ⟨S2x2x2048x4x704, .f32⟩
  | .hbm, ⟨12, _⟩ => ⟨S2x2x2048x2816, .f32⟩
  | .hbm, ⟨13, _⟩ => ⟨S1x2048x2048, .bf16⟩
  | .hbm, ⟨14, _⟩ => ⟨S1x2048x2048, .bf16⟩
  | .hbm, ⟨15, _⟩ => ⟨S2x2048x2048, .bf16⟩
  | .hbm, ⟨16, _⟩ => ⟨S2x2048x2048, .f32⟩
  | .hbm, ⟨17, _⟩ => ⟨S_, .f32⟩
  | .hbm, ⟨18, _⟩ => ⟨S2048x2816, .f32⟩
  | .hbm, ⟨19, _⟩ => ⟨S2x2048x2816, .f32⟩
  | .hbm, ⟨20, _⟩ => ⟨S2x2048x2816, .f32⟩
  | .hbm, ⟨21, _⟩ => ⟨S1x2x2048x2816, .f32⟩
  | .hbm, ⟨22, _⟩ => ⟨S2x2048x2816, .f32⟩
  | .hbm, ⟨23, _⟩ => ⟨S1x2x2048x2816, .f32⟩
  | .hbm, ⟨24, _⟩ => ⟨S2x2048x2816, .f32⟩
  | .hbm, ⟨25, _⟩ => ⟨S2816x2048, .f32⟩
  | .hbm, ⟨26, _⟩ => ⟨S2048x2816, .f32⟩
  | .hbm, ⟨27, _⟩ => ⟨S2816x2048, .f32⟩
  | .hbm, ⟨28, _⟩ => ⟨S2048x2816, .f32⟩
  | .hbm, ⟨29, _⟩ => ⟨S2816x2048, .f32⟩
  | .hbm, ⟨30, _⟩ => ⟨S4x704x2048, .f32⟩
  | .hbm, ⟨31, _⟩ => ⟨S2816x2048, .f32⟩
  | .hbm, ⟨32, _⟩ => ⟨S4x704x2048, .f32⟩
  | .hbm, ⟨33, _⟩ => ⟨S4x1408x2048, .f32⟩
  | .hbm, ⟨34, _⟩ => ⟨S4x1408x2048, .bf16⟩
  | _, _ => ⟨S2x8x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩

abbrev nD : Nat := 1
abbrev τ : Topo := Topo.v7x

variable {F : FTy → Type} [FloatOps F]
-- ==== Mixer.lean ====
abbrev S2048x2048 : Shape := ⟨2, ![2048, 2048]⟩
abbrev S2048x4096 : Shape := ⟨2, ![2048, 4096]⟩
abbrev S2048 : Shape := ⟨1, ![2048]⟩
abbrev S8x128x128 : Shape := ⟨3, ![8, 128, 128]⟩
abbrev S8x128 : Shape := ⟨2, ![8, 128]⟩
abbrev S2048x8x512 : Shape := ⟨3, ![2048, 8, 512]⟩
abbrev S8x2048x512 : Shape := ⟨3, ![8, 2048, 512]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩
abbrev S1x2048 : Shape := ⟨2, ![1, 2048]⟩
abbrev S128x8 : Shape := ⟨2, ![128, 8]⟩
abbrev S128x4096 : Shape := ⟨2, ![128, 4096]⟩
abbrev S128x2048 : Shape := ⟨2, ![128, 2048]⟩
abbrev S128 : Shape := ⟨1, ![128]⟩
abbrev S128x1 : Shape := ⟨2, ![128, 1]⟩
abbrev S128x128 : Shape := ⟨2, ![128, 128]⟩
abbrev S1x128x128 : Shape := ⟨3, ![1, 128, 128]⟩
abbrev S128x256 : Shape := ⟨2, ![128, 256]⟩
abbrev S8x256x2048 : Shape := ⟨3, ![8, 256, 2048]⟩
abbrev S8x256x1024 : Shape := ⟨3, ![8, 256, 1024]⟩
abbrev S1024x1024 : Shape := ⟨2, ![1024, 1024]⟩
abbrev S2048x1024 : Shape := ⟨2, ![2048, 1024]⟩

abbrev nBuf : Space → Nat
  | .hbm => 18
  | .vmem => 21
  | .smem => 0
  | _ => 0

abbrev bufTy : (tb : Table) → Fin (tcTables nBuf tb) → BufTy
  | .hbm, ⟨0, _⟩ => ⟨S2048x2048, .f32⟩
  | .hbm, ⟨1, _⟩ => ⟨S2048x4096, .f32⟩
  | .hbm, ⟨2, _⟩ => ⟨S2048, .f32⟩
  | .hbm, ⟨3, _⟩ => ⟨S8x128x128, .f32⟩
  | .hbm, ⟨4, _⟩ => ⟨S8x128, .f32⟩
  | .hbm, ⟨5, _⟩ => ⟨S2048x2048, .f32⟩
  | .hbm, ⟨6, _⟩ => ⟨S2048x2048, .f32⟩
  | .hbm, ⟨7, _⟩ => ⟨S2048x2048, .bf16⟩
  | .hbm, ⟨8, _⟩ => ⟨S2048x8x512, .f32⟩
  | .hbm, ⟨9, _⟩ => ⟨S8x2048x512, .f32⟩
  | .hbm, ⟨10, _⟩ => ⟨S8x2048x512, .bf16⟩
  | .hbm, ⟨11, _⟩ => ⟨S2048x4096, .f32⟩
  | .hbm, ⟨12, _⟩ => ⟨S1x2048, .f32⟩
  | .hbm, ⟨13, _⟩ => ⟨S128x8, .f32⟩
  | .hbm, ⟨14, _⟩ => ⟨S2048x2048, .bf16⟩
  | .hbm, ⟨15, _⟩ => ⟨S8x256x2048, .f32⟩
  | .hbm, ⟨16, _⟩ => ⟨S8x256x2048, .bf16⟩
  | .hbm, ⟨17, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1024x512, .f32⟩
  | .local _ .vmem, ⟨5, _⟩ => ⟨S1024x512, .f32⟩
  | .local _ .vmem, ⟨6, _⟩ => ⟨S128x4096, .f32⟩
  | .local _ .vmem, ⟨7, _⟩ => ⟨S128x4096, .f32⟩
  | .local _ .vmem, ⟨8, _⟩ => ⟨S1x2048, .f32⟩
  | .local _ .vmem, ⟨9, _⟩ => ⟨S8x128x128, .f32⟩
  | .local _ .vmem, ⟨10, _⟩ => ⟨S128x8, .f32⟩
  | .local _ .vmem, ⟨11, _⟩ => ⟨S128x2048, .bf16⟩
  | .local _ .vmem, ⟨12, _⟩ => ⟨S128x2048, .bf16⟩
  | .local _ .vmem, ⟨13, _⟩ => ⟨S1024x2048, .bf16⟩
  | .local _ .vmem, ⟨14, _⟩ => ⟨S1024x2048, .bf16⟩
  | .local _ .vmem, ⟨15, _⟩ => ⟨S8x256x1024, .bf16⟩
  | .local _ .vmem, ⟨16, _⟩ => ⟨S8x256x1024, .bf16⟩
  | .local _ .vmem, ⟨17, _⟩ => ⟨S1024x1024, .f32⟩
  | .local _ .vmem, ⟨18, _⟩ => ⟨S1024x1024, .f32⟩
  | .local _ .vmem, ⟨19, _⟩ => ⟨S1024x1024, .f32⟩
  | .local _ .vmem, ⟨20, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem3_1 : DmaSem sig := 20

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S8x128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x8 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S128x2048 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨2, ![2, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S8x256x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]
-- ==== MixerIdeal.lean ====
variable {F : FTy → Type} [FloatOps F] [Named F]
def κ : String → Option EReal := fun
  | "cube" => some ((8943 / 200000 : ℝ) : EReal)
  | "cube3" => some ((26829 / 200000 : ℝ) : EReal)
  | _ => none
-- ==== MixerReferenceIdeal.lean ====
abbrev S2048x2048 : Shape := ⟨2, ![2048, 2048]⟩
abbrev S2048x4096 : Shape := ⟨2, ![2048, 4096]⟩
abbrev S2048 : Shape := ⟨1, ![2048]⟩
abbrev S8x128x128 : Shape := ⟨3, ![8, 128, 128]⟩
abbrev S8x128 : Shape := ⟨2, ![8, 128]⟩
abbrev S_ : Shape := ⟨0, ![]⟩
abbrev S2048x1 : Shape := ⟨2, ![2048, 1]⟩
abbrev S1x2048 : Shape := ⟨2, ![1, 2048]⟩
abbrev S16x128x8x256 : Shape := ⟨4, ![16, 128, 8, 256]⟩
abbrev S128x128 : Shape := ⟨2, ![128, 128]⟩
abbrev S8x16x256x128 : Shape := ⟨4, ![8, 16, 256, 128]⟩
abbrev S128x8 : Shape := ⟨2, ![128, 8]⟩
abbrev S1x128x8x1 : Shape := ⟨4, ![1, 128, 8, 1]⟩

abbrev nBuf : Space → Nat
  | .hbm => 67
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x4096, .f32⟩
  | .hbm, ⟨2, _⟩ => ⟨S2048, .f32⟩
  | .hbm, ⟨3, _⟩ => ⟨S8x128x128, .f32⟩
  | .hbm, ⟨4, _⟩ => ⟨S8x128, .f32⟩
  | .hbm, ⟨5, _⟩ => ⟨S2048x2048, .f32⟩
  | .hbm, ⟨6, _⟩ => ⟨S2048x2048, .f32⟩
  | .hbm, ⟨7, _⟩ => ⟨S2048x4096, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S2048x4096, .f32⟩
  | .hbm, ⟨12, _⟩ => ⟨S2048x4096, .f32⟩
  | .hbm, ⟨13, _⟩ => ⟨S2048x4096, .f32⟩
  | .hbm, ⟨14, _⟩ => ⟨S2048x4096, .f32⟩
  | .hbm, ⟨15, _⟩ => ⟨S2048x4096, .f32⟩
  | .hbm, ⟨16, _⟩ => ⟨S_, .f32⟩
  | .hbm, ⟨17, _⟩ => ⟨S2048x4096, .f32⟩
  | .hbm, ⟨18, _⟩ => ⟨S2048x4096, .f32⟩
  | .hbm, ⟨19, _⟩ => ⟨S2048x4096, .f32⟩
  | .hbm, ⟨20, _⟩ => ⟨S_, .f32⟩
  | .hbm, ⟨21, _⟩ => ⟨S2048x4096, .f32⟩
  | .hbm, ⟨22, _⟩ => ⟨S2048x4096, .f32⟩
  | .hbm, ⟨23, _⟩ => ⟨S_, .f32⟩
  | .hbm, ⟨24, _⟩ => ⟨S2048x4096, .f32⟩
  | .hbm, ⟨25, _⟩ => ⟨S2048x4096, .f32⟩
  | .hbm, ⟨26, _⟩ => ⟨S2048x4096, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S_, .f32⟩
  | .hbm, ⟨34, _⟩ => ⟨S2048x1, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S2048x1, .f32⟩
  | .hbm, ⟨40, _⟩ => ⟨S2048x2048, .f32⟩
  | .hbm, ⟨41, _⟩ => ⟨S2048x2048, .f32⟩
  | .hbm, ⟨42, _⟩ => ⟨S1x2048, .f32⟩
  | .hbm, ⟨43, _⟩ => ⟨S2048x2048, .f32⟩
  | .hbm, ⟨44, _⟩ => ⟨S2048x2048, .f32⟩
  | .hbm, ⟨45, _⟩ => ⟨S16x128x8x256, .f32⟩
  | .hbm, ⟨46, _⟩ => ⟨S128x128, .i32⟩
  | .hbm, ⟨47, _⟩ => ⟨S_, .i32⟩
  | .hbm, ⟨48, _⟩ => ⟨S128x128, .i32⟩
  | .hbm, ⟨49, _⟩ => ⟨S128x128, .i32⟩
  | .hbm, ⟨50, _⟩ => ⟨S128x128, .i32⟩
  | .hbm, ⟨51, _⟩ => ⟨S128x128, .i1⟩
  | .hbm, ⟨52, _⟩ => ⟨S8x128x128, .i1⟩
  | .hbm, ⟨53, _⟩ => ⟨S_, .f32⟩
  | .hbm, ⟨54, _⟩ => ⟨S8x128x128, .f32⟩
  | .hbm, ⟨55, _⟩ => ⟨S8x128x128, .f32⟩
  | .hbm, ⟨56, _⟩ => ⟨S8x16x256x128, .f32⟩
  | .hbm, ⟨57, _⟩ => ⟨S16x128x8x256, .f32⟩
  | .hbm, ⟨58, _⟩ => ⟨S128x8, .f32⟩
  | .hbm, ⟨59, _⟩ => ⟨S1x128x8x1, .f32⟩
  | .hbm, ⟨60, _⟩ => ⟨S16x128x8x256, .f32⟩
  | .hbm, ⟨61, _⟩ => ⟨S16x128x8x256, .f32⟩
  | .hbm, ⟨62, _⟩ => ⟨S2048x2048, .f32⟩
  | .hbm, ⟨63, _⟩ => ⟨S2048x2048, .f32⟩
  | .hbm, ⟨64, _⟩ => ⟨S2048x2048, .bf16⟩
  | .hbm, ⟨65, _⟩ => ⟨S2048x2048, .f32⟩
  | .hbm, ⟨66, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_cst_6 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_call0_v0 : Ref sig .tc := ⟨.hbm, 46, rfl⟩
abbrev main_call0_c : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_call0_v5 : Ref sig .tc := ⟨.hbm, 52, rfl⟩
abbrev main_call0_cst : Ref sig .tc := ⟨.hbm, 53, rfl⟩
abbrev main_call0_v6 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩

abbrev nD : Nat := 1
abbrev τ : Topo := Topo.v7x

variable {F : FTy → Type} [FloatOps F]
-- ==== MixerBack.lean ====
abbrev S2048x2048 : Shape := ⟨2, ![2048, 2048]⟩
abbrev S2048x4096 : Shape := ⟨2, ![2048, 4096]⟩
abbrev S8x256x2048 : Shape := ⟨3, ![8, 256, 2048]⟩
abbrev S1024x2048 : Shape := ⟨2, ![1024, 2048]⟩
abbrev S4x256x2048 : Shape := ⟨3, ![4, 256, 2048]⟩
abbrev S1024x1024 : Shape := ⟨2, ![1024, 1024]⟩
abbrev S2048x256 : Shape := ⟨2, ![2048, 256]⟩
abbrev S1x256x2048 : Shape := ⟨3, ![1, 256, 2048]⟩
abbrev S256x2048 : Shape := ⟨2, ![256, 2048]⟩
abbrev S2048x8x512 : Shape := ⟨3, ![2048, 8, 512]⟩
abbrev S8x2048x512 : Shape := ⟨3, ![8, 2048, 512]⟩
abbrev S1024x4096 : Shape := ⟨2, ![1024, 4096]⟩
abbrev S8x1024x512 : Shape := ⟨3, ![8, 1024, 512]⟩
abbrev S1024x512 : Shape := ⟨2, ![1024, 512]⟩
abbrev S1x1024x512 : Shape := ⟨3, ![1, 1024, 512]⟩

abbrev nBuf : Space → Nat
  | .hbm => 14
  | .vmem => 17
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x4096, .bf16⟩
  | .hbm, ⟨3, _⟩ => ⟨S2048x4096, .f32⟩
  | .hbm, ⟨4, _⟩ => ⟨S2048x2048, .f32⟩
  | .hbm, ⟨5, _⟩ => ⟨S8x256x2048, .bf16⟩
  | .hbm, ⟨6, _⟩ => ⟨S8x256x2048, .f32⟩
  | .hbm, ⟨7, _⟩ => ⟨S8x256x2048, .bf16⟩
  | .hbm, ⟨8, _⟩ => ⟨S2048x2048, .f32⟩
  | .hbm, ⟨9, _⟩ => ⟨S8x256x2048, .bf16⟩
  | .hbm, ⟨10, _⟩ => ⟨S2048x8x512, .f32⟩
  | .hbm, ⟨11, _⟩ => ⟨S8x2048x512, .f32⟩
  | .hbm, ⟨12, _⟩ => ⟨S8x2048x512, .bf16⟩
  | .hbm, ⟨13, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S4x256x2048, .bf16⟩
  | .local _ .vmem, ⟨3, _⟩ => ⟨S4x256x2048, .bf16⟩
  | .local _ .vmem, ⟨4, _⟩ => ⟨S1024x1024, .f32⟩
  | .local _ .vmem, ⟨5, _⟩ => ⟨S1024x1024, .f32⟩
  | .local _ .vmem, ⟨6, _⟩ => ⟨S2048x256, .bf16⟩
  | .local _ .vmem, ⟨7, _⟩ => ⟨S2048x256, .bf16⟩
  | .local _ .vmem, ⟨8, _⟩ => ⟨S2048x2048, .bf16⟩
  | .local _ .vmem, ⟨9, _⟩ => ⟨S1x256x2048, .bf16⟩
  | .local _ .vmem, ⟨10, _⟩ => ⟨S1x256x2048, .bf16⟩
  | .local _ .vmem, ⟨11, _⟩ => ⟨S1024x4096, .bf16⟩
  | .local _ .vmem, ⟨12, _⟩ => ⟨S1024x4096, .bf16⟩
  | .local _ .vmem, ⟨13, _⟩ => ⟨S8x1024x512, .bf16⟩
  | .local _ .vmem, ⟨14, _⟩ => ⟨S8x1024x512, .bf16⟩
  | .local _ .vmem, ⟨15, _⟩ => ⟨S1024x1024, .f32⟩
  | .local _ .vmem, ⟨16, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2048x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x256x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![2, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S8x1024x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]
-- ==== MixerBackReferenceIdeal.lean ====
abbrev S2048x2048 : Shape := ⟨2, ![2048, 2048]⟩
abbrev S2048x4096 : Shape := ⟨2, ![2048, 4096]⟩
abbrev S8x256x2048 : Shape := ⟨3, ![8, 256, 2048]⟩
abbrev S_ : Shape := ⟨0, ![]⟩
abbrev S4096x2048 : Shape := ⟨2, ![4096, 2048]⟩

abbrev nBuf : Space → Nat
  | .hbm => 21
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x4096, .bf16⟩
  | .hbm, ⟨3, _⟩ => ⟨S2048x4096, .f32⟩
  | .hbm, ⟨4, _⟩ => ⟨S2048x2048, .f32⟩
  | .hbm, ⟨5, _⟩ => ⟨S8x256x2048, .bf16⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048x2048, .f32⟩
  | .hbm, ⟨14, _⟩ => ⟨S2048x4096, .f32⟩
  | .hbm, ⟨15, _⟩ => ⟨S2048x4096, .f32⟩
  | .hbm, ⟨16, _⟩ => ⟨S4096x2048, .f32⟩
  | .hbm, ⟨17, _⟩ => ⟨S2048x4096, .f32⟩
  | .hbm, ⟨18, _⟩ => ⟨S2048x2048, .f32⟩
  | .hbm, ⟨19, _⟩ => ⟨S8x256x2048, .f32⟩
  | .hbm, ⟨20, _⟩ => ⟨S8x256x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]
-- ==== MixerDwIn.lean ====
abbrev S2048x2048 : Shape := ⟨2, ![2048, 2048]⟩
abbrev S2048x4096 : Shape := ⟨2, ![2048, 4096]⟩
abbrev S8x2048x512 : Shape := ⟨3, ![8, 2048, 512]⟩
abbrev S2048x512 : Shape := ⟨2, ![2048, 512]⟩
abbrev S1x512x512 : Shape := ⟨3, ![1, 512, 512]⟩
abbrev S512x2048 : Shape := ⟨2, ![512, 2048]⟩
abbrev S512x512 : Shape := ⟨2, ![512, 512]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x4096, .bf16⟩
  | .hbm, ⟨2, _⟩ => ⟨S8x2048x512, .bf16⟩
  | .hbm, ⟨3, _⟩ => ⟨S8x2048x512, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S1x512x512, .bf16⟩
  | .local _ .vmem, ⟨5, _⟩ => ⟨S1x512x512, .bf16⟩
  | .local _ .vmem, ⟨6, _⟩ => ⟨S512x2048, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MixerDwInReferenceIdeal.lean ====
abbrev S2048x2048 : Shape := ⟨2, ![2048, 2048]⟩
abbrev S2048x4096 : Shape := ⟨2, ![2048, 4096]⟩
abbrev S8x2048x512 : Shape := ⟨3, ![8, 2048, 512]⟩
abbrev S_ : Shape := ⟨0, ![]⟩
abbrev S4096x2048 : Shape := ⟨2, ![4096, 2048]⟩
abbrev S2048x8x512 : Shape := ⟨3, ![2048, 8, 512]⟩

abbrev nBuf : Space → Nat
  | .hbm => 14
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x4096, .bf16⟩
  | .hbm, ⟨2, _⟩ => ⟨S8x2048x512, .bf16⟩
  | .hbm, ⟨3, _⟩ => ⟨S2048x2048, .f32⟩
  | .hbm, ⟨4, _⟩ => ⟨S_, .f32⟩
  | .hbm, ⟨5, _⟩ => ⟨S2048x4096, .f32⟩
  | .hbm, ⟨6, _⟩ => ⟨S2048x4096, .f32⟩
  | .hbm, ⟨7, _⟩ => ⟨S2048x4096, .f32⟩
  | .hbm, ⟨8, _⟩ => ⟨S4096x2048, .f32⟩
  | .hbm, ⟨9, _⟩ => ⟨S2048x4096, .f32⟩
  | .hbm, ⟨10, _⟩ => ⟨S2048x2048, .f32⟩
  | .hbm, ⟨11, _⟩ => ⟨S2048x8x512, .f32⟩
  | .hbm, ⟨12, _⟩ => ⟨S8x2048x512, .f32⟩
  | .hbm, ⟨13, _⟩ => ⟨S8x2048x512, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Proj.lean ====
abbrev S2048x2048 : Shape := ⟨2, ![2048, 2048]⟩
abbrev S2048 : Shape := ⟨1, ![2048]⟩
abbrev S8x256x2048 : Shape := ⟨3, ![8, 256, 2048]⟩
abbrev S8x512x2048 : Shape := ⟨3, ![8, 512, 2048]⟩
abbrev S1x2048 : Shape := ⟨2, ![1, 2048]⟩
abbrev S1024x2048 : Shape := ⟨2, ![1024, 2048]⟩
abbrev S8x256x1024 : Shape := ⟨3, ![8, 256, 1024]⟩
abbrev S1x1024 : Shape := ⟨2, ![1, 1024]⟩
abbrev S1024x1024 : Shape := ⟨2, ![1024, 1024]⟩
abbrev S2048x1024 : Shape := ⟨2, ![2048, 1024]⟩

abbrev nBuf : Space → Nat
  | .hbm => 16
  | .vmem => 18
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048, .f32⟩
  | .hbm, ⟨3, _⟩ => ⟨S2048x2048, .bf16⟩
  | .hbm, ⟨4, _⟩ => ⟨S2048x2048, .f32⟩
  | .hbm, ⟨5, _⟩ => ⟨S2048, .f32⟩
  | .hbm, ⟨6, _⟩ => ⟨S2048x2048, .f32⟩
  | .hbm, ⟨7, _⟩ => ⟨S8x256x2048, .f32⟩
  | .hbm, ⟨8, _⟩ => ⟨S8x256x2048, .f32⟩
  | .hbm, ⟨9, _⟩ => ⟨S8x512x2048, .f32⟩
  | .hbm, ⟨10, _⟩ => ⟨S8x512x2048, .bf16⟩
  | .hbm, ⟨11, _⟩ => ⟨S2048x2048, .bf16⟩
  | .hbm, ⟨12, _⟩ => ⟨S1x2048, .f32⟩
  | .hbm, ⟨13, _⟩ => ⟨S2048x2048, .bf16⟩
  | .hbm, ⟨14, _⟩ => ⟨S1x2048, .f32⟩
  | .hbm, ⟨15, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S8x256x1024, .bf16⟩
  | .local _ .vmem, ⟨3, _⟩ => ⟨S8x256x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x2048, .bf16⟩
  | .local _ .vmem, ⟨9, _⟩ => ⟨S1024x2048, .bf16⟩
  | .local _ .vmem, ⟨10, _⟩ => ⟨S8x256x1024, .bf16⟩
  | .local _ .vmem, ⟨11, _⟩ => ⟨S8x256x1024, .bf16⟩
  | .local _ .vmem, ⟨12, _⟩ => ⟨S1024x1024, .f32⟩
  | .local _ .vmem, ⟨13, _⟩ => ⟨S1024x1024, .f32⟩
  | .local _ .vmem, ⟨14, _⟩ => ⟨S1x1024, .f32⟩
  | .local _ .vmem, ⟨15, _⟩ => ⟨S1x1024, .f32⟩
  | .local _ .vmem, ⟨16, _⟩ => ⟨S1024x1024, .f32⟩
  | .local _ .vmem, ⟨17, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![2, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S8x256x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== ProjReferenceIdeal.lean ====
abbrev S2048x2048 : Shape := ⟨2, ![2048, 2048]⟩
abbrev S2048 : Shape := ⟨1, ![2048]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048, .f32⟩
  | .hbm, ⟨3, _⟩ => ⟨S2048x2048, .bf16⟩
  | .hbm, ⟨4, _⟩ => ⟨S2048x2048, .f32⟩
  | .hbm, ⟨5, _⟩ => ⟨S2048, .f32⟩
  | .hbm, ⟨6, _⟩ => ⟨S2048x2048, .f32⟩
  | .hbm, ⟨7, _⟩ => ⟨S2048x2048, .f32⟩
  | .hbm, ⟨8, _⟩ => ⟨S1x2048, .f32⟩
  | .hbm, ⟨9, _⟩ => ⟨S2048x2048, .f32⟩
  | .hbm, ⟨10, _⟩ => ⟨S2048x2048, .f32⟩
  | .hbm, ⟨11, _⟩ => ⟨S2048x2048, .bf16⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S1x2048, .f32⟩
  | .hbm, ⟨16, _⟩ => ⟨S2048x2048, .f32⟩
  | .hbm, ⟨17, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩

abbrev nD : Nat := 1
abbrev τ : Topo := Topo.v7x

variable {F : FTy → Type} [FloatOps F]
-- ==== ProjBack.lean ====
abbrev S2048x2048 : Shape := ⟨2, ![2048, 2048]⟩
abbrev S8x512x2048 : Shape := ⟨3, ![8, 512, 2048]⟩
abbrev S8x256x2048 : Shape := ⟨3, ![8, 256, 2048]⟩
abbrev S1024x2048 : Shape := ⟨2, ![1024, 2048]⟩
abbrev S4x256x2048 : Shape := ⟨3, ![4, 256, 2048]⟩
abbrev S1024x1024 : Shape := ⟨2, ![1024, 1024]⟩
abbrev S2048x256 : Shape := ⟨2, ![2048, 256]⟩
abbrev S1x256x2048 : Shape := ⟨3, ![1, 256, 2048]⟩
abbrev S256x2048 : Shape := ⟨2, ![256, 2048]⟩

abbrev nBuf : Space → Nat
  | .hbm => 15
  | .vmem => 22
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .hbm, ⟨3, _⟩ => ⟨S2048x2048, .bf16⟩
  | .hbm, ⟨4, _⟩ => ⟨S2048x2048, .f32⟩
  | .hbm, ⟨5, _⟩ => ⟨S2048x2048, .f32⟩
  | .hbm, ⟨6, _⟩ => ⟨S8x512x2048, .bf16⟩
  | .hbm, ⟨7, _⟩ => ⟨S8x256x2048, .f32⟩
  | .hbm, ⟨8, _⟩ => ⟨S8x256x2048, .f32⟩
  | .hbm, ⟨9, _⟩ => ⟨S8x512x2048, .f32⟩
  | .hbm, ⟨10, _⟩ => ⟨S8x512x2048, .bf16⟩
  | .hbm, ⟨11, _⟩ => ⟨S2048x2048, .bf16⟩
  | .hbm, ⟨12, _⟩ => ⟨S8x512x2048, .bf16⟩
  | .hbm, ⟨13, _⟩ => ⟨S8x512x2048, .bf16⟩
  | .hbm, ⟨14, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S4x256x2048, .bf16⟩
  | .local _ .vmem, ⟨3, _⟩ => ⟨S4x256x2048, .bf16⟩
  | .local _ .vmem, ⟨4, _⟩ => ⟨S1024x1024, .bf16⟩
  | .local _ .vmem, ⟨5, _⟩ => ⟨S1024x1024, .bf16⟩
  | .local _ .vmem, ⟨6, _⟩ => ⟨S2048x256, .bf16⟩
  | .local _ .vmem, ⟨7, _⟩ => ⟨S2048x256, .bf16⟩
  | .local _ .vmem, ⟨8, _⟩ => ⟨S2048x2048, .bf16⟩
  | .local _ .vmem, ⟨9, _⟩ => ⟨S1x256x2048, .bf16⟩
  | .local _ .vmem, ⟨10, _⟩ => ⟨S1x256x2048, .bf16⟩
  | .local _ .vmem, ⟨11, _⟩ => ⟨S2048x256, .bf16⟩
  | .local _ .vmem, ⟨12, _⟩ => ⟨S2048x256, .bf16⟩
  | .local _ .vmem, ⟨13, _⟩ => ⟨S2048x2048, .bf16⟩
  | .local _ .vmem, ⟨14, _⟩ => ⟨S1x256x2048, .bf16⟩
  | .local _ .vmem, ⟨15, _⟩ => ⟨S1x256x2048, .bf16⟩
  | .local _ .vmem, ⟨16, _⟩ => ⟨S1024x2048, .bf16⟩
  | .local _ .vmem, ⟨17, _⟩ => ⟨S1024x2048, .bf16⟩
  | .local _ .vmem, ⟨18, _⟩ => ⟨S4x256x2048, .bf16⟩
  | .local _ .vmem, ⟨19, _⟩ => ⟨S4x256x2048, .bf16⟩
  | .local _ .vmem, ⟨20, _⟩ => ⟨S1024x1024, .f32⟩
  | .local _ .vmem, ⟨21, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg1.toNat, c1_i32.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![arg0.toNat, c1_i32.toNat, c0_i32.toNat]

abbrev stage1_0 : Fin 2 → Memref sig .tc .vmem S2048x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x256x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S2048x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2048x2048 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1x256x2048 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![2, 2], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S4x256x2048 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]
-- ==== ProjBackReferenceIdeal.lean ====
abbrev S2048x2048 : Shape := ⟨2, ![2048, 2048]⟩
abbrev S8x512x2048 : Shape := ⟨3, ![8, 512, 2048]⟩
abbrev S8x256x2048 : Shape := ⟨3, ![8, 256, 2048]⟩

abbrev nBuf : Space → Nat
  | .hbm => 24
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .hbm, ⟨3, _⟩ => ⟨S2048x2048, .bf16⟩
  | .hbm, ⟨4, _⟩ => ⟨S2048x2048, .f32⟩
  | .hbm, ⟨5, _⟩ => ⟨S2048x2048, .f32⟩
  | .hbm, ⟨6, _⟩ => ⟨S8x512x2048, .bf16⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S8x256x2048, .f32⟩
  | .hbm, ⟨20, _⟩ => ⟨S8x256x2048, .f32⟩
  | .hbm, ⟨21, _⟩ => ⟨S8x512x2048, .f32⟩
  | .hbm, ⟨22, _⟩ => ⟨S2048x2048, .bf16⟩
  | .hbm, ⟨23, _⟩ => ⟨S8x512x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kv.lean ====
abbrev S2048x2048 : Shape := ⟨2, ![2048, 2048]⟩
abbrev S2048x512 : Shape := ⟨2, ![2048, 512]⟩
abbrev S512 : Shape := ⟨1, ![512]⟩
abbrev S8x256x512 : Shape := ⟨3, ![8, 256, 512]⟩
abbrev S1x512 : Shape := ⟨2, ![1, 512]⟩
abbrev S4x2048x64 : Shape := ⟨3, ![4, 2048, 64]⟩
abbrev S1024x2048 : Shape := ⟨2, ![1024, 2048]⟩
abbrev S4x1024x64 : Shape := ⟨3, ![4, 1024, 64]⟩
abbrev S1024x512 : Shape := ⟨2, ![1024, 512]⟩
abbrev S1024x64 : Shape := ⟨2, ![1024, 64]⟩
abbrev S1x1024x64 : Shape := ⟨3, ![1, 1024, 64]⟩
abbrev S2048x256 : Shape := ⟨2, ![2048, 256]⟩
abbrev S1x256x512 : Shape := ⟨3, ![1, 256, 512]⟩
abbrev S256x512 : Shape := ⟨2, ![256, 512]⟩
abbrev S1024x256 : Shape := ⟨2, ![1024, 256]⟩

abbrev nBuf : Space → Nat
  | .hbm => 12
  | .vmem => 19
  | .smem => 0
  | _ => 0

abbrev bufTy : (tb : Table) → Fin (tcTables nBuf tb) → BufTy
  | .hbm, ⟨0, _⟩ => ⟨S2048x2048, .bf16⟩
  | .hbm, ⟨1, _⟩ => ⟨S2048x512, .f32⟩
  | .hbm, ⟨2, _⟩ => ⟨S512, .f32⟩
  | .hbm, ⟨3, _⟩ => ⟨S2048x512, .bf16⟩
  | .hbm, ⟨4, _⟩ => ⟨S8x256x512, .bf16⟩
  | .hbm, ⟨5, _⟩ => ⟨S8x256x512, .f32⟩
  | .hbm, ⟨6, _⟩ => ⟨S8x256x512, .bf16⟩
  | .hbm, ⟨7, _⟩ => ⟨S1x512, .f32⟩
  | .hbm, ⟨8, _⟩ => ⟨S4x2048x64, .bf16⟩
  | .hbm, ⟨9, _⟩ => ⟨S4x2048x64, .bf16⟩
  | .hbm, ⟨10, _⟩ => ⟨S8x256x512, .bf16⟩
  | .hbm, ⟨11, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S8x256x512, .bf16⟩
  | .local _ .vmem, ⟨3, _⟩ => ⟨S1x512, .f32⟩
  | .local _ .vmem, ⟨4, _⟩ => ⟨S4x1024x64, .bf16⟩
  | .local _ .vmem, ⟨5, _⟩ => ⟨S4x1024x64, .bf16⟩
  | .local _ .vmem, ⟨6, _⟩ => ⟨S4x1024x64, .bf16⟩
  | .local _ .vmem, ⟨7, _⟩ => ⟨S4x1024x64, .bf16⟩
  | .local _ .vmem, ⟨8, _⟩ => ⟨S2048x256, .bf16⟩
  | .local _ .vmem, ⟨9, _⟩ => ⟨S2048x256, .bf16⟩
  | .local _ .vmem, ⟨10, _⟩ => ⟨S2048x512, .bf16⟩
  | .local _ .vmem, ⟨11, _⟩ => ⟨S1x256x512, .bf16⟩
  | .local _ .vmem, ⟨12, _⟩ => ⟨S1x256x512, .bf16⟩
  | .local _ .vmem, ⟨13, _⟩ => ⟨S1024x512, .bf16⟩
  | .local _ .vmem, ⟨14, _⟩ => ⟨S1024x512, .bf16⟩
  | .local _ .vmem, ⟨15, _⟩ => ⟨S1x256x512, .bf16⟩
  | .local _ .vmem, ⟨16, _⟩ => ⟨S1x256x512, .bf16⟩
  | .local _ .vmem, ⟨17, _⟩ => ⟨S1024x256, .f32⟩
  | .local _ .vmem, ⟨18, _⟩ => ⟨S1024x256, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x1024x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x1024x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2048x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x256x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![2, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1x256x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]
-- ==== KvReferenceIdeal.lean ====
abbrev S2048x2048 : Shape := ⟨2, ![2048, 2048]⟩
abbrev S2048x512 : Shape := ⟨2, ![2048, 512]⟩
abbrev S512 : Shape := ⟨1, ![512]⟩
abbrev S8x256x512 : Shape := ⟨3, ![8, 256, 512]⟩
abbrev S1x512 : Shape := ⟨2, ![1, 512]⟩
abbrev S2048x256 : Shape := ⟨2, ![2048, 256]⟩
abbrev S512x2048 : Shape := ⟨2, ![512, 2048]⟩
abbrev S2048x4x64 : Shape := ⟨3, ![2048, 4, 64]⟩
abbrev S4x2048x64 : Shape := ⟨3, ![4, 2048, 64]⟩

abbrev nBuf : Space → Nat
  | .hbm => 25
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x512, .f32⟩
  | .hbm, ⟨2, _⟩ => ⟨S512, .f32⟩
  | .hbm, ⟨3, _⟩ => ⟨S2048x512, .bf16⟩
  | .hbm, ⟨4, _⟩ => ⟨S8x256x512, .bf16⟩
  | .hbm, ⟨5, _⟩ => ⟨S2048x2048, .f32⟩
  | .hbm, ⟨6, _⟩ => ⟨S2048x512, .f32⟩
  | .hbm, ⟨7, _⟩ => ⟨S2048x512, .f32⟩
  | .hbm, ⟨8, _⟩ => ⟨S1x512, .f32⟩
  | .hbm, ⟨9, _⟩ => ⟨S2048x512, .f32⟩
  | .hbm, ⟨10, _⟩ => ⟨S2048x512, .f32⟩
  | .hbm, ⟨11, _⟩ => ⟨S2048x256, .f32⟩
  | .hbm, ⟨12, _⟩ => ⟨S2048x256, .f32⟩
  | .hbm, ⟨13, _⟩ => ⟨S2048x512, .f32⟩
  | .hbm, ⟨14, _⟩ => ⟨S512x2048, .f32⟩
  | .hbm, ⟨15, _⟩ => ⟨S2048x512, .f32⟩
  | .hbm, ⟨16, _⟩ => ⟨S2048x2048, .f32⟩
  | .hbm, ⟨17, _⟩ => ⟨S2048x4x64, .f32⟩
  | .hbm, ⟨18, _⟩ => ⟨S4x2048x64, .f32⟩
  | .hbm, ⟨19, _⟩ => ⟨S4x2048x64, .bf16⟩
  | .hbm, ⟨20, _⟩ => ⟨S2048x4x64, .f32⟩
  | .hbm, ⟨21, _⟩ => ⟨S4x2048x64, .f32⟩
  | .hbm, ⟨22, _⟩ => ⟨S4x2048x64, .bf16⟩
  | .hbm, ⟨23, _⟩ => ⟨S8x256x512, .f32⟩
  | .hbm, ⟨24, _⟩ => ⟨S8x256x512, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩

abbrev nD : Nat := 1
abbrev τ : Topo := Topo.v7x

variable {F : FTy → Type} [FloatOps F]
-- ==== Attn.lean ====
abbrev S2048x2048 : Shape := ⟨2, ![2048, 2048]⟩
abbrev S4x2048x64 : Shape := ⟨3, ![4, 2048, 64]⟩
abbrev S32x128x256 : Shape := ⟨3, ![32, 128, 256]⟩
abbrev S32 : Shape := ⟨1, ![32]⟩
abbrev S128 : Shape := ⟨1, ![128]⟩
abbrev S128x1 : Shape := ⟨2, ![128, 1]⟩
abbrev S_ : Shape := ⟨0, ![]⟩
abbrev S256 : Shape := ⟨1, ![256]⟩
abbrev S1x256 : Shape := ⟨2, ![1, 256]⟩
abbrev S128x256 : Shape := ⟨2, ![128, 256]⟩
abbrev S4x16x1024x256 : Shape := ⟨4, ![4, 16, 1024, 256]⟩
abbrev S4x16x1024x1 : Shape := ⟨4, ![4, 16, 1024, 1]⟩
abbrev S128x512 : Shape := ⟨2, ![128, 512]⟩
abbrev S1x128x64 : Shape := ⟨3, ![1, 128, 64]⟩
abbrev S8x128x256 : Shape := ⟨3, ![8, 128, 256]⟩
abbrev S1x1x1024x256 : Shape := ⟨4, ![1, 1, 1024, 256]⟩
abbrev S1x1x1024x1 : Shape := ⟨4, ![1, 1, 1024, 1]⟩
abbrev S128x64 : Shape := ⟨2, ![128, 64]⟩
abbrev S256x64 : Shape := ⟨2, ![256, 64]⟩
abbrev S1024x64 : Shape := ⟨2, ![1024, 64]⟩
abbrev S1024x256 : Shape := ⟨2, ![1024, 256]⟩
abbrev S1 : Shape := ⟨1, ![1]⟩
abbrev S1024x1 : Shape := ⟨2, ![1024, 1]⟩
abbrev S1024 : Shape := ⟨1, ![1024]⟩
abbrev S1x2048 : Shape := ⟨2, ![1, 2048]⟩
abbrev S4x1x8 : Shape := ⟨3, ![4, 1, 8]⟩
abbrev S128x1024 : Shape := ⟨2, ![128, 1024]⟩
abbrev S2x128x64 : Shape := ⟨3, ![2, 128, 64]⟩
abbrev S2x1x1024x256 : Shape := ⟨4, ![2, 1, 1024, 256]⟩
abbrev S2x1x1024x1 : Shape := ⟨4, ![2, 1, 1024, 1]⟩
abbrev S1x1024 : Shape := ⟨2, ![1, 1024]⟩
abbrev S16x128x256 : Shape := ⟨3, ![16, 128, 256]⟩
abbrev S2x1x8 : Shape := ⟨3, ![2, 1, 8]⟩
abbrev S1x64 : Shape := ⟨2, ![1, 64]⟩
abbrev S64 : Shape := ⟨1, ![64]⟩
abbrev S1x1x1 : Shape := ⟨3, ![1, 1, 1]⟩
abbrev S1x1 : Shape := ⟨2, ![1, 1]⟩
abbrev S2048x512 : Shape := ⟨2, ![2048, 512]⟩
abbrev S1x512 : Shape := ⟨2, ![1, 512]⟩
abbrev S4x128x64 : Shape := ⟨3, ![4, 128, 64]⟩

abbrev nBuf : Space → Nat
  | .hbm => 42
  | .vmem => 61
  | .smem => 1
  | _ => 0

abbrev bufTy : (tb : Table) → Fin (tcTables nBuf tb) → BufTy
  | .hbm, ⟨0, _⟩ => ⟨S2048x2048, .bf16⟩
  | .hbm, ⟨1, _⟩ => ⟨S4x2048x64, .bf16⟩
  | .hbm, ⟨2, _⟩ => ⟨S4x2048x64, .bf16⟩
  | .hbm, ⟨3, _⟩ => ⟨S32x128x256, .f32⟩
  | .hbm, ⟨4, _⟩ => ⟨S32, .f32⟩
  | .hbm, ⟨5, _⟩ => ⟨S2048x2048, .bf16⟩
  | .hbm, ⟨6, _⟩ => ⟨S128, .i32⟩
  | .hbm, ⟨7, _⟩ => ⟨S128x1, .i32⟩
  | .hbm, ⟨8, _⟩ => ⟨S_, .i32⟩
  | .hbm, ⟨9, _⟩ => ⟨S128x1, .i32⟩
  | .hbm, ⟨10, _⟩ => ⟨S128x1, .i32⟩
  | .hbm, ⟨11, _⟩ => ⟨S256, .i32⟩
  | .hbm, ⟨12, _⟩ => ⟨S1x256, .i32⟩
  | .hbm, ⟨13, _⟩ => ⟨S128x256, .i32⟩
  | .hbm, ⟨14, _⟩ => ⟨S128x256, .i32⟩
  | .hbm, ⟨15, _⟩ => ⟨S128x256, .i32⟩
  | .hbm, ⟨16, _⟩ => ⟨S_, .i32⟩
  | .hbm, ⟨17, _⟩ => ⟨S128x256, .i32⟩
  | .hbm, ⟨18, _⟩ => ⟨S128x256, .i1⟩
  | .hbm, ⟨19, _⟩ => ⟨S_, .i32⟩
  | .hbm, ⟨20, _⟩ => ⟨S128x256, .i32⟩
  | .hbm, ⟨21, _⟩ => ⟨S128x256, .i1⟩
  | .hbm, ⟨22, _⟩ => ⟨S128x256, .i1⟩
  | .hbm, ⟨23, _⟩ => ⟨S_, .f32⟩
  | .hbm, ⟨24, _⟩ => ⟨S_, .f32⟩
  | .hbm, ⟨25, _⟩ => ⟨S32x128x256, .i1⟩
  | .hbm, ⟨26, _⟩ => ⟨S32x128x256, .f32⟩
  | .hbm, ⟨27, _⟩ => ⟨S32x128x256, .f32⟩
  | .hbm, ⟨28, _⟩ => ⟨S2048x2048, .bf16⟩
  | .hbm, ⟨29, _⟩ => ⟨S4x16x1024x256, .bf16⟩
  | .hbm, ⟨30, _⟩ => ⟨S4x16x1024x1, .f32⟩
  | .hbm, ⟨31, _⟩ => ⟨S2048x2048, .bf16⟩
  | .hbm, ⟨32, _⟩ => ⟨S1x2048, .f32⟩
  | .hbm, ⟨33, _⟩ => ⟨S4x2048x64, .f32⟩
  | .hbm, ⟨34, _⟩ => ⟨S4x2048x64, .f32⟩
  | .hbm, ⟨35, _⟩ => ⟨S4x2048x64, .f32⟩
  | .hbm, ⟨36, _⟩ => ⟨S4x2048x64, .f32⟩
  | .hbm, ⟨37, _⟩ => ⟨S32x128x256, .f32⟩
  | .hbm, ⟨38, _⟩ => ⟨S4x1x8, .f32⟩
  | .hbm, ⟨39, _⟩ => ⟨S2048x512, .bf16⟩
  | .hbm, ⟨40, _⟩ => ⟨S1x512, .f32⟩
  | .hbm, ⟨41, _⟩ => ⟨S32, .f32⟩
  | .local _ .vmem, ⟨0, _⟩ => ⟨S128x512, .bf16⟩
  | .local _ .vmem, ⟨1, _⟩ => ⟨S128x512, .bf16⟩
  | .local _ .vmem, ⟨2, _⟩ => ⟨S1x128x64, .bf16⟩
  | .local _ .vmem, ⟨3, _⟩ => ⟨S1x128x64, .bf16⟩
  | .local _ .vmem, ⟨4, _⟩ => ⟨S1x128x64, .bf16⟩
  | .local _ .vmem, ⟨5, _⟩ => ⟨S1x128x64, .bf16⟩
  | .local _ .vmem, ⟨6, _⟩ => ⟨S1x128x64, .bf16⟩
  | .local _ .vmem, ⟨7, _⟩ => ⟨S1x128x64, .bf16⟩
  | .local _ .vmem, ⟨8, _⟩ => ⟨S1x128x64, .bf16⟩
  | .local _ .vmem, ⟨9, _⟩ => ⟨S1x128x64, .bf16⟩
  | .local _ .vmem, ⟨10, _⟩ => ⟨S8x128x256, .f32⟩
  | .local _ .vmem, ⟨11, _⟩ => ⟨S8x128x256, .f32⟩
  | .local _ .vmem, ⟨12, _⟩ => ⟨S128x512, .bf16⟩
  | .local _ .vmem, ⟨13, _⟩ => ⟨S128x512, .bf16⟩
  | .local _ .vmem, ⟨14, _⟩ => ⟨S1x1x1024x256, .bf16⟩
  | .local _ .vmem, ⟨15, _⟩ => ⟨S1x1x1024x256, .bf16⟩
  | .local _ .vmem, ⟨16, _⟩ => ⟨S1x1x1024x1, .f32⟩
  | .local _ .vmem, ⟨17, _⟩ => ⟨S1x1x1024x1, .f32⟩
  | .local _ .vmem, ⟨18, _⟩ => ⟨S128x1024, .bf16⟩
  | .local _ .vmem, ⟨19, _⟩ => ⟨S128x1024, .bf16⟩
  | .local _ .vmem, ⟨20, _⟩ => ⟨S128x1024, .bf16⟩
  | .local _ .vmem, ⟨21, _⟩ => ⟨S128x1024, .bf16⟩
  | .local _ .vmem, ⟨22, _⟩ => ⟨S2x128x64, .bf16⟩
  | .local _ .vmem, ⟨23, _⟩ => ⟨S2x128x64, .bf16⟩
  | .local _ .vmem, ⟨24, _⟩ => ⟨S2x128x64, .bf16⟩
  | .local _ .vmem, ⟨25, _⟩ => ⟨S2x128x64, .bf16⟩
  | .local _ .vmem, ⟨26, _⟩ => ⟨S2x128x64, .bf16⟩
  | .local _ .vmem, ⟨27, _⟩ => ⟨S2x128x64, .bf16⟩
  | .local _ .vmem, ⟨28, _⟩ => ⟨S2x128x64, .bf16⟩
  | .local _ .vmem, ⟨29, _⟩ => ⟨S2x128x64, .bf16⟩
  | .local _ .vmem, ⟨30, _⟩ => ⟨S2x1x1024x256, .bf16⟩
  | .local _ .vmem, ⟨31, _⟩ => ⟨S2x1x1024x256, .bf16⟩
  | .local _ .vmem, ⟨32, _⟩ => ⟨S2x1x1024x1, .f32⟩
  | .local _ .vmem, ⟨33, _⟩ => ⟨S2x1x1024x1, .f32⟩
  | .local _ .vmem, ⟨34, _⟩ => ⟨S128x1024, .bf16⟩
  | .local _ .vmem, ⟨35, _⟩ => ⟨S128x1024, .bf16⟩
  | .local _ .vmem, ⟨36, _⟩ => ⟨S1x1024, .f32⟩
  | .local _ .vmem, ⟨37, _⟩ => ⟨S1x1024, .f32⟩
  | .local _ .vmem, ⟨38, _⟩ => ⟨S2x128x64, .f32⟩
  | .local _ .vmem, ⟨39, _⟩ => ⟨S2x128x64, .f32⟩
  | .local _ .vmem, ⟨40, _⟩ => ⟨S2x128x64, .f32⟩
  | .local _ .vmem, ⟨41, _⟩ => ⟨S2x128x64, .f32⟩
  | .local _ .vmem, ⟨42, _⟩ => ⟨S2x128x64, .f32⟩
  | .local _ .vmem, ⟨43, _⟩ => ⟨S2x128x64, .f32⟩
  | .local _ .vmem, ⟨44, _⟩ => ⟨S2x128x64, .f32⟩
  | .local _ .vmem, ⟨45, _⟩ => ⟨S2x128x64, .f32⟩
  | .local _ .vmem, ⟨46, _⟩ => ⟨S16x128x256, .f32⟩
  | .local _ .vmem, ⟨47, _⟩ => ⟨S16x128x256, .f32⟩
  | .local _ .vmem, ⟨48, _⟩ => ⟨S2x1x8, .f32⟩
  | .local _ .vmem, ⟨49, _⟩ => ⟨S2x1x8, .f32⟩
  | .local _ .vmem, ⟨50, _⟩ => ⟨S4x128x64, .f32⟩
  | .local _ .vmem, ⟨51, _⟩ => ⟨S4x128x64, .f32⟩
  | .local _ .vmem, ⟨52, _⟩ => ⟨S4x128x64, .f32⟩
  | .local _ .vmem, ⟨53, _⟩ => ⟨S4x128x64, .f32⟩
  | .local _ .vmem, ⟨54, _⟩ => ⟨S4x128x64, .f32⟩
  | .local _ .vmem, ⟨55, _⟩ => ⟨S4x128x64, .f32⟩
  | .local _ .vmem, ⟨56, _⟩ => ⟨S4x128x64, .f32⟩
  | .local _ .vmem, ⟨57, _⟩ => ⟨S4x128x64, .f32⟩
  | .local _ .vmem, ⟨58, _⟩ => ⟨S128x512, .bf16⟩
  | .local _ .vmem, ⟨59, _⟩ => ⟨S128x512, .bf16⟩
  | .local _ .vmem, ⟨60, _⟩ => ⟨S1x512, .f32⟩
  | .local _ .smem, ⟨0, _⟩ => ⟨S32, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .smem, ⟨0, _⟩ => true
  | _, _ => false

abbrev semScoped : Fin 0 → Bool
  | ⟨_, h⟩ => absurd h (Nat.not_lt_zero _)

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  ofTc nBuf bufTy 0 62 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v14 : Ref sig .tc := ⟨.hbm, 27, rfl⟩
abbrev main_v15_0 : Ref sig .tc := ⟨.hbm, 28, rfl⟩
abbrev main_v15_1 : Ref sig .tc := ⟨.hbm, 29, rfl⟩
abbrev main_v15_2 : Ref sig .tc := ⟨.hbm, 30, rfl⟩
abbrev main_v16_0 : Ref sig .tc := ⟨.hbm, 31, rfl⟩
abbrev main_v16_1 : Ref sig .tc := ⟨.hbm, 32, rfl⟩
abbrev main_v16_2 : Ref sig .tc := ⟨.hbm, 33, rfl⟩
abbrev main_v16_3 : Ref sig .tc := ⟨.hbm, 34, rfl⟩
abbrev main_v16_4 : Ref sig .tc := ⟨.hbm, 35, rfl⟩
abbrev main_v16_5 : Ref sig .tc := ⟨.hbm, 36, rfl⟩
abbrev main_v16_6 : Ref sig .tc := ⟨.hbm, 37, rfl⟩
abbrev main_v16_7 : Ref sig .tc := ⟨.hbm, 38, rfl⟩
abbrev main_v17_0 : Ref sig .tc := ⟨.hbm, 39, rfl⟩
abbrev main_v17_1 : Ref sig .tc := ⟨.hbm, 40, rfl⟩
abbrev main_v18 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc1_stg5_0 : Ref sig .tc := ⟨.vmem, 28, rfl⟩
abbrev cc1_stg5_1 : Ref sig .tc := ⟨.vmem, 29, rfl⟩
abbrev cc1_stg6_0 : Ref sig .tc := ⟨.vmem, 30, rfl⟩
abbrev cc1_stg6_1 : Ref sig .tc := ⟨.vmem, 31, rfl⟩
abbrev cc1_stg7_0 : Ref sig .tc := ⟨.vmem, 32, rfl⟩
abbrev cc1_stg7_1 : Ref sig .tc := ⟨.vmem, 33, rfl⟩
abbrev cc1_stg8_0 : Ref sig .tc := ⟨.vmem, 34, rfl⟩
abbrev cc1_stg8_1 : Ref sig .tc := ⟨.vmem, 35, rfl⟩
abbrev cc1_stg9_0 : Ref sig .tc := ⟨.vmem, 36, rfl⟩
abbrev cc1_stg9_1 : Ref sig .tc := ⟨.vmem, 37, rfl⟩
abbrev cc1_stg10_0 : Ref sig .tc := ⟨.vmem, 38, rfl⟩
abbrev cc1_stg10_1 : Ref sig .tc := ⟨.vmem, 39, rfl⟩
abbrev cc1_stg11_0 : Ref sig .tc := ⟨.vmem, 40, rfl⟩
abbrev cc1_stg11_1 : Ref sig .tc := ⟨.vmem, 41, rfl⟩
abbrev cc1_stg12_0 : Ref sig .tc := ⟨.vmem, 42, rfl⟩
abbrev cc1_stg12_1 : Ref sig .tc := ⟨.vmem, 43, rfl⟩
abbrev cc1_stg13_0 : Ref sig .tc := ⟨.vmem, 44, rfl⟩
abbrev cc1_stg13_1 : Ref sig .tc := ⟨.vmem, 45, rfl⟩
abbrev cc1_stg14_0 : Ref sig .tc := ⟨.vmem, 46, rfl⟩
abbrev cc1_stg14_1 : Ref sig .tc := ⟨.vmem, 47, rfl⟩
abbrev cc1_stg15_0 : Ref sig .tc := ⟨.vmem, 48, rfl⟩
abbrev cc1_stg15_1 : Ref sig .tc := ⟨.vmem, 49, rfl⟩
abbrev cc2_stg0_0 : Ref sig .tc := ⟨.vmem, 50, rfl⟩
abbrev cc2_stg0_1 : Ref sig .tc := ⟨.vmem, 51, rfl⟩
abbrev cc2_stg1_0 : Ref sig .tc := ⟨.vmem, 52, rfl⟩
abbrev cc2_stg1_1 : Ref sig .tc := ⟨.vmem, 53, rfl⟩
abbrev cc2_stg2_0 : Ref sig .tc := ⟨.vmem, 54, rfl⟩
abbrev cc2_stg2_1 : Ref sig .tc := ⟨.vmem, 55, rfl⟩
abbrev cc2_stg3_0 : Ref sig .tc := ⟨.vmem, 56, rfl⟩
abbrev cc2_stg3_1 : Ref sig .tc := ⟨.vmem, 57, rfl⟩
abbrev cc2_stg4_0 : Ref sig .tc := ⟨.vmem, 58, rfl⟩
abbrev cc2_stg4_1 : Ref sig .tc := ⟨.vmem, 59, rfl⟩
abbrev cc2_stg5_0 : Ref sig .tc := ⟨.vmem, 60, rfl⟩
abbrev cc0_stg6_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem2_1 : DmaSem sig := 24
abbrev cc1_sem3_0 : DmaSem sig := 25
abbrev cc1_sem3_1 : DmaSem sig := 26
abbrev cc1_sem4_0 : DmaSem sig := 27
abbrev cc1_sem4_1 : DmaSem sig := 28
abbrev cc1_sem5_0 : DmaSem sig := 29
abbrev cc1_sem5_1 : DmaSem sig := 30
abbrev cc1_sem6_0 : DmaSem sig := 31
abbrev cc1_sem6_1 : DmaSem sig := 32
abbrev cc1_sem7_0 : DmaSem sig := 33
abbrev cc1_sem7_1 : DmaSem sig := 34
abbrev cc1_sem8_0 : DmaSem sig := 35
abbrev cc1_sem8_1 : DmaSem sig := 36
abbrev cc1_sem9_0 : DmaSem sig := 37
abbrev cc1_sem9_1 : DmaSem sig := 38
abbrev cc1_sem10_0 : DmaSem sig := 39
abbrev cc1_sem10_1 : DmaSem sig := 40
abbrev cc1_sem11_0 : DmaSem sig := 41
abbrev cc1_sem11_1 : DmaSem sig := 42
abbrev cc1_sem12_0 : DmaSem sig := 43
abbrev cc1_sem12_1 : DmaSem sig := 44
abbrev cc1_sem13_0 : DmaSem sig := 45
abbrev cc1_sem13_1 : DmaSem sig := 46
abbrev cc1_sem14_0 : DmaSem sig := 47
abbrev cc1_sem14_1 : DmaSem sig := 48
abbrev cc1_sem15_0 : DmaSem sig := 49
abbrev cc1_sem15_1 : DmaSem sig := 50
abbrev cc2_sem0_0 : DmaSem sig := 51
abbrev cc2_sem0_1 : DmaSem sig := 52
abbrev cc2_sem1_0 : DmaSem sig := 53
abbrev cc2_sem1_1 : DmaSem sig := 54
abbrev cc2_sem2_0 : DmaSem sig := 55
abbrev cc2_sem2_1 : DmaSem sig := 56
abbrev cc2_sem3_0 : DmaSem sig := 57
abbrev cc2_sem3_1 : DmaSem sig := 58
abbrev cc2_sem4_0 : DmaSem sig := 59
abbrev cc2_sem4_1 : DmaSem sig := 60
abbrev cc2_sem5_0 : DmaSem sig := 61

abbrev nD : Nat := 1
abbrev τ : Topo := Topo.v7x

variable {F : FTy → Type} [FloatOps F]

abbrev grid0 : Pipeline.Grid := ⟨2, ![4, 16], ![false, false]⟩

def k0_off1 (i : grid0.Coords) (c0_i32_26 : BitVec 32) : Fin 1 → Nat :=
  let arg0 : BitVec 32 := BitVec.ofNat 32 (i 0).val
  let c1_i32 : BitVec 32 := 1#32
  let v21 : BitVec 32 := Scalar.muli arg0 c1_i32
  let c0_i32 : BitVec 32 := 0#32
  let v22 : BitVec 32 := Scalar.addi v21 c0_i32
  let c8_i32 : BitVec 32 := 8#32
  let v23 : BitVec 32 := Scalar.muli v22 c8_i32
  let v35 : BitVec 32 := Scalar.addi v23 c0_i32_26
  let v36 : Index := Scalar.indexCast v35
  ![v36.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .smem S32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x1024x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := ⟨2, ![2, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_6 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_7 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_12 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_13 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_14 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_15 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S128x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S128x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S2x128x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S2x128x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S2x128x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S2x128x64 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S2x1x1024x256 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S2x1x1024x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S128x1024 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S1x1024 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

abbrev stage1_10 : Fin 2 → Memref sig .tc .vmem S2x128x64 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S2x128x64 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev stage1_12 : Fin 2 → Memref sig .tc .vmem S2x128x64 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]

abbrev stage1_13 : Fin 2 → Memref sig .tc .vmem S2x128x64 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, true]

abbrev stage1_14 : Fin 2 → Memref sig .tc .vmem S16x128x256 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true, false]

abbrev stage1_15 : Fin 2 → Memref sig .tc .vmem S2x1x8 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true, false]

abbrev grid2 : Pipeline.Grid := ⟨1, ![16], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 3 → Nat :=
  let arg0 : BitVec 32 := BitVec.ofNat 32 (i 0).val
  let c1_i32 : BitVec 32 := 1#32
  let v0 : BitVec 32 := Scalar.addi arg0 c1_i32
  let c15_i32 : BitVec 32 := 15#32
  let v1 : BitVec 32 := Scalar.minsi v0 c15_i32
  let c0_i32 : BitVec 32 := 0#32
  let c0_i32_0 : BitVec 32 := 0#32
  let c0_i32_1 : BitVec 32 := 0#32
  ![c0_i32.toNat, v1.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_3 (i : grid2.Coords) : Fin 3 → Nat :=
  let arg0 : BitVec 32 := BitVec.ofNat 32 (i 0).val
  let c1_i32 : BitVec 32 := 1#32
  let v0 : BitVec 32 := Scalar.addi arg0 c1_i32
  let c15_i32 : BitVec 32 := 15#32
  let v1 : BitVec 32 := Scalar.minsi v0 c15_i32
  let c0_i32 : BitVec 32 := 0#32
  let c0_i32_0 : BitVec 32 := 0#32
  let c0_i32_1 : BitVec 32 := 0#32
  ![c0_i32.toNat, v1.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S4x128x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4x128x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4x128x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S4x128x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S128x512 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S1x512 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]
-- ==== AttnIdeal.lean ====
variable {F : FTy → Type} [FloatOps F] [Named F]
def κ : String → Option EReal := fun
  | "masked" => some ⊥
  | _ => none
-- ==== AttnReferenceIdeal.lean ====
abbrev S2048x2048 : Shape := ⟨2, ![2048, 2048]⟩
abbrev S4x2048x64 : Shape := ⟨3, ![4, 2048, 64]⟩
abbrev S32x128x256 : Shape := ⟨3, ![32, 128, 256]⟩
abbrev S32 : Shape := ⟨1, ![32]⟩
abbrev S2048x4x64 : Shape := ⟨3, ![2048, 4, 64]⟩
abbrev S16x128x4x8x64 : Shape := ⟨5, ![16, 128, 4, 8, 64]⟩
abbrev S_ : Shape := ⟨0, ![]⟩
abbrev S128x4x64 : Shape := ⟨3, ![128, 4, 64]⟩
abbrev S2176x4x64 : Shape := ⟨3, ![2176, 4, 64]⟩
abbrev S16x128x4x64 : Shape := ⟨4, ![16, 128, 4, 64]⟩
abbrev S16x256x4x64 : Shape := ⟨4, ![16, 256, 4, 64]⟩
abbrev S16x4x256x128x8 : Shape := ⟨5, ![16, 4, 256, 128, 8]⟩
abbrev S16x4x8x128x256 : Shape := ⟨5, ![16, 4, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16 : Shape := ⟨1, ![16]⟩
abbrev S16x1 : Shape := ⟨2, ![16, 1]⟩
abbrev S16x256 : Shape := ⟨2, ![16, 256]⟩
abbrev S1x128x256 : Shape := ⟨3, ![1, 128, 256]⟩
abbrev S16x1x256 : Shape := ⟨3, ![16, 1, 256]⟩
abbrev S16x128x256 : Shape := ⟨3, ![16, 128, 256]⟩
abbrev S16x1x1x128x256 : Shape := ⟨5, ![16, 1, 1, 128, 256]⟩
abbrev S4x8x128x256 : Shape := ⟨4, ![4, 8, 128, 256]⟩
abbrev S1x4x8x128x256 : Shape := ⟨5, ![1, 4, 8, 128, 256]⟩
abbrev S4x8 : Shape := ⟨2, ![4, 8]⟩
abbrev S1x4x8x1x1 : Shape := ⟨5, ![1, 4, 8, 1, 1]⟩
abbrev S16x4x8x128 : Shape := ⟨4, ![16, 4, 8, 128]⟩
abbrev S16x4x8x128x1 : Shape := ⟨5, ![16, 4, 8, 128, 1]⟩
abbrev S16x4x64x8x128 : Shape := ⟨5, ![16, 4, 64, 8, 128]⟩
abbrev S16x4x64x256 : Shape := ⟨4, ![16, 4, 64, 256]⟩
abbrev S4x8x1 : Shape := ⟨3, ![4, 8, 1]⟩
abbrev S16x4x128x8x64 : Shape := ⟨5, ![16, 4, 128, 8, 64]⟩
abbrev S16x4x256x64 : Shape := ⟨4, ![16, 4, 256, 64]⟩
abbrev S2048x256 : Shape := ⟨2, ![2048, 256]⟩
abbrev S2048x512 : Shape := ⟨2, ![2048, 512]⟩
abbrev S2048 : Shape := ⟨1, ![2048]⟩
abbrev S1x2048 : Shape := ⟨2, ![1, 2048]⟩
abbrev S512 : Shape := ⟨1, ![512]⟩
abbrev S1x512 : Shape := ⟨2, ![1, 512]⟩

abbrev nBuf : Space → Nat
  | .hbm => 234
  | .vmem => 0
  | .smem => 0
  | _ => 0

abbrev hbmTy0_0 (i : Nat) : BufTy := match i % 128 with
  | 0 => ⟨S2048x2048, .bf16⟩
  | 1 => ⟨S4x2048x64, .bf16⟩
  | 2 => ⟨S4x2048x64, .bf16⟩
  | 3 => ⟨S32x128x256, .f32⟩
  | 4 => ⟨S32, .f32⟩
  | 5 => ⟨S2048x2048, .bf16⟩
  | 6 => ⟨S4x2048x64, .f32⟩
  | 7 => ⟨S2048x4x64, .f32⟩
  | 8 => ⟨S4x2048x64, .f32⟩
  | 9 => ⟨S2048x4x64, .f32⟩
  | 10 => ⟨S2048x2048, .f32⟩
  | 11 => ⟨S16x128x4x8x64, .f32⟩
  | 12 => ⟨S_, .f32⟩
  | 13 => ⟨S128x4x64, .f32⟩
  | 14 => ⟨S2176x4x64, .f32⟩
  | 15 => ⟨S_, .f32⟩
  | 16 => ⟨S128x4x64, .f32⟩
  | 17 => ⟨S2048x4x64, .f32⟩
  | 18 => ⟨S16x128x4x64, .f32⟩
  | 19 => ⟨S16x128x4x64, .f32⟩
  | 20 => ⟨S16x256x4x64, .f32⟩
  | 21 => ⟨S_, .f32⟩
  | 22 => ⟨S128x4x64, .f32⟩
  | 23 => ⟨S2176x4x64, .f32⟩
  | 24 => ⟨S_, .f32⟩
  | 25 => ⟨S128x4x64, .f32⟩
  | 26 => ⟨S2048x4x64, .f32⟩
  | 27 => ⟨S16x128x4x64, .f32⟩
  | 28 => ⟨S16x128x4x64, .f32⟩
  | 29 => ⟨S16x256x4x64, .f32⟩
  | 30 => ⟨S16x4x256x128x8, .f32⟩
  | 31 => ⟨S16x4x8x128x256, .f32⟩
  | 32 => ⟨S_, .f32⟩
  | 33 => ⟨S16x4x8x128x256, .f32⟩
  | 34 => ⟨S16x4x8x128x256, .f32⟩
  | 35 => ⟨S128, .i32⟩
  | 36 => ⟨S128x1, .i32⟩
  | 37 => ⟨S_, .i32⟩
  | 38 => ⟨S128x1, .i32⟩
  | 39 => ⟨S128x1, .i32⟩
  | 40 => ⟨S256, .i32⟩
  | 41 => ⟨S1x256, .i32⟩
  | 42 => ⟨S128x256, .i32⟩
  | 43 => ⟨S128x256, .i32⟩
  | 44 => ⟨S128x256, .i32⟩
  | 45 => ⟨S_, .i32⟩
  | 46 => ⟨S128x256, .i32⟩
  | 47 => ⟨S128x256, .i1⟩
  | 48 => ⟨S_, .i32⟩
  | 49 => ⟨S128x256, .i32⟩
  | 50 => ⟨S128x256, .i1⟩
  | 51 => ⟨S128x256, .i1⟩
  | 52 => ⟨S16, .i32⟩
  | 53 => ⟨S16x1, .i32⟩
  | 54 => ⟨S_, .i32⟩
  | 55 => ⟨S16x1, .i32⟩
  | 56 => ⟨S16x1, .i32⟩
  | 57 => ⟨S_, .i32⟩
  | 58 => ⟨S16x1, .i32⟩
  | 59 => ⟨S16x1, .i32⟩
  | 60 => ⟨S256, .i32⟩
  | 61 => ⟨S1x256, .i32⟩
  | 62 => ⟨S16x256, .i32⟩
  | 63 => ⟨S16x256, .i32⟩
  | 64 => ⟨S16x256, .i32⟩
  | 65 => ⟨S_, .i32⟩
  | 66 => ⟨S16x256, .i32⟩
  | 67 => ⟨S16x256, .i1⟩
  | 68 => ⟨S1x128x256, .i1⟩
  | 69 => ⟨S16x1x256, .i1⟩
  | 70 => ⟨S16x128x256, .i1⟩
  | 71 => ⟨S16x128x256, .i1⟩
  | 72 => ⟨S16x128x256, .i1⟩
  | 73 => ⟨S16x1x1x128x256, .i1⟩
  | 74 => ⟨S4x8x128x256, .f32⟩
  | 75 => ⟨S1x4x8x128x256, .f32⟩
  | 76 => ⟨S16x4x8x128x256, .f32⟩
  | 77 => ⟨S16x4x8x128x256, .f32⟩
  | 78 => ⟨S_, .f32⟩
  | 79 => ⟨S_, .f32⟩
  | 80 => ⟨S16x4x8x128x256, .i1⟩
  | 81 => ⟨S16x4x8x128x256, .f32⟩
  | 82 => ⟨S16x4x8x128x256, .f32⟩
  | 83 => ⟨S_, .f32⟩
  | 84 => ⟨S16x4x8x128x256, .f32⟩
  | 85 => ⟨S4x8, .f32⟩
  | 86 => ⟨S1x4x8x1x1, .f32⟩
  | 87 => ⟨S_, .f32⟩
  | 88 => ⟨S16x4x8x128, .f32⟩
  | 89 => ⟨S16x4x8x128x1, .f32⟩
  | 90 => ⟨S16x4x8x128x256, .f32⟩
  | 91 => ⟨S16x4x8x128x256, .i1⟩
  | 92 => ⟨S16x4x8x128x256, .f32⟩
  | 93 => ⟨S_, .f32⟩
  | 94 => ⟨S16x4x8x128, .f32⟩
  | 95 => ⟨S16x4x8x128x1, .f32⟩
  | 96 => ⟨S16x4x8x128x1, .f32⟩
  | 97 => ⟨S16x4x8x128x1, .f32⟩
  | 98 => ⟨S16x4x8x128x1, .f32⟩
  | 99 => ⟨S16x4x8x128x1, .i1⟩
  | 100 => ⟨S16x4x8x128x1, .f32⟩
  | 101 => ⟨S16x4x8x128x1, .i1⟩
  | 102 => ⟨S_, .f32⟩
  | 103 => ⟨S16x4x8x128x1, .f32⟩
  | 104 => ⟨S_, .f32⟩
  | 105 => ⟨S16x4x8x128x1, .f32⟩
  | 106 => ⟨S_, .f32⟩
  | 107 => ⟨S16x4x8x128x1, .f32⟩
  | 108 => ⟨S16x4x8x128x1, .f32⟩
  | 109 => ⟨S16x4x8x128x1, .f32⟩
  | 110 => ⟨S16x4x8x128x1, .f32⟩
  | 111 => ⟨S16x4x8x128x1, .i1⟩
  | 112 => ⟨S16x4x8x128x1, .f32⟩
  | 113 => ⟨S16x4x8x128x1, .i1⟩
  | 114 => ⟨S_, .f32⟩
  | 115 => ⟨S16x4x8x128x1, .f32⟩
  | 116 => ⟨S_, .f32⟩
  | 117 => ⟨S16x4x8x128x1, .f32⟩
  | 118 => ⟨S_, .f32⟩
  | 119 => ⟨S16x4x8x128x1, .f32⟩
  | 120 => ⟨S16x4x8x128x1, .f32⟩
  | 121 => ⟨S16x4x8x128x1, .f32⟩
  | 122 => ⟨S16x4x8x128x256, .f32⟩
  | 123 => ⟨S16x4x8x128x256, .f32⟩
  | 124 => ⟨S16x4x8x128x256, .f32⟩
  | 125 => ⟨S_, .f32⟩
  | 126 => ⟨S16x4x8x128, .f32⟩
  | 127 => ⟨S16x4x8x128x1, .f32⟩
  | _ => ⟨S2048x2048, .bf16⟩

abbrev hbmTy0_1 (i : Nat) : BufTy := match i % 128 with
  | 0 => ⟨S16x4x8x128x1, .f32⟩
  | 1 => ⟨S16x4x8x128x1, .f32⟩
  | 2 => ⟨S16x4x8x128x1, .f32⟩
  | 3 => ⟨S16x4x8x128x1, .f32⟩
  | 4 => ⟨S16x4x8x128x256, .f32⟩
  | 5 => ⟨S16x4x8x128x256, .f32⟩
  | 6 => ⟨S16x4x8x128x1, .f32⟩
  | 7 => ⟨S_, .f32⟩
  | 8 => ⟨S16x4x8x128x1, .f32⟩
  | 9 => ⟨S16x4x8x128x1, .f32⟩
  | 10 => ⟨S16x4x64x8x128, .f32⟩
  | 11 => ⟨S16x128x4x8x64, .f32⟩
  | 12 => ⟨S2048x2048, .f32⟩
  | 13 => ⟨S2048x2048, .f32⟩
  | 14 => ⟨S16x128x4x8x64, .f32⟩
  | 15 => ⟨S16x4x64x8x128, .f32⟩
  | 16 => ⟨S16x4x8x128x256, .f32⟩
  | 17 => ⟨S16x4x64x256, .f32⟩
  | 18 => ⟨S16x256x4x64, .f32⟩
  | 19 => ⟨S16x4x8x128x256, .f32⟩
  | 20 => ⟨S16x4x8x128x256, .f32⟩
  | 21 => ⟨S16x4x8x128x256, .f32⟩
  | 22 => ⟨S_, .f32⟩
  | 23 => ⟨S16x4x8x128, .f32⟩
  | 24 => ⟨S16x4x8x128x1, .f32⟩
  | 25 => ⟨S16x4x8x128x1, .f32⟩
  | 26 => ⟨S16x4x8x128x256, .f32⟩
  | 27 => ⟨S16x4x8x128x256, .f32⟩
  | 28 => ⟨S16x4x8x128x1, .f32⟩
  | 29 => ⟨S_, .f32⟩
  | 30 => ⟨S4x8x1, .f32⟩
  | 31 => ⟨S1x4x8x1x1, .f32⟩
  | 32 => ⟨S16x4x8x128x1, .f32⟩
  | 33 => ⟨S_, .f32⟩
  | 34 => ⟨S16x4x8x128, .f32⟩
  | 35 => ⟨S16x4x8x128x256, .f32⟩
  | 36 => ⟨S16x4x8x128x256, .f32⟩
  | 37 => ⟨S16x4x8x128x256, .f32⟩
  | 38 => ⟨S16x4x8x128x256, .f32⟩
  | 39 => ⟨S_, .f32⟩
  | 40 => ⟨S16x4x8x128, .f32⟩
  | 41 => ⟨S16x4x8x128x1, .f32⟩
  | 42 => ⟨S16x4x8x128x1, .f32⟩
  | 43 => ⟨S16x4x8x128x1, .f32⟩
  | 44 => ⟨S_, .f32⟩
  | 45 => ⟨S4x8x1, .f32⟩
  | 46 => ⟨S1x4x8x1x1, .f32⟩
  | 47 => ⟨S1x4x8x1x1, .f32⟩
  | 48 => ⟨S16x4x8x128x1, .f32⟩
  | 49 => ⟨S_, .f32⟩
  | 50 => ⟨S16x4x8x128, .f32⟩
  | 51 => ⟨S16x4x8x128, .f32⟩
  | 52 => ⟨S16x4x8x128x256, .f32⟩
  | 53 => ⟨S16x4x8x128x256, .f32⟩
  | 54 => ⟨S16x4x8x128x256, .f32⟩
  | 55 => ⟨S_, .f32⟩
  | 56 => ⟨S4x8, .f32⟩
  | 57 => ⟨S32, .f32⟩
  | 58 => ⟨S_, .f32⟩
  | 59 => ⟨S16x4x8x128x256, .f32⟩
  | 60 => ⟨S16x4x8x128x256, .f32⟩
  | 61 => ⟨S_, .f32⟩
  | 62 => ⟨S4x8x128x256, .f32⟩
  | 63 => ⟨S1x4x8x128x256, .f32⟩
  | 64 => ⟨S_, .f32⟩
  | 65 => ⟨S4x8x128x256, .f32⟩
  | 66 => ⟨S32x128x256, .f32⟩
  | 67 => ⟨S_, .f32⟩
  | 68 => ⟨S16x4x8x128x256, .f32⟩
  | 69 => ⟨S16x4x8x128x256, .f32⟩
  | 70 => ⟨S16x4x256x128x8, .f32⟩
  | 71 => ⟨S16x4x128x8x64, .f32⟩
  | 72 => ⟨S16x128x4x8x64, .f32⟩
  | 73 => ⟨S16x4x256x64, .f32⟩
  | 74 => ⟨S16x256x4x64, .f32⟩
  | 75 => ⟨S16x128x4x64, .f32⟩
  | 76 => ⟨S16x128x4x64, .f32⟩
  | 77 => ⟨S2048x4x64, .f32⟩
  | 78 => ⟨S2048x4x64, .f32⟩
  | 79 => ⟨S_, .f32⟩
  | 80 => ⟨S2176x4x64, .f32⟩
  | 81 => ⟨S128x4x64, .f32⟩
  | 82 => ⟨S2048x4x64, .f32⟩
  | 83 => ⟨S2048x4x64, .f32⟩
  | 84 => ⟨S16x128x4x64, .f32⟩
  | 85 => ⟨S16x128x4x64, .f32⟩
  | 86 => ⟨S2048x4x64, .f32⟩
  | 87 => ⟨S2048x4x64, .f32⟩
  | 88 => ⟨S_, .f32⟩
  | 89 => ⟨S2176x4x64, .f32⟩
  | 90 => ⟨S128x4x64, .f32⟩
  | 91 => ⟨S2048x4x64, .f32⟩
  | 92 => ⟨S2048x4x64, .f32⟩
  | 93 => ⟨S2048x2048, .f32⟩
  | 94 => ⟨S2048x256, .f32⟩
  | 95 => ⟨S2048x256, .f32⟩
  | 96 => ⟨S2048x512, .f32⟩
  | 97 => ⟨S2048x2048, .bf16⟩
  | 98 => ⟨S2048x2048, .bf16⟩
  | 99 => ⟨S_, .f32⟩
  | 100 => ⟨S2048, .f32⟩
  | 101 => ⟨S1x2048, .f32⟩
  | 102 => ⟨S2048x512, .bf16⟩
  | 103 => ⟨S_, .f32⟩
  | 104 => ⟨S512, .f32⟩
  | 105 => ⟨S1x512, .f32⟩
  | _ => ⟨S2048x2048, .bf16⟩

abbrev hbmTy (i : Nat) : BufTy := match i / 128 with
  | 0 => hbmTy0_0 i
  | 1 => hbmTy0_1 i
  | _ => ⟨S2048x2048, .bf16⟩

abbrev bufTy : (tb : Table) → Fin (tcTables nBuf tb) → BufTy
  | .hbm, ⟨i, _⟩ => hbmTy i
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c_4 : Ref sig .tc := ⟨.hbm, 45, rfl⟩
abbrev main_v33 : Ref sig .tc := ⟨.hbm, 46, rfl⟩
abbrev main_v34 : Ref sig .tc := ⟨.hbm, 47, rfl⟩
abbrev main_c_5 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_c_6 : Ref sig .tc := ⟨.hbm, 54, rfl⟩
abbrev main_v40 : Ref sig .tc := ⟨.hbm, 55, rfl⟩
abbrev main_v41 : Ref sig .tc := ⟨.hbm, 56, rfl⟩
abbrev main_c_7 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_c_8 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_9 : Ref sig .tc := ⟨.hbm, 78, rfl⟩
abbrev main_call0_v0 : Ref sig .tc := ⟨.hbm, 79, rfl⟩
abbrev main_v61_1 : Ref sig .tc := ⟨.hbm, 80, rfl⟩
abbrev main_call0_v2 : Ref sig .tc := ⟨.hbm, 81, rfl⟩
abbrev main_v61_0 : Ref sig .tc := ⟨.hbm, 82, rfl⟩
abbrev main_call0_cst : Ref sig .tc := ⟨.hbm, 83, rfl⟩
abbrev main_v61_2 : Ref sig .tc := ⟨.hbm, 84, rfl⟩
abbrev main_v62 : Ref sig .tc := ⟨.hbm, 85, rfl⟩
abbrev main_v63 : Ref sig .tc := ⟨.hbm, 86, rfl⟩
abbrev main_cst_10 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_11 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_12 : Ref sig .tc := ⟨.hbm, 102, rfl⟩
abbrev main_v77 : Ref sig .tc := ⟨.hbm, 103, rfl⟩
abbrev main_cst_13 : Ref sig .tc := ⟨.hbm, 104, rfl⟩
abbrev main_v78 : Ref sig .tc := ⟨.hbm, 105, rfl⟩
abbrev main_cst_14 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_cst_15 : Ref sig .tc := ⟨.hbm, 114, rfl⟩
abbrev main_v86 : Ref sig .tc := ⟨.hbm, 115, rfl⟩
abbrev main_cst_16 : Ref sig .tc := ⟨.hbm, 116, rfl⟩
abbrev main_v87 : Ref sig .tc := ⟨.hbm, 117, rfl⟩
abbrev main_cst_17 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_cst_18 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_cst_19 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_cst_20 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_cst_21 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_cst_22 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_cst_23 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_cst_24 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_cst_25 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_cst_26 : Ref sig .tc := ⟨.hbm, 183, rfl⟩
abbrev main_v144 : Ref sig .tc := ⟨.hbm, 184, rfl⟩
abbrev main_v145 : Ref sig .tc := ⟨.hbm, 185, rfl⟩
abbrev main_call1_cst : Ref sig .tc := ⟨.hbm, 186, rfl⟩
abbrev main_call1_v0 : Ref sig .tc := ⟨.hbm, 187, rfl⟩
abbrev main_v146 : Ref sig .tc := ⟨.hbm, 188, rfl⟩
abbrev main_cst_27 : Ref sig .tc := ⟨.hbm, 189, rfl⟩
abbrev main_v147 : Ref sig .tc := ⟨.hbm, 190, rfl⟩
abbrev main_v148 : Ref sig .tc := ⟨.hbm, 191, rfl⟩
abbrev main_cst_28 : Ref sig .tc := ⟨.hbm, 192, rfl⟩
abbrev main_v149 : Ref sig .tc := ⟨.hbm, 193, rfl⟩
abbrev main_v150 : Ref sig .tc := ⟨.hbm, 194, rfl⟩
abbrev main_cst_29 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_cst_30 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_cst_31 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_v179 : Ref sig .tc := ⟨.hbm, 226, rfl⟩
abbrev main_cst_32 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_cst_33 : Ref sig .tc := ⟨.hbm, 231, rfl⟩
abbrev main_v183 : Ref sig .tc := ⟨.hbm, 232, rfl⟩
abbrev main_v184 : Ref sig .tc := ⟨.hbm, 233, rfl⟩

abbrev nD : Nat := 1
abbrev τ : Topo := Topo.v7x

variable {F : FTy → Type} [FloatOps F]
-- ==== Proof.Lift.lean ====
/- Arithmetic of the exact instance on finite numbers: every operation the programs use takes real numbers to a real
   number, and every literal they print is a real number. -/
module

public import Idealize.ShloMosaic.Lib.ValueIdx
public import Idealize.ShloMosaic.PureOps.Ideal.Laws

@[expose] public section

noncomputable section

namespace Cert.Lift

open Idealize.ShloMosaic

variable {φ : FTy}

theorem mulC (a b : ℝ) : FloatOps.mulf (F := Ideal) (φ := φ) ((a : ℝ) : EReal) ((b : ℝ) : EReal) = ((a * b : ℝ) : EReal) := rfl
theorem addC (a b : ℝ) : FloatOps.addf (F := Ideal) (φ := φ) ((a : ℝ) : EReal) ((b : ℝ) : EReal) = ((a + b : ℝ) : EReal) := rfl
theorem subC (a b : ℝ) : FloatOps.subf (F := Ideal) (φ := φ) ((a : ℝ) : EReal) ((b : ℝ) : EReal) = ((a - b : ℝ) : EReal) := rfl
theorem mulE (a b : ℝ) : ((a : ℝ) : EReal) * ((b : ℝ) : EReal) = ((a * b : ℝ) : EReal) := rfl
theorem addE (a b : ℝ) : ((a : ℝ) : EReal) + ((b : ℝ) : EReal) = ((a + b : ℝ) : EReal) := rfl
theorem hostTanhC (a : ℝ) : FloatOps.hostUnary (F := Ideal) (φ := φ) .tanh ((a : ℝ) : EReal) = ((Real.tanh a : ℝ) : EReal) := rfl
theorem tanhC (a : ℝ) : FloatOps.tanh (F := Ideal) (φ := φ) ((a : ℝ) : EReal) = ((Real.tanh a : ℝ) : EReal) := rfl

theorem hostDivC (a : ℝ) {b : ℝ} (h : b ≠ 0) :
    FloatOps.hostDivf (F := Ideal) (φ := φ) ((a : ℝ) : EReal) ((b : ℝ) : EReal) = ((a / b : ℝ) : EReal) := by
  rw [Ideal.hostDivf_def, Ideal.div_coe h, mulE, mul_one_div]
theorem divC (a : ℝ) {b : ℝ} (h : b ≠ 0) :
    FloatOps.divf (F := Ideal) (φ := φ) ((a : ℝ) : EReal) ((b : ℝ) : EReal) = ((a / b : ℝ) : EReal) := by
  rw [Ideal.divf_def, Ideal.div_coe h, mulE, mul_one_div]
theorem hostRsqrtC {a : ℝ} (h : 0 < a) :
    FloatOps.hostUnary (F := Ideal) (φ := φ) .rsqrt ((a : ℝ) : EReal) = (((Real.sqrt a)⁻¹ : ℝ) : EReal) := by
  rw [Ideal.hostUnary_rsqrt_def, Ideal.rsqrt_coe, if_neg (not_lt.mpr h.le), if_neg h.ne']
theorem rsqrtC {a : ℝ} (h : 0 < a) :
    FloatOps.rsqrt (F := Ideal) (φ := φ) ((a : ℝ) : EReal) = (((Real.sqrt a)⁻¹ : ℝ) : EReal) := by
  rw [Ideal.rsqrt_def, Ideal.rsqrt_coe, if_neg (not_lt.mpr h.le), if_neg h.ne']

theorem sumC {ι : Type*} (s : Finset ι) (f : ι → ℝ) : (∑ i ∈ s, ((f i : ℝ) : EReal)) = ((∑ i ∈ s, f i : ℝ) : EReal) := by
  classical
  induction s using Finset.induction with
  | empty => rfl
  | insert a s h ih => rw [Finset.sum_insert h, Finset.sum_insert h, ih, addE]

/-! ## The literals -/

/-- sqrt(2/π), as the single-precision number nearest to it. -/
def kC : ℝ := 13386282 / 16777216
/-- 1e-5, as the single-precision number nearest to it. -/
def eps : ℝ := 10995116 / 1099511627776
/-- The cubic coefficient of gelu's tanh formula. -/
def kk : ℝ := 8943 / 200000

theorem eps_pos : 0 < eps := by unfold eps; norm_num

theorem lit_half : Ideal.ofBits .f32 0x3F000000#32 = ((1 / 2 : ℝ) : EReal) := by simp [Ideal.ofBits, Ideal.ieee, -EReal.coe_mul]; norm_num
theorem lit_neg_half : Ideal.ofBits .f32 0xBF000000#32 = ((-1 / 2 : ℝ) : EReal) := by simp [Ideal.ofBits, Ideal.ieee, -EReal.coe_mul]; norm_num
theorem lit_one : Ideal.ofBits .f32 0x3F800000#32 = ((1 : ℝ) : EReal) := by simp [Ideal.ofBits, Ideal.ieee, -EReal.coe_mul]; norm_num
theorem lit_three : Ideal.ofBits .f32 0x40400000#32 = ((3 : ℝ) : EReal) := by simp [Ideal.ofBits, Ideal.ieee, -EReal.coe_mul]; norm_num
theorem lit_zero : Ideal.ofBits .f32 0x00000000#32 = ((0 : ℝ) : EReal) := by simp [Ideal.ofBits, Ideal.ieee]
theorem lit_2048 : Ideal.ofBits .f32 0x45000000#32 = ((2048 : ℝ) : EReal) := by simp [Ideal.ofBits, Ideal.ieee, -EReal.coe_mul]; norm_num
theorem lit_8943 : Ideal.ofBits .f32 0x460BBC00#32 = ((8943 : ℝ) : EReal) := by simp [Ideal.ofBits, Ideal.ieee, -EReal.coe_mul]; norm_num
theorem lit_200000 : Ideal.ofBits .f32 0x48435000#32 = ((200000 : ℝ) : EReal) := by simp [Ideal.ofBits, Ideal.ieee, -EReal.coe_mul]; norm_num
theorem lit_kC : Ideal.ofBits .f32 0x3F4C422A#32 = ((kC : ℝ) : EReal) := by simp [Ideal.ofBits, Ideal.ieee, -EReal.coe_mul, kC]; norm_num
theorem lit_eps : Ideal.ofBits .f32 0x3727C5AC#32 = ((eps : ℝ) : EReal) := by simp [Ideal.ofBits, Ideal.ieee, -EReal.coe_mul, eps]; norm_num

/-- The comparison of two coordinates below 128, as the mask's bit. -/
theorem mask_bit (t s : ℕ) (ht : t < 128) (hs : s < 128) :
    IntOp.cmpi .sge (BitVec.ofNat 32 t) (BitVec.ofNat 32 s) = if s ≤ t then 1#1 else 0#1 := by
  have e (n : ℕ) (hn : n < 128) : (BitVec.ofNat 32 n).toInt = (n : ℤ) := by
    have h : (BitVec.ofNat 32 n).toNat = n := by rw [BitVec.toNat_ofNat]; exact Nat.mod_eq_of_lt (by omega)
    rw [BitVec.toInt_eq_toNat_of_lt (by rw [h]; omega), h]
  by_cases h : s ≤ t <;> simp [IntOp.cmpi, BitVec.sle, h, e t ht, e s hs]

end Cert.Lift

end
-- ==== Proof.Mat.lean ====
/- Matrices of finite numbers: what the kernels' vector operations make of them, entry by entry. -/
module

public import proofs.«01_k».proof.Proof.Lift
public import Idealize.ShloMosaic.Lib.MatmulPlain
public import Idealize.ShloMosaic.Lib.Pipeline.Value

@[expose] public section

noncomputable section

namespace Cert.Mat

open Idealize.ShloMosaic Idealize.ShloMosaic.ValueIdx Cert.Lift

variable {M K N : ℕ} {φ φ₁ φ₂ : FTy}

/-- A vector of finite numbers, given by `r`. -/
abbrev Is1 {a : ℕ} (v : (⟨1, ![a]⟩ : Shape).Idx → EReal) (r : ℕ → ℝ) : Prop := ∀ i, v i = ((r (i 0).val : ℝ) : EReal)
/-- A matrix of finite numbers, given by `f`. -/
abbrev Is2 {a b : ℕ} (v : (⟨2, ![a, b]⟩ : Shape).Idx → EReal) (f : ℕ → ℕ → ℝ) : Prop := ∀ i, v i = ((f (i 0).val (i 1).val : ℝ) : EReal)
/-- A stack of matrices of finite numbers, given by `f`. -/
abbrev Is3 {a b c : ℕ} (v : (⟨3, ![a, b, c]⟩ : Shape).Idx → EReal) (f : ℕ → ℕ → ℕ → ℝ) : Prop :=
  ∀ i, v i = ((f (i 0).val (i 1).val (i 2).val : ℝ) : EReal)

/-! ## Entry by entry -/

section Entry
variable {a b c : ℕ} {v w : FVec Ideal ⟨2, ![a, b]⟩ φ} {f g : ℕ → ℕ → ℝ}

theorem is2_mul (hv : Is2 v f) (hw : Is2 w g) : Is2 (mulf v w) (fun t j => f t j * g t j) := fun i => by
  show FloatOps.mulf (v i) (w i) = _
  rw [hv, hw, mulC]
theorem is2_add (hv : Is2 v f) (hw : Is2 w g) : Is2 (addf v w) (fun t j => f t j + g t j) := fun i => by
  show FloatOps.addf (v i) (w i) = _
  rw [hv, hw, addC]
theorem is2_sub (hv : Is2 v f) (hw : Is2 w g) : Is2 (subf v w) (fun t j => f t j - g t j) := fun i => by
  show FloatOps.subf (v i) (w i) = _
  rw [hv, hw, subC]
theorem is2_trunc {ψ : FTy} {h} (hv : Is2 v f) : Is2 (truncf ψ v h) f := hv
theorem is2_ext {ψ : FTy} {h} (hv : Is2 v f) : Is2 (extf ψ v h) f := hv

/-- Columns `q …` of the rows `p …`. -/
theorem is2_slice {a' b' : ℕ} {p q : ℕ} (hv : Is2 v f) (h : (⟨2, ![a, b]⟩ : Shape).Slices ![p, q] ⟨2, ![a', b']⟩) :
    Is2 (extractStridedSlice ⟨2, ![a', b']⟩ ![p, q] v h) (fun t j => f (p + t) (q + j)) := fun i => hv _
theorem is2_self {h} (hv : Is2 v f) : Is2 (shapeCast ⟨2, ![a, b]⟩ v h) f := by rw [shapeCast_self]; exact hv

/-- A column repeated over the columns. -/
theorem is2_cols {x : FVec Ideal ⟨2, ![a, 1]⟩ φ} {r : ℕ → ℝ} {h} (hv : Is2 x (fun t _ => r t)) :
    Is2 (broadcastTo ⟨2, ![a, b]⟩ x h) (fun t _ => r t) := fun i => by
  rw [broadcastTo_apply x _ i (ix2 (i 0) 0) (by
    intro k
    match k with
    | ⟨0, _⟩ => exact (by
        show (i 0).val = if a = 1 then 0 else (i 0).val
        split
        · next h1 => have := (i 0).isLt; change (i 0).val < a at this; omega
        · rfl)
    | ⟨1, _⟩ => rfl)]
  exact hv _

/-- A row repeated over the rows. -/
theorem is2_rows {x : FVec Ideal ⟨2, ![1, b]⟩ φ} {r : ℕ → ℝ} {h} (hv : Is2 x (fun _ j => r j)) :
    Is2 (broadcastTo ⟨2, ![a, b]⟩ x h) (fun _ j => r j) := fun i => by
  rw [broadcastTo_apply x _ i (ix2 0 (i 1)) (by
    intro k
    match k with
    | ⟨0, _⟩ => rfl
    | ⟨1, _⟩ => exact (by
        show (i 1).val = if b = 1 then 0 else (i 1).val
        split
        · next h1 => have := (i 1).isLt; change (i 1).val < b at this; omega
        · rfl))]
  exact hv _

/-- A vector as a column. -/
theorem is2_col {x : FVec Ideal ⟨1, ![a]⟩ φ} {r : ℕ → ℝ} {h} (hv : Is1 x r) :
    Is2 (shapeCast ⟨2, ![a, 1]⟩ x h) (fun t _ => r t) := fun i => by
  rw [shapeCast_apply x _ i (ix1 (i 0)) (by
    rw [Shape.rowMajor_val_one, Shape.rowMajor_val_two]
    show (i 0).val = (i 0).val * 1 + (i 1).val
    have := (i 1).isLt; change (i 1).val < 1 at this; omega), hv]
  rfl
/-- A vector as a row. -/
theorem is2_row {x : FVec Ideal ⟨1, ![b]⟩ φ} {r : ℕ → ℝ} {h} (hv : Is1 x r) :
    Is2 (shapeCast ⟨2, ![1, b]⟩ x h) (fun _ j => r j) := fun i => by
  rw [shapeCast_apply x _ i (ix1 (i 1)) (by
    rw [Shape.rowMajor_val_one, Shape.rowMajor_val_two]
    show (i 1).val = (i 0).val * b + (i 1).val
    have := (i 0).isLt; change (i 0).val < 1 at this
    rw [show (i 0).val = 0 by omega, Nat.zero_mul, Nat.zero_add]), hv]
  rfl
/-- The one matrix of a stack of one. -/
theorem is2_of3 {x : FVec Ideal ⟨3, ![1, a, b]⟩ φ} {h} (hv : Is3 x (fun _ t j => f t j)) : Is2 (shapeCast ⟨2, ![a, b]⟩ x h) f := fun i => by
  rw [shapeCast_apply x _ i (ix3 0 (i 0) (i 1)) (by
    rw [Shape.rowMajor_val_three, Shape.rowMajor_val_two]
    show (0 * a + (i 0).val) * b + (i 1).val = (i 0).val * b + (i 1).val
    rw [Nat.zero_mul, Nat.zero_add])]
  exact hv _
/-- A matrix as a stack of one. -/
theorem is3_of2 {h} (hv : Is2 v f) : Is3 (shapeCast ⟨3, ![1, a, b]⟩ v h) (fun _ t j => f t j) := fun i => by
  rw [shapeCast_apply v _ i (ix2 (i 1) (i 2)) (by
    rw [Shape.rowMajor_val_three, Shape.rowMajor_val_two]
    have := (i 0).isLt; change (i 0).val < 1 at this
    show (i 1).val * b + (i 2).val = ((i 0).val * a + (i 1).val) * b + (i 2).val
    rw [show (i 0).val = 0 by omega, Nat.zero_mul, Nat.zero_add])]
  exact hv _

end Entry

/-! ## Sums along an axis -/

theorem rowSum {a b : ℕ} {v : FVec Ideal ⟨2, ![a, b]⟩ φ} {f : ℕ → ℕ → ℝ} {acc : BitVec φ.bits} {h hφ hacc} (hv : Is2 v f) :
    Is1 (multiReduction .add [1] ⟨1, ![a]⟩ v acc h hφ hacc) (fun t => ∑ k : Fin b, f t k.val) := fun j => by
  refine (Ideal.multiReduction_add_single v _ _ _ _ j).trans ?_
  rw [← sumC]
  exact Finset.sum_congr rfl fun k _ => by rw [hv]; rfl

theorem colSum {a b : ℕ} {v : FVec Ideal ⟨2, ![a, b]⟩ φ} {f : ℕ → ℕ → ℝ} {acc : BitVec φ.bits} {h hφ hacc} (hv : Is2 v f) :
    Is1 (multiReduction .add [0] ⟨1, ![b]⟩ v acc h hφ hacc) (fun j => ∑ k : Fin a, f k.val j) := fun j => by
  refine (Ideal.multiReduction_add_single v _ _ _ _ j).trans ?_
  rw [← sumC]
  exact Finset.sum_congr rfl fun k _ => by rw [hv]; rfl

/-! ## Matrix products, with the left or the right operand read transposed -/

/-- `[K, M]ᵀ × [K, N]`: both operands contracted on their first axis. -/
def first (M K N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

theorem first_apply (prec : Option ContractPrecision) (lhs : FVec Ideal ⟨2, ![K, M]⟩ φ₁) (rhs : FVec Ideal ⟨2, ![K, N]⟩ φ₂)
    (acc : FVec Ideal ⟨2, ![M, N]⟩ .f32) (r : Fin M) (c : Fin N) :
    FloatOps.matmul (first M K N) prec lhs rhs acc (ix2 r c) = acc (ix2 r c) + ∑ k : Fin K, lhs (ix2 k r) * rhs (ix2 k c) := by
  have hr : (first M K N).contr.rank = 1 := rfl
  have hs : (first M K N).contr.size ⟨0, by rw [hr]; exact Nat.one_pos⟩ = K := rfl
  rw [Ideal.matmul_apply, ← Equiv.sum_comp (contrEquiv1 _ K hr hs).symm]
  refine congrArg (acc (ix2 r c) + ·) (Finset.sum_congr rfl fun k _ => ?_)
  have hk := contrEquiv1_symm_val _ K hr hs k
  have el : (first M K N).lhsIdx (ix2 r c) ((contrEquiv1 _ K hr hs).symm k) = ix2 k r := by
    funext a; apply Fin.ext
    match a with
    | ⟨0, _⟩ => exact hk
    | ⟨1, _⟩ => rfl
  have er : (first M K N).rhsIdx (ix2 r c) ((contrEquiv1 _ K hr hs).symm k) = ix2 k c := by
    funext a; apply Fin.ext
    match a with
    | ⟨0, _⟩ => exact hk
    | ⟨1, _⟩ => rfl
  rw [el, er]

theorem zero_acc (s : Shape) (i : s.Idx) : constant (F := Ideal) s .f32 0x00000000#32 i = 0 := by
  show Ideal.ofBits .f32 0x00000000#32 = 0
  rw [lit_zero]; rfl

theorem matNN (prec : Option ContractPrecision) {lhs : FVec Ideal ⟨2, ![M, K]⟩ φ₁} {rhs : FVec Ideal ⟨2, ![K, N]⟩ φ₂} {L R : ℕ → ℕ → ℝ}
    (hl : Is2 lhs L) (hr : Is2 rhs R) :
    Is2 (FloatOps.matmul (DotDims.plain M K N) prec lhs rhs (constant ⟨2, ![M, N]⟩ .f32 0x00000000#32))
      (fun i j => ∑ k : Fin K, L i k.val * R k.val j) := fun i => by
  obtain ⟨a, b, rfl⟩ : ∃ a b, i = ix2 a b := ⟨i 0, i 1, eq_ix2 i⟩
  rw [Ideal.matmul_plain_apply, zero_acc, zero_add]
  simp only [hl, hr, mulE, sumC]
  rfl

theorem matNT (prec : Option ContractPrecision) {lhs : FVec Ideal ⟨2, ![M, K]⟩ φ₁} {rhs : FVec Ideal ⟨2, ![N, K]⟩ φ₂} {L R : ℕ → ℕ → ℝ}
    (hl : Is2 lhs L) (hr : Is2 rhs R) :
    Is2 (FloatOps.matmul (DotDims.transposedRhs M K N) prec lhs rhs (constant ⟨2, ![M, N]⟩ .f32 0x00000000#32))
      (fun i j => ∑ k : Fin K, L i k.val * R j k.val) := fun i => by
  obtain ⟨a, b, rfl⟩ : ∃ a b, i = ix2 a b := ⟨i 0, i 1, eq_ix2 i⟩
  rw [Ideal.matmul_transposedRhs_apply, zero_acc, zero_add]
  simp only [hl, hr, mulE, sumC]
  rfl

theorem matTN (prec : Option ContractPrecision) {lhs : FVec Ideal ⟨2, ![K, M]⟩ φ₁} {rhs : FVec Ideal ⟨2, ![K, N]⟩ φ₂} {L R : ℕ → ℕ → ℝ}
    (hl : Is2 lhs L) (hr : Is2 rhs R) :
    Is2 (FloatOps.matmul (first M K N) prec lhs rhs (constant ⟨2, ![M, N]⟩ .f32 0x00000000#32))
      (fun i j => ∑ k : Fin K, L k.val i * R k.val j) := fun i => by
  obtain ⟨a, b, rfl⟩ : ∃ a b, i = ix2 a b := ⟨i 0, i 1, eq_ix2 i⟩
  rw [first_apply, zero_acc, zero_add]
  simp only [hl, hr, mulE, sumC]
  rfl

end Cert.Mat

end
-- ==== Proof.Prod.lean ====
/- Blocks of extended real numbers, given by functions of natural indices: what loads, casts, stores and matrix products
   make of them. Nothing here asks the numbers to be finite. -/
module

public import proofs.«01_k».proof.Proof.Mat
public import Idealize.ShloMosaic.Lib.Pipeline.ValueKit

@[expose] public section

noncomputable section

namespace Cert.Prod

open Idealize.ShloMosaic Idealize.ShloMosaic.ValueIdx Cert.Lift

variable {a b c d M K N : ℕ} {φ φ₁ φ₂ : FTy}

/-- A matrix given by `f`. -/
abbrev At2 (v : (⟨2, ![a, b]⟩ : Shape).Idx → EReal) (f : ℕ → ℕ → EReal) : Prop := ∀ i, v i = f (i 0).val (i 1).val
/-- A stack of matrices given by `f`. -/
abbrev At3 (v : (⟨3, ![a, b, c]⟩ : Shape).Idx → EReal) (f : ℕ → ℕ → ℕ → EReal) : Prop := ∀ i, v i = f (i 0).val (i 1).val (i 2).val
/-- Stacks of matrices given by `f`. -/
abbrev At4 (v : (⟨4, ![a, b, c, d]⟩ : Shape).Idx → EReal) (f : ℕ → ℕ → ℕ → ℕ → EReal) : Prop :=
  ∀ i, v i = f (i 0).val (i 1).val (i 2).val (i 3).val

/-! ## The entries of an array -/

def ent2 (v : (⟨2, ![a, b]⟩ : Shape).Idx → EReal) (i j : ℕ) : EReal :=
  if h : i < a ∧ j < b then v (ValueIdx.ix2 ⟨i, h.1⟩ ⟨j, h.2⟩) else 0
def ent3 (v : (⟨3, ![a, b, c]⟩ : Shape).Idx → EReal) (i j k : ℕ) : EReal :=
  if h : i < a ∧ j < b ∧ k < c then v (ValueIdx.ix3 ⟨i, h.1⟩ ⟨j, h.2.1⟩ ⟨k, h.2.2⟩) else 0
def ent4 (v : (⟨4, ![a, b, c, d]⟩ : Shape).Idx → EReal) (i j k l : ℕ) : EReal :=
  if h : i < a ∧ j < b ∧ k < c ∧ l < d then v (ValueIdx.ix4 ⟨i, h.1⟩ ⟨j, h.2.1⟩ ⟨k, h.2.2.1⟩ ⟨l, h.2.2.2⟩) else 0

theorem at2_ent (v : (⟨2, ![a, b]⟩ : Shape).Idx → EReal) : At2 v (ent2 v) := fun i => by
  have h0 : (i 0).val < a ∧ (i 1).val < b := ⟨(i 0).isLt, (i 1).isLt⟩
  unfold ent2
  rw [dif_pos h0]
  exact congrArg v (ValueIdx.eq_ix2 i)
theorem at3_ent (v : (⟨3, ![a, b, c]⟩ : Shape).Idx → EReal) : At3 v (ent3 v) := fun i => by
  have h0 : (i 0).val < a ∧ (i 1).val < b ∧ (i 2).val < c := ⟨(i 0).isLt, (i 1).isLt, (i 2).isLt⟩
  unfold ent3
  rw [dif_pos h0]
  exact congrArg v (ValueIdx.eq_ix3 i)
theorem at4_ent (v : (⟨4, ![a, b, c, d]⟩ : Shape).Idx → EReal) : At4 v (ent4 v) := fun i => by
  have h0 : (i 0).val < a ∧ (i 1).val < b ∧ (i 2).val < c ∧ (i 3).val < d := ⟨(i 0).isLt, (i 1).isLt, (i 2).isLt, (i 3).isLt⟩
  unfold ent4
  rw [dif_pos h0]
  exact congrArg v (ValueIdx.eq_ix4 i)

theorem at2_congr {v : (⟨2, ![a, b]⟩ : Shape).Idx → EReal} {f f' : ℕ → ℕ → EReal} (h : At2 v f) (e : ∀ t j, t < a → j < b → f t j = f' t j) :
    At2 v f' := fun i => (h i).trans (e _ _ (i 0).isLt (i 1).isLt)

/-! ## Entry by entry -/

section Entry
variable {v w : FVec Ideal ⟨2, ![a, b]⟩ φ} {f g : ℕ → ℕ → EReal}

theorem at2_mul (hv : At2 v f) (hw : At2 w g) : At2 (mulf v w) (fun t j => f t j * g t j) := fun i => by
  show v i * w i = _
  rw [hv, hw]
theorem at2_add (hv : At2 v f) (hw : At2 w g) : At2 (addf v w) (fun t j => f t j + g t j) := fun i => by
  show v i + w i = _
  rw [hv, hw]
theorem at2_self {h} (hv : At2 v f) : At2 (shapeCast ⟨2, ![a, b]⟩ v h) f := by rw [shapeCast_self]; exact hv
theorem at2_of3 {x : FVec Ideal ⟨3, ![1, a, b]⟩ φ} {f : ℕ → ℕ → ℕ → EReal} {h} (hv : At3 x f) : At2 (shapeCast ⟨2, ![a, b]⟩ x h) (f 0) := fun i => by
  rw [shapeCast_apply x _ i (ValueIdx.ix3 0 (i 0) (i 1)) (by
    rw [Shape.rowMajor_val_three, Shape.rowMajor_val_two]
    show (0 * a + (i 0).val) * b + (i 1).val = (i 0).val * b + (i 1).val
    rw [Nat.zero_mul, Nat.zero_add])]
  exact hv _
theorem at2_of4 {x : FVec Ideal ⟨4, ![1, 1, a, b]⟩ φ} {f : ℕ → ℕ → ℕ → ℕ → EReal} {h} (hv : At4 x f) : At2 (shapeCast ⟨2, ![a, b]⟩ x h) (f 0 0) := fun i => by
  rw [shapeCast_apply x _ i (ValueIdx.ix4 0 0 (i 0) (i 1)) (by
    rw [Shape.rowMajor_val_four, Shape.rowMajor_val_two]
    show ((0 * 1 + 0) * a + (i 0).val) * b + (i 1).val = (i 0).val * b + (i 1).val
    simp only [Nat.zero_mul, Nat.zero_add])]
  exact hv _
theorem at3_of2 {h} (hv : At2 v f) : At3 (shapeCast ⟨3, ![1, a, b]⟩ v h) (fun _ t j => f t j) := fun i => by
  rw [shapeCast_apply v _ i (ValueIdx.ix2 (i 1) (i 2)) (by
    rw [Shape.rowMajor_val_three, Shape.rowMajor_val_two]
    have := (i 0).isLt; change (i 0).val < 1 at this
    show (i 1).val * b + (i 2).val = ((i 0).val * a + (i 1).val) * b + (i 2).val
    rw [show (i 0).val = 0 by omega, Nat.zero_mul, Nat.zero_add])]
  exact hv _
theorem at4_of2 {h} (hv : At2 v f) : At4 (shapeCast ⟨4, ![1, 1, a, b]⟩ v h) (fun _ _ t j => f t j) := fun i => by
  rw [shapeCast_apply v _ i (ValueIdx.ix2 (i 2) (i 3)) (by
    rw [Shape.rowMajor_val_four, Shape.rowMajor_val_two]
    have h0 := (i 0).isLt; change (i 0).val < 1 at h0
    have h1 := (i 1).isLt; change (i 1).val < 1 at h1
    show (i 2).val * b + (i 3).val = (((i 0).val * 1 + (i 1).val) * a + (i 2).val) * b + (i 3).val
    rw [show (i 0).val = 0 by omega, show (i 1).val = 0 by omega, Nat.zero_mul, Nat.zero_add])]
  exact hv _

end Entry

/-! ## Matrix products -/

theorem mulNN (prec : Option ContractPrecision) {lhs : FVec Ideal ⟨2, ![M, K]⟩ φ₁} {rhs : FVec Ideal ⟨2, ![K, N]⟩ φ₂} {L R : ℕ → ℕ → EReal}
    (hl : At2 lhs L) (hr : At2 rhs R) :
    At2 (FloatOps.matmul (DotDims.plain M K N) prec lhs rhs (constant ⟨2, ![M, N]⟩ .f32 0x00000000#32))
      (fun i j => ∑ k : Fin K, L i k.val * R k.val j) := fun i => by
  obtain ⟨a, b, rfl⟩ : ∃ a b, i = ValueIdx.ix2 a b := ⟨i 0, i 1, ValueIdx.eq_ix2 i⟩
  rw [Ideal.matmul_plain_apply, Cert.Mat.zero_acc, zero_add]
  simp only [hl, hr]
  rfl

theorem mulNT (prec : Option ContractPrecision) {lhs : FVec Ideal ⟨2, ![M, K]⟩ φ₁} {rhs : FVec Ideal ⟨2, ![N, K]⟩ φ₂} {L R : ℕ → ℕ → EReal}
    (hl : At2 lhs L) (hr : At2 rhs R) :
    At2 (FloatOps.matmul (DotDims.transposedRhs M K N) prec lhs rhs (constant ⟨2, ![M, N]⟩ .f32 0x00000000#32))
      (fun i j => ∑ k : Fin K, L i k.val * R j k.val) := fun i => by
  obtain ⟨a, b, rfl⟩ : ∃ a b, i = ValueIdx.ix2 a b := ⟨i 0, i 1, ValueIdx.eq_ix2 i⟩
  rw [Ideal.matmul_transposedRhs_apply, Cert.Mat.zero_acc, zero_add]
  simp only [hl, hr]
  rfl

theorem mulTN (prec : Option ContractPrecision) {lhs : FVec Ideal ⟨2, ![K, M]⟩ φ₁} {rhs : FVec Ideal ⟨2, ![K, N]⟩ φ₂} {L R : ℕ → ℕ → EReal}
    (hl : At2 lhs L) (hr : At2 rhs R) :
    At2 (FloatOps.matmul (Cert.Mat.first M K N) prec lhs rhs (constant ⟨2, ![M, N]⟩ .f32 0x00000000#32))
      (fun i j => ∑ k : Fin K, L k.val i * R k.val j) := fun i => by
  obtain ⟨a, b, rfl⟩ : ∃ a b, i = ValueIdx.ix2 a b := ⟨i 0, i 1, ValueIdx.eq_ix2 i⟩
  rw [Cert.Mat.first_apply, Cert.Mat.zero_acc, zero_add]
  simp only [hl, hr]
  rfl

/-! ## Loads -/

section Loads
variable {sig : RefSig} {κ : Kind} {sp : Space}

/-- A load of a whole matrix. -/
theorem whole2 {arg : Memref sig κ sp ⟨2, ![a, b]⟩ .bf16} (harg : arg.IsWhole) {x : Vec Ideal ⟨2, ![a, b]⟩ .bf16} {f : ℕ → ℕ → EReal}
    (hx : At2 x f) {inb} : At2 (a := a) (b := b) (View.readAt (Elt Ideal) arg.view (Rect.unit (s := ⟨2, ![a, b]⟩) ![0, 0] (⟨2, ![a, b]⟩ : Shape).size inb).toLoadRect (harg.unread x)) f := by
  rw [View.readAt_eq_ld, harg.read_unread, View.ld_unit]
  intro i
  refine (hx _).trans ?_
  show f (0 + (i 0).val) (0 + (i 1).val) = _
  rw [Nat.zero_add, Nat.zero_add]

/-- A load of a whole matrix of wide numbers. -/
theorem whole2w {arg : Memref sig κ sp ⟨2, ![a, b]⟩ .f32} (harg : arg.IsWhole) {x : Vec Ideal ⟨2, ![a, b]⟩ .f32} {f : ℕ → ℕ → EReal}
    (hx : At2 x f) {inb} : At2 (a := a) (b := b) (View.readAt (Elt Ideal) arg.view (Rect.unit (s := ⟨2, ![a, b]⟩) ![0, 0] (⟨2, ![a, b]⟩ : Shape).size inb).toLoadRect (harg.unread x)) f := by
  rw [View.readAt_eq_ld, harg.read_unread, View.ld_unit]
  intro i
  refine (hx _).trans ?_
  show f (0 + (i 0).val) (0 + (i 1).val) = _
  rw [Nat.zero_add, Nat.zero_add]

/-- A load of one matrix of a stack, as a matrix. -/
theorem one3 {n p : ℕ} {arg : Memref sig κ sp ⟨3, ![n, a, b]⟩ .bf16} (harg : arg.IsWhole) {x : Vec Ideal ⟨3, ![n, a, b]⟩ .bf16} {f : ℕ → ℕ → ℕ → EReal}
    (hx : At3 x f) {inb h} : At2 (shapeCast (α := EReal) ⟨2, ![a, b]⟩ (View.readAt (Elt Ideal) arg.view (Rect.unit (s := ⟨3, ![n, a, b]⟩) ![p, 0, 0] (⟨3, ![1, a, b]⟩ : Shape).size inb).toLoadRect (harg.unread x)) h) (f p) := by
  refine at2_of3 (φ := .bf16) (f := fun _ => f p) ?_
  rw [View.readAt_eq_ld, harg.read_unread, View.ld_unit]
  intro i
  refine (hx _).trans ?_
  have := (i 0).isLt; change (i 0).val < 1 at this
  show f (p + (i 0).val) (0 + (i 1).val) (0 + (i 2).val) = _
  rw [show p + (i 0).val = p by omega, Nat.zero_add, Nat.zero_add]

/-- A load of one matrix of several stacks, as a matrix. -/
theorem one4 {n n' p q : ℕ} {arg : Memref sig κ sp ⟨4, ![n, n', a, b]⟩ .bf16} (harg : arg.IsWhole) {x : Vec Ideal ⟨4, ![n, n', a, b]⟩ .bf16} {f : ℕ → ℕ → ℕ → ℕ → EReal}
    (hx : At4 x f) {inb h} : At2 (shapeCast (α := EReal) ⟨2, ![a, b]⟩ (View.readAt (Elt Ideal) arg.view (Rect.unit (s := ⟨4, ![n, n', a, b]⟩) ![p, q, 0, 0] (⟨4, ![1, 1, a, b]⟩ : Shape).size inb).toLoadRect (harg.unread x)) h) (f p q) := by
  refine at2_of4 (φ := .bf16) (f := fun _ _ => f p q) ?_
  rw [View.readAt_eq_ld, harg.read_unread, View.ld_unit]
  intro i
  refine (hx _).trans ?_
  have h0 := (i 0).isLt; change (i 0).val < 1 at h0
  have h1 := (i 1).isLt; change (i 1).val < 1 at h1
  show f (p + (i 0).val) (q + (i 1).val) (0 + (i 2).val) (0 + (i 3).val) = _
  rw [show p + (i 0).val = p by omega, show q + (i 1).val = q by omega, Nat.zero_add, Nat.zero_add]

end Loads

/-! ## Stores -/

/-- A stored whole matrix, seen at the block's coordinates. -/
theorem put2 {w : FVec Ideal ⟨2, ![a, b]⟩ φ} {f : ℕ → ℕ → EReal} {inb} (hw : At2 w f)
    (x : (⟨2, ![a, b]⟩ : Shape).Idx) : w x = f ((Rect.unit (s := ⟨2, ![a, b]⟩) ![0, 0] ![a, b] inb).emb x 0).val ((Rect.unit (s := ⟨2, ![a, b]⟩) ![0, 0] ![a, b] inb).emb x 1).val := by
  rw [hw x]
  show _ = f (0 + 1 * (x 0).val) (0 + 1 * (x 1).val)
  rw [Nat.one_mul, Nat.one_mul, Nat.zero_add, Nat.zero_add]

/-- One stored matrix of a stack, seen at the block's coordinates. -/
theorem put3 {n p : ℕ} {w : FVec Ideal ⟨3, ![1, a, b]⟩ φ} {f : ℕ → ℕ → ℕ → EReal} {inb} (hw : At3 w (fun _ => f p))
    (x : (⟨3, ![1, a, b]⟩ : Shape).Idx) : w x = f ((Rect.unit (s := ⟨3, ![n, a, b]⟩) ![p, 0, 0] ![1, a, b] inb).emb x 0).val
      ((Rect.unit (s := ⟨3, ![n, a, b]⟩) ![p, 0, 0] ![1, a, b] inb).emb x 1).val ((Rect.unit (s := ⟨3, ![n, a, b]⟩) ![p, 0, 0] ![1, a, b] inb).emb x 2).val := by
  rw [hw x]
  have := (x 0).isLt; change (x 0).val < 1 at this
  show _ = f (p + 1 * (x 0).val) (0 + 1 * (x 1).val) (0 + 1 * (x 2).val)
  rw [show p + 1 * (x 0).val = p by omega, Nat.one_mul, Nat.one_mul, Nat.zero_add, Nat.zero_add]

/-- One stored matrix of several stacks, seen at the block's coordinates. -/
theorem put4 {n n' p q : ℕ} {w : FVec Ideal ⟨4, ![1, 1, a, b]⟩ φ} {f : ℕ → ℕ → ℕ → ℕ → EReal} {inb} (hw : At4 w (fun _ _ => f p q))
    (x : (⟨4, ![1, 1, a, b]⟩ : Shape).Idx) : w x = f ((Rect.unit (s := ⟨4, ![n, n', a, b]⟩) ![p, q, 0, 0] ![1, 1, a, b] inb).emb x 0).val
      ((Rect.unit (s := ⟨4, ![n, n', a, b]⟩) ![p, q, 0, 0] ![1, 1, a, b] inb).emb x 1).val
      ((Rect.unit (s := ⟨4, ![n, n', a, b]⟩) ![p, q, 0, 0] ![1, 1, a, b] inb).emb x 2).val
      ((Rect.unit (s := ⟨4, ![n, n', a, b]⟩) ![p, q, 0, 0] ![1, 1, a, b] inb).emb x 3).val := by
  rw [hw x]
  have h0 := (x 0).isLt; change (x 0).val < 1 at h0
  have h1 := (x 1).isLt; change (x 1).val < 1 at h1
  show _ = f (p + 1 * (x 0).val) (q + 1 * (x 1).val) (0 + 1 * (x 2).val) (0 + 1 * (x 3).val)
  rw [show p + 1 * (x 0).val = p by omega, show q + 1 * (x 1).val = q by omega, Nat.one_mul, Nat.one_mul, Nat.zero_add, Nat.zero_add]

/-! ## Sums in blocks -/

/-- A sum over `n * w` indices as `n` sums over `w` indices. -/
theorem sum_blocks (n w : ℕ) (g : ℕ → EReal) : ∑ k : Fin (n * w), g k.val = ∑ e : Fin n, ∑ f : Fin w, g (e.val * w + f.val) := by
  rw [← Fintype.sum_prod_type', ← Equiv.sum_comp finProdFinEquiv]
  refine Finset.sum_congr rfl fun p _ => congrArg g ?_
  show p.2.val + w * p.1.val = p.1.val * w + p.2.val
  rw [Nat.mul_comm, Nat.add_comm]

end Cert.Prod

end
-- ==== Proof.Join.lean ====
/- Arrays of extended real numbers joined along a new first axis, and products summed over two axes. -/
module

public import proofs.«01_k».proof.Proof.Prod
public import Idealize.ShloMosaic.Lib.TwoAxisContraction

@[expose] public section

noncomputable section

namespace Cert.Prod

open Idealize.ShloMosaic Idealize.ShloMosaic.ValueIdx

variable {a b c K M N : ℕ} {φ φ₁ φ₂ : FTy}

/-- The first of two for 0, the second for the rest. -/
def pick {α : Type} (x y : α) (p : ℕ) : α := if p = 0 then x else y

theorem join3 {x y : (⟨3, ![1, a, b]⟩ : Shape).Idx → EReal} {X Y : ℕ → ℕ → EReal} (hx : At3 x (fun _ => X)) (hy : At3 y (fun _ => Y)) {h} :
    At3 (concatenate ⟨3, ![2, a, b]⟩ 0 [⟨⟨3, ![1, a, b]⟩, x⟩, ⟨⟨3, ![1, a, b]⟩, y⟩] h) (pick X Y) := fun i => by
  have h2 : (i 0).val < 2 := (i 0).isLt
  unfold pick
  by_cases h0 : (i 0).val = 0
  · rw [if_pos h0, concatenate_pair_apply_left _ _ _ h i rfl (ValueIdx.ix3 0 (i 1) (i 2)) (fun b => by fin_cases b <;> first | rfl | exact h0.symm)]
    exact hx _
  · rw [if_neg h0, concatenate_pair_apply_right _ _ _ h i rfl rfl (ValueIdx.ix3 0 (i 1) (i 2))
      (fun b hb => by fin_cases b <;> first | rfl | exact absurd rfl hb) (by show 0 + 1 = (i 0).val; omega)]
    exact hy _

theorem join4 {x y : (⟨4, ![1, a, b, c]⟩ : Shape).Idx → EReal} {X Y : ℕ → ℕ → ℕ → EReal} (hx : At4 x (fun _ => X)) (hy : At4 y (fun _ => Y)) {h} :
    At4 (concatenate ⟨4, ![2, a, b, c]⟩ 0 [⟨⟨4, ![1, a, b, c]⟩, x⟩, ⟨⟨4, ![1, a, b, c]⟩, y⟩] h) (pick X Y) := fun i => by
  have h2 : (i 0).val < 2 := (i 0).isLt
  unfold pick
  by_cases h0 : (i 0).val = 0
  · rw [if_pos h0, concatenate_pair_apply_left _ _ _ h i rfl (ValueIdx.ix4 0 (i 1) (i 2) (i 3)) (fun b => by fin_cases b <;> first | rfl | exact h0.symm)]
    exact hx _
  · rw [if_neg h0, concatenate_pair_apply_right _ _ _ h i rfl rfl (ValueIdx.ix4 0 (i 1) (i 2) (i 3))
      (fun b hb => by fin_cases b <;> first | rfl | exact absurd rfl hb) (by show 0 + 1 = (i 0).val; omega)]
    exact hy _

/-- The dimension numbers of a product of two stacks of matrices summed over the stack and the rows. -/
def stacked (n K M N : ℕ) : DotDims ⟨3, ![n, K, M]⟩ ⟨3, ![n, K, N]⟩ ⟨2, ![M, N]⟩ where
  lhsContracting := [0, 1]
  rhsContracting := [0, 1]
  lhsNonContracting := [2]
  rhsNonContracting := [2]
  lhsBatch := []
  rhsBatch := []
  wf := ⟨rfl, by simp, rfl, by simp, by simp, by simp, by simpa [List.finRange] using (by decide : [(2 : Fin 3), 0, 1].Perm [0, 1, 2]), by simpa [List.finRange] using (by decide : [(2 : Fin 3), 0, 1].Perm [0, 1, 2]), rfl, Nat.two_pos, fun b => by fin_cases b <;> rfl⟩

theorem mul_stacked (n : ℕ) (prec : Option ContractPrecision) {lhs : FVec Ideal ⟨3, ![n, K, M]⟩ φ} {rhs : FVec Ideal ⟨3, ![n, K, N]⟩ φ} {L R : ℕ → ℕ → ℕ → EReal}
    (hl : At3 lhs L) (hr : At3 rhs R) :
    At2 (Host.dotGeneral (stacked n K M N) prec lhs rhs) (fun i j => ∑ p : Fin n, ∑ k : Fin K, L p.val k.val i * R p.val k.val j) := fun i => by
  have hn : (stacked n K M N).contr.rank = 2 := rfl
  unfold Host.dotGeneral
  rw [Ideal.dotGeneral_apply, sum_contr2 (stacked n K M N) n K hn rfl rfl]
  refine Finset.sum_congr rfl fun p _ => Finset.sum_congr rfl fun k _ => ?_
  have h0 := contrEquiv2_symm_val0 (stacked n K M N) n K hn rfl rfl (p, k)
  have h1 := contrEquiv2_symm_val1 (stacked n K M N) n K hn rfl rfl (p, k)
  rw [hl, hr]
  refine congrArg₂ (fun a b : EReal => a * b) ?_ ?_
  · rw [show ((stacked n K M N).lhsIdx i ((contrEquiv2 (stacked n K M N) n K hn rfl rfl).symm (p, k)) 0).val = p.val from h0,
      show ((stacked n K M N).lhsIdx i ((contrEquiv2 (stacked n K M N) n K hn rfl rfl).symm (p, k)) 1).val = k.val from h1]
    rfl
  · rw [show ((stacked n K M N).rhsIdx i ((contrEquiv2 (stacked n K M N) n K hn rfl rfl).symm (p, k)) 0).val = p.val from h0,
      show ((stacked n K M N).rhsIdx i ((contrEquiv2 (stacked n K M N) n K hn rfl rfl).symm (p, k)) 1).val = k.val from h1]
    rfl

end Cert.Prod

end
-- ==== Proof.Windows.lean ====
/- Blocks of extended real numbers cut from whole arrays by a window, loads from a block, and the layouts the projections'
   weights come in. -/
module

public import proofs.«01_k».proof.Proof.Join
public import Idealize.ShloMosaic.Lib.ValueLayout

@[expose] public section

noncomputable section

namespace Cert.Prod

open Idealize.ShloMosaic Idealize.ShloMosaic.ValueIdx

variable {a b : ℕ}

/-! ## Loads from a block -/

theorem ld2 {x : Vec Ideal ⟨2, ![a, b]⟩ .bf16} {f : ℕ → ℕ → EReal} (hx : At2 x f) {inb} :
    At2 (a := a) (b := b) (View.ld x (Rect.unit (s := ⟨2, ![a, b]⟩) ![0, 0] (⟨2, ![a, b]⟩ : Shape).size inb)) f := by
  rw [View.ld_unit]
  intro i
  refine (hx _).trans ?_
  show f (0 + (i 0).val) (0 + (i 1).val) = _
  rw [Nat.zero_add, Nat.zero_add]

theorem ld2w {x : Vec Ideal ⟨2, ![a, b]⟩ .f32} {f : ℕ → ℕ → EReal} (hx : At2 x f) {inb} :
    At2 (a := a) (b := b) (View.ld x (Rect.unit (s := ⟨2, ![a, b]⟩) ![0, 0] (⟨2, ![a, b]⟩ : Shape).size inb)) f := by
  rw [View.ld_unit]
  intro i
  refine (hx _).trans ?_
  show f (0 + (i 0).val) (0 + (i 1).val) = _
  rw [Nat.zero_add, Nat.zero_add]

/-- A load of columns `p`, `p + 1`, … -/
theorem ld2c {n p : ℕ} {x : Vec Ideal ⟨2, ![a, n]⟩ .bf16} {f : ℕ → ℕ → EReal} (hx : At2 x f) {inb} :
    At2 (a := a) (b := b) (View.ld x (Rect.unit (s := ⟨2, ![a, n]⟩) ![0, p] (⟨2, ![a, b]⟩ : Shape).size inb)) (fun i j => f i (p + j)) := by
  rw [View.ld_unit]
  intro i
  refine (hx _).trans ?_
  show f (0 + (i 0).val) (p + (i 1).val) = _
  rw [Nat.zero_add]

theorem ld3 {n p : ℕ} {x : Vec Ideal ⟨3, ![n, a, b]⟩ .bf16} {f : ℕ → ℕ → ℕ → EReal} (hx : At3 x f) {inb h} :
    At2 (shapeCast (α := EReal) ⟨2, ![a, b]⟩ (View.ld x (Rect.unit (s := ⟨3, ![n, a, b]⟩) ![p, 0, 0] (⟨3, ![1, a, b]⟩ : Shape).size inb)) h) (f p) := by
  refine at2_of3 (φ := .bf16) (f := fun _ => f p) ?_
  rw [View.ld_unit]
  intro i
  refine (hx _).trans ?_
  have := (i 0).isLt; change (i 0).val < 1 at this
  show f (p + (i 0).val) (0 + (i 1).val) (0 + (i 2).val) = _
  rw [show p + (i 0).val = p by omega, Nat.zero_add, Nat.zero_add]

theorem ld4 {n n' p q : ℕ} {x : Vec Ideal ⟨4, ![n, n', a, b]⟩ .bf16} {f : ℕ → ℕ → ℕ → ℕ → EReal} (hx : At4 x f) {inb h} :
    At2 (shapeCast (α := EReal) ⟨2, ![a, b]⟩ (View.ld x (Rect.unit (s := ⟨4, ![n, n', a, b]⟩) ![p, q, 0, 0] (⟨4, ![1, 1, a, b]⟩ : Shape).size inb)) h) (f p q) := by
  refine at2_of4 (φ := .bf16) (f := fun _ _ => f p q) ?_
  rw [View.ld_unit]
  intro i
  refine (hx _).trans ?_
  have h0 := (i 0).isLt; change (i 0).val < 1 at h0
  have h1 := (i 1).isLt; change (i 1).val < 1 at h1
  show f (p + (i 0).val) (q + (i 1).val) (0 + (i 2).val) (0 + (i 3).val) = _
  rw [show p + (i 0).val = p by omega, show q + (i 1).val = q by omega, Nat.zero_add, Nat.zero_add]

theorem lds3 {n : ℕ} {x : Vec Ideal ⟨3, ![n, a, b]⟩ .bf16} {f : ℕ → ℕ → ℕ → EReal} (hx : At3 x f) {inb} :
    At3 (a := n) (b := a) (c := b) (View.ld x (Rect.unit (s := ⟨3, ![n, a, b]⟩) ![0, 0, 0] (⟨3, ![n, a, b]⟩ : Shape).size inb)) f := by
  rw [View.ld_unit]
  intro i
  refine (hx _).trans ?_
  show f (0 + (i 0).val) (0 + (i 1).val) (0 + (i 2).val) = _
  rw [Nat.zero_add, Nat.zero_add, Nat.zero_add]

/-! ## Layouts -/

section Layout
variable {n R : ℕ} {φ : FTy}

/-- A vector given by `f`. -/
abbrev At1 (v : (⟨1, ![a]⟩ : Shape).Idx → EReal) (f : ℕ → EReal) : Prop := ∀ i, v i = f (i 0).val
def ent1 (v : (⟨1, ![a]⟩ : Shape).Idx → EReal) (i : ℕ) : EReal := if h : i < a then v (ValueIdx.ix1 ⟨i, h⟩) else 0
theorem at1_ent (v : (⟨1, ![a]⟩ : Shape).Idx → EReal) : At1 v (ent1 v) := fun i => by
  have h0 : (i 0).val < a := (i 0).isLt
  unfold ent1
  rw [dif_pos h0]
  exact congrArg v (ValueIdx.eq_ix1 i)

theorem at3_self {v : FVec Ideal ⟨3, ![n, a, b]⟩ φ} {f : ℕ → ℕ → ℕ → EReal} {h} (hv : At3 v f) : At3 (shapeCast ⟨3, ![n, a, b]⟩ v h) f := by
  rw [shapeCast_self]; exact hv

/-- Columns `p`, `p + 1`, … of a matrix. -/
theorem at2_slice {n p : ℕ} {v : (⟨2, ![a, n]⟩ : Shape).Idx → EReal} {f : ℕ → ℕ → EReal} {h} (hv : At2 v f) :
    At2 (a := a) (b := b) (extractStridedSlice ⟨2, ![a, b]⟩ ![0, p] v h) (fun i j => f i (p + j)) := fun i => by
  have h1 : p + b ≤ n := h.2 1
  have hi := (i 1).isLt; change (i 1).val < b at hi
  rw [extractStridedSlice_apply ![0, p] v h i (ValueIdx.ix2 (i 0) ⟨p + (i 1).val, by omega⟩) (fun a => by
    fin_cases a
    · exact (Nat.zero_add _).symm
    · rfl)]
  exact hv _

/-- A stack of matrices written one above the other. -/
theorem at2_stack {v : (⟨3, ![n, a, b]⟩ : Shape).Idx → EReal} {f : ℕ → ℕ → ℕ → EReal} {h} (hR : R = n * a) (hv : At3 v f) :
    At2 (shapeCast ⟨2, ![R, b]⟩ v h) (fun r j => f (r / a) (r % a) j) := fun i => by
  have h0 : (i 0).val < n * a := hR ▸ (i 0).isLt
  have ha : 0 < a := Nat.pos_of_ne_zero fun h => by rw [h, Nat.mul_zero] at h0; exact absurd h0 (Nat.not_lt_zero _)
  refine (shapeCast_apply v h i (ValueIdx.ix3 ⟨(i 0).val / a, Nat.div_lt_of_lt_mul (Nat.mul_comm n a ▸ h0)⟩ ⟨(i 0).val % a, Nat.mod_lt _ ha⟩ (i 1)) ?_).trans (hv _)
  rw [Shape.rowMajor_val_three, Shape.rowMajor_val_two]
  show ((i 0).val / a * a + (i 0).val % a) * b + (i 1).val = (i 0).val * b + (i 1).val
  rw [Nat.div_add_mod']

/-- A matrix's rows cut into a stack. -/
theorem at3_cut {v : (⟨2, ![R, b]⟩ : Shape).Idx → EReal} {f : ℕ → ℕ → EReal} {h} (hR : R = n * a) (hv : At2 v f) :
    At3 (shapeCast ⟨3, ![n, a, b]⟩ v h) (fun e r j => f (e * a + r) j) := fun i => by
  have h0 : (i 0).val < n := (i 0).isLt
  have h1 : (i 1).val < a := (i 1).isLt
  have hr : (i 0).val * a + (i 1).val < R := by
    rw [hR]
    calc (i 0).val * a + (i 1).val < (i 0).val * a + a := Nat.add_lt_add_left h1 _
      _ = ((i 0).val + 1) * a := (Nat.succ_mul _ _).symm
      _ ≤ n * a := Nat.mul_le_mul_right a h0
  refine (shapeCast_apply v h i (ValueIdx.ix2 ⟨(i 0).val * a + (i 1).val, hr⟩ (i 2)) ?_).trans (hv _)
  rw [Shape.rowMajor_val_three, Shape.rowMajor_val_two]
  rfl

/-- A vector as a matrix of one row. -/
theorem at2_of1 {v : (⟨1, ![b]⟩ : Shape).Idx → EReal} {f : ℕ → EReal} {h} (hv : At1 v f) : At2 (shapeCast ⟨2, ![1, b]⟩ v h) (fun _ j => f j) := fun i => by
  have h0 := (i 0).isLt; change (i 0).val < 1 at h0
  refine (shapeCast_apply v h i (ValueIdx.ix1 (i 1)) ?_).trans (hv _)
  rw [Shape.rowMajor_val_one, Shape.rowMajor_val_two]
  show (i 1).val = (i 0).val * b + (i 1).val
  rw [show (i 0).val = 0 by omega, Nat.zero_mul, Nat.zero_add]

/-- A row repeated. -/
theorem at2_row {v : (⟨2, ![1, b]⟩ : Shape).Idx → EReal} {f : ℕ → ℕ → EReal} {h} (hv : At2 v f) : At2 (broadcastTo ⟨2, ![a, b]⟩ v h) (fun _ j => f 0 j) := fun i => by
  obtain ⟨p, c, rfl⟩ : ∃ p c, i = ValueIdx.ix2 p c := ⟨i 0, i 1, ValueIdx.eq_ix2 i⟩
  rw [broadcastTo_1b_ab_apply]
  exact hv _

/-- A transposed matrix at an index. -/
theorem at2_swap {v : (⟨2, ![a, b]⟩ : Shape).Idx → EReal} {f : ℕ → ℕ → EReal} {h} (hv : At2 v f) :
    At2 (transpose ⟨2, ![b, a]⟩ [1, 0] v h) (fun i j => f j i) := fun i =>
  (transpose_apply [1, 0] v h i (ValueIdx.ix2 (i 1) (i 0)) (fun d => by fin_cases d <;> rfl)).trans (hv _)

end Layout

/-! ## Windows -/

section Windows
variable {m n k l c d : ℕ}

/-- The place in the array of a block's element, where the block's place is known. -/
theorem place {sig : RefSig} {G : Pipeline.Grid} (w : Pipeline.Window sig G) (t : Fin G.N) (a : Fin w.shape.rank) {p : ℕ} (h : w.index t a = p)
    (y : (w.xblock (G.coords t)).Idx) (hk : w.kind = .blocked := by first | rfl | decide) : ((w.rect t).emb y a : ℕ) = p * w.size a + y a := by
  rw [w.rect_emb_val t y a hk, h]

theorem block2 {A : (⟨2, ![m, n]⟩ : Shape).Idx → EReal} (f : ℕ → ℕ → EReal) (hA : At2 A f) {e : (⟨2, ![a, b]⟩ : Shape).Idx → (⟨2, ![m, n]⟩ : Shape).Idx} {p q : ℕ → ℕ}
    (h0 : ∀ y, (e y 0).val = p (y 0).val) (h1 : ∀ y, (e y 1).val = q (y 1).val) : At2 (fun y => A (e y)) (fun i j => f (p i) (q j)) := fun y => by
  show A (e y) = _
  rw [hA, h0, h1]
theorem block3 {A : (⟨3, ![m, n, k]⟩ : Shape).Idx → EReal} (f : ℕ → ℕ → ℕ → EReal) (hA : At3 A f) {e : (⟨3, ![a, b, c]⟩ : Shape).Idx → (⟨3, ![m, n, k]⟩ : Shape).Idx} {p q r : ℕ → ℕ}
    (h0 : ∀ y, (e y 0).val = p (y 0).val) (h1 : ∀ y, (e y 1).val = q (y 1).val) (h2 : ∀ y, (e y 2).val = r (y 2).val) :
    At3 (fun y => A (e y)) (fun i j z => f (p i) (q j) (r z)) := fun y => by
  show A (e y) = _
  rw [hA, h0, h1, h2]

end Windows

end Cert.Prod

end
-- ==== Proof.Place.lean ====
/- The place in an array of a block's element. -/
module

public import proofs.«01_k».proof.Proof.Windows

@[expose] public section

namespace Cert.Prod

open Idealize.ShloMosaic

/-- The place in the array of a block's element, where the block's place is known. -/
theorem placed {sig : RefSig} {G : Pipeline.Grid} (w : Pipeline.Window sig G) (t : Fin G.N) (a : Fin w.shape.rank) {p : ℕ} (h : w.index t a = p)
    (y : (w.xblock (G.coords t)).Idx) (hk : w.kind = .blocked := by first | rfl | decide) : ((w.rect t).emb y a : ℕ) = w.size a * p + y a := by
  rw [w.rect_emb_val t y a hk, h, Nat.mul_comm]

end Cert.Prod
-- ==== Proof.CoreSpec.lean ====
/- The attention's core in real numbers: one block of 128 queries and one head at a time, then the arrays it makes up. -/
module

public import proofs.«01_k».proof.Proof.Lift

@[expose] public section

noncomputable section

namespace Cert.Core

open Idealize.ShloMosaic Cert.Lift

/-- What one block of queries and one head read: queries, keys and values, the attention's cotangent, the bias, the sink, and which
    keys each query sees. -/
@[ext] structure Head where
  q : ℕ → ℕ → ℝ
  k : ℕ → ℕ → ℝ
  v : ℕ → ℕ → ℝ
  o : ℕ → ℕ → ℝ
  b : ℕ → ℕ → ℝ
  s : ℝ
  ok : ℕ → ℕ → Bool

namespace Head

variable (H : Head)

def sc (r t : ℕ) : ℝ := (∑ d : Fin 64, H.q r d.val * H.k t d.val) * (1 / 8) + H.b r t
/-- The masked score. -/
def sE (r t : ℕ) : EReal := if H.ok r t then ((H.sc r t : ℝ) : EReal) else ⊥
/-- The greatest of a row's scores and the sink. -/
def mE (r : ℕ) : EReal := max ((Finset.univ : Finset (Fin 256)).fold max ⊥ (fun t => H.sE r t.val)) ((H.s : ℝ) : EReal)
def m (r : ℕ) : ℝ := (H.mE r).toReal
def p (r t : ℕ) : ℝ := if H.ok r t then Real.exp (H.sc r t - H.m r) else 0
def e0 (r : ℕ) : ℝ := Real.exp (H.s - H.m r)
def z (r : ℕ) : ℝ := (∑ t : Fin 256, H.p r t.val) + H.e0 r
def pr (r t : ℕ) : ℝ := H.p r t * (1 / H.z r)
def es (r : ℕ) : ℝ := H.e0 r * (1 / H.z r)
def out (r d : ℕ) : ℝ := ∑ t : Fin 256, H.pr r t.val * H.v t.val d
def dp (r t : ℕ) : ℝ := ∑ d : Fin 64, H.o r d.val * H.v t d.val
def delta (r : ℕ) : ℝ := ∑ t : Fin 256, H.pr r t.val * H.dp r t.val
def ds (r t : ℕ) : ℝ := H.pr r t * (H.dp r t - H.delta r)
def dq (r d : ℕ) : ℝ := (∑ t : Fin 256, H.ds r t.val * H.k t.val d) * (1 / 8)
def dsk (r : ℕ) : ℝ := -(H.es r * H.delta r)

theorem sE_lt (r t : ℕ) : H.sE r t < ⊤ := by
  unfold sE
  split
  · exact EReal.coe_lt_top _
  · exact bot_lt_top

theorem fold_lt (r : ℕ) : (Finset.univ : Finset (Fin 256)).fold max ⊥ (fun t => H.sE r t.val) < ⊤ :=
  (Finset.fold_max_lt _).mpr ⟨bot_lt_top, fun t _ => H.sE_lt r t.val⟩

theorem mE_eq (r : ℕ) : H.mE r = ((H.m r : ℝ) : EReal) := by
  refine (EReal.coe_toReal ?_ ?_).symm
  · exact (max_lt (H.fold_lt r) (EReal.coe_lt_top _)).ne
  · exact (lt_of_lt_of_le (EReal.bot_lt_coe _) (le_max_right _ _)).ne'

/-- The exponential of a masked score less the greatest. -/
theorem exp_sE (r t : ℕ) : Ideal.exp (H.sE r t - ((H.m r : ℝ) : EReal)) = ((H.p r t : ℝ) : EReal) := by
  unfold sE p
  split
  · rw [← EReal.coe_sub, Ideal.exp_coe]
  · rw [sub_eq_add_neg, EReal.bot_add, Ideal.exp_bot]; rfl

theorem p_nonneg (r t : ℕ) : 0 ≤ H.p r t := by
  unfold p
  split
  · exact (Real.exp_pos _).le
  · exact le_rfl

theorem z_pos (r : ℕ) : 0 < H.z r := add_pos_of_nonneg_of_pos (Finset.sum_nonneg fun _ _ => H.p_nonneg r _) (Real.exp_pos _)

theorem pr_hidden {r t : ℕ} (h : H.ok r t = false) : H.pr r t = 0 := by
  unfold pr p
  rw [h]; simp

theorem ds_hidden {r t : ℕ} (h : H.ok r t = false) : H.ds r t = 0 := by
  unfold ds
  rw [H.pr_hidden h, zero_mul]

/-- The derivatives' sum over a row vanishes against the row's own. -/
theorem total (r : ℕ) : H.delta r * H.es r = H.delta r - ∑ t : Fin 256, H.pr r t.val * H.delta r := by
  have hz := (H.z_pos r).ne'
  rw [← Finset.sum_mul]
  have e : ∑ t : Fin 256, H.pr r t.val = (∑ t : Fin 256, H.p r t.val) * (1 / H.z r) := by rw [Finset.sum_mul]; rfl
  have e' : (∑ t : Fin 256, H.p r t.val) = H.z r - H.e0 r := by unfold z; ring
  rw [e, e']
  unfold es
  field_simp
  ring

end Head

/-- Two heads that differ only in keys and values no query sees. -/
structure Alike (H H' : Head) : Prop where
  q : H.q = H'.q
  o : H.o = H'.o
  b : H.b = H'.b
  s : H.s = H'.s
  ok : H.ok = H'.ok
  k : ∀ r t d, H.ok r t = true → H.k t d = H'.k t d
  v : ∀ r t d, H.ok r t = true → H.v t d = H'.v t d

namespace Alike

variable {H H' : Head} (h : Alike H H')
include h

theorem sc {r t : ℕ} (e : H.ok r t = true) : H.sc r t = H'.sc r t := by
  unfold Head.sc
  rw [h.q, h.b]
  exact congrArg (· * (1 / 8) + _) (Finset.sum_congr rfl fun d _ => by rw [h.k r t d.val e])
theorem sE (r t : ℕ) : H.sE r t = H'.sE r t := by
  unfold Head.sE
  rw [← h.ok]
  split
  · rw [h.sc ‹_›]
  · rfl
theorem mE (r : ℕ) : H.mE r = H'.mE r := by
  unfold Head.mE
  rw [h.s, funext fun t : Fin 256 => h.sE r t.val]
theorem m (r : ℕ) : H.m r = H'.m r := congrArg EReal.toReal (h.mE r)
theorem p (r t : ℕ) : H.p r t = H'.p r t := by
  unfold Head.p
  rw [← h.ok, ← h.m]
  split
  · rw [h.sc ‹_›]
  · rfl
theorem e0 (r : ℕ) : H.e0 r = H'.e0 r := by unfold Head.e0; rw [h.s, h.m]
theorem z (r : ℕ) : H.z r = H'.z r := by unfold Head.z; rw [h.e0, Finset.sum_congr rfl fun t _ => h.p r t.val]
theorem pr (r t : ℕ) : H.pr r t = H'.pr r t := by unfold Head.pr; rw [h.p, h.z]
theorem es (r : ℕ) : H.es r = H'.es r := by unfold Head.es; rw [h.e0, h.z]
theorem pr_mul (r t : ℕ) {x y : ℝ} (e : H.ok r t = true → x = y) : H.pr r t * x = H'.pr r t * y := by
  rw [← h.pr]
  cases ok : H.ok r t
  · rw [H.pr_hidden ok, zero_mul, zero_mul]
  · rw [e ok]
theorem out (r d : ℕ) : H.out r d = H'.out r d := Finset.sum_congr rfl fun t _ => h.pr_mul r t.val fun e => h.v r t.val d e
theorem dp {r t : ℕ} (e : H.ok r t = true) : H.dp r t = H'.dp r t := by
  unfold Head.dp
  rw [h.o]
  exact Finset.sum_congr rfl fun d _ => by rw [h.v r t d.val e]
theorem delta (r : ℕ) : H.delta r = H'.delta r := Finset.sum_congr rfl fun t _ => h.pr_mul r t.val fun e => h.dp e
theorem ds (r t : ℕ) : H.ds r t = H'.ds r t := h.pr_mul r t fun e => by rw [h.dp e, h.delta]
theorem dq (r d : ℕ) : H.dq r d = H'.dq r d := by
  unfold Head.dq
  refine congrArg (· * (1 / 8 : ℝ)) (Finset.sum_congr rfl fun t _ => ?_)
  rw [← h.ds]
  cases ok : H.ok r t.val
  · rw [H.ds_hidden ok, zero_mul, zero_mul]
  · rw [h.k r t.val d ok]
theorem dsk (r : ℕ) : H.dsk r = H'.dsk r := by unfold Head.dsk; rw [h.es, h.delta]

end Alike

/-- The whole arrays. -/
structure Args where
  q : ℕ → ℕ → ℝ
  k : ℕ → ℕ → ℕ → ℝ
  v : ℕ → ℕ → ℕ → ℝ
  b : ℕ → ℕ → ℕ → ℝ
  s : ℕ → ℝ
  o : ℕ → ℕ → ℝ

/-- Query `r` of block `c` sees key `t` of the two blocks ending with its own. -/
def okAt (c r t : ℕ) : Bool := decide (t ≤ r + 128 ∧ r < t ∧ (t < 128 → 0 < c))

/-- The blocks `c − 1` and `c` of an array, block 0 twice at the start. -/
def near (K : ℕ → ℕ → ℕ → ℝ) (e c t d : ℕ) : ℝ := if t < 128 then K e (128 * (c - 1) + t) d else K e (128 * c + (t - 128)) d
/-- The same with zeros before the start. -/
def padded (K : ℕ → ℕ → ℕ → ℝ) (e c t d : ℕ) : ℝ := if t < 128 then (if c = 0 then 0 else K e (128 * (c - 1) + t) d) else K e (128 * c + (t - 128)) d

variable (band : (ℕ → ℕ → ℕ → ℝ) → ℕ → ℕ → ℕ → ℕ → ℝ) (A : Args)

def head (c n : ℕ) : Head where
  q r d := A.q (128 * c + r) (64 * n + d)
  k := band A.k (n / 8) c
  v := band A.v (n / 8) c
  o r d := A.o (128 * c + r) (64 * n + d)
  b := A.b n
  s := A.s n
  ok := okAt c

def attn (x y : ℕ) : ℝ := (head band A (x / 128) (y / 64)).out (x % 128) (y % 64)
def dq (x y : ℕ) : ℝ := (head band A (x / 128) (y / 64)).dq (x % 128) (y % 64)
def dbq (y : ℕ) : ℝ := ∑ c : Fin 16, ∑ r : Fin 128, (head band A c.val (y / 64)).dq r.val (y % 64)
/-- Block `c`'s share of the keys' derivative, over the eight heads that read key head `e`. -/
def dkb (e c t d : ℕ) : ℝ :=
  (∑ g : Fin 8, ∑ r : Fin 128, (head band A c (8 * e + g.val)).ds r.val t * (head band A c (8 * e + g.val)).q r.val d) * (1 / 8)
def dvb (e c t d : ℕ) : ℝ :=
  ∑ g : Fin 8, ∑ r : Fin 128, (head band A c (8 * e + g.val)).pr r.val t * (head band A c (8 * e + g.val)).o r.val d
/-- A row's own block's share and the next block's. -/
def folded (f : ℕ → ℕ → ℕ → ℕ → ℝ) (e x d : ℕ) : ℝ := f e (x / 128) (128 + x % 128) d + if x / 128 < 15 then f e (x / 128 + 1) (x % 128) d else 0
def dkv (x y : ℕ) : ℝ := if y < 256 then folded (dkb band A) (y / 64) x (y % 64) else folded (dvb band A) ((y - 256) / 64) x (y % 64)
def dbkv (y : ℕ) : ℝ := ∑ c : Fin 16, ∑ r : Fin 128, dkv band A (128 * c.val + r.val) y
def dbias (n r t : ℕ) : ℝ := ∑ c : Fin 16, (head band A c.val n).ds r t
def dsink (n : ℕ) : ℝ := ∑ c : Fin 16, ∑ r : Fin 128, (head band A c.val n).dsk r.val

theorem alike (c n : ℕ) : Alike (head near A c n) (head padded A c n) where
  q := rfl
  o := rfl
  b := rfl
  s := rfl
  ok := rfl
  k r t d h := by
    have h' := of_decide_eq_true (show decide _ = true from h)
    show near _ _ _ _ _ = padded _ _ _ _ _
    unfold near padded
    split
    · rw [if_neg (Nat.pos_iff_ne_zero.mp (h'.2.2 ‹_›))]
    · rfl
  v r t d h := by
    have h' := of_decide_eq_true (show decide _ = true from h)
    show near _ _ _ _ _ = padded _ _ _ _ _
    unfold near padded
    split
    · rw [if_neg (Nat.pos_iff_ne_zero.mp (h'.2.2 ‹_›))]
    · rfl

theorem attn_eq : attn near A = attn padded A := funext fun x => funext fun y => (alike A _ _).out _ _
theorem dq_eq : dq near A = dq padded A := funext fun x => funext fun y => (alike A _ _).dq _ _
theorem dbq_eq : dbq near A = dbq padded A := funext fun y =>
  Finset.sum_congr rfl fun c _ => Finset.sum_congr rfl fun r _ => (alike A _ _).dq _ _
theorem dkb_eq : dkb near A = dkb padded A := by
  funext e c t d
  unfold dkb
  exact congrArg (· * (1 / 8 : ℝ)) (Finset.sum_congr rfl fun g _ => Finset.sum_congr rfl fun r _ => congrArg₂ (· * ·) ((alike A _ _).ds _ _) rfl)
theorem dvb_eq : dvb near A = dvb padded A := by
  funext e c t d
  exact Finset.sum_congr rfl fun g _ => Finset.sum_congr rfl fun r _ => congrArg₂ (· * ·) ((alike A _ _).pr _ _) rfl
theorem dkv_eq : dkv near A = dkv padded A := by
  funext x y
  unfold dkv
  rw [dkb_eq, dvb_eq]
theorem dbkv_eq : dbkv near A = dbkv padded A := by
  funext y
  unfold dbkv
  rw [dkv_eq]
theorem dbias_eq : dbias near A = dbias padded A := by
  funext n r t
  exact Finset.sum_congr rfl fun c _ => (alike A _ _).ds _ _
theorem dsink_eq : dsink near A = dsink padded A := by
  funext n
  exact Finset.sum_congr rfl fun c _ => Finset.sum_congr rfl fun r _ => (alike A _ _).dsk _

end Cert.Core

end
-- ==== Proof.Five.lean ====
/- Arrays of five axes: their entries, loads of one matrix, and joins. -/
module

public import proofs.«01_k».proof.Proof.Join

@[expose] public section

noncomputable section

namespace Cert.Prod

open Idealize.ShloMosaic Idealize.ShloMosaic.ValueIdx

variable {a b b' c d e : ℕ} {φ : FTy}

/-- Stacks of stacks of matrices given by `f`. -/
abbrev At5 (v : (⟨5, ![a, b, c, d, e]⟩ : Shape).Idx → EReal) (f : ℕ → ℕ → ℕ → ℕ → ℕ → EReal) : Prop :=
  ∀ i, v i = f (i 0).val (i 1).val (i 2).val (i 3).val (i 4).val

theorem at2_of5 {x : FVec Ideal ⟨5, ![1, 1, 1, a, b]⟩ φ} {f : ℕ → ℕ → ℕ → ℕ → ℕ → EReal} {h} (hv : At5 x f) : At2 (shapeCast ⟨2, ![a, b]⟩ x h) (f 0 0 0) := fun i => by
  rw [shapeCast_apply x _ i (ValueIdx.ix5 0 0 0 (i 0) (i 1)) (by
    rw [Shape.rowMajor_val_five, Shape.rowMajor_val_two]
    show (((0 * 1 + 0) * 1 + 0) * a + (i 0).val) * b + (i 1).val = (i 0).val * b + (i 1).val
    simp only [Nat.zero_mul, Nat.zero_add])]
  exact hv _

/-- A load of one matrix of a block of five axes, as a matrix. -/
theorem one5 {sig : RefSig} {κ : Kind} {sp : Space} {n n' n'' p q r : ℕ} {arg : Memref sig κ sp ⟨5, ![n, n', n'', a, b]⟩ .bf16} (harg : arg.IsWhole)
    {x : Vec Ideal ⟨5, ![n, n', n'', a, b]⟩ .bf16} {f : ℕ → ℕ → ℕ → ℕ → ℕ → EReal} (hx : At5 x f) {inb h} :
    At2 (shapeCast (α := EReal) ⟨2, ![a, b]⟩ (View.readAt (Elt Ideal) arg.view (Rect.unit (s := ⟨5, ![n, n', n'', a, b]⟩) ![p, q, r, 0, 0] (⟨5, ![1, 1, 1, a, b]⟩ : Shape).size inb).toLoadRect (harg.unread x)) h) (f p q r) := by
  refine at2_of5 (φ := .bf16) (f := fun _ _ _ => f p q r) ?_
  rw [View.readAt_eq_ld, harg.read_unread, View.ld_unit]
  intro i
  refine (hx _).trans ?_
  have h0 := (i 0).isLt; change (i 0).val < 1 at h0
  have h1 := (i 1).isLt; change (i 1).val < 1 at h1
  have h2 := (i 2).isLt; change (i 2).val < 1 at h2
  show f (p + (i 0).val) (q + (i 1).val) (r + (i 2).val) (0 + (i 3).val) (0 + (i 4).val) = _
  rw [show p + (i 0).val = p by omega, show q + (i 1).val = q by omega, show r + (i 2).val = r by omega, Nat.zero_add, Nat.zero_add]

theorem join5 {x y : (⟨5, ![1, a, b, c, d]⟩ : Shape).Idx → EReal} {X Y : ℕ → ℕ → ℕ → ℕ → EReal} (hx : At5 x (fun _ => X)) (hy : At5 y (fun _ => Y)) {h} :
    At5 (concatenate ⟨5, ![2, a, b, c, d]⟩ 0 [⟨⟨5, ![1, a, b, c, d]⟩, x⟩, ⟨⟨5, ![1, a, b, c, d]⟩, y⟩] h) (pick X Y) := fun i => by
  have h2 : (i 0).val < 2 := (i 0).isLt
  unfold pick
  by_cases h0 : (i 0).val = 0
  · rw [if_pos h0, concatenate_pair_apply_left _ _ _ h i rfl (ValueIdx.ix5 0 (i 1) (i 2) (i 3) (i 4)) (fun b => by fin_cases b <;> first | rfl | exact h0.symm)]
    exact hx _
  · rw [if_neg h0, concatenate_pair_apply_right _ _ _ h i rfl rfl (ValueIdx.ix5 0 (i 1) (i 2) (i 3) (i 4))
      (fun b hb => by fin_cases b <;> first | rfl | exact absurd rfl hb) (by show 0 + 1 = (i 0).val; omega)]
    exact hy _

/-- Two stacks of matrices, the rows of the second below those of the first. -/
theorem join_rows {x : (⟨3, ![a, b, c]⟩ : Shape).Idx → EReal} {y : (⟨3, ![a, b', c]⟩ : Shape).Idx → EReal} {X Y : ℕ → ℕ → ℕ → EReal} (hx : At3 x X) (hy : At3 y Y) {h} :
    At3 (concatenate ⟨3, ![a, b + b', c]⟩ 1 [⟨⟨3, ![a, b, c]⟩, x⟩, ⟨⟨3, ![a, b', c]⟩, y⟩] h) (fun k n j => if n < b then X k n j else Y k (n - b) j) := fun i => by
  have h1 : (i 1).val < b + b' := (i 1).isLt
  dsimp only
  by_cases h0 : (i 1).val < b
  · rw [if_pos h0, concatenate_pair_apply_left _ _ _ h i rfl (ValueIdx.ix3 (i 0) ⟨(i 1).val, h0⟩ (i 2)) (fun b => by fin_cases b <;> rfl)]
    exact hx _
  · have hs : (i 1).val - b < b' := by omega
    rw [if_neg h0, concatenate_pair_apply_right _ _ _ h i rfl rfl (ValueIdx.ix3 (i 0) ⟨(i 1).val - b, hs⟩ (i 2))
      (fun b hb => by fin_cases b <;> first | rfl | exact absurd rfl hb) (by show (i 1).val - b + b = (i 1).val; omega)]
    exact hy _

end Cert.Prod

end
-- ==== Proof.Stack.lean ====
/- Matrices set one below another, the greatest of a row, a column repeated, and the columns of a block read and stored in part. -/
module

public import proofs.«01_k».proof.Proof.Windows
public import proofs.«01_k».proof.Proof.Five
public import proofs.«01_k».proof.Proof.Mat

@[expose] public section

noncomputable section

namespace Cert.Prod

open Idealize.ShloMosaic Idealize.ShloMosaic.ValueIdx Cert.Lift Cert.Mat

variable {a a' b n m p : ℕ} {φ : FTy}

theorem lit_bot : Ideal.ofBits .f32 0xFF800000#32 = (⊥ : EReal) := by simp [Ideal.ofBits, Ideal.ieee]
theorem lit_eighth : Ideal.ofBits .f32 0x3E000000#32 = ((1 / 8 : ℝ) : EReal) := by simp [Ideal.ofBits, Ideal.ieee, -EReal.coe_mul]; norm_num

/-- Rows of `Y` below those of `X`. -/
theorem cat2 {x : (⟨2, ![a, b]⟩ : Shape).Idx → EReal} {y : (⟨2, ![a', b]⟩ : Shape).Idx → EReal} {X Y : ℕ → ℕ → EReal} (hn : n = a + a') (hx : At2 x X) (hy : At2 y Y) {h} :
    At2 (concatenate ⟨2, ![n, b]⟩ 0 [⟨⟨2, ![a, b]⟩, x⟩, ⟨⟨2, ![a', b]⟩, y⟩] h) (fun k j => if k < a then X k j else Y (k - a) j) := fun i => by
  have h1 : (i 0).val < a + a' := hn ▸ (i 0).isLt
  dsimp only
  by_cases h0 : (i 0).val < a
  · rw [if_pos h0, concatenate_pair_apply_left _ _ _ h i rfl (ValueIdx.ix2 ⟨(i 0).val, h0⟩ (i 1)) (fun b => by fin_cases b <;> rfl)]
    exact hx _
  · have hs : (i 0).val - a < a' := by omega
    rw [if_neg h0, concatenate_pair_apply_right _ _ _ h i rfl rfl (ValueIdx.ix2 ⟨(i 0).val - a, hs⟩ (i 1))
      (fun b hb => by fin_cases b <;> first | rfl | exact absurd rfl hb) (by show (i 0).val - a + a = (i 0).val; omega)]
    exact hy _

/-- Eight matrices, one below another. -/
theorem cat8 {x0 x1 x2 x3 x4 x5 x6 x7 : (⟨2, ![a, b]⟩ : Shape).Idx → EReal} {X : ℕ → ℕ → ℕ → EReal} (hn : n = 8 * a)
    (h0 : At2 x0 (X 0)) (h1 : At2 x1 (X 1)) (h2 : At2 x2 (X 2)) (h3 : At2 x3 (X 3)) (h4 : At2 x4 (X 4)) (h5 : At2 x5 (X 5)) (h6 : At2 x6 (X 6)) (h7 : At2 x7 (X 7)) {h} :
    At2 (concatenate ⟨2, ![n, b]⟩ 0 [⟨⟨2, ![a, b]⟩, x0⟩, ⟨⟨2, ![a, b]⟩, x1⟩, ⟨⟨2, ![a, b]⟩, x2⟩, ⟨⟨2, ![a, b]⟩, x3⟩, ⟨⟨2, ![a, b]⟩, x4⟩, ⟨⟨2, ![a, b]⟩, x5⟩, ⟨⟨2, ![a, b]⟩, x6⟩, ⟨⟨2, ![a, b]⟩, x7⟩] h)
      (fun k j => X (k / a) (k % a) j) := fun i => by
  have hi : (i 0).val < 8 * a := hn ▸ (i 0).isLt
  have ha : 0 < a := Nat.pos_of_ne_zero fun h => by rw [h, Nat.mul_zero] at hi; exact absurd hi (Nat.not_lt_zero _)
  have hg : (i 0).val / a < 8 := (Nat.div_lt_iff_lt_mul ha).mpr hi
  have hX : ∀ g : Fin 8, At2 ((![x0, x1, x2, x3, x4, x5, x6, x7] : Fin 8 → (⟨2, ![a, b]⟩ : Shape).Idx → EReal) g) (X g.val) := fun g => by
    fin_cases g
    exacts [h0, h1, h2, h3, h4, h5, h6, h7]
  refine (concatenate_ofFn_apply (t := ⟨2, ![n, b]⟩) (s₁ := ⟨2, ![a, b]⟩) 0 (![x0, x1, x2, x3, x4, x5, x6, x7] : Fin 8 → (⟨2, ![a, b]⟩ : Shape).Idx → EReal) h rfl a rfl i ⟨_, hg⟩ rfl
    (ValueIdx.ix2 ⟨(i 0).val % a, Nat.mod_lt _ ha⟩ (i 1)) rfl (fun b hb => by fin_cases b <;> first | rfl | exact absurd rfl hb)).trans ?_
  exact hX ⟨_, hg⟩ _

/-- The greatest of each row. -/
theorem rowMax {v : FVec Ideal ⟨2, ![a, b]⟩ .f32} {f : ℕ → ℕ → EReal} {h hφ hacc} (hv : At2 v f) :
    At1 (multiReduction .maximumf [1] ⟨1, ![a]⟩ v 0xFF800000#32 h hφ hacc) (fun t => (Finset.univ : Finset (Fin b)).fold max ⊥ (fun k => f t k.val)) := fun j => by
  refine (Ideal.multiReduction_maximumf_single v _ _ _ _ j).trans ?_
  rw [Ideal.ofBits_def, lit_bot]
  exact congrArg ((Finset.univ : Finset (Fin b)).fold max ⊥) (funext fun k => (hv _).trans rfl)

theorem at2_col {x : FVec Ideal ⟨1, ![a]⟩ φ} {r : ℕ → EReal} {h} (hv : At1 x r) : At2 (shapeCast ⟨2, ![a, 1]⟩ x h) (fun t _ => r t) := fun i => by
  rw [shapeCast_apply x _ i (ValueIdx.ix1 (i 0)) (by
    rw [Shape.rowMajor_val_one, Shape.rowMajor_val_two]
    have := (i 1).isLt; change (i 1).val < 1 at this
    show (i 0).val = (i 0).val * 1 + (i 1).val
    omega)]
  exact hv _

/-- Columns `p …` of a block. -/
theorem cols2 {sig : RefSig} {κ : Kind} {sp : Space} {arg : Memref sig κ sp ⟨2, ![a, n]⟩ .bf16} (harg : arg.IsWhole) {x : Vec Ideal ⟨2, ![a, n]⟩ .bf16} {f : ℕ → ℕ → EReal}
    (hx : At2 x f) {inb} : At2 (a := a) (b := b) (View.readAt (Elt Ideal) arg.view (Rect.unit (s := ⟨2, ![a, n]⟩) ![0, p] (⟨2, ![a, b]⟩ : Shape).size inb).toLoadRect (harg.unread x)) (fun i j => f i (p + j)) := by
  rw [View.readAt_eq_ld, harg.read_unread]
  exact ld2c hx

theorem put2c {w : FVec Ideal ⟨2, ![a, b]⟩ φ} {f : ℕ → ℕ → EReal} {inb} (hw : At2 w (fun i j => f i (p + j)))
    (x : (⟨2, ![a, b]⟩ : Shape).Idx) : w x = f ((Rect.unit (s := ⟨2, ![a, n]⟩) ![0, p] ![a, b] inb).emb x 0).val ((Rect.unit (s := ⟨2, ![a, n]⟩) ![0, p] ![a, b] inb).emb x 1).val := by
  rw [hw x]
  show _ = f (0 + 1 * (x 0).val) (p + 1 * (x 1).val)
  rw [Nat.zero_add, Nat.one_mul, Nat.one_mul]

end Cert.Prod

end
-- ==== Proof.CoreFwd.lean ====
/- The attention's forward kernel at one grid point: what its block's arithmetic leaves, entry by entry. -/
module

public import proofs.«01_k».proof.Proof.CoreSpec
public import proofs.«01_k».proof.Proof.Stack
public import proofs.«01_k».proof.Proof.Gen.AttnIdeal.Skeleton

@[expose] public section

set_option maxRecDepth 16384

noncomputable section

namespace Cert.Core

open Cert.AttnIdeal Cert.AttnIdeal.Gen Idealize.ShloMosaic Cert.Lift Cert.Mat Cert.Prod

theorem masked : Named.named (F := Ideal) κ (φ := .f32) "masked" 0xF149F2CA#32 = (⊥ : EReal) :=
  IdealRules.named_const.ideal_named_scalar _ _ _ _ rfl

/-- The bias with `⊥` outside the window. -/
def windowed (B : ℕ → ℕ → ℕ → ℝ) (n r t : ℕ) : EReal := if t ≤ r + 128 ∧ r < t then ((B n r t : ℝ) : EReal) else ⊥

/-- The head of stacked row `R` among the eight of key head `e` at block `c`. -/
abbrev at8 (A : Args) (c e R : ℕ) : Head := head near A c (8 * e + R / 128)

theorem head_q (A : Args) (c e g r d : ℕ) : (head near A c (8 * e + g)).q r d = A.q (128 * c + r) (512 * e + (64 * g + d)) := by
  show A.q _ _ = _
  rw [show 64 * (8 * e + g) + d = 512 * e + (64 * g + d) by ring]
theorem head_o (A : Args) (c e g r d : ℕ) : (head near A c (8 * e + g)).o r d = A.o (128 * c + r) (512 * e + (64 * g + d)) := by
  show A.o _ _ = _
  rw [show 64 * (8 * e + g) + d = 512 * e + (64 * g + d) by ring]
theorem head_k (A : Args) (c e g : ℕ) (hg : g < 8) : (head near A c (8 * e + g)).k = near A.k e c := by
  show near A.k _ c = _
  rw [show (8 * e + g) / 8 = e by omega]
theorem head_v (A : Args) (c e g : ℕ) (hg : g < 8) : (head near A c (8 * e + g)).v = near A.v e c := by
  show near A.v _ c = _
  rw [show (8 * e + g) / 8 = e by omega]

variable {A : Args} {c e : ℕ}

/-- Rows of the block before and of the block itself. -/
theorem keys {K : ℕ → ℕ → ℕ → ℝ} {v0 v2 : Vec Ideal S1x128x64 .bf16} (h0 : Is3 v0 (fun _ r d => K e (128 * (c - 1) + r) d)) (h2 : Is3 v2 (fun _ r d => K e (128 * c + r) d)) :
    Is2 (k0_pay6 v0 v2) (near K e c) := fun i => by
  have h := cat2 (n := 256) (a := 128) (a' := 128) (b := 64) rfl
    (at2_of3 (a := 128) (b := 64) (φ := .bf16) (h := shapeCasts_S1x128x64_S128x64) (f := fun _ r d => ((K e (128 * (c - 1) + r) d : ℝ) : EReal)) h0)
    (at2_of3 (a := 128) (b := 64) (φ := .bf16) (h := shapeCasts_S1x128x64_S128x64) (f := fun _ r d => ((K e (128 * c + r) d : ℝ) : EReal)) h2) (h := concatenates_S128x64_S128x64_S256x64_d0) i
  refine h.trans ?_
  unfold near
  dsimp only
  split <;> rfl

section Chain
variable {v34 v68 : FVec Ideal S1024x256 .f32} {v67 : FVec Ideal S1024x1 .f32}
  (h68 : Is2 v68 (fun R t => ∑ d : Fin 64, (at8 A c e R).q (R % 128) d.val * (at8 A c e R).k t d.val))
  (h34 : At2 v34 (fun R t => windowed A.b (8 * e + R / 128) (R % 128) t + (if t < 128 then (if 0 < c then 0 else ⊥) else 0)))
  (h67 : Is2 v67 (fun R _ => (at8 A c e R).s))

include h68 h34 in
theorem p13 : At2 (k0_pay13 v34 v68 (FloatOps.ofBits .f32 0x3E000000#32)) (fun R t => (at8 A c e R).sE (R % 128) t) := fun i => by
  show v68 i * Ideal.ofBits .f32 0x3E000000#32 + v34 i = _
  rw [h68, h34, lit_eighth, mulE]
  generalize (i 0).val = R
  generalize (i 1).val = t
  unfold windowed
  show _ = (if okAt c (R % 128) t = true then _ else _)
  unfold okAt Head.sc
  dsimp only
  by_cases hw : t ≤ R % 128 + 128 ∧ R % 128 < t
  · rw [if_pos hw]
    by_cases ht : t < 128
    · rw [if_pos ht]
      by_cases hc : 0 < c
      · rw [if_pos hc, add_zero, addE, if_pos (decide_eq_true ⟨hw.1, hw.2, fun _ => hc⟩)]
        rfl
      · rw [if_neg hc, EReal.add_bot, EReal.add_bot, if_neg (by rw [decide_eq_true_eq]; exact fun h => hc (h.2.2 ht))]
    · rw [if_neg ht, add_zero, addE, if_pos (decide_eq_true ⟨hw.1, hw.2, fun h => absurd h ht⟩)]
      rfl
  · rw [if_neg hw, EReal.bot_add, EReal.add_bot, if_neg (by rw [decide_eq_true_eq]; exact fun h => hw ⟨h.1, h.2.1⟩)]

include h68 h34 h67 in
theorem p14 : Is2 (k0_pay14 v34 v67 v68 (FloatOps.ofBits .f32 0x3E000000#32)) (fun R _ => (at8 A c e R).m (R % 128)) := fun i => by
  have h := at2_col (a := 1024) (φ := .f32) (h := shapeCasts_S1024_S1024x1) (rowMax (h := reduces_S1024x256_S1024) (hφ := .inl rfl) (hacc := rfl) (p13 h68 h34)) i
  show max (shapeCast S1024x1 (multiReduction .maximumf [1] S1024 (k0_pay13 v34 v68 (FloatOps.ofBits .f32 0x3E000000#32)) 0xFF800000#32 reduces_S1024x256_S1024 (.inl rfl) rfl) shapeCasts_S1024_S1024x1 i) (v67 i) = _
  refine (congrArg₂ max h (h67 i)).trans ?_
  exact (at8 A c e _).mE_eq _

include h68 h34 h67 in
theorem p15 : Is2 (k0_pay15 v34 v67 v68 (FloatOps.ofBits .f32 0x3E000000#32)) (fun R t => (at8 A c e R).p (R % 128) t) := fun i => by
  have h := is2_cols (a := 1024) (b := 256) (φ := .f32) (h := broadcasts_S1024x1_S1024x256) (p14 h68 h34 h67) i
  show Ideal.exp (k0_pay13 v34 v68 (FloatOps.ofBits .f32 0x3E000000#32) i - broadcastTo S1024x256 (k0_pay14 v34 v67 v68 (FloatOps.ofBits .f32 0x3E000000#32)) broadcasts_S1024x1_S1024x256 i) = _
  refine (congrArg Ideal.exp (congrArg₂ (· - ·) (p13 h68 h34 i) h)).trans ?_
  exact (at8 A c e _).exp_sE _ _

include h68 h34 h67 in
theorem p16 : Is2 (k0_pay16 v34 v67 v68 (FloatOps.ofBits .f32 0x3E000000#32)) (fun R _ => (at8 A c e R).e0 (R % 128)) := fun i => by
  show Ideal.exp (v67 i - k0_pay14 v34 v67 v68 (FloatOps.ofBits .f32 0x3E000000#32) i) = _
  rw [h67, p14 h68 h34 h67, ← EReal.coe_sub, Ideal.exp_coe]
  rfl

include h68 h34 h67 in
theorem p17 : Is2 (k0_pay17 v34 v67 v68 (FloatOps.ofBits .f32 0x3E000000#32)) (fun R _ => 1 / (at8 A c e R).z (R % 128)) := fun i => by
  have h := is2_col (a := 1024) (φ := .f32) (h := shapeCasts_S1024_S1024x1) (rowSum (φ := .f32) (acc := 0x00000000#32) (h := reduces_S1024x256_S1024) (hφ := .inl rfl) (hacc := rfl) (p15 h68 h34 h67)) i
  show FloatOps.divf (F := Ideal) (φ := .f32) (Ideal.ofBits .f32 0x3F800000#32) (shapeCast S1024x1 (multiReduction .add [1] S1024 (k0_pay15 v34 v67 v68 (FloatOps.ofBits .f32 0x3E000000#32)) 0x00000000#32 reduces_S1024x256_S1024 (.inl rfl) rfl) shapeCasts_S1024_S1024x1 i
    + k0_pay16 v34 v67 v68 (FloatOps.ofBits .f32 0x3E000000#32) i) = _
  have hz : (shapeCast S1024x1 (multiReduction .add [1] S1024 (k0_pay15 v34 v67 v68 (FloatOps.ofBits .f32 0x3E000000#32)) 0x00000000#32 reduces_S1024x256_S1024 (.inl rfl) rfl) shapeCasts_S1024_S1024x1 i
    + k0_pay16 v34 v67 v68 (FloatOps.ofBits .f32 0x3E000000#32) i : EReal) = (((at8 A c e (i 0).val).z ((i 0).val % 128) : ℝ) : EReal) :=
    (congrArg₂ (· + ·) h (p16 h68 h34 h67 i)).trans (addE _ _)
  rw [hz, lit_one]
  exact divC 1 ((at8 A c e (i 0).val).z_pos ((i 0).val % 128)).ne'

include h68 h34 h67 in
theorem p18 : Is2 (k0_pay18 v34 v67 v68 (FloatOps.ofBits .f32 0x3E000000#32)) (fun R t => (at8 A c e R).pr (R % 128) t) := fun i => by
  have h := is2_mul (p15 h68 h34 h67) (is2_cols (a := 1024) (b := 256) (φ := .f32) (h := broadcasts_S1024x1_S1024x256) (p17 h68 h34 h67)) i
  exact h

include h68 h34 h67 in
theorem p19 : At4 (k0_pay19 v34 v67 v68 (FloatOps.ofBits .f32 0x3E000000#32)) (fun _ _ R t => (((at8 A c e R).pr (R % 128) t : ℝ) : EReal)) :=
  at4_of2 (a := 1024) (b := 256) (φ := .bf16) (h := shapeCasts_S1024x256_S1x1x1024x256) (f := fun R t => (((at8 A c e R).pr (R % 128) t : ℝ) : EReal)) (p18 h68 h34 h67)

include h68 h34 h67 in
theorem p20 : At4 (k0_pay20 v34 v67 v68 (FloatOps.ofBits .f32 0x3E000000#32)) (fun _ _ R _ => (((at8 A c e R).es (R % 128) : ℝ) : EReal)) :=
  at4_of2 (a := 1024) (b := 1) (φ := .f32) (h := shapeCasts_S1024x1_S1x1x1024x1) (f := fun R _ => (((at8 A c e R).es (R % 128) : ℝ) : EReal))
    (is2_mul (p16 h68 h34 h67) (p17 h68 h34 h67))

include h68 h34 h67 in
theorem p21 {v9 : FVec Ideal S256x64 .bf16} (h9 : Is2 v9 (near A.v e c)) :
    Is2 (k0_pay21 v9 v34 v67 v68 (FloatOps.ofBits .f32 0x3E000000#32)) (fun R d => (at8 A c e R).out (R % 128) d) := fun i => by
  have h := matNN (M := 1024) (K := 256) (N := 64) (φ₁ := .bf16) (φ₂ := .bf16) none (p18 h68 h34 h67) h9 i
  refine h.trans (congrArg Real.toEReal ?_)
  have h0 : (i 0).val < 1024 := (i 0).isLt
  show _ = ∑ t : Fin 256, _
  rw [head_v A c e _ (by omega)]

/-- Head `g`'s rows of the stacked result. -/
theorem rows {v95 : FVec Ideal S1024x64 .f32} (h : Is2 v95 (fun R d => (at8 A c e R).out (R % 128) d)) (g : ℕ) {hs : S1024x64.Slices ![128 * g, 0] S128x64} :
    Is2 (truncf (F := Ideal) .bf16 (extractStridedSlice S128x64 ![128 * g, 0] v95 hs) bitsLt_bf16_f32) (fun r d => (head near A c (8 * e + g)).out r d) := fun i => by
  have h0 : (i 0).val < 128 := (i 0).isLt
  refine (is2_slice (φ := .f32) (a' := 128) (b' := 64) h hs i).trans (congrArg Real.toEReal ?_)
  show (head near A c (8 * e + (128 * g + (i 0).val) / 128)).out ((128 * g + (i 0).val) % 128) (0 + (i 1).val) = _
  rw [show (128 * g + (i 0).val) / 128 = g by omega, show (128 * g + (i 0).val) % 128 = (i 0).val by omega, Nat.zero_add]

end Chain

theorem p12 {v4 : FVec Ideal S256x64 .bf16} {v18 : FVec Ideal S1024x64 .bf16} (h4 : Is2 v4 (near A.k e c)) (h18 : Is2 v18 (fun R d => (at8 A c e R).q (R % 128) d)) :
    Is2 (k0_pay12 v4 v18) (fun R t => ∑ d : Fin 64, (at8 A c e R).q (R % 128) d.val * (at8 A c e R).k t d.val) := fun i => by
  have h := matNT (M := 1024) (K := 64) (N := 256) (φ₁ := .bf16) (φ₂ := .bf16) none h18 h4 i
  refine h.trans (congrArg Real.toEReal ?_)
  have h0 : (i 0).val < 1024 := (i 0).isLt
  dsimp only
  rw [head_k A c e _ (by omega)]

/-- The eight heads' columns, one head below another. -/
theorem p8 {v10 v11 v12 v13 v14 v15 v16 v17 : Vec Ideal S128x64 .bf16} {X : ℕ → ℕ → EReal}
    (h0 : At2 (a := 128) (b := 64) v10 (fun r d => X r (0 + d))) (h1 : At2 (a := 128) (b := 64) v11 (fun r d => X r (64 + d)))
    (h2 : At2 (a := 128) (b := 64) v12 (fun r d => X r (128 + d))) (h3 : At2 (a := 128) (b := 64) v13 (fun r d => X r (192 + d)))
    (h4 : At2 (a := 128) (b := 64) v14 (fun r d => X r (256 + d))) (h5 : At2 (a := 128) (b := 64) v15 (fun r d => X r (320 + d)))
    (h6 : At2 (a := 128) (b := 64) v16 (fun r d => X r (384 + d))) (h7 : At2 (a := 128) (b := 64) v17 (fun r d => X r (448 + d))) :
    At2 (k0_pay8 v10 v11 v12 v13 v14 v15 v16 v17) (fun R d => X (R % 128) (64 * (R / 128) + d)) :=
  cat8 (n := 1024) (a := 128) (b := 64) (X := fun g r d => X r (64 * g + d)) rfl h0 h1 h2 h3 h4 h5 h6 h7 (h := concatenates_S128x64_S128x64_S128x64_S128x64_S128x64_S128x64_S128x64_S128x64_S1024x64_d0)

theorem p11 {s : ℕ → ℝ} {v37 v41 v45 v49 v53 v57 v61 v65 : Elt Ideal .f32} (h0 : v37 = ((s 0 : ℝ) : EReal)) (h1 : v41 = ((s 1 : ℝ) : EReal)) (h2 : v45 = ((s 2 : ℝ) : EReal))
    (h3 : v49 = ((s 3 : ℝ) : EReal)) (h4 : v53 = ((s 4 : ℝ) : EReal)) (h5 : v57 = ((s 5 : ℝ) : EReal)) (h6 : v61 = ((s 6 : ℝ) : EReal)) (h7 : v65 = ((s 7 : ℝ) : EReal)) :
    Is2 (k0_pay11 v37 v41 v45 v49 v53 v57 v61 v65) (fun R _ => s (R / 128)) := by
  have h := cat8 (n := 1024) (a := 128) (b := 1) (X := fun g _ _ => ((s g : ℝ) : EReal)) rfl
    (x0 := broadcast S128x1 v37) (x1 := broadcast S128x1 v41) (x2 := broadcast S128x1 v45) (x3 := broadcast S128x1 v49) (x4 := broadcast S128x1 v53)
    (x5 := broadcast S128x1 v57) (x6 := broadcast S128x1 v61) (x7 := broadcast S128x1 v65)
    (fun _ => h0) (fun _ => h1) (fun _ => h2) (fun _ => h3) (fun _ => h4) (fun _ => h5) (fun _ => h6) (fun _ => h7)
    (h := concatenates_S128x1_S128x1_S128x1_S128x1_S128x1_S128x1_S128x1_S128x1_S1024x1_d0)
  exact h

theorem small_slt (t m : ℕ) (ht : t < 1024) (hm : m < 1024) : IntOp.cmpi .slt (BitVec.ofNat 32 t) (BitVec.ofNat 32 m) = if t < m then 1#1 else 0#1 := by
  have e (n : ℕ) (hn : n < 1024) : (BitVec.ofNat 32 n).toInt = (n : ℤ) := by
    rw [BitVec.toInt_eq_toNat_of_lt (by rw [BitVec.toNat_ofNat]; omega), BitVec.toNat_ofNat, Nat.mod_eq_of_lt (by omega)]
  simp only [IntOp.cmpi, BitVec.slt, e t ht, e m hm, Nat.cast_lt]
  by_cases h : t < m
  · rw [if_pos h, decide_eq_true h]; rfl
  · rw [if_neg h, decide_eq_false h]; rfl

theorem p10 {v20 : FVec Ideal S8x128x256 .f32} (hc : c < 16) (h : At3 v20 (fun g r t => windowed A.b (8 * e + g) r t)) :
    At2 (k0_pay10 (BitVec.ofNat 32 c) v20) (fun R t => windowed A.b (8 * e + R / 128) (R % 128) t + (if t < 128 then (if 0 < c then 0 else ⊥) else 0)) := fun i => by
  have h1 := at2_stack (n := 8) (a := 128) (b := 256) (R := 1024) (h := shapeCasts_S8x128x256_S1024x256) rfl h i
  have hi : (i 1).val < 256 := (i 1).isLt
  refine congrArg₂ (· + ·) h1 ?_
  refine (at2_row (a := 1024) (b := 256) (f := fun _ t => (if t < 128 then (if 0 < c then 0 else ⊥) else 0)) (h := broadcasts_S1x256_S1024x256) (fun j => ?_) i)
  have hj : (j 1).val < 256 := (j 1).isLt
  have e2 : iota .tc S1x256 32 [1] iota_S1x256_d1_w32 j = BitVec.ofNat 32 (j 1).val := by
    show BitVec.ofNat 32 (0 * 256 + (j 1).val) = _
    rw [Nat.zero_mul, Nat.zero_add]
  show Scalar.select (IntOp.cmpi .slt (iota .tc S1x256 32 [1] iota_S1x256_d1_w32 j) 128#32)
    (Scalar.select (IntOp.cmpi .sgt (BitVec.ofNat 32 c) 0#32) (Ideal.ofBits .f32 0x00000000#32) (Named.named (F := Ideal) κ (φ := .f32) "masked" 0xF149F2CA#32)) (Ideal.ofBits .f32 0x00000000#32) = _
  rw [e2, masked, lit_zero, small_slt _ 128 (by omega) (by omega)]
  have e3 : IntOp.cmpi .sgt (BitVec.ofNat 32 c) 0#32 = if 0 < c then 1#1 else 0#1 := small_slt 0 c (by omega) (by omega)
  rw [e3]
  dsimp only
  by_cases hj' : (j 1).val < 128
  · rw [if_pos hj', if_pos hj']
    by_cases hc' : 0 < c
    · rw [if_pos hc', if_pos hc']; rfl
    · rw [if_neg hc', if_neg hc']; rfl
  · rw [if_neg hj', if_neg hj']; rfl

end Cert.Core

end
-- ==== Proof.CoreBody.lean ====
/- The attention's forward kernel at one grid point: what it leaves in its three results' blocks. -/
module

public import proofs.«01_k».proof.Proof.CoreFwd
public import proofs.«01_k».proof.Proof.Gen.AttnIdeal.Frame

@[expose] public section

set_option maxRecDepth 16384

noncomputable section

namespace Cert.Core

open Cert.AttnIdeal Cert.AttnIdeal.Gen Idealize.ShloMosaic Idealize.ShloMosaic.TcCoe Idealize.ShloMosaic.Tactic Idealize.SL.Sem Cert.Lift Cert.Mat Cert.Prod

/-- A whole stack. -/
theorem whole3 {n a b : ℕ} {arg : Memref sig .tc .vmem ⟨3, ![n, a, b]⟩ .bf16} (harg : arg.IsWhole) {x : Vec Ideal ⟨3, ![n, a, b]⟩ .bf16} {f : ℕ → ℕ → ℕ → EReal}
    (hx : At3 x f) {inb} : At3 (a := n) (b := a) (c := b) (View.readAt (Elt Ideal) arg.view (Rect.unit (s := ⟨3, ![n, a, b]⟩) ![0, 0, 0] (⟨3, ![n, a, b]⟩ : Shape).size inb).toLoadRect (harg.unread x)) f := by
  rw [View.readAt_eq_ld, harg.read_unread, View.ld_unit]
  intro i
  refine (hx _).trans ?_
  show f (0 + (i 0).val) (0 + (i 1).val) (0 + (i 2).val) = _
  rw [Nat.zero_add, Nat.zero_add, Nat.zero_add]
theorem whole3w {n a b : ℕ} {arg : Memref sig .tc .vmem ⟨3, ![n, a, b]⟩ .f32} (harg : arg.IsWhole) {x : Vec Ideal ⟨3, ![n, a, b]⟩ .f32} {f : ℕ → ℕ → ℕ → EReal}
    (hx : At3 x f) {inb} : At3 (a := n) (b := a) (c := b) (View.readAt (Elt Ideal) arg.view (Rect.unit (s := ⟨3, ![n, a, b]⟩) ![0, 0, 0] (⟨3, ![n, a, b]⟩ : Shape).size inb).toLoadRect (harg.unread x)) f := by
  rw [View.readAt_eq_ld, harg.read_unread, View.ld_unit]
  intro i
  refine (hx _).trans ?_
  show f (0 + (i 0).val) (0 + (i 1).val) (0 + (i 2).val) = _
  rw [Nat.zero_add, Nat.zero_add, Nat.zero_add]

theorem whole3r {n a b : ℕ} {arg : Memref sig .tc .vmem ⟨3, ![n, a, b]⟩ .bf16} (harg : arg.IsWhole) {x : Vec Ideal ⟨3, ![n, a, b]⟩ .bf16} {f : ℕ → ℕ → ℕ → ℝ}
    (hx : Is3 x f) {inb} : Is3 (a := n) (b := a) (c := b) (View.readAt (Elt Ideal) arg.view (Rect.unit (s := ⟨3, ![n, a, b]⟩) ![0, 0, 0] (⟨3, ![n, a, b]⟩ : Shape).size inb).toLoadRect (harg.unread x)) f :=
  whole3 (f := fun i j k => ((f i j k : ℝ) : EReal)) harg hx

theorem cols2r {a b n p : ℕ} {arg : Memref sig .tc .vmem ⟨2, ![a, n]⟩ .bf16} (harg : arg.IsWhole) {x : Vec Ideal ⟨2, ![a, n]⟩ .bf16} {f : ℕ → ℕ → ℝ}
    (hx : Is2 x f) {inb} : Is2 (a := a) (b := b) (View.readAt (Elt Ideal) arg.view (Rect.unit (s := ⟨2, ![a, n]⟩) ![0, p] (⟨2, ![a, b]⟩ : Shape).size inb).toLoadRect (harg.unread x)) (fun i j => f i (p + j)) :=
  cols2 (f := fun i j => ((f i j : ℝ) : EReal)) harg hx

section Body
variable (c : Dev nD) (i : grid0.Coords)
  (arg2 : Memref sig .tc .vmem S128x512 .bf16) (harg2 : arg2.IsWhole) (arg3 : Memref sig .tc .vmem S1x128x64 .bf16) (harg3 : arg3.IsWhole)
  (arg4 : Memref sig .tc .vmem S1x128x64 .bf16) (harg4 : arg4.IsWhole) (arg5 : Memref sig .tc .vmem S1x128x64 .bf16) (harg5 : arg5.IsWhole)
  (arg6 : Memref sig .tc .vmem S1x128x64 .bf16) (harg6 : arg6.IsWhole) (arg7 : Memref sig .tc .vmem S8x128x256 .f32) (harg7 : arg7.IsWhole)
  (arg8 : Memref sig .tc .smem S32 .f32) (harg8 : arg8.IsWhole) (arg9 : Memref sig .tc .vmem S128x512 .bf16) (harg9 : arg9.IsWhole)
  (arg10 : Memref sig .tc .vmem S1x1x1024x256 .bf16) (harg10 : arg10.IsWhole) (arg11 : Memref sig .tc .vmem S1x1x1024x1 .f32) (harg11 : arg11.IsWhole)
  {x0 : Vec Ideal S128x512 .bf16} {x1 x2 x3 x4 : Vec Ideal S1x128x64 .bf16} {x5 : Vec Ideal S8x128x256 .f32} {x6 : Vec Ideal S32 .f32}
  {A : Args}
  (hx0 : Is2 x0 (fun r j => A.q (128 * (i 1).val + r) (512 * (i 0).val + j)))
  (hx1 : Is3 x1 (fun _ r d => A.k (i 0).val (128 * ((i 1).val - 1) + r) d)) (hx2 : Is3 x2 (fun _ r d => A.k (i 0).val (128 * (i 1).val + r) d))
  (hx3 : Is3 x3 (fun _ r d => A.v (i 0).val (128 * ((i 1).val - 1) + r) d)) (hx4 : Is3 x4 (fun _ r d => A.v (i 0).val (128 * (i 1).val + r) d))
  (hx5 : At3 x5 (fun g r t => windowed A.b (8 * (i 0).val + g) r t)) (hx6 : Is1 x6 A.s)

include hx6 in
theorem sink (g : ℕ) (w : BitVec 32) (hw : k0_off1 i w = ![8 * (i 0).val + g]) {inb h} :
    View.readAt (Elt Ideal) arg8.view (Rect.unit (s := S32) (k0_off1 i w) S1.size inb).toLoadRect (harg8.unread x6) (Shape.Idx.first h) = ((A.s (8 * (i 0).val + g) : ℝ) : EReal) := by
  rw [View.readAt_eq_ld, harg8.read_unread, View.ld_unit]
  refine (hx6 _).trans (congrArg (fun n => ((A.s n : ℝ) : EReal)) ?_)
  show k0_off1 i w 0 + 0 = _
  rw [hw]
  rfl

theorem off1 : ∀ (i : grid0.Coords) (g : Fin 8), k0_off1 i (BitVec.ofNat 32 g.val) = ![8 * (i 0).val + g.val] := by decide +kernel

include hx6 in
theorem sinks : Is2 (kernelRun0_A.sl.r_13 c i arg8 harg8 x6) (fun R _ => (at8 A (i 1).val (i 0).val R).s) :=
  p11 (s := fun g => A.s (8 * (i 0).val + g)) (sink i arg8 harg8 hx6 0 0#32 (off1 i 0)) (sink i arg8 harg8 hx6 1 1#32 (off1 i 1)) (sink i arg8 harg8 hx6 2 2#32 (off1 i 2))
    (sink i arg8 harg8 hx6 3 3#32 (off1 i 3)) (sink i arg8 harg8 hx6 4 4#32 (off1 i 4)) (sink i arg8 harg8 hx6 5 5#32 (off1 i 5)) (sink i arg8 harg8 hx6 6 6#32 (off1 i 6)) (sink i arg8 harg8 hx6 7 7#32 (off1 i 7))

include hx5 in
theorem biases : At2 (kernelRun0_A.sl.r_12 c i arg7 harg7 x5)
    (fun R t => windowed A.b (8 * (i 0).val + R / 128) (R % 128) t + (if t < 128 then (if 0 < (i 1).val then 0 else ⊥) else 0)) :=
  p10 (i 1).isLt (at3_self (φ := .f32) (whole3w harg7 hx5))

include hx0 hx1 hx2 in
theorem scores : Is2 (kernelRun0_A.sl.r_14 c arg2 harg2 arg3 harg3 arg4 harg4 x0 x1 x2)
    (fun R t => ∑ d : Fin 64, (at8 A (i 1).val (i 0).val R).q (R % 128) d.val * (at8 A (i 1).val (i 0).val R).k t d.val) := by
  refine p12 (keys (whole3r harg3 hx1) (whole3r harg4 hx2)) (fun y => ?_)
  refine (p8 (X := fun r j => ((A.q (128 * (i 1).val + r) (512 * (i 0).val + j) : ℝ) : EReal)) (cols2r harg2 hx0) (cols2r harg2 hx0) (cols2r harg2 hx0) (cols2r harg2 hx0)
    (cols2r harg2 hx0) (cols2r harg2 hx0) (cols2r harg2 hx0) (cols2r harg2 hx0) y).trans ?_
  exact congrArg Real.toEReal (head_q A _ _ _ _ _).symm

include hx3 hx4 in
theorem values : Is2 (kernelRun0_A.sl.r_1 c arg5 harg5 arg6 harg6 x3 x4) (near A.v (i 0).val (i 1).val) := keys (whole3r harg5 hx3) (whole3r harg6 hx4)

theorem attn_at (x y : ℕ) (hy : y < 512) (e c r : ℕ) (hr : r < 128) : attn near A (128 * c + r) (512 * e + y) = (head near A c (8 * e + y / 64)).out r (y % 64) := by
  unfold attn
  rw [show (128 * c + r) / 128 = c by omega, show (128 * c + r) % 128 = r by omega, show (512 * e + y) / 64 = 8 * e + y / 64 by omega, show (512 * e + y) % 64 = y % 64 by omega]

/-- Head `g`'s columns of the block. -/
theorem cols_of {g : ℕ} {w : FVec Ideal S128x64 .bf16} (hw : Is2 w (fun r d => (head near A (i 1).val (8 * (i 0).val + g)).out r d)) (hg : g < 8) {p : ℕ} (hp : p = 64 * g) {inb}
    (x : S128x64.Idx) : w x = ((attn near A (128 * (i 1).val + ((Rect.unit (s := S128x512) ![0, p] ![128, 64] inb).emb x 0).val) (512 * (i 0).val + ((Rect.unit (s := S128x512) ![0, p] ![128, 64] inb).emb x 1).val) : ℝ) : EReal) := by
  subst hp
  refine put2c (a := 128) (b := 64) (n := 512) (p := 64 * g) (φ := .bf16) (inb := inb) (f := fun r j => ((attn near A (128 * (i 1).val + r) (512 * (i 0).val + j) : ℝ) : EReal)) (fun y => (hw y).trans (congrArg Real.toEReal ?_)) x
  have h0 : (y 0).val < 128 := (y 0).isLt
  have h1 : (y 1).val < 64 := (y 1).isLt
  dsimp only
  rw [attn_at 0 _ (by omega) _ _ _ h0, show (64 * g + (y 1).val) / 64 = g by omega, show (64 * g + (y 1).val) % 64 = (y 1).val by omega]

include hx0 hx1 hx2 hx3 hx4 hx5 hx6 in
theorem out7 : Is2 (a := 128) (b := 512) (out0_A_7 c i arg2 harg2 arg3 harg3 arg4 harg4 arg5 harg5 arg6 harg6 arg7 harg7 arg8 harg8 arg9 harg9 arg10 harg10 arg11 harg11 x0 x1 x2 x3 x4 x5 x6)
    (fun r j => attn near A (128 * (i 1).val + r) (512 * (i 0).val + j)) := fun y => by
  unfold out0_A_7
  refine (congrFun (View.read_writes_junk_eq_canon _ _) y).trans (View.canon_apply_of_pieces (Val := Elt Ideal) (fun y => ((attn near A (128 * (i 1).val + (y 0).val) (512 * (i 0).val + (y 1).val) : ℝ) : EReal)) _ ?_ _ (cover0_A_7 c i arg2 harg2 arg3 harg3 arg4 harg4 arg5 harg5 arg6 harg6 arg7 harg7 arg8 harg8 arg9 harg9 arg10 harg10 arg11 harg11 x0 x1 x2 x3 x4 x5 x6 _))
  unfold kernelRun0_A
  simp only [List.forall_mem_cons]
  have h := p21 (scores c i arg2 harg2 arg3 harg3 arg4 harg4 hx0 hx1 hx2) (biases c i arg7 harg7 hx5) (sinks c i arg8 harg8 hx6) (values c i arg5 harg5 arg6 harg6 hx3 hx4)
  refine ⟨?_, ?_, ?_, ?_, ?_, ?_, ?_, ?_, by simp⟩
  · exact cols_of i (rows h 7 (hs := slices_S1024x64_o896_0_S128x64)) (by omega) rfl
  · exact cols_of i (rows h 6 (hs := slices_S1024x64_o768_0_S128x64)) (by omega) rfl
  · exact cols_of i (rows h 5 (hs := slices_S1024x64_o640_0_S128x64)) (by omega) rfl
  · exact cols_of i (rows h 4 (hs := slices_S1024x64_o512_0_S128x64)) (by omega) rfl
  · exact cols_of i (rows h 3 (hs := slices_S1024x64_o384_0_S128x64)) (by omega) rfl
  · exact cols_of i (rows h 2 (hs := slices_S1024x64_o256_0_S128x64)) (by omega) rfl
  · exact cols_of i (rows h 1 (hs := slices_S1024x64_o128_0_S128x64)) (by omega) rfl
  · exact cols_of i (rows h 0 (hs := slices_S1024x64_o0_0_S128x64)) (by omega) rfl

include hx0 hx1 hx2 hx5 hx6 in
theorem out8 : At4 (a := 1) (b := 1) (c := 1024) (d := 256) (out0_A_8 c i arg2 harg2 arg3 harg3 arg4 harg4 arg5 harg5 arg6 harg6 arg7 harg7 arg8 harg8 arg9 harg9 arg10 harg10 arg11 harg11 x0 x1 x2 x3 x4 x5 x6)
    (fun _ _ R t => (((at8 A (i 1).val (i 0).val R).pr (R % 128) t : ℝ) : EReal)) := fun y => by
  unfold out0_A_8
  refine (congrFun (View.read_writes_junk_eq_canon _ _) y).trans (View.canon_apply_of_pieces (Val := Elt Ideal) (fun y => (((at8 A (i 1).val (i 0).val (y 2).val).pr ((y 2).val % 128) (y 3).val : ℝ) : EReal)) _ ?_ _ (cover0_A_8 c i arg2 harg2 arg3 harg3 arg4 harg4 arg5 harg5 arg6 harg6 arg7 harg7 arg8 harg8 arg9 harg9 arg10 harg10 arg11 harg11 x0 x1 x2 x3 x4 x5 x6 _))
  unfold kernelRun0_A
  simp only [List.forall_mem_cons]
  exact ⟨put4 (p := 0) (q := 0) (φ := .bf16) (f := fun _ _ R t => (((at8 A (i 1).val (i 0).val R).pr (R % 128) t : ℝ) : EReal))
    (p19 (scores c i arg2 harg2 arg3 harg3 arg4 harg4 hx0 hx1 hx2) (biases c i arg7 harg7 hx5) (sinks c i arg8 harg8 hx6)), by simp⟩

include hx0 hx1 hx2 hx5 hx6 in
theorem out9 : At4 (a := 1) (b := 1) (c := 1024) (d := 1) (out0_A_9 c i arg2 harg2 arg3 harg3 arg4 harg4 arg5 harg5 arg6 harg6 arg7 harg7 arg8 harg8 arg9 harg9 arg10 harg10 arg11 harg11 x0 x1 x2 x3 x4 x5 x6)
    (fun _ _ R _ => (((at8 A (i 1).val (i 0).val R).es (R % 128) : ℝ) : EReal)) := fun y => by
  unfold out0_A_9
  refine (congrFun (View.read_writes_junk_eq_canon _ _) y).trans (View.canon_apply_of_pieces (Val := Elt Ideal) (fun y => (((at8 A (i 1).val (i 0).val (y 2).val).es ((y 2).val % 128) : ℝ) : EReal)) _ ?_ _ (cover0_A_9 c i arg2 harg2 arg3 harg3 arg4 harg4 arg5 harg5 arg6 harg6 arg7 harg7 arg8 harg8 arg9 harg9 arg10 harg10 arg11 harg11 x0 x1 x2 x3 x4 x5 x6 _))
  unfold kernelRun0_A
  simp only [List.forall_mem_cons]
  exact ⟨put4 (p := 0) (q := 0) (φ := .f32) (f := fun _ _ R _ => (((at8 A (i 1).val (i 0).val R).es (R % 128) : ℝ) : EReal))
    (p20 (scores c i arg2 harg2 arg3 harg3 arg4 harg4 hx0 hx1 hx2) (biases c i arg7 harg7 hx5) (sinks c i arg8 harg8 hx6)), by simp⟩

end Body

end Cert.Core

end
-- ==== Proof.CoreRun0.lean ====
/- The attention's forward kernel over its grid: what its results hold at its end. -/
module

public import proofs.«01_k».proof.Proof.Place
public import proofs.«01_k».proof.Proof.CoreBody

@[expose] public section

set_option maxRecDepth 16384

noncomputable section

namespace Cert.Core

open Cert.AttnIdeal Cert.AttnIdeal.Gen Idealize.ShloMosaic Idealize.ShloMosaic.TcCoe Idealize.ShloMosaic.Tactic Idealize.SL.Sem Cert.Lift Cert.Mat Cert.Prod

variable (V : (c : Dev nD) → (b : Ref sig .tc) → Buf (Elt Ideal) ((c : Thread nD τ).loc b)) (c : Dev nD) {A : Args}
  (hq : Is2 (a := 2048) (b := 2048) (V c main_arg0) A.q) (hk : Is3 (a := 4) (b := 2048) (c := 64) (V c main_arg1) A.k) (hv : Is3 (a := 4) (b := 2048) (c := 64) (V c main_arg2) A.v)
  (hb : At3 (a := 32) (b := 128) (c := 256) (V c main_v14) (windowed A.b)) (hs : Is1 (a := 32) (V c main_arg4) A.s)

theorem idx0_0 (t : Fin cfg0.N) : win0_0.index t 0 = (grid0.coords t 1).val ∧ win0_0.index t 1 = (grid0.coords t 0).val :=
  (by decide +kernel : ∀ t : Fin grid0.N, win0_0.index t 0 = (grid0.coords t 1).val ∧ win0_0.index t 1 = (grid0.coords t 0).val) t
include hq in
theorem in0_0 (t : Fin cfg0.N) : Is2 (a := 128) (b := 512) (iblk0 V c 0 t) (fun r j => A.q (128 * (grid0.coords t 1).val + r) (512 * (grid0.coords t 0).val + j)) := fun y => by
  refine (hq ((win0_0.rect t).emb y)).trans ?_
  obtain ⟨i0, i1⟩ := idx0_0 t
  have e0 : ((win0_0.rect t).emb y 0).val = 128 * (grid0.coords t 1).val + (y 0).val := placed win0_0 t 0 i0 y
  have e1 : ((win0_0.rect t).emb y 1).val = 512 * (grid0.coords t 0).val + (y 1).val := placed win0_0 t 1 i1 y
  try dsimp only
  rw [e0, e1]

theorem idx0_1 (t : Fin cfg0.N) : win0_1.index t 0 = (grid0.coords t 0).val ∧ win0_1.index t 1 = ((grid0.coords t 1).val - 1) ∧ win0_1.index t 2 = 0 :=
  (by decide +kernel : ∀ t : Fin grid0.N, win0_1.index t 0 = (grid0.coords t 0).val ∧ win0_1.index t 1 = ((grid0.coords t 1).val - 1) ∧ win0_1.index t 2 = 0) t
include hk in
theorem in0_1 (t : Fin cfg0.N) : Is3 (a := 1) (b := 128) (c := 64) (iblk0 V c 1 t) (fun _ r d => A.k (grid0.coords t 0).val (128 * ((grid0.coords t 1).val - 1) + r) d) := fun y => by
  refine (hk ((win0_1.rect t).emb y)).trans ?_
  obtain ⟨i0, i1, i2⟩ := idx0_1 t
  have e0 := win0_1.rect_emb_val t y 0
  rw [i0] at e0
  replace e0 : ((win0_1.rect t).emb y 0).val = (grid0.coords t 0).val * 1 + (y 0).val := e0
  replace e0 : ((win0_1.rect t).emb y 0).val = (grid0.coords t 0).val := e0.trans (by have := (y 0).isLt; change (y 0).val < 1 at this; rw [Nat.mul_one]; exact congrArg (_ + ·) (Nat.lt_one_iff.mp this))
  have e1 : ((win0_1.rect t).emb y 1).val = 128 * ((grid0.coords t 1).val - 1) + (y 1).val := placed win0_1 t 1 i1 y
  have e2 : ((win0_1.rect t).emb y 2).val = (y 2).val := win0_1.rect_emb_val_of_index_zero t 2 i2 y
  try dsimp only
  rw [e0, e1, e2]

theorem idx0_2 (t : Fin cfg0.N) : win0_2.index t 0 = (grid0.coords t 0).val ∧ win0_2.index t 1 = (grid0.coords t 1).val ∧ win0_2.index t 2 = 0 :=
  (by decide +kernel : ∀ t : Fin grid0.N, win0_2.index t 0 = (grid0.coords t 0).val ∧ win0_2.index t 1 = (grid0.coords t 1).val ∧ win0_2.index t 2 = 0) t
include hk in
theorem in0_2 (t : Fin cfg0.N) : Is3 (a := 1) (b := 128) (c := 64) (iblk0 V c 2 t) (fun _ r d => A.k (grid0.coords t 0).val (128 * (grid0.coords t 1).val + r) d) := fun y => by
  refine (hk ((win0_2.rect t).emb y)).trans ?_
  obtain ⟨i0, i1, i2⟩ := idx0_2 t
  have e0 := win0_2.rect_emb_val t y 0
  rw [i0] at e0
  replace e0 : ((win0_2.rect t).emb y 0).val = (grid0.coords t 0).val * 1 + (y 0).val := e0
  replace e0 : ((win0_2.rect t).emb y 0).val = (grid0.coords t 0).val := e0.trans (by have := (y 0).isLt; change (y 0).val < 1 at this; rw [Nat.mul_one]; exact congrArg (_ + ·) (Nat.lt_one_iff.mp this))
  have e1 : ((win0_2.rect t).emb y 1).val = 128 * (grid0.coords t 1).val + (y 1).val := placed win0_2 t 1 i1 y
  have e2 : ((win0_2.rect t).emb y 2).val = (y 2).val := win0_2.rect_emb_val_of_index_zero t 2 i2 y
  try dsimp only
  rw [e0, e1, e2]

theorem idx0_3 (t : Fin cfg0.N) : win0_3.index t 0 = (grid0.coords t 0).val ∧ win0_3.index t 1 = ((grid0.coords t 1).val - 1) ∧ win0_3.index t 2 = 0 :=
  (by decide +kernel : ∀ t : Fin grid0.N, win0_3.index t 0 = (grid0.coords t 0).val ∧ win0_3.index t 1 = ((grid0.coords t 1).val - 1) ∧ win0_3.index t 2 = 0) t
include hv in
theorem in0_3 (t : Fin cfg0.N) : Is3 (a := 1) (b := 128) (c := 64) (iblk0 V c 3 t) (fun _ r d => A.v (grid0.coords t 0).val (128 * ((grid0.coords t 1).val - 1) + r) d) := fun y => by
  refine (hv ((win0_3.rect t).emb y)).trans ?_
  obtain ⟨i0, i1, i2⟩ := idx0_3 t
  have e0 := win0_3.rect_emb_val t y 0
  rw [i0] at e0
  replace e0 : ((win0_3.rect t).emb y 0).val = (grid0.coords t 0).val * 1 + (y 0).val := e0
  replace e0 : ((win0_3.rect t).emb y 0).val = (grid0.coords t 0).val := e0.trans (by have := (y 0).isLt; change (y 0).val < 1 at this; rw [Nat.mul_one]; exact congrArg (_ + ·) (Nat.lt_one_iff.mp this))
  have e1 : ((win0_3.rect t).emb y 1).val = 128 * ((grid0.coords t 1).val - 1) + (y 1).val := placed win0_3 t 1 i1 y
  have e2 : ((win0_3.rect t).emb y 2).val = (y 2).val := win0_3.rect_emb_val_of_index_zero t 2 i2 y
  try dsimp only
  rw [e0, e1, e2]

theorem idx0_4 (t : Fin cfg0.N) : win0_4.index t 0 = (grid0.coords t 0).val ∧ win0_4.index t 1 = (grid0.coords t 1).val ∧ win0_4.index t 2 = 0 :=
  (by decide +kernel : ∀ t : Fin grid0.N, win0_4.index t 0 = (grid0.coords t 0).val ∧ win0_4.index t 1 = (grid0.coords t 1).val ∧ win0_4.index t 2 = 0) t
include hv in
theorem in0_4 (t : Fin cfg0.N) : Is3 (a := 1) (b := 128) (c := 64) (iblk0 V c 4 t) (fun _ r d => A.v (grid0.coords t 0).val (128 * (grid0.coords t 1).val + r) d) := fun y => by
  refine (hv ((win0_4.rect t).emb y)).trans ?_
  obtain ⟨i0, i1, i2⟩ := idx0_4 t
  have e0 := win0_4.rect_emb_val t y 0
  rw [i0] at e0
  replace e0 : ((win0_4.rect t).emb y 0).val = (grid0.coords t 0).val * 1 + (y 0).val := e0
  replace e0 : ((win0_4.rect t).emb y 0).val = (grid0.coords t 0).val := e0.trans (by have := (y 0).isLt; change (y 0).val < 1 at this; rw [Nat.mul_one]; exact congrArg (_ + ·) (Nat.lt_one_iff.mp this))
  have e1 : ((win0_4.rect t).emb y 1).val = 128 * (grid0.coords t 1).val + (y 1).val := placed win0_4 t 1 i1 y
  have e2 : ((win0_4.rect t).emb y 2).val = (y 2).val := win0_4.rect_emb_val_of_index_zero t 2 i2 y
  try dsimp only
  rw [e0, e1, e2]

theorem idx0_5 (t : Fin cfg0.N) : win0_5.index t 0 = (grid0.coords t 0).val ∧ win0_5.index t 1 = 0 ∧ win0_5.index t 2 = 0 :=
  (by decide +kernel : ∀ t : Fin grid0.N, win0_5.index t 0 = (grid0.coords t 0).val ∧ win0_5.index t 1 = 0 ∧ win0_5.index t 2 = 0) t
include hb in
theorem in0_5 (t : Fin cfg0.N) : At3 (a := 8) (b := 128) (c := 256) (iblk0 V c 5 t) (fun g r t' => windowed A.b (8 * (grid0.coords t 0).val + g) r t') := fun y => by
  refine (hb ((win0_5.rect t).emb y)).trans ?_
  obtain ⟨i0, i1, i2⟩ := idx0_5 t
  have e0 : ((win0_5.rect t).emb y 0).val = 8 * (grid0.coords t 0).val + (y 0).val := placed win0_5 t 0 i0 y
  have e1 : ((win0_5.rect t).emb y 1).val = (y 1).val := win0_5.rect_emb_val_of_index_zero t 1 i1 y
  have e2 : ((win0_5.rect t).emb y 2).val = (y 2).val := win0_5.rect_emb_val_of_index_zero t 2 i2 y
  try dsimp only
  rw [e0, e1, e2]

theorem idx0_6 (t : Fin cfg0.N) : win0_6.index t 0 = 0 :=
  (by decide +kernel : ∀ t : Fin grid0.N, win0_6.index t 0 = 0) t
include hs in
theorem in0_6 (t : Fin cfg0.N) : Is1 (a := 32) (iblk0 V c 6 t) (A.s) := fun y => by
  refine (hs ((win0_6.rect t).emb y)).trans ?_
  have i0 := idx0_6 t
  have e0 : ((win0_6.rect t).emb y 0).val = (y 0).val := win0_6.rect_emb_val_of_index_zero t 0 i0 y
  try dsimp only
  rw [e0]

theorem idx0_7 (t : Fin cfg0.N) : win0_7.index t 0 = (grid0.coords t 1).val ∧ win0_7.index t 1 = (grid0.coords t 0).val :=
  (by decide +kernel : ∀ t : Fin grid0.N, win0_7.index t 0 = (grid0.coords t 1).val ∧ win0_7.index t 1 = (grid0.coords t 0).val) t
include hq hk hv hb hs in
theorem blk0_7 (t : Fin cfg0.N) (y : S128x512.Idx) : (outsAt0 V c t).1 y = ((attn near A (128 * (grid0.coords t 1).val + (y 0).val) (512 * (grid0.coords t 0).val + (y 1).val) : ℝ) : EReal) := by
  unfold outsAt0
  dsimp only
  have h := out7 (x3 := iblk0 V c 3 t) (x4 := iblk0 V c 4 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (in0_0 V c hq t) (in0_1 V c hk t) (in0_2 V c hk t) (in0_3 V c hv t) (in0_4 V c hv t) (in0_5 V c hb t) (in0_6 V c hs t)
  exact h y
include hq hk hv hb hs in
theorem array0_7 (i : S2048x2048.Idx) : ((dat0 V c).arrAt 7 cfg0.N : S2048x2048.Idx → EReal) i = ((attn near A (i 0).val (i 1).val : ℝ) : EReal) := by
  refine (dat0 V c).arrAt_forall_of_covers 7 (fun (i : S2048x2048.Idx) (v : EReal) => v = ((attn near A (i 0).val (i 1).val : ℝ) : EReal)) (by decide +kernel) (fun t hf (y : S128x512.Idx) => ?_) i
  show (dat0 V c).after 7 t y = _
  rw [after0_7]
  obtain ⟨i0, i1⟩ := idx0_7 t
  have e0 : (((cfg0.win 7).blk t).view.emb y 0).val = 128 * (grid0.coords t 1).val + (y 0).val := placed win0_7 t 0 i0 y
  have e1 : (((cfg0.win 7).blk t).view.emb y 1).val = 512 * (grid0.coords t 0).val + (y 1).val := placed win0_7 t 1 i1 y
  refine (blk0_7 V c hq hk hv hb hs t y).trans ?_
  rw [e0, e1]

theorem idx0_8 (t : Fin cfg0.N) : win0_8.index t 0 = (grid0.coords t 0).val ∧ win0_8.index t 1 = (grid0.coords t 1).val ∧ win0_8.index t 2 = 0 ∧ win0_8.index t 3 = 0 :=
  (by decide +kernel : ∀ t : Fin grid0.N, win0_8.index t 0 = (grid0.coords t 0).val ∧ win0_8.index t 1 = (grid0.coords t 1).val ∧ win0_8.index t 2 = 0 ∧ win0_8.index t 3 = 0) t
include hq hk hb hs in
theorem blk0_8 (t : Fin cfg0.N) (y : S1x1x1024x256.Idx) : (outsAt0 V c t).2.1 y = (((at8 A (grid0.coords t 1).val (grid0.coords t 0).val (y 2).val).pr ((y 2).val % 128) (y 3).val : ℝ) : EReal) := by
  unfold outsAt0
  dsimp only
  have h := out8 (x3 := iblk0 V c 3 t) (x4 := iblk0 V c 4 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (in0_0 V c hq t) (in0_1 V c hk t) (in0_2 V c hk t) (in0_5 V c hb t) (in0_6 V c hs t)
  exact h y
include hq hk hb hs in
theorem array0_8 (i : S4x16x1024x256.Idx) : ((dat0 V c).arrAt 8 cfg0.N : S4x16x1024x256.Idx → EReal) i = (((at8 A (i 1).val (i 0).val (i 2).val).pr ((i 2).val % 128) (i 3).val : ℝ) : EReal) := by
  refine (dat0 V c).arrAt_forall_of_covers 8 (fun (i : S4x16x1024x256.Idx) (v : EReal) => v = (((at8 A (i 1).val (i 0).val (i 2).val).pr ((i 2).val % 128) (i 3).val : ℝ) : EReal)) (by decide +kernel) (fun t hf (y : S1x1x1024x256.Idx) => ?_) i
  show (dat0 V c).after 8 t y = _
  rw [after0_8]
  obtain ⟨i0, i1, i2, i3⟩ := idx0_8 t
  have e0 := win0_8.rect_emb_val t y 0
  rw [i0] at e0
  replace e0 : (((cfg0.win 8).blk t).view.emb y 0).val = (grid0.coords t 0).val * 1 + (y 0).val := e0
  replace e0 : (((cfg0.win 8).blk t).view.emb y 0).val = (grid0.coords t 0).val := e0.trans (by have := (y 0).isLt; change (y 0).val < 1 at this; rw [Nat.mul_one]; exact congrArg (_ + ·) (Nat.lt_one_iff.mp this))
  have e1 := win0_8.rect_emb_val t y 1
  rw [i1] at e1
  replace e1 : (((cfg0.win 8).blk t).view.emb y 1).val = (grid0.coords t 1).val * 1 + (y 1).val := e1
  replace e1 : (((cfg0.win 8).blk t).view.emb y 1).val = (grid0.coords t 1).val := e1.trans (by have := (y 1).isLt; change (y 1).val < 1 at this; rw [Nat.mul_one]; exact congrArg (_ + ·) (Nat.lt_one_iff.mp this))
  have e2 : (((cfg0.win 8).blk t).view.emb y 2).val = (y 2).val := win0_8.rect_emb_val_of_index_zero t 2 i2 y
  have e3 : (((cfg0.win 8).blk t).view.emb y 3).val = (y 3).val := win0_8.rect_emb_val_of_index_zero t 3 i3 y
  refine (blk0_8 V c hq hk hb hs t y).trans ?_
  rw [e0, e1, e2, e3]

theorem idx0_9 (t : Fin cfg0.N) : win0_9.index t 0 = (grid0.coords t 0).val ∧ win0_9.index t 1 = (grid0.coords t 1).val ∧ win0_9.index t 2 = 0 ∧ win0_9.index t 3 = 0 :=
  (by decide +kernel : ∀ t : Fin grid0.N, win0_9.index t 0 = (grid0.coords t 0).val ∧ win0_9.index t 1 = (grid0.coords t 1).val ∧ win0_9.index t 2 = 0 ∧ win0_9.index t 3 = 0) t
include hq hk hb hs in
theorem blk0_9 (t : Fin cfg0.N) (y : S1x1x1024x1.Idx) : (outsAt0 V c t).2.2 y = (((at8 A (grid0.coords t 1).val (grid0.coords t 0).val (y 2).val).es ((y 2).val % 128) : ℝ) : EReal) := by
  unfold outsAt0
  dsimp only
  have h := out9 (x3 := iblk0 V c 3 t) (x4 := iblk0 V c 4 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (in0_0 V c hq t) (in0_1 V c hk t) (in0_2 V c hk t) (in0_5 V c hb t) (in0_6 V c hs t)
  exact h y
include hq hk hb hs in
theorem array0_9 (i : S4x16x1024x1.Idx) : ((dat0 V c).arrAt 9 cfg0.N : S4x16x1024x1.Idx → EReal) i = (((at8 A (i 1).val (i 0).val (i 2).val).es ((i 2).val % 128) : ℝ) : EReal) := by
  refine (dat0 V c).arrAt_forall_of_covers 9 (fun (i : S4x16x1024x1.Idx) (v : EReal) => v = (((at8 A (i 1).val (i 0).val (i 2).val).es ((i 2).val % 128) : ℝ) : EReal)) (by decide +kernel) (fun t hf (y : S1x1x1024x1.Idx) => ?_) i
  show (dat0 V c).after 9 t y = _
  rw [after0_9]
  obtain ⟨i0, i1, i2, i3⟩ := idx0_9 t
  have e0 := win0_9.rect_emb_val t y 0
  rw [i0] at e0
  replace e0 : (((cfg0.win 9).blk t).view.emb y 0).val = (grid0.coords t 0).val * 1 + (y 0).val := e0
  replace e0 : (((cfg0.win 9).blk t).view.emb y 0).val = (grid0.coords t 0).val := e0.trans (by have := (y 0).isLt; change (y 0).val < 1 at this; rw [Nat.mul_one]; exact congrArg (_ + ·) (Nat.lt_one_iff.mp this))
  have e1 := win0_9.rect_emb_val t y 1
  rw [i1] at e1
  replace e1 : (((cfg0.win 9).blk t).view.emb y 1).val = (grid0.coords t 1).val * 1 + (y 1).val := e1
  replace e1 : (((cfg0.win 9).blk t).view.emb y 1).val = (grid0.coords t 1).val := e1.trans (by have := (y 1).isLt; change (y 1).val < 1 at this; rw [Nat.mul_one]; exact congrArg (_ + ·) (Nat.lt_one_iff.mp this))
  have e2 : (((cfg0.win 9).blk t).view.emb y 2).val = (y 2).val := win0_9.rect_emb_val_of_index_zero t 2 i2 y
  have e3 : (((cfg0.win 9).blk t).view.emb y 3).val = (y 3).val := win0_9.rect_emb_val_of_index_zero t 3 i3 y
  refine (blk0_9 V c hq hk hb hs t y).trans ?_
  rw [e0, e1, e2]

end Cert.Core

end
-- ==== Proof.Pieces.lean ====
/- Loads of parts of finite blocks, and stores at their places. -/
module

public import proofs.«01_k».proof.Proof.Mat
public import Idealize.ShloMosaic.Lib.Pipeline.ValueKit

@[expose] public section

noncomputable section

namespace Cert.Mat

open Idealize.ShloMosaic Idealize.ShloMosaic.ValueIdx

section Loads
variable {sig : RefSig} {κ : Kind} {sp : Space}

/-- A load of a part of a block that holds `f`. -/
theorem ld2 {a b a' b' p q : ℕ} {arg : Memref sig κ sp ⟨2, ![a, b]⟩ .f32} (harg : arg.IsWhole) {x : Vec Ideal ⟨2, ![a, b]⟩ .f32} {f : ℕ → ℕ → ℝ}
    (hx : Is2 x f) {inb} : Is2 (a := a') (b := b') (View.readAt (Elt Ideal) arg.view (Rect.unit (s := ⟨2, ![a, b]⟩) ![p, q] (⟨2, ![a', b']⟩ : Shape).size inb).toLoadRect (harg.unread x)) (fun t j => f (p + t) (q + j)) := by
  rw [View.readAt_eq_ld, harg.read_unread, View.ld_unit]
  exact is2_slice (φ := .f32) hx _

theorem is2_congr {a b : ℕ} {v : (⟨2, ![a, b]⟩ : Shape).Idx → EReal} {f f' : ℕ → ℕ → ℝ} (h : Is2 v f) (e : ∀ t j, t < a → j < b → f t j = f' t j) :
    Is2 v f' := fun i => (h i).trans (congrArg (fun r : ℝ => (r : EReal)) (e _ _ (i 0).isLt (i 1).isLt))

/-- A load of some columns. -/
theorem ldc {a b a' b' q : ℕ} {arg : Memref sig κ sp ⟨2, ![a, b]⟩ .f32} (harg : arg.IsWhole) {x : Vec Ideal ⟨2, ![a, b]⟩ .f32} {f : ℕ → ℕ → ℝ}
    (hx : Is2 x f) {inb} : Is2 (a := a') (b := b') (View.readAt (Elt Ideal) arg.view (Rect.unit (s := ⟨2, ![a, b]⟩) ![0, q] (⟨2, ![a', b']⟩ : Shape).size inb).toLoadRect (harg.unread x)) (fun t j => f t (q + j)) :=
  is2_congr (ld2 harg hx) fun t _ _ _ => by rw [Nat.zero_add]
/-- A load from the first row and column. -/
theorem ld0 {a b a' b' : ℕ} {arg : Memref sig κ sp ⟨2, ![a, b]⟩ .f32} (harg : arg.IsWhole) {x : Vec Ideal ⟨2, ![a, b]⟩ .f32} {f : ℕ → ℕ → ℝ}
    (hx : Is2 x f) {inb} : Is2 (a := a') (b := b') (View.readAt (Elt Ideal) arg.view (Rect.unit (s := ⟨2, ![a, b]⟩) ![0, 0] (⟨2, ![a', b']⟩ : Shape).size inb).toLoadRect (harg.unread x)) f :=
  is2_congr (ldc harg hx) fun _ _ _ _ => by rw [Nat.zero_add]

/-- A load of one matrix of a stack. -/
theorem ld3 {n a b g : ℕ} {arg : Memref sig κ sp ⟨3, ![n, a, b]⟩ .f32} (harg : arg.IsWhole) {x : Vec Ideal ⟨3, ![n, a, b]⟩ .f32} {f : ℕ → ℕ → ℕ → ℝ}
    (hx : Is3 x f) {inb} : Is3 (a := 1) (b := a) (c := b) (View.readAt (Elt Ideal) arg.view (Rect.unit (s := ⟨3, ![n, a, b]⟩) ![g, 0, 0] (⟨3, ![1, a, b]⟩ : Shape).size inb).toLoadRect (harg.unread x)) (fun _ t j => f g t j) := by
  rw [View.readAt_eq_ld, harg.read_unread, View.ld_unit]
  intro i
  refine (hx _).trans ?_
  have := (i 0).isLt; change (i 0).val < 1 at this
  show ((f (g + (i 0).val) (0 + (i 1).val) (0 + (i 2).val) : ℝ) : EReal) = _
  rw [show g + (i 0).val = g by omega, Nat.zero_add, Nat.zero_add]

end Loads

section Stores
variable {φ : FTy}

/-- A stored part of a block, seen at the block's coordinates. -/
theorem st2 {a b a' b' p q : ℕ} {w : FVec Ideal ⟨2, ![a', b']⟩ φ} {f : ℕ → ℕ → ℝ} {inb} (hw : Is2 w (fun t j => f (p + t) (q + j)))
    (x : (⟨2, ![a', b']⟩ : Shape).Idx) : w x = ((f ((Rect.unit (s := ⟨2, ![a, b]⟩) ![p, q] ![a', b'] inb).emb x 0).val ((Rect.unit (s := ⟨2, ![a, b]⟩) ![p, q] ![a', b'] inb).emb x 1).val : ℝ) : EReal) := by
  rw [hw x]
  show _ = ((f (p + 1 * (x 0).val) (q + 1 * (x 1).val) : ℝ) : EReal)
  rw [Nat.one_mul, Nat.one_mul]

/-- Some stored columns, seen at the block's coordinates. -/
theorem stc {a b a' b' q : ℕ} {w : FVec Ideal ⟨2, ![a', b']⟩ φ} {f : ℕ → ℕ → ℝ} {inb} (hw : Is2 w (fun t j => f t (q + j)))
    (x : (⟨2, ![a', b']⟩ : Shape).Idx) : w x = ((f ((Rect.unit (s := ⟨2, ![a, b]⟩) ![0, q] ![a', b'] inb).emb x 0).val ((Rect.unit (s := ⟨2, ![a, b]⟩) ![0, q] ![a', b'] inb).emb x 1).val : ℝ) : EReal) :=
  st2 (p := 0) (is2_congr hw fun t _ _ _ => by rw [Nat.zero_add]) x

theorem st3 {n a b g : ℕ} {w : FVec Ideal ⟨3, ![1, a, b]⟩ φ} {f : ℕ → ℕ → ℕ → ℝ} {inb} (hw : Is3 w (fun _ t j => f g t j))
    (x : (⟨3, ![1, a, b]⟩ : Shape).Idx) : w x = ((f ((Rect.unit (s := ⟨3, ![n, a, b]⟩) ![g, 0, 0] ![1, a, b] inb).emb x 0).val
      ((Rect.unit (s := ⟨3, ![n, a, b]⟩) ![g, 0, 0] ![1, a, b] inb).emb x 1).val ((Rect.unit (s := ⟨3, ![n, a, b]⟩) ![g, 0, 0] ![1, a, b] inb).emb x 2).val : ℝ) : EReal) := by
  rw [hw x]
  have := (x 0).isLt; change (x 0).val < 1 at this
  show _ = ((f (g + 1 * (x 0).val) (0 + 1 * (x 1).val) (0 + 1 * (x 2).val) : ℝ) : EReal)
  rw [show g + 1 * (x 0).val = g by omega, Nat.one_mul, Nat.one_mul, Nat.zero_add, Nat.zero_add]

/-- The stack `f` up to matrix `g`, zero from there on. -/
def upTo (g : ℕ) (f : ℕ → ℕ → ℕ → ℝ) (k t j : ℕ) : ℝ := if k < g then f k t j else 0

/-- Storing matrix `g` of a stack that was stored up to it. -/
theorem upTo_store {n a b g : ℕ} {inb} {w : Vec Ideal ⟨3, ![1, a, b]⟩ .f32} {L : List (View.Piece (Elt Ideal) ⟨3, ![n, a, b]⟩ .f32)}
    {f : ℕ → ℕ → ℕ → ℝ} (hL : Is3 (View.canon L) (upTo g f)) (hw : Is3 w (fun _ t j => f g t j)) :
    Is3 (View.canon ((⟨Rect.unit (s := ⟨3, ![n, a, b]⟩) ![g, 0, 0] ![1, a, b] inb, w⟩ : View.Piece (Elt Ideal) _ .f32) :: L)) (upTo (g + 1) f) := fun y => by
  by_cases h : (y 0).val = g
  · have e : (Rect.unit (s := ⟨3, ![n, a, b]⟩) ![g, 0, 0] ![1, a, b] inb).emb (ValueIdx.ix3 0 (y 1) (y 2)) = y := by
      funext k; apply Fin.ext
      match k with
      | ⟨0, _⟩ => exact (show g + 1 * 0 = (y 0).val by omega)
      | ⟨1, _⟩ => exact (show 0 + 1 * (y 1).val = (y 1).val by omega)
      | ⟨2, _⟩ => exact (show 0 + 1 * (y 2).val = (y 2).val by omega)
    have e2 := View.canon_cons_emb (Val := Elt Ideal) (e := .f32) (Rect.unit (s := ⟨3, ![n, a, b]⟩) ![g, 0, 0] ![1, a, b] inb) w L (ValueIdx.ix3 0 (y 1) (y 2))
    rw [e] at e2
    rw [e2, hw]
    unfold upTo
    rw [if_pos (by omega), h]
    rfl
  · rw [View.canon_cons_of_not_mem _ L (Rect.not_mem_set_of_axis _ y (0 : Fin 3) g 1 rfl rfl rfl (by omega)), hL y]
    unfold upTo
    by_cases h' : (y 0).val < g
    · rw [if_pos h', if_pos (by omega)]
    · rw [if_neg h', if_neg (by omega)]

/-- Matrix `g` read back before it is stored: zero. -/
theorem upTo_read {sig : RefSig} {κ : Kind} {sp : Space} {n a b g : ℕ} {v : View sig κ sp ⟨3, ![n, a, b]⟩ .f32} {inb} {L : List (View.Piece (Elt Ideal) ⟨3, ![n, a, b]⟩ .f32)}
    {f : ℕ → ℕ → ℕ → ℝ} (hL : Is3 (View.canon L) (upTo g f)) :
    Is3 (a := 1) (b := a) (c := b) (v.readCov L (Rect.unit (s := ⟨3, ![n, a, b]⟩) ![g, 0, 0] (⟨3, ![1, a, b]⟩ : Shape).size inb).toLoadRect) (fun _ _ _ => 0) := fun y => by
  rw [View.readCov_eq_canon']
  refine (hL _).trans (congrArg (fun r : ℝ => (r : EReal)) (if_neg ?_))
  show ¬ g + 1 * (y 0).val < g
  omega

end Stores

end Cert.Mat

end
-- ==== Proof.CoreBwd.lean ====
/- The attention's backward arithmetic for one key head and its eight query heads, stacked one above the other; and the blocks it is read from and written to. -/
module

public import proofs.«01_k».proof.Proof.CoreBody
public import proofs.«01_k».proof.Proof.Pieces

@[expose] public section

set_option maxRecDepth 16384

noncomputable section

namespace Cert.Core

open Cert.AttnIdeal Cert.AttnIdeal.Gen Idealize.ShloMosaic Idealize.ShloMosaic.TcCoe Idealize.ShloMosaic.Tactic Idealize.SL.Sem Cert.Lift Cert.Mat Cert.Prod

/-- Stack `j` of a block of several. -/
theorem one3r {n a b j : ℕ} {arg : Memref sig .tc .vmem ⟨3, ![n, a, b]⟩ .bf16} (harg : arg.IsWhole) {x : Vec Ideal ⟨3, ![n, a, b]⟩ .bf16} {f : ℕ → ℕ → ℕ → ℝ}
    (hx : Is3 x f) {inb} : Is3 (a := 1) (b := a) (c := b) (View.readAt (Elt Ideal) arg.view (Rect.unit (s := ⟨3, ![n, a, b]⟩) ![j, 0, 0] (⟨3, ![1, a, b]⟩ : Shape).size inb).toLoadRect (harg.unread x)) (fun _ r d => f j r d) := by
  rw [View.readAt_eq_ld, harg.read_unread, View.ld_unit]
  intro i
  refine (hx _).trans ?_
  have := (i 0).isLt; change (i 0).val < 1 at this
  show ((f (j + (i 0).val) (0 + (i 1).val) (0 + (i 2).val) : ℝ) : EReal) = _
  rw [show j + (i 0).val = j by omega, Nat.zero_add, Nat.zero_add]

theorem one4b {n a b j : ℕ} {arg : Memref sig .tc .vmem ⟨4, ![n, 1, a, b]⟩ .bf16} (harg : arg.IsWhole) {x : Vec Ideal ⟨4, ![n, 1, a, b]⟩ .bf16} {f : ℕ → ℕ → ℕ → ℕ → EReal}
    (hx : At4 x f) {inb} : At4 (a := 1) (b := 1) (c := a) (d := b) (View.readAt (Elt Ideal) arg.view (Rect.unit (s := ⟨4, ![n, 1, a, b]⟩) ![j, 0, 0, 0] (⟨4, ![1, 1, a, b]⟩ : Shape).size inb).toLoadRect (harg.unread x)) (fun _ _ r d => f j 0 r d) := by
  rw [View.readAt_eq_ld, harg.read_unread, View.ld_unit]
  intro i
  refine (hx _).trans ?_
  have := (i 0).isLt; change (i 0).val < 1 at this
  have := (i 1).isLt; change (i 1).val < 1 at this
  show f (j + (i 0).val) (0 + (i 1).val) (0 + (i 2).val) (0 + (i 3).val) = _
  rw [show j + (i 0).val = j by omega, show 0 + (i 1).val = 0 by omega, Nat.zero_add, Nat.zero_add]
theorem one4w {n a b j : ℕ} {arg : Memref sig .tc .vmem ⟨4, ![n, 1, a, b]⟩ .f32} (harg : arg.IsWhole) {x : Vec Ideal ⟨4, ![n, 1, a, b]⟩ .f32} {f : ℕ → ℕ → ℕ → ℕ → EReal}
    (hx : At4 x f) {inb} : At4 (a := 1) (b := 1) (c := a) (d := b) (View.readAt (Elt Ideal) arg.view (Rect.unit (s := ⟨4, ![n, 1, a, b]⟩) ![j, 0, 0, 0] (⟨4, ![1, 1, a, b]⟩ : Shape).size inb).toLoadRect (harg.unread x)) (fun _ _ r d => f j 0 r d) := by
  rw [View.readAt_eq_ld, harg.read_unread, View.ld_unit]
  intro i
  refine (hx _).trans ?_
  have := (i 0).isLt; change (i 0).val < 1 at this
  have := (i 1).isLt; change (i 1).val < 1 at this
  show f (j + (i 0).val) (0 + (i 1).val) (0 + (i 2).val) (0 + (i 3).val) = _
  rw [show j + (i 0).val = j by omega, show 0 + (i 1).val = 0 by omega, Nat.zero_add, Nat.zero_add]

section Stacked
variable {A : Args} {c e : ℕ}
  {Do : FVec Ideal S1024x64 .bf16} {K V : FVec Ideal S256x64 .bf16} {P4 : FVec Ideal S1x1x1024x256 .bf16} {E4 : FVec Ideal S1x1x1024x1 .f32}
  (hDo : Is2 Do (fun R d => (at8 A c e R).o (R % 128) d)) (hK : Is2 K (near A.k e c)) (hV : Is2 V (near A.v e c))
  (hP : At4 P4 (fun _ _ R t => (((at8 A c e R).pr (R % 128) t : ℝ) : EReal))) (hE : At4 E4 (fun _ _ R _ => (((at8 A c e R).es (R % 128) : ℝ) : EReal)))

/-- The probabilities, unstacked. -/
abbrev bP (P4 : FVec Ideal S1x1x1024x256 .bf16) : FVec Ideal S1024x256 .f32 :=
  extf .f32 (shapeCast (α := Ideal .bf16) S1024x256 P4 shapeCasts_S1x1x1024x256_S1024x256) bitsLt_bf16_f32
abbrev bDp (Do : FVec Ideal S1024x64 .bf16) (V : FVec Ideal S256x64 .bf16) : FVec Ideal S1024x256 .f32 :=
  matmul dot_S1024x64_S256x64_S1024x256_1_1_0_0_n_n none Do V (constant S1024x256 .f32 0x00000000#32)
abbrev bDelta (Do : FVec Ideal S1024x64 .bf16) (V : FVec Ideal S256x64 .bf16) (P4 : FVec Ideal S1x1x1024x256 .bf16) : FVec Ideal S1024x1 .f32 :=
  shapeCast S1024x1 (multiReduction .add [1] S1024 (mulf (bP P4) (bDp Do V)) 0x00000000#32 reduces_S1024x256_S1024 (.inl rfl) rfl) shapeCasts_S1024_S1024x1
abbrev bDs (Do : FVec Ideal S1024x64 .bf16) (V : FVec Ideal S256x64 .bf16) (P4 : FVec Ideal S1x1x1024x256 .bf16) : FVec Ideal S1024x256 .f32 :=
  mulf (bP P4) (subf (bDp Do V) (broadcastTo S1024x256 (bDelta Do V P4) broadcasts_S1024x1_S1024x256))
abbrev bDq (Do : FVec Ideal S1024x64 .bf16) (V K : FVec Ideal S256x64 .bf16) (P4 : FVec Ideal S1x1x1024x256 .bf16) : FVec Ideal S1024x64 .f32 :=
  mulf (matmul dot_S1024x256_S256x64_S1024x64_1_0_0_1_n_n none (truncf .bf16 (bDs Do V P4) bitsLt_bf16_f32) K (constant S1024x64 .f32 0x00000000#32))
    (broadcast S1024x64 (Scalar.ofBits (F := Ideal) .f32 0x3E000000#32))
abbrev bDsk (Do : FVec Ideal S1024x64 .bf16) (V : FVec Ideal S256x64 .bf16) (P4 : FVec Ideal S1x1x1024x256 .bf16) (E4 : FVec Ideal S1x1x1024x1 .f32) : FVec Ideal S1024x1 .f32 :=
  subf (broadcast S1024x1 (Scalar.ofBits (F := Ideal) .f32 0x00000000#32)) (mulf (shapeCast S1024x1 E4 shapeCasts_S1x1x1024x1_S1024x1) (bDelta Do V P4))

include hP in
theorem isP : Is2 (bP P4) (fun R t => (at8 A c e R).pr (R % 128) t) :=
  at2_of4 (a := 1024) (b := 256) (φ := .bf16) (h := shapeCasts_S1x1x1024x256_S1024x256) (f := fun _ _ R t => (((at8 A c e R).pr (R % 128) t : ℝ) : EReal)) hP

include hDo hV in
theorem isDp : Is2 (bDp Do V) (fun R t => (at8 A c e R).dp (R % 128) t) :=
  is2_congr (matNT (M := 1024) (K := 64) (N := 256) none hDo hV) fun R t hR _ => by
    unfold Head.dp
    rw [head_v A c e (R / 128) (by omega)]

include hDo hV hP in
theorem isDelta : Is2 (bDelta Do V P4) (fun R _ => (at8 A c e R).delta (R % 128)) :=
  is2_col (a := 1024) (φ := .f32) (h := shapeCasts_S1024_S1024x1) (rowSum (φ := .f32) (acc := 0x00000000#32) (h := reduces_S1024x256_S1024) (hφ := .inl rfl) (hacc := rfl)
    (is2_mul (isP hP) (isDp hDo hV)))

include hDo hV hP in
theorem isDs : Is2 (bDs Do V P4) (fun R t => (at8 A c e R).ds (R % 128) t) :=
  is2_mul (isP hP) (is2_sub (isDp hDo hV) (is2_cols (a := 1024) (b := 256) (φ := .f32) (h := broadcasts_S1024x1_S1024x256) (isDelta hDo hV hP)))

include hDo hV hP hK in
theorem isDq : Is2 (bDq Do V K P4) (fun R d => (at8 A c e R).dq (R % 128) d) := fun i => by
  have hR : (i 0).val < 1024 := (i 0).isLt
  have h := matNN (M := 1024) (K := 256) (N := 64) none (is2_trunc (ψ := .bf16) (h := bitsLt_bf16_f32) (isDs hDo hV hP)) hK i
  refine (congrArg₂ (· * ·) h lit_eighth).trans ?_
  refine (mulE _ _).trans (congrArg Real.toEReal ?_)
  unfold Head.dq
  dsimp only
  rw [head_k A c e ((i 0).val / 128) (by omega)]

include hDo hV hP hE in
theorem isDsk : Is2 (bDsk Do V P4 E4) (fun R _ => (at8 A c e R).dsk (R % 128)) := fun i => by
  have h2 : Is2 (shapeCast S1024x1 E4 shapeCasts_S1x1x1024x1_S1024x1) (fun R _ => (at8 A c e R).es (R % 128)) :=
    at2_of4 (a := 1024) (b := 1) (φ := .f32) (h := shapeCasts_S1x1x1024x1_S1024x1) (f := fun _ _ R _ => (((at8 A c e R).es (R % 128) : ℝ) : EReal)) hE
  have h := is2_mul (φ := .f32) h2 (isDelta hDo hV hP) i
  refine (congrArg₂ (· - ·) lit_zero h).trans ?_
  unfold Head.dsk
  refine (EReal.coe_sub _ _).symm.trans (congrArg Real.toEReal ?_)
  exact zero_sub _

/-- Head `g`'s rows of a stack. -/
theorem rowsOf {b : ℕ} {v : FVec Ideal ⟨2, ![1024, b]⟩ .f32} {f : Head → ℕ → ℕ → ℝ} (h : Is2 v (fun R d => f (at8 A c e R) (R % 128) d)) (g : ℕ)
    {hs : (⟨2, ![1024, b]⟩ : Shape).Slices ![128 * g, 0] ⟨2, ![128, b]⟩} :
    Is2 (extractStridedSlice ⟨2, ![128, b]⟩ ![128 * g, 0] v hs) (fun r d => f (head near A c (8 * e + g)) r d) := fun i => by
  have h0 : (i 0).val < 128 := (i 0).isLt
  refine (is2_slice (φ := .f32) (a' := 128) (b' := b) h hs i).trans (congrArg Real.toEReal ?_)
  show f (head near A c (8 * e + (128 * g + (i 0).val) / 128)) ((128 * g + (i 0).val) % 128) (0 + (i 1).val) = _
  rw [show (128 * g + (i 0).val) / 128 = g by omega, show (128 * g + (i 0).val) % 128 = (i 0).val by omega, Nat.zero_add]

/-- Its columns' sums. -/
theorem colsOf {b : ℕ} {v : FVec Ideal ⟨2, ![1024, b]⟩ .f32} {f : Head → ℕ → ℕ → ℝ} (h : Is2 v (fun R d => f (at8 A c e R) (R % 128) d)) (g : ℕ)
    {hs : (⟨2, ![1024, b]⟩ : Shape).Slices ![128 * g, 0] ⟨2, ![128, b]⟩} {hr hφ hacc hc} :
    Is2 (shapeCast ⟨2, ![1, b]⟩ (multiReduction .add [0] ⟨1, ![b]⟩ (extractStridedSlice ⟨2, ![128, b]⟩ ![128 * g, 0] v hs) 0x00000000#32 hr hφ hacc) hc)
      (fun _ d => ∑ r : Fin 128, f (head near A c (8 * e + g)) r.val d) :=
  is2_row (colSum (rowsOf h g))

/-- The stack of eight heads' columns of a block, from column `p`. -/
theorem stack8 {arg : Memref sig .tc .vmem S128x1024 .bf16} (harg : arg.IsWhole) {x : Vec Ideal S128x1024 .bf16} {f : ℕ → ℕ → ℝ} (hx : Is2 x f) (p : ℕ)
    {b0 b1 b2 b3 b4 b5 b6 b7 h} :
    Is2 (concatenate S1024x64 0
      [⟨S128x64, View.readAt (Elt Ideal) arg.view (Rect.unit (s := S128x1024) ![0, p + 64 * 0] S128x64.size b0).toLoadRect (harg.unread x)⟩,
       ⟨S128x64, View.readAt (Elt Ideal) arg.view (Rect.unit (s := S128x1024) ![0, p + 64 * 1] S128x64.size b1).toLoadRect (harg.unread x)⟩,
       ⟨S128x64, View.readAt (Elt Ideal) arg.view (Rect.unit (s := S128x1024) ![0, p + 64 * 2] S128x64.size b2).toLoadRect (harg.unread x)⟩,
       ⟨S128x64, View.readAt (Elt Ideal) arg.view (Rect.unit (s := S128x1024) ![0, p + 64 * 3] S128x64.size b3).toLoadRect (harg.unread x)⟩,
       ⟨S128x64, View.readAt (Elt Ideal) arg.view (Rect.unit (s := S128x1024) ![0, p + 64 * 4] S128x64.size b4).toLoadRect (harg.unread x)⟩,
       ⟨S128x64, View.readAt (Elt Ideal) arg.view (Rect.unit (s := S128x1024) ![0, p + 64 * 5] S128x64.size b5).toLoadRect (harg.unread x)⟩,
       ⟨S128x64, View.readAt (Elt Ideal) arg.view (Rect.unit (s := S128x1024) ![0, p + 64 * 6] S128x64.size b6).toLoadRect (harg.unread x)⟩,
       ⟨S128x64, View.readAt (Elt Ideal) arg.view (Rect.unit (s := S128x1024) ![0, p + 64 * 7] S128x64.size b7).toLoadRect (harg.unread x)⟩] h : FVec Ideal S1024x64 .bf16)
      (fun R d => f (R % 128) (p + 64 * (R / 128) + d)) :=
  cat8 (n := 1024) (a := 128) (b := 64) (X := fun g r d => ((f r (p + 64 * g + d) : ℝ) : EReal)) rfl (cols2r harg hx) (cols2r harg hx) (cols2r harg hx) (cols2r harg hx)
    (cols2r harg hx) (cols2r harg hx) (cols2r harg hx) (cols2r harg hx) (h := h)

end Stacked

/-! ## Adding to a block part by part -/

/-- The columns of `f` up to `p`, zero from there on. -/
def upTo2 (p : ℕ) (f : ℕ → ℕ → ℝ) (t j : ℕ) : ℝ := if j < p then f t j else 0

/-- The next columns are added to what the block holds, zero so far. -/
theorem grow {b m p : ℕ} {inb inb'} {v : View sig .tc .vmem ⟨2, ![1, b]⟩ .f32} {L : List (View.Piece (Elt Ideal) ⟨2, ![1, b]⟩ .f32)} {w : FVec Ideal ⟨2, ![1, m]⟩ .f32} {f : ℕ → ℕ → ℝ} {hc}
    (hL : Is2 (View.canon L) (upTo2 p f)) (hw : Is2 w (fun t d => f t (p + d))) {q : ℕ} (hq : q = p + m) :
    Is2 (View.canon ((⟨Rect.unit (s := ⟨2, ![1, b]⟩) ![0, p] (⟨2, ![1, m]⟩ : Shape).size inb,
      addf (shapeCast (α := Ideal .f32) ⟨2, ![1, m]⟩ (v.readCov L (Rect.unit (s := ⟨2, ![1, b]⟩) ![0, p] (⟨2, ![1, m]⟩ : Shape).size inb').toLoadRect) hc) w⟩ : View.Piece (Elt Ideal) _ .f32) :: L)) (upTo2 q f) := fun y => by
  subst hq
  have y0 : (y 0).val = 0 := by have := (y 0).isLt; change (y 0).val < 1 at this; omega
  by_cases h : p ≤ (y 1).val ∧ (y 1).val < p + m
  · have e : (Rect.unit (s := ⟨2, ![1, b]⟩) ![0, p] (⟨2, ![1, m]⟩ : Shape).size inb).emb (ValueIdx.ix2 (y 0) ⟨(y 1).val - p, by omega⟩) = y := by
      funext k; apply Fin.ext
      match k with
      | ⟨0, _⟩ => exact (show 0 + 1 * (y 0).val = (y 0).val by omega)
      | ⟨1, _⟩ => exact (show p + 1 * ((y 1).val - p) = (y 1).val by omega)
    generalize hV : addf (shapeCast (α := Ideal .f32) ⟨2, ![1, m]⟩ (v.readCov L (Rect.unit (s := ⟨2, ![1, b]⟩) ![0, p] (⟨2, ![1, m]⟩ : Shape).size inb').toLoadRect) hc) w = V
    have e2 := View.canon_cons_emb (Val := Elt Ideal) (e := .f32) (Rect.unit (s := ⟨2, ![1, b]⟩) ![0, p] (⟨2, ![1, m]⟩ : Shape).size inb) V L (ValueIdx.ix2 (y 0) ⟨(y 1).val - p, by omega⟩)
    rw [e] at e2
    rw [e2, ← hV]
    have hr : Is2 (shapeCast (α := Ideal .f32) ⟨2, ![1, m]⟩ (v.readCov L (Rect.unit (s := ⟨2, ![1, b]⟩) ![0, p] (⟨2, ![1, m]⟩ : Shape).size inb').toLoadRect) hc) (fun _ _ => 0) :=
      is2_self (φ := .f32) fun z => by
        rw [View.readCov_eq_canon']
        refine (hL _).trans (congrArg Real.toEReal (if_neg ?_))
        show ¬ p + 1 * (z 1).val < p
        omega
    refine (is2_add hr hw _).trans (congrArg Real.toEReal ?_)
    show 0 + f (y 0).val (p + ((y 1).val - p)) = if (y 1).val < p + m then f (y 0).val (y 1).val else 0
    rw [if_pos h.2, zero_add, show p + ((y 1).val - p) = (y 1).val by omega]
  · have hh : (y 1).val < p ∨ p + m ≤ (y 1).val := by omega
    rw [View.canon_cons_of_not_mem _ L (Rect.not_mem_set_of_axis _ y (1 : Fin 2) p m rfl rfl rfl hh), hL y]
    unfold upTo2
    by_cases h' : (y 1).val < p
    · rw [if_pos h', if_pos (by omega)]
    · rw [if_neg h', if_neg (by omega)]

/-- The entries of `f` before entry `k` of row `j`, eight to a row; zero from there on. -/
def upTo8 (j k : ℕ) (f : ℕ → ℕ → ℕ → ℝ) (a b d : ℕ) : ℝ := if 8 * a + d < 8 * j + k then f a b d else 0

theorem grow8 {n j k : ℕ} {inb inb'} {v : View sig .tc .vmem ⟨3, ![n, 1, 8]⟩ .f32} {L : List (View.Piece (Elt Ideal) ⟨3, ![n, 1, 8]⟩ .f32)} {w : FVec Ideal S1x1 .f32} {f : ℕ → ℕ → ℕ → ℝ} {hc hc'}
    (hk : k < 8) (hL : Is3 (View.canon L) (upTo8 j k f)) (hw : Is2 w (fun _ _ => f j 0 k)) {j' k' : ℕ} (hq : 8 * j' + k' = 8 * j + k + 1) :
    Is3 (View.canon ((⟨Rect.unit (s := ⟨3, ![n, 1, 8]⟩) ![j, 0, k] S1x1x1.size inb,
      shapeCast (α := Ideal .f32) S1x1x1 (addf (shapeCast (α := Ideal .f32) S1x1 (v.readCov L (Rect.unit (s := ⟨3, ![n, 1, 8]⟩) ![j, 0, k] S1x1x1.size inb').toLoadRect) hc) w) hc'⟩ : View.Piece (Elt Ideal) _ .f32) :: L)) (upTo8 j' k' f) := fun y => by
  have y1 : (y 1).val = 0 := by have := (y 1).isLt; change (y 1).val < 1 at this; omega
  have y2 : (y 2).val < 8 := (y 2).isLt
  by_cases h : (y 0).val = j ∧ (y 2).val = k
  · have e : (Rect.unit (s := ⟨3, ![n, 1, 8]⟩) ![j, 0, k] S1x1x1.size inb).emb (ValueIdx.ix3 0 0 0) = y := by
      funext a; apply Fin.ext
      match a with
      | ⟨0, _⟩ => exact (show j + 1 * 0 = (y 0).val by omega)
      | ⟨1, _⟩ => exact (show 0 + 1 * 0 = (y 1).val by omega)
      | ⟨2, _⟩ => exact (show k + 1 * 0 = (y 2).val by omega)
    have hr : ∀ z, (v.readCov L (Rect.unit (s := ⟨3, ![n, 1, 8]⟩) ![j, 0, k] S1x1x1.size inb').toLoadRect) z = ((0 : ℝ) : EReal) := fun z => by
      rw [View.readCov_eq_canon']
      refine (hL _).trans (congrArg Real.toEReal (if_neg ?_))
      show ¬ 8 * (j + 1 * (z 0).val) + (k + 1 * (z 2).val) < 8 * j + k
      omega
    have key : ∀ X : FVec Ideal S1x1x1 .f32, (∀ z, X z = ((0 : ℝ) : EReal)) →
        shapeCast (α := Ideal .f32) S1x1x1 (addf (shapeCast (α := Ideal .f32) S1x1 X hc) w) hc' (ValueIdx.ix3 0 0 0) = ((0 + f j 0 k : ℝ) : EReal) := fun X hX =>
      is3_of2 (a := 1) (b := 1) (φ := .f32) (f := fun _ _ => 0 + f j 0 k) (h := hc') (is2_add (φ := .f32) (is2_of3 (a := 1) (b := 1) (φ := .f32) (f := fun _ _ => 0) hX) hw) (ValueIdx.ix3 0 0 0)
    have hk := key _ hr
    generalize hV : shapeCast (α := Ideal .f32) S1x1x1 (addf (shapeCast (α := Ideal .f32) S1x1 (v.readCov L (Rect.unit (s := ⟨3, ![n, 1, 8]⟩) ![j, 0, k] S1x1x1.size inb').toLoadRect) hc) w) hc' = V at hk ⊢
    have e2 := View.canon_cons_emb (Val := Elt Ideal) (e := .f32) (Rect.unit (s := ⟨3, ![n, 1, 8]⟩) ![j, 0, k] S1x1x1.size inb) V L (ValueIdx.ix3 0 0 0)
    rw [e] at e2
    refine e2.trans (hk.trans (congrArg Real.toEReal ?_))
    show 0 + f j 0 k = if 8 * (y 0).val + (y 2).val < 8 * j' + k' then f (y 0).val (y 1).val (y 2).val else 0
    rw [if_pos (by omega), zero_add, y1, h.1, h.2]
  · have hn : y ∉ (Rect.unit (s := ⟨3, ![n, 1, 8]⟩) ![j, 0, k] S1x1x1.size inb).set := by
      rcases Nat.lt_or_ge (y 0).val j with h0 | h0
      · exact Rect.not_mem_set_of_axis _ y (0 : Fin 3) j 1 rfl rfl rfl (show (y 0).val < j ∨ j + 1 ≤ (y 0).val by omega)
      · by_cases h1 : (y 0).val = j
        · exact Rect.not_mem_set_of_axis _ y (2 : Fin 3) k 1 rfl rfl rfl (show (y 2).val < k ∨ k + 1 ≤ (y 2).val by omega)
        · exact Rect.not_mem_set_of_axis _ y (0 : Fin 3) j 1 rfl rfl rfl (show (y 0).val < j ∨ j + 1 ≤ (y 0).val by omega)
    refine (View.canon_cons_of_not_mem _ L ?_).trans ?_
    · exact hn
    rw [hL y]
    unfold upTo8
    have hh : ¬ ((y 0).val = j ∧ (y 2).val = k) := h
    by_cases h' : 8 * (y 0).val + (y 2).val < 8 * j + k
    · rw [if_pos h', if_pos (by omega)]
    · rw [if_neg h', if_neg (by omega)]

/-- The next matrices of a stack are added to what the block holds, zero so far. -/
theorem grow3 {n m a b p : ℕ} {inb inb'} {v : View sig .tc .vmem ⟨3, ![n, a, b]⟩ .f32} {L : List (View.Piece (Elt Ideal) ⟨3, ![n, a, b]⟩ .f32)} {w : FVec Ideal ⟨3, ![m, a, b]⟩ .f32} {f : ℕ → ℕ → ℕ → ℝ} {hc}
    (hL : Is3 (View.canon L) (upTo p f)) (hw : Is3 w (fun k t d => f (p + k) t d)) {q : ℕ} (hq : q = p + m) :
    Is3 (View.canon ((⟨Rect.unit (s := ⟨3, ![n, a, b]⟩) ![p, 0, 0] (⟨3, ![m, a, b]⟩ : Shape).size inb,
      addf (shapeCast (α := Ideal .f32) ⟨3, ![m, a, b]⟩ (v.readCov L (Rect.unit (s := ⟨3, ![n, a, b]⟩) ![p, 0, 0] (⟨3, ![m, a, b]⟩ : Shape).size inb').toLoadRect) hc) w⟩ : View.Piece (Elt Ideal) _ .f32) :: L)) (upTo q f) := fun y => by
  subst hq
  by_cases h : p ≤ (y 0).val ∧ (y 0).val < p + m
  · have e : (Rect.unit (s := ⟨3, ![n, a, b]⟩) ![p, 0, 0] (⟨3, ![m, a, b]⟩ : Shape).size inb).emb (ValueIdx.ix3 ⟨(y 0).val - p, by omega⟩ (y 1) (y 2)) = y := by
      funext k; apply Fin.ext
      match k with
      | ⟨0, _⟩ => exact (show p + 1 * ((y 0).val - p) = (y 0).val by omega)
      | ⟨1, _⟩ => exact (show 0 + 1 * (y 1).val = (y 1).val by omega)
      | ⟨2, _⟩ => exact (show 0 + 1 * (y 2).val = (y 2).val by omega)
    generalize hV : addf (shapeCast (α := Ideal .f32) ⟨3, ![m, a, b]⟩ (v.readCov L (Rect.unit (s := ⟨3, ![n, a, b]⟩) ![p, 0, 0] (⟨3, ![m, a, b]⟩ : Shape).size inb').toLoadRect) hc) w = V
    have e2 := View.canon_cons_emb (Val := Elt Ideal) (e := .f32) (Rect.unit (s := ⟨3, ![n, a, b]⟩) ![p, 0, 0] (⟨3, ![m, a, b]⟩ : Shape).size inb) V L (ValueIdx.ix3 ⟨(y 0).val - p, by omega⟩ (y 1) (y 2))
    rw [e] at e2
    rw [e2, ← hV]
    have hr : ∀ z, shapeCast (α := Ideal .f32) ⟨3, ![m, a, b]⟩ (v.readCov L (Rect.unit (s := ⟨3, ![n, a, b]⟩) ![p, 0, 0] (⟨3, ![m, a, b]⟩ : Shape).size inb').toLoadRect) hc z = ((0 : ℝ) : EReal) := fun z => by
      have key : ∀ X : FVec Ideal ⟨3, ![m, a, b]⟩ .f32, shapeCast (α := Ideal .f32) ⟨3, ![m, a, b]⟩ X hc z = X z := fun X => by rw [shapeCast_self]
      refine (key _).trans ?_
      rw [View.readCov_eq_canon']
      refine (hL _).trans (congrArg Real.toEReal (if_neg ?_))
      show ¬ p + 1 * (z 0).val < p
      omega
    refine (congrArg₂ (· + ·) (hr _) (hw _)).trans ?_
    refine (addE _ _).trans (congrArg Real.toEReal ?_)
    show 0 + f (p + ((y 0).val - p)) (y 1).val (y 2).val = if (y 0).val < p + m then f (y 0).val (y 1).val (y 2).val else 0
    rw [if_pos h.2, zero_add, show p + ((y 0).val - p) = (y 0).val by omega]
  · have hh : (y 0).val < p ∨ p + m ≤ (y 0).val := by omega
    rw [View.canon_cons_of_not_mem _ L (Rect.not_mem_set_of_axis _ y (0 : Fin 3) p m rfl rfl rfl hh), hL y]
    unfold upTo
    by_cases h' : (y 0).val < p
    · rw [if_pos h', if_pos (by omega)]
    · rw [if_neg h', if_neg (by omega)]

end Cert.Core

end
-- ==== Proof.CoreBack.lean ====
/- The attention's backward kernel at one grid point: what it leaves in its results' blocks. -/
module

public import proofs.«01_k».proof.Proof.CoreBwd

@[expose] public section

set_option maxRecDepth 16384

noncomputable section

namespace Cert.Core

open Cert.AttnIdeal Cert.AttnIdeal.Gen Idealize.ShloMosaic Idealize.ShloMosaic.TcCoe Idealize.ShloMosaic.Tactic Idealize.SL.Sem Cert.Lift Cert.Mat Cert.Prod

/-- One block's share of the derivative by the queries' bias. -/
def dbqPart (A : Args) (c y : ℕ) : ℝ := ∑ r : Fin 128, (head near A c (y / 64)).dq r.val (y % 64)
/-- One block's share of the derivative by head `n`'s sink. -/
def dskPart (A : Args) (c n : ℕ) : ℝ := ∑ r : Fin 128, (head near A c n).dsk r.val

/-- A part of a row is added to. -/
theorem addRow {b m p : ℕ} {arg : Memref sig .tc .vmem ⟨2, ![1, b]⟩ .f32} (harg : arg.IsWhole) {x : Vec Ideal ⟨2, ![1, b]⟩ .f32} {old new : ℕ → ℕ → ℝ} (hx : Is2 x old)
    {w : FVec Ideal ⟨2, ![1, m]⟩ .f32} (hw : Is2 w (fun t d => new t (p + d))) {inb inb' hc} (z : (⟨2, ![1, m]⟩ : Shape).Idx) :
    addf (shapeCast (α := Ideal .f32) ⟨2, ![1, m]⟩ (View.readAt (Elt Ideal) arg.view (Rect.unit (s := ⟨2, ![1, b]⟩) ![0, p] (⟨2, ![1, m]⟩ : Shape).size inb').toLoadRect (harg.unread x)) hc) w z
      = ((old ((Rect.unit (s := ⟨2, ![1, b]⟩) ![0, p] ![1, m] inb).emb z 0).val ((Rect.unit (s := ⟨2, ![1, b]⟩) ![0, p] ![1, m] inb).emb z 1).val
        + new ((Rect.unit (s := ⟨2, ![1, b]⟩) ![0, p] ![1, m] inb).emb z 0).val ((Rect.unit (s := ⟨2, ![1, b]⟩) ![0, p] ![1, m] inb).emb z 1).val : ℝ) : EReal) :=
  stc (a := 1) (b := b) (φ := .f32) (inb := inb) (f := fun t d => old t d + new t d) (is2_add (φ := .f32) (is2_self (φ := .f32) (ldc harg hx)) hw) z

/-- One entry is added to. -/
theorem addOne {n j k : ℕ} {arg : Memref sig .tc .vmem ⟨3, ![n, 1, 8]⟩ .f32} (harg : arg.IsWhole) {x : Vec Ideal ⟨3, ![n, 1, 8]⟩ .f32} {old new : ℕ → ℕ → ℕ → ℝ} (hx : Is3 x old)
    {w : FVec Ideal S1x1 .f32} (hw : Is2 w (fun _ _ => new j 0 k)) {inb inb' hc hc'} (z : S1x1x1.Idx) :
    shapeCast (α := Ideal .f32) S1x1x1 (addf (shapeCast (α := Ideal .f32) S1x1 (View.readAt (Elt Ideal) arg.view (Rect.unit (s := ⟨3, ![n, 1, 8]⟩) ![j, 0, k] S1x1x1.size inb').toLoadRect (harg.unread x)) hc) w) hc' z
      = ((old ((Rect.unit (s := ⟨3, ![n, 1, 8]⟩) ![j, 0, k] S1x1x1.size inb).emb z 0).val ((Rect.unit (s := ⟨3, ![n, 1, 8]⟩) ![j, 0, k] S1x1x1.size inb).emb z 1).val ((Rect.unit (s := ⟨3, ![n, 1, 8]⟩) ![j, 0, k] S1x1x1.size inb).emb z 2).val
        + new ((Rect.unit (s := ⟨3, ![n, 1, 8]⟩) ![j, 0, k] S1x1x1.size inb).emb z 0).val ((Rect.unit (s := ⟨3, ![n, 1, 8]⟩) ![j, 0, k] S1x1x1.size inb).emb z 1).val ((Rect.unit (s := ⟨3, ![n, 1, 8]⟩) ![j, 0, k] S1x1x1.size inb).emb z 2).val : ℝ) : EReal) := by
  have z0 : (z 0).val = 0 := by have := (z 0).isLt; change (z 0).val < 1 at this; omega
  have z1 : (z 1).val = 0 := by have := (z 1).isLt; change (z 1).val < 1 at this; omega
  have z2 : (z 2).val = 0 := by have := (z 2).isLt; change (z 2).val < 1 at this; omega
  have hr : ∀ y, View.readAt (Elt Ideal) arg.view (Rect.unit (s := ⟨3, ![n, 1, 8]⟩) ![j, 0, k] S1x1x1.size inb').toLoadRect (harg.unread x) y = ((old j 0 k : ℝ) : EReal) := fun y => by
    have y0 : (y 0).val = 0 := by have := (y 0).isLt; change (y 0).val < 1 at this; omega
    have y1 : (y 1).val = 0 := by have := (y 1).isLt; change (y 1).val < 1 at this; omega
    have y2 : (y 2).val = 0 := by have := (y 2).isLt; change (y 2).val < 1 at this; omega
    rw [View.readAt_eq_ld, harg.read_unread, View.ld_unit]
    refine (hx _).trans ?_
    show ((old (j + (y 0).val) (0 + (y 1).val) (k + (y 2).val) : ℝ) : EReal) = _
    rw [y0, y1, y2]
    rfl
  have key : ∀ X : FVec Ideal S1x1x1 .f32, (∀ y, X y = ((old j 0 k : ℝ) : EReal)) →
      shapeCast (α := Ideal .f32) S1x1x1 (addf (shapeCast (α := Ideal .f32) S1x1 X hc) w) hc' z = ((old j 0 k + new j 0 k : ℝ) : EReal) := fun X hX =>
    is3_of2 (a := 1) (b := 1) (φ := .f32) (f := fun _ _ => old j 0 k + new j 0 k) (h := hc') (is2_add (φ := .f32) (is2_of3 (a := 1) (b := 1) (φ := .f32) (f := fun _ _ => old j 0 k) hX) hw) z
  refine (key _ hr).trans ?_
  show _ = ((old (j + 1 * (z 0).val) (0 + 1 * (z 1).val) (k + 1 * (z 2).val) + new (j + 1 * (z 0).val) (0 + 1 * (z 1).val) (k + 1 * (z 2).val) : ℝ) : EReal)
  rw [z0, z1, z2]
  rfl

/-- Some matrices of a stack are added to. -/
theorem addStack {n m a b p : ℕ} {arg : Memref sig .tc .vmem ⟨3, ![n, a, b]⟩ .f32} (harg : arg.IsWhole) {x : Vec Ideal ⟨3, ![n, a, b]⟩ .f32} {old new : ℕ → ℕ → ℕ → ℝ} (hx : Is3 x old)
    {w : FVec Ideal ⟨3, ![m, a, b]⟩ .f32} (hw : Is3 w (fun k t d => new (p + k) t d)) {inb inb' hc} (z : (⟨3, ![m, a, b]⟩ : Shape).Idx) :
    addf (shapeCast (α := Ideal .f32) ⟨3, ![m, a, b]⟩ (View.readAt (Elt Ideal) arg.view (Rect.unit (s := ⟨3, ![n, a, b]⟩) ![p, 0, 0] (⟨3, ![m, a, b]⟩ : Shape).size inb').toLoadRect (harg.unread x)) hc) w z
      = ((old ((Rect.unit (s := ⟨3, ![n, a, b]⟩) ![p, 0, 0] ![m, a, b] inb).emb z 0).val ((Rect.unit (s := ⟨3, ![n, a, b]⟩) ![p, 0, 0] ![m, a, b] inb).emb z 1).val ((Rect.unit (s := ⟨3, ![n, a, b]⟩) ![p, 0, 0] ![m, a, b] inb).emb z 2).val
        + new ((Rect.unit (s := ⟨3, ![n, a, b]⟩) ![p, 0, 0] ![m, a, b] inb).emb z 0).val ((Rect.unit (s := ⟨3, ![n, a, b]⟩) ![p, 0, 0] ![m, a, b] inb).emb z 1).val ((Rect.unit (s := ⟨3, ![n, a, b]⟩) ![p, 0, 0] ![m, a, b] inb).emb z 2).val : ℝ) : EReal) := by
  have hr : ∀ y, View.readAt (Elt Ideal) arg.view (Rect.unit (s := ⟨3, ![n, a, b]⟩) ![p, 0, 0] (⟨3, ![m, a, b]⟩ : Shape).size inb').toLoadRect (harg.unread x) y
      = ((old (p + (y 0).val) (y 1).val (y 2).val : ℝ) : EReal) := fun y => by
    rw [View.readAt_eq_ld, harg.read_unread, View.ld_unit]
    refine (hx _).trans ?_
    show ((old (p + (y 0).val) (0 + (y 1).val) (0 + (y 2).val) : ℝ) : EReal) = _
    rw [Nat.zero_add, Nat.zero_add]
  have key : ∀ X : FVec Ideal ⟨3, ![m, a, b]⟩ .f32, shapeCast (α := Ideal .f32) ⟨3, ![m, a, b]⟩ X hc z = X z := fun X => by rw [shapeCast_self]
  refine (congrArg₂ (· + ·) ((key _).trans (hr _)) (hw _)).trans ?_
  refine (addE _ _).trans (congrArg Real.toEReal ?_)
  show _ = old (p + 1 * (z 0).val) (0 + 1 * (z 1).val) (0 + 1 * (z 2).val) + new (p + 1 * (z 0).val) (0 + 1 * (z 1).val) (0 + 1 * (z 2).val)
  rw [Nat.one_mul, Nat.one_mul, Nat.one_mul, Nat.zero_add, Nat.zero_add]

/-- A block filled with zero. -/
theorem zeros2 {b : ℕ} {inb} {f : ℕ → ℕ → ℝ} (z : (⟨2, ![1, b]⟩ : Shape).Idx) :
    View.canon [(⟨Rect.unit (s := ⟨2, ![1, b]⟩) ![0, 0] (⟨2, ![1, b]⟩ : Shape).size inb, broadcast ⟨2, ![1, b]⟩ (Scalar.ofBits (F := Ideal) .f32 0x00000000#32)⟩ : View.Piece (Elt Ideal) _ .f32)] z
      = ((upTo2 0 f (z 0).val (z 1).val : ℝ) : EReal) := by
  have e : (Rect.unit (s := ⟨2, ![1, b]⟩) ![0, 0] (⟨2, ![1, b]⟩ : Shape).size inb).emb z = z := by
    funext k; apply Fin.ext
    match k with
    | ⟨0, _⟩ => exact (show 0 + 1 * (z 0).val = (z 0).val by omega)
    | ⟨1, _⟩ => exact (show 0 + 1 * (z 1).val = (z 1).val by omega)
  have e2 := View.canon_cons_emb (Val := Elt Ideal) (e := .f32) (Rect.unit (s := ⟨2, ![1, b]⟩) ![0, 0] (⟨2, ![1, b]⟩ : Shape).size inb) (broadcast ⟨2, ![1, b]⟩ (Scalar.ofBits (F := Ideal) .f32 0x00000000#32)) [] z
  rw [e] at e2
  exact e2.trans (lit_zero.trans (congrArg Real.toEReal (if_neg (Nat.not_lt_zero _)).symm))
theorem zeros {n a b : ℕ} {inb} (z : (⟨3, ![n, a, b]⟩ : Shape).Idx) :
    View.canon [(⟨Rect.unit (s := ⟨3, ![n, a, b]⟩) ![0, 0, 0] (⟨3, ![n, a, b]⟩ : Shape).size inb, broadcast ⟨3, ![n, a, b]⟩ (Scalar.ofBits (F := Ideal) .f32 0x00000000#32)⟩ : View.Piece (Elt Ideal) _ .f32)] z
      = ((0 : ℝ) : EReal) := by
  have e : (Rect.unit (s := ⟨3, ![n, a, b]⟩) ![0, 0, 0] (⟨3, ![n, a, b]⟩ : Shape).size inb).emb z = z := by
    funext k; apply Fin.ext
    match k with
    | ⟨0, _⟩ => exact (show 0 + 1 * (z 0).val = (z 0).val by omega)
    | ⟨1, _⟩ => exact (show 0 + 1 * (z 1).val = (z 1).val by omega)
    | ⟨2, _⟩ => exact (show 0 + 1 * (z 2).val = (z 2).val by omega)
  have e2 := View.canon_cons_emb (Val := Elt Ideal) (e := .f32) (Rect.unit (s := ⟨3, ![n, a, b]⟩) ![0, 0, 0] (⟨3, ![n, a, b]⟩ : Shape).size inb) (broadcast ⟨3, ![n, a, b]⟩ (Scalar.ofBits (F := Ideal) .f32 0x00000000#32)) [] z
  rw [e] at e2
  exact e2.trans lit_zero
theorem zeros3 {n a b : ℕ} {inb} {f : ℕ → ℕ → ℕ → ℝ} (z : (⟨3, ![n, a, b]⟩ : Shape).Idx) :
    View.canon [(⟨Rect.unit (s := ⟨3, ![n, a, b]⟩) ![0, 0, 0] (⟨3, ![n, a, b]⟩ : Shape).size inb, broadcast ⟨3, ![n, a, b]⟩ (Scalar.ofBits (F := Ideal) .f32 0x00000000#32)⟩ : View.Piece (Elt Ideal) _ .f32)] z
      = ((upTo 0 f (z 0).val (z 1).val (z 2).val : ℝ) : EReal) := (zeros z).trans (congrArg Real.toEReal (if_neg (Nat.not_lt_zero _)).symm)
theorem zeros8 {n a b : ℕ} {inb} {f : ℕ → ℕ → ℕ → ℝ} (z : (⟨3, ![n, a, b]⟩ : Shape).Idx) :
    View.canon [(⟨Rect.unit (s := ⟨3, ![n, a, b]⟩) ![0, 0, 0] (⟨3, ![n, a, b]⟩ : Shape).size inb, broadcast ⟨3, ![n, a, b]⟩ (Scalar.ofBits (F := Ideal) .f32 0x00000000#32)⟩ : View.Piece (Elt Ideal) _ .f32)] z
      = ((upTo8 0 0 f (z 0).val (z 1).val (z 2).val : ℝ) : EReal) := (zeros z).trans (congrArg Real.toEReal (if_neg (Nat.not_lt_zero _)).symm)

section Body
variable (c : Dev nD) (i : grid1.Coords)
  (arg2 : Memref sig .tc .vmem S128x1024 .bf16) (harg2 : arg2.IsWhole)
  (arg3 : Memref sig .tc .vmem S128x1024 .bf16) (harg3 : arg3.IsWhole)
  (arg4 : Memref sig .tc .vmem S2x128x64 .bf16) (harg4 : arg4.IsWhole)
  (arg5 : Memref sig .tc .vmem S2x128x64 .bf16) (harg5 : arg5.IsWhole)
  (arg6 : Memref sig .tc .vmem S2x128x64 .bf16) (harg6 : arg6.IsWhole)
  (arg7 : Memref sig .tc .vmem S2x128x64 .bf16) (harg7 : arg7.IsWhole)
  (arg8 : Memref sig .tc .vmem S2x1x1024x256 .bf16) (harg8 : arg8.IsWhole)
  (arg9 : Memref sig .tc .vmem S2x1x1024x1 .f32) (harg9 : arg9.IsWhole)
  (arg10 : Memref sig .tc .vmem S128x1024 .bf16) (harg10 : arg10.IsWhole)
  (arg11 : Memref sig .tc .vmem S1x1024 .f32) (harg11 : arg11.IsWhole)
  (arg12 : Memref sig .tc .vmem S2x128x64 .f32) (harg12 : arg12.IsWhole)
  (arg13 : Memref sig .tc .vmem S2x128x64 .f32) (harg13 : arg13.IsWhole)
  (arg14 : Memref sig .tc .vmem S2x128x64 .f32) (harg14 : arg14.IsWhole)
  (arg15 : Memref sig .tc .vmem S2x128x64 .f32) (harg15 : arg15.IsWhole)
  (arg16 : Memref sig .tc .vmem S16x128x256 .f32) (harg16 : arg16.IsWhole)
  (arg17 : Memref sig .tc .vmem S2x1x8 .f32) (harg17 : arg17.IsWhole)
  (hc0 : cond1_0 i) (hc1 : ¬cond1_0 i)
  {x0 x1 : Vec Ideal S128x1024 .bf16} {x2 x3 x4 x5 : Vec Ideal S2x128x64 .bf16} {x6 : Vec Ideal S2x1x1024x256 .bf16} {x7 : Vec Ideal S2x1x1024x1 .f32}
  {xo9 : Vec Ideal S1x1024 .f32} {xo14 : Vec Ideal S16x128x256 .f32} {xo15 : Vec Ideal S2x1x8 .f32}
  {A : Args}
  (hx1 : Is2 x1 (fun r y => A.o (128 * (i 1).val + r) (1024 * (i 0).val + y)))
  (hx2 : Is3 x2 (fun j r d => A.k (2 * (i 0).val + j) (128 * ((i 1).val - 1) + r) d)) (hx3 : Is3 x3 (fun j r d => A.k (2 * (i 0).val + j) (128 * (i 1).val + r) d))
  (hx4 : Is3 x4 (fun j r d => A.v (2 * (i 0).val + j) (128 * ((i 1).val - 1) + r) d)) (hx5 : Is3 x5 (fun j r d => A.v (2 * (i 0).val + j) (128 * (i 1).val + r) d))
  (hx6 : At4 x6 (fun j _ R t => (((at8 A (i 1).val (2 * (i 0).val + j) R).pr (R % 128) t : ℝ) : EReal)))
  (hx7 : At4 x7 (fun j _ R _ => (((at8 A (i 1).val (2 * (i 0).val + j) R).es (R % 128) : ℝ) : EReal)))
  {old9 : ℕ → ℕ → ℝ} {old14 old15 : ℕ → ℕ → ℕ → ℝ} (ho9 : Is2 xo9 old9) (ho14 : Is3 xo14 old14) (ho15 : Is3 xo15 old15)

theorem toO (j : ℕ) {D : FVec Ideal S1024x64 .bf16} (h : Is2 D (fun R d => A.o (128 * (i 1).val + R % 128) (1024 * (i 0).val + (512 * j + 64 * (R / 128) + d)))) :
    Is2 D (fun R d => (at8 A (i 1).val (2 * (i 0).val + j) R).o (R % 128) d) := fun y => (h y).trans (congrArg Real.toEReal (by
  dsimp only
  rw [head_o]
  exact congrArg _ (by ring)))

include hx1 hx4 hx5 hx6 in
theorem ds0 : Is2 (kernelRun1_A.sl.v40 c arg3 harg3 arg6 harg6 arg7 harg7 arg8 harg8 x1 x4 x5 x6) (fun R t => (at8 A (i 1).val (2 * (i 0).val + 0) R).ds (R % 128) t) :=
  isDs (toO i 0 (stack8 harg3 hx1 0)) (keys (one3r (j := 0) harg6 hx4) (one3r (j := 0) harg7 hx5)) (one4b (j := 0) harg8 hx6)

include hx1 hx2 hx3 hx4 hx5 hx6 in
theorem dq0 : Is2 (kernelRun1_A.sl.v44 c arg3 harg3 arg4 harg4 arg5 harg5 arg6 harg6 arg7 harg7 arg8 harg8 x1 x2 x3 x4 x5 x6) (fun R d => (at8 A (i 1).val (2 * (i 0).val + 0) R).dq (R % 128) d) :=
  isDq (toO i 0 (stack8 harg3 hx1 0)) (keys (one3r (j := 0) harg4 hx2) (one3r (j := 0) harg5 hx3)) (keys (one3r (j := 0) harg6 hx4) (one3r (j := 0) harg7 hx5)) (one4b (j := 0) harg8 hx6)

include hx1 hx4 hx5 hx6 hx7 in
theorem dsk0 : Is2 (kernelRun1_A.sl.v49 c arg3 harg3 arg6 harg6 arg7 harg7 arg8 harg8 arg9 harg9 x1 x4 x5 x6 x7) (fun R _ => (at8 A (i 1).val (2 * (i 0).val + 0) R).dsk (R % 128)) :=
  isDsk (toO i 0 (stack8 harg3 hx1 0)) (keys (one3r (j := 0) harg6 hx4) (one3r (j := 0) harg7 hx5)) (one4b (j := 0) harg8 hx6) (one4w (j := 0) harg9 hx7)

include hx1 hx4 hx5 hx6 in
theorem ds1 : Is2 (kernelRun1_A.sl.v264 c arg3 harg3 arg6 harg6 arg7 harg7 arg8 harg8 x1 x4 x5 x6) (fun R t => (at8 A (i 1).val (2 * (i 0).val + 1) R).ds (R % 128) t) :=
  isDs (toO i 1 (stack8 harg3 hx1 512)) (keys (one3r (j := 1) harg6 hx4) (one3r (j := 1) harg7 hx5)) (one4b (j := 1) harg8 hx6)

include hx1 hx2 hx3 hx4 hx5 hx6 in
theorem dq1 : Is2 (kernelRun1_A.sl.v268 c arg3 harg3 arg4 harg4 arg5 harg5 arg6 harg6 arg7 harg7 arg8 harg8 x1 x2 x3 x4 x5 x6) (fun R d => (at8 A (i 1).val (2 * (i 0).val + 1) R).dq (R % 128) d) :=
  isDq (toO i 1 (stack8 harg3 hx1 512)) (keys (one3r (j := 1) harg4 hx2) (one3r (j := 1) harg5 hx3)) (keys (one3r (j := 1) harg6 hx4) (one3r (j := 1) harg7 hx5)) (one4b (j := 1) harg8 hx6)

include hx1 hx4 hx5 hx6 hx7 in
theorem dsk1 : Is2 (kernelRun1_A.sl.v273 c arg3 harg3 arg6 harg6 arg7 harg7 arg8 harg8 arg9 harg9 x1 x4 x5 x6 x7) (fun R _ => (at8 A (i 1).val (2 * (i 0).val + 1) R).dsk (R % 128)) :=
  isDsk (toO i 1 (stack8 harg3 hx1 512)) (keys (one3r (j := 1) harg6 hx4) (one3r (j := 1) harg7 hx5)) (one4b (j := 1) harg8 hx6) (one4w (j := 1) harg9 hx7)

/-- Head `g`'s columns of the block. -/
theorem dqPiece {j g : ℕ} {v : FVec Ideal S1024x64 .f32} (hv : Is2 v (fun R d => (at8 A (i 1).val (2 * (i 0).val + j) R).dq (R % 128) d)) (hg : g < 8) {hs : S1024x64.Slices ![128 * g, 0] S128x64}
    {p : ℕ} (hp : p = 512 * j + 64 * g) {inb} (x : S128x64.Idx) :
    truncf (F := Ideal) .bf16 (extractStridedSlice S128x64 ![128 * g, 0] v hs) bitsLt_bf16_f32 x
      = ((dq near A (128 * (i 1).val + ((Rect.unit (s := S128x1024) ![0, p] ![128, 64] inb).emb x 0).val) (1024 * (i 0).val + ((Rect.unit (s := S128x1024) ![0, p] ![128, 64] inb).emb x 1).val) : ℝ) : EReal) := by
  subst hp
  refine put2c (a := 128) (b := 64) (n := 1024) (p := 512 * j + 64 * g) (φ := .bf16) (inb := inb) (f := fun r y => ((dq near A (128 * (i 1).val + r) (1024 * (i 0).val + y) : ℝ) : EReal))
    (fun y => (rowsOf (f := fun H => H.dq) hv g (hs := hs) y).trans (congrArg Real.toEReal ?_)) x
  have h0 : (y 0).val < 128 := (y 0).isLt
  have h1 : (y 1).val < 64 := (y 1).isLt
  dsimp only
  unfold dq
  rw [show (128 * (i 1).val + (y 0).val) / 128 = (i 1).val by omega, show (128 * (i 1).val + (y 0).val) % 128 = (y 0).val by omega,
    show (1024 * (i 0).val + (512 * j + 64 * g + (y 1).val)) / 64 = 8 * (2 * (i 0).val + j) + g by omega, show (1024 * (i 0).val + (512 * j + 64 * g + (y 1).val)) % 64 = (y 1).val by omega]

/-- Their sums. -/
theorem dbqPiece {j g : ℕ} {v : FVec Ideal S1024x64 .f32} (hv : Is2 v (fun R d => (at8 A (i 1).val (2 * (i 0).val + j) R).dq (R % 128) d)) (hg : g < 8) {hs : S1024x64.Slices ![128 * g, 0] S128x64}
    {p : ℕ} (hp : p = 512 * j + 64 * g) {hr hφ hacc hc} :
    Is2 (shapeCast S1x64 (multiReduction (F := Ideal) .add [0] S64 (extractStridedSlice S128x64 ![128 * g, 0] v hs) 0x00000000#32 hr hφ hacc) hc)
      (fun _ d => dbqPart A (i 1).val (1024 * (i 0).val + (p + d))) :=
  is2_congr (colsOf (f := fun H => H.dq) hv g) fun t d _ hd => by
    subst hp
    unfold dbqPart
    rw [show (1024 * (i 0).val + (512 * j + 64 * g + d)) / 64 = 8 * (2 * (i 0).val + j) + g by omega, show (1024 * (i 0).val + (512 * j + 64 * g + d)) % 64 = d by omega]

/-- A head's share of its sink's derivative. -/
theorem dskPiece {j g : ℕ} {v : FVec Ideal S1024x1 .f32} (hv : Is2 v (fun R _ => (at8 A (i 1).val (2 * (i 0).val + j) R).dsk (R % 128))) {hs : S1024x1.Slices ![128 * g, 0] S128x1} {hr hφ hacc hc} :
    Is2 (shapeCast S1x1 (multiReduction (F := Ideal) .add [0] S1 (extractStridedSlice S128x1 ![128 * g, 0] v hs) 0x00000000#32 hr hφ hacc) hc)
      (fun _ _ => dskPart A (i 1).val (8 * (2 * (i 0).val + j) + g)) :=
  colsOf (f := fun H r _ => H.dsk r) hv g

/-- A key head's eight heads' derivatives by the scores. -/
theorem dsPiece {j : ℕ} {v : FVec Ideal S1024x256 .f32} (hv : Is2 v (fun R t => (at8 A (i 1).val (2 * (i 0).val + j) R).ds (R % 128) t)) {hc} :
    Is3 (shapeCast S8x128x256 v hc) (fun k r t => (head near A (i 1).val (8 * (2 * (i 0).val + j) + k)).ds r t) := fun y => by
  have h1 : (y 1).val < 128 := (y 1).isLt
  refine (at3_cut (n := 8) (a := 128) (b := 256) (R := 1024) (f := fun R t => (((at8 A (i 1).val (2 * (i 0).val + j) R).ds (R % 128) t : ℝ) : EReal)) rfl hv y).trans (congrArg Real.toEReal ?_)
  show (head near A (i 1).val (8 * (2 * (i 0).val + j) + ((y 0).val * 128 + (y 1).val) / 128)).ds (((y 0).val * 128 + (y 1).val) % 128) (y 2).val = _
  rw [show ((y 0).val * 128 + (y 1).val) / 128 = (y 0).val by omega, show ((y 0).val * 128 + (y 1).val) % 128 = (y 1).val by omega]

theorem stackPart {n p : ℕ} (hp : 8 * n = p) {w : FVec Ideal S8x128x256 .f32} (hw : Is3 w (fun k r t => (head near A (i 1).val (8 * (2 * (i 0).val + n) + k)).ds r t)) :
    Is3 w (fun k r t => (fun n r t => (head near A (i 1).val (16 * (i 0).val + n)).ds r t) (p + k) r t) := fun y => (hw y).trans (congrArg Real.toEReal (by
  subst hp
  dsimp only
  rw [show 8 * (2 * (i 0).val + n) + (y 0).val = 16 * (i 0).val + (8 * n + (y 0).val) by ring]))

include hx1 hx2 hx3 hx4 hx5 hx6 in
theorem out8A : Is2 (a := 128) (b := 1024) (out1_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7) (fun r y => dq near A (128 * (i 1).val + r) (1024 * (i 0).val + y)) := fun y => by
  unfold out1_A_8
  refine (congrFun (View.read_writes_junk_eq_canon _ _) y).trans (View.canon_apply_of_pieces (Val := Elt Ideal) (fun y => ((dq near A (128 * (i 1).val + (y 0).val) (1024 * (i 0).val + (y 1).val) : ℝ) : EReal)) _ ?_ _ (cover1_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 _))
  unfold kernelRun1_A
  simp only [List.forall_mem_cons]
  have h0 := (dq0 c i arg3 harg3 arg4 harg4 arg5 harg5 arg6 harg6 arg7 harg7 arg8 harg8 hx1 hx2 hx3 hx4 hx5 hx6)
  have h1 := (dq1 c i arg3 harg3 arg4 harg4 arg5 harg5 arg6 harg6 arg7 harg7 arg8 harg8 hx1 hx2 hx3 hx4 hx5 hx6)
  refine ⟨?_, ?_, ?_, ?_, ?_, ?_, ?_, ?_, ?_, ?_, ?_, ?_, ?_, ?_, ?_, ?_, by simp⟩
  · exact dqPiece i (g := 7) h1 (by omega) rfl
  · exact dqPiece i (g := 6) h1 (by omega) rfl
  · exact dqPiece i (g := 5) h1 (by omega) rfl
  · exact dqPiece i (g := 4) h1 (by omega) rfl
  · exact dqPiece i (g := 3) h1 (by omega) rfl
  · exact dqPiece i (g := 2) h1 (by omega) rfl
  · exact dqPiece i (g := 1) h1 (by omega) rfl
  · exact dqPiece i (g := 0) h1 (by omega) rfl
  · exact dqPiece i (g := 7) h0 (by omega) rfl
  · exact dqPiece i (g := 6) h0 (by omega) rfl
  · exact dqPiece i (g := 5) h0 (by omega) rfl
  · exact dqPiece i (g := 4) h0 (by omega) rfl
  · exact dqPiece i (g := 3) h0 (by omega) rfl
  · exact dqPiece i (g := 2) h0 (by omega) rfl
  · exact dqPiece i (g := 1) h0 (by omega) rfl
  · exact dqPiece i (g := 0) h0 (by omega) rfl

include hx1 hx2 hx3 hx4 hx5 hx6 in
theorem out8B : Is2 (a := 128) (b := 1024) (out1_B_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 x0 x1 x2 x3 x4 x5 x6 x7 xo9 xo14 xo15) (fun r y => dq near A (128 * (i 1).val + r) (1024 * (i 0).val + y)) := fun y => by
  unfold out1_B_8
  refine (congrFun (View.read_writes_junk_eq_canon _ _) y).trans (View.canon_apply_of_pieces (Val := Elt Ideal) (fun y => ((dq near A (128 * (i 1).val + (y 0).val) (1024 * (i 0).val + (y 1).val) : ℝ) : EReal)) _ ?_ _ (cover1_B_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 x0 x1 x2 x3 x4 x5 x6 x7 xo9 xo14 xo15 _))
  unfold kernelRun1_B
  simp only [List.forall_mem_cons]
  have h0 := (dq0 c i arg3 harg3 arg4 harg4 arg5 harg5 arg6 harg6 arg7 harg7 arg8 harg8 hx1 hx2 hx3 hx4 hx5 hx6)
  have h1 := (dq1 c i arg3 harg3 arg4 harg4 arg5 harg5 arg6 harg6 arg7 harg7 arg8 harg8 hx1 hx2 hx3 hx4 hx5 hx6)
  refine ⟨?_, ?_, ?_, ?_, ?_, ?_, ?_, ?_, ?_, ?_, ?_, ?_, ?_, ?_, ?_, ?_, by simp⟩
  · exact dqPiece i (g := 7) h1 (by omega) rfl
  · exact dqPiece i (g := 6) h1 (by omega) rfl
  · exact dqPiece i (g := 5) h1 (by omega) rfl
  · exact dqPiece i (g := 4) h1 (by omega) rfl
  · exact dqPiece i (g := 3) h1 (by omega) rfl
  · exact dqPiece i (g := 2) h1 (by omega) rfl
  · exact dqPiece i (g := 1) h1 (by omega) rfl
  · exact dqPiece i (g := 0) h1 (by omega) rfl
  · exact dqPiece i (g := 7) h0 (by omega) rfl
  · exact dqPiece i (g := 6) h0 (by omega) rfl
  · exact dqPiece i (g := 5) h0 (by omega) rfl
  · exact dqPiece i (g := 4) h0 (by omega) rfl
  · exact dqPiece i (g := 3) h0 (by omega) rfl
  · exact dqPiece i (g := 2) h0 (by omega) rfl
  · exact dqPiece i (g := 1) h0 (by omega) rfl
  · exact dqPiece i (g := 0) h0 (by omega) rfl

include hx1 hx2 hx3 hx4 hx5 hx6 ho9 in
theorem out9B : Is2 (a := 1) (b := 1024) (out1_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 x0 x1 x2 x3 x4 x5 x6 x7 xo9 xo14 xo15) (fun t y => old9 t y + dbqPart A (i 1).val (1024 * (i 0).val + y)) := fun y => by
  unfold out1_B_9
  refine (congrFun (View.read_writes_junk_eq_canon _ _) y).trans (View.canon_apply_of_pieces (Val := Elt Ideal) (fun y => ((old9 (y 0).val (y 1).val + dbqPart A (i 1).val (1024 * (i 0).val + (y 1).val) : ℝ) : EReal)) _ ?_ _ (cover1_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 x0 x1 x2 x3 x4 x5 x6 x7 xo9 xo14 xo15 _))
  unfold kernelRun1_B
  simp only [List.forall_mem_cons]
  have h0 := (dq0 c i arg3 harg3 arg4 harg4 arg5 harg5 arg6 harg6 arg7 harg7 arg8 harg8 hx1 hx2 hx3 hx4 hx5 hx6)
  have h1 := (dq1 c i arg3 harg3 arg4 harg4 arg5 harg5 arg6 harg6 arg7 harg7 arg8 harg8 hx1 hx2 hx3 hx4 hx5 hx6)
  let f : ℕ → ℕ → ℝ := fun _ y => dbqPart A (i 1).val (1024 * (i 0).val + y)
  refine ⟨?_, ?_, ?_, ?_, ?_, ?_, ?_, ?_, ?_, ?_, ?_, ?_, ?_, ?_, ?_, ?_, by simp⟩
  · exact addRow (p := 960) harg11 ho9 (new := f) (dbqPiece i (g := 7) h1 (by omega) rfl)
  · exact addRow (p := 896) harg11 ho9 (new := f) (dbqPiece i (g := 6) h1 (by omega) rfl)
  · exact addRow (p := 832) harg11 ho9 (new := f) (dbqPiece i (g := 5) h1 (by omega) rfl)
  · exact addRow (p := 768) harg11 ho9 (new := f) (dbqPiece i (g := 4) h1 (by omega) rfl)
  · exact addRow (p := 704) harg11 ho9 (new := f) (dbqPiece i (g := 3) h1 (by omega) rfl)
  · exact addRow (p := 640) harg11 ho9 (new := f) (dbqPiece i (g := 2) h1 (by omega) rfl)
  · exact addRow (p := 576) harg11 ho9 (new := f) (dbqPiece i (g := 1) h1 (by omega) rfl)
  · exact addRow (p := 512) harg11 ho9 (new := f) (dbqPiece i (g := 0) h1 (by omega) rfl)
  · exact addRow (p := 448) harg11 ho9 (new := f) (dbqPiece i (g := 7) h0 (by omega) rfl)
  · exact addRow (p := 384) harg11 ho9 (new := f) (dbqPiece i (g := 6) h0 (by omega) rfl)
  · exact addRow (p := 320) harg11 ho9 (new := f) (dbqPiece i (g := 5) h0 (by omega) rfl)
  · exact addRow (p := 256) harg11 ho9 (new := f) (dbqPiece i (g := 4) h0 (by omega) rfl)
  · exact addRow (p := 192) harg11 ho9 (new := f) (dbqPiece i (g := 3) h0 (by omega) rfl)
  · exact addRow (p := 128) harg11 ho9 (new := f) (dbqPiece i (g := 2) h0 (by omega) rfl)
  · exact addRow (p := 64) harg11 ho9 (new := f) (dbqPiece i (g := 1) h0 (by omega) rfl)
  · exact addRow (p := 0) harg11 ho9 (new := f) (dbqPiece i (g := 0) h0 (by omega) rfl)

include hx1 hx4 hx5 hx6 ho14 in
theorem out14B : Is3 (a := 16) (b := 128) (c := 256) (out1_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 x0 x1 x2 x3 x4 x5 x6 x7 xo9 xo14 xo15) (fun n r t => old14 n r t + (head near A (i 1).val (16 * (i 0).val + n)).ds r t) := fun y => by
  unfold out1_B_14
  refine (congrFun (View.read_writes_junk_eq_canon _ _) y).trans (View.canon_apply_of_pieces (Val := Elt Ideal) (fun y => ((old14 (y 0).val (y 1).val (y 2).val + (head near A (i 1).val (16 * (i 0).val + (y 0).val)).ds (y 1).val (y 2).val : ℝ) : EReal)) _ ?_ _ (cover1_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 x0 x1 x2 x3 x4 x5 x6 x7 xo9 xo14 xo15 _))
  unfold kernelRun1_B
  simp only [List.forall_mem_cons]
  refine ⟨?_, ?_, by simp⟩
  · exact addStack (p := 8) harg16 ho14 (new := fun n r t => (head near A (i 1).val (16 * (i 0).val + n)).ds r t)
      (stackPart i (p := 8) rfl (dsPiece i (ds1 c i arg3 harg3 arg6 harg6 arg7 harg7 arg8 harg8 hx1 hx4 hx5 hx6)))
  · exact addStack (p := 0) harg16 ho14 (new := fun n r t => (head near A (i 1).val (16 * (i 0).val + n)).ds r t)
      (stackPart i (p := 0) rfl (dsPiece i (ds0 c i arg3 harg3 arg6 harg6 arg7 harg7 arg8 harg8 hx1 hx4 hx5 hx6)))

include hx1 hx4 hx5 hx6 hx7 ho15 in
theorem out15B : Is3 (a := 2) (b := 1) (c := 8) (out1_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 x0 x1 x2 x3 x4 x5 x6 x7 xo9 xo14 xo15) (fun j u g => old15 j u g + dskPart A (i 1).val (8 * (2 * (i 0).val + j) + g)) := fun y => by
  unfold out1_B_15
  refine (congrFun (View.read_writes_junk_eq_canon _ _) y).trans (View.canon_apply_of_pieces (Val := Elt Ideal) (fun y => ((old15 (y 0).val (y 1).val (y 2).val + dskPart A (i 1).val (8 * (2 * (i 0).val + (y 0).val) + (y 2).val) : ℝ) : EReal)) _ ?_ _ (cover1_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 x0 x1 x2 x3 x4 x5 x6 x7 xo9 xo14 xo15 _))
  unfold kernelRun1_B
  simp only [List.forall_mem_cons]
  have h0 := (dsk0 c i arg3 harg3 arg6 harg6 arg7 harg7 arg8 harg8 arg9 harg9 hx1 hx4 hx5 hx6 hx7)
  have h1 := (dsk1 c i arg3 harg3 arg6 harg6 arg7 harg7 arg8 harg8 arg9 harg9 hx1 hx4 hx5 hx6 hx7)
  let f : ℕ → ℕ → ℕ → ℝ := fun j _ g => dskPart A (i 1).val (8 * (2 * (i 0).val + j) + g)
  refine ⟨?_, ?_, ?_, ?_, ?_, ?_, ?_, ?_, ?_, ?_, ?_, ?_, ?_, ?_, ?_, ?_, by simp⟩
  · exact addOne (j := 1) (k := 7) harg17 ho15 (new := f) (dskPiece i (g := 7) h1)
  · exact addOne (j := 1) (k := 6) harg17 ho15 (new := f) (dskPiece i (g := 6) h1)
  · exact addOne (j := 1) (k := 5) harg17 ho15 (new := f) (dskPiece i (g := 5) h1)
  · exact addOne (j := 1) (k := 4) harg17 ho15 (new := f) (dskPiece i (g := 4) h1)
  · exact addOne (j := 1) (k := 3) harg17 ho15 (new := f) (dskPiece i (g := 3) h1)
  · exact addOne (j := 1) (k := 2) harg17 ho15 (new := f) (dskPiece i (g := 2) h1)
  · exact addOne (j := 1) (k := 1) harg17 ho15 (new := f) (dskPiece i (g := 1) h1)
  · exact addOne (j := 1) (k := 0) harg17 ho15 (new := f) (dskPiece i (g := 0) h1)
  · exact addOne (j := 0) (k := 7) harg17 ho15 (new := f) (dskPiece i (g := 7) h0)
  · exact addOne (j := 0) (k := 6) harg17 ho15 (new := f) (dskPiece i (g := 6) h0)
  · exact addOne (j := 0) (k := 5) harg17 ho15 (new := f) (dskPiece i (g := 5) h0)
  · exact addOne (j := 0) (k := 4) harg17 ho15 (new := f) (dskPiece i (g := 4) h0)
  · exact addOne (j := 0) (k := 3) harg17 ho15 (new := f) (dskPiece i (g := 3) h0)
  · exact addOne (j := 0) (k := 2) harg17 ho15 (new := f) (dskPiece i (g := 2) h0)
  · exact addOne (j := 0) (k := 1) harg17 ho15 (new := f) (dskPiece i (g := 1) h0)
  · exact addOne (j := 0) (k := 0) harg17 ho15 (new := f) (dskPiece i (g := 0) h0)

include hx1 hx2 hx3 hx4 hx5 hx6 in
theorem out9A : Is2 (a := 1) (b := 1024) (out1_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7) (fun _ y => dbqPart A (i 1).val (1024 * (i 0).val + y)) := fun y => by
  unfold out1_A_9
  refine (congrFun (View.read_writes_junk_eq_canon _ _) y).trans ?_
  unfold kernelRun1_A
  have h0 := (dq0 c i arg3 harg3 arg4 harg4 arg5 harg5 arg6 harg6 arg7 harg7 arg8 harg8 hx1 hx2 hx3 hx4 hx5 hx6)
  have h1 := (dq1 c i arg3 harg3 arg4 harg4 arg5 harg5 arg6 harg6 arg7 harg7 arg8 harg8 hx1 hx2 hx3 hx4 hx5 hx6)
  let f : ℕ → ℕ → ℝ := fun _ y => dbqPart A (i 1).val (1024 * (i 0).val + y)
  have g0 : Is2 (View.canon (kernelRun1_A.sl.H9_1 (F := Ideal))) (upTo2 0 f) := fun z => zeros2 z
  have g1 : Is2 (View.canon (kernelRun1_A.sl.H9_2 c arg3 harg3 arg4 harg4 arg5 harg5 arg6 harg6 arg7 harg7 arg8 harg8 arg11 x1 x2 x3 x4 x5 x6)) (upTo2 64 f) := grow (p := 0) g0 (dbqPiece i (g := 0) h0 (by omega) rfl) (q := 64) rfl
  have g2 : Is2 (View.canon (kernelRun1_A.sl.H9_3 c arg3 harg3 arg4 harg4 arg5 harg5 arg6 harg6 arg7 harg7 arg8 harg8 arg11 x1 x2 x3 x4 x5 x6)) (upTo2 128 f) := grow (p := 64) g1 (dbqPiece i (g := 1) h0 (by omega) rfl) (q := 128) rfl
  have g3 : Is2 (View.canon (kernelRun1_A.sl.H9_4 c arg3 harg3 arg4 harg4 arg5 harg5 arg6 harg6 arg7 harg7 arg8 harg8 arg11 x1 x2 x3 x4 x5 x6)) (upTo2 192 f) := grow (p := 128) g2 (dbqPiece i (g := 2) h0 (by omega) rfl) (q := 192) rfl
  have g4 : Is2 (View.canon (kernelRun1_A.sl.H9_5 c arg3 harg3 arg4 harg4 arg5 harg5 arg6 harg6 arg7 harg7 arg8 harg8 arg11 x1 x2 x3 x4 x5 x6)) (upTo2 256 f) := grow (p := 192) g3 (dbqPiece i (g := 3) h0 (by omega) rfl) (q := 256) rfl
  have g5 : Is2 (View.canon (kernelRun1_A.sl.H9_6 c arg3 harg3 arg4 harg4 arg5 harg5 arg6 harg6 arg7 harg7 arg8 harg8 arg11 x1 x2 x3 x4 x5 x6)) (upTo2 320 f) := grow (p := 256) g4 (dbqPiece i (g := 4) h0 (by omega) rfl) (q := 320) rfl
  have g6 : Is2 (View.canon (kernelRun1_A.sl.H9_7 c arg3 harg3 arg4 harg4 arg5 harg5 arg6 harg6 arg7 harg7 arg8 harg8 arg11 x1 x2 x3 x4 x5 x6)) (upTo2 384 f) := grow (p := 320) g5 (dbqPiece i (g := 5) h0 (by omega) rfl) (q := 384) rfl
  have g7 : Is2 (View.canon (kernelRun1_A.sl.H9_8 c arg3 harg3 arg4 harg4 arg5 harg5 arg6 harg6 arg7 harg7 arg8 harg8 arg11 x1 x2 x3 x4 x5 x6)) (upTo2 448 f) := grow (p := 384) g6 (dbqPiece i (g := 6) h0 (by omega) rfl) (q := 448) rfl
  have g8 : Is2 (View.canon (kernelRun1_A.sl.H9_9 c arg3 harg3 arg4 harg4 arg5 harg5 arg6 harg6 arg7 harg7 arg8 harg8 arg11 x1 x2 x3 x4 x5 x6)) (upTo2 512 f) := grow (p := 448) g7 (dbqPiece i (g := 7) h0 (by omega) rfl) (q := 512) rfl
  have g9 : Is2 (View.canon (kernelRun1_A.sl.H9_10 c arg3 harg3 arg4 harg4 arg5 harg5 arg6 harg6 arg7 harg7 arg8 harg8 arg11 x1 x2 x3 x4 x5 x6)) (upTo2 576 f) := grow (p := 512) g8 (dbqPiece i (g := 0) h1 (by omega) rfl) (q := 576) rfl
  have g10 : Is2 (View.canon (kernelRun1_A.sl.H9_11 c arg3 harg3 arg4 harg4 arg5 harg5 arg6 harg6 arg7 harg7 arg8 harg8 arg11 x1 x2 x3 x4 x5 x6)) (upTo2 640 f) := grow (p := 576) g9 (dbqPiece i (g := 1) h1 (by omega) rfl) (q := 640) rfl
  have g11 : Is2 (View.canon (kernelRun1_A.sl.H9_12 c arg3 harg3 arg4 harg4 arg5 harg5 arg6 harg6 arg7 harg7 arg8 harg8 arg11 x1 x2 x3 x4 x5 x6)) (upTo2 704 f) := grow (p := 640) g10 (dbqPiece i (g := 2) h1 (by omega) rfl) (q := 704) rfl
  have g12 : Is2 (View.canon (kernelRun1_A.sl.H9_13 c arg3 harg3 arg4 harg4 arg5 harg5 arg6 harg6 arg7 harg7 arg8 harg8 arg11 x1 x2 x3 x4 x5 x6)) (upTo2 768 f) := grow (p := 704) g11 (dbqPiece i (g := 3) h1 (by omega) rfl) (q := 768) rfl
  have g13 : Is2 (View.canon (kernelRun1_A.sl.H9_14 c arg3 harg3 arg4 harg4 arg5 harg5 arg6 harg6 arg7 harg7 arg8 harg8 arg11 x1 x2 x3 x4 x5 x6)) (upTo2 832 f) := grow (p := 768) g12 (dbqPiece i (g := 4) h1 (by omega) rfl) (q := 832) rfl
  have g14 : Is2 (View.canon (kernelRun1_A.sl.H9_15 c arg3 harg3 arg4 harg4 arg5 harg5 arg6 harg6 arg7 harg7 arg8 harg8 arg11 x1 x2 x3 x4 x5 x6)) (upTo2 896 f) := grow (p := 832) g13 (dbqPiece i (g := 5) h1 (by omega) rfl) (q := 896) rfl
  have g15 : Is2 (View.canon (kernelRun1_A.sl.H9_16 c arg3 harg3 arg4 harg4 arg5 harg5 arg6 harg6 arg7 harg7 arg8 harg8 arg11 x1 x2 x3 x4 x5 x6)) (upTo2 960 f) := grow (p := 896) g14 (dbqPiece i (g := 6) h1 (by omega) rfl) (q := 960) rfl
  refine (grow (p := 960) g15 (dbqPiece i (g := 7) h1 (by omega) rfl) (q := 1024) rfl y).trans (congrArg Real.toEReal (if_pos ?_))
  exact (y 1).isLt

include hx1 hx4 hx5 hx6 in
theorem out14A : Is3 (a := 16) (b := 128) (c := 256) (out1_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7) (fun n r t => (head near A (i 1).val (16 * (i 0).val + n)).ds r t) := fun y => by
  unfold out1_A_14
  refine (congrFun (View.read_writes_junk_eq_canon _ _) y).trans ?_
  unfold kernelRun1_A
  let f : ℕ → ℕ → ℕ → ℝ := fun n r t => (head near A (i 1).val (16 * (i 0).val + n)).ds r t
  have g0 : Is3 (View.canon (kernelRun1_A.sl.H14_1 (F := Ideal))) (upTo 0 f) := fun z => zeros3 z
  have g1 : Is3 (View.canon (kernelRun1_A.sl.H14_2 c arg3 harg3 arg6 harg6 arg7 harg7 arg8 harg8 arg16 x1 x4 x5 x6)) (upTo 8 f) := grow3 (p := 0) g0 (stackPart i (p := 0) rfl (dsPiece i (ds0 c i arg3 harg3 arg6 harg6 arg7 harg7 arg8 harg8 hx1 hx4 hx5 hx6))) (q := 8) rfl
  refine (grow3 (p := 8) g1 (stackPart i (p := 8) rfl (dsPiece i (ds1 c i arg3 harg3 arg6 harg6 arg7 harg7 arg8 harg8 hx1 hx4 hx5 hx6))) (q := 16) rfl y).trans (congrArg Real.toEReal (if_pos ?_))
  exact (y 0).isLt

include hx1 hx4 hx5 hx6 hx7 in
theorem out15A : Is3 (a := 2) (b := 1) (c := 8) (out1_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7) (fun j _ g => dskPart A (i 1).val (8 * (2 * (i 0).val + j) + g)) := fun y => by
  unfold out1_A_15
  refine (congrFun (View.read_writes_junk_eq_canon _ _) y).trans ?_
  unfold kernelRun1_A
  have h0 := (dsk0 c i arg3 harg3 arg6 harg6 arg7 harg7 arg8 harg8 arg9 harg9 hx1 hx4 hx5 hx6 hx7)
  have h1 := (dsk1 c i arg3 harg3 arg6 harg6 arg7 harg7 arg8 harg8 arg9 harg9 hx1 hx4 hx5 hx6 hx7)
  let f : ℕ → ℕ → ℕ → ℝ := fun j _ g => dskPart A (i 1).val (8 * (2 * (i 0).val + j) + g)
  have g0 : Is3 (View.canon (kernelRun1_A.sl.H15_1 (F := Ideal))) (upTo8 0 0 f) := fun z => zeros8 z
  have g1 : Is3 (View.canon (kernelRun1_A.sl.H15_2 c arg3 harg3 arg6 harg6 arg7 harg7 arg8 harg8 arg9 harg9 arg17 x1 x4 x5 x6 x7)) (upTo8 0 1 f) := grow8 (j := 0) (k := 0) (by omega) g0 (dskPiece i (g := 0) h0) (j' := 0) (k' := 1) rfl
  have g2 : Is3 (View.canon (kernelRun1_A.sl.H15_3 c arg3 harg3 arg6 harg6 arg7 harg7 arg8 harg8 arg9 harg9 arg17 x1 x4 x5 x6 x7)) (upTo8 0 2 f) := grow8 (j := 0) (k := 1) (by omega) g1 (dskPiece i (g := 1) h0) (j' := 0) (k' := 2) rfl
  have g3 : Is3 (View.canon (kernelRun1_A.sl.H15_4 c arg3 harg3 arg6 harg6 arg7 harg7 arg8 harg8 arg9 harg9 arg17 x1 x4 x5 x6 x7)) (upTo8 0 3 f) := grow8 (j := 0) (k := 2) (by omega) g2 (dskPiece i (g := 2) h0) (j' := 0) (k' := 3) rfl
  have g4 : Is3 (View.canon (kernelRun1_A.sl.H15_5 c arg3 harg3 arg6 harg6 arg7 harg7 arg8 harg8 arg9 harg9 arg17 x1 x4 x5 x6 x7)) (upTo8 0 4 f) := grow8 (j := 0) (k := 3) (by omega) g3 (dskPiece i (g := 3) h0) (j' := 0) (k' := 4) rfl
  have g5 : Is3 (View.canon (kernelRun1_A.sl.H15_6 c arg3 harg3 arg6 harg6 arg7 harg7 arg8 harg8 arg9 harg9 arg17 x1 x4 x5 x6 x7)) (upTo8 0 5 f) := grow8 (j := 0) (k := 4) (by omega) g4 (dskPiece i (g := 4) h0) (j' := 0) (k' := 5) rfl
  have g6 : Is3 (View.canon (kernelRun1_A.sl.H15_7 c arg3 harg3 arg6 harg6 arg7 harg7 arg8 harg8 arg9 harg9 arg17 x1 x4 x5 x6 x7)) (upTo8 0 6 f) := grow8 (j := 0) (k := 5) (by omega) g5 (dskPiece i (g := 5) h0) (j' := 0) (k' := 6) rfl
  have g7 : Is3 (View.canon (kernelRun1_A.sl.H15_8 c arg3 harg3 arg6 harg6 arg7 harg7 arg8 harg8 arg9 harg9 arg17 x1 x4 x5 x6 x7)) (upTo8 0 7 f) := grow8 (j := 0) (k := 6) (by omega) g6 (dskPiece i (g := 6) h0) (j' := 0) (k' := 7) rfl
  have g8 : Is3 (View.canon (kernelRun1_A.sl.H15_9 c arg3 harg3 arg6 harg6 arg7 harg7 arg8 harg8 arg9 harg9 arg17 x1 x4 x5 x6 x7)) (upTo8 1 0 f) := grow8 (j := 0) (k := 7) (by omega) g7 (dskPiece i (g := 7) h0) (j' := 1) (k' := 0) rfl
  have g9 : Is3 (View.canon (kernelRun1_A.sl.H15_10 c arg3 harg3 arg6 harg6 arg7 harg7 arg8 harg8 arg9 harg9 arg17 x1 x4 x5 x6 x7)) (upTo8 1 1 f) := grow8 (j := 1) (k := 0) (by omega) g8 (dskPiece i (g := 0) h1) (j' := 1) (k' := 1) rfl
  have g10 : Is3 (View.canon (kernelRun1_A.sl.H15_11 c arg3 harg3 arg6 harg6 arg7 harg7 arg8 harg8 arg9 harg9 arg17 x1 x4 x5 x6 x7)) (upTo8 1 2 f) := grow8 (j := 1) (k := 1) (by omega) g9 (dskPiece i (g := 1) h1) (j' := 1) (k' := 2) rfl
  have g11 : Is3 (View.canon (kernelRun1_A.sl.H15_12 c arg3 harg3 arg6 harg6 arg7 harg7 arg8 harg8 arg9 harg9 arg17 x1 x4 x5 x6 x7)) (upTo8 1 3 f) := grow8 (j := 1) (k := 2) (by omega) g10 (dskPiece i (g := 2) h1) (j' := 1) (k' := 3) rfl
  have g12 : Is3 (View.canon (kernelRun1_A.sl.H15_13 c arg3 harg3 arg6 harg6 arg7 harg7 arg8 harg8 arg9 harg9 arg17 x1 x4 x5 x6 x7)) (upTo8 1 4 f) := grow8 (j := 1) (k := 3) (by omega) g11 (dskPiece i (g := 3) h1) (j' := 1) (k' := 4) rfl
  have g13 : Is3 (View.canon (kernelRun1_A.sl.H15_14 c arg3 harg3 arg6 harg6 arg7 harg7 arg8 harg8 arg9 harg9 arg17 x1 x4 x5 x6 x7)) (upTo8 1 5 f) := grow8 (j := 1) (k := 4) (by omega) g12 (dskPiece i (g := 4) h1) (j' := 1) (k' := 5) rfl
  have g14 : Is3 (View.canon (kernelRun1_A.sl.H15_15 c arg3 harg3 arg6 harg6 arg7 harg7 arg8 harg8 arg9 harg9 arg17 x1 x4 x5 x6 x7)) (upTo8 1 6 f) := grow8 (j := 1) (k := 5) (by omega) g13 (dskPiece i (g := 5) h1) (j' := 1) (k' := 6) rfl
  have g15 : Is3 (View.canon (kernelRun1_A.sl.H15_16 c arg3 harg3 arg6 harg6 arg7 harg7 arg8 harg8 arg9 harg9 arg17 x1 x4 x5 x6 x7)) (upTo8 1 7 f) := grow8 (j := 1) (k := 6) (by omega) g14 (dskPiece i (g := 6) h1) (j' := 1) (k' := 7) rfl
  refine (grow8 (j := 1) (k := 7) (by omega) g15 (dskPiece i (g := 7) h1) (j' := 2) (k' := 0) rfl y).trans (congrArg Real.toEReal (if_pos ?_))
  have y0 : (y 0).val < 2 := (y 0).isLt
  have y2 : (y 2).val < 8 := (y 2).isLt
  show 8 * (y 0).val + (y 2).val < 8 * 2 + 0
  omega

end Body

end Cert.Core

end
-- ==== Proof.CoreBackKv.lean ====
/- The attention's backward kernel at one grid point: the derivatives by the keys and the values of its block's band. -/
module

public import proofs.«01_k».proof.Proof.CoreBack

@[expose] public section

set_option maxRecDepth 16384

noncomputable section

namespace Cert.Core

open Cert.AttnIdeal Cert.AttnIdeal.Gen Idealize.ShloMosaic Idealize.ShloMosaic.TcCoe Idealize.ShloMosaic.Tactic Idealize.SL.Sem Cert.Lift Cert.Mat Cert.Prod

theorem sumB (m n : ℕ) (f : ℕ → ℝ) : (∑ k : Fin (m * n), f k.val) = ∑ a : Fin m, ∑ b : Fin n, f (a.val * n + b.val) := by
  have h := sum_blocks m n (fun k => ((f k : ℝ) : EReal))
  rw [sumC] at h
  simp only [sumC] at h
  exact_mod_cast h

theorem heads {A : Args} {c e : ℕ} (f : Head → ℕ → ℝ) : (∑ k : Fin 1024, f (at8 A c e k.val) (k.val % 128)) = ∑ g : Fin 8, ∑ r : Fin 128, f (head near A c (8 * e + g.val)) r.val := by
  refine (sumB 8 128 (fun k => f (at8 A c e k) (k % 128))).trans (Finset.sum_congr rfl fun g _ => Finset.sum_congr rfl fun r _ => ?_)
  have hr : r.val < 128 := r.isLt
  show f (head near A c (8 * e + (g.val * 128 + r.val) / 128)) ((g.val * 128 + r.val) % 128) = _
  rw [show (g.val * 128 + r.val) / 128 = g.val by omega, show (g.val * 128 + r.val) % 128 = r.val by omega]

section Stacked
variable {A : Args} {c e : ℕ} {Q Do : FVec Ideal S1024x64 .bf16} {P B : FVec Ideal S1024x256 .bf16}
  (hQ : Is2 Q (fun R d => (at8 A c e R).q (R % 128) d)) (hDo : Is2 Do (fun R d => (at8 A c e R).o (R % 128) d))
  (hP : Is2 P (fun R t => (at8 A c e R).pr (R % 128) t)) (hB : Is2 B (fun R t => (at8 A c e R).ds (R % 128) t))

include hQ hB in
theorem isDk : Is2 (k1_pay43 Q B) (dkb near A e c) := fun i => by
  have h := matTN (K := 1024) (M := 256) (N := 64) none hB hQ i
  refine (congrArg₂ (· * ·) h lit_eighth).trans ?_
  refine (mulE _ _).trans (congrArg Real.toEReal ?_)
  unfold dkb
  exact congrArg (· * (1 / 8 : ℝ)) (heads (fun H r => H.ds r (i 0).val * H.q r (i 1).val))

include hDo hP in
theorem isDv : Is2 (k1_pay44 Do P) (dvb near A e c) := fun i => by
  refine (matTN (K := 1024) (M := 256) (N := 64) none hP hDo i).trans (congrArg Real.toEReal ?_)
  unfold dvb
  exact heads (fun H r => H.pr r (i 0).val * H.o r (i 1).val)

end Stacked

/-- Half of a band's matrix, stored as one matrix of a block's stack. -/
theorem bandPiece {p j : ℕ} {w : FVec Ideal S256x64 .f32} {f : ℕ → ℕ → ℕ → ℝ} (hw : Is2 w (fun t d => f j t d)) {hs : S256x64.Slices ![p, 0] S128x64} {hc inb} (x : S1x128x64.Idx) :
    shapeCast (α := Ideal .f32) S1x128x64 (extractStridedSlice S128x64 ![p, 0] w hs) hc x
      = ((f ((Rect.unit (s := S2x128x64) ![j, 0, 0] ![1, 128, 64] inb).emb x 0).val (p + ((Rect.unit (s := S2x128x64) ![j, 0, 0] ![1, 128, 64] inb).emb x 1).val) ((Rect.unit (s := S2x128x64) ![j, 0, 0] ![1, 128, 64] inb).emb x 2).val : ℝ) : EReal) :=
  st3 (n := 2) (a := 128) (b := 64) (g := j) (φ := .f32) (inb := inb) (f := fun j t d => f j (p + t) d)
    (is3_of2 (a := 128) (b := 64) (φ := .f32) (h := hc) (f := fun t d => f j (p + t) d) (is2_congr (is2_slice (φ := .f32) (a' := 128) (b' := 64) hw hs) fun t d _ _ => by rw [Nat.zero_add])) x

section Body
variable (c : Dev nD) (i : grid1.Coords)
  (arg2 : Memref sig .tc .vmem S128x1024 .bf16) (harg2 : arg2.IsWhole)
  (arg3 : Memref sig .tc .vmem S128x1024 .bf16) (harg3 : arg3.IsWhole)
  (arg4 : Memref sig .tc .vmem S2x128x64 .bf16) (harg4 : arg4.IsWhole)
  (arg5 : Memref sig .tc .vmem S2x128x64 .bf16) (harg5 : arg5.IsWhole)
  (arg6 : Memref sig .tc .vmem S2x128x64 .bf16) (harg6 : arg6.IsWhole)
  (arg7 : Memref sig .tc .vmem S2x128x64 .bf16) (harg7 : arg7.IsWhole)
  (arg8 : Memref sig .tc .vmem S2x1x1024x256 .bf16) (harg8 : arg8.IsWhole)
  (arg9 : Memref sig .tc .vmem S2x1x1024x1 .f32) (harg9 : arg9.IsWhole)
  (arg10 : Memref sig .tc .vmem S128x1024 .bf16) (harg10 : arg10.IsWhole)
  (arg11 : Memref sig .tc .vmem S1x1024 .f32) (harg11 : arg11.IsWhole)
  (arg12 : Memref sig .tc .vmem S2x128x64 .f32) (harg12 : arg12.IsWhole)
  (arg13 : Memref sig .tc .vmem S2x128x64 .f32) (harg13 : arg13.IsWhole)
  (arg14 : Memref sig .tc .vmem S2x128x64 .f32) (harg14 : arg14.IsWhole)
  (arg15 : Memref sig .tc .vmem S2x128x64 .f32) (harg15 : arg15.IsWhole)
  (arg16 : Memref sig .tc .vmem S16x128x256 .f32) (harg16 : arg16.IsWhole)
  (arg17 : Memref sig .tc .vmem S2x1x8 .f32) (harg17 : arg17.IsWhole)
  (hc0 : cond1_0 i) (hc1 : ¬cond1_0 i)
  {x0 x1 : Vec Ideal S128x1024 .bf16} {x2 x3 x4 x5 : Vec Ideal S2x128x64 .bf16} {x6 : Vec Ideal S2x1x1024x256 .bf16} {x7 : Vec Ideal S2x1x1024x1 .f32}
  {xo9 : Vec Ideal S1x1024 .f32} {xo14 : Vec Ideal S16x128x256 .f32} {xo15 : Vec Ideal S2x1x8 .f32}
  {A : Args}
  (hx0 : Is2 x0 (fun r y => A.q (128 * (i 1).val + r) (1024 * (i 0).val + y)))
  (hx1 : Is2 x1 (fun r y => A.o (128 * (i 1).val + r) (1024 * (i 0).val + y)))
  (hx2 : Is3 x2 (fun j r d => A.k (2 * (i 0).val + j) (128 * ((i 1).val - 1) + r) d)) (hx3 : Is3 x3 (fun j r d => A.k (2 * (i 0).val + j) (128 * (i 1).val + r) d))
  (hx4 : Is3 x4 (fun j r d => A.v (2 * (i 0).val + j) (128 * ((i 1).val - 1) + r) d)) (hx5 : Is3 x5 (fun j r d => A.v (2 * (i 0).val + j) (128 * (i 1).val + r) d))
  (hx6 : At4 x6 (fun j _ R t => (((at8 A (i 1).val (2 * (i 0).val + j) R).pr (R % 128) t : ℝ) : EReal)))
  (hx7 : At4 x7 (fun j _ R _ => (((at8 A (i 1).val (2 * (i 0).val + j) R).es (R % 128) : ℝ) : EReal)))
  {old9 : ℕ → ℕ → ℝ} {old14 old15 : ℕ → ℕ → ℕ → ℝ} (ho9 : Is2 xo9 old9) (ho14 : Is3 xo14 old14) (ho15 : Is3 xo15 old15)

theorem toQ (j : ℕ) {D : FVec Ideal S1024x64 .bf16} (h : Is2 D (fun R d => A.q (128 * (i 1).val + R % 128) (1024 * (i 0).val + (512 * j + 64 * (R / 128) + d)))) :
    Is2 D (fun R d => (at8 A (i 1).val (2 * (i 0).val + j) R).q (R % 128) d) := fun y => (h y).trans (congrArg Real.toEReal (by
  dsimp only
  rw [head_q]
  exact congrArg _ (by ring)))

include hx0 in
theorem qs0 : Is2 (kernelRun1_A.sl.v21 (F := Ideal) c arg2 harg2 x0) (fun R d => (at8 A (i 1).val (2 * (i 0).val + 0) R).q (R % 128) d) := toQ i 0 (stack8 harg2 hx0 0)
include hx1 in
theorem os0 : Is2 (kernelRun1_A.sl.v30 (F := Ideal) c arg3 harg3 x1) (fun R d => (at8 A (i 1).val (2 * (i 0).val + 0) R).o (R % 128) d) := toO i 0 (stack8 harg3 hx1 0)
include hx6 in
theorem ps0 : Is2 (kernelRun1_A.sl.v32 (F := Ideal) c arg8 harg8 x6) (fun R t => (at8 A (i 1).val (2 * (i 0).val + 0) R).pr (R % 128) t) :=
  at2_of4 (a := 1024) (b := 256) (φ := .bf16) (h := shapeCasts_S1x1x1024x256_S1024x256) (f := fun _ _ R t => (((at8 A (i 1).val (2 * (i 0).val + 0) R).pr (R % 128) t : ℝ) : EReal)) (one4b (j := 0) harg8 hx6)
include hx1 hx4 hx5 hx6 in
theorem bs0 : Is2 (kernelRun1_A.sl.v41 c arg3 harg3 arg6 harg6 arg7 harg7 arg8 harg8 x1 x4 x5 x6) (fun R t => (at8 A (i 1).val (2 * (i 0).val + 0) R).ds (R % 128) t) :=
  is2_trunc (ψ := .bf16) (h := bitsLt_bf16_f32) (ds0 c i arg3 harg3 arg6 harg6 arg7 harg7 arg8 harg8 hx1 hx4 hx5 hx6)

include hx0 in
theorem qs1 : Is2 (kernelRun1_A.sl.v245 (F := Ideal) c arg2 harg2 x0) (fun R d => (at8 A (i 1).val (2 * (i 0).val + 1) R).q (R % 128) d) := toQ i 1 (stack8 harg2 hx0 512)
include hx1 in
theorem os1 : Is2 (kernelRun1_A.sl.v254 (F := Ideal) c arg3 harg3 x1) (fun R d => (at8 A (i 1).val (2 * (i 0).val + 1) R).o (R % 128) d) := toO i 1 (stack8 harg3 hx1 512)
include hx6 in
theorem ps1 : Is2 (kernelRun1_A.sl.v256 (F := Ideal) c arg8 harg8 x6) (fun R t => (at8 A (i 1).val (2 * (i 0).val + 1) R).pr (R % 128) t) :=
  at2_of4 (a := 1024) (b := 256) (φ := .bf16) (h := shapeCasts_S1x1x1024x256_S1024x256) (f := fun _ _ R t => (((at8 A (i 1).val (2 * (i 0).val + 1) R).pr (R % 128) t : ℝ) : EReal)) (one4b (j := 1) harg8 hx6)
include hx1 hx4 hx5 hx6 in
theorem bs1 : Is2 (kernelRun1_A.sl.v265 c arg3 harg3 arg6 harg6 arg7 harg7 arg8 harg8 x1 x4 x5 x6) (fun R t => (at8 A (i 1).val (2 * (i 0).val + 1) R).ds (R % 128) t) :=
  is2_trunc (ψ := .bf16) (h := bitsLt_bf16_f32) (ds1 c i arg3 harg3 arg6 harg6 arg7 harg7 arg8 harg8 hx1 hx4 hx5 hx6)

include hx0 hx1 hx4 hx5 hx6 in
theorem out10A : Is3 (a := 2) (b := 128) (c := 64) (out1_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7) (fun j r d => dkb near A (2 * (i 0).val + j) (i 1).val (128 + r) d) := fun y => by
  unfold out1_A_10
  refine (congrFun (View.read_writes_junk_eq_canon _ _) y).trans (View.canon_apply_of_pieces (Val := Elt Ideal) (fun y => ((dkb near A (2 * (i 0).val + (y 0).val) (i 1).val (128 + (y 1).val) (y 2).val : ℝ) : EReal)) _ ?_ _ (cover1_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 _))
  unfold kernelRun1_A
  simp only [List.forall_mem_cons]
  have h0 := isDk (qs0 c i arg2 harg2 hx0) (bs0 c i arg3 harg3 arg6 harg6 arg7 harg7 arg8 harg8 hx1 hx4 hx5 hx6)
  have h1 := isDk (qs1 c i arg2 harg2 hx0) (bs1 c i arg3 harg3 arg6 harg6 arg7 harg7 arg8 harg8 hx1 hx4 hx5 hx6)
  refine ⟨?_, ?_, by simp⟩
  · exact bandPiece (p := 128) (j := 1) (f := fun j t d => dkb near A (2 * (i 0).val + j) (i 1).val t d) (hs := slices_S256x64_o128_0_S128x64) h1
  · exact bandPiece (p := 128) (j := 0) (f := fun j t d => dkb near A (2 * (i 0).val + j) (i 1).val t d) (hs := slices_S256x64_o128_0_S128x64) h0

include hx0 hx1 hx4 hx5 hx6 in
theorem out10B : Is3 (a := 2) (b := 128) (c := 64) (out1_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 x0 x1 x2 x3 x4 x5 x6 x7 xo9 xo14 xo15) (fun j r d => dkb near A (2 * (i 0).val + j) (i 1).val (128 + r) d) := fun y => by
  unfold out1_B_10
  refine (congrFun (View.read_writes_junk_eq_canon _ _) y).trans (View.canon_apply_of_pieces (Val := Elt Ideal) (fun y => ((dkb near A (2 * (i 0).val + (y 0).val) (i 1).val (128 + (y 1).val) (y 2).val : ℝ) : EReal)) _ ?_ _ (cover1_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 x0 x1 x2 x3 x4 x5 x6 x7 xo9 xo14 xo15 _))
  unfold kernelRun1_B
  simp only [List.forall_mem_cons]
  have h0 := isDk (qs0 c i arg2 harg2 hx0) (bs0 c i arg3 harg3 arg6 harg6 arg7 harg7 arg8 harg8 hx1 hx4 hx5 hx6)
  have h1 := isDk (qs1 c i arg2 harg2 hx0) (bs1 c i arg3 harg3 arg6 harg6 arg7 harg7 arg8 harg8 hx1 hx4 hx5 hx6)
  refine ⟨?_, ?_, by simp⟩
  · exact bandPiece (p := 128) (j := 1) (f := fun j t d => dkb near A (2 * (i 0).val + j) (i 1).val t d) (hs := slices_S256x64_o128_0_S128x64) h1
  · exact bandPiece (p := 128) (j := 0) (f := fun j t d => dkb near A (2 * (i 0).val + j) (i 1).val t d) (hs := slices_S256x64_o128_0_S128x64) h0

include hx0 hx1 hx4 hx5 hx6 in
theorem out11A : Is3 (a := 2) (b := 128) (c := 64) (out1_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7) (fun j r d => dkb near A (2 * (i 0).val + j) (i 1).val (0 + r) d) := fun y => by
  unfold out1_A_11
  refine (congrFun (View.read_writes_junk_eq_canon _ _) y).trans (View.canon_apply_of_pieces (Val := Elt Ideal) (fun y => ((dkb near A (2 * (i 0).val + (y 0).val) (i 1).val (0 + (y 1).val) (y 2).val : ℝ) : EReal)) _ ?_ _ (cover1_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 _))
  unfold kernelRun1_A
  simp only [List.forall_mem_cons]
  have h0 := isDk (qs0 c i arg2 harg2 hx0) (bs0 c i arg3 harg3 arg6 harg6 arg7 harg7 arg8 harg8 hx1 hx4 hx5 hx6)
  have h1 := isDk (qs1 c i arg2 harg2 hx0) (bs1 c i arg3 harg3 arg6 harg6 arg7 harg7 arg8 harg8 hx1 hx4 hx5 hx6)
  refine ⟨?_, ?_, by simp⟩
  · exact bandPiece (p := 0) (j := 1) (f := fun j t d => dkb near A (2 * (i 0).val + j) (i 1).val t d) (hs := slices_S256x64_o0_0_S128x64) h1
  · exact bandPiece (p := 0) (j := 0) (f := fun j t d => dkb near A (2 * (i 0).val + j) (i 1).val t d) (hs := slices_S256x64_o0_0_S128x64) h0

include hx0 hx1 hx4 hx5 hx6 in
theorem out11B : Is3 (a := 2) (b := 128) (c := 64) (out1_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 x0 x1 x2 x3 x4 x5 x6 x7 xo9 xo14 xo15) (fun j r d => dkb near A (2 * (i 0).val + j) (i 1).val (0 + r) d) := fun y => by
  unfold out1_B_11
  refine (congrFun (View.read_writes_junk_eq_canon _ _) y).trans (View.canon_apply_of_pieces (Val := Elt Ideal) (fun y => ((dkb near A (2 * (i 0).val + (y 0).val) (i 1).val (0 + (y 1).val) (y 2).val : ℝ) : EReal)) _ ?_ _ (cover1_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 x0 x1 x2 x3 x4 x5 x6 x7 xo9 xo14 xo15 _))
  unfold kernelRun1_B
  simp only [List.forall_mem_cons]
  have h0 := isDk (qs0 c i arg2 harg2 hx0) (bs0 c i arg3 harg3 arg6 harg6 arg7 harg7 arg8 harg8 hx1 hx4 hx5 hx6)
  have h1 := isDk (qs1 c i arg2 harg2 hx0) (bs1 c i arg3 harg3 arg6 harg6 arg7 harg7 arg8 harg8 hx1 hx4 hx5 hx6)
  refine ⟨?_, ?_, by simp⟩
  · exact bandPiece (p := 0) (j := 1) (f := fun j t d => dkb near A (2 * (i 0).val + j) (i 1).val t d) (hs := slices_S256x64_o0_0_S128x64) h1
  · exact bandPiece (p := 0) (j := 0) (f := fun j t d => dkb near A (2 * (i 0).val + j) (i 1).val t d) (hs := slices_S256x64_o0_0_S128x64) h0

include hx1 hx6 in
theorem out12A : Is3 (a := 2) (b := 128) (c := 64) (out1_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7) (fun j r d => dvb near A (2 * (i 0).val + j) (i 1).val (128 + r) d) := fun y => by
  unfold out1_A_12
  refine (congrFun (View.read_writes_junk_eq_canon _ _) y).trans (View.canon_apply_of_pieces (Val := Elt Ideal) (fun y => ((dvb near A (2 * (i 0).val + (y 0).val) (i 1).val (128 + (y 1).val) (y 2).val : ℝ) : EReal)) _ ?_ _ (cover1_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 _))
  unfold kernelRun1_A
  simp only [List.forall_mem_cons]
  have h0 := isDv (os0 c i arg3 harg3 hx1) (ps0 c i arg8 harg8 hx6)
  have h1 := isDv (os1 c i arg3 harg3 hx1) (ps1 c i arg8 harg8 hx6)
  refine ⟨?_, ?_, by simp⟩
  · exact bandPiece (p := 128) (j := 1) (f := fun j t d => dvb near A (2 * (i 0).val + j) (i 1).val t d) (hs := slices_S256x64_o128_0_S128x64) h1
  · exact bandPiece (p := 128) (j := 0) (f := fun j t d => dvb near A (2 * (i 0).val + j) (i 1).val t d) (hs := slices_S256x64_o128_0_S128x64) h0

include hx1 hx6 in
theorem out12B : Is3 (a := 2) (b := 128) (c := 64) (out1_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 x0 x1 x2 x3 x4 x5 x6 x7 xo9 xo14 xo15) (fun j r d => dvb near A (2 * (i 0).val + j) (i 1).val (128 + r) d) := fun y => by
  unfold out1_B_12
  refine (congrFun (View.read_writes_junk_eq_canon _ _) y).trans (View.canon_apply_of_pieces (Val := Elt Ideal) (fun y => ((dvb near A (2 * (i 0).val + (y 0).val) (i 1).val (128 + (y 1).val) (y 2).val : ℝ) : EReal)) _ ?_ _ (cover1_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 x0 x1 x2 x3 x4 x5 x6 x7 xo9 xo14 xo15 _))
  unfold kernelRun1_B
  simp only [List.forall_mem_cons]
  have h0 := isDv (os0 c i arg3 harg3 hx1) (ps0 c i arg8 harg8 hx6)
  have h1 := isDv (os1 c i arg3 harg3 hx1) (ps1 c i arg8 harg8 hx6)
  refine ⟨?_, ?_, by simp⟩
  · exact bandPiece (p := 128) (j := 1) (f := fun j t d => dvb near A (2 * (i 0).val + j) (i 1).val t d) (hs := slices_S256x64_o128_0_S128x64) h1
  · exact bandPiece (p := 128) (j := 0) (f := fun j t d => dvb near A (2 * (i 0).val + j) (i 1).val t d) (hs := slices_S256x64_o128_0_S128x64) h0

include hx1 hx6 in
theorem out13A : Is3 (a := 2) (b := 128) (c := 64) (out1_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7) (fun j r d => dvb near A (2 * (i 0).val + j) (i 1).val (0 + r) d) := fun y => by
  unfold out1_A_13
  refine (congrFun (View.read_writes_junk_eq_canon _ _) y).trans (View.canon_apply_of_pieces (Val := Elt Ideal) (fun y => ((dvb near A (2 * (i 0).val + (y 0).val) (i 1).val (0 + (y 1).val) (y 2).val : ℝ) : EReal)) _ ?_ _ (cover1_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 _))
  unfold kernelRun1_A
  simp only [List.forall_mem_cons]
  have h0 := isDv (os0 c i arg3 harg3 hx1) (ps0 c i arg8 harg8 hx6)
  have h1 := isDv (os1 c i arg3 harg3 hx1) (ps1 c i arg8 harg8 hx6)
  refine ⟨?_, ?_, by simp⟩
  · exact bandPiece (p := 0) (j := 1) (f := fun j t d => dvb near A (2 * (i 0).val + j) (i 1).val t d) (hs := slices_S256x64_o0_0_S128x64) h1
  · exact bandPiece (p := 0) (j := 0) (f := fun j t d => dvb near A (2 * (i 0).val + j) (i 1).val t d) (hs := slices_S256x64_o0_0_S128x64) h0

include hx1 hx6 in
theorem out13B : Is3 (a := 2) (b := 128) (c := 64) (out1_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 x0 x1 x2 x3 x4 x5 x6 x7 xo9 xo14 xo15) (fun j r d => dvb near A (2 * (i 0).val + j) (i 1).val (0 + r) d) := fun y => by
  unfold out1_B_13
  refine (congrFun (View.read_writes_junk_eq_canon _ _) y).trans (View.canon_apply_of_pieces (Val := Elt Ideal) (fun y => ((dvb near A (2 * (i 0).val + (y 0).val) (i 1).val (0 + (y 1).val) (y 2).val : ℝ) : EReal)) _ ?_ _ (cover1_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 x0 x1 x2 x3 x4 x5 x6 x7 xo9 xo14 xo15 _))
  unfold kernelRun1_B
  simp only [List.forall_mem_cons]
  have h0 := isDv (os0 c i arg3 harg3 hx1) (ps0 c i arg8 harg8 hx6)
  have h1 := isDv (os1 c i arg3 harg3 hx1) (ps1 c i arg8 harg8 hx6)
  refine ⟨?_, ?_, by simp⟩
  · exact bandPiece (p := 0) (j := 1) (f := fun j t d => dvb near A (2 * (i 0).val + j) (i 1).val t d) (hs := slices_S256x64_o0_0_S128x64) h1
  · exact bandPiece (p := 0) (j := 0) (f := fun j t d => dvb near A (2 * (i 0).val + j) (i 1).val t d) (hs := slices_S256x64_o0_0_S128x64) h0

end Body

end Cert.Core

end
-- ==== Proof.CoreRun1.lean ====
/- The attention's backward kernel over its grid: what its results hold at its end. -/
module

public import proofs.«01_k».proof.Proof.Place
public import proofs.«01_k».proof.Proof.CoreBackKv

@[expose] public section

set_option maxRecDepth 16384

noncomputable section

namespace Cert.Core

open Cert.AttnIdeal Cert.AttnIdeal.Gen Idealize.ShloMosaic Idealize.ShloMosaic.TcCoe Idealize.ShloMosaic.Tactic Idealize.SL.Sem Cert.Lift Cert.Mat Cert.Prod

/-- A point that does not begin a pair follows the block before it. -/
theorem prev1 : ∀ t : Fin grid1.N, ¬t.val % 16 = 0 → (grid1.coords ⟨t.val - 1, Nat.lt_of_le_of_lt (Nat.sub_le _ _) t.isLt⟩ 1).val + 1 = (grid1.coords t 1).val
    ∧ (grid1.coords ⟨t.val - 1, Nat.lt_of_le_of_lt (Nat.sub_le _ _) t.isLt⟩ 0).val = (grid1.coords t 0).val := by decide +kernel
theorem first1 : ∀ t : Fin grid1.N, t.val % 16 = 0 → (grid1.coords t 1).val = 0 := by decide +kernel
theorem last1 : ∀ t : Fin grid1.N, t.val % 16 = 15 → (grid1.coords t 1).val = 15 := by decide +kernel

variable (V : (c : Dev nD) → (b : Ref sig .tc) → Buf (Elt Ideal) ((c : Thread nD τ).loc b)) (c : Dev nD) {A : Args}
  (hq : Is2 (a := 2048) (b := 2048) (V c main_arg0) A.q) (ho : Is2 (a := 2048) (b := 2048) (V c main_arg5) A.o)
  (hk : Is3 (a := 4) (b := 2048) (c := 64) (V c main_arg1) A.k) (hv : Is3 (a := 4) (b := 2048) (c := 64) (V c main_arg2) A.v)
  (hp : At4 (a := 4) (b := 16) (c := 1024) (d := 256) (V c main_v15_1) (fun e b R t => (((at8 A b e R).pr (R % 128) t : ℝ) : EReal)))
  (he : At4 (a := 4) (b := 16) (c := 1024) (d := 1) (V c main_v15_2) (fun e b R _ => (((at8 A b e R).es (R % 128) : ℝ) : EReal)))

theorem idx1_0 (t : Fin cfg1.N) : win1_0.index t 0 = (grid1.coords t 1).val ∧ win1_0.index t 1 = (grid1.coords t 0).val :=
  (by decide +kernel : ∀ t : Fin grid1.N, win1_0.index t 0 = (grid1.coords t 1).val ∧ win1_0.index t 1 = (grid1.coords t 0).val) t
include hq in
theorem in1_0 (t : Fin cfg1.N) : Is2 (a := 128) (b := 1024) (iblk1 V c 0 t) (fun r y => A.q (128 * (grid1.coords t 1).val + r) (1024 * (grid1.coords t 0).val + y)) := fun y => by
  refine (hq ((win1_0.rect t).emb y)).trans ?_
  obtain ⟨i0, i1⟩ := idx1_0 t
  have e0 : ((win1_0.rect t).emb y 0).val = 128 * (grid1.coords t 1).val + (y 0).val := placed win1_0 t 0 i0 y
  have e1 : ((win1_0.rect t).emb y 1).val = 1024 * (grid1.coords t 0).val + (y 1).val := placed win1_0 t 1 i1 y
  try dsimp only
  rw [e0, e1]

theorem idx1_1 (t : Fin cfg1.N) : win1_1.index t 0 = (grid1.coords t 1).val ∧ win1_1.index t 1 = (grid1.coords t 0).val :=
  (by decide +kernel : ∀ t : Fin grid1.N, win1_1.index t 0 = (grid1.coords t 1).val ∧ win1_1.index t 1 = (grid1.coords t 0).val) t
include ho in
theorem in1_1 (t : Fin cfg1.N) : Is2 (a := 128) (b := 1024) (iblk1 V c 1 t) (fun r y => A.o (128 * (grid1.coords t 1).val + r) (1024 * (grid1.coords t 0).val + y)) := fun y => by
  refine (ho ((win1_1.rect t).emb y)).trans ?_
  obtain ⟨i0, i1⟩ := idx1_1 t
  have e0 : ((win1_1.rect t).emb y 0).val = 128 * (grid1.coords t 1).val + (y 0).val := placed win1_1 t 0 i0 y
  have e1 : ((win1_1.rect t).emb y 1).val = 1024 * (grid1.coords t 0).val + (y 1).val := placed win1_1 t 1 i1 y
  try dsimp only
  rw [e0, e1]

theorem idx1_2 (t : Fin cfg1.N) : win1_2.index t 0 = (grid1.coords t 0).val ∧ win1_2.index t 1 = ((grid1.coords t 1).val - 1) ∧ win1_2.index t 2 = 0 :=
  (by decide +kernel : ∀ t : Fin grid1.N, win1_2.index t 0 = (grid1.coords t 0).val ∧ win1_2.index t 1 = ((grid1.coords t 1).val - 1) ∧ win1_2.index t 2 = 0) t
include hk in
theorem in1_2 (t : Fin cfg1.N) : Is3 (a := 2) (b := 128) (c := 64) (iblk1 V c 2 t) (fun j r d => A.k (2 * (grid1.coords t 0).val + j) (128 * ((grid1.coords t 1).val - 1) + r) d) := fun y => by
  refine (hk ((win1_2.rect t).emb y)).trans ?_
  obtain ⟨i0, i1, i2⟩ := idx1_2 t
  have e0 : ((win1_2.rect t).emb y 0).val = 2 * (grid1.coords t 0).val + (y 0).val := placed win1_2 t 0 i0 y
  have e1 : ((win1_2.rect t).emb y 1).val = 128 * ((grid1.coords t 1).val - 1) + (y 1).val := placed win1_2 t 1 i1 y
  have e2 : ((win1_2.rect t).emb y 2).val = (y 2).val := win1_2.rect_emb_val_of_index_zero t 2 i2 y
  try dsimp only
  rw [e0, e1, e2]

theorem idx1_3 (t : Fin cfg1.N) : win1_3.index t 0 = (grid1.coords t 0).val ∧ win1_3.index t 1 = (grid1.coords t 1).val ∧ win1_3.index t 2 = 0 :=
  (by decide +kernel : ∀ t : Fin grid1.N, win1_3.index t 0 = (grid1.coords t 0).val ∧ win1_3.index t 1 = (grid1.coords t 1).val ∧ win1_3.index t 2 = 0) t
include hk in
theorem in1_3 (t : Fin cfg1.N) : Is3 (a := 2) (b := 128) (c := 64) (iblk1 V c 3 t) (fun j r d => A.k (2 * (grid1.coords t 0).val + j) (128 * (grid1.coords t 1).val + r) d) := fun y => by
  refine (hk ((win1_3.rect t).emb y)).trans ?_
  obtain ⟨i0, i1, i2⟩ := idx1_3 t
  have e0 : ((win1_3.rect t).emb y 0).val = 2 * (grid1.coords t 0).val + (y 0).val := placed win1_3 t 0 i0 y
  have e1 : ((win1_3.rect t).emb y 1).val = 128 * (grid1.coords t 1).val + (y 1).val := placed win1_3 t 1 i1 y
  have e2 : ((win1_3.rect t).emb y 2).val = (y 2).val := win1_3.rect_emb_val_of_index_zero t 2 i2 y
  try dsimp only
  rw [e0, e1, e2]

theorem idx1_4 (t : Fin cfg1.N) : win1_4.index t 0 = (grid1.coords t 0).val ∧ win1_4.index t 1 = ((grid1.coords t 1).val - 1) ∧ win1_4.index t 2 = 0 :=
  (by decide +kernel : ∀ t : Fin grid1.N, win1_4.index t 0 = (grid1.coords t 0).val ∧ win1_4.index t 1 = ((grid1.coords t 1).val - 1) ∧ win1_4.index t 2 = 0) t
include hv in
theorem in1_4 (t : Fin cfg1.N) : Is3 (a := 2) (b := 128) (c := 64) (iblk1 V c 4 t) (fun j r d => A.v (2 * (grid1.coords t 0).val + j) (128 * ((grid1.coords t 1).val - 1) + r) d) := fun y => by
  refine (hv ((win1_4.rect t).emb y)).trans ?_
  obtain ⟨i0, i1, i2⟩ := idx1_4 t
  have e0 : ((win1_4.rect t).emb y 0).val = 2 * (grid1.coords t 0).val + (y 0).val := placed win1_4 t 0 i0 y
  have e1 : ((win1_4.rect t).emb y 1).val = 128 * ((grid1.coords t 1).val - 1) + (y 1).val := placed win1_4 t 1 i1 y
  have e2 : ((win1_4.rect t).emb y 2).val = (y 2).val := win1_4.rect_emb_val_of_index_zero t 2 i2 y
  try dsimp only
  rw [e0, e1, e2]

theorem idx1_5 (t : Fin cfg1.N) : win1_5.index t 0 = (grid1.coords t 0).val ∧ win1_5.index t 1 = (grid1.coords t 1).val ∧ win1_5.index t 2 = 0 :=
  (by decide +kernel : ∀ t : Fin grid1.N, win1_5.index t 0 = (grid1.coords t 0).val ∧ win1_5.index t 1 = (grid1.coords t 1).val ∧ win1_5.index t 2 = 0) t
include hv in
theorem in1_5 (t : Fin cfg1.N) : Is3 (a := 2) (b := 128) (c := 64) (iblk1 V c 5 t) (fun j r d => A.v (2 * (grid1.coords t 0).val + j) (128 * (grid1.coords t 1).val + r) d) := fun y => by
  refine (hv ((win1_5.rect t).emb y)).trans ?_
  obtain ⟨i0, i1, i2⟩ := idx1_5 t
  have e0 : ((win1_5.rect t).emb y 0).val = 2 * (grid1.coords t 0).val + (y 0).val := placed win1_5 t 0 i0 y
  have e1 : ((win1_5.rect t).emb y 1).val = 128 * (grid1.coords t 1).val + (y 1).val := placed win1_5 t 1 i1 y
  have e2 : ((win1_5.rect t).emb y 2).val = (y 2).val := win1_5.rect_emb_val_of_index_zero t 2 i2 y
  try dsimp only
  rw [e0, e1, e2]

theorem idx1_6 (t : Fin cfg1.N) : win1_6.index t 0 = (grid1.coords t 0).val ∧ win1_6.index t 1 = (grid1.coords t 1).val ∧ win1_6.index t 2 = 0 ∧ win1_6.index t 3 = 0 :=
  (by decide +kernel : ∀ t : Fin grid1.N, win1_6.index t 0 = (grid1.coords t 0).val ∧ win1_6.index t 1 = (grid1.coords t 1).val ∧ win1_6.index t 2 = 0 ∧ win1_6.index t 3 = 0) t
include hp in
theorem in1_6 (t : Fin cfg1.N) : At4 (a := 2) (b := 1) (c := 1024) (d := 256) (iblk1 V c 6 t) (fun j _ R t' => (((at8 A (grid1.coords t 1).val (2 * (grid1.coords t 0).val + j) R).pr (R % 128) t' : ℝ) : EReal)) := fun y => by
  refine (hp ((win1_6.rect t).emb y)).trans ?_
  obtain ⟨i0, i1, i2, i3⟩ := idx1_6 t
  have e0 : ((win1_6.rect t).emb y 0).val = 2 * (grid1.coords t 0).val + (y 0).val := placed win1_6 t 0 i0 y
  have e1 := win1_6.rect_emb_val t y 1
  rw [i1] at e1
  replace e1 : ((win1_6.rect t).emb y 1).val = (grid1.coords t 1).val * 1 + (y 1).val := e1
  replace e1 : ((win1_6.rect t).emb y 1).val = (grid1.coords t 1).val := e1.trans (by have := (y 1).isLt; change (y 1).val < 1 at this; rw [Nat.mul_one]; exact congrArg (_ + ·) (Nat.lt_one_iff.mp this))
  have e2 : ((win1_6.rect t).emb y 2).val = (y 2).val := win1_6.rect_emb_val_of_index_zero t 2 i2 y
  have e3 : ((win1_6.rect t).emb y 3).val = (y 3).val := win1_6.rect_emb_val_of_index_zero t 3 i3 y
  try dsimp only
  rw [e0, e1, e2, e3]

theorem idx1_7 (t : Fin cfg1.N) : win1_7.index t 0 = (grid1.coords t 0).val ∧ win1_7.index t 1 = (grid1.coords t 1).val ∧ win1_7.index t 2 = 0 ∧ win1_7.index t 3 = 0 :=
  (by decide +kernel : ∀ t : Fin grid1.N, win1_7.index t 0 = (grid1.coords t 0).val ∧ win1_7.index t 1 = (grid1.coords t 1).val ∧ win1_7.index t 2 = 0 ∧ win1_7.index t 3 = 0) t
include he in
theorem in1_7 (t : Fin cfg1.N) : At4 (a := 2) (b := 1) (c := 1024) (d := 1) (iblk1 V c 7 t) (fun j _ R _ => (((at8 A (grid1.coords t 1).val (2 * (grid1.coords t 0).val + j) R).es (R % 128) : ℝ) : EReal)) := fun y => by
  refine (he ((win1_7.rect t).emb y)).trans ?_
  obtain ⟨i0, i1, i2, i3⟩ := idx1_7 t
  have e0 : ((win1_7.rect t).emb y 0).val = 2 * (grid1.coords t 0).val + (y 0).val := placed win1_7 t 0 i0 y
  have e1 := win1_7.rect_emb_val t y 1
  rw [i1] at e1
  replace e1 : ((win1_7.rect t).emb y 1).val = (grid1.coords t 1).val * 1 + (y 1).val := e1
  replace e1 : ((win1_7.rect t).emb y 1).val = (grid1.coords t 1).val := e1.trans (by have := (y 1).isLt; change (y 1).val < 1 at this; rw [Nat.mul_one]; exact congrArg (_ + ·) (Nat.lt_one_iff.mp this))
  have e2 : ((win1_7.rect t).emb y 2).val = (y 2).val := win1_7.rect_emb_val_of_index_zero t 2 i2 y
  have e3 : ((win1_7.rect t).emb y 3).val = (y 3).val := win1_7.rect_emb_val_of_index_zero t 3 i3 y
  try dsimp only
  rw [e0, e1, e2]

include ho hk hv hp in
theorem blk1_8 (t : Fin cfg1.N) (y : S128x1024.Idx) : (outsAt1 V c t.val t.isLt).1 y = ((dq near A (128 * (grid1.coords t 1).val + (y 0).val) (1024 * (grid1.coords t 0).val + (y 1).val) : ℝ) : EReal) := by
  by_cases h0 : t.val % 16 = 0
  · refine (congrArg (fun o => o.1 y) (outsAt1_A V c t h0)).trans ?_
    dsimp only
    exact out8A _ _ _ _ _ _ _ _ _ _ _ _ _ _ _ _ _ _ _ _ _ _ _ _ _ _ _ _ _ _ _ _ _ _ ((hcond1_0 (t)).mpr h0) (in1_1 V c ho (t)) (in1_2 V c hk (t)) (in1_3 V c hk (t)) (in1_4 V c hv (t)) (in1_5 V c hv (t)) (in1_6 V c hp (t)) y
  · refine (congrArg (fun o => o.1 y) (outsAt1_B V c t h0)).trans ?_
    dsimp only
    exact out8B _ _ _ _ _ _ _ _ _ _ _ _ _ _ _ _ _ _ _ _ _ _ _ _ _ _ _ _ _ _ _ _ _ _ (fun h => h0 ((hcond1_0 (t)).mp h)) (in1_1 V c ho (t)) (in1_2 V c hk (t)) (in1_3 V c hk (t)) (in1_4 V c hv (t)) (in1_5 V c hv (t)) (in1_6 V c hp (t)) y
theorem idx1_8 (t : Fin cfg1.N) : win1_8.index t 0 = (grid1.coords t 1).val ∧ win1_8.index t 1 = (grid1.coords t 0).val :=
  (by decide +kernel : ∀ t : Fin grid1.N, win1_8.index t 0 = (grid1.coords t 1).val ∧ win1_8.index t 1 = (grid1.coords t 0).val) t
include ho hk hv hp in
theorem array1_8 (i : S2048x2048.Idx) : ((dat1 V c).arrAt 8 cfg1.N : S2048x2048.Idx → EReal) i = ((dq near A (i 0).val (i 1).val : ℝ) : EReal) := by
  refine (dat1 V c).arrAt_forall_of_covers 8 (fun (i : S2048x2048.Idx) (v : EReal) => v = ((dq near A (i 0).val (i 1).val : ℝ) : EReal)) (by decide +kernel) (fun t hf (y : S128x1024.Idx) => ?_) i
  show (dat1 V c).after 8 t y = _
  rw [after1_8]
  obtain ⟨i0, i1⟩ := idx1_8 t
  have e0 : (((cfg1.win 8).blk t).view.emb y 0).val = 128 * (grid1.coords t 1).val + (y 0).val := placed win1_8 t 0 i0 y
  have e1 : (((cfg1.win 8).blk t).view.emb y 1).val = 1024 * (grid1.coords t 0).val + (y 1).val := placed win1_8 t 1 i1 y
  refine (blk1_8 V c ho hk hv hp t y).trans ?_
  rw [e0, e1]

include ho hk hv hp in
theorem acc1_9 : ∀ (n : ℕ) (hn : n < cfg1.N), Is2 (a := 1) (b := 1024) (outsAt1 V c n hn).2.1 (fun _ y => ∑ k ∈ Finset.range ((grid1.coords ⟨n, hn⟩ 1).val + 1), dbqPart A k (1024 * (grid1.coords ⟨n, hn⟩ 0).val + y)) := by
  intro n
  induction n using Nat.strong_induction_on with
  | _ n ih =>
    intro hn y
    by_cases h0 : (⟨n, hn⟩ : Fin cfg1.N).val % 16 = 0
    · refine (congrArg (fun o => o.2.1 y) (outsAt1_A V c ⟨n, hn⟩ h0)).trans ?_
      dsimp only
      refine (out9A _ _ _ _ _ _ _ _ _ _ _ _ _ _ _ _ _ _ _ _ _ _ _ _ _ _ _ _ _ _ _ _ _ _ ((hcond1_0 (⟨n, hn⟩ : Fin cfg1.N)).mpr h0) (in1_1 V c ho (⟨n, hn⟩ : Fin cfg1.N)) (in1_2 V c hk (⟨n, hn⟩ : Fin cfg1.N)) (in1_3 V c hk (⟨n, hn⟩ : Fin cfg1.N)) (in1_4 V c hv (⟨n, hn⟩ : Fin cfg1.N)) (in1_5 V c hv (⟨n, hn⟩ : Fin cfg1.N)) (in1_6 V c hp (⟨n, hn⟩ : Fin cfg1.N)) y).trans ?_
      dsimp only
      rw [first1 ⟨n, hn⟩ h0, Finset.sum_range_succ, Finset.sum_range_zero, zero_add]
    · refine (congrArg (fun o => o.2.1 y) (outsAt1_B V c ⟨n, hn⟩ h0)).trans ?_
      dsimp only
      have hold := ih (n - 1) (by have : ¬n % 16 = 0 := h0; omega) (Nat.lt_of_le_of_lt (Nat.sub_le _ _) hn)
      refine (out9B _ _ _ _ _ _ _ _ _ _ _ _ _ _ _ _ _ _ _ _ _ _ _ _ _ _ _ _ _ _ _ _ _ _ (fun h => h0 ((hcond1_0 (⟨n, hn⟩ : Fin cfg1.N)).mp h)) (in1_1 V c ho (⟨n, hn⟩ : Fin cfg1.N)) (in1_2 V c hk (⟨n, hn⟩ : Fin cfg1.N)) (in1_3 V c hk (⟨n, hn⟩ : Fin cfg1.N)) (in1_4 V c hv (⟨n, hn⟩ : Fin cfg1.N)) (in1_5 V c hv (⟨n, hn⟩ : Fin cfg1.N)) (in1_6 V c hp (⟨n, hn⟩ : Fin cfg1.N)) hold y).trans ?_
      have hp := prev1 ⟨n, hn⟩ h0
      dsimp only at hp ⊢
      rw [hp.1, hp.2, Finset.sum_range_succ]
theorem idx1_9 (t : Fin cfg1.N) : win1_9.index t 0 = 0 ∧ win1_9.index t 1 = (grid1.coords t 0).val :=
  (by decide +kernel : ∀ t : Fin grid1.N, win1_9.index t 0 = 0 ∧ win1_9.index t 1 = (grid1.coords t 0).val) t
include ho hk hv hp in
theorem array1_9 (i : S1x2048.Idx) : ((dat1 V c).arrAt 9 cfg1.N : S1x2048.Idx → EReal) i = ((dbq near A (i 1).val : ℝ) : EReal) := by
  refine (dat1 V c).arrAt_forall_of_covers 9 (fun (i : S1x2048.Idx) (v : EReal) => v = ((dbq near A (i 1).val : ℝ) : EReal)) (by decide +kernel) (fun t hf (y : S1x1024.Idx) => ?_) i
  show (dat1 V c).after 9 t y = _
  rw [after1_9]
  obtain ⟨i0, i1⟩ := idx1_9 t
  have e0 : (((cfg1.win 9).blk t).view.emb y 0).val = (y 0).val := win1_9.rect_emb_val_of_index_zero t 0 i0 y
  have e1 : (((cfg1.win 9).blk t).view.emb y 1).val = 1024 * (grid1.coords t 0).val + (y 1).val := placed win1_9 t 1 i1 y
  refine (acc1_9 V c ho hk hv hp t.val t.isLt y).trans ?_
  dsimp only
  rw [last1 t ((flush1_9 t).mp hf), e1]
  exact congrArg (fun v : ℝ => (v : EReal)) (Finset.sum_range _)

include hq ho hv hp in
theorem blk1_10 (t : Fin cfg1.N) (y : S2x128x64.Idx) : (outsAt1 V c t.val t.isLt).2.2.1 y = ((dkb near A (2 * (grid1.coords t 0).val + (y 0).val) (grid1.coords t 1).val (128 + (y 1).val) (y 2).val : ℝ) : EReal) := by
  by_cases h0 : t.val % 16 = 0
  · refine (congrArg (fun o => o.2.2.1 y) (outsAt1_A V c t h0)).trans ?_
    dsimp only
    exact out10A _ _ _ _ _ _ _ _ _ _ _ _ _ _ _ _ _ _ _ _ _ _ _ _ _ _ _ _ _ _ _ _ _ _ ((hcond1_0 (t)).mpr h0) (in1_0 V c hq (t)) (in1_1 V c ho (t)) (in1_4 V c hv (t)) (in1_5 V c hv (t)) (in1_6 V c hp (t)) y
  · refine (congrArg (fun o => o.2.2.1 y) (outsAt1_B V c t h0)).trans ?_
    dsimp only
    exact out10B _ _ _ _ _ _ _ _ _ _ _ _ _ _ _ _ _ _ _ _ _ _ _ _ _ _ _ _ _ _ _ _ _ _ (fun h => h0 ((hcond1_0 (t)).mp h)) (in1_0 V c hq (t)) (in1_1 V c ho (t)) (in1_4 V c hv (t)) (in1_5 V c hv (t)) (in1_6 V c hp (t)) y
theorem idx1_10 (t : Fin cfg1.N) : win1_10.index t 0 = (grid1.coords t 0).val ∧ win1_10.index t 1 = (grid1.coords t 1).val ∧ win1_10.index t 2 = 0 :=
  (by decide +kernel : ∀ t : Fin grid1.N, win1_10.index t 0 = (grid1.coords t 0).val ∧ win1_10.index t 1 = (grid1.coords t 1).val ∧ win1_10.index t 2 = 0) t
include hq ho hv hp in
theorem array1_10 (i : S4x2048x64.Idx) : ((dat1 V c).arrAt 10 cfg1.N : S4x2048x64.Idx → EReal) i = ((dkb near A (i 0).val ((i 1).val / 128) (128 + (i 1).val % 128) (i 2).val : ℝ) : EReal) := by
  refine (dat1 V c).arrAt_forall_of_covers 10 (fun (i : S4x2048x64.Idx) (v : EReal) => v = ((dkb near A (i 0).val ((i 1).val / 128) (128 + (i 1).val % 128) (i 2).val : ℝ) : EReal)) (by decide +kernel) (fun t hf (y : S2x128x64.Idx) => ?_) i
  show (dat1 V c).after 10 t y = _
  rw [after1_10]
  obtain ⟨i0, i1, i2⟩ := idx1_10 t
  have e0 : (((cfg1.win 10).blk t).view.emb y 0).val = 2 * (grid1.coords t 0).val + (y 0).val := placed win1_10 t 0 i0 y
  have e1 : (((cfg1.win 10).blk t).view.emb y 1).val = 128 * (grid1.coords t 1).val + (y 1).val := placed win1_10 t 1 i1 y
  have e2 : (((cfg1.win 10).blk t).view.emb y 2).val = (y 2).val := win1_10.rect_emb_val_of_index_zero t 2 i2 y
  refine (blk1_10 V c hq ho hv hp t y).trans ?_
  have hy : (y 1).val < 128 := (y 1).isLt
  rw [e0, e1, e2, show (128 * (grid1.coords t 1).val + (y 1).val) / 128 = (grid1.coords t 1).val from by omega, show (128 * (grid1.coords t 1).val + (y 1).val) % 128 = (y 1).val from by omega]

include hq ho hv hp in
theorem blk1_11 (t : Fin cfg1.N) (y : S2x128x64.Idx) : (outsAt1 V c t.val t.isLt).2.2.2.1 y = ((dkb near A (2 * (grid1.coords t 0).val + (y 0).val) (grid1.coords t 1).val (0 + (y 1).val) (y 2).val : ℝ) : EReal) := by
  by_cases h0 : t.val % 16 = 0
  · refine (congrArg (fun o => o.2.2.2.1 y) (outsAt1_A V c t h0)).trans ?_
    dsimp only
    exact out11A _ _ _ _ _ _ _ _ _ _ _ _ _ _ _ _ _ _ _ _ _ _ _ _ _ _ _ _ _ _ _ _ _ _ ((hcond1_0 (t)).mpr h0) (in1_0 V c hq (t)) (in1_1 V c ho (t)) (in1_4 V c hv (t)) (in1_5 V c hv (t)) (in1_6 V c hp (t)) y
  · refine (congrArg (fun o => o.2.2.2.1 y) (outsAt1_B V c t h0)).trans ?_
    dsimp only
    exact out11B _ _ _ _ _ _ _ _ _ _ _ _ _ _ _ _ _ _ _ _ _ _ _ _ _ _ _ _ _ _ _ _ _ _ (fun h => h0 ((hcond1_0 (t)).mp h)) (in1_0 V c hq (t)) (in1_1 V c ho (t)) (in1_4 V c hv (t)) (in1_5 V c hv (t)) (in1_6 V c hp (t)) y
theorem idx1_11 (t : Fin cfg1.N) : win1_11.index t 0 = (grid1.coords t 0).val ∧ win1_11.index t 1 = (grid1.coords t 1).val ∧ win1_11.index t 2 = 0 :=
  (by decide +kernel : ∀ t : Fin grid1.N, win1_11.index t 0 = (grid1.coords t 0).val ∧ win1_11.index t 1 = (grid1.coords t 1).val ∧ win1_11.index t 2 = 0) t
include hq ho hv hp in
theorem array1_11 (i : S4x2048x64.Idx) : ((dat1 V c).arrAt 11 cfg1.N : S4x2048x64.Idx → EReal) i = ((dkb near A (i 0).val ((i 1).val / 128) (0 + (i 1).val % 128) (i 2).val : ℝ) : EReal) := by
  refine (dat1 V c).arrAt_forall_of_covers 11 (fun (i : S4x2048x64.Idx) (v : EReal) => v = ((dkb near A (i 0).val ((i 1).val / 128) (0 + (i 1).val % 128) (i 2).val : ℝ) : EReal)) (by decide +kernel) (fun t hf (y : S2x128x64.Idx) => ?_) i
  show (dat1 V c).after 11 t y = _
  rw [after1_11]
  obtain ⟨i0, i1, i2⟩ := idx1_11 t
  have e0 : (((cfg1.win 11).blk t).view.emb y 0).val = 2 * (grid1.coords t 0).val + (y 0).val := placed win1_11 t 0 i0 y
  have e1 : (((cfg1.win 11).blk t).view.emb y 1).val = 128 * (grid1.coords t 1).val + (y 1).val := placed win1_11 t 1 i1 y
  have e2 : (((cfg1.win 11).blk t).view.emb y 2).val = (y 2).val := win1_11.rect_emb_val_of_index_zero t 2 i2 y
  refine (blk1_11 V c hq ho hv hp t y).trans ?_
  have hy : (y 1).val < 128 := (y 1).isLt
  rw [e0, e1, e2, show (128 * (grid1.coords t 1).val + (y 1).val) / 128 = (grid1.coords t 1).val from by omega, show (128 * (grid1.coords t 1).val + (y 1).val) % 128 = (y 1).val from by omega]

include ho hp in
theorem blk1_12 (t : Fin cfg1.N) (y : S2x128x64.Idx) : (outsAt1 V c t.val t.isLt).2.2.2.2.1 y = ((dvb near A (2 * (grid1.coords t 0).val + (y 0).val) (grid1.coords t 1).val (128 + (y 1).val) (y 2).val : ℝ) : EReal) := by
  by_cases h0 : t.val % 16 = 0
  · refine (congrArg (fun o => o.2.2.2.2.1 y) (outsAt1_A V c t h0)).trans ?_
    dsimp only
    exact out12A _ _ _ _ _ _ _ _ _ _ _ _ _ _ _ _ _ _ _ _ _ _ _ _ _ _ _ _ _ _ _ _ _ _ ((hcond1_0 (t)).mpr h0) (in1_1 V c ho (t)) (in1_6 V c hp (t)) y
  · refine (congrArg (fun o => o.2.2.2.2.1 y) (outsAt1_B V c t h0)).trans ?_
    dsimp only
    exact out12B _ _ _ _ _ _ _ _ _ _ _ _ _ _ _ _ _ _ _ _ _ _ _ _ _ _ _ _ _ _ _ _ _ _ (fun h => h0 ((hcond1_0 (t)).mp h)) (in1_1 V c ho (t)) (in1_6 V c hp (t)) y
theorem idx1_12 (t : Fin cfg1.N) : win1_12.index t 0 = (grid1.coords t 0).val ∧ win1_12.index t 1 = (grid1.coords t 1).val ∧ win1_12.index t 2 = 0 :=
  (by decide +kernel : ∀ t : Fin grid1.N, win1_12.index t 0 = (grid1.coords t 0).val ∧ win1_12.index t 1 = (grid1.coords t 1).val ∧ win1_12.index t 2 = 0) t
include ho hp in
theorem array1_12 (i : S4x2048x64.Idx) : ((dat1 V c).arrAt 12 cfg1.N : S4x2048x64.Idx → EReal) i = ((dvb near A (i 0).val ((i 1).val / 128) (128 + (i 1).val % 128) (i 2).val : ℝ) : EReal) := by
  refine (dat1 V c).arrAt_forall_of_covers 12 (fun (i : S4x2048x64.Idx) (v : EReal) => v = ((dvb near A (i 0).val ((i 1).val / 128) (128 + (i 1).val % 128) (i 2).val : ℝ) : EReal)) (by decide +kernel) (fun t hf (y : S2x128x64.Idx) => ?_) i
  show (dat1 V c).after 12 t y = _
  rw [after1_12]
  obtain ⟨i0, i1, i2⟩ := idx1_12 t
  have e0 : (((cfg1.win 12).blk t).view.emb y 0).val = 2 * (grid1.coords t 0).val + (y 0).val := placed win1_12 t 0 i0 y
  have e1 : (((cfg1.win 12).blk t).view.emb y 1).val = 128 * (grid1.coords t 1).val + (y 1).val := placed win1_12 t 1 i1 y
  have e2 : (((cfg1.win 12).blk t).view.emb y 2).val = (y 2).val := win1_12.rect_emb_val_of_index_zero t 2 i2 y
  refine (blk1_12 V c ho hp t y).trans ?_
  have hy : (y 1).val < 128 := (y 1).isLt
  rw [e0, e1, e2, show (128 * (grid1.coords t 1).val + (y 1).val) / 128 = (grid1.coords t 1).val from by omega, show (128 * (grid1.coords t 1).val + (y 1).val) % 128 = (y 1).val from by omega]

include ho hp in
theorem blk1_13 (t : Fin cfg1.N) (y : S2x128x64.Idx) : (outsAt1 V c t.val t.isLt).2.2.2.2.2.1 y = ((dvb near A (2 * (grid1.coords t 0).val + (y 0).val) (grid1.coords t 1).val (0 + (y 1).val) (y 2).val : ℝ) : EReal) := by
  by_cases h0 : t.val % 16 = 0
  · refine (congrArg (fun o => o.2.2.2.2.2.1 y) (outsAt1_A V c t h0)).trans ?_
    dsimp only
    exact out13A _ _ _ _ _ _ _ _ _ _ _ _ _ _ _ _ _ _ _ _ _ _ _ _ _ _ _ _ _ _ _ _ _ _ ((hcond1_0 (t)).mpr h0) (in1_1 V c ho (t)) (in1_6 V c hp (t)) y
  · refine (congrArg (fun o => o.2.2.2.2.2.1 y) (outsAt1_B V c t h0)).trans ?_
    dsimp only
    exact out13B _ _ _ _ _ _ _ _ _ _ _ _ _ _ _ _ _ _ _ _ _ _ _ _ _ _ _ _ _ _ _ _ _ _ (fun h => h0 ((hcond1_0 (t)).mp h)) (in1_1 V c ho (t)) (in1_6 V c hp (t)) y
theorem idx1_13 (t : Fin cfg1.N) : win1_13.index t 0 = (grid1.coords t 0).val ∧ win1_13.index t 1 = (grid1.coords t 1).val ∧ win1_13.index t 2 = 0 :=
  (by decide +kernel : ∀ t : Fin grid1.N, win1_13.index t 0 = (grid1.coords t 0).val ∧ win1_13.index t 1 = (grid1.coords t 1).val ∧ win1_13.index t 2 = 0) t
include ho hp in
theorem array1_13 (i : S4x2048x64.Idx) : ((dat1 V c).arrAt 13 cfg1.N : S4x2048x64.Idx → EReal) i = ((dvb near A (i 0).val ((i 1).val / 128) (0 + (i 1).val % 128) (i 2).val : ℝ) : EReal) := by
  refine (dat1 V c).arrAt_forall_of_covers 13 (fun (i : S4x2048x64.Idx) (v : EReal) => v = ((dvb near A (i 0).val ((i 1).val / 128) (0 + (i 1).val % 128) (i 2).val : ℝ) : EReal)) (by decide +kernel) (fun t hf (y : S2x128x64.Idx) => ?_) i
  show (dat1 V c).after 13 t y = _
  rw [after1_13]
  obtain ⟨i0, i1, i2⟩ := idx1_13 t
  have e0 : (((cfg1.win 13).blk t).view.emb y 0).val = 2 * (grid1.coords t 0).val + (y 0).val := placed win1_13 t 0 i0 y
  have e1 : (((cfg1.win 13).blk t).view.emb y 1).val = 128 * (grid1.coords t 1).val + (y 1).val := placed win1_13 t 1 i1 y
  have e2 : (((cfg1.win 13).blk t).view.emb y 2).val = (y 2).val := win1_13.rect_emb_val_of_index_zero t 2 i2 y
  refine (blk1_13 V c ho hp t y).trans ?_
  have hy : (y 1).val < 128 := (y 1).isLt
  rw [e0, e1, e2, show (128 * (grid1.coords t 1).val + (y 1).val) / 128 = (grid1.coords t 1).val from by omega, show (128 * (grid1.coords t 1).val + (y 1).val) % 128 = (y 1).val from by omega]

include ho hv hp in
theorem acc1_14 : ∀ (n : ℕ) (hn : n < cfg1.N), Is3 (a := 16) (b := 128) (c := 256) (outsAt1 V c n hn).2.2.2.2.2.2.1 (fun n' r t' => ∑ k ∈ Finset.range ((grid1.coords ⟨n, hn⟩ 1).val + 1), (head near A k (16 * (grid1.coords ⟨n, hn⟩ 0).val + n')).ds r t') := by
  intro n
  induction n using Nat.strong_induction_on with
  | _ n ih =>
    intro hn y
    by_cases h0 : (⟨n, hn⟩ : Fin cfg1.N).val % 16 = 0
    · refine (congrArg (fun o => o.2.2.2.2.2.2.1 y) (outsAt1_A V c ⟨n, hn⟩ h0)).trans ?_
      dsimp only
      refine (out14A _ _ _ _ _ _ _ _ _ _ _ _ _ _ _ _ _ _ _ _ _ _ _ _ _ _ _ _ _ _ _ _ _ _ ((hcond1_0 (⟨n, hn⟩ : Fin cfg1.N)).mpr h0) (in1_1 V c ho (⟨n, hn⟩ : Fin cfg1.N)) (in1_4 V c hv (⟨n, hn⟩ : Fin cfg1.N)) (in1_5 V c hv (⟨n, hn⟩ : Fin cfg1.N)) (in1_6 V c hp (⟨n, hn⟩ : Fin cfg1.N)) y).trans ?_
      dsimp only
      rw [first1 ⟨n, hn⟩ h0, Finset.sum_range_succ, Finset.sum_range_zero, zero_add]
    · refine (congrArg (fun o => o.2.2.2.2.2.2.1 y) (outsAt1_B V c ⟨n, hn⟩ h0)).trans ?_
      dsimp only
      have hold := ih (n - 1) (by have : ¬n % 16 = 0 := h0; omega) (Nat.lt_of_le_of_lt (Nat.sub_le _ _) hn)
      refine (out14B _ _ _ _ _ _ _ _ _ _ _ _ _ _ _ _ _ _ _ _ _ _ _ _ _ _ _ _ _ _ _ _ _ _ (fun h => h0 ((hcond1_0 (⟨n, hn⟩ : Fin cfg1.N)).mp h)) (in1_1 V c ho (⟨n, hn⟩ : Fin cfg1.N)) (in1_4 V c hv (⟨n, hn⟩ : Fin cfg1.N)) (in1_5 V c hv (⟨n, hn⟩ : Fin cfg1.N)) (in1_6 V c hp (⟨n, hn⟩ : Fin cfg1.N)) hold y).trans ?_
      have hp := prev1 ⟨n, hn⟩ h0
      dsimp only at hp ⊢
      rw [hp.1, hp.2, Finset.sum_range_succ]
theorem idx1_14 (t : Fin cfg1.N) : win1_14.index t 0 = (grid1.coords t 0).val ∧ win1_14.index t 1 = 0 ∧ win1_14.index t 2 = 0 :=
  (by decide +kernel : ∀ t : Fin grid1.N, win1_14.index t 0 = (grid1.coords t 0).val ∧ win1_14.index t 1 = 0 ∧ win1_14.index t 2 = 0) t
include ho hv hp in
theorem array1_14 (i : S32x128x256.Idx) : ((dat1 V c).arrAt 14 cfg1.N : S32x128x256.Idx → EReal) i = ((dbias near A (i 0).val (i 1).val (i 2).val : ℝ) : EReal) := by
  refine (dat1 V c).arrAt_forall_of_covers 14 (fun (i : S32x128x256.Idx) (v : EReal) => v = ((dbias near A (i 0).val (i 1).val (i 2).val : ℝ) : EReal)) (by decide +kernel) (fun t hf (y : S16x128x256.Idx) => ?_) i
  show (dat1 V c).after 14 t y = _
  rw [after1_14]
  obtain ⟨i0, i1, i2⟩ := idx1_14 t
  have e0 : (((cfg1.win 14).blk t).view.emb y 0).val = 16 * (grid1.coords t 0).val + (y 0).val := placed win1_14 t 0 i0 y
  have e1 : (((cfg1.win 14).blk t).view.emb y 1).val = (y 1).val := win1_14.rect_emb_val_of_index_zero t 1 i1 y
  have e2 : (((cfg1.win 14).blk t).view.emb y 2).val = (y 2).val := win1_14.rect_emb_val_of_index_zero t 2 i2 y
  refine (acc1_14 V c ho hv hp t.val t.isLt y).trans ?_
  dsimp only
  rw [last1 t ((flush1_14 t).mp hf), e0, e1, e2]
  exact congrArg (fun v : ℝ => (v : EReal)) (Finset.sum_range _)

include ho hv hp he in
theorem acc1_15 : ∀ (n : ℕ) (hn : n < cfg1.N), Is3 (a := 2) (b := 1) (c := 8) (outsAt1 V c n hn).2.2.2.2.2.2.2 (fun j _ g => ∑ k ∈ Finset.range ((grid1.coords ⟨n, hn⟩ 1).val + 1), dskPart A k (8 * (2 * (grid1.coords ⟨n, hn⟩ 0).val + j) + g)) := by
  intro n
  induction n using Nat.strong_induction_on with
  | _ n ih =>
    intro hn y
    by_cases h0 : (⟨n, hn⟩ : Fin cfg1.N).val % 16 = 0
    · refine (congrArg (fun o => o.2.2.2.2.2.2.2 y) (outsAt1_A V c ⟨n, hn⟩ h0)).trans ?_
      dsimp only
      refine (out15A _ _ _ _ _ _ _ _ _ _ _ _ _ _ _ _ _ _ _ _ _ _ _ _ _ _ _ _ _ _ _ _ _ _ ((hcond1_0 (⟨n, hn⟩ : Fin cfg1.N)).mpr h0) (in1_1 V c ho (⟨n, hn⟩ : Fin cfg1.N)) (in1_4 V c hv (⟨n, hn⟩ : Fin cfg1.N)) (in1_5 V c hv (⟨n, hn⟩ : Fin cfg1.N)) (in1_6 V c hp (⟨n, hn⟩ : Fin cfg1.N)) (in1_7 V c he (⟨n, hn⟩ : Fin cfg1.N)) y).trans ?_
      dsimp only
      rw [first1 ⟨n, hn⟩ h0, Finset.sum_range_succ, Finset.sum_range_zero, zero_add]
    · refine (congrArg (fun o => o.2.2.2.2.2.2.2 y) (outsAt1_B V c ⟨n, hn⟩ h0)).trans ?_
      dsimp only
      have hold := ih (n - 1) (by have : ¬n % 16 = 0 := h0; omega) (Nat.lt_of_le_of_lt (Nat.sub_le _ _) hn)
      refine (out15B _ _ _ _ _ _ _ _ _ _ _ _ _ _ _ _ _ _ _ _ _ _ _ _ _ _ _ _ _ _ _ _ _ _ (fun h => h0 ((hcond1_0 (⟨n, hn⟩ : Fin cfg1.N)).mp h)) (in1_1 V c ho (⟨n, hn⟩ : Fin cfg1.N)) (in1_4 V c hv (⟨n, hn⟩ : Fin cfg1.N)) (in1_5 V c hv (⟨n, hn⟩ : Fin cfg1.N)) (in1_6 V c hp (⟨n, hn⟩ : Fin cfg1.N)) (in1_7 V c he (⟨n, hn⟩ : Fin cfg1.N)) hold y).trans ?_
      have hp := prev1 ⟨n, hn⟩ h0
      dsimp only at hp ⊢
      rw [hp.1, hp.2, Finset.sum_range_succ]
theorem idx1_15 (t : Fin cfg1.N) : win1_15.index t 0 = (grid1.coords t 0).val ∧ win1_15.index t 1 = 0 ∧ win1_15.index t 2 = 0 :=
  (by decide +kernel : ∀ t : Fin grid1.N, win1_15.index t 0 = (grid1.coords t 0).val ∧ win1_15.index t 1 = 0 ∧ win1_15.index t 2 = 0) t
include ho hv hp he in
theorem array1_15 (i : S4x1x8.Idx) : ((dat1 V c).arrAt 15 cfg1.N : S4x1x8.Idx → EReal) i = ((dsink near A (8 * (i 0).val + (i 2).val) : ℝ) : EReal) := by
  refine (dat1 V c).arrAt_forall_of_covers 15 (fun (i : S4x1x8.Idx) (v : EReal) => v = ((dsink near A (8 * (i 0).val + (i 2).val) : ℝ) : EReal)) (by decide +kernel) (fun t hf (y : S2x1x8.Idx) => ?_) i
  show (dat1 V c).after 15 t y = _
  rw [after1_15]
  obtain ⟨i0, i1, i2⟩ := idx1_15 t
  have e0 : (((cfg1.win 15).blk t).view.emb y 0).val = 2 * (grid1.coords t 0).val + (y 0).val := placed win1_15 t 0 i0 y
  have e1 : (((cfg1.win 15).blk t).view.emb y 1).val = (y 1).val := win1_15.rect_emb_val_of_index_zero t 1 i1 y
  have e2 : (((cfg1.win 15).blk t).view.emb y 2).val = (y 2).val := win1_15.rect_emb_val_of_index_zero t 2 i2 y
  refine (acc1_15 V c ho hv hp he t.val t.isLt y).trans ?_
  dsimp only
  rw [last1 t ((flush1_15 t).mp hf), e0, e2]
  exact congrArg (fun v : ℝ => (v : EReal)) (Finset.sum_range _)

end Cert.Core

end
-- ==== Proof.CoreKv.lean ====
/- The sums of the keys' and the values' derivatives at one grid point: a row's own block's share and the next block's. -/
module

public import proofs.«01_k».proof.Proof.CoreBackKv

@[expose] public section

set_option maxRecDepth 16384

noncomputable section

namespace Cert.Core

open Cert.AttnIdeal Cert.AttnIdeal.Gen Idealize.ShloMosaic Idealize.ShloMosaic.TcCoe Idealize.ShloMosaic.Tactic Idealize.SL.Sem Cert.Lift Cert.Mat Cert.Prod

/-- One block's share of the derivative by the keys' and values' biases. -/
def dbkvPart (A : Args) (c y : ℕ) : ℝ := ∑ r : Fin 128, dkv near A (128 * c + r.val) y

/-- Matrix `j` of a block of several. -/
theorem one3f {n a b j : ℕ} {arg : Memref sig .tc .vmem ⟨3, ![n, a, b]⟩ .f32} (harg : arg.IsWhole) {x : Vec Ideal ⟨3, ![n, a, b]⟩ .f32} {f : ℕ → ℕ → ℕ → ℝ}
    (hx : Is3 x f) {inb} : Is3 (a := 1) (b := a) (c := b) (View.readAt (Elt Ideal) arg.view (Rect.unit (s := ⟨3, ![n, a, b]⟩) ![j, 0, 0] (⟨3, ![1, a, b]⟩ : Shape).size inb).toLoadRect (harg.unread x)) (fun _ r d => f j r d) := by
  rw [View.readAt_eq_ld, harg.read_unread, View.ld_unit]
  intro i
  refine (hx _).trans ?_
  have := (i 0).isLt; change (i 0).val < 1 at this
  show ((f (j + (i 0).val) (0 + (i 1).val) (0 + (i 2).val) : ℝ) : EReal) = _
  rw [show j + (i 0).val = j by omega, Nat.zero_add, Nat.zero_add]

/-- The weight of the next block: none is after the last. -/
theorem keep (i : grid2.Coords) : k2_pay2 (F := Ideal) i = (((if (i 0).val < 15 then 1 else 0 : ℝ)) : EReal) := by
  have h : ∀ n : Fin 16, Scalar.cmpi .slt (BitVec.ofNat 32 n.val) 15#32 = if n.val < 15 then 1#1 else 0#1 := by decide
  have h' := h (i 0)
  unfold k2_pay2
  dsimp only
  rw [h']
  by_cases hi : (i 0).val < 15
  · rw [if_pos hi, if_pos hi]; exact lit_one
  · rw [if_neg hi, if_neg hi]; exact lit_zero

theorem folds {i : grid2.Coords} {O N : FVec Ideal S1x128x64 .f32} {f g : ℕ → ℕ → ℝ} (hO : Is3 O (fun _ r d => f r d)) (hN : Is3 N (fun _ r d => g r d)) :
    Is2 (k2_pay10 (k2_pay2 (F := Ideal) i) O N) (fun r d => f r d + (if (i 0).val < 15 then 1 else 0) * g r d) := fun z => by
  have h1 := is2_of3 (a := 128) (b := 64) (φ := .f32) (h := shapeCasts_S1x128x64_S128x64) (f := f) hO z
  have h2 := is2_of3 (a := 128) (b := 64) (φ := .f32) (h := shapeCasts_S1x128x64_S128x64) (f := g) hN z
  refine (congrArg₂ (· + ·) h1 (congrArg₂ (· * ·) (keep i) h2)).trans ?_
  exact (congrArg₂ (· + ·) rfl (mulE _ _)).trans (addE _ _)

theorem folded_eq (F : ℕ → ℕ → ℕ → ℕ → ℝ) {c r : ℕ} (e d : ℕ) (hr : r < 128) :
    F e c (128 + r) d + (if c < 15 then 1 else 0) * F e (min (c + 1) 15) r d = folded F e (128 * c + r) d := by
  unfold folded
  rw [show (128 * c + r) / 128 = c by omega, show (128 * c + r) % 128 = r by omega]
  by_cases h : c < 15
  · rw [if_pos h, if_pos h, one_mul, Nat.min_eq_left (by omega)]
  · rw [if_neg h, if_neg h, zero_mul]

section Body
variable (c : Dev nD) (i : grid2.Coords)
  (arg1 : Memref sig .tc .vmem S4x128x64 .f32) (harg1 : arg1.IsWhole)
  (arg2 : Memref sig .tc .vmem S4x128x64 .f32) (harg2 : arg2.IsWhole)
  (arg3 : Memref sig .tc .vmem S4x128x64 .f32) (harg3 : arg3.IsWhole)
  (arg4 : Memref sig .tc .vmem S4x128x64 .f32) (harg4 : arg4.IsWhole)
  (arg5 : Memref sig .tc .vmem S128x512 .bf16) (harg5 : arg5.IsWhole) (arg6 : Memref sig .tc .vmem S1x512 .f32) (harg6 : arg6.IsWhole)
  (hc0 : cond2_0 i) (hc1 : ¬cond2_0 i) {x0 x1 x2 x3 : Vec Ideal S4x128x64 .f32} {xo5 : Vec Ideal S1x512 .f32} {A : Args}
  (hx0 : Is3 x0 (fun e r d => dkb near A e (i 0).val (128 + r) d)) (hx1 : Is3 x1 (fun e r d => dkb near A e (min ((i 0).val + 1) 15) (0 + r) d))
  (hx2 : Is3 x2 (fun e r d => dvb near A e (i 0).val (128 + r) d)) (hx3 : Is3 x3 (fun e r d => dvb near A e (min ((i 0).val + 1) 15) (0 + r) d))
  {old : ℕ → ℕ → ℝ} (ho : Is2 xo5 old)

include hx0 hx1 in
theorem keysPart (e : ℕ) (he : e < 4) {b b'} :
    Is2 (k2_pay10 (k2_pay2 (F := Ideal) i) (View.readAt (Elt Ideal) arg1.view (Rect.unit (s := S4x128x64) ![e, 0, 0] S1x128x64.size b).toLoadRect (harg1.unread x0))
      (View.readAt (Elt Ideal) arg2.view (Rect.unit (s := S4x128x64) ![e, 0, 0] S1x128x64.size b').toLoadRect (harg2.unread x1)))
      (fun r d => dkv near A (128 * (i 0).val + r) (64 * e + d)) :=
  is2_congr (folds (one3f (j := e) harg1 hx0) (one3f (j := e) harg2 hx1)) fun r d hr hd => by
    unfold dkv
    rw [if_pos (show 64 * e + d < 256 by omega), show (64 * e + d) / 64 = e by omega, show (64 * e + d) % 64 = d by omega, Nat.zero_add]
    exact folded_eq (dkb near A) e d hr

include hx2 hx3 in
theorem valuesPart (e : ℕ) (he : e < 4) {b b'} :
    Is2 (k2_pay10 (k2_pay2 (F := Ideal) i) (View.readAt (Elt Ideal) arg3.view (Rect.unit (s := S4x128x64) ![e, 0, 0] S1x128x64.size b).toLoadRect (harg3.unread x2))
      (View.readAt (Elt Ideal) arg4.view (Rect.unit (s := S4x128x64) ![e, 0, 0] S1x128x64.size b').toLoadRect (harg4.unread x3)))
      (fun r d => dkv near A (128 * (i 0).val + r) (256 + 64 * e + d)) :=
  is2_congr (folds (one3f (j := e) harg3 hx2) (one3f (j := e) harg4 hx3)) fun r d hr hd => by
    unfold dkv
    rw [if_neg (show ¬ 256 + 64 * e + d < 256 by omega), show (256 + 64 * e + d - 256) / 64 = e by omega, show (256 + 64 * e + d) % 64 = d by omega, Nat.zero_add]
    exact folded_eq (dvb near A) e d hr

/-- What is stored of it. -/
theorem dkvPiece {p : ℕ} {v : FVec Ideal S128x64 .f32} (hv : Is2 v (fun r d => dkv near A (128 * (i 0).val + r) (p + d))) {inb} (x : S128x64.Idx) :
    truncf (F := Ideal) .bf16 v bitsLt_bf16_f32 x
      = ((dkv near A (128 * (i 0).val + ((Rect.unit (s := S128x512) ![0, p] ![128, 64] inb).emb x 0).val) ((Rect.unit (s := S128x512) ![0, p] ![128, 64] inb).emb x 1).val : ℝ) : EReal) :=
  put2c (a := 128) (b := 64) (n := 512) (p := p) (φ := .bf16) (inb := inb) (f := fun r y => ((dkv near A (128 * (i 0).val + r) y : ℝ) : EReal)) hv x

/-- Its columns' sums. -/
theorem dbkvPiece {p : ℕ} {v : FVec Ideal S128x64 .f32} (hv : Is2 v (fun r d => dkv near A (128 * (i 0).val + r) (p + d))) {hr hφ hacc hc} :
    Is2 (shapeCast S1x64 (multiReduction (F := Ideal) .add [0] S64 v 0x00000000#32 hr hφ hacc) hc) (fun _ d => dbkvPart A (i 0).val (p + d)) :=
  is2_row (colSum hv)

include hx0 hx1 hx2 hx3 in
theorem sum4A : Is2 (a := 128) (b := 512) (out2_A_4 c i arg1 harg1 arg2 harg2 arg3 harg3 arg4 harg4 arg5 harg5 arg6 harg6 hc0 x0 x1 x2 x3) (fun r y => dkv near A (128 * (i 0).val + r) y) := fun y => by
  unfold out2_A_4
  refine (congrFun (View.read_writes_junk_eq_canon _ _) y).trans (View.canon_apply_of_pieces (Val := Elt Ideal) (fun y => ((dkv near A (128 * (i 0).val + (y 0).val) (y 1).val : ℝ) : EReal)) _ ?_ _ (cover2_A_4 c i arg1 harg1 arg2 harg2 arg3 harg3 arg4 harg4 arg5 harg5 arg6 harg6 hc0 x0 x1 x2 x3 _))
  unfold kernelRun2_A
  simp only [List.forall_mem_cons]
  have h0 := (keysPart i arg1 harg1 arg2 harg2 hx0 hx1 0 (by omega) (b := inb_S4x128x64_S1x128x64_0_0_0) (b' := inb_S4x128x64_S1x128x64_0_0_0))
  have h1 := (keysPart i arg1 harg1 arg2 harg2 hx0 hx1 1 (by omega) (b := inb_S4x128x64_S1x128x64_1_0_0) (b' := inb_S4x128x64_S1x128x64_1_0_0))
  have h2 := (keysPart i arg1 harg1 arg2 harg2 hx0 hx1 2 (by omega) (b := inb_S4x128x64_S1x128x64_2_0_0) (b' := inb_S4x128x64_S1x128x64_2_0_0))
  have h3 := (keysPart i arg1 harg1 arg2 harg2 hx0 hx1 3 (by omega) (b := inb_S4x128x64_S1x128x64_3_0_0) (b' := inb_S4x128x64_S1x128x64_3_0_0))
  have h4 := (valuesPart i arg3 harg3 arg4 harg4 hx2 hx3 0 (by omega) (b := inb_S4x128x64_S1x128x64_0_0_0) (b' := inb_S4x128x64_S1x128x64_0_0_0))
  have h5 := (valuesPart i arg3 harg3 arg4 harg4 hx2 hx3 1 (by omega) (b := inb_S4x128x64_S1x128x64_1_0_0) (b' := inb_S4x128x64_S1x128x64_1_0_0))
  have h6 := (valuesPart i arg3 harg3 arg4 harg4 hx2 hx3 2 (by omega) (b := inb_S4x128x64_S1x128x64_2_0_0) (b' := inb_S4x128x64_S1x128x64_2_0_0))
  have h7 := (valuesPart i arg3 harg3 arg4 harg4 hx2 hx3 3 (by omega) (b := inb_S4x128x64_S1x128x64_3_0_0) (b' := inb_S4x128x64_S1x128x64_3_0_0))
  refine ⟨?_, ?_, ?_, ?_, ?_, ?_, ?_, ?_, by simp⟩
  · exact dkvPiece i (p := 448) h7
  · exact dkvPiece i (p := 384) h6
  · exact dkvPiece i (p := 320) h5
  · exact dkvPiece i (p := 256) h4
  · exact dkvPiece i (p := 192) h3
  · exact dkvPiece i (p := 128) h2
  · exact dkvPiece i (p := 64) h1
  · exact dkvPiece i (p := 0) h0

include hx0 hx1 hx2 hx3 in
theorem sum4B : Is2 (a := 128) (b := 512) (out2_B_4 c i arg1 harg1 arg2 harg2 arg3 harg3 arg4 harg4 arg5 harg5 arg6 harg6 hc1 x0 x1 x2 x3 xo5) (fun r y => dkv near A (128 * (i 0).val + r) y) := fun y => by
  unfold out2_B_4
  refine (congrFun (View.read_writes_junk_eq_canon _ _) y).trans (View.canon_apply_of_pieces (Val := Elt Ideal) (fun y => ((dkv near A (128 * (i 0).val + (y 0).val) (y 1).val : ℝ) : EReal)) _ ?_ _ (cover2_B_4 c i arg1 harg1 arg2 harg2 arg3 harg3 arg4 harg4 arg5 harg5 arg6 harg6 hc1 x0 x1 x2 x3 xo5 _))
  unfold kernelRun2_B
  simp only [List.forall_mem_cons]
  have h0 := (keysPart i arg1 harg1 arg2 harg2 hx0 hx1 0 (by omega) (b := inb_S4x128x64_S1x128x64_0_0_0) (b' := inb_S4x128x64_S1x128x64_0_0_0))
  have h1 := (keysPart i arg1 harg1 arg2 harg2 hx0 hx1 1 (by omega) (b := inb_S4x128x64_S1x128x64_1_0_0) (b' := inb_S4x128x64_S1x128x64_1_0_0))
  have h2 := (keysPart i arg1 harg1 arg2 harg2 hx0 hx1 2 (by omega) (b := inb_S4x128x64_S1x128x64_2_0_0) (b' := inb_S4x128x64_S1x128x64_2_0_0))
  have h3 := (keysPart i arg1 harg1 arg2 harg2 hx0 hx1 3 (by omega) (b := inb_S4x128x64_S1x128x64_3_0_0) (b' := inb_S4x128x64_S1x128x64_3_0_0))
  have h4 := (valuesPart i arg3 harg3 arg4 harg4 hx2 hx3 0 (by omega) (b := inb_S4x128x64_S1x128x64_0_0_0) (b' := inb_S4x128x64_S1x128x64_0_0_0))
  have h5 := (valuesPart i arg3 harg3 arg4 harg4 hx2 hx3 1 (by omega) (b := inb_S4x128x64_S1x128x64_1_0_0) (b' := inb_S4x128x64_S1x128x64_1_0_0))
  have h6 := (valuesPart i arg3 harg3 arg4 harg4 hx2 hx3 2 (by omega) (b := inb_S4x128x64_S1x128x64_2_0_0) (b' := inb_S4x128x64_S1x128x64_2_0_0))
  have h7 := (valuesPart i arg3 harg3 arg4 harg4 hx2 hx3 3 (by omega) (b := inb_S4x128x64_S1x128x64_3_0_0) (b' := inb_S4x128x64_S1x128x64_3_0_0))
  refine ⟨?_, ?_, ?_, ?_, ?_, ?_, ?_, ?_, by simp⟩
  · exact dkvPiece i (p := 448) h7
  · exact dkvPiece i (p := 384) h6
  · exact dkvPiece i (p := 320) h5
  · exact dkvPiece i (p := 256) h4
  · exact dkvPiece i (p := 192) h3
  · exact dkvPiece i (p := 128) h2
  · exact dkvPiece i (p := 64) h1
  · exact dkvPiece i (p := 0) h0

include hx0 hx1 hx2 hx3 ho in
theorem sum5B : Is2 (a := 1) (b := 512) (out2_B_5 c i arg1 harg1 arg2 harg2 arg3 harg3 arg4 harg4 arg5 harg5 arg6 harg6 hc1 x0 x1 x2 x3 xo5) (fun t y => old t y + dbkvPart A (i 0).val y) := fun y => by
  unfold out2_B_5
  refine (congrFun (View.read_writes_junk_eq_canon _ _) y).trans (View.canon_apply_of_pieces (Val := Elt Ideal) (fun y => ((old (y 0).val (y 1).val + dbkvPart A (i 0).val (y 1).val : ℝ) : EReal)) _ ?_ _ (cover2_B_5 c i arg1 harg1 arg2 harg2 arg3 harg3 arg4 harg4 arg5 harg5 arg6 harg6 hc1 x0 x1 x2 x3 xo5 _))
  unfold kernelRun2_B
  simp only [List.forall_mem_cons]
  have h0 := (keysPart i arg1 harg1 arg2 harg2 hx0 hx1 0 (by omega) (b := inb_S4x128x64_S1x128x64_0_0_0) (b' := inb_S4x128x64_S1x128x64_0_0_0))
  have h1 := (keysPart i arg1 harg1 arg2 harg2 hx0 hx1 1 (by omega) (b := inb_S4x128x64_S1x128x64_1_0_0) (b' := inb_S4x128x64_S1x128x64_1_0_0))
  have h2 := (keysPart i arg1 harg1 arg2 harg2 hx0 hx1 2 (by omega) (b := inb_S4x128x64_S1x128x64_2_0_0) (b' := inb_S4x128x64_S1x128x64_2_0_0))
  have h3 := (keysPart i arg1 harg1 arg2 harg2 hx0 hx1 3 (by omega) (b := inb_S4x128x64_S1x128x64_3_0_0) (b' := inb_S4x128x64_S1x128x64_3_0_0))
  have h4 := (valuesPart i arg3 harg3 arg4 harg4 hx2 hx3 0 (by omega) (b := inb_S4x128x64_S1x128x64_0_0_0) (b' := inb_S4x128x64_S1x128x64_0_0_0))
  have h5 := (valuesPart i arg3 harg3 arg4 harg4 hx2 hx3 1 (by omega) (b := inb_S4x128x64_S1x128x64_1_0_0) (b' := inb_S4x128x64_S1x128x64_1_0_0))
  have h6 := (valuesPart i arg3 harg3 arg4 harg4 hx2 hx3 2 (by omega) (b := inb_S4x128x64_S1x128x64_2_0_0) (b' := inb_S4x128x64_S1x128x64_2_0_0))
  have h7 := (valuesPart i arg3 harg3 arg4 harg4 hx2 hx3 3 (by omega) (b := inb_S4x128x64_S1x128x64_3_0_0) (b' := inb_S4x128x64_S1x128x64_3_0_0))
  refine ⟨?_, ?_, ?_, ?_, ?_, ?_, ?_, ?_, by simp⟩
  · exact addRow (p := 448) harg6 ho (new := fun _ y => dbkvPart A (i 0).val y) (dbkvPiece i (p := 448) h7)
  · exact addRow (p := 384) harg6 ho (new := fun _ y => dbkvPart A (i 0).val y) (dbkvPiece i (p := 384) h6)
  · exact addRow (p := 320) harg6 ho (new := fun _ y => dbkvPart A (i 0).val y) (dbkvPiece i (p := 320) h5)
  · exact addRow (p := 256) harg6 ho (new := fun _ y => dbkvPart A (i 0).val y) (dbkvPiece i (p := 256) h4)
  · exact addRow (p := 192) harg6 ho (new := fun _ y => dbkvPart A (i 0).val y) (dbkvPiece i (p := 192) h3)
  · exact addRow (p := 128) harg6 ho (new := fun _ y => dbkvPart A (i 0).val y) (dbkvPiece i (p := 128) h2)
  · exact addRow (p := 64) harg6 ho (new := fun _ y => dbkvPart A (i 0).val y) (dbkvPiece i (p := 64) h1)
  · exact addRow (p := 0) harg6 ho (new := fun _ y => dbkvPart A (i 0).val y) (dbkvPiece i (p := 0) h0)

include hx0 hx1 hx2 hx3 in
theorem sum5A : Is2 (a := 1) (b := 512) (out2_A_5 c i arg1 harg1 arg2 harg2 arg3 harg3 arg4 harg4 arg5 harg5 arg6 harg6 hc0 x0 x1 x2 x3) (fun _ y => dbkvPart A (i 0).val y) := fun y => by
  unfold out2_A_5
  refine (congrFun (View.read_writes_junk_eq_canon _ _) y).trans ?_
  unfold kernelRun2_A
  have h0 := (keysPart i arg1 harg1 arg2 harg2 hx0 hx1 0 (by omega) (b := inb_S4x128x64_S1x128x64_0_0_0) (b' := inb_S4x128x64_S1x128x64_0_0_0))
  have h1 := (keysPart i arg1 harg1 arg2 harg2 hx0 hx1 1 (by omega) (b := inb_S4x128x64_S1x128x64_1_0_0) (b' := inb_S4x128x64_S1x128x64_1_0_0))
  have h2 := (keysPart i arg1 harg1 arg2 harg2 hx0 hx1 2 (by omega) (b := inb_S4x128x64_S1x128x64_2_0_0) (b' := inb_S4x128x64_S1x128x64_2_0_0))
  have h3 := (keysPart i arg1 harg1 arg2 harg2 hx0 hx1 3 (by omega) (b := inb_S4x128x64_S1x128x64_3_0_0) (b' := inb_S4x128x64_S1x128x64_3_0_0))
  have h4 := (valuesPart i arg3 harg3 arg4 harg4 hx2 hx3 0 (by omega) (b := inb_S4x128x64_S1x128x64_0_0_0) (b' := inb_S4x128x64_S1x128x64_0_0_0))
  have h5 := (valuesPart i arg3 harg3 arg4 harg4 hx2 hx3 1 (by omega) (b := inb_S4x128x64_S1x128x64_1_0_0) (b' := inb_S4x128x64_S1x128x64_1_0_0))
  have h6 := (valuesPart i arg3 harg3 arg4 harg4 hx2 hx3 2 (by omega) (b := inb_S4x128x64_S1x128x64_2_0_0) (b' := inb_S4x128x64_S1x128x64_2_0_0))
  have h7 := (valuesPart i arg3 harg3 arg4 harg4 hx2 hx3 3 (by omega) (b := inb_S4x128x64_S1x128x64_3_0_0) (b' := inb_S4x128x64_S1x128x64_3_0_0))
  let f : ℕ → ℕ → ℝ := fun _ y => dbkvPart A (i 0).val y
  have g0 : Is2 (View.canon (kernelRun2_A.sl.H5_1 (F := Ideal))) (upTo2 0 f) := fun z => zeros2 z
  have g1 : Is2 (View.canon (kernelRun2_A.sl.H5_2 c i arg1 harg1 arg2 harg2 arg6 x0 x1)) (upTo2 64 f) := grow (p := 0) g0 (dbkvPiece i (p := 0) h0) (q := 64) rfl
  have g2 : Is2 (View.canon (kernelRun2_A.sl.H5_3 c i arg1 harg1 arg2 harg2 arg6 x0 x1)) (upTo2 128 f) := grow (p := 64) g1 (dbkvPiece i (p := 64) h1) (q := 128) rfl
  have g3 : Is2 (View.canon (kernelRun2_A.sl.H5_4 c i arg1 harg1 arg2 harg2 arg6 x0 x1)) (upTo2 192 f) := grow (p := 128) g2 (dbkvPiece i (p := 128) h2) (q := 192) rfl
  have g4 : Is2 (View.canon (kernelRun2_A.sl.H5_5 c i arg1 harg1 arg2 harg2 arg6 x0 x1)) (upTo2 256 f) := grow (p := 192) g3 (dbkvPiece i (p := 192) h3) (q := 256) rfl
  have g5 : Is2 (View.canon (kernelRun2_A.sl.H5_6 c i arg1 harg1 arg2 harg2 arg3 harg3 arg4 harg4 arg6 x0 x1 x2 x3)) (upTo2 320 f) := grow (p := 256) g4 (dbkvPiece i (p := 256) h4) (q := 320) rfl
  have g6 : Is2 (View.canon (kernelRun2_A.sl.H5_7 c i arg1 harg1 arg2 harg2 arg3 harg3 arg4 harg4 arg6 x0 x1 x2 x3)) (upTo2 384 f) := grow (p := 320) g5 (dbkvPiece i (p := 320) h5) (q := 384) rfl
  have g7 : Is2 (View.canon (kernelRun2_A.sl.H5_8 c i arg1 harg1 arg2 harg2 arg3 harg3 arg4 harg4 arg6 x0 x1 x2 x3)) (upTo2 448 f) := grow (p := 384) g6 (dbkvPiece i (p := 384) h6) (q := 448) rfl
  refine (grow (p := 448) g7 (dbkvPiece i (p := 448) h7) (q := 512) rfl y).trans (congrArg Real.toEReal (if_pos ?_))
  exact (y 1).isLt

end Body

end Cert.Core

end
-- ==== Proof.CoreRun2.lean ====
/- The kernel that folds the shares of keys and values over its grid: what its results hold at its end. -/
module

public import proofs.«01_k».proof.Proof.Place
public import proofs.«01_k».proof.Proof.CoreKv

@[expose] public section

set_option maxRecDepth 16384

noncomputable section

namespace Cert.Core

open Cert.AttnIdeal Cert.AttnIdeal.Gen Idealize.ShloMosaic Idealize.ShloMosaic.TcCoe Idealize.ShloMosaic.Tactic Idealize.SL.Sem Cert.Lift Cert.Mat Cert.Prod

theorem prev2 : ∀ t : Fin grid2.N, ¬t.val % 16 = 0 → (grid2.coords ⟨t.val - 1, Nat.lt_of_le_of_lt (Nat.sub_le _ _) t.isLt⟩ 0).val + 1 = (grid2.coords t 0).val := by decide +kernel
theorem first2 : ∀ t : Fin grid2.N, t.val % 16 = 0 → (grid2.coords t 0).val = 0 := by decide +kernel
theorem last2 : ∀ t : Fin grid2.N, t.val % 16 = 15 → (grid2.coords t 0).val = 15 := by decide +kernel

variable (V : (c : Dev nD) → (b : Ref sig .tc) → Buf (Elt Ideal) ((c : Thread nD τ).loc b)) (c : Dev nD) {A : Args}
  (h0 : Is3 (a := 4) (b := 2048) (c := 64) (V c main_v16_2) (fun e x d => dkb near A e (x / 128) (128 + x % 128) d))
  (h1 : Is3 (a := 4) (b := 2048) (c := 64) (V c main_v16_3) (fun e x d => dkb near A e (x / 128) (0 + x % 128) d))
  (h2 : Is3 (a := 4) (b := 2048) (c := 64) (V c main_v16_4) (fun e x d => dvb near A e (x / 128) (128 + x % 128) d))
  (h3 : Is3 (a := 4) (b := 2048) (c := 64) (V c main_v16_5) (fun e x d => dvb near A e (x / 128) (0 + x % 128) d))

theorem idx2_0 (t : Fin cfg2.N) : win2_0.index t 0 = 0 ∧ win2_0.index t 1 = (grid2.coords t 0).val ∧ win2_0.index t 2 = 0 :=
  (by decide +kernel : ∀ t : Fin grid2.N, win2_0.index t 0 = 0 ∧ win2_0.index t 1 = (grid2.coords t 0).val ∧ win2_0.index t 2 = 0) t
include h0 in
theorem in2_0 (t : Fin cfg2.N) : Is3 (a := 4) (b := 128) (c := 64) (iblk2 V c 0 t) (fun e r d => dkb near A e (grid2.coords t 0).val (128 + r) d) := fun y => by
  refine (h0 ((win2_0.rect t).emb y)).trans ?_
  obtain ⟨i0, i1, i2⟩ := idx2_0 t
  have e0 : ((win2_0.rect t).emb y 0).val = (y 0).val := win2_0.rect_emb_val_of_index_zero t 0 i0 y
  have e1 : ((win2_0.rect t).emb y 1).val = 128 * (grid2.coords t 0).val + (y 1).val := placed win2_0 t 1 i1 y
  have e2 : ((win2_0.rect t).emb y 2).val = (y 2).val := win2_0.rect_emb_val_of_index_zero t 2 i2 y
  have hy : (y 1).val < 128 := (y 1).isLt
  try dsimp only
  rw [e0, e1, e2, show (128 * (grid2.coords t 0).val + (y 1).val) / 128 = (grid2.coords t 0).val from by omega, show (128 * (grid2.coords t 0).val + (y 1).val) % 128 = (y 1).val from by omega]

theorem idx2_1 (t : Fin cfg2.N) : win2_1.index t 0 = 0 ∧ win2_1.index t 1 = (min ((grid2.coords t 0).val + 1) 15) ∧ win2_1.index t 2 = 0 :=
  (by decide +kernel : ∀ t : Fin grid2.N, win2_1.index t 0 = 0 ∧ win2_1.index t 1 = (min ((grid2.coords t 0).val + 1) 15) ∧ win2_1.index t 2 = 0) t
include h1 in
theorem in2_1 (t : Fin cfg2.N) : Is3 (a := 4) (b := 128) (c := 64) (iblk2 V c 1 t) (fun e r d => dkb near A e (min ((grid2.coords t 0).val + 1) 15) (0 + r) d) := fun y => by
  refine (h1 ((win2_1.rect t).emb y)).trans ?_
  obtain ⟨i0, i1, i2⟩ := idx2_1 t
  have e0 : ((win2_1.rect t).emb y 0).val = (y 0).val := win2_1.rect_emb_val_of_index_zero t 0 i0 y
  have e1 : ((win2_1.rect t).emb y 1).val = 128 * (min ((grid2.coords t 0).val + 1) 15) + (y 1).val := placed win2_1 t 1 i1 y
  have e2 : ((win2_1.rect t).emb y 2).val = (y 2).val := win2_1.rect_emb_val_of_index_zero t 2 i2 y
  have hy : (y 1).val < 128 := (y 1).isLt
  try dsimp only
  rw [e0, e1, e2, show (128 * (min ((grid2.coords t 0).val + 1) 15) + (y 1).val) / 128 = (min ((grid2.coords t 0).val + 1) 15) from by omega, show (128 * (min ((grid2.coords t 0).val + 1) 15) + (y 1).val) % 128 = (y 1).val from by omega]

theorem idx2_2 (t : Fin cfg2.N) : win2_2.index t 0 = 0 ∧ win2_2.index t 1 = (grid2.coords t 0).val ∧ win2_2.index t 2 = 0 :=
  (by decide +kernel : ∀ t : Fin grid2.N, win2_2.index t 0 = 0 ∧ win2_2.index t 1 = (grid2.coords t 0).val ∧ win2_2.index t 2 = 0) t
include h2 in
theorem in2_2 (t : Fin cfg2.N) : Is3 (a := 4) (b := 128) (c := 64) (iblk2 V c 2 t) (fun e r d => dvb near A e (grid2.coords t 0).val (128 + r) d) := fun y => by
  refine (h2 ((win2_2.rect t).emb y)).trans ?_
  obtain ⟨i0, i1, i2⟩ := idx2_2 t
  have e0 : ((win2_2.rect t).emb y 0).val = (y 0).val := win2_2.rect_emb_val_of_index_zero t 0 i0 y
  have e1 : ((win2_2.rect t).emb y 1).val = 128 * (grid2.coords t 0).val + (y 1).val := placed win2_2 t 1 i1 y
  have e2 : ((win2_2.rect t).emb y 2).val = (y 2).val := win2_2.rect_emb_val_of_index_zero t 2 i2 y
  have hy : (y 1).val < 128 := (y 1).isLt
  try dsimp only
  rw [e0, e1, e2, show (128 * (grid2.coords t 0).val + (y 1).val) / 128 = (grid2.coords t 0).val from by omega, show (128 * (grid2.coords t 0).val + (y 1).val) % 128 = (y 1).val from by omega]

theorem idx2_3 (t : Fin cfg2.N) : win2_3.index t 0 = 0 ∧ win2_3.index t 1 = (min ((grid2.coords t 0).val + 1) 15) ∧ win2_3.index t 2 = 0 :=
  (by decide +kernel : ∀ t : Fin grid2.N, win2_3.index t 0 = 0 ∧ win2_3.index t 1 = (min ((grid2.coords t 0).val + 1) 15) ∧ win2_3.index t 2 = 0) t
include h3 in
theorem in2_3 (t : Fin cfg2.N) : Is3 (a := 4) (b := 128) (c := 64) (iblk2 V c 3 t) (fun e r d => dvb near A e (min ((grid2.coords t 0).val + 1) 15) (0 + r) d) := fun y => by
  refine (h3 ((win2_3.rect t).emb y)).trans ?_
  obtain ⟨i0, i1, i2⟩ := idx2_3 t
  have e0 : ((win2_3.rect t).emb y 0).val = (y 0).val := win2_3.rect_emb_val_of_index_zero t 0 i0 y
  have e1 : ((win2_3.rect t).emb y 1).val = 128 * (min ((grid2.coords t 0).val + 1) 15) + (y 1).val := placed win2_3 t 1 i1 y
  have e2 : ((win2_3.rect t).emb y 2).val = (y 2).val := win2_3.rect_emb_val_of_index_zero t 2 i2 y
  have hy : (y 1).val < 128 := (y 1).isLt
  try dsimp only
  rw [e0, e1, e2, show (128 * (min ((grid2.coords t 0).val + 1) 15) + (y 1).val) / 128 = (min ((grid2.coords t 0).val + 1) 15) from by omega, show (128 * (min ((grid2.coords t 0).val + 1) 15) + (y 1).val) % 128 = (y 1).val from by omega]

include h0 h1 h2 h3 in
theorem blk2_4 (t : Fin cfg2.N) (y : S128x512.Idx) : (outsAt2 V c t.val t.isLt).1 y = ((dkv near A (128 * (grid2.coords t 0).val + (y 0).val) (y 1).val : ℝ) : EReal) := by
  by_cases hz : t.val % 16 = 0
  · refine (congrArg (fun o => o.1 y) (outsAt2_A V c t hz)).trans ?_
    dsimp only
    exact sum4A _ _ _ _ _ _ _ _ _ _ _ _ _ _ ((hcond2_0 (t)).mpr hz) (in2_0 V c h0 (t)) (in2_1 V c h1 (t)) (in2_2 V c h2 (t)) (in2_3 V c h3 (t)) y
  · refine (congrArg (fun o => o.1 y) (outsAt2_B V c t hz)).trans ?_
    dsimp only
    exact sum4B _ _ _ _ _ _ _ _ _ _ _ _ _ _ (fun h => hz ((hcond2_0 (t)).mp h)) (in2_0 V c h0 (t)) (in2_1 V c h1 (t)) (in2_2 V c h2 (t)) (in2_3 V c h3 (t)) y
theorem idx2_4 (t : Fin cfg2.N) : win2_4.index t 0 = (grid2.coords t 0).val ∧ win2_4.index t 1 = 0 :=
  (by decide +kernel : ∀ t : Fin grid2.N, win2_4.index t 0 = (grid2.coords t 0).val ∧ win2_4.index t 1 = 0) t
include h0 h1 h2 h3 in
theorem array2_4 (i : S2048x512.Idx) : ((dat2 V c).arrAt 4 cfg2.N : S2048x512.Idx → EReal) i = ((dkv near A (i 0).val (i 1).val : ℝ) : EReal) := by
  refine (dat2 V c).arrAt_forall_of_covers 4 (fun (i : S2048x512.Idx) (v : EReal) => v = ((dkv near A (i 0).val (i 1).val : ℝ) : EReal)) (by decide +kernel) (fun t hf (y : S128x512.Idx) => ?_) i
  show (dat2 V c).after 4 t y = _
  rw [after2_4]
  obtain ⟨i0, i1⟩ := idx2_4 t
  have e0 : (((cfg2.win 4).blk t).view.emb y 0).val = 128 * (grid2.coords t 0).val + (y 0).val := placed win2_4 t 0 i0 y
  have e1 : (((cfg2.win 4).blk t).view.emb y 1).val = (y 1).val := win2_4.rect_emb_val_of_index_zero t 1 i1 y
  refine (blk2_4 V c h0 h1 h2 h3 t y).trans ?_
  rw [e0, e1]

include h0 h1 h2 h3 in
theorem acc2_5 : ∀ (n : ℕ) (hn : n < cfg2.N), Is2 (a := 1) (b := 512) (outsAt2 V c n hn).2 (fun _ y => ∑ k ∈ Finset.range ((grid2.coords ⟨n, hn⟩ 0).val + 1), dbkvPart A k y) := by
  intro n
  induction n using Nat.strong_induction_on with
  | _ n ih =>
    intro hn y
    by_cases hz : (⟨n, hn⟩ : Fin cfg2.N).val % 16 = 0
    · refine (congrArg (fun o => o.2 y) (outsAt2_A V c ⟨n, hn⟩ hz)).trans ?_
      dsimp only
      refine (sum5A _ _ _ _ _ _ _ _ _ _ _ _ _ _ ((hcond2_0 (⟨n, hn⟩ : Fin cfg2.N)).mpr hz) (in2_0 V c h0 (⟨n, hn⟩ : Fin cfg2.N)) (in2_1 V c h1 (⟨n, hn⟩ : Fin cfg2.N)) (in2_2 V c h2 (⟨n, hn⟩ : Fin cfg2.N)) (in2_3 V c h3 (⟨n, hn⟩ : Fin cfg2.N)) y).trans ?_
      dsimp only
      rw [first2 ⟨n, hn⟩ hz, Finset.sum_range_succ, Finset.sum_range_zero, zero_add]
    · refine (congrArg (fun o => o.2 y) (outsAt2_B V c ⟨n, hn⟩ hz)).trans ?_
      dsimp only
      have hold := ih (n - 1) (by have : ¬n % 16 = 0 := hz; omega) (Nat.lt_of_le_of_lt (Nat.sub_le _ _) hn)
      refine (sum5B _ _ _ _ _ _ _ _ _ _ _ _ _ _ (fun h => hz ((hcond2_0 (⟨n, hn⟩ : Fin cfg2.N)).mp h)) (in2_0 V c h0 (⟨n, hn⟩ : Fin cfg2.N)) (in2_1 V c h1 (⟨n, hn⟩ : Fin cfg2.N)) (in2_2 V c h2 (⟨n, hn⟩ : Fin cfg2.N)) (in2_3 V c h3 (⟨n, hn⟩ : Fin cfg2.N)) hold y).trans ?_
      have hp := prev2 ⟨n, hn⟩ hz
      dsimp only at hp ⊢
      rw [hp, Finset.sum_range_succ]
theorem idx2_5 (t : Fin cfg2.N) : win2_5.index t 0 = 0 ∧ win2_5.index t 1 = 0 :=
  (by decide +kernel : ∀ t : Fin grid2.N, win2_5.index t 0 = 0 ∧ win2_5.index t 1 = 0) t
include h0 h1 h2 h3 in
theorem array2_5 (i : S1x512.Idx) : ((dat2 V c).arrAt 5 cfg2.N : S1x512.Idx → EReal) i = ((dbkv near A (i 1).val : ℝ) : EReal) := by
  refine (dat2 V c).arrAt_forall_of_covers 5 (fun (i : S1x512.Idx) (v : EReal) => v = ((dbkv near A (i 1).val : ℝ) : EReal)) (by decide +kernel) (fun t hf (y : S1x512.Idx) => ?_) i
  show (dat2 V c).after 5 t y = _
  rw [after2_5]
  obtain ⟨i0, i1⟩ := idx2_5 t
  have e0 : (((cfg2.win 5).blk t).view.emb y 0).val = (y 0).val := win2_5.rect_emb_val_of_index_zero t 0 i0 y
  have e1 : (((cfg2.win 5).blk t).view.emb y 1).val = (y 1).val := win2_5.rect_emb_val_of_index_zero t 1 i1 y
  refine (acc2_5 V c h0 h1 h2 h3 t.val t.isLt y).trans ?_
  dsimp only
  rw [last2 t ((flush2_5 t).mp hf), e1]
  exact congrArg (fun v : ℝ => (v : EReal)) (Finset.sum_range _)

end Cert.Core

end
-- ==== Proof.CoreRefBand.lean ====
/- The reference's two blocks of keys and of values, its heads, and which keys a query sees. -/
module

public import proofs.«01_k».proof.Proof.CoreSpec
public import proofs.«01_k».proof.Proof.Five
public import proofs.«01_k».proof.Proof.Gen.AttnReferenceIdeal.Read

@[expose] public section

noncomputable section

namespace Cert.CoreRef

open Cert.AttnReferenceIdeal Cert.AttnReferenceIdeal.Gen Cert.AttnReferenceIdeal.Read Idealize.ShloMosaic Cert.Lift Cert.Prod Cert.Core

theorem rd2 {a b : ℕ} {v : (⟨2, ![a, b]⟩ : Shape).Idx → EReal} {f : ℕ → ℕ → ℝ} (hv : ∀ i, v i = ((f (i 0).val (i 1).val : ℝ) : EReal)) {j} {x y : ℕ} (e0 : (j 0).val = x) (e1 : (j 1).val = y) :
    v j = ((f x y : ℝ) : EReal) := by
  subst e0 e1; exact hv j
theorem rd3 {a b c : ℕ} {v : (⟨3, ![a, b, c]⟩ : Shape).Idx → EReal} {f : ℕ → ℕ → ℕ → ℝ} (hv : ∀ i, v i = ((f (i 0).val (i 1).val (i 2).val : ℝ) : EReal)) {j} {x y z : ℕ}
    (e0 : (j 0).val = x) (e1 : (j 1).val = y) (e2 : (j 2).val = z) : v j = ((f x y z : ℝ) : EReal) := by
  subst e0 e1 e2; exact hv j
theorem rd4 {a b c d : ℕ} {v : (⟨4, ![a, b, c, d]⟩ : Shape).Idx → EReal} {f : ℕ → ℕ → ℕ → ℕ → ℝ} (hv : ∀ i, v i = ((f (i 0).val (i 1).val (i 2).val (i 3).val : ℝ) : EReal)) {j} {x y z w : ℕ}
    (e0 : (j 0).val = x) (e1 : (j 1).val = y) (e2 : (j 2).val = z) (e3 : (j 3).val = w) : v j = ((f x y z w : ℝ) : EReal) := by
  subst e0 e1 e2 e3; exact hv j
theorem rd5 {a b c d e : ℕ} {v : (⟨5, ![a, b, c, d, e]⟩ : Shape).Idx → EReal} {f : ℕ → ℕ → ℕ → ℕ → ℕ → ℝ} (hv : ∀ i, v i = ((f (i 0).val (i 1).val (i 2).val (i 3).val (i 4).val : ℝ) : EReal)) {j}
    {x y z w u : ℕ} (e0 : (j 0).val = x) (e1 : (j 1).val = y) (e2 : (j 2).val = z) (e3 : (j 3).val = w) (e4 : (j 4).val = u) : v j = ((f x y z w u : ℝ) : EReal) := by
  subst e0 e1 e2 e3 e4; exact hv j

/-- Head `g` of those that read key head `e`, in block `c`. -/
def hd (A : Args) (c e g : ℕ) : Head where
  q r d := A.q (128 * c + r) (64 * (8 * e + g) + d)
  k := padded A.k e c
  v := padded A.v e c
  o r d := A.o (128 * c + r) (64 * (8 * e + g) + d)
  b := A.b (8 * e + g)
  s := A.s (8 * e + g)
  ok := okAt c

theorem hd_eq (A : Args) (c e : ℕ) {g : ℕ} (hg : g < 8) : hd A c e g = head padded A c (8 * e + g) := by
  have h : (8 * e + g) / 8 = e := by omega
  unfold hd head
  rw [h]

variable {x0 x5 : (⟨S2048x2048, .bf16⟩ : BufTy).Contents (Elt Ideal)} {x1 x2 : (⟨S4x2048x64, .bf16⟩ : BufTy).Contents (Elt Ideal)}
  {x3 : (⟨S32x128x256, .f32⟩ : BufTy).Contents (Elt Ideal)} {x4 : (⟨S32, .f32⟩ : BufTy).Contents (Elt Ideal)} {A : Args}
  (h0 : ∀ i : S2048x2048.Idx, x0 i = ((A.q (i 0).val (i 1).val : ℝ) : EReal)) (h1 : ∀ i : S4x2048x64.Idx, x1 i = ((A.k (i 0).val (i 1).val (i 2).val : ℝ) : EReal))
  (h2 : ∀ i : S4x2048x64.Idx, x2 i = ((A.v (i 0).val (i 1).val (i 2).val : ℝ) : EReal)) (h3 : ∀ i : S32x128x256.Idx, x3 i = ((A.b (i 0).val (i 1).val (i 2).val : ℝ) : EReal))
  (h4 : ∀ i : S32.Idx, x4 i = ((A.s (i 0).val : ℝ) : EReal)) (h5 : ∀ i : S2048x2048.Idx, x5 i = ((A.o (i 0).val (i 1).val : ℝ) : EReal))

include h1 in
theorem v1 (i : S2048x4x64.Idx) : val_main_v1 (F := Ideal) x1 i = ((A.k (i 1).val (i 0).val (i 2).val : ℝ) : EReal) :=
  (val_main_v1_apply x1 i).trans ((val_main_v0_apply x1 _).trans (h1 _))

include h0 in
theorem v5 (i : S16x128x4x8x64.Idx) : val_main_v5 (F := Ideal) x0 i = ((A.q (128 * (i 0).val + (i 1).val) (64 * (8 * (i 2).val + (i 3).val) + (i 4).val) : ℝ) : EReal) :=
  (val_main_v5_apply x0 i).trans ((val_main_v4_apply x0 _).trans (rd2 h0 (by have b0 : (i 0).val < 16 := (i 0).isLt; have b1 : (i 1).val < 128 := (i 1).isLt; have b2 : (i 2).val < 4 := (i 2).isLt; have b3 : (i 3).val < 8 := (i 3).isLt; have b4 : (i 4).val < 64 := (i 4).isLt; show (((((i 0).val * 128 + (i 1).val) * 4 + (i 2).val) * 8 + (i 3).val) * 64 + (i 4).val) / 2048 = 128 * (i 0).val + (i 1).val; omega) (by have b0 : (i 0).val < 16 := (i 0).isLt; have b1 : (i 1).val < 128 := (i 1).isLt; have b2 : (i 2).val < 4 := (i 2).isLt; have b3 : (i 3).val < 8 := (i 3).isLt; have b4 : (i 4).val < 64 := (i 4).isLt; show (((((i 0).val * 128 + (i 1).val) * 4 + (i 2).val) * 8 + (i 3).val) * 64 + (i 4).val) % 2048 = 64 * (8 * (i 2).val + (i 3).val) + (i 4).val; omega)))

include h1 in
theorem v7 (i : S2176x4x64.Idx) : val_main_v7 (F := Ideal) x1 i = (((if (i 0).val < 128 then 0 else A.k (i 1).val ((i 0).val - 128) (i 2).val) : ℝ) : EReal) := by
  have hi : (i 0).val < 2176 := (i 0).isLt
  unfold val_main_v7
  by_cases hlt : (i 0).val < 128
  · rw [if_pos hlt, concatenate_pair_apply_left _ _ _ concatenates_S128x4x64_S2048x4x64_S2176x4x64_d0 i rfl (ValueIdx.ix3 ⟨(i 0).val, hlt⟩ (i 1) (i 2)) (fun b => by fin_cases b <;> rfl)]
    exact (val_main_v6_apply _).trans ((val_main_cst_apply _).trans lit_zero)
  · rw [if_neg hlt, concatenate_pair_apply_right _ _ _ concatenates_S128x4x64_S2048x4x64_S2176x4x64_d0 i rfl rfl (ValueIdx.ix3 ⟨(i 0).val - 128, by omega⟩ (i 1) (i 2))
      (fun b hb => by fin_cases b <;> first | rfl | exact absurd rfl hb) (by show (i 0).val - 128 + 128 = (i 0).val; omega)]
    exact v1 h1 _

include h1 in
theorem v10 (i : S16x128x4x64.Idx) : val_main_v10 (F := Ideal) x1 i
    = (((if 128 * (i 0).val + (i 1).val < 128 then 0 else A.k (i 2).val (128 * (i 0).val + (i 1).val - 128) (i 3).val) : ℝ) : EReal) :=
  (val_main_v10_apply x1 i).trans ((val_main_v9_apply x1 _).trans (rd3 (f := fun x e d => if x < 128 then 0 else A.k e (x - 128) d) (v7 h1) (by have b0 : (i 0).val < 16 := (i 0).isLt; have b1 : (i 1).val < 128 := (i 1).isLt; have b2 : (i 2).val < 4 := (i 2).isLt; have b3 : (i 3).val < 64 := (i 3).isLt; show ((((i 0).val * 128 + (i 1).val) * 4 + (i 2).val) * 64 + (i 3).val) / 256 = 128 * (i 0).val + (i 1).val; omega) (by have b0 : (i 0).val < 16 := (i 0).isLt; have b1 : (i 1).val < 128 := (i 1).isLt; have b2 : (i 2).val < 4 := (i 2).isLt; have b3 : (i 3).val < 64 := (i 3).isLt; show ((((i 0).val * 128 + (i 1).val) * 4 + (i 2).val) * 64 + (i 3).val) / 64 % 4 = (i 2).val; omega) (by have b0 : (i 0).val < 16 := (i 0).isLt; have b1 : (i 1).val < 128 := (i 1).isLt; have b2 : (i 2).val < 4 := (i 2).isLt; have b3 : (i 3).val < 64 := (i 3).isLt; show ((((i 0).val * 128 + (i 1).val) * 4 + (i 2).val) * 64 + (i 3).val) % 64 = (i 3).val; omega)))

include h1 in
theorem v11 (i : S16x128x4x64.Idx) : val_main_v11 (F := Ideal) x1 i = ((A.k (i 2).val (128 * (i 0).val + (i 1).val) (i 3).val : ℝ) : EReal) :=
  (val_main_v11_apply x1 i).trans (rd3 (f := fun x e d => A.k e x d) (v1 h1) (by have b0 : (i 0).val < 16 := (i 0).isLt; have b1 : (i 1).val < 128 := (i 1).isLt; have b2 : (i 2).val < 4 := (i 2).isLt; have b3 : (i 3).val < 64 := (i 3).isLt; show ((((i 0).val * 128 + (i 1).val) * 4 + (i 2).val) * 64 + (i 3).val) / 256 = 128 * (i 0).val + (i 1).val; omega) (by have b0 : (i 0).val < 16 := (i 0).isLt; have b1 : (i 1).val < 128 := (i 1).isLt; have b2 : (i 2).val < 4 := (i 2).isLt; have b3 : (i 3).val < 64 := (i 3).isLt; show ((((i 0).val * 128 + (i 1).val) * 4 + (i 2).val) * 64 + (i 3).val) / 64 % 4 = (i 2).val; omega) (by have b0 : (i 0).val < 16 := (i 0).isLt; have b1 : (i 1).val < 128 := (i 1).isLt; have b2 : (i 2).val < 4 := (i 2).isLt; have b3 : (i 3).val < 64 := (i 3).isLt; show ((((i 0).val * 128 + (i 1).val) * 4 + (i 2).val) * 64 + (i 3).val) % 64 = (i 3).val; omega))

include h1 in
theorem v12 (i : S16x256x4x64.Idx) : val_main_v12 (F := Ideal) x1 i = ((padded A.k (i 2).val (i 0).val (i 1).val (i 3).val : ℝ) : EReal) := by
  have hi : (i 1).val < 256 := (i 1).isLt
  unfold val_main_v12 padded
  by_cases hlt : (i 1).val < 128
  · rw [if_pos hlt, concatenate_pair_apply_left _ _ _ concatenates_S16x128x4x64_S16x128x4x64_S16x256x4x64_d1 i rfl (ValueIdx.ix4 (i 0) ⟨(i 1).val, hlt⟩ (i 2) (i 3)) (fun b => by fin_cases b <;> rfl)]
    refine (v10 h1 _).trans (congrArg (fun v : ℝ => (v : EReal)) ?_)
    show (if 128 * (i 0).val + (i 1).val < 128 then 0 else A.k (i 2).val (128 * (i 0).val + (i 1).val - 128) (i 3).val) = _
    by_cases hc : (i 0).val = 0
    · rw [if_pos hc, if_pos (by omega)]
    · rw [if_neg hc, if_neg (by omega), show 128 * (i 0).val + (i 1).val - 128 = 128 * ((i 0).val - 1) + (i 1).val from by omega]
  · rw [if_neg hlt, concatenate_pair_apply_right _ _ _ concatenates_S16x128x4x64_S16x128x4x64_S16x256x4x64_d1 i rfl rfl (ValueIdx.ix4 (i 0) ⟨(i 1).val - 128, by omega⟩ (i 2) (i 3))
      (fun b hb => by fin_cases b <;> first | rfl | exact absurd rfl hb) (by show (i 1).val - 128 + 128 = (i 1).val; omega)]
    exact v11 h1 _

include h2 in
theorem v19 (i : S16x256x4x64.Idx) : val_main_v19 (F := Ideal) x2 i = ((padded A.v (i 2).val (i 0).val (i 1).val (i 3).val : ℝ) : EReal) :=
  (show val_main_v19 (F := Ideal) x2 i = val_main_v12 (F := Ideal) x2 i from rfl).trans (v12 (A := { A with k := A.v }) h2 i)

/-! ## Which keys a query sees -/

theorem toInt_small {n : ℕ} (hn : n < 4096) : (BitVec.ofNat 32 n).toInt = (n : ℤ) := by
  have h : (BitVec.ofNat 32 n).toNat = n := by rw [BitVec.toNat_ofNat]; exact Nat.mod_eq_of_lt (by omega)
  rw [BitVec.toInt_eq_toNat_of_lt (by rw [h]; omega), h]

theorem bit37 : ∀ (r : Fin 128) (t : Fin 256), IntOp.andi (IntOp.cmpi .sge (IntOp.subi (IntOp.addi (BitVec.ofNat 32 r.val) 128#32) (BitVec.ofNat 32 t.val)) 0#32)
    (IntOp.cmpi .slt (IntOp.subi (IntOp.addi (BitVec.ofNat 32 r.val) 128#32) (BitVec.ofNat 32 t.val)) 128#32) = if t.val ≤ r.val + 128 ∧ r.val < t.val then 1#1 else 0#1 := by decide +kernel
theorem bit50 : ∀ (c : Fin 16) (t : Fin 256), IntOp.cmpi .sge (IntOp.addi (IntOp.subi (IntOp.muli (BitVec.ofNat 32 c.val) 128#32) 128#32) (BitVec.ofNat 32 t.val)) 0#32
    = if t.val < 128 → 0 < c.val then 1#1 else 0#1 := by decide +kernel

theorem v37 (i : S128x256.Idx) : val_main_v37 (F := Ideal) i = if (i 1).val ≤ (i 0).val + 128 ∧ (i 0).val < (i 1).val then 1#1 else 0#1 := by
  simp only [val_main_v37_apply, val_main_v36_apply, val_main_v35_apply, val_main_v34_apply, val_main_v33_apply, val_main_v32_apply, val_main_v31_apply, val_main_v30_apply,
    val_main_v29_apply, val_main_v28_apply, val_main_v27_apply, val_main_v26_apply, val_main_v25_apply, val_main_v24_apply, val_main_c_apply, val_main_c_4_apply, val_main_c_5_apply]
  exact bit37 (i 0) (i 1)
theorem v50 (i : S16x256.Idx) : val_main_v50 (F := Ideal) i = if (i 1).val < 128 → 0 < (i 0).val then 1#1 else 0#1 := by
  simp only [val_main_v50_apply, val_main_v49_apply, val_main_v48_apply, val_main_v47_apply, val_main_v46_apply, val_main_v45_apply, val_main_v44_apply, val_main_v43_apply,
    val_main_v42_apply, val_main_v41_apply, val_main_v40_apply, val_main_v39_apply, val_main_v38_apply, val_main_c_6_apply, val_main_c_7_apply, val_main_c_8_apply]
  exact bit50 (i 0) (i 1)

theorem v61_1 (i : S16x4x8x128x256.Idx) : val_main_v61_1 (F := Ideal) i = if okAt (i 0).val (i 3).val (i 4).val then 1#1 else 0#1 := by
  simp only [val_main_v61_1_apply, val_main_v56_apply, val_main_v55_apply, val_main_v54_apply, val_main_v53_apply, val_main_v52_apply, val_main_v51_apply]
  refine (congrArg₂ IntOp.andi (v37 _) (v50 _)).trans ?_
  show IntOp.andi (if (i 4).val ≤ (i 3).val + 128 ∧ (i 3).val < (i 4).val then 1#1 else 0#1) (if (i 4).val < 128 → 0 < (i 0).val then 1#1 else 0#1) = _
  unfold okAt
  by_cases a : (i 4).val ≤ (i 3).val + 128 ∧ (i 3).val < (i 4).val
  · by_cases b : (i 4).val < 128 → 0 < (i 0).val
    · rw [if_pos a, if_pos b, if_pos (decide_eq_true ⟨a.1, a.2, b⟩)]; rfl
    · rw [if_pos a, if_neg b, if_neg (by rw [decide_eq_true_eq]; exact fun h => b h.2.2)]; rfl
  · rw [if_neg a, show decide ((i 4).val ≤ (i 3).val + 128 ∧ (i 3).val < (i 4).val ∧ ((i 4).val < 128 → 0 < (i 0).val)) = false from decide_eq_false fun h => a ⟨h.1, h.2.1⟩]
    by_cases b : (i 4).val < 128 → 0 < (i 0).val
    · rw [if_pos b]; rfl
    · rw [if_neg b]; rfl

end Cert.CoreRef

end
-- ==== Proof.CoreMask.lean ====
/- The attention's core: the bias as the host masks it, outside the band −∞. -/
module

public import proofs.«01_k».proof.Proof.CoreRun0
public import proofs.«01_k».proof.Proof.CoreRefBand

@[expose] public section

set_option maxRecDepth 16384

noncomputable section

namespace Cert.CoreAll

open Cert.AttnIdeal Cert.AttnIdeal.Gen Idealize.ShloMosaic Idealize.ShloMosaic.TcCoe Idealize.ShloMosaic.StableHlo Idealize.SL.Sem

/-- The host's mask of a band's columns. -/
theorem host_mask (V : Valuation τ sig (Elt Ideal)) : after hostOps0 V (Proc.devRef .tc main_v13) = Cert.AttnReferenceIdeal.Read.val_main_v37 (F := Ideal) := by
  simp only [hostOps0]
  after_results_simp
  rfl

theorem host_low (V : Valuation τ sig (Elt Ideal)) : after hostOps0 V (Proc.devRef .tc main_cst) = constant (F := Ideal) S_ .f32 0xFF800000#32 := by
  simp only [hostOps0]
  after_results_simp

theorem host_where (V : Valuation τ sig (Elt Ideal)) : after hostOps0_1 V (Proc.devRef .tc main_v14) =
    select (broadcastInDim S32x128x256 ![1, 2] bcast_S128x256_S32x128x256_1_2 (V (Proc.devRef .tc main_v13) : S128x256.Idx → BitVec 1))
      (V (Proc.devRef .tc main_arg3) : S32x128x256.Idx → EReal) (broadcastInDim S32x128x256 ![] bcast_S_S32x128x256 (V (Proc.devRef .tc main_cst) : S_.Idx → EReal)) := by
  simp only [hostOps0_1]
  after_results_simp
  rfl

variable (m : (ℓ : Loc nD τ sig) → Buf (Elt Ideal) ℓ) (ρ : Dev nD → PrngReg) (c : Dev nD)

theorem V2_bias : (V2 m ρ c main_v14 : S32x128x256.Idx → EReal) = select (broadcastInDim S32x128x256 ![1, 2] bcast_S128x256_S32x128x256_1_2 (Cert.AttnReferenceIdeal.Read.val_main_v37 (F := Ideal)))
    (m ((c : Thread nD τ).loc main_arg3) : S32x128x256.Idx → EReal) (broadcastInDim S32x128x256 ![] bcast_S_S32x128x256 (constant (F := Ideal) S_ .f32 0xFF800000#32)) := by
  refine (host_where (W1 m ρ c)).trans ?_
  rw [show W1 m ρ c (Proc.devRef .tc main_v13) = _ from host_mask (W0 m ρ c), show W1 m ρ c (Proc.devRef .tc main_cst) = _ from host_low (W0 m ρ c), W1_args m ρ c main_arg3 (by decide)]

end Cert.CoreAll

end
-- ==== Proof.CoreWhole.lean ====
/- The attention's core: what the host prepares, and the three kernels one after the other. -/
module

public import proofs.«01_k».proof.Proof.CoreRun0
public import proofs.«01_k».proof.Proof.CoreRun1
public import proofs.«01_k».proof.Proof.CoreRun2
public import proofs.«01_k».proof.Proof.CoreRefBand
public import proofs.«01_k».proof.Proof.CoreMask

@[expose] public section

set_option maxRecDepth 16384

noncomputable section

namespace Cert.CoreAll

open Cert.AttnIdeal Cert.AttnIdeal.Gen Idealize.ShloMosaic Idealize.ShloMosaic.TcCoe Idealize.SL.Sem Cert.Lift Cert.Mat Cert.Prod Cert.Core

variable (m : (ℓ : Loc nD τ sig) → Buf (Elt Ideal) ℓ) (ρ : Dev nD → PrngReg) (c : Dev nD) {A : Args}
  (h0 : ∀ i : S2048x2048.Idx, (m ((c : Thread nD τ).loc main_arg0) : S2048x2048.Idx → EReal) i = ((A.q (i 0).val (i 1).val : ℝ) : EReal))
  (h1 : ∀ i : S4x2048x64.Idx, (m ((c : Thread nD τ).loc main_arg1) : S4x2048x64.Idx → EReal) i = ((A.k (i 0).val (i 1).val (i 2).val : ℝ) : EReal))
  (h2 : ∀ i : S4x2048x64.Idx, (m ((c : Thread nD τ).loc main_arg2) : S4x2048x64.Idx → EReal) i = ((A.v (i 0).val (i 1).val (i 2).val : ℝ) : EReal))
  (h3 : ∀ i : S32x128x256.Idx, (m ((c : Thread nD τ).loc main_arg3) : S32x128x256.Idx → EReal) i = ((A.b (i 0).val (i 1).val (i 2).val : ℝ) : EReal))
  (h4 : ∀ i : S32.Idx, (m ((c : Thread nD τ).loc main_arg4) : S32.Idx → EReal) i = ((A.s (i 0).val : ℝ) : EReal))
  (h5 : ∀ i : S2048x2048.Idx, (m ((c : Thread nD τ).loc main_arg5) : S2048x2048.Idx → EReal) i = ((A.o (i 0).val (i 1).val : ℝ) : EReal))

/-! ## The arguments, and the bias the host masks -/

theorem bcast_mask (y : S128x256.Idx → BitVec 1) (i : S32x128x256.Idx) : broadcastInDim S32x128x256 ![1, 2] bcast_S128x256_S32x128x256_1_2 y i = y (ValueIdx.ix2 (i 1) (i 2)) :=
  broadcastInDim_apply _ bcast_S128x256_S32x128x256_1_2 y i (ValueIdx.ix2 (i 1) (i 2)) (fun a => match a with
    | ⟨0, _⟩ => by show (i 1).val = if (128 : Nat) = 1 then 0 else (i 1).val; rw [if_neg (by decide)]
    | ⟨1, _⟩ => by show (i 2).val = if (256 : Nat) = 1 then 0 else (i 2).val; rw [if_neg (by decide)])

include h3 in
theorem bias2 : At3 (a := 32) (b := 128) (c := 256) (V2 m ρ c main_v14) (windowed A.b) := fun i => by
  refine (congrFun (V2_bias m ρ c) i).trans ?_
  show Scalar.select (broadcastInDim S32x128x256 ![1, 2] bcast_S128x256_S32x128x256_1_2 (Cert.AttnReferenceIdeal.Read.val_main_v37 (F := Ideal)) i)
    ((m ((c : Thread nD τ).loc main_arg3) : S32x128x256.Idx → EReal) i) (Ideal.ofBits .f32 0xFF800000#32) = windowed A.b (i 0).val (i 1).val (i 2).val
  rw [bcast_mask, Cert.CoreRef.v37, h3, lit_bot]
  show Scalar.select (if (i 2).val ≤ (i 1).val + 128 ∧ (i 1).val < (i 2).val then 1#1 else 0#1) _ _ = windowed A.b (i 0).val (i 1).val (i 2).val
  unfold windowed
  split <;> rfl

include h0 in
theorem q2 : Is2 (a := 2048) (b := 2048) (V2 m ρ c main_arg0) A.q := fun i => (congrFun (W2_args m ρ c main_arg0 (by decide)) i).trans (h0 i)
include h0 in
theorem q3 : Is2 (a := 2048) (b := 2048) (V3 m ρ c main_arg0) A.q := fun i => (congrFun (W3_args m ρ c main_arg0 (by decide)) i).trans (h0 i)
include h1 in
theorem k2 : Is3 (a := 4) (b := 2048) (c := 64) (V2 m ρ c main_arg1) A.k := fun i => (congrFun (W2_args m ρ c main_arg1 (by decide)) i).trans (h1 i)
include h1 in
theorem k3 : Is3 (a := 4) (b := 2048) (c := 64) (V3 m ρ c main_arg1) A.k := fun i => (congrFun (W3_args m ρ c main_arg1 (by decide)) i).trans (h1 i)
include h2 in
theorem v2 : Is3 (a := 4) (b := 2048) (c := 64) (V2 m ρ c main_arg2) A.v := fun i => (congrFun (W2_args m ρ c main_arg2 (by decide)) i).trans (h2 i)
include h2 in
theorem v3 : Is3 (a := 4) (b := 2048) (c := 64) (V3 m ρ c main_arg2) A.v := fun i => (congrFun (W3_args m ρ c main_arg2 (by decide)) i).trans (h2 i)
include h4 in
theorem s2 : Is1 (a := 32) (V2 m ρ c main_arg4) A.s := fun i => (congrFun (W2_args m ρ c main_arg4 (by decide)) i).trans (h4 i)
include h5 in
theorem o3 : Is2 (a := 2048) (b := 2048) (V3 m ρ c main_arg5) A.o := fun i => (congrFun (W3_args m ρ c main_arg5 (by decide)) i).trans (h5 i)

/-! ## After the forward kernel -/

include h0 h1 h3 h4 in
theorem probs3 : At4 (a := 4) (b := 16) (c := 1024) (d := 256) (V3 m ρ c main_v15_1) (fun e b R t => (((at8 A b e R).pr (R % 128) t : ℝ) : EReal)) := fun i =>
  (congrFun (hF0 m ρ c 8) i).symm.trans (array0_8 (V2 m ρ) c (q2 m ρ c h0) (k2 m ρ c h1) (bias2 m ρ c h3) (s2 m ρ c h4) i)
include h0 h1 h3 h4 in
theorem sinks3 : At4 (a := 4) (b := 16) (c := 1024) (d := 1) (V3 m ρ c main_v15_2) (fun e b R _ => (((at8 A b e R).es (R % 128) : ℝ) : EReal)) := fun i =>
  (congrFun (hF0 m ρ c 9) i).symm.trans (array0_9 (V2 m ρ) c (q2 m ρ c h0) (k2 m ρ c h1) (bias2 m ρ c h3) (s2 m ρ c h4) i)

/-! ## After the backward kernel -/

include h0 h1 h2 h3 h4 h5 in
theorem kcur : Is3 (a := 4) (b := 2048) (c := 64) (V4 m ρ c main_v16_2) (fun e x d => dkb near A e (x / 128) (128 + x % 128) d) := fun i =>
  (congrFun (hF1 m ρ c 10) i).symm.trans (array1_10 (V3 m ρ) c (q3 m ρ c h0) (o3 m ρ c h5) (v3 m ρ c h2) (probs3 m ρ c h0 h1 h3 h4) i)
include h0 h1 h2 h3 h4 h5 in
theorem kprev : Is3 (a := 4) (b := 2048) (c := 64) (V4 m ρ c main_v16_3) (fun e x d => dkb near A e (x / 128) (0 + x % 128) d) := fun i =>
  (congrFun (hF1 m ρ c 11) i).symm.trans (array1_11 (V3 m ρ) c (q3 m ρ c h0) (o3 m ρ c h5) (v3 m ρ c h2) (probs3 m ρ c h0 h1 h3 h4) i)
include h0 h1 h3 h4 h5 in
theorem vcur : Is3 (a := 4) (b := 2048) (c := 64) (V4 m ρ c main_v16_4) (fun e x d => dvb near A e (x / 128) (128 + x % 128) d) := fun i =>
  (congrFun (hF1 m ρ c 12) i).symm.trans (array1_12 (V3 m ρ) c (o3 m ρ c h5) (probs3 m ρ c h0 h1 h3 h4) i)
include h0 h1 h3 h4 h5 in
theorem vprev : Is3 (a := 4) (b := 2048) (c := 64) (V4 m ρ c main_v16_5) (fun e x d => dvb near A e (x / 128) (0 + x % 128) d) := fun i =>
  (congrFun (hF1 m ρ c 13) i).symm.trans (array1_13 (V3 m ρ) c (o3 m ρ c h5) (probs3 m ρ c h0 h1 h3 h4) i)

/-! ## The results -/

include h0 h1 h2 h3 h4 in
theorem attn_at (i : S2048x2048.Idx) : (W6 m ρ c (Proc.devRef .tc main_v15_0) : S2048x2048.Idx → EReal) i = ((attn near A (i 0).val (i 1).val : ℝ) : EReal) :=
  (congrFun ((W6_of m ρ c main_v15_0 (by decide)).trans ((W5_of m ρ c main_v15_0 (by decide)).trans (W4_of m ρ c main_v15_0 (by decide)))) i).trans
    ((congrFun (hF0 m ρ c 7) i).symm.trans (array0_7 (V2 m ρ) c (q2 m ρ c h0) (k2 m ρ c h1) (v2 m ρ c h2) (bias2 m ρ c h3) (s2 m ρ c h4) i))
include h0 h1 h2 h3 h4 h5 in
theorem dq_at (i : S2048x2048.Idx) : (W6 m ρ c (Proc.devRef .tc main_v16_0) : S2048x2048.Idx → EReal) i = ((dq near A (i 0).val (i 1).val : ℝ) : EReal) :=
  (congrFun ((W6_of m ρ c main_v16_0 (by decide)).trans (W5_of m ρ c main_v16_0 (by decide))) i).trans ((congrFun (hF1 m ρ c 8) i).symm.trans (array1_8 (V3 m ρ) c (o3 m ρ c h5) (k3 m ρ c h1) (v3 m ρ c h2) (probs3 m ρ c h0 h1 h3 h4) i))
include h0 h1 h2 h3 h4 h5 in
theorem dbq_at (i : S1x2048.Idx) : (W6 m ρ c (Proc.devRef .tc main_v16_1) : S1x2048.Idx → EReal) i = ((dbq near A (i 1).val : ℝ) : EReal) :=
  (congrFun ((W6_of m ρ c main_v16_1 (by decide)).trans (W5_of m ρ c main_v16_1 (by decide))) i).trans ((congrFun (hF1 m ρ c 9) i).symm.trans (array1_9 (V3 m ρ) c (o3 m ρ c h5) (k3 m ρ c h1) (v3 m ρ c h2) (probs3 m ρ c h0 h1 h3 h4) i))
include h0 h1 h2 h3 h4 h5 in
theorem dbias_at (i : S32x128x256.Idx) : (W6 m ρ c (Proc.devRef .tc main_v16_6) : S32x128x256.Idx → EReal) i = ((dbias near A (i 0).val (i 1).val (i 2).val : ℝ) : EReal) :=
  (congrFun ((W6_of m ρ c main_v16_6 (by decide)).trans (W5_of m ρ c main_v16_6 (by decide))) i).trans ((congrFun (hF1 m ρ c 14) i).symm.trans (array1_14 (V3 m ρ) c (o3 m ρ c h5) (v3 m ρ c h2) (probs3 m ρ c h0 h1 h3 h4) i))
include h0 h1 h2 h3 h4 h5 in
theorem dkv_at (i : S2048x512.Idx) : (W6 m ρ c (Proc.devRef .tc main_v17_0) : S2048x512.Idx → EReal) i = ((dkv near A (i 0).val (i 1).val : ℝ) : EReal) :=
  (congrFun (W6_of m ρ c main_v17_0 (by decide)) i).trans ((congrFun (hF2 m ρ c 4) i).symm.trans (array2_4 (V4 m ρ) c (kcur m ρ c h0 h1 h2 h3 h4 h5) (kprev m ρ c h0 h1 h2 h3 h4 h5) (vcur m ρ c h0 h1 h3 h4 h5) (vprev m ρ c h0 h1 h3 h4 h5) i))
include h0 h1 h2 h3 h4 h5 in
theorem dbkv_at (i : S1x512.Idx) : (W6 m ρ c (Proc.devRef .tc main_v17_1) : S1x512.Idx → EReal) i = ((dbkv near A (i 1).val : ℝ) : EReal) :=
  (congrFun (W6_of m ρ c main_v17_1 (by decide)) i).trans ((congrFun (hF2 m ρ c 5) i).symm.trans (array2_5 (V4 m ρ) c (kcur m ρ c h0 h1 h2 h3 h4 h5) (kprev m ρ c h0 h1 h2 h3 h4 h5) (vcur m ρ c h0 h1 h3 h4 h5) (vprev m ρ c h0 h1 h3 h4 h5) i))

theorem V6_sink : (W6 m ρ c (Proc.devRef .tc main_v18) : S32.Idx → EReal) = shapeCast S32 (W5 m ρ c (Proc.devRef .tc main_v16_7) : S4x1x8.Idx → EReal) shapeCasts_S4x1x8_S32 := rfl

include h0 h1 h2 h3 h4 h5 in
theorem sink4 (i : S4x1x8.Idx) : (W5 m ρ c (Proc.devRef .tc main_v16_7) : S4x1x8.Idx → EReal) i = ((dsink near A (8 * (i 0).val + (i 2).val) : ℝ) : EReal) :=
  (congrFun (W5_of m ρ c main_v16_7 (by decide)) i).trans ((congrFun (hF1 m ρ c 15) i).symm.trans (array1_15 (V3 m ρ) c (o3 m ρ c h5) (v3 m ρ c h2) (probs3 m ρ c h0 h1 h3 h4) (sinks3 m ρ c h0 h1 h3 h4) i))

include h0 h1 h2 h3 h4 h5 in
theorem dsink_at (i : S32.Idx) : (W6 m ρ c (Proc.devRef .tc main_v18) : S32.Idx → EReal) i = ((dsink near A (i 0).val : ℝ) : EReal) := by
  have hi : (i 0).val < 32 := (i 0).isLt
  refine (congrFun (V6_sink m ρ c) i).trans ((shapeCast_apply _ _ i (ValueIdx.ix3 ⟨(i 0).val / 8, by omega⟩ ⟨0, by decide⟩ ⟨(i 0).val % 8, by omega⟩) (by
    rw [Shape.rowMajor_val_one, Shape.rowMajor_val_three]
    show ((i 0).val / 8 * 1 + 0) * 8 + (i 0).val % 8 = (i 0).val
    omega)).trans ((sink4 m ρ c h0 h1 h2 h3 h4 h5 _).trans ?_))
  show ((dsink near A (8 * ((i 0).val / 8) + (i 0).val % 8) : ℝ) : EReal) = _
  rw [Nat.div_add_mod]

end Cert.CoreAll

end
-- ==== Proof.CoreLaunch.lean ====
/- The attention's core: a run of the program leaves in its results what its three kernels leave there. -/
module

public import proofs.«01_k».proof.Proof.Gen.AttnIdeal.Frame

@[expose] public section

set_option maxRecDepth 16384

noncomputable section

namespace Cert.CoreAll

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] (m : (ℓ : Loc nD τ sig) → Buf (Elt F) ℓ) (ρ : Dev nD → PrngReg)

set_option backward.isDefEq.respectTransparency.types false in
/-- Every buffer that outlives the kernels ends as the chain of the program's pieces leaves it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun _ h _ => h)

/-- What a run of the program leaves in its results and its arguments. -/
theorem run : θ_run defs (onTc (τ := τ) (main (F := F))) ⟨m, fun _ => 0, ρ⟩ (fun r => ∀ c : Dev nD,
      r.2.mem ((c.tc : Thread nD τ).loc main_v15_0) = W6 m ρ c (Proc.devRef .tc main_v15_0)
      ∧ r.2.mem ((c.tc : Thread nD τ).loc main_v16_0) = W6 m ρ c (Proc.devRef .tc main_v16_0)
      ∧ r.2.mem ((c.tc : Thread nD τ).loc main_v16_1) = W6 m ρ c (Proc.devRef .tc main_v16_1)
      ∧ r.2.mem ((c.tc : Thread nD τ).loc main_v17_0) = W6 m ρ c (Proc.devRef .tc main_v17_0)
      ∧ r.2.mem ((c.tc : Thread nD τ).loc main_v17_1) = W6 m ρ c (Proc.devRef .tc main_v17_1)
      ∧ r.2.mem ((c.tc : Thread nD τ).loc main_v16_6) = W6 m ρ c (Proc.devRef .tc main_v16_6)
      ∧ r.2.mem ((c.tc : Thread nD τ).loc main_v18) = W6 m ρ c (Proc.devRef .tc main_v18)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨h c _ (mem_uc main_v15_0 (by decide)), h c _ (mem_uc main_v16_0 (by decide)), h c _ (mem_uc main_v16_1 (by decide)), h c _ (mem_uc main_v17_0 (by decide)), h c _ (mem_uc main_v17_1 (by decide)), h c _ (mem_uc main_v16_6 (by decide)), h c _ (mem_uc main_v18 (by decide)),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c)⟩) (run_all m ρ)

end Cert.CoreAll

end
-- ==== Proof.CoreRefSoft.lean ====
/- The reference's scores, the weights they give, and the attention's output. -/
module

public import proofs.«01_k».proof.Proof.CoreRefBand
public import proofs.«01_k».proof.Proof.Stack
public import Idealize.ShloMosaic.Lib.KernelVsHost

@[expose] public section

noncomputable section

namespace Cert.CoreRef

open Cert.AttnReferenceIdeal Cert.AttnReferenceIdeal.Gen Cert.AttnReferenceIdeal.Read Idealize.ShloMosaic Cert.Lift Cert.Prod Cert.Core

theorem lit_8 : Ideal.ofBits .f32 0x41000000#32 = ((8 : ℝ) : EReal) := by simp [Ideal.ofBits, Ideal.ieee, -EReal.coe_mul]; norm_num

theorem rd1 {a : ℕ} {v : (⟨1, ![a]⟩ : Shape).Idx → EReal} {f : ℕ → ℝ} (hv : ∀ i, v i = ((f (i 0).val : ℝ) : EReal)) {j} {x : ℕ} (e0 : (j 0).val = x) : v j = ((f x : ℝ) : EReal) := by
  subst e0; exact hv j

variable {x0 x5 : (⟨S2048x2048, .bf16⟩ : BufTy).Contents (Elt Ideal)} {x1 x2 : (⟨S4x2048x64, .bf16⟩ : BufTy).Contents (Elt Ideal)}
  {x3 : (⟨S32x128x256, .f32⟩ : BufTy).Contents (Elt Ideal)} {x4 : (⟨S32, .f32⟩ : BufTy).Contents (Elt Ideal)} {A : Args}
  (h0 : ∀ i : S2048x2048.Idx, x0 i = ((A.q (i 0).val (i 1).val : ℝ) : EReal)) (h1 : ∀ i : S4x2048x64.Idx, x1 i = ((A.k (i 0).val (i 1).val (i 2).val : ℝ) : EReal))
  (h2 : ∀ i : S4x2048x64.Idx, x2 i = ((A.v (i 0).val (i 1).val (i 2).val : ℝ) : EReal)) (h3 : ∀ i : S32x128x256.Idx, x3 i = ((A.b (i 0).val (i 1).val (i 2).val : ℝ) : EReal))
  (h4 : ∀ i : S32.Idx, x4 i = ((A.s (i 0).val : ℝ) : EReal)) (h5 : ∀ i : S2048x2048.Idx, x5 i = ((A.o (i 0).val (i 1).val : ℝ) : EReal))

include h0 h1 in
theorem v20 (i : S16x4x256x128x8.Idx) : val_main_v20 (F := Ideal) x0 x1 i = (((∑ d : Fin 64, (hd A (i 0).val (i 1).val (i 4).val).q (i 3).val d.val * (hd A (i 0).val (i 1).val (i 4).val).k (i 2).val d.val) : ℝ) : EReal) := by
  refine (val_main_v20_apply _ _ _).trans (Eq.trans (Finset.sum_congr rfl fun k _ => ?_) (sumC _ _))
  exact (congrArg₂ (· * ·) (v12 h1 _) (v5 h0 _)).trans ((mulE _ _).trans (congrArg Real.toEReal (mul_comm _ _)))

include h0 h1 in
theorem v21 (i : S16x4x8x128x256.Idx) : val_main_v21 (F := Ideal) x0 x1 i = (((∑ d : Fin 64, (hd A (i 0).val (i 1).val (i 2).val).q (i 3).val d.val * (hd A (i 0).val (i 1).val (i 2).val).k (i 4).val d.val) : ℝ) : EReal) :=
  (val_main_v21_apply _ _ _).trans (v20 h0 h1 _)

theorem v22 (i : S16x4x8x128x256.Idx) : val_main_v22 (F := Ideal) i = ((8 : ℝ) : EReal) :=
  (val_main_v22_apply _).trans ((val_main_cst_3_apply _).trans lit_8)

include h0 h1 in
theorem v23 (i : S16x4x8x128x256.Idx) : val_main_v23 (F := Ideal) x0 x1 i = ((((∑ d : Fin 64, (hd A (i 0).val (i 1).val (i 2).val).q (i 3).val d.val * (hd A (i 0).val (i 1).val (i 2).val).k (i 4).val d.val) * (1 / 8)) : ℝ) : EReal) :=
  (val_main_v23_apply _ _ _).trans ((congrArg₂ (FloatOps.hostDivf (F := Ideal) (φ := .f32)) (v21 h0 h1 i) (v22 i)).trans ((hostDivC _ (by norm_num)).trans (congrArg Real.toEReal (div_eq_mul_one_div _ _))))

include h3 in
theorem v59 (i : S16x4x8x128x256.Idx) : val_main_v59 (F := Ideal) x3 i = ((((hd A (i 0).val (i 1).val (i 2).val).b (i 3).val (i 4).val) : ℝ) : EReal) :=
  (val_main_v59_apply _ _).trans ((val_main_v58_apply _ _).trans ((val_main_v57_apply _ _).trans (rd3 h3 (x := 8 * (i 1).val + (i 2).val) (y := (i 3).val) (z := (i 4).val) (by have b1 : (i 1).val < 4 := (i 1).isLt; have b2 : (i 2).val < 8 := (i 2).isLt; have b3 : (i 3).val < 128 := (i 3).isLt; have b4 : (i 4).val < 256 := (i 4).isLt; show ((((i 1).val * 8 + (i 2).val) * 128 + (i 3).val) * 256 + (i 4).val) / 32768 = _; omega) (by have b1 : (i 1).val < 4 := (i 1).isLt; have b2 : (i 2).val < 8 := (i 2).isLt; have b3 : (i 3).val < 128 := (i 3).isLt; have b4 : (i 4).val < 256 := (i 4).isLt; show ((((i 1).val * 8 + (i 2).val) * 128 + (i 3).val) * 256 + (i 4).val) / 256 % 128 = _; omega) (by have b1 : (i 1).val < 4 := (i 1).isLt; have b2 : (i 2).val < 8 := (i 2).isLt; have b3 : (i 3).val < 128 := (i 3).isLt; have b4 : (i 4).val < 256 := (i 4).isLt; show ((((i 1).val * 8 + (i 2).val) * 128 + (i 3).val) * 256 + (i 4).val) % 256 = _; omega))))

include h0 h1 h3 in
theorem v60 (i : S16x4x8x128x256.Idx) : val_main_v60 (F := Ideal) x0 x1 x3 i = ((((hd A (i 0).val (i 1).val (i 2).val).sc (i 3).val (i 4).val) : ℝ) : EReal) :=
  (val_main_v60_apply _ _ _ _).trans (congrArg₂ (FloatOps.addf (F := Ideal) (φ := .f32)) (v23 h0 h1 i) (v59 h3 i))

theorem hidden (i : S16x4x8x128x256.Idx) : val_main_call0_v2 (F := Ideal) i = ⊥ := (val_main_call0_v2_apply i).trans ((val_main_call0_v0_apply _).trans ((val_main_cst_9_apply _).trans lit_bot))

include h0 h1 h3 in
theorem v61_0 (i : S16x4x8x128x256.Idx) : val_main_v61_0 (F := Ideal) x0 x1 x3 i = (hd A (i 0).val (i 1).val (i 2).val).sE (i 3).val (i 4).val := by
  refine (val_main_v61_0_apply _ _ _ _).trans ?_
  rw [v61_1 i, v60 h0 h1 h3 i, hidden i]
  show Scalar.select (if okAt (i 0).val (i 3).val (i 4).val then 1#1 else 0#1) _ _ = if okAt (i 0).val (i 3).val (i 4).val then _ else _
  cases okAt (i 0).val (i 3).val (i 4).val <;> rfl

include h4 in
theorem v71 (i : S16x4x8x128x1.Idx) : val_main_v71 (F := Ideal) x4 i = ((((hd A (i 0).val (i 1).val (i 2).val).s) : ℝ) : EReal) :=
  (val_main_v71_apply _ _).trans ((val_main_v63_apply _ _).trans ((val_main_v62_apply _ _).trans (rd1 h4 (x := 8 * (i 1).val + (i 2).val) (by show (i 1).val * 8 + (i 2).val = _; omega))))

include h0 h1 h3 in
theorem v64 (i : S16x4x8x128.Idx) : val_main_v64 (F := Ideal) x0 x1 x3 i = (Finset.univ : Finset (Fin 256)).fold max ⊥ (fun t => (hd A (i 0).val (i 1).val (i 2).val).sE (i 3).val t.val) := by
  unfold val_main_v64
  have e := hostReduce_maximumf_eq_multiReduction (F := Ideal) (φ := .f32) (val_main_v61_0 (F := Ideal) x0 x1 x3) 0xFF800000#32 reducesTo_S16x4x8x128x256_S16x4x8x128_d4 h_S_ (by decide) (.inl rfl) rfl
  refine (congrFun e i).trans ((Ideal.multiReduction_maximumf_single _ _ _ _ _ i).trans ?_)
  rw [Ideal.ofBits_def, lit_bot]
  exact congrArg ((Finset.univ : Finset (Fin 256)).fold max ⊥) (funext fun k => v61_0 h0 h1 h3 _)

include h0 h1 h3 in
theorem v70 (i : S16x4x8x128x1.Idx) : val_main_v70 (F := Ideal) x0 x1 x3 i = (Finset.univ : Finset (Fin 256)).fold max ⊥ (fun t => (hd A (i 0).val (i 1).val (i 2).val).sE (i 3).val t.val) :=
  (val_main_v70_apply _ _ _ _).trans (v64 h0 h1 h3 _)

include h0 h1 h3 h4 in
theorem v72 (i : S16x4x8x128x1.Idx) : val_main_v72 (F := Ideal) x0 x1 x3 x4 i = ((((hd A (i 0).val (i 1).val (i 2).val).m (i 3).val) : ℝ) : EReal) :=
  (val_main_v72_apply _ _ _ _ _).trans ((congrArg₂ (FloatOps.maximumf (F := Ideal) (φ := .f32)) (v70 h0 h1 h3 i) (v71 h4 i)).trans ((hd A (i 0).val (i 1).val (i 2).val).mE_eq _))

include h0 h1 h3 h4 in
theorem v91 (i : S16x4x8x128x256.Idx) : val_main_v91 (F := Ideal) x0 x1 x3 x4 i = ((((hd A (i 0).val (i 1).val (i 2).val).m (i 3).val) : ℝ) : EReal) :=
  (val_main_v91_apply _ _ _ _ _).trans (v72 h0 h1 h3 h4 _)

include h0 h1 h3 h4 in
theorem v93 (i : S16x4x8x128x256.Idx) : val_main_v93 (F := Ideal) x0 x1 x3 x4 i = ((((hd A (i 0).val (i 1).val (i 2).val).p (i 3).val (i 4).val) : ℝ) : EReal) :=
  (val_main_v93_apply _ _ _ _ _).trans ((congrArg (FloatOps.hostUnary (F := Ideal) (φ := .f32) .exp) ((val_main_v92_apply _ _ _ _ _).trans (congrArg₂ (FloatOps.subf (F := Ideal) (φ := .f32)) (v61_0 h0 h1 h3 i) (v91 h0 h1 h3 h4 i)))).trans ((hd A (i 0).val (i 1).val (i 2).val).exp_sE _ _))

include h0 h1 h3 h4 in
theorem v94 (i : S16x4x8x128.Idx) : val_main_v94 (F := Ideal) x0 x1 x3 x4 i = (((∑ t : Fin 256, (hd A (i 0).val (i 1).val (i 2).val).p (i 3).val t.val) : ℝ) : EReal) :=
  (val_main_v94_apply _ _ _ _ _).trans ((congrArg₂ (· + ·) ((val_main_cst_18_apply _).trans lit_zero) ((Finset.sum_congr rfl fun k _ => (v93 h0 h1 h3 h4 _)).trans (sumC _ _))).trans ((addE _ _).trans (congrArg Real.toEReal (zero_add _))))

include h0 h1 h3 h4 in
theorem v95 (i : S16x4x8x128x1.Idx) : val_main_v95 (F := Ideal) x0 x1 x3 x4 i = (((∑ t : Fin 256, (hd A (i 0).val (i 1).val (i 2).val).p (i 3).val t.val) : ℝ) : EReal) :=
  (val_main_v95_apply _ _ _ _ _).trans (v94 h0 h1 h3 h4 _)

include h4 in
theorem v96 (i : S16x4x8x128x1.Idx) : val_main_v96 (F := Ideal) x4 i = ((((hd A (i 0).val (i 1).val (i 2).val).s) : ℝ) : EReal) :=
  (val_main_v96_apply _ _).trans ((val_main_v63_apply _ _).trans ((val_main_v62_apply _ _).trans (rd1 h4 (x := 8 * (i 1).val + (i 2).val) (by show (i 1).val * 8 + (i 2).val = _; omega))))

include h0 h1 h3 h4 in
theorem v98 (i : S16x4x8x128x1.Idx) : val_main_v98 (F := Ideal) x0 x1 x3 x4 i = ((((hd A (i 0).val (i 1).val (i 2).val).e0 (i 3).val) : ℝ) : EReal) :=
  (val_main_v98_apply _ _ _ _ _).trans (congrArg (FloatOps.hostUnary (F := Ideal) (φ := .f32) .exp) ((val_main_v97_apply _ _ _ _ _).trans (congrArg₂ (FloatOps.subf (F := Ideal) (φ := .f32)) (v96 h4 i) (v72 h0 h1 h3 h4 i))))

include h0 h1 h3 h4 in
theorem v99 (i : S16x4x8x128x1.Idx) : val_main_v99 (F := Ideal) x0 x1 x3 x4 i = ((((hd A (i 0).val (i 1).val (i 2).val).z (i 3).val) : ℝ) : EReal) :=
  (val_main_v99_apply _ _ _ _ _).trans (congrArg₂ (FloatOps.addf (F := Ideal) (φ := .f32)) (v95 h0 h1 h3 h4 i) (v98 h0 h1 h3 h4 i))

include h0 h1 h3 h4 in
theorem v100 (i : S16x4x8x128x256.Idx) : val_main_v100 (F := Ideal) x0 x1 x3 x4 i = ((((hd A (i 0).val (i 1).val (i 2).val).z (i 3).val) : ℝ) : EReal) :=
  (val_main_v100_apply _ _ _ _ _).trans (v99 h0 h1 h3 h4 _)

include h0 h1 h3 h4 in
theorem v101 (i : S16x4x8x128x256.Idx) : val_main_v101 (F := Ideal) x0 x1 x3 x4 i = ((((hd A (i 0).val (i 1).val (i 2).val).pr (i 3).val (i 4).val) : ℝ) : EReal) :=
  (val_main_v101_apply _ _ _ _ _).trans ((congrArg₂ (FloatOps.hostDivf (F := Ideal) (φ := .f32)) (v93 h0 h1 h3 h4 i) (v100 h0 h1 h3 h4 i)).trans ((hostDivC _ ((hd A (i 0).val (i 1).val (i 2).val).z_pos _).ne').trans (congrArg Real.toEReal (div_eq_mul_one_div _ _))))

include h0 h1 h3 h4 in
theorem v102 (i : S16x4x8x128x1.Idx) : val_main_v102 (F := Ideal) x0 x1 x3 x4 i = ((((hd A (i 0).val (i 1).val (i 2).val).z (i 3).val * (hd A (i 0).val (i 1).val (i 2).val).z (i 3).val) : ℝ) : EReal) :=
  (val_main_v102_apply _ _ _ _ _).trans (congrArg₂ (FloatOps.mulf (F := Ideal) (φ := .f32)) (v99 h0 h1 h3 h4 i) (v99 h0 h1 h3 h4 i))

theorem v103 (i : S16x4x8x128x1.Idx) : val_main_v103 (F := Ideal) i = ((1 : ℝ) : EReal) :=
  (val_main_v103_apply _).trans ((val_main_cst_19_apply _).trans lit_one)

include h0 h1 h3 h4 in
theorem v104 (i : S16x4x8x128x1.Idx) : val_main_v104 (F := Ideal) x0 x1 x3 x4 i = (((1 / ((hd A (i 0).val (i 1).val (i 2).val).z (i 3).val * (hd A (i 0).val (i 1).val (i 2).val).z (i 3).val)) : ℝ) : EReal) :=
  (val_main_v104_apply _ _ _ _ _).trans ((congrArg₂ (FloatOps.hostDivf (F := Ideal) (φ := .f32)) (v103 i) (v102 h0 h1 h3 h4 i)).trans (hostDivC _ (mul_ne_zero ((hd A (i 0).val (i 1).val (i 2).val).z_pos _).ne' ((hd A (i 0).val (i 1).val (i 2).val).z_pos _).ne')))

include h0 h1 h2 h3 h4 in
theorem v105 (i : S16x4x64x8x128.Idx) : val_main_v105 (F := Ideal) x0 x1 x2 x3 x4 i = ((((hd A (i 0).val (i 1).val (i 3).val).out (i 4).val (i 2).val) : ℝ) : EReal) := by
  refine (val_main_v105_apply _ _ _ _ _ _).trans (Eq.trans (Finset.sum_congr rfl fun k _ => ?_) (sumC _ _))
  exact (congrArg₂ (· * ·) (v19 h2 _) (v101 h0 h1 h3 h4 _)).trans ((mulE _ _).trans (congrArg Real.toEReal (mul_comm _ _)))

include h0 h1 h2 h3 h4 in
theorem v106 (i : S16x128x4x8x64.Idx) : val_main_v106 (F := Ideal) x0 x1 x2 x3 x4 i = ((((hd A (i 0).val (i 2).val (i 3).val).out (i 1).val (i 4).val) : ℝ) : EReal) :=
  (val_main_v106_apply _ _ _ _ _ _).trans (v105 h0 h1 h2 h3 h4 _)

include h0 h1 h2 h3 h4 in
theorem v107 (i : S2048x2048.Idx) : val_main_v107 (F := Ideal) x0 x1 x2 x3 x4 i = (((attn padded A (i 0).val (i 1).val) : ℝ) : EReal) := by
  refine (val_main_v107_apply _ _ _ _ _ _).trans ((rd5 (f := fun c r e g d => (hd A c e g).out r d) (v106 h0 h1 h2 h3 h4 ) (by have b0 : (i 0).val < 2048 := (i 0).isLt; have b1 : (i 1).val < 2048 := (i 1).isLt; show ((i 0).val * 2048 + (i 1).val) / 262144 = (i 0).val / 128; omega) (by have b0 : (i 0).val < 2048 := (i 0).isLt; have b1 : (i 1).val < 2048 := (i 1).isLt; show ((i 0).val * 2048 + (i 1).val) / 2048 % 128 = (i 0).val % 128; omega) (by have b0 : (i 0).val < 2048 := (i 0).isLt; have b1 : (i 1).val < 2048 := (i 1).isLt; show ((i 0).val * 2048 + (i 1).val) / 512 % 4 = (i 1).val / 512; omega) (by have b0 : (i 0).val < 2048 := (i 0).isLt; have b1 : (i 1).val < 2048 := (i 1).isLt; show ((i 0).val * 2048 + (i 1).val) / 64 % 8 = (i 1).val / 64 % 8; omega) (by have b0 : (i 0).val < 2048 := (i 0).isLt; have b1 : (i 1).val < 2048 := (i 1).isLt; show ((i 0).val * 2048 + (i 1).val) % 64 = (i 1).val % 64; omega)).trans ?_)
  dsimp only
  rw [hd_eq _ _ _ (Nat.mod_lt _ (by decide)), show 8 * ((i 1).val / 512) + (i 1).val / 64 % 8 = (i 1).val / 64 from by omega]
  rfl

include h0 h1 h2 h3 h4 in
theorem v178 (i : S2048x2048.Idx) : val_main_v178 (F := Ideal) x0 x1 x2 x3 x4 i = (((attn padded A (i 0).val (i 1).val) : ℝ) : EReal) :=
  (val_main_v178_apply _ _ _ _ _ _).trans (v107 h0 h1 h2 h3 h4 i)

end Cert.CoreRef

end
-- ==== Proof.CoreRefGrad.lean ====
/- The reference's gradients by the scores and by the queries. -/
module

public import proofs.«01_k».proof.Proof.CoreRefSoft

@[expose] public section

noncomputable section

namespace Cert.CoreRef

open Cert.AttnReferenceIdeal Cert.AttnReferenceIdeal.Gen Cert.AttnReferenceIdeal.Read Idealize.ShloMosaic Cert.Lift Cert.Prod Cert.Core

theorem negC (a : ℝ) : FloatOps.hostNegf (F := Ideal) (φ := .f32) ((a : ℝ) : EReal) = ((-a : ℝ) : EReal) := rfl
theorem zeroMul (x : EReal) : FloatOps.mulf (F := Ideal) (φ := .f32) ((0 : ℝ) : EReal) x = ((0 : ℝ) : EReal) := zero_mul x

theorem zmul {x : EReal} (y : EReal) (h : x = ((0 : ℝ) : EReal)) : FloatOps.mulf (F := Ideal) (φ := .f32) x y = ((0 : ℝ) : EReal) := by rw [h]; exact zero_mul y

theorem delta_div (H : Head) (r : ℕ) : (∑ t : Fin 256, H.dp r t.val * (1 / (H.z r * H.z r)) * H.p r t.val) = H.delta r / H.z r := by
  have hz := (H.z_pos r).ne'
  unfold Head.delta Head.pr
  rw [Finset.sum_div]
  exact Finset.sum_congr rfl fun t _ => by field_simp
theorem dsk_div (H : Head) (r : ℕ) : -(H.delta r / H.z r) * H.e0 r = H.dsk r := by unfold Head.dsk Head.es; ring
theorem ds_div (H : Head) (r t : ℕ) : (H.dp r t / H.z r + -(H.delta r / H.z r)) * H.p r t = H.ds r t := by unfold Head.ds Head.pr; ring
theorem total0 (H : Head) (r : ℕ) : -H.dsk r + ∑ t : Fin 256, -H.ds r t.val = 0 := by
  have h := H.total r
  have e : ∑ t : Fin 256, H.ds r t.val = H.delta r - ∑ t : Fin 256, H.pr r t.val * H.delta r :=
    (Finset.sum_congr rfl fun t _ => mul_sub _ _ _).trans (Finset.sum_sub_distrib _ _)
  rw [Finset.sum_neg_distrib, e]
  unfold Head.dsk
  linarith [mul_comm (H.delta r) (H.es r)]
theorem dq_eighth (H : Head) (r d : ℕ) : (∑ t : Fin 256, H.ds r t.val * (1 / 8) * H.k t.val d) = H.dq r d := by
  unfold Head.dq
  rw [Finset.sum_mul]
  exact Finset.sum_congr rfl fun t _ => by ring

variable {x0 x5 : (⟨S2048x2048, .bf16⟩ : BufTy).Contents (Elt Ideal)} {x1 x2 : (⟨S4x2048x64, .bf16⟩ : BufTy).Contents (Elt Ideal)}
  {x3 : (⟨S32x128x256, .f32⟩ : BufTy).Contents (Elt Ideal)} {x4 : (⟨S32, .f32⟩ : BufTy).Contents (Elt Ideal)} {A : Args}
  (h0 : ∀ i : S2048x2048.Idx, x0 i = ((A.q (i 0).val (i 1).val : ℝ) : EReal)) (h1 : ∀ i : S4x2048x64.Idx, x1 i = ((A.k (i 0).val (i 1).val (i 2).val : ℝ) : EReal))
  (h2 : ∀ i : S4x2048x64.Idx, x2 i = ((A.v (i 0).val (i 1).val (i 2).val : ℝ) : EReal)) (h3 : ∀ i : S32x128x256.Idx, x3 i = ((A.b (i 0).val (i 1).val (i 2).val : ℝ) : EReal))
  (h4 : ∀ i : S32.Idx, x4 i = ((A.s (i 0).val : ℝ) : EReal)) (h5 : ∀ i : S2048x2048.Idx, x5 i = ((A.o (i 0).val (i 1).val : ℝ) : EReal))

include h5 in
theorem v109 (i : S16x128x4x8x64.Idx) : val_main_v109 (F := Ideal) x5 i = (((A.o (128 * (i 0).val + (i 1).val) (64 * (8 * (i 2).val + (i 3).val) + (i 4).val)) : ℝ) : EReal) :=
  (val_main_v109_apply _ _).trans ((val_main_v108_apply _ _).trans (rd2 h5 (by have b0 : (i 0).val < 16 := (i 0).isLt; have b1 : (i 1).val < 128 := (i 1).isLt; have b2 : (i 2).val < 4 := (i 2).isLt; have b3 : (i 3).val < 8 := (i 3).isLt; have b4 : (i 4).val < 64 := (i 4).isLt; show (((((i 0).val * 128 + (i 1).val) * 4 + (i 2).val) * 8 + (i 3).val) * 64 + (i 4).val) / 2048 = 128 * (i 0).val + (i 1).val; omega) (by have b0 : (i 0).val < 16 := (i 0).isLt; have b1 : (i 1).val < 128 := (i 1).isLt; have b2 : (i 2).val < 4 := (i 2).isLt; have b3 : (i 3).val < 8 := (i 3).isLt; have b4 : (i 4).val < 64 := (i 4).isLt; show (((((i 0).val * 128 + (i 1).val) * 4 + (i 2).val) * 8 + (i 3).val) * 64 + (i 4).val) % 2048 = 64 * (8 * (i 2).val + (i 3).val) + (i 4).val; omega)))

include h5 in
theorem v110 (i : S16x4x64x8x128.Idx) : val_main_v110 (F := Ideal) x5 i = ((((hd A (i 0).val (i 1).val (i 3).val).o (i 4).val (i 2).val) : ℝ) : EReal) :=
  (val_main_v110_apply _ _).trans (v109 h5 _)

include h2 h5 in
theorem v111 (i : S16x4x8x128x256.Idx) : val_main_v111 (F := Ideal) x2 x5 i = ((((hd A (i 0).val (i 1).val (i 2).val).dp (i 3).val (i 4).val) : ℝ) : EReal) :=
  (val_main_v111_apply _ _ _).trans ((Finset.sum_congr rfl fun k _ => congrArg₂ (· * ·) (v110 h5 _) (v19 h2 _)).trans (sumC _ _))

include h0 h1 h3 h4 in
theorem v114 (i : S16x4x8x128x256.Idx) : val_main_v114 (F := Ideal) x0 x1 x3 x4 i = (((1 / ((hd A (i 0).val (i 1).val (i 2).val).z (i 3).val * (hd A (i 0).val (i 1).val (i 2).val).z (i 3).val)) : ℝ) : EReal) :=
  (val_main_v114_apply _ _ _ _ _).trans (v104 h0 h1 h3 h4 _)

include h0 h1 h2 h3 h4 h5 in
theorem v115 (i : S16x4x8x128x256.Idx) : val_main_v115 (F := Ideal) x0 x1 x2 x3 x4 x5 i = ((((hd A (i 0).val (i 1).val (i 2).val).dp (i 3).val (i 4).val * (1 / ((hd A (i 0).val (i 1).val (i 2).val).z (i 3).val * (hd A (i 0).val (i 1).val (i 2).val).z (i 3).val))) : ℝ) : EReal) :=
  (val_main_v115_apply _ _ _ _ _ _ _).trans (congrArg₂ (FloatOps.mulf (F := Ideal) (φ := .f32)) (v111 h2 h5 i) (v114 h0 h1 h3 h4 i))

include h0 h1 h2 h3 h4 h5 in
theorem v116 (i : S16x4x8x128x256.Idx) : val_main_v116 (F := Ideal) x0 x1 x2 x3 x4 x5 i = ((((hd A (i 0).val (i 1).val (i 2).val).dp (i 3).val (i 4).val * (1 / ((hd A (i 0).val (i 1).val (i 2).val).z (i 3).val * (hd A (i 0).val (i 1).val (i 2).val).z (i 3).val)) * (hd A (i 0).val (i 1).val (i 2).val).p (i 3).val (i 4).val) : ℝ) : EReal) :=
  (val_main_v116_apply _ _ _ _ _ _ _).trans (congrArg₂ (FloatOps.mulf (F := Ideal) (φ := .f32)) (v115 h0 h1 h2 h3 h4 h5 i) (v93 h0 h1 h3 h4 i))

include h0 h1 h2 h3 h4 h5 in
theorem v117 (i : S16x4x8x128.Idx) : val_main_v117 (F := Ideal) x0 x1 x2 x3 x4 x5 i = ((((hd A (i 0).val (i 1).val (i 2).val).delta (i 3).val / (hd A (i 0).val (i 1).val (i 2).val).z (i 3).val) : ℝ) : EReal) :=
  (val_main_v117_apply _ _ _ _ _ _ _).trans ((congrArg₂ (· + ·) ((val_main_cst_20_apply _).trans lit_zero) ((Finset.sum_congr rfl fun k _ => (v116 h0 h1 h2 h3 h4 h5 _)).trans (sumC _ _))).trans ((addE _ _).trans (congrArg Real.toEReal ((zero_add _).trans (delta_div (hd A (i 0).val (i 1).val (i 2).val) _)))))

include h0 h1 h2 h3 h4 h5 in
theorem v118 (i : S16x4x8x128x1.Idx) : val_main_v118 (F := Ideal) x0 x1 x2 x3 x4 x5 i = ((((hd A (i 0).val (i 1).val (i 2).val).delta (i 3).val / (hd A (i 0).val (i 1).val (i 2).val).z (i 3).val) : ℝ) : EReal) :=
  (val_main_v118_apply _ _ _ _ _ _ _).trans (rd4 (f := fun c e g r => (hd A c e g).delta r / (hd A c e g).z r) (v117 h0 h1 h2 h3 h4 h5 ) (by have b0 : (i 0).val < 16 := (i 0).isLt; have b1 : (i 1).val < 4 := (i 1).isLt; have b2 : (i 2).val < 8 := (i 2).isLt; have b3 : (i 3).val < 128 := (i 3).isLt; have b4 : (i 4).val < 1 := (i 4).isLt; show (((((i 0).val * 4 + (i 1).val) * 8 + (i 2).val) * 128 + (i 3).val) * 1 + (i 4).val) / 4096 = (i 0).val; omega) (by have b0 : (i 0).val < 16 := (i 0).isLt; have b1 : (i 1).val < 4 := (i 1).isLt; have b2 : (i 2).val < 8 := (i 2).isLt; have b3 : (i 3).val < 128 := (i 3).isLt; have b4 : (i 4).val < 1 := (i 4).isLt; show (((((i 0).val * 4 + (i 1).val) * 8 + (i 2).val) * 128 + (i 3).val) * 1 + (i 4).val) / 1024 % 4 = (i 1).val; omega) (by have b0 : (i 0).val < 16 := (i 0).isLt; have b1 : (i 1).val < 4 := (i 1).isLt; have b2 : (i 2).val < 8 := (i 2).isLt; have b3 : (i 3).val < 128 := (i 3).isLt; have b4 : (i 4).val < 1 := (i 4).isLt; show (((((i 0).val * 4 + (i 1).val) * 8 + (i 2).val) * 128 + (i 3).val) * 1 + (i 4).val) / 128 % 8 = (i 2).val; omega) (by have b0 : (i 0).val < 16 := (i 0).isLt; have b1 : (i 1).val < 4 := (i 1).isLt; have b2 : (i 2).val < 8 := (i 2).isLt; have b3 : (i 3).val < 128 := (i 3).isLt; have b4 : (i 4).val < 1 := (i 4).isLt; show (((((i 0).val * 4 + (i 1).val) * 8 + (i 2).val) * 128 + (i 3).val) * 1 + (i 4).val) % 128 = (i 3).val; omega))

include h0 h1 h2 h3 h4 h5 in
theorem v119 (i : S16x4x8x128x1.Idx) : val_main_v119 (F := Ideal) x0 x1 x2 x3 x4 x5 i = (((-((hd A (i 0).val (i 1).val (i 2).val).delta (i 3).val / (hd A (i 0).val (i 1).val (i 2).val).z (i 3).val)) : ℝ) : EReal) :=
  (val_main_v119_apply _ _ _ _ _ _ _).trans (congrArg (FloatOps.hostNegf (F := Ideal) (φ := .f32)) (v118 h0 h1 h2 h3 h4 h5 i))

include h0 h1 h3 h4 in
theorem v120 (i : S16x4x8x128x256.Idx) : val_main_v120 (F := Ideal) x0 x1 x3 x4 i = ((((hd A (i 0).val (i 1).val (i 2).val).z (i 3).val) : ℝ) : EReal) :=
  (val_main_v120_apply _ _ _ _ _).trans (v99 h0 h1 h3 h4 _)

include h0 h1 h2 h3 h4 h5 in
theorem v121 (i : S16x4x8x128x256.Idx) : val_main_v121 (F := Ideal) x0 x1 x2 x3 x4 x5 i = ((((hd A (i 0).val (i 1).val (i 2).val).dp (i 3).val (i 4).val / (hd A (i 0).val (i 1).val (i 2).val).z (i 3).val) : ℝ) : EReal) :=
  (val_main_v121_apply _ _ _ _ _ _ _).trans ((congrArg₂ (FloatOps.hostDivf (F := Ideal) (φ := .f32)) (v111 h2 h5 i) (v120 h0 h1 h3 h4 i)).trans (hostDivC _ ((hd A (i 0).val (i 1).val (i 2).val).z_pos _).ne'))

include h0 h1 h2 h3 h4 h5 in
theorem v122 (i : S16x4x8x128x1.Idx) : val_main_v122 (F := Ideal) x0 x1 x2 x3 x4 x5 i = ((((hd A (i 0).val (i 1).val (i 2).val).dsk (i 3).val) : ℝ) : EReal) :=
  (val_main_v122_apply _ _ _ _ _ _ _).trans ((congrArg₂ (FloatOps.mulf (F := Ideal) (φ := .f32)) (v119 h0 h1 h2 h3 h4 h5 i) (v98 h0 h1 h3 h4 i)).trans (congrArg Real.toEReal (dsk_div (hd A (i 0).val (i 1).val (i 2).val) _)))

include h0 h1 h2 h3 h4 h5 in
theorem v125 (i : S16x4x8x128x1.Idx) : val_main_v125 (F := Ideal) x0 x1 x2 x3 x4 x5 i = (((-(hd A (i 0).val (i 1).val (i 2).val).dsk (i 3).val) : ℝ) : EReal) :=
  (val_main_v125_apply _ _ _ _ _ _ _).trans (congrArg (FloatOps.hostNegf (F := Ideal) (φ := .f32)) (v122 h0 h1 h2 h3 h4 h5 i))

include h0 h1 h2 h3 h4 h5 in
theorem v126 (i : S16x4x8x128.Idx) : val_main_v126 (F := Ideal) x0 x1 x2 x3 x4 x5 i = (((-((hd A (i 0).val (i 1).val (i 2).val).delta (i 3).val / (hd A (i 0).val (i 1).val (i 2).val).z (i 3).val)) : ℝ) : EReal) :=
  (val_main_v126_apply _ _ _ _ _ _ _).trans ((congrArg₂ (· + ·) ((val_main_cst_22_apply _).trans lit_zero) ((Finset.sum_congr rfl fun k _ => (v119 h0 h1 h2 h3 h4 h5 _)).trans (sumC _ _))).trans ((addE _ _).trans (congrArg Real.toEReal ((zero_add _).trans (Fintype.sum_unique _)))))

include h0 h1 h2 h3 h4 h5 in
theorem v127 (i : S16x4x8x128x256.Idx) : val_main_v127 (F := Ideal) x0 x1 x2 x3 x4 x5 i = (((-((hd A (i 0).val (i 1).val (i 2).val).delta (i 3).val / (hd A (i 0).val (i 1).val (i 2).val).z (i 3).val)) : ℝ) : EReal) :=
  (val_main_v127_apply _ _ _ _ _ _ _).trans (v126 h0 h1 h2 h3 h4 h5 _)

include h0 h1 h2 h3 h4 h5 in
theorem v128 (i : S16x4x8x128x256.Idx) : val_main_v128 (F := Ideal) x0 x1 x2 x3 x4 x5 i = ((((hd A (i 0).val (i 1).val (i 2).val).dp (i 3).val (i 4).val / (hd A (i 0).val (i 1).val (i 2).val).z (i 3).val + -((hd A (i 0).val (i 1).val (i 2).val).delta (i 3).val / (hd A (i 0).val (i 1).val (i 2).val).z (i 3).val)) : ℝ) : EReal) :=
  (val_main_v128_apply _ _ _ _ _ _ _).trans (congrArg₂ (FloatOps.addf (F := Ideal) (φ := .f32)) (v121 h0 h1 h2 h3 h4 h5 i) (v127 h0 h1 h2 h3 h4 h5 i))

include h0 h1 h2 h3 h4 h5 in
theorem v129 (i : S16x4x8x128x256.Idx) : val_main_v129 (F := Ideal) x0 x1 x2 x3 x4 x5 i = ((((hd A (i 0).val (i 1).val (i 2).val).ds (i 3).val (i 4).val) : ℝ) : EReal) :=
  (val_main_v129_apply _ _ _ _ _ _ _).trans ((congrArg₂ (FloatOps.mulf (F := Ideal) (φ := .f32)) (v128 h0 h1 h2 h3 h4 h5 i) (v93 h0 h1 h3 h4 i)).trans (congrArg Real.toEReal (ds_div (hd A (i 0).val (i 1).val (i 2).val) _ _)))

include h0 h1 h2 h3 h4 h5 in
theorem v130 (i : S16x4x8x128x256.Idx) : val_main_v130 (F := Ideal) x0 x1 x2 x3 x4 x5 i = (((-(hd A (i 0).val (i 1).val (i 2).val).ds (i 3).val (i 4).val) : ℝ) : EReal) :=
  (val_main_v130_apply _ _ _ _ _ _ _).trans (congrArg (FloatOps.hostNegf (F := Ideal) (φ := .f32)) (v129 h0 h1 h2 h3 h4 h5 i))

include h0 h1 h2 h3 h4 h5 in
theorem v131 (i : S16x4x8x128.Idx) : val_main_v131 (F := Ideal) x0 x1 x2 x3 x4 x5 i = (((∑ t : Fin 256, -(hd A (i 0).val (i 1).val (i 2).val).ds (i 3).val t.val) : ℝ) : EReal) :=
  (val_main_v131_apply _ _ _ _ _ _ _).trans ((congrArg₂ (· + ·) ((val_main_cst_23_apply _).trans lit_zero) ((Finset.sum_congr rfl fun k _ => (v130 h0 h1 h2 h3 h4 h5 _)).trans (sumC _ _))).trans ((addE _ _).trans (congrArg Real.toEReal (zero_add _))))

include h0 h1 h2 h3 h4 h5 in
theorem v132 (i : S16x4x8x128x1.Idx) : val_main_v132 (F := Ideal) x0 x1 x2 x3 x4 x5 i = (((∑ t : Fin 256, -(hd A (i 0).val (i 1).val (i 2).val).ds (i 3).val t.val) : ℝ) : EReal) :=
  (val_main_v132_apply _ _ _ _ _ _ _).trans (rd4 (f := fun c e g r => ∑ t : Fin 256, -(hd A c e g).ds r t.val) (v131 h0 h1 h2 h3 h4 h5 ) (by have b0 : (i 0).val < 16 := (i 0).isLt; have b1 : (i 1).val < 4 := (i 1).isLt; have b2 : (i 2).val < 8 := (i 2).isLt; have b3 : (i 3).val < 128 := (i 3).isLt; have b4 : (i 4).val < 1 := (i 4).isLt; show (((((i 0).val * 4 + (i 1).val) * 8 + (i 2).val) * 128 + (i 3).val) * 1 + (i 4).val) / 4096 = (i 0).val; omega) (by have b0 : (i 0).val < 16 := (i 0).isLt; have b1 : (i 1).val < 4 := (i 1).isLt; have b2 : (i 2).val < 8 := (i 2).isLt; have b3 : (i 3).val < 128 := (i 3).isLt; have b4 : (i 4).val < 1 := (i 4).isLt; show (((((i 0).val * 4 + (i 1).val) * 8 + (i 2).val) * 128 + (i 3).val) * 1 + (i 4).val) / 1024 % 4 = (i 1).val; omega) (by have b0 : (i 0).val < 16 := (i 0).isLt; have b1 : (i 1).val < 4 := (i 1).isLt; have b2 : (i 2).val < 8 := (i 2).isLt; have b3 : (i 3).val < 128 := (i 3).isLt; have b4 : (i 4).val < 1 := (i 4).isLt; show (((((i 0).val * 4 + (i 1).val) * 8 + (i 2).val) * 128 + (i 3).val) * 1 + (i 4).val) / 128 % 8 = (i 2).val; omega) (by have b0 : (i 0).val < 16 := (i 0).isLt; have b1 : (i 1).val < 4 := (i 1).isLt; have b2 : (i 2).val < 8 := (i 2).isLt; have b3 : (i 3).val < 128 := (i 3).isLt; have b4 : (i 4).val < 1 := (i 4).isLt; show (((((i 0).val * 4 + (i 1).val) * 8 + (i 2).val) * 128 + (i 3).val) * 1 + (i 4).val) % 128 = (i 3).val; omega))

include h0 h1 h2 h3 h4 h5 in
theorem v133 (i : S16x4x8x128x1.Idx) : val_main_v133 (F := Ideal) x0 x1 x2 x3 x4 x5 i = ((0 : ℝ) : EReal) :=
  (val_main_v133_apply _ _ _ _ _ _ _).trans ((congrArg₂ (FloatOps.addf (F := Ideal) (φ := .f32)) (v125 h0 h1 h2 h3 h4 h5 i) (v132 h0 h1 h2 h3 h4 h5 i)).trans (congrArg Real.toEReal (total0 (hd A (i 0).val (i 1).val (i 2).val) _)))

include h0 h1 h2 h3 h4 h5 in
theorem v134 (i : S16x4x8x128x1.Idx) : val_main_v134 (F := Ideal) x0 x1 x2 x3 x4 x5 i = ((0 : ℝ) : EReal) :=
  (val_main_v134_apply _ _ _ _ _ _ _).trans (zmul _ (v133 h0 h1 h2 h3 h4 h5 i))

include h0 h1 h2 h3 h4 h5 in
theorem v138 (i : S16x4x8x128x1.Idx) : val_main_v138 (F := Ideal) x0 x1 x2 x3 x4 x5 i = ((0 : ℝ) : EReal) :=
  (val_main_v138_apply _ _ _ _ _ _ _).trans (zmul _ (v133 h0 h1 h2 h3 h4 h5 i))

include h0 h1 h2 h3 h4 h5 in
theorem v139 (i : S16x4x8x128.Idx) : val_main_v139 (F := Ideal) x0 x1 x2 x3 x4 x5 i = ((0 : ℝ) : EReal) :=
  (val_main_v139_apply _ _ _ _ _ _ _).trans ((congrArg₂ (· + ·) ((val_main_cst_25_apply _).trans lit_zero) ((Finset.sum_congr rfl fun k _ => (v138 h0 h1 h2 h3 h4 h5 _)).trans (sumC _ _))).trans ((addE _ _).trans (congrArg Real.toEReal ((zero_add _).trans (Fintype.sum_unique _)))))

/-- A key attains its row's greatest score: 1, else 0. -/
def tie (x0 : (⟨S2048x2048, .bf16⟩ : BufTy).Contents (Elt Ideal)) (x1 : (⟨S4x2048x64, .bf16⟩ : BufTy).Contents (Elt Ideal)) (x3 : (⟨S32x128x256, .f32⟩ : BufTy).Contents (Elt Ideal)) (i : S16x4x8x128x256.Idx) : ℝ :=
  ((val_main_v67 (F := Ideal) x0 x1 x3 i).toNat : ℝ)

theorem v68 (i : S16x4x8x128x256.Idx) : val_main_v68 (F := Ideal) x0 x1 x3 i = ((tie x0 x1 x3 i : ℝ) : EReal) := val_main_v68_apply _ _ _ i

theorem v69 (i : S16x4x8x128.Idx) : val_main_v69 (F := Ideal) x0 x1 x3 i = ((∑ k : Fin 256, tie x0 x1 x3 (idx_main_v69 i k) : ℝ) : EReal) :=
  (val_main_v69_apply _ _ _ _).trans ((congrArg₂ (· + ·) ((val_main_cst_11_apply _).trans lit_zero) ((Finset.sum_congr rfl fun k _ => v68 _).trans (sumC _ _))).trans ((addE _ _).trans (congrArg Real.toEReal (zero_add _))))

include h0 h1 h2 h3 h4 h5 in
theorem v142 (i : S16x4x8x128x256.Idx) : val_main_v142 (F := Ideal) x0 x1 x2 x3 x4 x5 i = ((0 : ℝ) : EReal) := by
  refine (val_main_v142_apply _ _ _ _ _ _ _).trans ?_
  rw [v68]
  by_cases hi : tie x0 x1 x3 i = 0
  · rw [hi]; exact mul_zero _
  · have hn : ∀ j, 0 ≤ tie x0 x1 x3 j := fun j => Nat.cast_nonneg _
    have e : idx_main_v69 (idx_main_v141 i) (i 4) = i := funext fun a => by fin_cases a <;> rfl
    have hs : (∑ k : Fin 256, tie x0 x1 x3 (idx_main_v69 (idx_main_v141 i) k)) ≠ 0 := fun h0' =>
      hi ((congrArg (tie x0 x1 x3) e).symm.trans ((Finset.sum_eq_zero_iff_of_nonneg fun k _ => hn _).mp h0' (i 4) (Finset.mem_univ _)))
    have q : val_main_v141 (F := Ideal) x0 x1 x2 x3 x4 x5 i = ((0 : ℝ) : EReal) :=
      (val_main_v141_apply _ _ _ _ _ _ i).trans ((val_main_v140_apply _ _ _ _ _ _ _).trans ((congrArg₂ (FloatOps.hostDivf (F := Ideal) (φ := .f32)) (v139 h0 h1 h2 h3 h4 h5 _) (v69 _)).trans ((hostDivC _ hs).trans (congrArg Real.toEReal (zero_div _)))))
    rw [q]; exact zeroMul _

include h0 h1 h2 h3 h4 h5 in
theorem v143 (i : S16x4x8x128x256.Idx) : val_main_v143 (F := Ideal) x0 x1 x2 x3 x4 x5 i = ((((hd A (i 0).val (i 1).val (i 2).val).ds (i 3).val (i 4).val) : ℝ) : EReal) :=
  (val_main_v143_apply _ _ _ _ _ _ _).trans ((congrArg₂ (FloatOps.addf (F := Ideal) (φ := .f32)) (v129 h0 h1 h2 h3 h4 h5 i) (v142 h0 h1 h2 h3 h4 h5 i)).trans (congrArg Real.toEReal (add_zero _)))

include h0 h1 h2 h3 h4 h5 in
theorem v146 (i : S16x4x8x128x256.Idx) : val_main_v146 (F := Ideal) x0 x1 x2 x3 x4 x5 i = ((((hd A (i 0).val (i 1).val (i 2).val).ds (i 3).val (i 4).val) : ℝ) : EReal) := by
  refine (val_main_v146_apply _ _ _ _ _ _ _).trans ?_
  rw [v61_1 i, v143 h0 h1 h2 h3 h4 h5 i, show val_main_call1_v0 (F := Ideal) i = ((0 : ℝ) : EReal) from (val_main_call1_v0_apply _).trans ((val_main_call1_cst_apply _).trans lit_zero)]
  have hh := (hd A (i 0).val (i 1).val (i 2).val).ds_hidden (r := (i 3).val) (t := (i 4).val)
  change okAt (i 0).val (i 3).val (i 4).val = false → _ at hh
  cases hk : okAt (i 0).val (i 3).val (i 4).val
  · rw [hh hk]; rfl
  · rfl

theorem v151 (i : S16x4x8x128x256.Idx) : val_main_v151 (F := Ideal) i = ((8 : ℝ) : EReal) :=
  (val_main_v151_apply _).trans ((val_main_cst_29_apply _).trans lit_8)

include h0 h1 h2 h3 h4 h5 in
theorem v152 (i : S16x4x8x128x256.Idx) : val_main_v152 (F := Ideal) x0 x1 x2 x3 x4 x5 i = ((((hd A (i 0).val (i 1).val (i 2).val).ds (i 3).val (i 4).val * (1 / 8)) : ℝ) : EReal) :=
  (val_main_v152_apply _ _ _ _ _ _ _).trans ((congrArg₂ (FloatOps.hostDivf (F := Ideal) (φ := .f32)) (v146 h0 h1 h2 h3 h4 h5 i) (v151 i)).trans ((hostDivC _ (by norm_num)).trans (congrArg Real.toEReal (div_eq_mul_one_div _ _))))

include h0 h1 h2 h3 h4 h5 in
theorem v153 (i : S16x4x256x128x8.Idx) : val_main_v153 (F := Ideal) x0 x1 x2 x3 x4 x5 i = ((((hd A (i 0).val (i 1).val (i 4).val).ds (i 3).val (i 2).val * (1 / 8)) : ℝ) : EReal) :=
  (val_main_v153_apply _ _ _ _ _ _ _).trans (v152 h0 h1 h2 h3 h4 h5 _)

include h0 h1 h2 h3 h4 h5 in
theorem v154 (i : S16x4x128x8x64.Idx) : val_main_v154 (F := Ideal) x0 x1 x2 x3 x4 x5 i = ((((hd A (i 0).val (i 1).val (i 3).val).dq (i 2).val (i 4).val) : ℝ) : EReal) :=
  (val_main_v154_apply _ _ _ _ _ _ _).trans (((Finset.sum_congr rfl fun k _ => congrArg₂ (· * ·) (v153 h0 h1 h2 h3 h4 h5 _) (v12 h1 _)).trans (sumC _ _)).trans (congrArg Real.toEReal (dq_eighth (hd A (i 0).val (i 1).val (i 3).val) _ _)))

include h0 h1 h2 h3 h4 h5 in
theorem v155 (i : S16x128x4x8x64.Idx) : val_main_v155 (F := Ideal) x0 x1 x2 x3 x4 x5 i = ((((hd A (i 0).val (i 2).val (i 3).val).dq (i 1).val (i 4).val) : ℝ) : EReal) :=
  (val_main_v155_apply _ _ _ _ _ _ _).trans (v154 h0 h1 h2 h3 h4 h5 _)

include h0 h1 h2 h3 h4 h5 in
theorem v174 (i : S2048x2048.Idx) : val_main_v174 (F := Ideal) x0 x1 x2 x3 x4 x5 i = (((dq padded A (i 0).val (i 1).val) : ℝ) : EReal) := by
  refine (val_main_v174_apply _ _ _ _ _ _ _).trans ((rd5 (f := fun c r e g d => (hd A c e g).dq r d) (v155 h0 h1 h2 h3 h4 h5 ) (by have b0 : (i 0).val < 2048 := (i 0).isLt; have b1 : (i 1).val < 2048 := (i 1).isLt; show ((i 0).val * 2048 + (i 1).val) / 262144 = (i 0).val / 128; omega) (by have b0 : (i 0).val < 2048 := (i 0).isLt; have b1 : (i 1).val < 2048 := (i 1).isLt; show ((i 0).val * 2048 + (i 1).val) / 2048 % 128 = (i 0).val % 128; omega) (by have b0 : (i 0).val < 2048 := (i 0).isLt; have b1 : (i 1).val < 2048 := (i 1).isLt; show ((i 0).val * 2048 + (i 1).val) / 512 % 4 = (i 1).val / 512; omega) (by have b0 : (i 0).val < 2048 := (i 0).isLt; have b1 : (i 1).val < 2048 := (i 1).isLt; show ((i 0).val * 2048 + (i 1).val) / 64 % 8 = (i 1).val / 64 % 8; omega) (by have b0 : (i 0).val < 2048 := (i 0).isLt; have b1 : (i 1).val < 2048 := (i 1).isLt; show ((i 0).val * 2048 + (i 1).val) % 64 = (i 1).val % 64; omega)).trans ?_)
  dsimp only
  rw [hd_eq _ _ _ (Nat.mod_lt _ (by decide)), show 8 * ((i 1).val / 512) + (i 1).val / 64 % 8 = (i 1).val / 64 from by omega]
  rfl

include h0 h1 h2 h3 h4 h5 in
theorem v179 (i : S2048x2048.Idx) : val_main_v179 (F := Ideal) x0 x1 x2 x3 x4 x5 i = (((dq padded A (i 0).val (i 1).val) : ℝ) : EReal) :=
  (val_main_v179_apply _ _ _ _ _ _ _).trans (v174 h0 h1 h2 h3 h4 h5 i)

end Cert.CoreRef

end
-- ==== Proof.CoreRefBack.lean ====
/- The reference's gradients by the keys, the values, the bias and the sinks, and its column sums. -/
module

public import proofs.«01_k».proof.Proof.CoreRefGrad
public import Idealize.ShloMosaic.Lib.TwoAxisContraction
public import Idealize.ShloMosaic.Lib.KernelVsHost

@[expose] public section

noncomputable section

namespace Cert.CoreRef

open Cert.AttnReferenceIdeal Cert.AttnReferenceIdeal.Gen Cert.AttnReferenceIdeal.Read Idealize.ShloMosaic Cert.Lift Cert.Prod Cert.Core

theorem sumR (m n : ℕ) (f : ℕ → ℝ) : (∑ k : Fin (m * n), f k.val) = ∑ a : Fin m, ∑ b : Fin n, f (n * a.val + b.val) := by
  have h := sum_blocks m n (fun k => ((f k : ℝ) : EReal))
  rw [sumC] at h
  simp only [sumC] at h
  simp only [mul_comm n]
  exact_mod_cast h

theorem sumC2 (m n : ℕ) (f : ℕ → ℕ → ℝ) : (∑ a : Fin m, ∑ b : Fin n, ((f a.val b.val : ℝ) : EReal)) = ((∑ a : Fin m, ∑ b : Fin n, f a.val b.val : ℝ) : EReal) :=
  (Finset.sum_congr rfl fun a _ => sumC _ _).trans (sumC _ _)

theorem lhs_112 (i : S16x4x64x256.Idx) (a : Fin 8) (b : Fin 128) : dot_S16x4x64x8x128_S16x4x8x128x256_S16x4x64x256_34_23_2_4_01_01.lhsIdx i ((ValueIdx.contrEquiv2 dot_S16x4x64x8x128_S16x4x8x128x256_S16x4x64x256_34_23_2_4_01_01 8 128 rfl rfl rfl).symm (a, b)) = ValueIdx.ix5 (i 0) (i 1) (i 2) a b :=
  funext fun x => Fin.ext (by
    match x with
    | ⟨0, _⟩ => rfl
    | ⟨1, _⟩ => rfl
    | ⟨2, _⟩ => rfl
    | ⟨3, _⟩ => exact ValueIdx.contrEquiv2_symm_val0 dot_S16x4x64x8x128_S16x4x8x128x256_S16x4x64x256_34_23_2_4_01_01 8 128 rfl rfl rfl (a, b)
    | ⟨4, _⟩ => exact ValueIdx.contrEquiv2_symm_val1 dot_S16x4x64x8x128_S16x4x8x128x256_S16x4x64x256_34_23_2_4_01_01 8 128 rfl rfl rfl (a, b))

theorem rhs_112 (i : S16x4x64x256.Idx) (a : Fin 8) (b : Fin 128) : dot_S16x4x64x8x128_S16x4x8x128x256_S16x4x64x256_34_23_2_4_01_01.rhsIdx i ((ValueIdx.contrEquiv2 dot_S16x4x64x8x128_S16x4x8x128x256_S16x4x64x256_34_23_2_4_01_01 8 128 rfl rfl rfl).symm (a, b)) = ValueIdx.ix5 (i 0) (i 1) a b (i 3) :=
  funext fun x => Fin.ext (by
    match x with
    | ⟨0, _⟩ => rfl
    | ⟨1, _⟩ => rfl
    | ⟨2, _⟩ => exact ValueIdx.contrEquiv2_symm_val0 dot_S16x4x64x8x128_S16x4x8x128x256_S16x4x64x256_34_23_2_4_01_01 8 128 rfl rfl rfl (a, b)
    | ⟨3, _⟩ => exact ValueIdx.contrEquiv2_symm_val1 dot_S16x4x64x8x128_S16x4x8x128x256_S16x4x64x256_34_23_2_4_01_01 8 128 rfl rfl rfl (a, b)
    | ⟨4, _⟩ => rfl)

theorem dot_112 (y0 : S16x4x64x8x128.Idx → EReal) (y1 : S16x4x8x128x256.Idx → EReal) (i : S16x4x64x256.Idx) :
    Host.dotGeneral (F := Ideal) (φ₁ := .f32) (φ₂ := .f32) dot_S16x4x64x8x128_S16x4x8x128x256_S16x4x64x256_34_23_2_4_01_01 none y0 y1 i = ∑ a : Fin 8, ∑ b : Fin 128, y0 (ValueIdx.ix5 (i 0) (i 1) (i 2) a b) * y1 (ValueIdx.ix5 (i 0) (i 1) a b (i 3)) := by
  simp only [Host.dotGeneral]
  rw [Ideal.dotGeneral_apply, ValueIdx.sum_contr2 dot_S16x4x64x8x128_S16x4x8x128x256_S16x4x64x256_34_23_2_4_01_01 8 128 rfl rfl rfl]
  exact Finset.sum_congr rfl fun a _ => Finset.sum_congr rfl fun b _ => by
    rw [lhs_112, rhs_112]; rfl

theorem lhs_156 (i : S16x4x256x64.Idx) (a : Fin 128) (b : Fin 8) : dot_S16x4x256x128x8_S16x128x4x8x64_S16x4x256x64_34_13_2_4_01_02.lhsIdx i ((ValueIdx.contrEquiv2 dot_S16x4x256x128x8_S16x128x4x8x64_S16x4x256x64_34_13_2_4_01_02 128 8 rfl rfl rfl).symm (a, b)) = ValueIdx.ix5 (i 0) (i 1) (i 2) a b :=
  funext fun x => Fin.ext (by
    match x with
    | ⟨0, _⟩ => rfl
    | ⟨1, _⟩ => rfl
    | ⟨2, _⟩ => rfl
    | ⟨3, _⟩ => exact ValueIdx.contrEquiv2_symm_val0 dot_S16x4x256x128x8_S16x128x4x8x64_S16x4x256x64_34_13_2_4_01_02 128 8 rfl rfl rfl (a, b)
    | ⟨4, _⟩ => exact ValueIdx.contrEquiv2_symm_val1 dot_S16x4x256x128x8_S16x128x4x8x64_S16x4x256x64_34_13_2_4_01_02 128 8 rfl rfl rfl (a, b))

theorem rhs_156 (i : S16x4x256x64.Idx) (a : Fin 128) (b : Fin 8) : dot_S16x4x256x128x8_S16x128x4x8x64_S16x4x256x64_34_13_2_4_01_02.rhsIdx i ((ValueIdx.contrEquiv2 dot_S16x4x256x128x8_S16x128x4x8x64_S16x4x256x64_34_13_2_4_01_02 128 8 rfl rfl rfl).symm (a, b)) = ValueIdx.ix5 (i 0) a (i 1) b (i 3) :=
  funext fun x => Fin.ext (by
    match x with
    | ⟨0, _⟩ => rfl
    | ⟨1, _⟩ => exact ValueIdx.contrEquiv2_symm_val0 dot_S16x4x256x128x8_S16x128x4x8x64_S16x4x256x64_34_13_2_4_01_02 128 8 rfl rfl rfl (a, b)
    | ⟨2, _⟩ => rfl
    | ⟨3, _⟩ => exact ValueIdx.contrEquiv2_symm_val1 dot_S16x4x256x128x8_S16x128x4x8x64_S16x4x256x64_34_13_2_4_01_02 128 8 rfl rfl rfl (a, b)
    | ⟨4, _⟩ => rfl)

theorem dot_156 (y0 : S16x4x256x128x8.Idx → EReal) (y1 : S16x128x4x8x64.Idx → EReal) (i : S16x4x256x64.Idx) :
    Host.dotGeneral (F := Ideal) (φ₁ := .f32) (φ₂ := .f32) dot_S16x4x256x128x8_S16x128x4x8x64_S16x4x256x64_34_13_2_4_01_02 none y0 y1 i = ∑ a : Fin 128, ∑ b : Fin 8, y0 (ValueIdx.ix5 (i 0) (i 1) (i 2) a b) * y1 (ValueIdx.ix5 (i 0) a (i 1) b (i 3)) := by
  simp only [Host.dotGeneral]
  rw [Ideal.dotGeneral_apply, ValueIdx.sum_contr2 dot_S16x4x256x128x8_S16x128x4x8x64_S16x4x256x64_34_13_2_4_01_02 128 8 rfl rfl rfl]
  exact Finset.sum_congr rfl fun a _ => Finset.sum_congr rfl fun b _ => by
    rw [lhs_156, rhs_156]; rfl

theorem dq_col (A : Args) (y : ℕ) : (∑ c : Fin 16, ∑ r : Fin 128, dq padded A (128 * c.val + r.val) y) = dbq padded A y :=
  Finset.sum_congr rfl fun c _ => Finset.sum_congr rfl fun r _ => by
    have hr := r.isLt
    unfold dq
    rw [show (128 * c.val + r.val) / 128 = c.val from by omega, show (128 * c.val + r.val) % 128 = r.val from by omega]

theorem rows0 (i : S16x4x8x128x1.Idx) : (reducesTo_S16x4x8x128x1_S4x8x1_d0_3.drop i 0).val = (i 1).val := Shape.ReducesTo.drop_apply_val_of_eq reducesTo_S16x4x8x128x1_S4x8x1_d0_3 i 0 1
theorem rows1 (i : S16x4x8x128x1.Idx) : (reducesTo_S16x4x8x128x1_S4x8x1_d0_3.drop i 1).val = (i 2).val := Shape.ReducesTo.drop_apply_val_of_eq reducesTo_S16x4x8x128x1_S4x8x1_d0_3 i 1 2
theorem rows2 (i : S16x4x8x128x1.Idx) : (reducesTo_S16x4x8x128x1_S4x8x1_d0_3.drop i 2).val = (i 4).val := Shape.ReducesTo.drop_apply_val_of_eq reducesTo_S16x4x8x128x1_S4x8x1_d0_3 i 2 4
theorem one0 (i : S1x4x8x1x1.Idx) : (reducesTo_S1x4x8x1x1_S4x8_d0_3_4.drop i 0).val = (i 1).val := Shape.ReducesTo.drop_apply_val_of_eq reducesTo_S1x4x8x1x1_S4x8_d0_3_4 i 0 1
theorem one1 (i : S1x4x8x1x1.Idx) : (reducesTo_S1x4x8x1x1_S4x8_d0_3_4.drop i 1).val = (i 2).val := Shape.ReducesTo.drop_apply_val_of_eq reducesTo_S1x4x8x1x1_S4x8_d0_3_4 i 1 2

/-- The host's sum over the blocks and a block's rows. -/
theorem red_rows (x : S16x4x8x128x1.Idx → EReal) (f : ℕ → ℕ → ℕ → ℕ → ℝ) (hx : ∀ i, x i = ((f (i 0).val (i 1).val (i 2).val (i 3).val : ℝ) : EReal)) (j : S4x8x1.Idx) :
    (∑ i ∈ Finset.univ.filter (fun i => reducesTo_S16x4x8x128x1_S4x8x1_d0_3.drop i = j), x i) = ((∑ c : Fin 16, ∑ r : Fin 128, f c.val (j 0).val (j 1).val r.val : ℝ) : EReal) := by
  rw [← sumC2 16 128 (fun c r => f c (j 0).val (j 1).val r), ← Fintype.sum_prod_type' (f := fun (c : Fin 16) (r : Fin 128) => ((f c.val (j 0).val (j 1).val r.val : ℝ) : EReal))]
  refine Finset.sum_nbij' (fun i => ((i 0 : Fin 16), (i 3 : Fin 128))) (fun p => ValueIdx.ix5 p.1 (j 0) (j 1) p.2 (j 2)) (fun _ _ => Finset.mem_univ _) ?_ ?_ (fun _ _ => rfl) ?_
  · intro p _
    refine Finset.mem_filter.mpr ⟨Finset.mem_univ _, funext fun a => Fin.ext ?_⟩
    match a with
    | ⟨0, _⟩ => exact rows0 _
    | ⟨1, _⟩ => exact rows1 _
    | ⟨2, _⟩ => exact rows2 _
  · intro i hi
    have h := (Finset.mem_filter.mp hi).2
    have e0 : (j 0).val = (i 1).val := (congrArg (fun y : S4x8x1.Idx => (y 0).val) h).symm.trans (rows0 _)
    have e1 : (j 1).val = (i 2).val := (congrArg (fun y : S4x8x1.Idx => (y 1).val) h).symm.trans (rows1 _)
    have e2 : (j 2).val = (i 4).val := (congrArg (fun y : S4x8x1.Idx => (y 2).val) h).symm.trans (rows2 _)
    funext a
    match a with
    | ⟨0, _⟩ => rfl
    | ⟨1, _⟩ => exact Fin.ext e0
    | ⟨2, _⟩ => exact Fin.ext e1
    | ⟨3, _⟩ => rfl
    | ⟨4, _⟩ => exact Fin.ext e2
  · intro i hi
    have h := (Finset.mem_filter.mp hi).2
    have e0 : (j 0).val = (i 1).val := (congrArg (fun y : S4x8x1.Idx => (y 0).val) h).symm.trans (rows0 _)
    have e1 : (j 1).val = (i 2).val := (congrArg (fun y : S4x8x1.Idx => (y 1).val) h).symm.trans (rows1 _)
    rw [hx i, e0, e1]

theorem one_at (j : S4x8.Idx) : reducesTo_S1x4x8x1x1_S4x8_d0_3_4.drop (ValueIdx.ix5 (⟨0, by decide⟩ : Fin 1) (j 0) (j 1) (⟨0, by decide⟩ : Fin 1) (⟨0, by decide⟩ : Fin 1)) = j := by
  funext a
  match a with
  | ⟨0, _⟩ => exact Fin.ext (one0 (ValueIdx.ix5 (⟨0, by decide⟩ : Fin 1) (j 0) (j 1) (⟨0, by decide⟩ : Fin 1) (⟨0, by decide⟩ : Fin 1)))
  | ⟨1, _⟩ => exact Fin.ext (one1 (ValueIdx.ix5 (⟨0, by decide⟩ : Fin 1) (j 0) (j 1) (⟨0, by decide⟩ : Fin 1) (⟨0, by decide⟩ : Fin 1)))

/-- A sum over one-element axes is its only entry. -/
theorem red_one (x : S1x4x8x1x1.Idx → EReal) (j : S4x8.Idx) :
    (∑ i ∈ Finset.univ.filter (fun i => reducesTo_S1x4x8x1x1_S4x8_d0_3_4.drop i = j), x i) = x (ValueIdx.ix5 (⟨0, by decide⟩ : Fin 1) (j 0) (j 1) (⟨0, by decide⟩ : Fin 1) (⟨0, by decide⟩ : Fin 1)) := by
  refine Finset.sum_eq_single _ (fun i hi hne => ?_) (fun hn => ?_)
  · have h := (Finset.mem_filter.mp hi).2
    have e0 : (j 0).val = (i 1).val := (congrArg (fun y : S4x8.Idx => (y 0).val) h).symm.trans (one0 _)
    have e1 : (j 1).val = (i 2).val := (congrArg (fun y : S4x8.Idx => (y 1).val) h).symm.trans (one1 _)
    have l0 : (i 0).val < 1 := (i 0).isLt
    have l3 : (i 3).val < 1 := (i 3).isLt
    have l4 : (i 4).val < 1 := (i 4).isLt
    refine absurd (funext fun a => Fin.ext ?_) hne
    match a with
    | ⟨0, _⟩ => show (i 0).val = 0; omega
    | ⟨1, _⟩ => exact e0.symm
    | ⟨2, _⟩ => exact e1.symm
    | ⟨3, _⟩ => show (i 3).val = 0; omega
    | ⟨4, _⟩ => show (i 4).val = 0; omega
  · exact absurd (one_at j) (fun e => hn (by rw [Finset.mem_filter]; exact ⟨Finset.mem_univ _, e⟩))

variable {x0 x5 : (⟨S2048x2048, .bf16⟩ : BufTy).Contents (Elt Ideal)} {x1 x2 : (⟨S4x2048x64, .bf16⟩ : BufTy).Contents (Elt Ideal)}
  {x3 : (⟨S32x128x256, .f32⟩ : BufTy).Contents (Elt Ideal)} {x4 : (⟨S32, .f32⟩ : BufTy).Contents (Elt Ideal)} {A : Args}
  (h0 : ∀ i : S2048x2048.Idx, x0 i = ((A.q (i 0).val (i 1).val : ℝ) : EReal)) (h1 : ∀ i : S4x2048x64.Idx, x1 i = ((A.k (i 0).val (i 1).val (i 2).val : ℝ) : EReal))
  (h2 : ∀ i : S4x2048x64.Idx, x2 i = ((A.v (i 0).val (i 1).val (i 2).val : ℝ) : EReal)) (h3 : ∀ i : S32x128x256.Idx, x3 i = ((A.b (i 0).val (i 1).val (i 2).val : ℝ) : EReal))
  (h4 : ∀ i : S32.Idx, x4 i = ((A.s (i 0).val : ℝ) : EReal)) (h5 : ∀ i : S2048x2048.Idx, x5 i = ((A.o (i 0).val (i 1).val : ℝ) : EReal))

include h0 h1 h3 h4 h5 in
theorem v112 (i : S16x4x64x256.Idx) : val_main_v112 (F := Ideal) x0 x1 x3 x4 x5 i = (((dvb padded A (i 1).val (i 0).val (i 3).val (i 2).val) : ℝ) : EReal) := by
  unfold val_main_v112
  refine (dot_112 _ _ i).trans (Eq.trans (Finset.sum_congr rfl fun a _ => Finset.sum_congr rfl fun b _ => (congrArg₂ (· * ·) (v110 h5 _) (v101 h0 h1 h3 h4 _)).trans (mulE _ _))
    ((sumC2 8 128 (fun g r => (hd A (i 0).val (i 1).val g).o r (i 2).val * (hd A (i 0).val (i 1).val g).pr r (i 3).val)).trans (congrArg Real.toEReal ?_)))
  unfold dvb
  exact Finset.sum_congr rfl fun g _ => Finset.sum_congr rfl fun r _ => by rw [hd_eq _ _ _ g.isLt, mul_comm]

include h0 h1 h3 h4 h5 in
theorem v113 (i : S16x256x4x64.Idx) : val_main_v113 (F := Ideal) x0 x1 x3 x4 x5 i = (((dvb padded A (i 2).val (i 0).val (i 1).val (i 3).val) : ℝ) : EReal) :=
  (val_main_v113_apply _ _ _ _ _ _).trans (v112 h0 h1 h3 h4 h5 _)

include h0 h1 h2 h3 h4 h5 in
theorem v156 (i : S16x4x256x64.Idx) : val_main_v156 (F := Ideal) x0 x1 x2 x3 x4 x5 i = (((dkb padded A (i 1).val (i 0).val (i 2).val (i 3).val) : ℝ) : EReal) := by
  unfold val_main_v156
  refine (dot_156 _ _ i).trans (Eq.trans (Finset.sum_congr rfl fun a _ => Finset.sum_congr rfl fun b _ => (congrArg₂ (· * ·) (v153 h0 h1 h2 h3 h4 h5 _) (v5 h0 _)).trans (mulE _ _))
    ((sumC2 128 8 (fun r g => (hd A (i 0).val (i 1).val g).ds r (i 2).val * (1 / 8) * A.q (128 * (i 0).val + r) (64 * (8 * (i 1).val + g) + (i 3).val))).trans (congrArg Real.toEReal ?_)))
  unfold dkb
  rw [Finset.sum_comm, Finset.sum_mul]
  refine Finset.sum_congr rfl fun g _ => ?_
  rw [Finset.sum_mul]
  refine Finset.sum_congr rfl fun r _ => ?_
  rw [hd_eq _ _ _ g.isLt]
  show _ = _ * A.q (128 * (i 0).val + r.val) (64 * (8 * (i 1).val + g.val) + (i 3).val) * _
  ring

include h0 h1 h2 h3 h4 h5 in
theorem v157 (i : S16x256x4x64.Idx) : val_main_v157 (F := Ideal) x0 x1 x2 x3 x4 x5 i = (((dkb padded A (i 2).val (i 0).val (i 1).val (i 3).val) : ℝ) : EReal) :=
  (val_main_v157_apply _ _ _ _ _ _ _).trans (v156 h0 h1 h2 h3 h4 h5 _)

include h0 h1 h3 h4 h5 in
theorem v158 (i : S16x128x4x64.Idx) : val_main_v158 (F := Ideal) x0 x1 x3 x4 x5 i = (((dvb padded A (i 2).val (i 0).val (i 1).val (i 3).val) : ℝ) : EReal) :=
  (val_main_v158_apply _ _ _ _ _ _).trans (v113 h0 h1 h3 h4 h5 _)

include h0 h1 h3 h4 h5 in
theorem v159 (i : S16x128x4x64.Idx) : val_main_v159 (F := Ideal) x0 x1 x3 x4 x5 i = (((dvb padded A (i 2).val (i 0).val (128 + (i 1).val) (i 3).val) : ℝ) : EReal) :=
  (val_main_v159_apply _ _ _ _ _ _).trans (v113 h0 h1 h3 h4 h5 _)

include h0 h1 h3 h4 h5 in
theorem v160 (i : S2048x4x64.Idx) : val_main_v160 (F := Ideal) x0 x1 x3 x4 x5 i = (((dvb padded A (i 1).val ((i 0).val / 128) (128 + (i 0).val % 128) (i 2).val) : ℝ) : EReal) :=
  (val_main_v160_apply _ _ _ _ _ _).trans (rd4 (f := fun c x e d => dvb padded A e c (128 + x) d) (v159 h0 h1 h3 h4 h5 ) (by have b0 : (i 0).val < 2048 := (i 0).isLt; have b1 : (i 1).val < 4 := (i 1).isLt; have b2 : (i 2).val < 64 := (i 2).isLt; show (((i 0).val * 4 + (i 1).val) * 64 + (i 2).val) / 32768 = (i 0).val / 128; omega) (by have b0 : (i 0).val < 2048 := (i 0).isLt; have b1 : (i 1).val < 4 := (i 1).isLt; have b2 : (i 2).val < 64 := (i 2).isLt; show (((i 0).val * 4 + (i 1).val) * 64 + (i 2).val) / 256 % 128 = (i 0).val % 128; omega) (by have b0 : (i 0).val < 2048 := (i 0).isLt; have b1 : (i 1).val < 4 := (i 1).isLt; have b2 : (i 2).val < 64 := (i 2).isLt; show (((i 0).val * 4 + (i 1).val) * 64 + (i 2).val) / 64 % 4 = (i 1).val; omega) (by have b0 : (i 0).val < 2048 := (i 0).isLt; have b1 : (i 1).val < 4 := (i 1).isLt; have b2 : (i 2).val < 64 := (i 2).isLt; show (((i 0).val * 4 + (i 1).val) * 64 + (i 2).val) % 64 = (i 2).val; omega))

include h0 h1 h3 h4 h5 in
theorem v161 (i : S2048x4x64.Idx) : val_main_v161 (F := Ideal) x0 x1 x3 x4 x5 i = (((dvb padded A (i 1).val ((i 0).val / 128) ((i 0).val % 128) (i 2).val) : ℝ) : EReal) :=
  (val_main_v161_apply _ _ _ _ _ _).trans (rd4 (f := fun c x e d => dvb padded A e c x d) (v158 h0 h1 h3 h4 h5 ) (by have b0 : (i 0).val < 2048 := (i 0).isLt; have b1 : (i 1).val < 4 := (i 1).isLt; have b2 : (i 2).val < 64 := (i 2).isLt; show (((i 0).val * 4 + (i 1).val) * 64 + (i 2).val) / 32768 = (i 0).val / 128; omega) (by have b0 : (i 0).val < 2048 := (i 0).isLt; have b1 : (i 1).val < 4 := (i 1).isLt; have b2 : (i 2).val < 64 := (i 2).isLt; show (((i 0).val * 4 + (i 1).val) * 64 + (i 2).val) / 256 % 128 = (i 0).val % 128; omega) (by have b0 : (i 0).val < 2048 := (i 0).isLt; have b1 : (i 1).val < 4 := (i 1).isLt; have b2 : (i 2).val < 64 := (i 2).isLt; show (((i 0).val * 4 + (i 1).val) * 64 + (i 2).val) / 64 % 4 = (i 1).val; omega) (by have b0 : (i 0).val < 2048 := (i 0).isLt; have b1 : (i 1).val < 4 := (i 1).isLt; have b2 : (i 2).val < 64 := (i 2).isLt; show (((i 0).val * 4 + (i 1).val) * 64 + (i 2).val) % 64 = (i 2).val; omega))

include h0 h1 h3 h4 h5 in
theorem v162 (i : S2176x4x64.Idx) : val_main_v162 (F := Ideal) x0 x1 x3 x4 x5 i = (((if (i 0).val / 128 < 16 then dvb padded A (i 1).val ((i 0).val / 128) ((i 0).val % 128) (i 2).val else 0) : ℝ) : EReal) := by
  have hi : (i 0).val < 2176 := (i 0).isLt
  unfold val_main_v162
  by_cases hlt : (i 0).val < 2048
  · rw [if_pos (show (i 0).val / 128 < 16 by omega), pad_apply_of_inside _ _ _ _ _ pads_S2048x4x64_S2176x4x64_01280_000_000 h_S_ i (ValueIdx.ix3 ⟨(i 0).val, hlt⟩ (i 1) (i 2))
      (fun b => by fin_cases b <;> first | (show (i 0).val = 0 + (i 0).val * 1; omega) | (show (i 1).val = 0 + (i 1).val * 1; omega) | (show (i 2).val = 0 + (i 2).val * 1; omega))]
    exact v161 h0 h1 h3 h4 h5 _
  · rw [if_neg (show ¬(i 0).val / 128 < 16 by omega), pad_apply_of_not_inside _ _ _ _ _ pads_S2048x4x64_S2176x4x64_01280_000_000 h_S_ i ⟨0, by decide⟩
      (fun h => hlt (by have h2 := h.2.2; change ((i 0).val - 0) / 1 < 2048 at h2; omega))]
    exact ((val_main_cst_30_apply _).trans lit_zero)

include h0 h1 h3 h4 h5 in
theorem v164 (i : S2048x4x64.Idx) : val_main_v164 (F := Ideal) x0 x1 x3 x4 x5 i = (((if (i 0).val / 128 < 15 then dvb padded A (i 1).val ((i 0).val / 128 + 1) ((i 0).val % 128) (i 2).val else 0) : ℝ) : EReal) := by
  refine (val_main_v164_apply _ _ _ _ _ _).trans ((v162 h0 h1 h3 h4 h5 _).trans (congrArg Real.toEReal ?_))
  show (if (128 + (i 0).val) / 128 < 16 then dvb padded A (i 1).val ((128 + (i 0).val) / 128) ((128 + (i 0).val) % 128) (i 2).val else 0) = _
  rw [show (128 + (i 0).val) / 128 = (i 0).val / 128 + 1 from by omega, show (128 + (i 0).val) % 128 = (i 0).val % 128 from by omega]
  by_cases hc : (i 0).val / 128 < 15
  · rw [if_pos hc, if_pos (show (i 0).val / 128 + 1 < 16 by omega)]
  · rw [if_neg hc, if_neg (show ¬(i 0).val / 128 + 1 < 16 by omega)]

include h0 h1 h3 h4 h5 in
theorem v165 (i : S2048x4x64.Idx) : val_main_v165 (F := Ideal) x0 x1 x3 x4 x5 i = (((folded (dvb padded A) (i 1).val (i 0).val (i 2).val) : ℝ) : EReal) :=
  (val_main_v165_apply _ _ _ _ _ _).trans (congrArg₂ (FloatOps.addf (F := Ideal) (φ := .f32)) (v160 h0 h1 h3 h4 h5 i) (v164 h0 h1 h3 h4 h5 i))

include h0 h1 h2 h3 h4 h5 in
theorem v166 (i : S16x128x4x64.Idx) : val_main_v166 (F := Ideal) x0 x1 x2 x3 x4 x5 i = (((dkb padded A (i 2).val (i 0).val (i 1).val (i 3).val) : ℝ) : EReal) :=
  (val_main_v166_apply _ _ _ _ _ _ _).trans (v157 h0 h1 h2 h3 h4 h5 _)

include h0 h1 h2 h3 h4 h5 in
theorem v167 (i : S16x128x4x64.Idx) : val_main_v167 (F := Ideal) x0 x1 x2 x3 x4 x5 i = (((dkb padded A (i 2).val (i 0).val (128 + (i 1).val) (i 3).val) : ℝ) : EReal) :=
  (val_main_v167_apply _ _ _ _ _ _ _).trans (v157 h0 h1 h2 h3 h4 h5 _)

include h0 h1 h2 h3 h4 h5 in
theorem v168 (i : S2048x4x64.Idx) : val_main_v168 (F := Ideal) x0 x1 x2 x3 x4 x5 i = (((dkb padded A (i 1).val ((i 0).val / 128) (128 + (i 0).val % 128) (i 2).val) : ℝ) : EReal) :=
  (val_main_v168_apply _ _ _ _ _ _ _).trans (rd4 (f := fun c x e d => dkb padded A e c (128 + x) d) (v167 h0 h1 h2 h3 h4 h5 ) (by have b0 : (i 0).val < 2048 := (i 0).isLt; have b1 : (i 1).val < 4 := (i 1).isLt; have b2 : (i 2).val < 64 := (i 2).isLt; show (((i 0).val * 4 + (i 1).val) * 64 + (i 2).val) / 32768 = (i 0).val / 128; omega) (by have b0 : (i 0).val < 2048 := (i 0).isLt; have b1 : (i 1).val < 4 := (i 1).isLt; have b2 : (i 2).val < 64 := (i 2).isLt; show (((i 0).val * 4 + (i 1).val) * 64 + (i 2).val) / 256 % 128 = (i 0).val % 128; omega) (by have b0 : (i 0).val < 2048 := (i 0).isLt; have b1 : (i 1).val < 4 := (i 1).isLt; have b2 : (i 2).val < 64 := (i 2).isLt; show (((i 0).val * 4 + (i 1).val) * 64 + (i 2).val) / 64 % 4 = (i 1).val; omega) (by have b0 : (i 0).val < 2048 := (i 0).isLt; have b1 : (i 1).val < 4 := (i 1).isLt; have b2 : (i 2).val < 64 := (i 2).isLt; show (((i 0).val * 4 + (i 1).val) * 64 + (i 2).val) % 64 = (i 2).val; omega))

include h0 h1 h2 h3 h4 h5 in
theorem v169 (i : S2048x4x64.Idx) : val_main_v169 (F := Ideal) x0 x1 x2 x3 x4 x5 i = (((dkb padded A (i 1).val ((i 0).val / 128) ((i 0).val % 128) (i 2).val) : ℝ) : EReal) :=
  (val_main_v169_apply _ _ _ _ _ _ _).trans (rd4 (f := fun c x e d => dkb padded A e c x d) (v166 h0 h1 h2 h3 h4 h5 ) (by have b0 : (i 0).val < 2048 := (i 0).isLt; have b1 : (i 1).val < 4 := (i 1).isLt; have b2 : (i 2).val < 64 := (i 2).isLt; show (((i 0).val * 4 + (i 1).val) * 64 + (i 2).val) / 32768 = (i 0).val / 128; omega) (by have b0 : (i 0).val < 2048 := (i 0).isLt; have b1 : (i 1).val < 4 := (i 1).isLt; have b2 : (i 2).val < 64 := (i 2).isLt; show (((i 0).val * 4 + (i 1).val) * 64 + (i 2).val) / 256 % 128 = (i 0).val % 128; omega) (by have b0 : (i 0).val < 2048 := (i 0).isLt; have b1 : (i 1).val < 4 := (i 1).isLt; have b2 : (i 2).val < 64 := (i 2).isLt; show (((i 0).val * 4 + (i 1).val) * 64 + (i 2).val) / 64 % 4 = (i 1).val; omega) (by have b0 : (i 0).val < 2048 := (i 0).isLt; have b1 : (i 1).val < 4 := (i 1).isLt; have b2 : (i 2).val < 64 := (i 2).isLt; show (((i 0).val * 4 + (i 1).val) * 64 + (i 2).val) % 64 = (i 2).val; omega))

include h0 h1 h2 h3 h4 h5 in
theorem v170 (i : S2176x4x64.Idx) : val_main_v170 (F := Ideal) x0 x1 x2 x3 x4 x5 i = (((if (i 0).val / 128 < 16 then dkb padded A (i 1).val ((i 0).val / 128) ((i 0).val % 128) (i 2).val else 0) : ℝ) : EReal) := by
  have hi : (i 0).val < 2176 := (i 0).isLt
  unfold val_main_v170
  by_cases hlt : (i 0).val < 2048
  · rw [if_pos (show (i 0).val / 128 < 16 by omega), pad_apply_of_inside _ _ _ _ _ pads_S2048x4x64_S2176x4x64_01280_000_000 h_S_ i (ValueIdx.ix3 ⟨(i 0).val, hlt⟩ (i 1) (i 2))
      (fun b => by fin_cases b <;> first | (show (i 0).val = 0 + (i 0).val * 1; omega) | (show (i 1).val = 0 + (i 1).val * 1; omega) | (show (i 2).val = 0 + (i 2).val * 1; omega))]
    exact v169 h0 h1 h2 h3 h4 h5 _
  · rw [if_neg (show ¬(i 0).val / 128 < 16 by omega), pad_apply_of_not_inside _ _ _ _ _ pads_S2048x4x64_S2176x4x64_01280_000_000 h_S_ i ⟨0, by decide⟩
      (fun h => hlt (by have h2 := h.2.2; change ((i 0).val - 0) / 1 < 2048 at h2; omega))]
    exact ((val_main_cst_31_apply _).trans lit_zero)

include h0 h1 h2 h3 h4 h5 in
theorem v172 (i : S2048x4x64.Idx) : val_main_v172 (F := Ideal) x0 x1 x2 x3 x4 x5 i = (((if (i 0).val / 128 < 15 then dkb padded A (i 1).val ((i 0).val / 128 + 1) ((i 0).val % 128) (i 2).val else 0) : ℝ) : EReal) := by
  refine (val_main_v172_apply _ _ _ _ _ _ _).trans ((v170 h0 h1 h2 h3 h4 h5 _).trans (congrArg Real.toEReal ?_))
  show (if (128 + (i 0).val) / 128 < 16 then dkb padded A (i 1).val ((128 + (i 0).val) / 128) ((128 + (i 0).val) % 128) (i 2).val else 0) = _
  rw [show (128 + (i 0).val) / 128 = (i 0).val / 128 + 1 from by omega, show (128 + (i 0).val) % 128 = (i 0).val % 128 from by omega]
  by_cases hc : (i 0).val / 128 < 15
  · rw [if_pos hc, if_pos (show (i 0).val / 128 + 1 < 16 by omega)]
  · rw [if_neg hc, if_neg (show ¬(i 0).val / 128 + 1 < 16 by omega)]

include h0 h1 h2 h3 h4 h5 in
theorem v173 (i : S2048x4x64.Idx) : val_main_v173 (F := Ideal) x0 x1 x2 x3 x4 x5 i = (((folded (dkb padded A) (i 1).val (i 0).val (i 2).val) : ℝ) : EReal) :=
  (val_main_v173_apply _ _ _ _ _ _ _).trans (congrArg₂ (FloatOps.addf (F := Ideal) (φ := .f32)) (v168 h0 h1 h2 h3 h4 h5 i) (v172 h0 h1 h2 h3 h4 h5 i))

include h0 h1 h2 h3 h4 h5 in
theorem v175 (i : S2048x256.Idx) : val_main_v175 (F := Ideal) x0 x1 x2 x3 x4 x5 i = (((folded (dkb padded A) ((i 1).val / 64) (i 0).val ((i 1).val % 64)) : ℝ) : EReal) :=
  (val_main_v175_apply _ _ _ _ _ _ _).trans (rd3 (f := fun x e d => folded (dkb padded A) e x d) (v173 h0 h1 h2 h3 h4 h5 ) (by have b0 : (i 0).val < 2048 := (i 0).isLt; have b1 : (i 1).val < 256 := (i 1).isLt; show ((i 0).val * 256 + (i 1).val) / 256 = (i 0).val; omega) (by have b0 : (i 0).val < 2048 := (i 0).isLt; have b1 : (i 1).val < 256 := (i 1).isLt; show ((i 0).val * 256 + (i 1).val) / 64 % 4 = (i 1).val / 64; omega) (by have b0 : (i 0).val < 2048 := (i 0).isLt; have b1 : (i 1).val < 256 := (i 1).isLt; show ((i 0).val * 256 + (i 1).val) % 64 = (i 1).val % 64; omega))

include h0 h1 h3 h4 h5 in
theorem v176 (i : S2048x256.Idx) : val_main_v176 (F := Ideal) x0 x1 x3 x4 x5 i = (((folded (dvb padded A) ((i 1).val / 64) (i 0).val ((i 1).val % 64)) : ℝ) : EReal) :=
  (val_main_v176_apply _ _ _ _ _ _).trans (rd3 (f := fun x e d => folded (dvb padded A) e x d) (v165 h0 h1 h3 h4 h5 ) (by have b0 : (i 0).val < 2048 := (i 0).isLt; have b1 : (i 1).val < 256 := (i 1).isLt; show ((i 0).val * 256 + (i 1).val) / 256 = (i 0).val; omega) (by have b0 : (i 0).val < 2048 := (i 0).isLt; have b1 : (i 1).val < 256 := (i 1).isLt; show ((i 0).val * 256 + (i 1).val) / 64 % 4 = (i 1).val / 64; omega) (by have b0 : (i 0).val < 2048 := (i 0).isLt; have b1 : (i 1).val < 256 := (i 1).isLt; show ((i 0).val * 256 + (i 1).val) % 64 = (i 1).val % 64; omega))

include h0 h1 h2 h3 h4 h5 in
theorem v177 (i : S2048x512.Idx) : val_main_v177 (F := Ideal) x0 x1 x2 x3 x4 x5 i = (((dkv padded A (i 0).val (i 1).val) : ℝ) : EReal) := by
  have hi : (i 1).val < 512 := (i 1).isLt
  unfold val_main_v177 dkv
  by_cases hlt : (i 1).val < 256
  · rw [if_pos hlt, concatenate_pair_apply_left _ _ _ concatenates_S2048x256_S2048x256_S2048x512_d1 i rfl (ValueIdx.ix2 (i 0) ⟨(i 1).val, hlt⟩) (fun b => by fin_cases b <;> rfl)]
    exact v175 h0 h1 h2 h3 h4 h5 _
  · rw [if_neg hlt, concatenate_pair_apply_right _ _ _ concatenates_S2048x256_S2048x256_S2048x512_d1 i rfl rfl (ValueIdx.ix2 (i 0) ⟨(i 1).val - 256, by omega⟩)
      (fun b hb => by fin_cases b <;> first | rfl | exact absurd rfl hb) (by show (i 1).val - 256 + 256 = (i 1).val; omega)]
    refine (v176 h0 h1 h3 h4 h5 _).trans (congrArg (fun d => ((folded (dvb padded A) (((i 1).val - 256) / 64) (i 0).val d : ℝ) : EReal)) ?_)
    show ((i 1).val - 256) % 64 = (i 1).val % 64
    omega

include h0 h1 h2 h3 h4 h5 in
theorem v182 (i : S2048x512.Idx) : val_main_v182 (F := Ideal) x0 x1 x2 x3 x4 x5 i = (((dkv padded A (i 0).val (i 1).val) : ℝ) : EReal) :=
  (val_main_v182_apply _ _ _ _ _ _ _).trans (v177 h0 h1 h2 h3 h4 h5 i)

include h0 h1 h2 h3 h4 h5 in
theorem v180 (i : S2048.Idx) : val_main_v180 (F := Ideal) x0 x1 x2 x3 x4 x5 i = (((dbq padded A (i 0).val) : ℝ) : EReal) :=
  (val_main_v180_apply _ _ _ _ _ _ _).trans ((congrArg₂ (· + ·) ((val_main_cst_32_apply _).trans lit_zero) ((Finset.sum_congr rfl fun k _ => (v174 h0 h1 h2 h3 h4 h5 _)).trans (sumC _ _))).trans ((addE _ _).trans (congrArg Real.toEReal ((zero_add _).trans ((sumR 16 128 (fun x => dq padded A x (i 0).val)).trans (dq_col A _))))))

include h0 h1 h2 h3 h4 h5 in
theorem v181 (i : S1x2048.Idx) : val_main_v181 (F := Ideal) x0 x1 x2 x3 x4 x5 i = (((dbq padded A (i 1).val) : ℝ) : EReal) :=
  (val_main_v181_apply _ _ _ _ _ _ _).trans (v180 h0 h1 h2 h3 h4 h5 _)

include h0 h1 h2 h3 h4 h5 in
theorem v183 (i : S512.Idx) : val_main_v183 (F := Ideal) x0 x1 x2 x3 x4 x5 i = (((dbkv padded A (i 0).val) : ℝ) : EReal) :=
  (val_main_v183_apply _ _ _ _ _ _ _).trans ((congrArg₂ (· + ·) ((val_main_cst_33_apply _).trans lit_zero) ((Finset.sum_congr rfl fun k _ => (v177 h0 h1 h2 h3 h4 h5 _)).trans (sumC _ _))).trans ((addE _ _).trans (congrArg Real.toEReal ((zero_add _).trans ((sumR 16 128 (fun x => dkv padded A x (i 0).val)).trans rfl)))))

include h0 h1 h2 h3 h4 h5 in
theorem v184 (i : S1x512.Idx) : val_main_v184 (F := Ideal) x0 x1 x2 x3 x4 x5 i = (((dbkv padded A (i 1).val) : ℝ) : EReal) :=
  (val_main_v184_apply _ _ _ _ _ _ _).trans (v183 h0 h1 h2 h3 h4 h5 _)

include h0 h1 h2 h3 h4 h5 in
theorem v147 (i : S4x8x128x256.Idx) : val_main_v147 (F := Ideal) x0 x1 x2 x3 x4 x5 i = (((dbias padded A (8 * (i 0).val + (i 1).val) (i 2).val (i 3).val) : ℝ) : EReal) :=
  (val_main_v147_apply _ _ _ _ _ _ _).trans ((congrArg₂ (· + ·) ((val_main_cst_27_apply _).trans lit_zero) ((Finset.sum_congr rfl fun k _ => (v146 h0 h1 h2 h3 h4 h5 _)).trans (sumC _ _))).trans ((addE _ _).trans (congrArg Real.toEReal ((zero_add _).trans (Finset.sum_congr rfl fun c _ => congrArg (fun H : Head => H.ds (i 2).val (i 3).val) (hd_eq A c.val _ (i 1).isLt))))))

include h0 h1 h2 h3 h4 h5 in
theorem v148 (i : S1x4x8x128x256.Idx) : val_main_v148 (F := Ideal) x0 x1 x2 x3 x4 x5 i = (((dbias padded A (8 * (i 1).val + (i 2).val) (i 3).val (i 4).val) : ℝ) : EReal) :=
  (val_main_v148_apply _ _ _ _ _ _ _).trans (rd4 (f := fun e g r t => dbias padded A (8 * e + g) r t) (v147 h0 h1 h2 h3 h4 h5 ) (by have b0 : (i 0).val < 1 := (i 0).isLt; have b1 : (i 1).val < 4 := (i 1).isLt; have b2 : (i 2).val < 8 := (i 2).isLt; have b3 : (i 3).val < 128 := (i 3).isLt; have b4 : (i 4).val < 256 := (i 4).isLt; show (((((i 0).val * 4 + (i 1).val) * 8 + (i 2).val) * 128 + (i 3).val) * 256 + (i 4).val) / 262144 = (i 1).val; omega) (by have b0 : (i 0).val < 1 := (i 0).isLt; have b1 : (i 1).val < 4 := (i 1).isLt; have b2 : (i 2).val < 8 := (i 2).isLt; have b3 : (i 3).val < 128 := (i 3).isLt; have b4 : (i 4).val < 256 := (i 4).isLt; show (((((i 0).val * 4 + (i 1).val) * 8 + (i 2).val) * 128 + (i 3).val) * 256 + (i 4).val) / 32768 % 8 = (i 2).val; omega) (by have b0 : (i 0).val < 1 := (i 0).isLt; have b1 : (i 1).val < 4 := (i 1).isLt; have b2 : (i 2).val < 8 := (i 2).isLt; have b3 : (i 3).val < 128 := (i 3).isLt; have b4 : (i 4).val < 256 := (i 4).isLt; show (((((i 0).val * 4 + (i 1).val) * 8 + (i 2).val) * 128 + (i 3).val) * 256 + (i 4).val) / 256 % 128 = (i 3).val; omega) (by have b0 : (i 0).val < 1 := (i 0).isLt; have b1 : (i 1).val < 4 := (i 1).isLt; have b2 : (i 2).val < 8 := (i 2).isLt; have b3 : (i 3).val < 128 := (i 3).isLt; have b4 : (i 4).val < 256 := (i 4).isLt; show (((((i 0).val * 4 + (i 1).val) * 8 + (i 2).val) * 128 + (i 3).val) * 256 + (i 4).val) % 256 = (i 4).val; omega))

include h0 h1 h2 h3 h4 h5 in
theorem v149 (i : S4x8x128x256.Idx) : val_main_v149 (F := Ideal) x0 x1 x2 x3 x4 x5 i = (((dbias padded A (8 * (i 0).val + (i 1).val) (i 2).val (i 3).val) : ℝ) : EReal) :=
  (val_main_v149_apply _ _ _ _ _ _ _).trans ((congrArg₂ (· + ·) ((val_main_cst_28_apply _).trans lit_zero) ((Finset.sum_congr rfl fun k _ => (v148 h0 h1 h2 h3 h4 h5 _)).trans (sumC _ _))).trans ((addE _ _).trans (congrArg Real.toEReal ((zero_add _).trans (Fintype.sum_unique _)))))

include h0 h1 h2 h3 h4 h5 in
theorem v150 (i : S32x128x256.Idx) : val_main_v150 (F := Ideal) x0 x1 x2 x3 x4 x5 i = (((dbias padded A (i 0).val (i 1).val (i 2).val) : ℝ) : EReal) :=
  (val_main_v150_apply _ _ _ _ _ _ _).trans ((rd4 (f := fun e g r t => dbias padded A (8 * e + g) r t) (v149 h0 h1 h2 h3 h4 h5 ) (by have b0 : (i 0).val < 32 := (i 0).isLt; have b1 : (i 1).val < 128 := (i 1).isLt; have b2 : (i 2).val < 256 := (i 2).isLt; show (((i 0).val * 128 + (i 1).val) * 256 + (i 2).val) / 262144 = (i 0).val / 8; omega) (by have b0 : (i 0).val < 32 := (i 0).isLt; have b1 : (i 1).val < 128 := (i 1).isLt; have b2 : (i 2).val < 256 := (i 2).isLt; show (((i 0).val * 128 + (i 1).val) * 256 + (i 2).val) / 32768 % 8 = (i 0).val % 8; omega) (by have b0 : (i 0).val < 32 := (i 0).isLt; have b1 : (i 1).val < 128 := (i 1).isLt; have b2 : (i 2).val < 256 := (i 2).isLt; show (((i 0).val * 128 + (i 1).val) * 256 + (i 2).val) / 256 % 128 = (i 1).val; omega) (by have b0 : (i 0).val < 32 := (i 0).isLt; have b1 : (i 1).val < 128 := (i 1).isLt; have b2 : (i 2).val < 256 := (i 2).isLt; show (((i 0).val * 128 + (i 1).val) * 256 + (i 2).val) % 256 = (i 2).val; omega)).trans (congrArg (fun n => ((dbias padded A n (i 1).val (i 2).val : ℝ) : EReal)) (Nat.div_add_mod _ 8)))

include h0 h1 h2 h3 h4 h5 in
theorem v123 (i : S4x8x1.Idx) : val_main_v123 (F := Ideal) x0 x1 x2 x3 x4 x5 i = (((dsink padded A (8 * (i 0).val + (i 1).val)) : ℝ) : EReal) := by
  unfold val_main_v123
  simp only [Host.reduceAdd, Ideal.hostReduceAdd_def]
  refine (congrArg₂ (· + ·) ((val_main_cst_21_apply _).trans lit_zero) (red_rows _ (fun c e g r => (hd A c e g).dsk r) (v122 h0 h1 h2 h3 h4 h5 ) i)).trans ((addE _ _).trans (congrArg Real.toEReal ((zero_add _).trans ?_)))
  unfold dsink
  exact Finset.sum_congr rfl fun c _ => Finset.sum_congr rfl fun r _ => by rw [hd_eq A c.val _ (show (i 1).val < 8 from (i 1).isLt)]

include h0 h1 h2 h3 h4 h5 in
theorem v135 (i : S4x8x1.Idx) : val_main_v135 (F := Ideal) x0 x1 x2 x3 x4 x5 i = ((0 : ℝ) : EReal) := by
  unfold val_main_v135
  simp only [Host.reduceAdd, Ideal.hostReduceAdd_def]
  refine (congrArg₂ (· + ·) ((val_main_cst_24_apply _).trans lit_zero) (red_rows _ (fun c e g r => 0) (v134 h0 h1 h2 h3 h4 h5 ) i)).trans ((addE _ _).trans (congrArg Real.toEReal ((zero_add _).trans ?_)))
  exact Finset.sum_eq_zero fun _ _ => Finset.sum_eq_zero fun _ _ => rfl

include h0 h1 h2 h3 h4 h5 in
theorem v124 (i : S1x4x8x1x1.Idx) : val_main_v124 (F := Ideal) x0 x1 x2 x3 x4 x5 i = (((dsink padded A (8 * (i 1).val + (i 2).val)) : ℝ) : EReal) :=
  (val_main_v124_apply _ _ _ _ _ _ _).trans (rd3 (f := fun e g _ => dsink padded A (8 * e + g)) (v123 h0 h1 h2 h3 h4 h5 ) (by have b0 : (i 0).val < 1 := (i 0).isLt; have b1 : (i 1).val < 4 := (i 1).isLt; have b2 : (i 2).val < 8 := (i 2).isLt; have b3 : (i 3).val < 1 := (i 3).isLt; have b4 : (i 4).val < 1 := (i 4).isLt; show (((((i 0).val * 4 + (i 1).val) * 8 + (i 2).val) * 1 + (i 3).val) * 1 + (i 4).val) / 8 = _; omega) (by have b0 : (i 0).val < 1 := (i 0).isLt; have b1 : (i 1).val < 4 := (i 1).isLt; have b2 : (i 2).val < 8 := (i 2).isLt; have b3 : (i 3).val < 1 := (i 3).isLt; have b4 : (i 4).val < 1 := (i 4).isLt; show (((((i 0).val * 4 + (i 1).val) * 8 + (i 2).val) * 1 + (i 3).val) * 1 + (i 4).val) / 1 % 8 = _; omega) (z := 0) rfl)

include h0 h1 h2 h3 h4 h5 in
theorem v136 (i : S1x4x8x1x1.Idx) : val_main_v136 (F := Ideal) x0 x1 x2 x3 x4 x5 i = ((0 : ℝ) : EReal) :=
  (val_main_v136_apply _ _ _ _ _ _ _).trans (v135 h0 h1 h2 h3 h4 h5 _)

include h0 h1 h2 h3 h4 h5 in
theorem v137 (i : S1x4x8x1x1.Idx) : val_main_v137 (F := Ideal) x0 x1 x2 x3 x4 x5 i = (((dsink padded A (8 * (i 1).val + (i 2).val)) : ℝ) : EReal) :=
  (val_main_v137_apply _ _ _ _ _ _ _).trans ((congrArg₂ (FloatOps.addf (F := Ideal) (φ := .f32)) (v124 h0 h1 h2 h3 h4 h5 i) (v136 h0 h1 h2 h3 h4 h5 i)).trans (congrArg Real.toEReal (add_zero _)))

include h0 h1 h2 h3 h4 h5 in
theorem v144 (i : S4x8.Idx) : val_main_v144 (F := Ideal) x0 x1 x2 x3 x4 x5 i = (((dsink padded A (8 * (i 0).val + (i 1).val)) : ℝ) : EReal) := by
  unfold val_main_v144
  simp only [Host.reduceAdd, Ideal.hostReduceAdd_def]
  exact (congrArg₂ (· + ·) ((val_main_cst_26_apply _).trans lit_zero) ((red_one _ i).trans (v137 h0 h1 h2 h3 h4 h5 _))).trans ((addE _ _).trans (congrArg Real.toEReal (zero_add _)))

include h0 h1 h2 h3 h4 h5 in
theorem v145 (i : S32.Idx) : val_main_v145 (F := Ideal) x0 x1 x2 x3 x4 x5 i = (((dsink padded A (i 0).val) : ℝ) : EReal) :=
  (val_main_v145_apply _ _ _ _ _ _ _).trans ((v144 h0 h1 h2 h3 h4 h5 _).trans (congrArg (fun n => ((dsink padded A n : ℝ) : EReal)) (Nat.div_add_mod _ 8)))

end Cert.CoreRef

end
-- ==== Proof.Finite.lean ====
/- Finite arrays: what the claims' precondition says of an argument, and its entries as a real function of natural
   indices. -/
module

public import proofs.«01_k».proof.Proof.Mat

@[expose] public section

noncomputable section

namespace Cert.Finite

open Idealize.ShloMosaic Cert.Mat

theorem lit_top : Ideal.ofBits .f32 0x7F800000#32 = (⊤ : EReal) := by simp [Ideal.ofBits, Ideal.ieee]

/-- A number of magnitude below infinity is a real number. -/
theorem real_of_lt (x : EReal)
    (h : FloatOps.cmpf (F := Ideal) (φ := .f32) .olt (FloatOps.hostAbsf (F := Ideal) (φ := .f32) x) (Ideal.ofBits .f32 0x7F800000#32) = 1#1) :
    x = ((x.toReal : ℝ) : EReal) := by
  rw [lit_top, Ideal.cmpf_def] at h
  have hlt : max x (-x) < ⊤ := by
    by_contra hn
    have : Ideal.cmp .olt (max x (-x)) ⊤ = 0#1 := by simp [Ideal.cmp, hn]
    exact absurd (this.symm.trans h) (by decide : ¬(0#1 : BitVec 1) = 1#1)
  refine (EReal.coe_toReal (fun e => ?_) (fun e => ?_)).symm
  · subst e; exact absurd hlt (by simp)
  · subst e; exact absurd hlt (by simp)

section Entries

variable {a b c : ℕ}

def ent1 (v : (⟨1, ![a]⟩ : Shape).Idx → EReal) (i : ℕ) : ℝ := if h : i < a then (v (ValueIdx.ix1 ⟨i, h⟩)).toReal else 0
def ent2 (v : (⟨2, ![a, b]⟩ : Shape).Idx → EReal) (i j : ℕ) : ℝ :=
  if h : i < a ∧ j < b then (v (ValueIdx.ix2 ⟨i, h.1⟩ ⟨j, h.2⟩)).toReal else 0
def ent3 (v : (⟨3, ![a, b, c]⟩ : Shape).Idx → EReal) (i j k : ℕ) : ℝ :=
  if h : i < a ∧ j < b ∧ k < c then (v (ValueIdx.ix3 ⟨i, h.1⟩ ⟨j, h.2.1⟩ ⟨k, h.2.2⟩)).toReal else 0

theorem is1_ent {v : (⟨1, ![a]⟩ : Shape).Idx → EReal} (hv : ∀ i, v i = (((v i).toReal : ℝ) : EReal)) : Is1 v (ent1 v) := fun i => by
  refine (hv i).trans (congrArg Real.toEReal ?_)
  have h0 : (i 0).val < a := (i 0).isLt
  unfold ent1
  rw [dif_pos h0]
  exact congrArg (fun i => (v i).toReal) (ValueIdx.eq_ix1 i)
theorem is2_ent {v : (⟨2, ![a, b]⟩ : Shape).Idx → EReal} (hv : ∀ i, v i = (((v i).toReal : ℝ) : EReal)) : Is2 v (ent2 v) := fun i => by
  refine (hv i).trans (congrArg Real.toEReal ?_)
  have h0 : (i 0).val < a ∧ (i 1).val < b := ⟨(i 0).isLt, (i 1).isLt⟩
  unfold ent2
  rw [dif_pos h0]
  exact congrArg (fun i => (v i).toReal) (ValueIdx.eq_ix2 i)
theorem is3_ent {v : (⟨3, ![a, b, c]⟩ : Shape).Idx → EReal} (hv : ∀ i, v i = (((v i).toReal : ℝ) : EReal)) : Is3 v (ent3 v) := fun i => by
  refine (hv i).trans (congrArg Real.toEReal ?_)
  have h0 : (i 0).val < a ∧ (i 1).val < b ∧ (i 2).val < c := ⟨(i 0).isLt, (i 1).isLt, (i 2).isLt⟩
  unfold ent3
  rw [dif_pos h0]
  exact congrArg (fun i => (v i).toReal) (ValueIdx.eq_ix3 i)

end Entries

end Cert.Finite

end
-- ==== Proof.CoreAttn.lean ====
/- The attention's core: the three kernels' results are the reference's. -/
module

public import proofs.«01_k».proof.Proof.CoreWhole
public import proofs.«01_k».proof.Proof.CoreLaunch
public import proofs.«01_k».proof.Proof.CoreRefBack
public import proofs.«01_k».proof.Proof.Finite
public import proofs.«01_k».proof.Proof.Gen.Attn.Frame
public import proofs.«01_k».proof.Proof.Gen.AttnReferenceIdeal.Run
public import proofs.«01_k».proof.Proof.Gen.AttnReferenceIdeal.Read
public import proofs.«01_k».proof.Proof.Gen.Pre_finite12
public import proofs.«01_k».proof.Defs

@[expose] public section

set_option maxRecDepth 16384

noncomputable section

namespace Cert.CorePair

open Idealize.ShloMosaic Idealize.ShloMosaic.TcCoe Idealize.SL.Sem Cert.Finite Cert.Core

/-! ## The claims -/

theorem frame_p : Cert.quiescent_Attn := fun m ρ _ => Cert.Attn.Gen.frame m ρ
theorem frame_pi : Cert.quiescent_AttnIdeal := fun m ρ _ => Cert.AttnIdeal.Gen.frame m ρ
theorem frame_pi_pre : Cert.quiescent_AttnIdeal_pre_finite12 := fun m ρ _ => Cert.AttnIdeal.Gen.frame m ρ
theorem frame_ri : Cert.quiescent_AttnReferenceIdeal := fun m ρ _ =>
  (θ_run Cert.AttnReferenceIdeal.defs _ _).mono
    (fun r h => ⟨fun c => (h c).2.2.2.2.2.2.2, sem_eq_zero_of_no_sems (by decide) r.2⟩) (Cert.AttnReferenceIdeal.Value.run (F := Ideal) m ρ)
theorem frame_ri_pre : Cert.quiescent_AttnReferenceIdeal_pre_finite12 := fun m ρ _ => frame_ri m ρ trivial
theorem preserves : Cert.preserves_Attn_AttnIdeal := IdealRules.named_const.statement Cert.AttnIdeal.κ "masked" .f32 0xF149F2CA#32 _ rfl

theorem algebraic : Cert.algebraic_AttnIdeal_AttnReferenceIdeal_pre_finite12 := fun m ρ m' ρ' hpre hargs => by
  refine ⟨_, _, _, _, _, _, _, Cert.CoreAll.run m ρ, ?_⟩
  refine (θ_run Cert.AttnReferenceIdeal.defs _ _).mono (fun r h c => ?_) (Cert.AttnReferenceIdeal.Value.run (F := Ideal) m' ρ')
  obtain ⟨r0, r1, r2, r3, r4, r5, r6, rest⟩ := h c
  obtain ⟨a0, a1, a2, a3, a4, a5⟩ := hargs c
  have e0 : StableHlo.launchContents m' c (Proc.devRef .tc Cert.AttnReferenceIdeal.main_arg0) = m (c.tc.loc Cert.AttnIdeal.main_arg0) := a0
  have e1 : StableHlo.launchContents m' c (Proc.devRef .tc Cert.AttnReferenceIdeal.main_arg1) = m (c.tc.loc Cert.AttnIdeal.main_arg1) := a1
  have e2 : StableHlo.launchContents m' c (Proc.devRef .tc Cert.AttnReferenceIdeal.main_arg2) = m (c.tc.loc Cert.AttnIdeal.main_arg2) := a2
  have e3 : StableHlo.launchContents m' c (Proc.devRef .tc Cert.AttnReferenceIdeal.main_arg3) = m (c.tc.loc Cert.AttnIdeal.main_arg3) := a3
  have e4 : StableHlo.launchContents m' c (Proc.devRef .tc Cert.AttnReferenceIdeal.main_arg4) = m (c.tc.loc Cert.AttnIdeal.main_arg4) := a4
  have e5 : StableHlo.launchContents m' c (Proc.devRef .tc Cert.AttnReferenceIdeal.main_arg5) = m (c.tc.loc Cert.AttnIdeal.main_arg5) := a5
  obtain ⟨p0, p1, p2, p3, p4, p5⟩ := hpre c
  let A : Args := ⟨ent2 (a := 2048) (b := 2048) (m (c.tc.loc Cert.AttnIdeal.main_arg0)),
    ent3 (a := 4) (b := 2048) (c := 64) (m (c.tc.loc Cert.AttnIdeal.main_arg1)),
    ent3 (a := 4) (b := 2048) (c := 64) (m (c.tc.loc Cert.AttnIdeal.main_arg2)),
    ent3 (a := 32) (b := 128) (c := 256) (m (c.tc.loc Cert.AttnIdeal.main_arg3)),
    ent1 (a := 32) (m (c.tc.loc Cert.AttnIdeal.main_arg4)),
    ent2 (a := 2048) (b := 2048) (m (c.tc.loc Cert.AttnIdeal.main_arg5))⟩
  have h0 := is2_ent (a := 2048) (b := 2048) fun i => real_of_lt (m (c.tc.loc Cert.AttnIdeal.main_arg0) i) (congrFun p0 i)
  have h1 := is3_ent (a := 4) (b := 2048) (c := 64) fun i => real_of_lt (m (c.tc.loc Cert.AttnIdeal.main_arg1) i) (congrFun p1 i)
  have h2 := is3_ent (a := 4) (b := 2048) (c := 64) fun i => real_of_lt (m (c.tc.loc Cert.AttnIdeal.main_arg2) i) (congrFun p2 i)
  have h3 := is3_ent (a := 32) (b := 128) (c := 256) fun i => real_of_lt (m (c.tc.loc Cert.AttnIdeal.main_arg3) i) (congrFun p3 i)
  have h4 := is1_ent (a := 32) fun i => real_of_lt (m (c.tc.loc Cert.AttnIdeal.main_arg4) i) (congrFun p4 i)
  have h5 := is2_ent (a := 2048) (b := 2048) fun i => real_of_lt (m (c.tc.loc Cert.AttnIdeal.main_arg5) i) (congrFun p5 i)
  refine ⟨r0.trans ?_, r1.trans ?_, r2.trans ?_, r3.trans ?_, r4.trans ?_, r5.trans ?_, r6.trans ?_, rest⟩
  · refine (Cert.AttnReferenceIdeal.Read.val_main_v178_eq (StableHlo.launchContents m' c)).trans ?_
    rw [e0, e1, e2, e3, e4]
    exact funext fun i => (Cert.CoreRef.v178 (A := A) h0 h1 h2 h3 h4 i).trans
      ((Cert.CoreAll.attn_at m ρ c (A := A) h0 h1 h2 h3 h4 i).trans (by rw [attn_eq])).symm
  · refine (Cert.AttnReferenceIdeal.Read.val_main_v179_eq (StableHlo.launchContents m' c)).trans ?_
    rw [e0, e1, e2, e3, e4, e5]
    exact funext fun i => (Cert.CoreRef.v179 (A := A) h0 h1 h2 h3 h4 h5 i).trans
      ((Cert.CoreAll.dq_at m ρ c (A := A) h0 h1 h2 h3 h4 h5 i).trans (by rw [dq_eq])).symm
  · refine (Cert.AttnReferenceIdeal.Read.val_main_v181_eq (StableHlo.launchContents m' c)).trans ?_
    rw [e0, e1, e2, e3, e4, e5]
    exact funext fun i => (Cert.CoreRef.v181 (A := A) h0 h1 h2 h3 h4 h5 i).trans
      ((Cert.CoreAll.dbq_at m ρ c (A := A) h0 h1 h2 h3 h4 h5 i).trans (by rw [dbq_eq])).symm
  · refine (Cert.AttnReferenceIdeal.Read.val_main_v182_eq (StableHlo.launchContents m' c)).trans ?_
    rw [e0, e1, e2, e3, e4, e5]
    exact funext fun i => (Cert.CoreRef.v182 (A := A) h0 h1 h2 h3 h4 h5 i).trans
      ((Cert.CoreAll.dkv_at m ρ c (A := A) h0 h1 h2 h3 h4 h5 i).trans (by rw [dkv_eq])).symm
  · refine (Cert.AttnReferenceIdeal.Read.val_main_v184_eq (StableHlo.launchContents m' c)).trans ?_
    rw [e0, e1, e2, e3, e4, e5]
    exact funext fun i => (Cert.CoreRef.v184 (A := A) h0 h1 h2 h3 h4 h5 i).trans
      ((Cert.CoreAll.dbkv_at m ρ c (A := A) h0 h1 h2 h3 h4 h5 i).trans (by rw [dbkv_eq])).symm
  · refine (Cert.AttnReferenceIdeal.Read.val_main_v150_eq (StableHlo.launchContents m' c)).trans ?_
    rw [e0, e1, e2, e3, e4, e5]
    exact funext fun i => (Cert.CoreRef.v150 (A := A) h0 h1 h2 h3 h4 h5 i).trans
      ((Cert.CoreAll.dbias_at m ρ c (A := A) h0 h1 h2 h3 h4 h5 i).trans (by rw [dbias_eq])).symm
  · refine (Cert.AttnReferenceIdeal.Read.val_main_v145_eq (StableHlo.launchContents m' c)).trans ?_
    rw [e0, e1, e2, e3, e4, e5]
    exact funext fun i => (Cert.CoreRef.v145 (A := A) h0 h1 h2 h3 h4 h5 i).trans
      ((Cert.CoreAll.dsink_at m ρ c (A := A) h0 h1 h2 h3 h4 h5 i).trans (by rw [dsink_eq])).symm

end Cert.CorePair

end
-- ==== Proof.Spec.lean ====
/- The gradient of the gMLP's spatial gating as real-number formulas: one row of 4096 activations (`z`), one chunk of 128
   rows (`X`), and the whole step over 16 chunks (`Z`). The groups are 256 columns wide. -/
module

public import proofs.«01_k».proof.Proof.Lift

@[expose] public section

noncomputable section

namespace Cert.Spec

open Cert.Lift

/-! ## gelu and its derivative -/

def th (x : ℝ) : ℝ := Real.tanh (kC * (x + kk * (x * x * x)))
def act (x : ℝ) : ℝ := 1 / 2 * x * (1 + th x)
def dact (x : ℝ) : ℝ := 1 / 2 * (1 + th x) + 1 / 2 * x * (1 - th x * th x) * (kC * (1 + 3 * kk * x * x))

/-! ## One row: `z` holds u's half, then v's half, of the 4096 activations; `G` is the norm's gain -/

def u (z : ℕ → ℝ) (j : ℕ) : ℝ := act (z j)
def v (z : ℕ → ℝ) (j : ℕ) : ℝ := act (z (2048 + j))
def ms (z : ℕ → ℝ) : ℝ := (∑ j : Fin 2048, v z j * v z j) / 2048 + eps
def rv (z : ℕ → ℝ) : ℝ := (Real.sqrt (ms z))⁻¹
def vh (z : ℕ → ℝ) (j : ℕ) : ℝ := v z j * rv z
def vn (z G : ℕ → ℝ) (j : ℕ) : ℝ := vh z j * G j

theorem ms_pos (z : ℕ → ℝ) : 0 < ms z := by
  unfold ms
  have h : 0 ≤ ∑ j : Fin 2048, v z j * v z j := Finset.sum_nonneg fun j _ => mul_self_nonneg _
  have := eps_pos
  positivity

/-! ## One chunk: `X t` is row `t`, `Dg t` the incoming gradient's row, `W g t s` the mixing weights, `B g t` their bias -/

def wc (W : ℕ → ℕ → ℕ → ℝ) (g t s : ℕ) : ℝ := if s ≤ t then W g t s else 0
def sg (X : ℕ → ℕ → ℝ) (G : ℕ → ℝ) (W : ℕ → ℕ → ℕ → ℝ) (B : ℕ → ℕ → ℝ) (t j : ℕ) : ℝ :=
  (∑ s : Fin 128, wc W (j / 256) t s * vn (X s) G j) + B (j / 256) t
def ds (X Dg : ℕ → ℕ → ℝ) (t j : ℕ) : ℝ := Dg t j * u (X t) j
def dvn (X Dg : ℕ → ℕ → ℝ) (W : ℕ → ℕ → ℕ → ℝ) (s j : ℕ) : ℝ := ∑ t : Fin 128, wc W (j / 256) t s * ds X Dg t j
def dw (X Dg : ℕ → ℕ → ℝ) (G : ℕ → ℝ) (g t s : ℕ) : ℝ :=
  if s ≤ t then ∑ d : Fin 256, ds X Dg t (256 * g + d) * vn (X s) G (256 * g + d) else 0
def db (X Dg : ℕ → ℕ → ℝ) (g t : ℕ) : ℝ := ∑ d : Fin 256, ds X Dg t (256 * g + d)
def dg (X Dg : ℕ → ℕ → ℝ) (W : ℕ → ℕ → ℕ → ℝ) (j : ℕ) : ℝ := ∑ t : Fin 128, dvn X Dg W t j * vh (X t) j
def dvh (X Dg : ℕ → ℕ → ℝ) (G : ℕ → ℝ) (W : ℕ → ℕ → ℕ → ℝ) (t j : ℕ) : ℝ := dvn X Dg W t j * G j
def dv (X Dg : ℕ → ℕ → ℝ) (G : ℕ → ℝ) (W : ℕ → ℕ → ℕ → ℝ) (t j : ℕ) : ℝ :=
  rv (X t) * (dvh X Dg G W t j - vh (X t) j * ((∑ k : Fin 2048, dvh X Dg G W t k * vh (X t) k) / 2048))
def dzU (X Dg : ℕ → ℕ → ℝ) (G : ℕ → ℝ) (W : ℕ → ℕ → ℕ → ℝ) (B : ℕ → ℕ → ℝ) (t j : ℕ) : ℝ :=
  Dg t j * sg X G W B t j * dact (X t j)
def dzV (X Dg : ℕ → ℕ → ℝ) (G : ℕ → ℝ) (W : ℕ → ℕ → ℕ → ℝ) (t j : ℕ) : ℝ := dv X Dg G W t j * dact (X t (2048 + j))
def dz (X Dg : ℕ → ℕ → ℝ) (G : ℕ → ℝ) (W : ℕ → ℕ → ℕ → ℝ) (B : ℕ → ℕ → ℝ) (t k : ℕ) : ℝ :=
  if k < 2048 then dzU X Dg G W B t k else dzV X Dg G W t (k - 2048)

/-! ## The whole step -/

/-- Rows `128 c … 128 c + 127`. -/
def rows (Z : ℕ → ℕ → ℝ) (c t : ℕ) : ℕ → ℝ := Z (128 * c + t)

def dwAll (Z D : ℕ → ℕ → ℝ) (G : ℕ → ℝ) (g t s : ℕ) : ℝ := ∑ c : Fin 16, dw (rows Z c) (rows D c) G g t s
def dbAll (Z D : ℕ → ℕ → ℝ) (g t : ℕ) : ℝ := ∑ c : Fin 16, db (rows Z c) (rows D c) g t
def dgAll (Z D : ℕ → ℕ → ℝ) (W : ℕ → ℕ → ℕ → ℝ) (j : ℕ) : ℝ := ∑ c : Fin 16, dg (rows Z c) (rows D c) W j
def dzAll (Z D : ℕ → ℕ → ℝ) (G : ℕ → ℝ) (W : ℕ → ℕ → ℕ → ℝ) (B : ℕ → ℕ → ℝ) (r k : ℕ) : ℝ :=
  dz (rows Z (r / 128)) (rows D (r / 128)) G W B (r % 128) k

end Cert.Spec

end
-- ==== Proof.Block.lean ====
/- What one grid point of the kernel computes from finite blocks, payload by payload, as the real-number formulas. -/
module

public import proofs.«01_k».proof.Proof.Gen.KernelIdeal.Value
public import proofs.«01_k».proof.Proof.Spec
public import proofs.«01_k».proof.Proof.Mat

@[expose] public section

noncomputable section

namespace Cert.Block

open Cert.KernelIdeal Cert.KernelIdeal.Gen Idealize.ShloMosaic Idealize.ShloMosaic.ValueIdx Cert.Lift Cert.Mat

variable {X Dg : ℕ → ℕ → ℝ} {G : ℕ → ℝ} {W : ℕ → ℕ → ℕ → ℝ} {B : ℕ → ℕ → ℝ}

/-! ## gelu and its derivative -/

theorem cube : Named.named (F := Ideal) κ (φ := .f32) "cube" 0x3D372713#32 = ((kk : ℝ) : EReal) :=
  IdealRules.named_const.ideal_named_scalar _ _ _ _ rfl
theorem cube3 : Named.named (F := Ideal) κ (φ := .f32) "cube3" 0x3E095D4F#32 = ((3 * kk : ℝ) : EReal) := by
  rw [show (3 * kk : ℝ) = 26829 / 200000 by unfold kk; norm_num]
  exact IdealRules.named_const.ideal_named_scalar _ _ _ _ rfl

theorem th_at {x : Vec Ideal S128x2048 .f32} {f : ℕ → ℕ → ℝ} (h : Is2 x f) : Is2 (k0_pay4 (F := Ideal) x) (fun t j => Spec.th (f t j)) := fun i => by
  unfold k0_pay4
  show FloatOps.tanh (FloatOps.mulf (Ideal.ofBits .f32 0x3F4C422A#32) (FloatOps.addf (x i)
    (FloatOps.mulf (Named.named (F := Ideal) κ (φ := .f32) "cube" 0x3D372713#32) (FloatOps.mulf (FloatOps.mulf (x i) (x i)) (x i))))) = _
  rw [h i, cube, lit_kC]
  simp only [mulC, addC, tanhC]
  rfl

theorem act_at {x : Vec Ideal S128x2048 .f32} {f : ℕ → ℕ → ℝ} (h : Is2 x f) : Is2 (k0_pay5 (F := Ideal) x) (fun t j => Spec.act (f t j)) := fun i => by
  unfold k0_pay5
  show FloatOps.mulf (FloatOps.mulf (Ideal.ofBits .f32 0x3F000000#32) (x i)) (FloatOps.addf (Ideal.ofBits .f32 0x3F800000#32) (k0_pay4 x i)) = _
  rw [h i, th_at h i, lit_half, lit_one]
  simp only [mulC, addC]
  rfl

theorem dact_at {x : Vec Ideal S128x2048 .f32} {f : ℕ → ℕ → ℝ} (h : Is2 x f) : Is2 (k0_pay6 (F := Ideal) x) (fun t j => Spec.dact (f t j)) := fun i => by
  unfold k0_pay6
  show FloatOps.addf (FloatOps.mulf (Ideal.ofBits .f32 0x3F000000#32) (FloatOps.addf (Ideal.ofBits .f32 0x3F800000#32) (k0_pay4 x i)))
    (FloatOps.mulf (FloatOps.mulf (FloatOps.mulf (Ideal.ofBits .f32 0x3F000000#32) (x i))
      (FloatOps.subf (Ideal.ofBits .f32 0x3F800000#32) (FloatOps.mulf (k0_pay4 x i) (k0_pay4 x i))))
      (FloatOps.mulf (Ideal.ofBits .f32 0x3F4C422A#32) (FloatOps.addf (Ideal.ofBits .f32 0x3F800000#32)
        (FloatOps.mulf (FloatOps.mulf (Named.named (F := Ideal) κ (φ := .f32) "cube3" 0x3E095D4F#32) (x i)) (x i))))) = _
  rw [h i, th_at h i, lit_half, lit_one, lit_kC, cube3]
  simp only [mulC, addC, subC]
  rfl

/-! ## v's half of a row: its activation, derivative and normalisation -/

/-- The columns from `o` on. -/
def shift (o : ℕ) (f : ℕ → ℕ → ℝ) (t j : ℕ) : ℝ := f t (o + j)

section V
variable {x : Vec Ideal S128x2048 .f32} {gv : Vec Ideal S1x2048 .f32}

theorem v_at (h : Is2 x (shift 2048 X)) : Is2 (k0_pay8 (F := Ideal) x (k0_pay7 x)) (fun t j => Spec.v (X t) j) := act_at h
theorem gv_at (h : Is2 x (shift 2048 X)) : Is2 (k0_pay9 (F := Ideal) x (k0_pay7 x)) (fun t j => Spec.dact (X t (2048 + j))) := dact_at h

theorem rv_at (h : Is2 x (shift 2048 X)) : Is2 (k0_pay10 (F := Ideal) x (k0_pay7 x)) (fun t _ => Spec.rv (X t)) := fun i => by
  have hv := v_at h
  unfold k0_pay10
  have hs := is2_col (h := shapeCasts_S128_S128x1) (rowSum (acc := 0x00000000#32) (h := reduces_S128x2048_S128) (hφ := .inl rfl) (hacc := rfl) (is2_mul hv hv))
  dsimp only at hs ⊢
  generalize shapeCast S128x1 _ shapeCasts_S128_S128x1 = z at hs ⊢
  show FloatOps.rsqrt (FloatOps.addf (FloatOps.divf (z i) (Ideal.ofBits .f32 0x45000000#32)) (Ideal.ofBits .f32 0x3727C5AC#32)) = _
  rw [hs i, lit_2048, lit_eps, divC _ (by norm_num), addC]
  exact rsqrtC (Spec.ms_pos (X (i 0).val))

theorem vh_at (h : Is2 x (shift 2048 X)) : Is2 (k0_pay11 (F := Ideal) x (k0_pay7 x)) (fun t j => Spec.vh (X t) j) :=
  is2_mul (v_at h) (is2_cols (rv_at h))
theorem vn_at (h : Is2 x (shift 2048 X)) (hg : Is2 gv (fun _ j => G j)) :
    Is2 (k0_pay12 (F := Ideal) x (k0_pay7 x) gv) (fun t j => Spec.vn (X t) G j) :=
  is2_trunc (is2_mul (vh_at h) (is2_rows (is2_self (φ := .f32) hg)))

end V

/-! ## One group of 256 columns -/

theorem masked {v : FVec Ideal S128x128 .f32} {f : ℕ → ℕ → ℝ} (h : Is2 v f) :
    Is2 (select k0_pay13 v (broadcast S128x128 (Scalar.ofBits (F := Ideal) .f32 0x00000000#32))) (fun t s => if s ≤ t then f t s else 0) := fun i => by
  show Scalar.select (k0_pay13 i) (v i) (Ideal.ofBits .f32 0x00000000#32) = _
  have hm : k0_pay13 i = if (i 1).val ≤ (i 0).val then 1#1 else 0#1 := by
    unfold k0_pay13
    show IntOp.cmpi .sge (iota .tc S128x128 32 [0] iota_S128x128_d0_w32 i) (iota .tc S128x128 32 [1] iota_S128x128_d1_w32 i) = _
    rw [iota_single_apply, iota_single_apply]
    exact mask_bit _ _ (i 0).isLt (i 1).isLt
  rw [hm, h i, lit_zero]
  by_cases c : (i 1).val ≤ (i 0).val
  · rw [if_pos c]; exact congrArg (fun r : ℝ => (r : EReal)) (if_pos c).symm
  · rw [if_neg c]; exact congrArg (fun r : ℝ => (r : EReal)) (if_neg c).symm

theorem wc_at (g : ℕ) {v : Vec Ideal S1x128x128 .f32} (h : Is3 v (fun _ t s => W g t s)) :
    Is2 (k0_pay17 (F := Ideal) k0_pay13 v) (fun t s => Spec.wc W g t s) :=
  is2_trunc (masked (is2_of3 (φ := .f32) h))

section Group
variable {v13 v32 : FVec Ideal S128x2048 .f32} {v80 : FVec Ideal S128x2048 .bf16} {v99 : Vec Ideal S128x256 .f32} {w : FVec Ideal S128x128 .bf16}
  {v95 : Vec Ideal S128x1 .f32} {d : FVec Ideal S128x256 .bf16} {d' : FVec Ideal S128x256 .f32} {vs : FVec Ideal S128x256 .bf16}
  {p : Vec Ideal S1x128x128 .f32} {q : Vec Ideal S1x8x128 .f32} {P : ℕ → ℕ → ℝ}

theorem ds_at (g : ℕ) {hs : S128x2048.Slices ![0, 256 * g] S128x256} (hu : Is2 v13 (fun t j => Spec.u (X t) j)) (hd : Is2 v99 (shift (256 * g) Dg)) :
    Is2 (mulf v99 (extractStridedSlice S128x256 ![0, 256 * g] v13 hs)) (shift (256 * g) (Spec.ds X Dg)) := fun i => by
  refine (is2_mul hd (is2_slice hu hs) i).trans ?_
  simp only [Nat.zero_add]
  rfl

theorem vs_at (g : ℕ) {hs : S128x2048.Slices ![0, 256 * g] S128x256} (hv : Is2 v80 (fun t j => Spec.vn (X t) G j)) :
    Is2 (extractStridedSlice S128x256 ![0, 256 * g] v80 hs) (shift (256 * g) (fun t j => Spec.vn (X t) G j)) := fun i => by
  refine (is2_slice hv hs i).trans ?_
  simp only [Nat.zero_add]
  rfl

theorem div_group (g : ℕ) (j : Fin 256) : (256 * g + j.val) / 256 = g := by have := j.isLt; omega

/-- The scratch's columns of the group: the mixing weights, transposed, times `ds`. -/
theorem dvn_at (g : ℕ) (hw : Is2 w (fun t s => Spec.wc W g t s)) (hd : Is2 d (shift (256 * g) (Spec.ds X Dg))) :
    Is2 (k0_pay67 (F := Ideal) w d) (shift (256 * g) (Spec.dvn X Dg W)) := fun i => by
  unfold k0_pay67
  refine (is2_self (matTN none hw hd) i).trans ?_
  unfold shift Spec.dvn
  have e := div_group g (i 1)
  rw [e]

/-- u's columns of dzp. -/
theorem dzU_at (g : ℕ) {hs : S128x2048.Slices ![0, 256 * g] S128x256} (hw : Is2 w (fun t s => Spec.wc W g t s))
    (hv : Is2 vs (shift (256 * g) (fun t j => Spec.vn (X t) G j))) (hb : Is2 v95 (fun t _ => B g t)) (hd : Is2 v99 (shift (256 * g) Dg))
    (hu : Is2 v32 (fun t j => Spec.dact (X t j))) :
    Is2 (truncf .bf16 (mulf (mulf v99 (addf (matmul dot_S128x128_S128x256_S128x256_1_0_0_1_n_n none w vs (constant S128x256 .f32 0x00000000#32))
      (broadcastTo S128x256 (shapeCast S128x1 v95 shapeCasts_S128x1_S128x1) broadcasts_S128x1_S128x256)))
      (extractStridedSlice S128x256 ![0, 256 * g] v32 hs)) bitsLt_bf16_f32) (shift (256 * g) (Spec.dzU X Dg G W B)) := fun i => by
  refine (is2_trunc (is2_mul (is2_mul hd (is2_add (matNN none hw hv) (is2_cols (φ := .f32) (is2_self (φ := .f32) hb)))) (is2_slice hu hs)) i).trans ?_
  unfold shift Spec.dzU Spec.sg
  have e := div_group g (i 1)
  simp only [Nat.zero_add]
  rw [e]

/-- dws: what the block held plus the group's masked product. -/
theorem dw_at (g : ℕ) (hd : Is2 d (shift (256 * g) (Spec.ds X Dg))) (hv : Is2 vs (shift (256 * g) (fun t j => Spec.vn (X t) G j)))
    (hp : Is3 p (fun _ t s => P t s)) :
    Is3 (k0_pay31 (F := Ideal) k0_pay13 d vs (constant S128x128 .f32 0x00000000#32) p) (fun _ t s => P t s + Spec.dw X Dg G g t s) :=
  is3_of2 (is2_add (is2_of3 (φ := .f32) hp) (masked (matNT none hd hv)))

theorem ones_at : Is2 (k0_pay14 (F := Ideal)) (fun _ _ => 1) := fun _ => lit_one

/-- dbs: what the block held plus the group's row sums, in every one of eight rows. -/
theorem db_at (g : ℕ) (hd : Is2 d' (shift (256 * g) (Spec.ds X Dg))) (hq : Is3 q (fun _ e t => P e t)) :
    Is3 (k0_pay24 (F := Ideal) k0_pay14 d' q) (fun _ e t => P e t + Spec.db X Dg g t) := by
  have h := is3_of2 (h := shapeCasts_S8x128_S1x8x128) (is2_add (is2_of3 (φ := .f32) (h := shapeCasts_S1x8x128_S8x128) hq) (matNT (some .fp32) ones_at hd))
  simp only [one_mul] at h
  exact h

end Group

/-! ## After the groups -/

section Tail
variable {v65 v75 v416 : FVec Ideal S128x2048 .f32} {v73 : FVec Ideal S128x1 .f32} {gv o : Vec Ideal S1x2048 .f32} {P : ℕ → ℝ}

theorem dzV_at (hg : Is2 v65 (fun t j => Spec.dact (X t (2048 + j)))) (hr : Is2 v73 (fun t _ => Spec.rv (X t))) (hh : Is2 v75 (fun t j => Spec.vh (X t) j))
    (hd : Is2 v416 (Spec.dvn X Dg W)) (hv : Is2 gv (fun _ j => G j)) :
    Is2 (k0_pay1 (F := Ideal) v65 v73 v75 v416 gv) (Spec.dzV X Dg G W) := by
  have h420 := is2_mul hd (is2_rows (φ := .f32) (h := broadcasts_S1x2048_S128x2048) (is2_self (φ := .f32) (h := shapeCasts_S1x2048_S1x2048) hv))
  have hs := is2_col (h := shapeCasts_S128_S128x1) (rowSum (acc := 0x00000000#32) (h := reduces_S128x2048_S128) (hφ := .inl rfl) (hacc := rfl) (is2_mul h420 hh))
  have hq : Is2 (divf (shapeCast S128x1 _ shapeCasts_S128_S128x1) (broadcast S128x1 (Scalar.ofBits (F := Ideal) .f32 0x45000000#32)))
      (fun t _ => (∑ k : Fin 2048, Spec.dvh X Dg G W t k.val * Spec.vh (X t) k.val) / 2048) := fun i => by
    show FloatOps.divf (shapeCast S128x1 _ shapeCasts_S128_S128x1 i) (Ideal.ofBits .f32 0x45000000#32) = _
    rw [hs i, lit_2048, divC _ (by norm_num)]
    rfl
  exact is2_trunc (is2_mul (is2_mul (is2_cols hr) (is2_sub h420 (is2_mul hh (is2_cols hq)))) hg)

theorem dg_at (hh : Is2 v75 (fun t j => Spec.vh (X t) j)) (hd : Is2 v416 (Spec.dvn X Dg W)) :
    Is2 (k0_pay2 (F := Ideal) v75 v416) (fun _ j => Spec.dg X Dg W j) :=
  is2_row (colSum (is2_mul hd hh))

theorem dg_add_at (hh : Is2 v75 (fun t j => Spec.vh (X t) j)) (hd : Is2 v416 (Spec.dvn X Dg W)) (ho : Is2 o (fun _ j => P j)) :
    Is2 (k0_pay3 (F := Ideal) v75 v416 o) (fun _ j => P j + Spec.dg X Dg W j) :=
  is2_add (is2_self (φ := .f32) ho) (dg_at hh hd)

end Tail

end Cert.Block

end
-- ==== Proof.Groups.lean ====
/- One group of 256 columns at one grid point, from the arrays it reads. -/
module

public import proofs.«01_k».proof.Proof.Block
public import proofs.«01_k».proof.Proof.Pieces

@[expose] public section

noncomputable section

namespace Cert.Block

open Cert.KernelIdeal Cert.KernelIdeal.Gen Idealize.ShloMosaic Idealize.ShloMosaic.ValueIdx Cert.Lift Cert.Mat

variable {X Dg : ℕ → ℕ → ℝ} {G : ℕ → ℝ} {W : ℕ → ℕ → ℕ → ℝ} {B : ℕ → ℕ → ℝ}
  {r r1 : FVec Ideal S128x2048 .f32} {r7 : FVec Ideal S128x2048 .bf16} {a2 : Vec Ideal S128x256 .f32} {a4 : Vec Ideal S1x128x128 .f32} {a5 : Vec Ideal S128x1 .f32}
  {p : Vec Ideal S1x128x128 .f32} {q : Vec Ideal S1x8x128 .f32} {P : ℕ → ℕ → ℝ}

theorem dzU_group (g : ℕ) (hg : g < 8) {hs : S128x2048.Slices ![0, 256 * g] S128x256} (h1 : Is2 r1 (fun t j => Spec.dact (X t j)))
    (h7 : Is2 r7 (fun t j => Spec.vn (X t) G j)) (h4 : Is3 a4 (fun _ t s => W g t s)) (h5 : Is2 a5 (fun t j => B (g + j) t))
    (h2 : Is2 a2 (fun t j => Dg t (256 * g + j))) :
    Is2 (truncf .bf16 (mulf (mulf a2 (addf (matmul dot_S128x128_S128x256_S128x256_1_0_0_1_n_n none (k0_pay17 (F := Ideal) k0_pay13 a4)
      (extractStridedSlice S128x256 ![0, 256 * g] r7 hs) (constant S128x256 .f32 0x00000000#32))
      (broadcastTo S128x256 (shapeCast S128x1 a5 shapeCasts_S128x1_S128x1) broadcasts_S128x1_S128x256)))
      (extractStridedSlice S128x256 ![0, 256 * g] r1 hs)) bitsLt_bf16_f32) (fun t j => Spec.dz X Dg G W B t (256 * g + j)) :=
  is2_congr (dzU_at g (wc_at g h4) (vs_at g h7) (is2_congr h5 fun t j _ hj => by rw [show g + j = g by omega]) h2 h1) fun t j _ hj =>
    (if_pos (by omega)).symm

theorem dvn_group (g : ℕ) {hs : S128x2048.Slices ![0, 256 * g] S128x256} (h0 : Is2 r (fun t j => Spec.u (X t) j)) (h4 : Is3 a4 (fun _ t s => W g t s))
    (h2 : Is2 a2 (fun t j => Dg t (256 * g + j))) :
    Is2 (k0_pay67 (F := Ideal) (k0_pay17 k0_pay13 a4) (truncf .bf16 (mulf a2 (extractStridedSlice S128x256 ![0, 256 * g] r hs)) bitsLt_bf16_f32))
      (fun t j => Spec.dvn X Dg W t (256 * g + j)) :=
  dvn_at g (wc_at g h4) (is2_trunc (ds_at g h0 h2))

theorem dw_group (g : ℕ) {hs hs' : S128x2048.Slices ![0, 256 * g] S128x256} (h0 : Is2 r (fun t j => Spec.u (X t) j)) (h7 : Is2 r7 (fun t j => Spec.vn (X t) G j))
    (h2 : Is2 a2 (fun t j => Dg t (256 * g + j))) (hp : Is3 p (fun _ t s => P t s)) :
    Is3 (k0_pay31 (F := Ideal) k0_pay13 (truncf .bf16 (mulf a2 (extractStridedSlice S128x256 ![0, 256 * g] r hs)) bitsLt_bf16_f32)
      (extractStridedSlice S128x256 ![0, 256 * g] r7 hs') (constant S128x128 .f32 0x00000000#32) p) (fun _ t s => P t s + Spec.dw X Dg G g t s) :=
  dw_at g (is2_trunc (ds_at g h0 h2)) (vs_at g h7) hp

theorem db_group (g : ℕ) {hs : S128x2048.Slices ![0, 256 * g] S128x256} (h0 : Is2 r (fun t j => Spec.u (X t) j))
    (h2 : Is2 a2 (fun t j => Dg t (256 * g + j))) (hq : Is3 q (fun _ e t => P e t)) :
    Is3 (k0_pay24 (F := Ideal) k0_pay14 (mulf a2 (extractStridedSlice S128x256 ![0, 256 * g] r hs)) q) (fun _ e t => P e t + Spec.db X Dg g t) :=
  db_at g (ds_at g h0 h2) hq

theorem dzV_part {v65 v75 v416 : FVec Ideal S128x2048 .f32} {v73 : FVec Ideal S128x1 .f32} {gv : Vec Ideal S1x2048 .f32}
    (hg : Is2 v65 (fun t j => Spec.dact (X t (2048 + j)))) (hr : Is2 v73 (fun t _ => Spec.rv (X t))) (hh : Is2 v75 (fun t j => Spec.vh (X t) j))
    (hd : Is2 v416 (Spec.dvn X Dg W)) (hv : Is2 gv (fun _ j => G j)) :
    Is2 (k0_pay1 (F := Ideal) v65 v73 v75 v416 gv) (fun t j => Spec.dz X Dg G W B t (2048 + j)) :=
  is2_congr (dzV_at hg hr hh hd hv) fun t j _ hj => by
    unfold Spec.dz
    rw [if_neg (by omega), Nat.add_sub_cancel_left]

/-! ### The weights' gradient, as each group's store spells it -/

theorem dw_g0 (h0 : Is2 r (fun t j => Spec.u (X t) j)) (h7 : Is2 r7 (fun t j => Spec.vn (X t) G j)) (h2 : Is2 a2 (fun t j => Dg t (256 * 0 + j)))
    (hp : Is3 p (fun _ t s => P t s)) : Is3 (k0_pay23 (k0_pay22 r r7 k0_pay13 a2 p)) (fun _ t s => P t s + Spec.dw X Dg G 0 t s) :=
  dw_group 0 (hs := slices_S128x2048_o0_0_S128x256) (hs' := slices_S128x2048_o0_0_S128x256) h0 h7 h2 hp
theorem dw_g1 (h0 : Is2 r (fun t j => Spec.u (X t) j)) (h7 : Is2 r7 (fun t j => Spec.vn (X t) G j)) (h2 : Is2 a2 (fun t j => Dg t (256 * 1 + j)))
    (hp : Is3 p (fun _ t s => P t s)) : Is3 (k0_pay31 k0_pay13 (k0_pay27 r a2) (k0_pay30 r7) (constant S128x128 .f32 0x00000000#32) p) (fun _ t s => P t s + Spec.dw X Dg G 1 t s) :=
  dw_group 1 (hs := slices_S128x2048_o0_256_S128x256) (hs' := slices_S128x2048_o0_256_S128x256) h0 h7 h2 hp
theorem dw_g2 (h0 : Is2 r (fun t j => Spec.u (X t) j)) (h7 : Is2 r7 (fun t j => Spec.vn (X t) G j)) (h2 : Is2 a2 (fun t j => Dg t (256 * 2 + j)))
    (hp : Is3 p (fun _ t s => P t s)) : Is3 (k0_pay38 r7 k0_pay13 (k0_pay35 r a2) p) (fun _ t s => P t s + Spec.dw X Dg G 2 t s) :=
  dw_group 2 (hs := slices_S128x2048_o0_512_S128x256) (hs' := slices_S128x2048_o0_512_S128x256) h0 h7 h2 hp
theorem dw_g3 (h0 : Is2 r (fun t j => Spec.u (X t) j)) (h7 : Is2 r7 (fun t j => Spec.vn (X t) G j)) (h2 : Is2 a2 (fun t j => Dg t (256 * 3 + j)))
    (hp : Is3 p (fun _ t s => P t s)) : Is3 (k0_pay46 r r7 k0_pay13 a2 p) (fun _ t s => P t s + Spec.dw X Dg G 3 t s) :=
  dw_group 3 (hs := slices_S128x2048_o0_768_S128x256) (hs' := slices_S128x2048_o0_768_S128x256) h0 h7 h2 hp
theorem dw_g4 (h0 : Is2 r (fun t j => Spec.u (X t) j)) (h7 : Is2 r7 (fun t j => Spec.vn (X t) G j)) (h2 : Is2 a2 (fun t j => Dg t (256 * 4 + j)))
    (hp : Is3 p (fun _ t s => P t s)) : Is3 (k0_pay53 r r7 k0_pay13 a2 p) (fun _ t s => P t s + Spec.dw X Dg G 4 t s) :=
  dw_group 4 (hs := slices_S128x2048_o0_1024_S128x256) (hs' := slices_S128x2048_o0_1024_S128x256) h0 h7 h2 hp
theorem dw_g5 (h0 : Is2 r (fun t j => Spec.u (X t) j)) (h7 : Is2 r7 (fun t j => Spec.vn (X t) G j)) (h2 : Is2 a2 (fun t j => Dg t (256 * 5 + j)))
    (hp : Is3 p (fun _ t s => P t s)) : Is3 (k0_pay61 k0_pay13 (k0_pay60 r r7 a2) p) (fun _ t s => P t s + Spec.dw X Dg G 5 t s) :=
  dw_group 5 (hs := slices_S128x2048_o0_1280_S128x256) (hs' := slices_S128x2048_o0_1280_S128x256) h0 h7 h2 hp
theorem dw_g6 (h0 : Is2 r (fun t j => Spec.u (X t) j)) (h7 : Is2 r7 (fun t j => Spec.vn (X t) G j)) (h2 : Is2 a2 (fun t j => Dg t (256 * 6 + j)))
    (hp : Is3 p (fun _ t s => P t s)) : Is3 (k0_pay68 r7 k0_pay13 (k0_pay65 r a2) p) (fun _ t s => P t s + Spec.dw X Dg G 6 t s) :=
  dw_group 6 (hs := slices_S128x2048_o0_1536_S128x256) (hs' := slices_S128x2048_o0_1536_S128x256) h0 h7 h2 hp
theorem dw_g7 (h0 : Is2 r (fun t j => Spec.u (X t) j)) (h7 : Is2 r7 (fun t j => Spec.vn (X t) G j)) (h2 : Is2 a2 (fun t j => Dg t (256 * 7 + j)))
    (hp : Is3 p (fun _ t s => P t s)) : Is3 (k0_pay76 r r7 k0_pay13 a2 p) (fun _ t s => P t s + Spec.dw X Dg G 7 t s) :=
  dw_group 7 (hs := slices_S128x2048_o0_1792_S128x256) (hs' := slices_S128x2048_o0_1792_S128x256) h0 h7 h2 hp

end Cert.Block

end
-- ==== Proof.OutA.lean ====
/- What a grid point leaves in the four outputs' blocks (the first), as the real-number formulas of its inputs. -/
module

public import proofs.«01_k».proof.Proof.Groups

@[expose] public section

set_option maxRecDepth 16384

noncomputable section

namespace Cert.Block.A

open Cert.KernelIdeal Cert.KernelIdeal.Gen Idealize.ShloMosaic Idealize.ShloMosaic.ValueIdx Idealize.ShloMosaic.Tactic Cert.Lift Cert.Mat

variable {X Dg : ℕ → ℕ → ℝ} {G : ℕ → ℝ} {W : ℕ → ℕ → ℕ → ℝ} {B : ℕ → ℕ → ℝ}
variable (c : Dev nD) (i : grid0.Coords) (arg1 : Memref sig .tc .vmem S128x4096 .f32) (harg1 : arg1.IsWhole)
  (arg2 : Memref sig .tc .vmem S128x2048 .f32) (harg2 : arg2.IsWhole)
  (arg3 : Memref sig .tc .vmem S1x2048 .f32) (harg3 : arg3.IsWhole)
  (arg4 : Memref sig .tc .vmem S8x128x128 .f32) (harg4 : arg4.IsWhole)
  (arg5 : Memref sig .tc .vmem S128x8 .f32) (harg5 : arg5.IsWhole)
  (arg6 : Memref sig .tc .vmem S128x4096 .bf16) (harg6 : arg6.IsWhole)
  (arg7 : Memref sig .tc .vmem S8x128x128 .f32) (harg7 : arg7.IsWhole)
  (arg8 : Memref sig .tc .vmem S8x8x128 .f32) (harg8 : arg8.IsWhole)
  (arg9 : Memref sig .tc .vmem S1x2048 .f32) (harg9 : arg9.IsWhole)
  (arg10 : Memref sig .tc .vmem S128x2048 .f32) (harg10 : arg10.IsWhole) (hc0 : cond0_0 i) (hc1 : cond0_1 i) (hc2 : ¬cond0_2 i)
  {x0 : Vec Ideal S128x4096 .f32} {x1 : Vec Ideal S128x2048 .f32} {x2 : Vec Ideal S1x2048 .f32} {x3 : Vec Ideal S8x128x128 .f32} {x4 : Vec Ideal S128x8 .f32}
  (hx0 : Is2 x0 X) (hx1 : Is2 x1 Dg) (hx2 : Is2 x2 (fun _ j => G j)) (hx3 : Is3 x3 W) (hx4 : Is2 x4 (fun t g => B g t))

include hx0 in
theorem u_at : Is2 (kernelRun0_A.sl.r c arg1 harg1 x0) (fun t j => Spec.u (X t) j) := act_at (ld0 harg1 hx0)
include hx0 in
theorem gu_at : Is2 (kernelRun0_A.sl.r_1 c arg1 harg1 x0) (fun t j => Spec.dact (X t j)) := dact_at (ld0 harg1 hx0)
include hx0 in
theorem vin_at : Is2 (kernelRun0_A.sl.r_2 c arg1 harg1 x0) (shift 2048 X) := ldc harg1 hx0
include hx0 in
theorem gvv_at : Is2 (kernelRun0_A.sl.r_4 c arg1 harg1 x0) (fun t j => Spec.dact (X t (2048 + j))) := gv_at (vin_at c arg1 harg1 hx0)
include hx0 in
theorem rv_at' : Is2 (kernelRun0_A.sl.r_5 c arg1 harg1 x0) (fun t _ => Spec.rv (X t)) := rv_at (vin_at c arg1 harg1 hx0)
include hx0 in
theorem vh_at' : Is2 (kernelRun0_A.sl.r_6 c arg1 harg1 x0) (fun t j => Spec.vh (X t) j) := vh_at (vin_at c arg1 harg1 hx0)
include hx0 hx2 in
theorem vn_at' : Is2 (kernelRun0_A.sl.r_7 c arg1 harg1 arg3 harg3 x0 x2) (fun t j => Spec.vn (X t) G j) := vn_at (vin_at c arg1 harg1 hx0) (ld0 harg3 hx2)

include hx0 hx1 hx3 in
/-- The scratch once every group is through. -/
theorem scratch : Is2 (kernelRun0_A.sl.v416 c arg1 harg1 arg2 harg2 arg4 harg4 arg10 x0 x1 x3) (Spec.dvn X Dg W) := fun y => by
  unfold kernelRun0_A.sl.v416
  rw [View.readCov_eq_canon']
  refine (View.canon_apply_of_pieces (fun y => ((Spec.dvn X Dg W (y 0).val (y 1).val : ℝ) : EReal)) _ ?_ _
    (View.cover_of_tiledL (kernelRun0_A.sl.HS0_8 c arg1 harg1 arg2 harg2 arg4 harg4 x0 x1 x3) S128x256.size (by sl_kernel_rfl) _)).trans ?_
  · have hu := u_at c arg1 harg1 hx0
    unfold kernelRun0_A.sl.HS0_8
    simp only [List.forall_mem_cons]
    exact ⟨stc (dvn_group 7 hu (ld3 harg4 hx3) (ldc harg2 hx1)),
      stc (dvn_group 6 hu (ld3 harg4 hx3) (ldc harg2 hx1)),
      stc (dvn_group 5 hu (ld3 harg4 hx3) (ldc harg2 hx1)),
      stc (dvn_group 4 hu (ld3 harg4 hx3) (ldc harg2 hx1)),
      stc (dvn_group 3 hu (ld3 harg4 hx3) (ldc harg2 hx1)),
      stc (dvn_group 2 hu (ld3 harg4 hx3) (ldc harg2 hx1)),
      stc (dvn_group 1 hu (ld3 harg4 hx3) (ldc harg2 hx1)),
      stc (dvn_group 0 hu (ld3 harg4 hx3) (ldc harg2 hx1)), fun _ h => absurd h List.not_mem_nil⟩
  · show ((Spec.dvn X Dg W (0 + 1 * (y 0).val) (0 + 1 * (y 1).val) : ℝ) : EReal) = _
    simp only [Nat.zero_add, Nat.one_mul]

include hx0 hx1 hx2 hx3 hx4 in
theorem out5 : Is2 (out0_A_5 c i arg1 harg1 arg2 harg2 arg3 harg3 arg4 harg4 arg5 harg5 arg6 harg6 arg7 harg7 arg8 harg8 arg9 harg9 arg10 harg10 hc0 hc1 hc2 x0 x1 x2 x3 x4) (Spec.dz X Dg G W B) := fun y => by
  have hu1 := gu_at c arg1 harg1 hx0
  have hvn := vn_at' c arg1 harg1 arg3 harg3 hx0 hx2
  refine (congrFun (View.read_writes_junk_eq_canon _ _) y).trans (View.canon_apply_of_pieces (fun y => ((Spec.dz X Dg G W B (y 0).val (y 1).val : ℝ) : EReal)) _ ?_ _
    (cover0_A_5 c i arg1 harg1 arg2 harg2 arg3 harg3 arg4 harg4 arg5 harg5 arg6 harg6 arg7 harg7 arg8 harg8 arg9 harg9 arg10 harg10 hc0 hc1 hc2 x0 x1 x2 x3 x4 y))
  unfold kernelRun0_A
  simp only [List.forall_mem_cons]
  exact ⟨stc (dzV_part (gvv_at c arg1 harg1 hx0) (rv_at' c arg1 harg1 hx0) (vh_at' c arg1 harg1 hx0) (scratch c arg1 harg1 arg2 harg2 arg4 harg4 arg10 hx0 hx1 hx3) (ld0 harg3 hx2)),
    stc (dzU_group 7 (by decide) hu1 hvn (ld3 harg4 hx3) (ldc harg5 hx4) (ldc harg2 hx1)),
    stc (dzU_group 6 (by decide) hu1 hvn (ld3 harg4 hx3) (ldc harg5 hx4) (ldc harg2 hx1)),
    stc (dzU_group 5 (by decide) hu1 hvn (ld3 harg4 hx3) (ldc harg5 hx4) (ldc harg2 hx1)),
    stc (dzU_group 4 (by decide) hu1 hvn (ld3 harg4 hx3) (ldc harg5 hx4) (ldc harg2 hx1)),
    stc (dzU_group 3 (by decide) hu1 hvn (ld3 harg4 hx3) (ldc harg5 hx4) (ldc harg2 hx1)),
    stc (dzU_group 2 (by decide) hu1 hvn (ld3 harg4 hx3) (ldc harg5 hx4) (ldc harg2 hx1)),
    stc (dzU_group 1 (by decide) hu1 hvn (ld3 harg4 hx3) (ldc harg5 hx4) (ldc harg2 hx1)),
    stc (dzU_group 0 (by decide) hu1 hvn (ld3 harg4 hx3) (ldc harg5 hx4) (ldc harg2 hx1)), fun _ h => absurd h List.not_mem_nil⟩

/-! ### The weights' gradient: zero first, then group by group -/

theorem dw1 : Is3 (View.canon (kernelRun0_A.sl.H6_1 (F := Ideal))) (upTo 0 (fun g t s => 0 + Spec.dw X Dg G g t s)) := fun y => by
  unfold kernelRun0_A.sl.H6_1
  rw [View.canon_unit_zero (by funext a; fin_cases a <;> rfl)]
  exact (lit_zero : Ideal.ofBits .f32 0x00000000#32 = _)
include hx0 hx1 hx2 in
theorem dw2 : Is3 (View.canon (kernelRun0_A.sl.H6_2 c arg1 harg1 arg2 harg2 arg3 harg3 arg7 x0 x1 x2)) (upTo 1 (fun g t s => 0 + Spec.dw X Dg G g t s)) :=
  upTo_store (dw1 (X := X) (Dg := Dg) (G := G)) (dw_g0 (u_at c arg1 harg1 hx0) (vn_at' c arg1 harg1 arg3 harg3 hx0 hx2) (ldc harg2 hx1) (upTo_read (dw1 (X := X) (Dg := Dg) (G := G))))
include hx0 hx1 hx2 in
theorem dw3 : Is3 (View.canon (kernelRun0_A.sl.H6_3 c arg1 harg1 arg2 harg2 arg3 harg3 arg7 x0 x1 x2)) (upTo 2 (fun g t s => 0 + Spec.dw X Dg G g t s)) :=
  upTo_store (dw2 c arg1 harg1 arg2 harg2 arg3 harg3 arg7 hx0 hx1 hx2) (dw_g1 (u_at c arg1 harg1 hx0) (vn_at' c arg1 harg1 arg3 harg3 hx0 hx2) (ldc harg2 hx1) (upTo_read (dw2 c arg1 harg1 arg2 harg2 arg3 harg3 arg7 hx0 hx1 hx2)))
include hx0 hx1 hx2 in
theorem dw4 : Is3 (View.canon (kernelRun0_A.sl.H6_4 c arg1 harg1 arg2 harg2 arg3 harg3 arg7 x0 x1 x2)) (upTo 3 (fun g t s => 0 + Spec.dw X Dg G g t s)) :=
  upTo_store (dw3 c arg1 harg1 arg2 harg2 arg3 harg3 arg7 hx0 hx1 hx2) (dw_g2 (u_at c arg1 harg1 hx0) (vn_at' c arg1 harg1 arg3 harg3 hx0 hx2) (ldc harg2 hx1) (upTo_read (dw3 c arg1 harg1 arg2 harg2 arg3 harg3 arg7 hx0 hx1 hx2)))
include hx0 hx1 hx2 in
theorem dw5 : Is3 (View.canon (kernelRun0_A.sl.H6_5 c arg1 harg1 arg2 harg2 arg3 harg3 arg7 x0 x1 x2)) (upTo 4 (fun g t s => 0 + Spec.dw X Dg G g t s)) :=
  upTo_store (dw4 c arg1 harg1 arg2 harg2 arg3 harg3 arg7 hx0 hx1 hx2) (dw_g3 (u_at c arg1 harg1 hx0) (vn_at' c arg1 harg1 arg3 harg3 hx0 hx2) (ldc harg2 hx1) (upTo_read (dw4 c arg1 harg1 arg2 harg2 arg3 harg3 arg7 hx0 hx1 hx2)))
include hx0 hx1 hx2 in
theorem dw6 : Is3 (View.canon (kernelRun0_A.sl.H6_6 c arg1 harg1 arg2 harg2 arg3 harg3 arg7 x0 x1 x2)) (upTo 5 (fun g t s => 0 + Spec.dw X Dg G g t s)) :=
  upTo_store (dw5 c arg1 harg1 arg2 harg2 arg3 harg3 arg7 hx0 hx1 hx2) (dw_g4 (u_at c arg1 harg1 hx0) (vn_at' c arg1 harg1 arg3 harg3 hx0 hx2) (ldc harg2 hx1) (upTo_read (dw5 c arg1 harg1 arg2 harg2 arg3 harg3 arg7 hx0 hx1 hx2)))
include hx0 hx1 hx2 in
theorem dw7 : Is3 (View.canon (kernelRun0_A.sl.H6_7 c arg1 harg1 arg2 harg2 arg3 harg3 arg7 x0 x1 x2)) (upTo 6 (fun g t s => 0 + Spec.dw X Dg G g t s)) :=
  upTo_store (dw6 c arg1 harg1 arg2 harg2 arg3 harg3 arg7 hx0 hx1 hx2) (dw_g5 (u_at c arg1 harg1 hx0) (vn_at' c arg1 harg1 arg3 harg3 hx0 hx2) (ldc harg2 hx1) (upTo_read (dw6 c arg1 harg1 arg2 harg2 arg3 harg3 arg7 hx0 hx1 hx2)))
include hx0 hx1 hx2 in
theorem dw8 : Is3 (View.canon (kernelRun0_A.sl.H6_8 c arg1 harg1 arg2 harg2 arg3 harg3 arg7 x0 x1 x2)) (upTo 7 (fun g t s => 0 + Spec.dw X Dg G g t s)) :=
  upTo_store (dw7 c arg1 harg1 arg2 harg2 arg3 harg3 arg7 hx0 hx1 hx2) (dw_g6 (u_at c arg1 harg1 hx0) (vn_at' c arg1 harg1 arg3 harg3 hx0 hx2) (ldc harg2 hx1) (upTo_read (dw7 c arg1 harg1 arg2 harg2 arg3 harg3 arg7 hx0 hx1 hx2)))

include hx0 hx1 hx2 in
theorem out6 : Is3 (out0_A_6 c i arg1 harg1 arg2 harg2 arg3 harg3 arg4 harg4 arg5 harg5 arg6 harg6 arg7 harg7 arg8 harg8 arg9 harg9 arg10 harg10 hc0 hc1 hc2 x0 x1 x2 x3 x4) (fun g t s => 0 + Spec.dw X Dg G g t s) := fun y => by
  have e : Is3 (View.canon (kernelRun0_A c i arg1 harg1 arg2 harg2 arg3 harg3 arg4 harg4 arg5 harg5 arg6 harg6 arg7 harg7 arg8 harg8 arg9 harg9 arg10 harg10 hc0 hc1 hc2 x0 x1 x2 x3 x4).2.1) (upTo 8 (fun g t s => 0 + Spec.dw X Dg G g t s)) := by
    unfold kernelRun0_A
    exact upTo_store (dw8 c arg1 harg1 arg2 harg2 arg3 harg3 arg7 hx0 hx1 hx2)
      (dw_g7 (u_at c arg1 harg1 hx0) (vn_at' c arg1 harg1 arg3 harg3 hx0 hx2) (ldc harg2 hx1) (upTo_read (dw8 c arg1 harg1 arg2 harg2 arg3 harg3 arg7 hx0 hx1 hx2)))
  refine (congrFun (View.read_writes_junk_eq_canon _ _) y).trans ((e y).trans (congrArg (fun r : ℝ => (r : EReal)) (if_pos (y 0).isLt)))

/-! ### The bias's gradient -/

theorem db1 : Is3 (View.canon (kernelRun0_A.sl.H7_1 (F := Ideal))) (upTo 0 (fun g _ t => 0 + Spec.db X Dg g t)) := fun y => by
  unfold kernelRun0_A.sl.H7_1
  rw [View.canon_unit_zero (by funext a; fin_cases a <;> rfl)]
  exact (lit_zero : Ideal.ofBits .f32 0x00000000#32 = _)
include hx0 hx1 in
theorem db2 : Is3 (View.canon (kernelRun0_A.sl.H7_2 c arg1 harg1 arg2 harg2 arg8 x0 x1)) (upTo 1 (fun g _ t => 0 + Spec.db X Dg g t)) :=
  upTo_store (db1 (X := X) (Dg := Dg)) (db_group 0 (u_at c arg1 harg1 hx0) (ldc harg2 hx1) (upTo_read (db1 (X := X) (Dg := Dg))))
include hx0 hx1 in
theorem db3 : Is3 (View.canon (kernelRun0_A.sl.H7_3 c arg1 harg1 arg2 harg2 arg8 x0 x1)) (upTo 2 (fun g _ t => 0 + Spec.db X Dg g t)) :=
  upTo_store (db2 c arg1 harg1 arg2 harg2 arg8 hx0 hx1) (db_group 1 (u_at c arg1 harg1 hx0) (ldc harg2 hx1) (upTo_read (db2 c arg1 harg1 arg2 harg2 arg8 hx0 hx1)))
include hx0 hx1 in
theorem db4 : Is3 (View.canon (kernelRun0_A.sl.H7_4 c arg1 harg1 arg2 harg2 arg8 x0 x1)) (upTo 3 (fun g _ t => 0 + Spec.db X Dg g t)) :=
  upTo_store (db3 c arg1 harg1 arg2 harg2 arg8 hx0 hx1) (db_group 2 (u_at c arg1 harg1 hx0) (ldc harg2 hx1) (upTo_read (db3 c arg1 harg1 arg2 harg2 arg8 hx0 hx1)))
include hx0 hx1 in
theorem db5 : Is3 (View.canon (kernelRun0_A.sl.H7_5 c arg1 harg1 arg2 harg2 arg8 x0 x1)) (upTo 4 (fun g _ t => 0 + Spec.db X Dg g t)) :=
  upTo_store (db4 c arg1 harg1 arg2 harg2 arg8 hx0 hx1) (db_group 3 (u_at c arg1 harg1 hx0) (ldc harg2 hx1) (upTo_read (db4 c arg1 harg1 arg2 harg2 arg8 hx0 hx1)))
include hx0 hx1 in
theorem db6 : Is3 (View.canon (kernelRun0_A.sl.H7_6 c arg1 harg1 arg2 harg2 arg8 x0 x1)) (upTo 5 (fun g _ t => 0 + Spec.db X Dg g t)) :=
  upTo_store (db5 c arg1 harg1 arg2 harg2 arg8 hx0 hx1) (db_group 4 (u_at c arg1 harg1 hx0) (ldc harg2 hx1) (upTo_read (db5 c arg1 harg1 arg2 harg2 arg8 hx0 hx1)))
include hx0 hx1 in
theorem db7 : Is3 (View.canon (kernelRun0_A.sl.H7_7 c arg1 harg1 arg2 harg2 arg8 x0 x1)) (upTo 6 (fun g _ t => 0 + Spec.db X Dg g t)) :=
  upTo_store (db6 c arg1 harg1 arg2 harg2 arg8 hx0 hx1) (db_group 5 (u_at c arg1 harg1 hx0) (ldc harg2 hx1) (upTo_read (db6 c arg1 harg1 arg2 harg2 arg8 hx0 hx1)))
include hx0 hx1 in
theorem db8 : Is3 (View.canon (kernelRun0_A.sl.H7_8 c arg1 harg1 arg2 harg2 arg8 x0 x1)) (upTo 7 (fun g _ t => 0 + Spec.db X Dg g t)) :=
  upTo_store (db7 c arg1 harg1 arg2 harg2 arg8 hx0 hx1) (db_group 6 (u_at c arg1 harg1 hx0) (ldc harg2 hx1) (upTo_read (db7 c arg1 harg1 arg2 harg2 arg8 hx0 hx1)))

include hx0 hx1 in
theorem out7 : Is3 (out0_A_7 c i arg1 harg1 arg2 harg2 arg3 harg3 arg4 harg4 arg5 harg5 arg6 harg6 arg7 harg7 arg8 harg8 arg9 harg9 arg10 harg10 hc0 hc1 hc2 x0 x1 x2 x3 x4) (fun g _ t => 0 + Spec.db X Dg g t) := fun y => by
  have e : Is3 (View.canon (kernelRun0_A c i arg1 harg1 arg2 harg2 arg3 harg3 arg4 harg4 arg5 harg5 arg6 harg6 arg7 harg7 arg8 harg8 arg9 harg9 arg10 harg10 hc0 hc1 hc2 x0 x1 x2 x3 x4).2.2.1) (upTo 8 (fun g _ t => 0 + Spec.db X Dg g t)) := by
    unfold kernelRun0_A
    exact upTo_store (db8 c arg1 harg1 arg2 harg2 arg8 hx0 hx1)
      (db_group 7 (u_at c arg1 harg1 hx0) (ldc harg2 hx1) (upTo_read (db8 c arg1 harg1 arg2 harg2 arg8 hx0 hx1)))
  refine (congrFun (View.read_writes_junk_eq_canon _ _) y).trans ((e y).trans (congrArg (fun r : ℝ => (r : EReal)) (if_pos (y 0).isLt)))

include hx0 hx1 hx3 in
theorem out8 : Is2 (out0_A_8 c i arg1 harg1 arg2 harg2 arg3 harg3 arg4 harg4 arg5 harg5 arg6 harg6 arg7 harg7 arg8 harg8 arg9 harg9 arg10 harg10 hc0 hc1 hc2 x0 x1 x2 x3 x4) (fun _ j => Spec.dg X Dg W j) := fun y => by
  refine (congrFun (View.read_writes_junk_eq_canon _ _) y).trans (View.canon_apply_of_pieces (fun y => ((Spec.dg X Dg W (y 1).val : ℝ) : EReal)) _ ?_ _
    (cover0_A_8 c i arg1 harg1 arg2 harg2 arg3 harg3 arg4 harg4 arg5 harg5 arg6 harg6 arg7 harg7 arg8 harg8 arg9 harg9 arg10 harg10 hc0 hc1 hc2 x0 x1 x2 x3 x4 y))
  unfold kernelRun0_A
  simp only [List.forall_mem_cons]
  exact ⟨stc (f := fun _ j => Spec.dg X Dg W j) (q := 0) (is2_congr (dg_at (vh_at' c arg1 harg1 hx0) (scratch c arg1 harg1 arg2 harg2 arg4 harg4 arg10 hx0 hx1 hx3))
    fun _ _ _ _ => by rw [Nat.zero_add]), fun _ h => absurd h List.not_mem_nil⟩

end Cert.Block.A
-- ==== Proof.OutB.lean ====
/- What a grid point leaves in the four outputs' blocks (a later one), as the real-number formulas of its inputs. -/
module

public import proofs.«01_k».proof.Proof.Groups

@[expose] public section

set_option maxRecDepth 16384

noncomputable section

namespace Cert.Block.B

open Cert.KernelIdeal Cert.KernelIdeal.Gen Idealize.ShloMosaic Idealize.ShloMosaic.ValueIdx Idealize.ShloMosaic.Tactic Cert.Lift Cert.Mat

variable {X Dg : ℕ → ℕ → ℝ} {G : ℕ → ℝ} {W : ℕ → ℕ → ℕ → ℝ} {B : ℕ → ℕ → ℝ}
variable (c : Dev nD) (i : grid0.Coords) (arg1 : Memref sig .tc .vmem S128x4096 .f32) (harg1 : arg1.IsWhole)
  (arg2 : Memref sig .tc .vmem S128x2048 .f32) (harg2 : arg2.IsWhole)
  (arg3 : Memref sig .tc .vmem S1x2048 .f32) (harg3 : arg3.IsWhole)
  (arg4 : Memref sig .tc .vmem S8x128x128 .f32) (harg4 : arg4.IsWhole)
  (arg5 : Memref sig .tc .vmem S128x8 .f32) (harg5 : arg5.IsWhole)
  (arg6 : Memref sig .tc .vmem S128x4096 .bf16) (harg6 : arg6.IsWhole)
  (arg7 : Memref sig .tc .vmem S8x128x128 .f32) (harg7 : arg7.IsWhole)
  (arg8 : Memref sig .tc .vmem S8x8x128 .f32) (harg8 : arg8.IsWhole)
  (arg9 : Memref sig .tc .vmem S1x2048 .f32) (harg9 : arg9.IsWhole)
  (arg10 : Memref sig .tc .vmem S128x2048 .f32) (harg10 : arg10.IsWhole) (hc0 : ¬cond0_0 i) (hc1 : ¬cond0_1 i) (hc2 : cond0_2 i)
  {x0 : Vec Ideal S128x4096 .f32} {x1 : Vec Ideal S128x2048 .f32} {x2 : Vec Ideal S1x2048 .f32} {x3 : Vec Ideal S8x128x128 .f32} {x4 : Vec Ideal S128x8 .f32}
  (hx0 : Is2 x0 X) (hx1 : Is2 x1 Dg) (hx2 : Is2 x2 (fun _ j => G j)) (hx3 : Is3 x3 W) (hx4 : Is2 x4 (fun t g => B g t))
  {P6 P7 : ℕ → ℕ → ℕ → ℝ} {P8 : ℕ → ℝ} {xo6 : Vec Ideal S8x128x128 .f32} {xo7 : Vec Ideal S8x8x128 .f32} {xo8 : Vec Ideal S1x2048 .f32}
  (h6 : Is3 xo6 P6) (h7 : Is3 xo7 P7) (h8 : Is2 xo8 (fun _ j => P8 j))

include hx0 in
theorem u_at : Is2 (kernelRun0_B.sl.r c arg1 harg1 x0) (fun t j => Spec.u (X t) j) := act_at (ld0 harg1 hx0)
include hx0 in
theorem gu_at : Is2 (kernelRun0_B.sl.r_1 c arg1 harg1 x0) (fun t j => Spec.dact (X t j)) := dact_at (ld0 harg1 hx0)
include hx0 in
theorem vin_at : Is2 (kernelRun0_B.sl.r_2 c arg1 harg1 x0) (shift 2048 X) := ldc harg1 hx0
include hx0 in
theorem gvv_at : Is2 (kernelRun0_B.sl.r_4 c arg1 harg1 x0) (fun t j => Spec.dact (X t (2048 + j))) := gv_at (vin_at c arg1 harg1 hx0)
include hx0 in
theorem rv_at' : Is2 (kernelRun0_B.sl.r_5 c arg1 harg1 x0) (fun t _ => Spec.rv (X t)) := rv_at (vin_at c arg1 harg1 hx0)
include hx0 in
theorem vh_at' : Is2 (kernelRun0_B.sl.r_6 c arg1 harg1 x0) (fun t j => Spec.vh (X t) j) := vh_at (vin_at c arg1 harg1 hx0)
include hx0 hx2 in
theorem vn_at' : Is2 (kernelRun0_B.sl.r_7 c arg1 harg1 arg3 harg3 x0 x2) (fun t j => Spec.vn (X t) G j) := vn_at (vin_at c arg1 harg1 hx0) (ld0 harg3 hx2)

include hx0 hx1 hx3 in
/-- The scratch once every group is through. -/
theorem scratch : Is2 (kernelRun0_B.sl.v416 c arg1 harg1 arg2 harg2 arg4 harg4 arg10 x0 x1 x3) (Spec.dvn X Dg W) := fun y => by
  unfold kernelRun0_B.sl.v416
  rw [View.readCov_eq_canon']
  refine (View.canon_apply_of_pieces (fun y => ((Spec.dvn X Dg W (y 0).val (y 1).val : ℝ) : EReal)) _ ?_ _
    (View.cover_of_tiledL (kernelRun0_B.sl.HS0_8 c arg1 harg1 arg2 harg2 arg4 harg4 x0 x1 x3) S128x256.size (by sl_kernel_rfl) _)).trans ?_
  · have hu := u_at c arg1 harg1 hx0
    unfold kernelRun0_B.sl.HS0_8
    simp only [List.forall_mem_cons]
    exact ⟨stc (dvn_group 7 hu (ld3 harg4 hx3) (ldc harg2 hx1)),
      stc (dvn_group 6 hu (ld3 harg4 hx3) (ldc harg2 hx1)),
      stc (dvn_group 5 hu (ld3 harg4 hx3) (ldc harg2 hx1)),
      stc (dvn_group 4 hu (ld3 harg4 hx3) (ldc harg2 hx1)),
      stc (dvn_group 3 hu (ld3 harg4 hx3) (ldc harg2 hx1)),
      stc (dvn_group 2 hu (ld3 harg4 hx3) (ldc harg2 hx1)),
      stc (dvn_group 1 hu (ld3 harg4 hx3) (ldc harg2 hx1)),
      stc (dvn_group 0 hu (ld3 harg4 hx3) (ldc harg2 hx1)), fun _ h => absurd h List.not_mem_nil⟩
  · show ((Spec.dvn X Dg W (0 + 1 * (y 0).val) (0 + 1 * (y 1).val) : ℝ) : EReal) = _
    simp only [Nat.zero_add, Nat.one_mul]

include hx0 hx1 hx2 hx3 hx4 in
theorem out5 : Is2 (out0_B_5 c i arg1 harg1 arg2 harg2 arg3 harg3 arg4 harg4 arg5 harg5 arg6 harg6 arg7 harg7 arg8 harg8 arg9 harg9 arg10 harg10 hc0 hc1 hc2 x0 x1 x2 x3 x4 xo6 xo7 xo8) (Spec.dz X Dg G W B) := fun y => by
  have hu1 := gu_at c arg1 harg1 hx0
  have hvn := vn_at' c arg1 harg1 arg3 harg3 hx0 hx2
  refine (congrFun (View.read_writes_junk_eq_canon _ _) y).trans (View.canon_apply_of_pieces (fun y => ((Spec.dz X Dg G W B (y 0).val (y 1).val : ℝ) : EReal)) _ ?_ _
    (cover0_B_5 c i arg1 harg1 arg2 harg2 arg3 harg3 arg4 harg4 arg5 harg5 arg6 harg6 arg7 harg7 arg8 harg8 arg9 harg9 arg10 harg10 hc0 hc1 hc2 x0 x1 x2 x3 x4 xo6 xo7 xo8 y))
  unfold kernelRun0_B
  simp only [List.forall_mem_cons]
  exact ⟨stc (dzV_part (gvv_at c arg1 harg1 hx0) (rv_at' c arg1 harg1 hx0) (vh_at' c arg1 harg1 hx0) (scratch c arg1 harg1 arg2 harg2 arg4 harg4 arg10 hx0 hx1 hx3) (ld0 harg3 hx2)),
    stc (dzU_group 7 (by decide) hu1 hvn (ld3 harg4 hx3) (ldc harg5 hx4) (ldc harg2 hx1)),
    stc (dzU_group 6 (by decide) hu1 hvn (ld3 harg4 hx3) (ldc harg5 hx4) (ldc harg2 hx1)),
    stc (dzU_group 5 (by decide) hu1 hvn (ld3 harg4 hx3) (ldc harg5 hx4) (ldc harg2 hx1)),
    stc (dzU_group 4 (by decide) hu1 hvn (ld3 harg4 hx3) (ldc harg5 hx4) (ldc harg2 hx1)),
    stc (dzU_group 3 (by decide) hu1 hvn (ld3 harg4 hx3) (ldc harg5 hx4) (ldc harg2 hx1)),
    stc (dzU_group 2 (by decide) hu1 hvn (ld3 harg4 hx3) (ldc harg5 hx4) (ldc harg2 hx1)),
    stc (dzU_group 1 (by decide) hu1 hvn (ld3 harg4 hx3) (ldc harg5 hx4) (ldc harg2 hx1)),
    stc (dzU_group 0 (by decide) hu1 hvn (ld3 harg4 hx3) (ldc harg5 hx4) (ldc harg2 hx1)), fun _ h => absurd h List.not_mem_nil⟩

include hx0 hx1 hx2 h6 in
theorem out6 : Is3 (out0_B_6 c i arg1 harg1 arg2 harg2 arg3 harg3 arg4 harg4 arg5 harg5 arg6 harg6 arg7 harg7 arg8 harg8 arg9 harg9 arg10 harg10 hc0 hc1 hc2 x0 x1 x2 x3 x4 xo6 xo7 xo8) (fun g t s => P6 g t s + Spec.dw X Dg G g t s) := fun y => by
  have hu := u_at c arg1 harg1 hx0
  have hvn := vn_at' c arg1 harg1 arg3 harg3 hx0 hx2
  refine (congrFun (View.read_writes_junk_eq_canon _ _) y).trans (View.canon_apply_of_pieces
    (fun y => ((P6 (y 0).val (y 1).val (y 2).val + Spec.dw X Dg G (y 0).val (y 1).val (y 2).val : ℝ) : EReal)) _ ?_ _
    (cover0_B_6 c i arg1 harg1 arg2 harg2 arg3 harg3 arg4 harg4 arg5 harg5 arg6 harg6 arg7 harg7 arg8 harg8 arg9 harg9 arg10 harg10 hc0 hc1 hc2 x0 x1 x2 x3 x4 xo6 xo7 xo8 y))
  unfold kernelRun0_B
  simp only [List.forall_mem_cons]
  exact ⟨st3 (f := fun g t s => P6 g t s + Spec.dw X Dg G g t s) (dw_g7 hu hvn (ldc harg2 hx1) (ld3 harg7 h6)),
    st3 (f := fun g t s => P6 g t s + Spec.dw X Dg G g t s) (dw_g6 hu hvn (ldc harg2 hx1) (ld3 harg7 h6)),
    st3 (f := fun g t s => P6 g t s + Spec.dw X Dg G g t s) (dw_g5 hu hvn (ldc harg2 hx1) (ld3 harg7 h6)),
    st3 (f := fun g t s => P6 g t s + Spec.dw X Dg G g t s) (dw_g4 hu hvn (ldc harg2 hx1) (ld3 harg7 h6)),
    st3 (f := fun g t s => P6 g t s + Spec.dw X Dg G g t s) (dw_g3 hu hvn (ldc harg2 hx1) (ld3 harg7 h6)),
    st3 (f := fun g t s => P6 g t s + Spec.dw X Dg G g t s) (dw_g2 hu hvn (ldc harg2 hx1) (ld3 harg7 h6)),
    st3 (f := fun g t s => P6 g t s + Spec.dw X Dg G g t s) (dw_g1 hu hvn (ldc harg2 hx1) (ld3 harg7 h6)),
    st3 (f := fun g t s => P6 g t s + Spec.dw X Dg G g t s) (dw_g0 hu hvn (ldc harg2 hx1) (ld3 harg7 h6)), fun _ h => absurd h List.not_mem_nil⟩

include hx0 hx1 h7 in
theorem out7 : Is3 (out0_B_7 c i arg1 harg1 arg2 harg2 arg3 harg3 arg4 harg4 arg5 harg5 arg6 harg6 arg7 harg7 arg8 harg8 arg9 harg9 arg10 harg10 hc0 hc1 hc2 x0 x1 x2 x3 x4 xo6 xo7 xo8) (fun g e t => P7 g e t + Spec.db X Dg g t) := fun y => by
  have hu := u_at c arg1 harg1 hx0
  refine (congrFun (View.read_writes_junk_eq_canon _ _) y).trans (View.canon_apply_of_pieces
    (fun y => ((P7 (y 0).val (y 1).val (y 2).val + Spec.db X Dg (y 0).val (y 2).val : ℝ) : EReal)) _ ?_ _
    (cover0_B_7 c i arg1 harg1 arg2 harg2 arg3 harg3 arg4 harg4 arg5 harg5 arg6 harg6 arg7 harg7 arg8 harg8 arg9 harg9 arg10 harg10 hc0 hc1 hc2 x0 x1 x2 x3 x4 xo6 xo7 xo8 y))
  unfold kernelRun0_B
  simp only [List.forall_mem_cons]
  exact ⟨st3 (f := fun g e t => P7 g e t + Spec.db X Dg g t) (db_group 7 hu (ldc harg2 hx1) (ld3 harg8 h7)),
    st3 (f := fun g e t => P7 g e t + Spec.db X Dg g t) (db_group 6 hu (ldc harg2 hx1) (ld3 harg8 h7)),
    st3 (f := fun g e t => P7 g e t + Spec.db X Dg g t) (db_group 5 hu (ldc harg2 hx1) (ld3 harg8 h7)),
    st3 (f := fun g e t => P7 g e t + Spec.db X Dg g t) (db_group 4 hu (ldc harg2 hx1) (ld3 harg8 h7)),
    st3 (f := fun g e t => P7 g e t + Spec.db X Dg g t) (db_group 3 hu (ldc harg2 hx1) (ld3 harg8 h7)),
    st3 (f := fun g e t => P7 g e t + Spec.db X Dg g t) (db_group 2 hu (ldc harg2 hx1) (ld3 harg8 h7)),
    st3 (f := fun g e t => P7 g e t + Spec.db X Dg g t) (db_group 1 hu (ldc harg2 hx1) (ld3 harg8 h7)),
    st3 (f := fun g e t => P7 g e t + Spec.db X Dg g t) (db_group 0 hu (ldc harg2 hx1) (ld3 harg8 h7)), fun _ h => absurd h List.not_mem_nil⟩

include hx0 hx1 hx3 h8 in
theorem out8 : Is2 (out0_B_8 c i arg1 harg1 arg2 harg2 arg3 harg3 arg4 harg4 arg5 harg5 arg6 harg6 arg7 harg7 arg8 harg8 arg9 harg9 arg10 harg10 hc0 hc1 hc2 x0 x1 x2 x3 x4 xo6 xo7 xo8) (fun _ j => P8 j + Spec.dg X Dg W j) := fun y => by
  refine (congrFun (View.read_writes_junk_eq_canon _ _) y).trans (View.canon_apply_of_pieces
    (fun y => ((P8 (y 1).val + Spec.dg X Dg W (y 1).val : ℝ) : EReal)) _ ?_ _
    (cover0_B_8 c i arg1 harg1 arg2 harg2 arg3 harg3 arg4 harg4 arg5 harg5 arg6 harg6 arg7 harg7 arg8 harg8 arg9 harg9 arg10 harg10 hc0 hc1 hc2 x0 x1 x2 x3 x4 xo6 xo7 xo8 y))
  unfold kernelRun0_B
  simp only [List.forall_mem_cons]
  exact ⟨stc (f := fun _ j => P8 j + Spec.dg X Dg W j) (q := 0) (is2_congr (dg_add_at (vh_at' c arg1 harg1 hx0) (scratch c arg1 harg1 arg2 harg2 arg4 harg4 arg10 hx0 hx1 hx3) (ld0 harg9 h8))
    fun _ _ _ _ => by rw [Nat.zero_add]), fun _ h => absurd h List.not_mem_nil⟩

end Cert.Block.B
-- ==== Proof.Accum.lean ====
/- The kernel's run over its sixteen grid points: each point's input blocks are rows of the arguments, the three small
   outputs add up over the points, and the arrays after the run hold the whole step's sums. -/
module

public import proofs.«01_k».proof.Proof.OutA
public import proofs.«01_k».proof.Proof.OutB
public import proofs.«01_k».proof.Proof.Gen.KernelIdeal.Value
public import Idealize.ShloMosaic.Lib.Pipeline.ValueKit

@[expose] public section

set_option maxRecDepth 16384

noncomputable section

namespace Cert.Accum

open Cert.KernelIdeal Cert.KernelIdeal.Gen Idealize.ShloMosaic Idealize.ShloMosaic.TcCoe Idealize.ShloMosaic.ValueIdx Cert.Lift Cert.Mat
open Idealize.ShloMosaic.Pipeline (Dat)

variable (m : (ℓ : Loc nD τ sig) → Buf (Elt Ideal) ℓ) (c : Dev nD)
variable {Z D : ℕ → ℕ → ℝ} {G : ℕ → ℝ} {W : ℕ → ℕ → ℕ → ℝ} {B : ℕ → ℕ → ℝ}
  (hz : Is2 (m ((c : Thread nD τ).loc main_arg0) : S2048x4096.Idx → EReal) Z)
  (hg : Is1 (m ((c : Thread nD τ).loc main_arg1) : S2048.Idx → EReal) G)
  (hw : Is3 (m ((c : Thread nD τ).loc main_arg2) : S8x128x128.Idx → EReal) W)
  (hb : Is2 (m ((c : Thread nD τ).loc main_arg3) : S8x128.Idx → EReal) B)
  (hd : Is2 (m ((c : Thread nD τ).loc main_arg4) : S2048x2048.Idx → EReal) D)

/-! ## The input blocks -/

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = t.val ∧ win0_1.index t 1 = 0 :=
  (by decide +kernel : ∀ t : Fin grid0.N, win0_1.index t 0 = t.val ∧ win0_1.index t 1 = 0)
theorem index2 : ∀ (t : Fin cfg0.N) a, win0_2.index t a = 0 :=
  (by decide +kernel : ∀ (t : Fin grid0.N) a, win0_2.index t a = 0)
theorem index3 : ∀ (t : Fin cfg0.N) a, win0_3.index t a = 0 :=
  (by decide +kernel : ∀ (t : Fin grid0.N) a, win0_3.index t a = 0)
theorem index4 : ∀ (t : Fin cfg0.N) a, win0_4.index t a = 0 :=
  (by decide +kernel : ∀ (t : Fin grid0.N) a, win0_4.index t a = 0)

include hz in
theorem in0 (t : Fin cfg0.N) : Is2 (a := 128) (b := 4096) (iblk m c 0 t) (Spec.rows Z t.val) := fun y => by
  refine (congrFun (V_main_arg0 m c) ((win0_0.rect t).emb y)).trans ((hz _).trans ?_)
  have e0 := win0_0.rect_emb_val t y 0
  have e1 := win0_0.rect_emb_val_of_index_zero t 1 (index0 t).2 y
  rw [(index0 t).1] at e0
  unfold Spec.rows
  exact congrArg₂ (fun a b => ((Z a b : ℝ) : EReal)) (e0.trans (congrArg (· + (y 0).val) (Nat.mul_comm _ _))) e1

include hd in
theorem in1 (t : Fin cfg0.N) : Is2 (a := 128) (b := 2048) (iblk m c 1 t) (Spec.rows D t.val) := fun y => by
  refine (congrFun (V_main_arg4 m c) ((win0_1.rect t).emb y)).trans ((hd _).trans ?_)
  have e0 := win0_1.rect_emb_val t y 0
  have e1 := win0_1.rect_emb_val_of_index_zero t 1 (index1 t).2 y
  rw [(index1 t).1] at e0
  unfold Spec.rows
  exact congrArg₂ (fun a b => ((D a b : ℝ) : EReal)) (e0.trans (congrArg (· + (y 0).val) (Nat.mul_comm _ _))) e1

include hw in
theorem in3 (t : Fin cfg0.N) : Is3 (a := 8) (b := 128) (c := 128) (iblk m c 3 t) W := fun y => by
  refine (congrFun (V_main_arg2 m c) ((win0_3.rect t).emb y)).trans ((hw _).trans ?_)
  have e := fun a => win0_3.rect_emb_val_of_index_zero t a (index3 t a) y
  exact congrArg Real.toEReal (congr (congrArg₂ W (e 0) (e 1)) (e 2))

/-- The gain as the region finds it: the argument as one row. -/
theorem V_gain : V m c main_v0 = shapeCast S1x2048 (m ((c : Thread nD τ).loc main_arg1)) shapeCasts_S2048_S1x2048 := rfl
/-- The bias as the region finds it: the argument transposed. -/
theorem V_bias : V m c main_v1 = transpose S128x8 [1, 0] (m ((c : Thread nD τ).loc main_arg3)) transposes_S8x128_S128x8_1_0 := rfl

include hg in
theorem in2 (t : Fin cfg0.N) : Is2 (a := 1) (b := 2048) (iblk m c 2 t) (fun _ j => G j) := fun y => by
  refine (congrFun (V_gain m c) ((win0_2.rect t).emb y)).trans ?_
  have e := win0_2.rect_emb_val_of_index_zero t 1 (index2 t 1) y
  exact (is2_row (φ := .f32) hg _).trans (congrArg (fun a => ((G a : ℝ) : EReal)) e)

include hb in
theorem in4 (t : Fin cfg0.N) : Is2 (a := 128) (b := 8) (iblk m c 4 t) (fun t g => B g t) := fun y => by
  refine (congrFun (V_bias m c) ((win0_4.rect t).emb y)).trans ?_
  have e := fun a => win0_4.rect_emb_val_of_index_zero t a (index4 t a) y
  refine (transpose_apply (s := S8x128) (t := S128x8) _ _ _ _ (ValueIdx.ix2 ((win0_4.rect t).emb y 1) ((win0_4.rect t).emb y 0)) (fun b => by fin_cases b <;> rfl)).trans ((hb _).trans ?_)
  exact congrArg₂ (fun a b => ((B a b : ℝ) : EReal)) (e 1) (e 0)

/-! ## The sums over the points -/

/-- What the outputs' blocks hold after point `n`: the point's own rows of the first output, and the sums so far of the
    other three. -/
structure After (n : ℕ) (o : Vec Ideal S128x4096 .bf16 × Vec Ideal S8x128x128 .f32 × Vec Ideal S8x8x128 .f32 × Vec Ideal S1x2048 .f32)
    (Z D : ℕ → ℕ → ℝ) (G : ℕ → ℝ) (W : ℕ → ℕ → ℕ → ℝ) (B : ℕ → ℕ → ℝ) : Prop where
  dz : Is2 (a := 128) (b := 4096) o.1 (Spec.dz (Spec.rows Z n) (Spec.rows D n) G W B)
  dw : Is3 (a := 8) (b := 128) (c := 128) o.2.1 (fun g t s => ∑ k ∈ Finset.range (n + 1), Spec.dw (Spec.rows Z k) (Spec.rows D k) G g t s)
  db : Is3 (a := 8) (b := 8) (c := 128) o.2.2.1 (fun g _ t => ∑ k ∈ Finset.range (n + 1), Spec.db (Spec.rows Z k) (Spec.rows D k) g t)
  dg : Is2 (a := 1) (b := 2048) o.2.2.2 (fun _ j => ∑ k ∈ Finset.range (n + 1), Spec.dg (Spec.rows Z k) (Spec.rows D k) W j)

/-- `After` from the four outputs one by one, their sums rewritten. -/
theorem After.of_eq {n : ℕ} {o : Vec Ideal S128x4096 .bf16 × Vec Ideal S8x128x128 .f32 × Vec Ideal S8x8x128 .f32 × Vec Ideal S1x2048 .f32}
    {o5 : Vec Ideal S128x4096 .bf16} {o6 : Vec Ideal S8x128x128 .f32} {o7 : Vec Ideal S8x8x128 .f32} {o8 : Vec Ideal S1x2048 .f32}
    {f6 : ℕ → ℕ → ℕ → ℝ} {f7 : ℕ → ℕ → ℝ} {f8 : ℕ → ℝ} (h : o = (o5, o6, o7, o8))
    (h5 : Is2 (a := 128) (b := 4096) o5 (Spec.dz (Spec.rows Z n) (Spec.rows D n) G W B))
    (h6 : Is3 (a := 8) (b := 128) (c := 128) o6 f6) (h7 : Is3 (a := 8) (b := 8) (c := 128) o7 (fun g _ t => f7 g t))
    (h8 : Is2 (a := 1) (b := 2048) o8 (fun _ j => f8 j))
    (e6 : ∀ g t s, f6 g t s = ∑ k ∈ Finset.range (n + 1), Spec.dw (Spec.rows Z k) (Spec.rows D k) G g t s)
    (e7 : ∀ g t, f7 g t = ∑ k ∈ Finset.range (n + 1), Spec.db (Spec.rows Z k) (Spec.rows D k) g t)
    (e8 : ∀ j, f8 j = ∑ k ∈ Finset.range (n + 1), Spec.dg (Spec.rows Z k) (Spec.rows D k) W j) : After n o Z D G W B := by
  subst h
  exact ⟨h5, fun y => (h6 y).trans (congrArg Real.toEReal (e6 _ _ _)), fun y => (h7 y).trans (congrArg Real.toEReal (e7 _ _)),
    fun y => (h8 y).trans (congrArg Real.toEReal (e8 _))⟩

include hz hg hw hb hd in
theorem after_A (t : Fin cfg0.N) (h0 : t.val % 16 = 0) (h2 : ¬1 ≤ t.val) :
    After t.val (outsAt0 m c t.val t.isLt) Z D G W B := by
  have e : t.val = 0 := by omega
  have i0 := in0 m c hz t
  have i1 := in1 m c hd t
  have i2 := in2 m c hg t
  have i3 := in3 m c hw t
  have i4 := in4 m c hb t
  have a5 := Block.A.out5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) ((hcond0_1 t).mpr h0) (fun h => h2 ((hcond0_2 t).mp h)) (x0 := iblk m c 0 t) (x1 := iblk m c 1 t) (x2 := iblk m c 2 t) (x3 := iblk m c 3 t) (x4 := iblk m c 4 t) i0 i1 i2 i3 i4
  have a6 := Block.A.out6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) ((hcond0_1 t).mpr h0) (fun h => h2 ((hcond0_2 t).mp h)) (x0 := iblk m c 0 t) (x1 := iblk m c 1 t) (x2 := iblk m c 2 t) (x3 := iblk m c 3 t) (x4 := iblk m c 4 t) i0 i1 i2
  have a7 := Block.A.out7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) ((hcond0_1 t).mpr h0) (fun h => h2 ((hcond0_2 t).mp h)) (x0 := iblk m c 0 t) (x1 := iblk m c 1 t) (x2 := iblk m c 2 t) (x3 := iblk m c 3 t) (x4 := iblk m c 4 t) i0 i1
  have a8 := Block.A.out8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) ((hcond0_1 t).mpr h0) (fun h => h2 ((hcond0_2 t).mp h)) (x0 := iblk m c 0 t) (x1 := iblk m c 1 t) (x2 := iblk m c 2 t) (x3 := iblk m c 3 t) (x4 := iblk m c 4 t) i0 i1 i3
  have h := outsAt0_A m c t h0 h0 h2
  refine After.of_eq h a5 a6 a7 a8 (fun g t s => ?_) (fun g t => ?_) (fun j => ?_)
  · simp only [e, Nat.zero_add, Finset.sum_range_one, zero_add]
  · simp only [e, Nat.zero_add, Finset.sum_range_one, zero_add]
  · simp only [e, Nat.zero_add, Finset.sum_range_one]

include hz hg hw hb hd in
theorem after_B (t : Fin cfg0.N) (h0 : ¬t.val % 16 = 0) (h2 : 1 ≤ t.val)
    (ih : After (t.val - 1) (outsAt0 m c (t.val - 1) (Nat.lt_of_le_of_lt (Nat.sub_le _ _) t.isLt)) Z D G W B) :
    After t.val (outsAt0 m c t.val t.isLt) Z D G W B := by
  have e : t.val - 1 + 1 = t.val := by omega
  have i0 := in0 m c hz t
  have i1 := in1 m c hd t
  have i2 := in2 m c hg t
  have i3 := in3 m c hw t
  have i4 := in4 m c hb t
  have a5 := Block.B.out5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h0 ((hcond0_1 t).mp h)) ((hcond0_2 t).mpr h2) (x0 := iblk m c 0 t) (x1 := iblk m c 1 t) (x2 := iblk m c 2 t) (x3 := iblk m c 3 t) (x4 := iblk m c 4 t) (xo6 := (outsAt0 m c (t.val - 1) (Nat.lt_of_le_of_lt (Nat.sub_le _ _) t.isLt)).2.1) (xo7 := (outsAt0 m c (t.val - 1) (Nat.lt_of_le_of_lt (Nat.sub_le _ _) t.isLt)).2.2.1) (xo8 := (outsAt0 m c (t.val - 1) (Nat.lt_of_le_of_lt (Nat.sub_le _ _) t.isLt)).2.2.2) i0 i1 i2 i3 i4
  have a6 := Block.B.out6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h0 ((hcond0_1 t).mp h)) ((hcond0_2 t).mpr h2) (x0 := iblk m c 0 t) (x1 := iblk m c 1 t) (x2 := iblk m c 2 t) (x3 := iblk m c 3 t) (x4 := iblk m c 4 t) (xo6 := (outsAt0 m c (t.val - 1) (Nat.lt_of_le_of_lt (Nat.sub_le _ _) t.isLt)).2.1) (xo7 := (outsAt0 m c (t.val - 1) (Nat.lt_of_le_of_lt (Nat.sub_le _ _) t.isLt)).2.2.1) (xo8 := (outsAt0 m c (t.val - 1) (Nat.lt_of_le_of_lt (Nat.sub_le _ _) t.isLt)).2.2.2) i0 i1 i2 ih.dw
  have a7 := Block.B.out7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h0 ((hcond0_1 t).mp h)) ((hcond0_2 t).mpr h2) (x0 := iblk m c 0 t) (x1 := iblk m c 1 t) (x2 := iblk m c 2 t) (x3 := iblk m c 3 t) (x4 := iblk m c 4 t) (xo6 := (outsAt0 m c (t.val - 1) (Nat.lt_of_le_of_lt (Nat.sub_le _ _) t.isLt)).2.1) (xo7 := (outsAt0 m c (t.val - 1) (Nat.lt_of_le_of_lt (Nat.sub_le _ _) t.isLt)).2.2.1) (xo8 := (outsAt0 m c (t.val - 1) (Nat.lt_of_le_of_lt (Nat.sub_le _ _) t.isLt)).2.2.2) i0 i1 ih.db
  have a8 := Block.B.out8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h0 ((hcond0_1 t).mp h)) ((hcond0_2 t).mpr h2) (x0 := iblk m c 0 t) (x1 := iblk m c 1 t) (x2 := iblk m c 2 t) (x3 := iblk m c 3 t) (x4 := iblk m c 4 t) (xo6 := (outsAt0 m c (t.val - 1) (Nat.lt_of_le_of_lt (Nat.sub_le _ _) t.isLt)).2.1) (xo7 := (outsAt0 m c (t.val - 1) (Nat.lt_of_le_of_lt (Nat.sub_le _ _) t.isLt)).2.2.1) (xo8 := (outsAt0 m c (t.val - 1) (Nat.lt_of_le_of_lt (Nat.sub_le _ _) t.isLt)).2.2.2) i0 i1 i3 ih.dg
  have h := outsAt0_B m c t h0 h0 h2
  refine After.of_eq h a5 a6 a7 a8 (fun g t s => ?_) (fun g t => ?_) (fun j => ?_)
  · simp only [e, Finset.sum_range_succ]
  · simp only [e, Finset.sum_range_succ]
  · simp only [e, Finset.sum_range_succ]

include hz hg hw hb hd in
theorem after (n : ℕ) (hn : n < cfg0.N) : After n (outsAt0 m c n hn) Z D G W B := by
  have hN : n < 16 := N_0 ▸ hn
  induction n with
  | zero => exact after_A m c hz hg hw hb hd ⟨0, hn⟩ rfl (by simp)
  | succ n ih =>
    exact after_B m c hz hg hw hb hd ⟨n + 1, hn⟩ (by show ¬(n + 1) % 16 = 0; omega) (by simp)
      (ih (Nat.lt_of_succ_lt hn) (by omega))

/-! ## The arrays after the run -/

theorem index5 : ∀ t : Fin cfg0.N, win0_5.index t 0 = t.val ∧ win0_5.index t 1 = 0 :=
  (by decide +kernel : ∀ t : Fin grid0.N, win0_5.index t 0 = t.val ∧ win0_5.index t 1 = 0)

/-- The last grid point. -/
abbrev last : Fin cfg0.N := ⟨15, (by decide : 15 < grid0.N)⟩

theorem sum16 (f : ℕ → ℝ) : ∑ k ∈ Finset.range (15 + 1), f k = ∑ k : Fin 16, f k := Finset.sum_range f

include hz hg hw hb hd in
theorem final5 : Is2 (a := 2048) (b := 4096) ((dats m 0 c).arrAt 5 cfg0.N) (Spec.dzAll Z D G W B) := fun i => by
  refine (dats m 0 c).arrAt_forall_of_covers 5 (fun i v => v = ((Spec.dzAll Z D G W B (i 0).val (i 1).val : ℝ) : EReal)) (by decide +kernel) (fun t hf y => ?_) i
  have h := (after m c hz hg hw hb hd t.val t.isLt).dz y
  have e0 := win0_5.rect_emb_val t y 0
  have e1 := win0_5.rect_emb_val_of_index_zero t 1 (index5 t).2 y
  rw [(index5 t).1] at e0
  have hy : (y 0).val < 128 := (y 0).isLt
  have d0 : ((win0_5.rect t).emb y 0).val / 128 = t.val := by
    rw [e0]; show (t.val * 128 + (y 0).val) / 128 = t.val; omega
  have m0 : ((win0_5.rect t).emb y 0).val % 128 = (y 0).val := by
    rw [e0]; show (t.val * 128 + (y 0).val) % 128 = (y 0).val; omega
  refine (Eq.trans ?_ h).trans (congrArg Real.toEReal ?_)
  · show (dats m 0 c).after 5 t y = _
    rw [after0_5]
  · show _ = Spec.dz (Spec.rows Z (((win0_5.rect t).emb y 0).val / 128)) (Spec.rows D (((win0_5.rect t).emb y 0).val / 128)) G W B (((win0_5.rect t).emb y 0).val % 128) ((win0_5.rect t).emb y 1).val
    rw [d0, m0, e1]

include hz hg hw hb hd in
theorem final6 : Is3 (a := 8) (b := 128) (c := 128) ((dats m 0 c).arrAt 6 cfg0.N) (Spec.dwAll Z D G) := fun i => by
  refine ((dats m 0 c).arrAt_emb_eq_after_last 6 last (by decide +kernel) i).trans ?_
  show (dats m 0 c).after 6 last i = _
  rw [after0_6]
  exact ((after m c hz hg hw hb hd 15 last.isLt).dw i).trans (congrArg Real.toEReal (sum16 _))

include hz hg hw hb hd in
theorem final7 : Is3 (a := 8) (b := 8) (c := 128) ((dats m 0 c).arrAt 7 cfg0.N) (fun g _ t => Spec.dbAll Z D g t) := fun i => by
  refine ((dats m 0 c).arrAt_emb_eq_after_last 7 last (by decide +kernel) i).trans ?_
  show (dats m 0 c).after 7 last i = _
  rw [after0_7]
  exact ((after m c hz hg hw hb hd 15 last.isLt).db i).trans (congrArg Real.toEReal (sum16 _))

include hz hg hw hb hd in
theorem final8 : Is2 (a := 1) (b := 2048) ((dats m 0 c).arrAt 8 cfg0.N) (fun _ j => Spec.dgAll Z D W j) := fun i => by
  refine ((dats m 0 c).arrAt_emb_eq_after_last 8 last (by decide +kernel) i).trans ?_
  show (dats m 0 c).after 8 last i = _
  rw [after0_8]
  exact ((after m c hz hg hw hb hd 15 last.isLt).dg i).trans (congrArg Real.toEReal (sum16 _))

end Cert.Accum

end
-- ==== Proof.RefRow.lean ====
/- The reference's row-wise values: gelu and its derivative, the normalised half, the mixed half. -/
module

public import proofs.«01_k».proof.Proof.Spec
public import proofs.«01_k».proof.Proof.Gen.ReferenceIdeal.Read

@[expose] public section

noncomputable section

namespace Cert.Ref

open Cert.ReferenceIdeal Cert.ReferenceIdeal.Gen Cert.ReferenceIdeal.Read Idealize.ShloMosaic Cert.Lift

variable {x0 : (⟨S2048x4096, .f32⟩ : BufTy).Contents (Elt Ideal)} {x1 : (⟨S2048, .f32⟩ : BufTy).Contents (Elt Ideal)}
  {x2 : (⟨S8x128x128, .f32⟩ : BufTy).Contents (Elt Ideal)} {x3 : (⟨S8x128, .f32⟩ : BufTy).Contents (Elt Ideal)}
  {x4 : (⟨S2048x2048, .f32⟩ : BufTy).Contents (Elt Ideal)}
  {Z D : ℕ → ℕ → ℝ} {G : ℕ → ℝ} {W : ℕ → ℕ → ℕ → ℝ} {B : ℕ → ℕ → ℝ}

/-- The gain's cubic coefficient, printed as a quotient. -/
theorem v0 (i : S_.Idx) : val_main_v0 (F := Ideal) i = ((kk : ℝ) : EReal) := by
  rw [val_main_v0_apply, val_main_cst_apply, val_main_cst_0_apply, Ideal.ofBits_def, Ideal.ofBits_def, lit_8943, lit_200000,
    hostDivC _ (by norm_num)]
  rfl

theorem v11 (h0 : ∀ i, x0 i = ((Z (i 0).val (i 1).val : ℝ) : EReal)) (i : S2048x4096.Idx) :
    val_main_v11 x0 i = ((Spec.th (Z (i 0).val (i 1).val) : ℝ) : EReal) := by
  simp only [val_main_v11_apply, val_main_v10_apply, val_main_v9_apply, val_main_cst_2_apply, val_main_v8_apply, val_main_v7_apply,
    val_main_v6_apply, v0, val_main_v2_apply, val_main_v1_apply, h0, Ideal.ofBits_def, lit_kC, mulC, addC, hostTanhC]
  rfl

theorem v16 (h0 : ∀ i, x0 i = ((Z (i 0).val (i 1).val : ℝ) : EReal)) (i : S2048x4096.Idx) :
    val_main_v16 x0 i = (((1 + Spec.th (Z (i 0).val (i 1).val)) * (1 - Spec.th (Z (i 0).val (i 1).val)) : ℝ) : EReal) := by
  simp only [val_main_v16_apply, val_main_v15_apply, val_main_v14_apply, val_main_v13_apply, val_main_v12_apply, val_main_cst_3_apply,
    val_main_cst_4_apply, v11 h0, Ideal.ofBits_def, lit_one, mulC, addC, subC]

theorem v20 (h0 : ∀ i, x0 i = ((Z (i 0).val (i 1).val : ℝ) : EReal)) (i : S2048x4096.Idx) :
    val_main_v20 x0 i = ((1 / 2 * (1 + Spec.th (Z (i 0).val (i 1).val)) : ℝ) : EReal) := by
  simp only [val_main_v20_apply, val_main_v19_apply, val_main_v18_apply, val_main_v17_apply, val_main_cst_5_apply,
    val_main_cst_6_apply, v11 h0, Ideal.ofBits_def, lit_one, lit_half, mulC, addC]

theorem v21 (h0 : ∀ i, x0 i = ((Z (i 0).val (i 1).val : ℝ) : EReal)) (i : S2048x4096.Idx) :
    val_main_v21 x0 i = ((Spec.act (Z (i 0).val (i 1).val) : ℝ) : EReal) := by
  simp only [val_main_v21_apply, v20 h0, h0, mulC]
  exact congrArg _ (by unfold Spec.act; ring)

theorem v5 (h0 : ∀ i, x0 i = ((Z (i 0).val (i 1).val : ℝ) : EReal)) (i : S2048x4096.Idx) :
    val_main_v5 x0 i = ((3 * (Z (i 0).val (i 1).val * Z (i 0).val (i 1).val) : ℝ) : EReal) := by
  simp only [val_main_v5_apply, val_main_v4_apply, val_main_v3_apply, val_main_cst_1_apply, h0, Ideal.ofBits_def, lit_three, mulC]

theorem v22 (h0 : ∀ i, x0 i = ((Z (i 0).val (i 1).val : ℝ) : EReal)) (i : S2048x2048.Idx) :
    val_main_v22 x0 i = ((Spec.u (Z (i 0).val) (i 1).val : ℝ) : EReal) := by
  rw [val_main_v22_apply, v21 h0]; rfl

theorem v23 (h0 : ∀ i, x0 i = ((Z (i 0).val (i 1).val : ℝ) : EReal)) (i : S2048x2048.Idx) :
    val_main_v23 x0 i = ((Spec.v (Z (i 0).val) (i 1).val : ℝ) : EReal) := by
  rw [val_main_v23_apply, v21 h0]; rfl

theorem v30 (h0 : ∀ i, x0 i = ((Z (i 0).val (i 1).val : ℝ) : EReal)) (i : S2048x1.Idx) :
    val_main_v30 x0 i = ((Spec.ms (Z (i 0).val) : ℝ) : EReal) := by
  simp only [val_main_v30_apply, val_main_v29_apply, val_main_v28_apply, val_main_v27_apply, val_main_v26_apply, val_main_v25_apply,
    val_main_v24_apply, v23 h0, val_main_cst_7_apply, val_main_cst_8_apply, val_main_cst_9_apply, Ideal.ofBits_def, lit_eps, lit_zero,
    lit_2048, mulC, sumC, addE]
  rw [hostDivC _ (by norm_num), addC]
  exact congrArg _ (by rw [zero_add]; rfl)

theorem v31 (h0 : ∀ i, x0 i = ((Z (i 0).val (i 1).val : ℝ) : EReal)) (i : S2048x1.Idx) :
    val_main_v31 x0 i = ((Spec.rv (Z (i 0).val) : ℝ) : EReal) := by
  rw [val_main_v31_apply, v30 h0, hostRsqrtC (Spec.ms_pos _)]; rfl

theorem v34 (h0 : ∀ i, x0 i = ((Z (i 0).val (i 1).val : ℝ) : EReal)) (i : S2048x1.Idx) :
    val_main_v34 x0 i = ((-1 / 2 * (Spec.rv (Z (i 0).val) / Spec.ms (Z (i 0).val)) : ℝ) : EReal) := by
  simp only [val_main_v34_apply, val_main_v33_apply, val_main_v32_apply, val_main_cst_10_apply, v31 h0, v30 h0, Ideal.ofBits_def, lit_neg_half]
  rw [hostDivC _ (Spec.ms_pos _).ne', mulC]

theorem v36 (h0 : ∀ i, x0 i = ((Z (i 0).val (i 1).val : ℝ) : EReal)) (i : S2048x2048.Idx) :
    val_main_v36 x0 i = ((Spec.vh (Z (i 0).val) (i 1).val : ℝ) : EReal) := by
  rw [val_main_v36_apply, val_main_v35_apply, v31 h0, v23 h0, mulC]; rfl

theorem v38 (h1 : ∀ i, x1 i = ((G (i 0).val : ℝ) : EReal)) (i : S2048x2048.Idx) :
    val_main_v38 x1 i = ((G (i 1).val : ℝ) : EReal) := by
  rw [val_main_v38_apply, val_main_v37_apply, h1]

theorem v39 (h0 : ∀ i, x0 i = ((Z (i 0).val (i 1).val : ℝ) : EReal)) (h1 : ∀ i, x1 i = ((G (i 0).val : ℝ) : EReal)) (i : S2048x2048.Idx) :
    val_main_v39 x0 x1 i = ((Spec.vn (Z (i 0).val) G (i 1).val : ℝ) : EReal) := by
  rw [val_main_v39_apply, v36 h0, v38 h1, mulC]; rfl

/-- Position (c, t, g, d) of the four-axis view is row 128 c + t, column 256 g + d. -/
theorem row_of (c t g d : ℕ) (ht : t < 128) (hg : g < 8) (hd : d < 256) :
    (((c * 128 + t) * 8 + g) * 256 + d) / 2048 = 128 * c + t ∧ (((c * 128 + t) * 8 + g) * 256 + d) % 2048 = 256 * g + d := by omega

theorem v40 (h0 : ∀ i, x0 i = ((Z (i 0).val (i 1).val : ℝ) : EReal)) (h1 : ∀ i, x1 i = ((G (i 0).val : ℝ) : EReal)) (i : S16x128x8x256.Idx) :
    val_main_v40 x0 x1 i = ((Spec.vn (Spec.rows Z (i 0).val (i 1).val) G (256 * (i 2).val + (i 3).val) : ℝ) : EReal) := by
  rw [val_main_v40_apply, v39 h0 h1]
  obtain ⟨e, e'⟩ := row_of (i 0).val (i 1).val (i 2).val (i 3).val (i 1).isLt (i 2).isLt (i 3).isLt
  show ((Spec.vn (Z (((((i 0).val * 128 + (i 1).val) * 8 + (i 2).val) * 256 + (i 3).val) / 2048)) G
    ((((((i 0).val * 128 + (i 1).val) * 8 + (i 2).val) * 256 + (i 3).val) % 2048)) : ℝ) : EReal) = _
  rw [e, e']; rfl

theorem v41_1 (i : S8x128x128.Idx) : val_main_v41_1 (F := Ideal) i = if (i 2).val ≤ (i 1).val then 1#1 else 0#1 := by
  rw [val_main_v41_1_apply, val_main_call0_v4_apply, val_main_call0_v2_apply, val_main_call0_v1_apply, val_main_call0_c_apply,
    val_main_call0_v0_apply, val_main_call0_v3_apply]
  have : IntOp.addi (BitVec.ofNat 32 (i 1).val) 0#32 = BitVec.ofNat 32 (i 1).val := by simp [IntOp.addi]
  show IntOp.cmpi .sge (IntOp.addi (BitVec.ofNat 32 (i 1).val) 0#32) (BitVec.ofNat 32 (i 2).val) = _
  rw [this, mask_bit _ _ (i 1).isLt (i 2).isLt]

theorem v41 (h2 : ∀ i, x2 i = ((W (i 0).val (i 1).val (i 2).val : ℝ) : EReal)) (i : S8x128x128.Idx) :
    val_main_v41_0 x2 i = ((Spec.wc W (i 0).val (i 1).val (i 2).val : ℝ) : EReal) := by
  rw [val_main_v41_0_apply, v41_1, h2, val_main_call0_v6_apply, val_main_call0_cst_apply, Ideal.ofBits_def, lit_zero]
  unfold Spec.wc
  split <;> rfl

theorem v47 (h0 : ∀ i, x0 i = ((Z (i 0).val (i 1).val : ℝ) : EReal)) (h1 : ∀ i, x1 i = ((G (i 0).val : ℝ) : EReal))
    (h2 : ∀ i, x2 i = ((W (i 0).val (i 1).val (i 2).val : ℝ) : EReal)) (h3 : ∀ i, x3 i = ((B (i 0).val (i 1).val : ℝ) : EReal))
    (i : S16x128x8x256.Idx) :
    val_main_v47 x0 x1 x2 x3 i = ((Spec.sg (Spec.rows Z (i 0).val) G W B (i 1).val (256 * (i 2).val + (i 3).val) : ℝ) : EReal) := by
  rw [val_main_v47_apply, val_main_v43_apply, val_main_v42_apply, val_main_v46_apply, val_main_v45_apply, val_main_v44_apply, h3]
  simp only [v40 h0 h1, v41 h2, mulE, sumC]
  rw [addC]
  have hd : (256 * (i 2).val + (i 3).val) / 256 = (i 2).val := by have : (i 3).val < 256 := (i 3).isLt; omega
  unfold Spec.sg
  rw [hd]
  exact congrArg _ (congrArg (· + _) (Finset.sum_congr rfl fun k _ => mul_comm _ _))

theorem v48 (h0 : ∀ i, x0 i = ((Z (i 0).val (i 1).val : ℝ) : EReal)) (h1 : ∀ i, x1 i = ((G (i 0).val : ℝ) : EReal))
    (h2 : ∀ i, x2 i = ((W (i 0).val (i 1).val (i 2).val : ℝ) : EReal)) (h3 : ∀ i, x3 i = ((B (i 0).val (i 1).val : ℝ) : EReal))
    (i : S2048x2048.Idx) :
    val_main_v48 x0 x1 x2 x3 i
      = ((Spec.sg (Spec.rows Z ((i 0).val / 128)) G W B ((i 0).val % 128) (i 1).val : ℝ) : EReal) := by
  rw [val_main_v48_apply, v47 h0 h1 h2 h3]
  have hi : (i 1).val < 2048 := (i 1).isLt
  show ((Spec.sg (Spec.rows Z (((i 0).val * 2048 + (i 1).val) / 262144)) G W B (((i 0).val * 2048 + (i 1).val) / 2048 % 128)
    (256 * (((i 0).val * 2048 + (i 1).val) / 256 % 8) + ((i 0).val * 2048 + (i 1).val) % 256) : ℝ) : EReal) = _
  rw [show ((i 0).val * 2048 + (i 1).val) / 262144 = (i 0).val / 128 by omega,
    show ((i 0).val * 2048 + (i 1).val) / 2048 % 128 = (i 0).val % 128 by omega,
    show 256 * (((i 0).val * 2048 + (i 1).val) / 256 % 8) + ((i 0).val * 2048 + (i 1).val) % 256 = (i 1).val by omega]

theorem v50 (h0 : ∀ i, x0 i = ((Z (i 0).val (i 1).val : ℝ) : EReal)) (h4 : ∀ i, x4 i = ((D (i 0).val (i 1).val : ℝ) : EReal))
    (i : S2048x2048.Idx) : val_main_v50 x0 x4 i = ((D (i 0).val (i 1).val * Spec.u (Z (i 0).val) (i 1).val : ℝ) : EReal) := by
  rw [val_main_v50_apply, v22 h0, h4, mulC, mul_comm]

theorem v52 (h0 : ∀ i, x0 i = ((Z (i 0).val (i 1).val : ℝ) : EReal)) (h4 : ∀ i, x4 i = ((D (i 0).val (i 1).val : ℝ) : EReal))
    (i : S16x128x8x256.Idx) :
    val_main_v52 x0 x4 i = ((Spec.ds (Spec.rows Z (i 0).val) (Spec.rows D (i 0).val) (i 1).val (256 * (i 2).val + (i 3).val) : ℝ) : EReal) := by
  rw [val_main_v52_apply, v50 h0 h4]
  obtain ⟨e, e'⟩ := row_of (i 0).val (i 1).val (i 2).val (i 3).val (i 1).isLt (i 2).isLt (i 3).isLt
  have a0 : (idx_main_v52 i 0).val = 128 * (i 0).val + (i 1).val := e
  have a1 : (idx_main_v52 i 1).val = 256 * (i 2).val + (i 3).val := e'
  rw [a0, a1]; rfl

theorem v60 (h0 : ∀ i, x0 i = ((Z (i 0).val (i 1).val : ℝ) : EReal)) (h2 : ∀ i, x2 i = ((W (i 0).val (i 1).val (i 2).val : ℝ) : EReal))
    (h4 : ∀ i, x4 i = ((D (i 0).val (i 1).val : ℝ) : EReal)) (i : S16x128x8x256.Idx) :
    val_main_v60 x0 x2 x4 i
      = ((Spec.dvn (Spec.rows Z (i 0).val) (Spec.rows D (i 0).val) W (i 1).val (256 * (i 2).val + (i 3).val) : ℝ) : EReal) := by
  rw [val_main_v60_apply, val_main_v59_apply]
  simp only [val_main_v57_apply, v52 h0 h4, v41 h2, mulE, sumC]
  have hd : (256 * (i 2).val + (i 3).val) / 256 = (i 2).val := by have : (i 3).val < 256 := (i 3).isLt; omega
  unfold Spec.dvn
  rw [hd]
  exact congrArg _ (Finset.sum_congr rfl fun k _ => mul_comm _ _)

theorem v62 (h0 : ∀ i, x0 i = ((Z (i 0).val (i 1).val : ℝ) : EReal)) (h2 : ∀ i, x2 i = ((W (i 0).val (i 1).val (i 2).val : ℝ) : EReal))
    (h4 : ∀ i, x4 i = ((D (i 0).val (i 1).val : ℝ) : EReal)) (i : S2048x2048.Idx) :
    val_main_v62 x0 x2 x4 i
      = ((Spec.dvn (Spec.rows Z ((i 0).val / 128)) (Spec.rows D ((i 0).val / 128)) W ((i 0).val % 128) (i 1).val : ℝ) : EReal) := by
  rw [val_main_v62_apply, v60 h0 h2 h4]
  have hi : (i 1).val < 2048 := (i 1).isLt
  show ((Spec.dvn (Spec.rows Z (((i 0).val * 2048 + (i 1).val) / 262144)) (Spec.rows D (((i 0).val * 2048 + (i 1).val) / 262144)) W
    (((i 0).val * 2048 + (i 1).val) / 2048 % 128)
    (256 * (((i 0).val * 2048 + (i 1).val) / 256 % 8) + ((i 0).val * 2048 + (i 1).val) % 256) : ℝ) : EReal) = _
  rw [show ((i 0).val * 2048 + (i 1).val) / 262144 = (i 0).val / 128 by omega,
    show ((i 0).val * 2048 + (i 1).val) / 2048 % 128 = (i 0).val % 128 by omega,
    show 256 * (((i 0).val * 2048 + (i 1).val) / 256 % 8) + ((i 0).val * 2048 + (i 1).val) % 256 = (i 1).val by omega]

end Cert.Ref

end
-- ==== Proof.RefOut.lean ====
/- The reference's four results as the real-number formulas. -/
module

public import proofs.«01_k».proof.Proof.RefRow
public import Idealize.ShloMosaic.Lib.TwoAxisContraction

@[expose] public section

noncomputable section

namespace Cert.Ref

open Cert.ReferenceIdeal Cert.ReferenceIdeal.Gen Cert.ReferenceIdeal.Read Idealize.ShloMosaic Idealize.ShloMosaic.ValueIdx Cert.Lift

variable {x0 : (⟨S2048x4096, .f32⟩ : BufTy).Contents (Elt Ideal)} {x1 : (⟨S2048, .f32⟩ : BufTy).Contents (Elt Ideal)}
  {x2 : (⟨S8x128x128, .f32⟩ : BufTy).Contents (Elt Ideal)} {x3 : (⟨S8x128, .f32⟩ : BufTy).Contents (Elt Ideal)}
  {x4 : (⟨S2048x2048, .f32⟩ : BufTy).Contents (Elt Ideal)}
  {Z D : ℕ → ℕ → ℝ} {G : ℕ → ℝ} {W : ℕ → ℕ → ℕ → ℝ} {B : ℕ → ℕ → ℝ}

/-- A host sum over the first and last of four axes is the double sum over their coordinates. -/
theorem reduce03 {a b c d : ℕ} (h : (⟨4, ![a, b, c, d]⟩ : Shape).ReducesTo [0, 3] ⟨2, ![b, c]⟩)
    (x : (⟨4, ![a, b, c, d]⟩ : Shape).Idx → EReal) (init : EReal) (j : (⟨2, ![b, c]⟩ : Shape).Idx) :
    Ideal.hostReduceAdd h x init j = init + ∑ p : Fin a, ∑ q : Fin d, x (ix4 p (j 0) (j 1) q) := by
  unfold Ideal.hostReduceAdd
  rw [← Fintype.sum_prod_type' (f := fun (p : Fin a) (q : Fin d) => x (ix4 p (j 0) (j 1) q))]
  refine congrArg (init + ·) ?_
  refine Finset.sum_bij' (fun i _ => (i 0, i 3)) (fun pq _ => ix4 pq.1 (j 0) (j 1) pq.2) (fun _ _ => Finset.mem_univ _) ?_ ?_ ?_ ?_
  · intro pq _
    refine Finset.mem_filter.mpr ⟨Finset.mem_univ _, funext fun e => Fin.ext ?_⟩
    match e with
    | ⟨0, _⟩ => exact rfl
    | ⟨1, _⟩ => exact rfl
  · intro i hi
    have hj := (Finset.mem_filter.mp hi).2
    refine funext fun e => Fin.ext ?_
    match e with
    | ⟨0, _⟩ => rfl
    | ⟨1, _⟩ => show (j 0).val = _; rw [← hj]; exact rfl
    | ⟨2, _⟩ => show (j 1).val = _; rw [← hj]; exact rfl
    | ⟨3, _⟩ => rfl
  · intro pq _; rfl
  · intro i hi
    have hj := (Finset.mem_filter.mp hi).2
    refine congrArg x (funext fun e => Fin.ext ?_)
    match e with
    | ⟨0, _⟩ => rfl
    | ⟨1, _⟩ => show _ = (j 0).val; rw [← hj]; exact rfl
    | ⟨2, _⟩ => show _ = (j 1).val; rw [← hj]; exact rfl
    | ⟨3, _⟩ => rfl

theorem v53 (h0 : ∀ i, x0 i = ((Z (i 0).val (i 1).val : ℝ) : EReal)) (h4 : ∀ i, x4 i = ((D (i 0).val (i 1).val : ℝ) : EReal))
    (i : S128x8.Idx) : val_main_v53 x0 x4 i = ((Spec.dbAll Z D (i 1).val (i 0).val : ℝ) : EReal) := by
  have hx := v52 h0 h4
  unfold val_main_v53
  generalize val_main_v52 x0 x4 = y at hx ⊢
  simp only [Host.reduceAdd, Ideal.hostReduceAdd_def]
  rw [reduce03]
  simp only [hx, sumC]
  rw [show val_main_cst_11 (F := Ideal) (Shape.Idx.first h_S_) = ((0 : ℝ) : EReal) from lit_zero, addE, zero_add]
  rfl

theorem v55 (h0 : ∀ i, x0 i = ((Z (i 0).val (i 1).val : ℝ) : EReal)) (h4 : ∀ i, x4 i = ((D (i 0).val (i 1).val : ℝ) : EReal))
    (i : S128x8.Idx) : val_main_v55 x0 x4 i = ((Spec.dbAll Z D (i 1).val (i 0).val : ℝ) : EReal) := by
  have hx : ∀ j : S1x128x8x1.Idx, val_main_v54 x0 x4 j = ((Spec.dbAll Z D (j 2).val (j 1).val : ℝ) : EReal) := by
    intro j
    rw [val_main_v54_apply, v53 h0 h4]
    have j0 : (j 0).val < 1 := (j 0).isLt
    have j2 : (j 2).val < 8 := (j 2).isLt
    have j3 : (j 3).val < 1 := (j 3).isLt
    have a0 : (idx_main_v54 j 0).val = (j 1).val := by
      show ((((j 0).val * 128 + (j 1).val) * 8 + (j 2).val) * 1 + (j 3).val) / 8 = _; omega
    have a1 : (idx_main_v54 j 1).val = (j 2).val := by
      show ((((j 0).val * 128 + (j 1).val) * 8 + (j 2).val) * 1 + (j 3).val) % 8 = _; omega
    rw [a0, a1]
  unfold val_main_v55
  generalize val_main_v54 x0 x4 = y at hx ⊢
  simp only [Host.reduceAdd, Ideal.hostReduceAdd_def]
  rw [reduce03]
  simp only [hx, sumC]
  rw [show val_main_cst_12 (F := Ideal) (Shape.Idx.first h_S_) = ((0 : ℝ) : EReal) from lit_zero, addE, zero_add]
  simp only [Finset.univ_unique, Finset.sum_singleton]

/-- dbs, repeated over eight rows. -/
theorem v98 (h0 : ∀ i, x0 i = ((Z (i 0).val (i 1).val : ℝ) : EReal)) (h4 : ∀ i, x4 i = ((D (i 0).val (i 1).val : ℝ) : EReal))
    (i : S8x8x128.Idx) : val_main_v98 x0 x4 i = ((Spec.dbAll Z D (i 0).val (i 2).val : ℝ) : EReal) := by
  rw [val_main_v98_apply, val_main_v97_apply, val_main_v56_apply, v55 h0 h4]

abbrev dotW := dot_S8x16x256x128_S16x128x8x256_S8x128x128_12_03_3_1_0_2

theorem lhs_dotW_0 (i : S8x128x128.Idx) (q : dotW.contr.Idx) : (dotW.lhsIdx i q 0).val = (i 0).val := by
  unfold DotDims.lhsIdx
  rw [dif_pos (show (0 : Fin S8x16x256x128.rank) ∈ dotW.lhsBatch by decide)]
  rfl
theorem lhs_dotW_1 (i : S8x128x128.Idx) (q : dotW.contr.Idx) : (dotW.lhsIdx i q 1).val = (q ⟨0, by decide⟩).val := by
  unfold DotDims.lhsIdx
  rw [dif_neg (show ¬(1 : Fin S8x16x256x128.rank) ∈ dotW.lhsBatch by decide), dif_neg (show ¬(1 : Fin S8x16x256x128.rank) ∈ dotW.lhsNonContracting by decide)]
  rfl
theorem lhs_dotW_2 (i : S8x128x128.Idx) (q : dotW.contr.Idx) : (dotW.lhsIdx i q 2).val = (q ⟨1, by decide⟩).val := by
  unfold DotDims.lhsIdx
  rw [dif_neg (show ¬(2 : Fin S8x16x256x128.rank) ∈ dotW.lhsBatch by decide), dif_neg (show ¬(2 : Fin S8x16x256x128.rank) ∈ dotW.lhsNonContracting by decide)]
  rfl
theorem lhs_dotW_3 (i : S8x128x128.Idx) (q : dotW.contr.Idx) : (dotW.lhsIdx i q 3).val = (i 1).val := by
  unfold DotDims.lhsIdx
  rw [dif_neg (show ¬(3 : Fin S8x16x256x128.rank) ∈ dotW.lhsBatch by decide), dif_pos (show (3 : Fin S8x16x256x128.rank) ∈ dotW.lhsNonContracting by decide)]
  rfl
theorem rhs_dotW_0 (i : S8x128x128.Idx) (q : dotW.contr.Idx) : (dotW.rhsIdx i q 0).val = (q ⟨0, by decide⟩).val := by
  unfold DotDims.rhsIdx
  rw [dif_neg (show ¬(0 : Fin S16x128x8x256.rank) ∈ dotW.rhsBatch by decide), dif_neg (show ¬(0 : Fin S16x128x8x256.rank) ∈ dotW.rhsNonContracting by decide)]
  rfl
theorem rhs_dotW_1 (i : S8x128x128.Idx) (q : dotW.contr.Idx) : (dotW.rhsIdx i q 1).val = (i 2).val := by
  unfold DotDims.rhsIdx
  rw [dif_neg (show ¬(1 : Fin S16x128x8x256.rank) ∈ dotW.rhsBatch by decide), dif_pos (show (1 : Fin S16x128x8x256.rank) ∈ dotW.rhsNonContracting by decide)]
  rfl
theorem rhs_dotW_2 (i : S8x128x128.Idx) (q : dotW.contr.Idx) : (dotW.rhsIdx i q 2).val = (i 0).val := by
  unfold DotDims.rhsIdx
  rw [dif_pos (show (2 : Fin S16x128x8x256.rank) ∈ dotW.rhsBatch by decide)]
  rfl
theorem rhs_dotW_3 (i : S8x128x128.Idx) (q : dotW.contr.Idx) : (dotW.rhsIdx i q 3).val = (q ⟨1, by decide⟩).val := by
  unfold DotDims.rhsIdx
  rw [dif_neg (show ¬(3 : Fin S16x128x8x256.rank) ∈ dotW.rhsBatch by decide), dif_neg (show ¬(3 : Fin S16x128x8x256.rank) ∈ dotW.rhsNonContracting by decide)]
  rfl

/-- The two-axis contraction of dws before its mask: a sum over chunks and over the group's columns. -/
theorem v58 (h0 : ∀ i, x0 i = ((Z (i 0).val (i 1).val : ℝ) : EReal)) (h1 : ∀ i, x1 i = ((G (i 0).val : ℝ) : EReal))
    (h4 : ∀ i, x4 i = ((D (i 0).val (i 1).val : ℝ) : EReal)) (i : S8x128x128.Idx) :
    val_main_v58 x0 x1 x4 i = ((∑ c : Fin 16, ∑ d : Fin 256,
      Spec.ds (Spec.rows Z c) (Spec.rows D c) (i 1).val (256 * (i 0).val + d)
        * Spec.vn (Spec.rows Z c (i 2).val) G (256 * (i 0).val + d) : ℝ) : EReal) := by
  have hx : ∀ j, val_main_v57 x0 x4 j = _ := fun j => (val_main_v57_apply x0 x4 j).trans (v52 h0 h4 _)
  have hy := v40 h0 h1
  unfold val_main_v58
  generalize val_main_v57 x0 x4 = y0 at hx ⊢
  generalize val_main_v40 x0 x1 = y1 at hy ⊢
  simp only [Host.dotGeneral]
  rw [Ideal.dotGeneral_apply, sum_contr2 dotW 16 256 rfl rfl rfl]
  simp only [hx, hy, mulE, sumC]
  refine congrArg _ (Finset.sum_congr rfl fun c _ => Finset.sum_congr rfl fun d _ => ?_)
  have k0 := contrEquiv2_symm_val0 dotW 16 256 rfl rfl rfl (c, d)
  have k1 := contrEquiv2_symm_val1 dotW 16 256 rfl rfl rfl (c, d)
  rw [rhs_dotW_0, rhs_dotW_1, rhs_dotW_2, rhs_dotW_3, k0, k1]
  have l0 := lhs_dotW_0 i ((contrEquiv2 dotW 16 256 rfl rfl rfl).symm (c, d))
  have l1 := (lhs_dotW_1 i ((contrEquiv2 dotW 16 256 rfl rfl rfl).symm (c, d))).trans k0
  have l2 := (lhs_dotW_2 i ((contrEquiv2 dotW 16 256 rfl rfl rfl).symm (c, d))).trans k1
  have l3 := lhs_dotW_3 i ((contrEquiv2 dotW 16 256 rfl rfl rfl).symm (c, d))
  show Spec.ds (Spec.rows Z (dotW.lhsIdx i _ 1).val) (Spec.rows D (dotW.lhsIdx i _ 1).val) (dotW.lhsIdx i _ 3).val
    (256 * (dotW.lhsIdx i _ 0).val + (dotW.lhsIdx i _ 2).val) * _ = _
  rw [l0, l1, l2, l3]

/-- dws. -/
theorem v61 (h0 : ∀ i, x0 i = ((Z (i 0).val (i 1).val : ℝ) : EReal)) (h1 : ∀ i, x1 i = ((G (i 0).val : ℝ) : EReal))
    (h4 : ∀ i, x4 i = ((D (i 0).val (i 1).val : ℝ) : EReal)) (i : S8x128x128.Idx) :
    val_main_v61 x0 x1 x4 i = ((Spec.dwAll Z D G (i 0).val (i 1).val (i 2).val : ℝ) : EReal) := by
  rw [val_main_v61_apply, v41_1, v58 h0 h1 h4, val_main_call1_v0_apply, val_main_call1_cst_apply, Ideal.ofBits_def, lit_zero]
  unfold Spec.dwAll Spec.dw
  by_cases h : (i 2).val ≤ (i 1).val
  · simp only [if_pos h]; rfl
  · simp only [if_neg h, Finset.sum_const_zero]; rfl

theorem v63 (h0 : ∀ i, x0 i = ((Z (i 0).val (i 1).val : ℝ) : EReal)) (h2 : ∀ i, x2 i = ((W (i 0).val (i 1).val (i 2).val : ℝ) : EReal))
    (h4 : ∀ i, x4 i = ((D (i 0).val (i 1).val : ℝ) : EReal)) (i : S2048x2048.Idx) :
    val_main_v63 x0 x2 x4 i = ((Spec.dvn (Spec.rows Z ((i 0).val / 128)) (Spec.rows D ((i 0).val / 128)) W ((i 0).val % 128) (i 1).val
      * Spec.vh (Z (i 0).val) (i 1).val : ℝ) : EReal) := by
  rw [val_main_v63_apply, v36 h0, v62 h0 h2 h4, mulC, mul_comm]

/-- A sum over 2048 rows, chunk by chunk. -/
theorem sum_rows (f : ℕ → ℝ) : ∑ r : Fin 2048, f r.val = ∑ c : Fin 16, ∑ t : Fin 128, f (128 * c.val + t.val) := by
  rw [← Fintype.sum_prod_type' (f := fun (c : Fin 16) (t : Fin 128) => f (128 * c.val + t.val)),
    ← Equiv.sum_comp (finProdFinEquiv (m := 16) (n := 128)) (fun r : Fin 2048 => f r.val)]
  refine Finset.sum_congr rfl fun p _ => congrArg f ?_
  show p.2.val + 128 * p.1.val = _
  omega

theorem v64 (h0 : ∀ i, x0 i = ((Z (i 0).val (i 1).val : ℝ) : EReal)) (h2 : ∀ i, x2 i = ((W (i 0).val (i 1).val (i 2).val : ℝ) : EReal))
    (h4 : ∀ i, x4 i = ((D (i 0).val (i 1).val : ℝ) : EReal)) (i : S2048.Idx) :
    val_main_v64 x0 x2 x4 i = ((Spec.dgAll Z D W (i 0).val : ℝ) : EReal) := by
  rw [val_main_v64_apply]
  have e : ∀ k : Fin 2048, val_main_v63 x0 x2 x4 (idx_main_v64 i k) = ((Spec.dvn (Spec.rows Z (k.val / 128)) (Spec.rows D (k.val / 128)) W
      (k.val % 128) (i 0).val * Spec.vh (Z k.val) (i 0).val : ℝ) : EReal) := fun k => v63 h0 h2 h4 _
  rw [Finset.sum_congr rfl fun k _ => e k, sumC, val_main_cst_13_apply, Ideal.ofBits_def, lit_zero, addE, zero_add]
  refine congrArg _ ?_
  refine (sum_rows fun r => Spec.dvn (Spec.rows Z (r / 128)) (Spec.rows D (r / 128)) W (r % 128) (i 0).val * Spec.vh (Z r) (i 0).val).trans ?_
  unfold Spec.dgAll Spec.dg
  refine Finset.sum_congr rfl fun c _ => Finset.sum_congr rfl fun t _ => ?_
  have := t.isLt
  rw [show (128 * c.val + t.val) / 128 = c.val by omega, show (128 * c.val + t.val) % 128 = t.val by omega]
  rfl

theorem v68 (h0 : ∀ i, x0 i = ((Z (i 0).val (i 1).val : ℝ) : EReal)) (h2 : ∀ i, x2 i = ((W (i 0).val (i 1).val (i 2).val : ℝ) : EReal))
    (h4 : ∀ i, x4 i = ((D (i 0).val (i 1).val : ℝ) : EReal)) (i : S2048.Idx) :
    val_main_v68 x0 x2 x4 i = ((Spec.dgAll Z D W (i 0).val : ℝ) : EReal) := by
  rw [val_main_v68_apply, Finset.univ_unique, Finset.sum_singleton, val_main_v65_apply, v64 h0 h2 h4, val_main_cst_14_apply,
    Ideal.ofBits_def, lit_zero, addE, zero_add]
  have a : (idx_main_v65 (idx_main_v68 i default) 0).val = (i 0).val := by
    show 0 * 2048 + (i 0).val = _; omega
  rw [a]

/-- dgv. -/
theorem v99 (h0 : ∀ i, x0 i = ((Z (i 0).val (i 1).val : ℝ) : EReal)) (h2 : ∀ i, x2 i = ((W (i 0).val (i 1).val (i 2).val : ℝ) : EReal))
    (h4 : ∀ i, x4 i = ((D (i 0).val (i 1).val : ℝ) : EReal)) (i : S1x2048.Idx) :
    val_main_v99 x0 x2 x4 i = ((Spec.dgAll Z D W (i 1).val : ℝ) : EReal) := by
  rw [val_main_v99_apply, v68 h0 h2 h4]
  have hi : (i 0).val < 1 := (i 0).isLt
  have a : (idx_main_v99 i 0).val = (i 1).val := by
    show (i 0).val * 2048 + (i 1).val = _; omega
  rw [a]

theorem v67 (h0 : ∀ i, x0 i = ((Z (i 0).val (i 1).val : ℝ) : EReal)) (h1 : ∀ i, x1 i = ((G (i 0).val : ℝ) : EReal))
    (h2 : ∀ i, x2 i = ((W (i 0).val (i 1).val (i 2).val : ℝ) : EReal))
    (h4 : ∀ i, x4 i = ((D (i 0).val (i 1).val : ℝ) : EReal)) (i : S2048x2048.Idx) :
    val_main_v67 x0 x1 x2 x4 i = ((Spec.dvh (Spec.rows Z ((i 0).val / 128)) (Spec.rows D ((i 0).val / 128)) G W ((i 0).val % 128) (i 1).val : ℝ) : EReal) := by
  rw [val_main_v67_apply, v62 h0 h2 h4, val_main_v66_apply, val_main_v37_apply, h1, mulC]
  rfl

/-- Row r of the step is row r % 128 of chunk r / 128. -/
theorem rows_div (Z : ℕ → ℕ → ℝ) (r : ℕ) : Spec.rows Z (r / 128) (r % 128) = Z r := by
  unfold Spec.rows; rw [show 128 * (r / 128) + r % 128 = r by omega]

/-- The norm's gradient: reverse mode through `v * rsqrt (mean v²)` is the projection formula. -/
theorem norm_grad (z d : ℕ → ℝ) (x : ℝ) (j : ℕ) :
    d j * Spec.rv z + Spec.v z j * ((∑ k : Fin 2048, Spec.v z k * d k) * (-1 / 2 * (Spec.rv z / Spec.ms z)) / 2048)
        + (∑ k : Fin 2048, Spec.v z k * d k) * (-1 / 2 * (Spec.rv z / Spec.ms z)) / 2048 * Spec.v z j
      = Spec.rv z * (d j - Spec.vh z j * ((∑ k : Fin 2048, d k * Spec.vh z k) / 2048)) := by
  have hs : Spec.rv z / Spec.ms z = Spec.rv z * Spec.rv z * Spec.rv z := by
    have hp := Spec.ms_pos z
    have h2 : Spec.rv z * Spec.rv z = (Spec.ms z)⁻¹ := by
      unfold Spec.rv; rw [← mul_inv, Real.mul_self_sqrt hp.le]
    rw [h2, div_eq_mul_inv, mul_comm]
  have ht : ∑ k : Fin 2048, d k * Spec.vh z k = (∑ k : Fin 2048, Spec.v z k * d k) * Spec.rv z := by
    rw [Finset.sum_mul]
    exact Finset.sum_congr rfl fun k _ => by unfold Spec.vh; ring
  rw [hs, ht]
  unfold Spec.vh
  ring

theorem v78 (h0 : ∀ i, x0 i = ((Z (i 0).val (i 1).val : ℝ) : EReal)) (h1 : ∀ i, x1 i = ((G (i 0).val : ℝ) : EReal))
    (h2 : ∀ i, x2 i = ((W (i 0).val (i 1).val (i 2).val : ℝ) : EReal))
    (h4 : ∀ i, x4 i = ((D (i 0).val (i 1).val : ℝ) : EReal)) (i : S2048x2048.Idx) :
    val_main_v78 x0 x1 x2 x4 i = (((∑ k : Fin 2048, Spec.v (Z (i 0).val) k
      * Spec.dvh (Spec.rows Z ((i 0).val / 128)) (Spec.rows D ((i 0).val / 128)) G W ((i 0).val % 128) k)
      * (-1 / 2 * (Spec.rv (Z (i 0).val) / Spec.ms (Z (i 0).val))) / 2048 : ℝ) : EReal) := by
  rw [val_main_v78_apply, val_main_v77_apply, Finset.univ_unique, Finset.sum_singleton, val_main_v76_apply, val_main_v74_apply,
    val_main_v71_apply, val_main_v70_apply, v34 h0, val_main_v75_apply, val_main_cst_16_apply, Ideal.ofBits_def, lit_2048,
    val_main_cst_15_apply, val_main_cst_17_apply, Ideal.ofBits_def, lit_zero]
  simp only [val_main_v69_apply, v23 h0, v67 h0 h1 h2 h4, mulC, sumC, addE, zero_add]
  rw [hostDivC _ (by norm_num), addE, zero_add]
  have e : (i 0).val * 1 + (default : Fin 1).val = (i 0).val := by show (i 0).val * 1 + 0 = _; omega
  rw [e]

theorem v82 (h0 : ∀ i, x0 i = ((Z (i 0).val (i 1).val : ℝ) : EReal)) (h1 : ∀ i, x1 i = ((G (i 0).val : ℝ) : EReal))
    (h2 : ∀ i, x2 i = ((W (i 0).val (i 1).val (i 2).val : ℝ) : EReal))
    (h4 : ∀ i, x4 i = ((D (i 0).val (i 1).val : ℝ) : EReal)) (i : S2048x2048.Idx) :
    val_main_v82 x0 x1 x2 x4 i
      = ((Spec.dv (Spec.rows Z ((i 0).val / 128)) (Spec.rows D ((i 0).val / 128)) G W ((i 0).val % 128) (i 1).val : ℝ) : EReal) := by
  rw [val_main_v82_apply, val_main_v81_apply, val_main_v80_apply, val_main_v79_apply, val_main_v73_apply, val_main_v72_apply,
    v78 h0 h1 h2 h4, v67 h0 h1 h2 h4, v23 h0, v31 h0]
  simp only [mulC, addC]
  refine congrArg _ ?_
  unfold Spec.dv
  rw [rows_div]
  exact norm_grad (Z (i 0).val) (Spec.dvh (Spec.rows Z ((i 0).val / 128)) (Spec.rows D ((i 0).val / 128)) G W ((i 0).val % 128)) 0 (i 1).val

theorem v83 (h0 : ∀ i, x0 i = ((Z (i 0).val (i 1).val : ℝ) : EReal)) (h1 : ∀ i, x1 i = ((G (i 0).val : ℝ) : EReal))
    (h2 : ∀ i, x2 i = ((W (i 0).val (i 1).val (i 2).val : ℝ) : EReal)) (h3 : ∀ i, x3 i = ((B (i 0).val (i 1).val : ℝ) : EReal))
    (h4 : ∀ i, x4 i = ((D (i 0).val (i 1).val : ℝ) : EReal)) (i : S2048x4096.Idx) :
    val_main_v83 x0 x1 x2 x3 x4 i
      = (((if (i 1).val < 2048 then D (i 0).val (i 1).val
            * Spec.sg (Spec.rows Z ((i 0).val / 128)) G W B ((i 0).val % 128) (i 1).val
          else Spec.dv (Spec.rows Z ((i 0).val / 128)) (Spec.rows D ((i 0).val / 128)) G W ((i 0).val % 128) ((i 1).val - 2048)) : ℝ) : EReal) := by
  have ha : ∀ j, val_main_v51 x0 x1 x2 x3 x4 j = ((D (j 0).val (j 1).val
      * Spec.sg (Spec.rows Z ((j 0).val / 128)) G W B ((j 0).val % 128) (j 1).val : ℝ) : EReal) := fun j => by
    rw [val_main_v51_apply, v48 h0 h1 h2 h3, h4, mulC]
  have hb := v82 h0 h1 h2 h4
  unfold val_main_v83
  generalize val_main_v51 x0 x1 x2 x3 x4 = y at ha ⊢
  generalize val_main_v82 x0 x1 x2 x4 = y' at hb ⊢
  have hi : (i 1).val < 4096 := (i 1).isLt
  by_cases h : (i 1).val < 2048
  · rw [if_pos h, concatenate_pair_apply_left (1 : Fin 2) y y' concatenates_S2048x2048_S2048x2048_S2048x4096_d1 i rfl
      (ix2 ⟨(i 0).val, (i 0).isLt⟩ ⟨(i 1).val, h⟩) (fun b => match b with | ⟨0, _⟩ => rfl | ⟨1, _⟩ => rfl), ha]
  · rw [if_neg h, concatenate_pair_apply_right (1 : Fin 2) y y' concatenates_S2048x2048_S2048x2048_S2048x4096_d1 i rfl rfl
      (ix2 ⟨(i 0).val, (i 0).isLt⟩ ⟨(i 1).val - 2048, by omega⟩)
      (fun b hb => match b, hb with | ⟨0, _⟩, _ => rfl | ⟨1, _⟩, h => absurd rfl h) (by show (i 1).val - 2048 + 2048 = _; omega), hb]

/-- dzp. -/
theorem v96 (h0 : ∀ i, x0 i = ((Z (i 0).val (i 1).val : ℝ) : EReal)) (h1 : ∀ i, x1 i = ((G (i 0).val : ℝ) : EReal))
    (h2 : ∀ i, x2 i = ((W (i 0).val (i 1).val (i 2).val : ℝ) : EReal)) (h3 : ∀ i, x3 i = ((B (i 0).val (i 1).val : ℝ) : EReal))
    (h4 : ∀ i, x4 i = ((D (i 0).val (i 1).val : ℝ) : EReal)) (i : S2048x4096.Idx) :
    val_main_v96 x0 x1 x2 x3 x4 i = ((Spec.dzAll Z D G W B (i 0).val (i 1).val : ℝ) : EReal) := by
  simp only [val_main_v96_apply, val_main_v95_apply, val_main_v94_apply, val_main_v93_apply, val_main_v92_apply, val_main_v91_apply,
    val_main_v90_apply, val_main_v89_apply, val_main_v88_apply, val_main_v87_apply, val_main_v86_apply, val_main_v85_apply,
    val_main_v84_apply, val_main_cst_18_apply, val_main_cst_19_apply, v83 h0 h1 h2 h3 h4, v20 h0, v16 h0, v5 h0, v0, h0, Ideal.ofBits_def,
    lit_half, lit_kC, mulC, addC]
  refine congrArg (fun r : ℝ => (r : EReal)) ?_
  unfold Spec.dzAll Spec.dz Spec.dzU Spec.dzV
  rw [rows_div Z, rows_div D]
  have hi : (i 1).val < 4096 := (i 1).isLt
  by_cases h : (i 1).val < 2048
  · simp only [if_pos h]; unfold Spec.dact; ring
  · simp only [if_neg h]
    rw [show 2048 + ((i 1).val - 2048) = (i 1).val by omega]
    unfold Spec.dact; ring

end Cert.Ref

end
-- ==== Proof.Gmlp.lean ====
/- The claims about the mixing block's backward call: its frames, its named constants, and the equality of its four
   results with the reference's. -/
module

public import proofs.«01_k».proof.Defs
public import proofs.«01_k».proof.Proof.Accum
public import proofs.«01_k».proof.Proof.RefOut
public import proofs.«01_k».proof.Proof.Finite
public import proofs.«01_k».proof.Proof.Gen.Kernel.Frame
public import proofs.«01_k».proof.Proof.Gen.ReferenceIdeal.Run
public import proofs.«01_k».proof.Proof.Gen.ReferenceIdeal.Read
public import proofs.«01_k».proof.Proof.Gen.Pre_finite

@[expose] public section

noncomputable section

namespace Cert.Gmlp

open Idealize.ShloMosaic Idealize.ShloMosaic.TcCoe Idealize.SL.Sem Cert.Mat Cert.Finite

theorem frame_p : Cert.quiescent_Kernel := fun m ρ _ => Cert.Kernel.Gen.frame m ρ
theorem frame_pi : Cert.quiescent_KernelIdeal := fun m ρ _ => Cert.KernelIdeal.Gen.frame m ρ
theorem frame_pi_pre : Cert.quiescent_KernelIdeal_pre_finite := fun m ρ _ => Cert.KernelIdeal.Gen.frame m ρ

theorem frame_ri : Cert.quiescent_ReferenceIdeal := fun m ρ _ =>
  (θ_run Cert.ReferenceIdeal.defs _ _).mono
    (fun r h => ⟨fun c => (h c).2.2.2.2, sem_eq_zero_of_no_sems (by decide) r.2⟩) (Cert.ReferenceIdeal.Value.run (F := Ideal) m ρ)
theorem frame_ri_pre : Cert.quiescent_ReferenceIdeal_pre_finite := fun m ρ _ => frame_ri m ρ trivial

theorem preserves : Cert.preserves_Kernel_KernelIdeal :=
  ⟨IdealRules.named_const.statement Cert.KernelIdeal.κ "cube" .f32 0x3D372713#32 _ rfl,
    IdealRules.named_const.statement Cert.KernelIdeal.κ "cube3" .f32 0x3E095D4F#32 _ rfl⟩

theorem algebraic : Cert.algebraic_KernelIdeal_ReferenceIdeal_pre_finite := fun m ρ m' ρ' hpre hargs => by
  have f0 := fun c => is2_ent (a := 2048) (b := 4096) fun i => real_of_lt _ (congrFun (hpre c).1 i)
  have f1 := fun c => is1_ent (a := 2048) fun i => real_of_lt _ (congrFun (hpre c).2.1 i)
  have f2 := fun c => is3_ent (a := 8) (b := 128) (c := 128) fun i => real_of_lt _ (congrFun (hpre c).2.2.1 i)
  have f3 := fun c => is2_ent (a := 8) (b := 128) fun i => real_of_lt _ (congrFun (hpre c).2.2.2.1 i)
  have f4 := fun c => is2_ent (a := 2048) (b := 2048) fun i => real_of_lt _ (congrFun (hpre c).2.2.2.2 i)
  refine ⟨fun c => (Cert.KernelIdeal.Gen.dats m 0 c).arrAt 5 Cert.KernelIdeal.cfg0.N,
    fun c => (Cert.KernelIdeal.Gen.dats m 0 c).arrAt 6 Cert.KernelIdeal.cfg0.N,
    fun c => (Cert.KernelIdeal.Gen.dats m 0 c).arrAt 7 Cert.KernelIdeal.cfg0.N,
    fun c => (Cert.KernelIdeal.Gen.dats m 0 c).arrAt 8 Cert.KernelIdeal.cfg0.N,
    Cert.KernelIdeal.Value.run_blocks m ρ, ?_⟩
  refine (θ_run Cert.ReferenceIdeal.defs _ _).mono (fun r h c => ?_) (Cert.ReferenceIdeal.Value.run (F := Ideal) m' ρ')
  obtain ⟨r0, r1, r2, r3, rest⟩ := h c
  obtain ⟨a0, a1, a2, a3, a4⟩ := hargs c
  have g0 := f0 c; have g1 := f1 c; have g2 := f2 c; have g3 := f3 c; have g4 := f4 c
  have k5 := Cert.Accum.final5 m c g0 g1 g2 g3 g4
  have k6 := Cert.Accum.final6 m c g0 g1 g2 g3 g4
  have k7 := Cert.Accum.final7 m c g0 g1 g2 g3 g4
  have k8 := Cert.Accum.final8 m c g0 g1 g2 g3 g4
  refine ⟨r0.trans ?_, r1.trans ?_, r2.trans ?_, r3.trans ?_, rest⟩
  · rw [Cert.ReferenceIdeal.Read.val_main_v96_eq, a0, a1, a2, a3, a4]
    exact funext fun i => (Cert.Ref.v96 g0 g1 g2 g3 g4 i).trans (k5 i).symm
  · rw [Cert.ReferenceIdeal.Read.val_main_v61_eq, a0, a1, a4]
    exact funext fun i => (Cert.Ref.v61 g0 g1 g4 i).trans (k6 i).symm
  · refine (Cert.ReferenceIdeal.Read.val_main_v98_eq _ _).trans ?_
    rw [a0, a4]
    exact funext fun i => (Cert.Ref.v98 g0 g4 i).trans (k7 i).symm
  · rw [Cert.ReferenceIdeal.Read.val_main_v99_eq, a0, a2, a4]
    exact funext fun i => (Cert.Ref.v99 g0 g2 g4 i).trans (k8 i).symm

end Cert.Gmlp

end
-- ==== Proof.Gathered.lean ====
/- The gathered weights: each device's columns of the gate and of the up projection, transposed, one above the other. -/
module

public import proofs.«01_k».proof.Proof.Prod

@[expose] public section

noncomputable section

namespace Cert.Prod

open Idealize.ShloMosaic Idealize.ShloMosaic.ValueIdx

/-- Device `e`'s row `f` of the gathered weights: column `e * 704 + f` of `G`, or of `U` from row 704 on. -/
def gath (G U : ℕ → ℕ → EReal) (e f n : ℕ) : EReal := if f < 704 then G n (e * 704 + f) else U n (e * 704 + (f - 704))

/-- A matrix transposed and cut into eight. -/
theorem cut_at {g : FVec Ideal ⟨2, ![2048, 5632]⟩ .f32} {G : ℕ → ℕ → EReal} (hg : At2 g G) {h h'} :
    At3 (shapeCast ⟨3, ![8, 704, 2048]⟩ (transpose ⟨2, ![5632, 2048]⟩ [1, 0] g h) h') (fun e f n => G n (e * 704 + f)) := fun i => by
  have h0 : (i 0).val < 8 := (i 0).isLt
  have h1 : (i 1).val < 704 := (i 1).isLt
  have hr : (i 0).val * 704 + (i 1).val < 5632 := by omega
  refine (shapeCast_apply (transpose ⟨2, ![5632, 2048]⟩ [1, 0] g h) h' i (ValueIdx.ix2 ⟨(i 0).val * 704 + (i 1).val, hr⟩ (i 2)) (by
    rw [Shape.rowMajor_val_three, Shape.rowMajor_val_two]; rfl)).trans ?_
  exact (transpose_apply [1, 0] g h _ (ValueIdx.ix2 (i 2) ⟨(i 0).val * 704 + (i 1).val, hr⟩) (fun b => by fin_cases b <;> rfl)).trans (hg _)

theorem gathered_at {g u : FVec Ideal ⟨2, ![2048, 5632]⟩ .f32} {G U : ℕ → ℕ → EReal} (hg : At2 g G) (hu : At2 u U) {h1 h2 h3 h4 h5 h6} :
    At3 (truncf (F := Ideal) .bf16 (concatenate ⟨3, ![8, 1408, 2048]⟩ 1
      [⟨⟨3, ![8, 704, 2048]⟩, shapeCast ⟨3, ![8, 704, 2048]⟩ (transpose ⟨2, ![5632, 2048]⟩ [1, 0] g h1) h2⟩,
       ⟨⟨3, ![8, 704, 2048]⟩, shapeCast ⟨3, ![8, 704, 2048]⟩ (transpose ⟨2, ![5632, 2048]⟩ [1, 0] u h3) h4⟩] h5 :
        FVec Ideal ⟨3, ![8, 1408, 2048]⟩ .f32) h6) (gath G U) := fun i => by
  have hi : (i 1).val < 1408 := (i 1).isLt
  unfold gath
  show concatenate _ _ _ h5 i = _
  by_cases hc : (i 1).val < 704
  · rw [if_pos hc, concatenate_pair_apply_left _ _ _ h5 i rfl (ValueIdx.ix3 (i 0) ⟨(i 1).val, hc⟩ (i 2)) (fun b => by fin_cases b <;> rfl)]
    exact cut_at hg _
  · have hc' : (i 1).val - 704 < 704 := by omega
    rw [if_neg hc, concatenate_pair_apply_right _ _ _ h5 i rfl rfl (ValueIdx.ix3 (i 0) ⟨(i 1).val - 704, hc'⟩ (i 2))
      (fun b hb => by fin_cases b <;> first | rfl | exact absurd rfl hb) (by show (i 1).val - 704 + 704 = (i 1).val; omega)]
    exact cut_at hu _

end Cert.Prod

end
-- ==== Proof.FfnBody.lean ====
/- The feed-forward layer's three kernels: what one grid point of each leaves in its blocks. -/
module

public import proofs.«01_k».proof.Proof.Windows
public import proofs.«01_k».proof.Proof.Gathered
public import proofs.«01_k».proof.Proof.Gen.FfnIdeal.Frame

@[expose] public section

set_option maxRecDepth 16384

noncomputable section

namespace Cert.FfnPair

open Cert.FfnIdeal Cert.FfnIdeal.Gen Idealize.ShloMosaic Idealize.ShloMosaic.TcCoe Idealize.ShloMosaic.Tactic Cert.Prod

/-! ## The functions the kernels apply -/

/-- Rows of `X` against rows of `W`. -/
def nt (X W : ℕ → ℕ → EReal) (i j : ℕ) : EReal := ∑ k : Fin 2048, X i k.val * W j k.val
/-- `a * sigmoid a`. -/
def silu (a : EReal) : EReal := a * Ideal.logistic a
/-- The derivative of `silu`, as the kernel writes it. -/
def dsilu (a : EReal) : EReal := Ideal.logistic a * (1 + a * (1 - Ideal.logistic a))
/-- What the forward kernel keeps of the gate's `a` and the up projection's `b`: the layer's derivatives by the two. -/
def kept (a b : EReal) : ℕ → EReal := pick (b * dsilu a) (silu a)

theorem one_eq : Ideal.ofBits .f32 0x3F800000#32 = (1 : EReal) := Cert.Lift.lit_one

/-! ## The forward kernel of the gate and the up projection -/

section Up
variable {x0 : Vec Ideal S1024x2048 .bf16} {x1 x2 : Vec Ideal S1x704x2048 .bf16} {X : ℕ → ℕ → EReal} {P Q : ℕ → ℕ → ℕ → EReal}
  (h0 : At2 x0 X) (h1 : At3 x1 P) (h2 : At3 x2 Q)

include h0 h1 in
theorem gate : At2 (a := 1024) (b := 704) (k0_pay2 (F := Ideal) (View.ld x0 r0_0) (View.ld x1 r0_1)) (nt X (P 0)) :=
  mulNT (M := 1024) (K := 2048) (N := 704) (φ₁ := .bf16) (φ₂ := .bf16) none (at2_self (φ := .bf16) (ld2 h0)) (ld3 h1)
include h0 h2 in
theorem up : At2 (a := 1024) (b := 704) (k0_pay3 (F := Ideal) (View.ld x0 r0_0) (View.ld x2 r0_1)) (nt X (Q 0)) :=
  mulNT (M := 1024) (K := 2048) (N := 704) (φ₁ := .bf16) (φ₂ := .bf16) none (at2_self (φ := .bf16) (ld2 h0)) (ld3 h2)

include h0 h1 h2 in
/-- The derivatives a point keeps. -/
theorem up_kept : At4 (a := 2) (b := 1) (c := 1024) (d := 704) (out0_3 x0 x1 x2) (fun w _ s f => kept (nt X (P 0) s f) (nt X (Q 0) s f) w) := fun y => by
  unfold out0_3
  refine View.canon_apply_of_pieces (Val := Elt Ideal) (fun y => kept (nt X (P 0) (y 2).val (y 3).val) (nt X (Q 0) (y 2).val (y 3).val) (y 0).val) _ ?_ _ (cover0_3 _ _ y)
  simp only [List.forall_mem_cons]
  have ha := gate h0 h1
  have hb := up h0 h2
  refine ⟨put4 (φ := .bf16) (p := 1) (q := 0) (f := fun w _ s f => kept (nt X (P 0) s f) (nt X (Q 0) s f) w) ?_,
    put4 (φ := .bf16) (p := 0) (q := 0) (f := fun w _ s f => kept (nt X (P 0) s f) (nt X (Q 0) s f) w) ?_, by simp⟩
  · refine at4_of2 (φ := .bf16) fun i => ?_
    show k0_pay2 (F := Ideal) (View.ld x0 r0_0) (View.ld x1 r0_1) i * Ideal.logistic (k0_pay2 (F := Ideal) (View.ld x0 r0_0) (View.ld x1 r0_1) i) = _
    rw [ha]
    rfl
  · refine at4_of2 (φ := .bf16) fun i => ?_
    show k0_pay3 (F := Ideal) (View.ld x0 r0_0) (View.ld x2 r0_1) i * (Ideal.logistic (k0_pay2 (F := Ideal) (View.ld x0 r0_0) (View.ld x1 r0_1) i)
      * (Ideal.ofBits .f32 0x3F800000#32 + k0_pay2 (F := Ideal) (View.ld x0 r0_0) (View.ld x1 r0_1) i
        * (Ideal.ofBits .f32 0x3F800000#32 - Ideal.logistic (k0_pay2 (F := Ideal) (View.ld x0 r0_0) (View.ld x1 r0_1) i)))) = _
    rw [ha, hb, one_eq]
    rfl

include h0 h1 h2 in
/-- The hidden layer's block. -/
theorem up_hid : At3 (a := 1) (b := 1024) (c := 704) (out0_4 x0 x1 x2) (fun _ s f => silu (nt X (P 0) s f) * nt X (Q 0) s f) := fun y => by
  unfold out0_4
  refine View.canon_apply_of_pieces (Val := Elt Ideal) (fun y => silu (nt X (P 0) (y 1).val (y 2).val) * nt X (Q 0) (y 1).val (y 2).val) _ ?_ _ (cover0_4 _ y)
  simp only [List.forall_mem_cons]
  have ha := gate h0 h1
  have hb := up h0 h2
  refine ⟨put3 (φ := .bf16) (p := 0) (f := fun _ s f => silu (nt X (P 0) s f) * nt X (Q 0) s f) ?_, by simp⟩
  refine at3_of2 (φ := .bf16) fun i => ?_
  show k0_pay2 (F := Ideal) (View.ld x0 r0_0) (View.ld x1 r0_1) i * Ideal.logistic (k0_pay2 (F := Ideal) (View.ld x0 r0_0) (View.ld x1 r0_1) i)
    * k0_pay3 (F := Ideal) (View.ld x0 r0_0) (View.ld x2 r0_1) i = _
  rw [ha, hb]
  rfl
end Up

/-! ## The forward kernel of the down projection -/

/-- Eight products of matrices, added, and `R`. -/
def eight (H W : ℕ → ℕ → ℕ → EReal) (R : ℕ → ℕ → EReal) (i j : ℕ) : EReal := (∑ e : Fin 8, ∑ f : Fin 704, H e.val i f.val * W e.val f.val j) + R i j

section Down
variable {x0 : Vec Ideal S8x512x704 .bf16} {x1 : Vec Ideal S8x704x1024 .bf16} {x2 : Vec Ideal S512x1024 .f32} {H W : ℕ → ℕ → ℕ → EReal} {R : ℕ → ℕ → EReal}
  (h0 : At3 x0 H) (h1 : At3 x1 W) (h2 : At2 x2 R)

include h0 h1 in
theorem device {p : ℕ} {i j h h'} : At2 (a := 512) (b := 1024) (FloatOps.matmul (F := Ideal) (φ₁ := .bf16) (φ₂ := .bf16) (DotDims.plain 512 704 1024) none
    (shapeCast (α := EReal) S512x704 (View.ld x0 (Rect.unit (s := S8x512x704) ![p, 0, 0] S1x512x704.size i)) h)
    (shapeCast (α := EReal) S704x1024 (View.ld x1 (Rect.unit (s := S8x704x1024) ![p, 0, 0] S1x704x1024.size j)) h')
    (constant S512x1024 .f32 0x00000000#32)) (fun i j => ∑ f : Fin 704, H p i f.val * W p f.val j) :=
  mulNN (M := 512) (K := 704) (N := 1024) (φ₁ := .bf16) (φ₂ := .bf16) none (ld3 h0) (ld3 h1)

include h0 h1 h2 in
theorem down_out : At2 (a := 512) (b := 1024) (out1_3 x0 x1 x2) (eight H W R) := fun y => by
  unfold out1_3
  refine View.canon_apply_of_pieces (Val := Elt Ideal) (fun y => eight H W R (y 0).val (y 1).val) _ ?_ _ (cover1_3 _ y)
  simp only [List.forall_mem_cons]
  refine ⟨put2 (φ := .f32) (f := eight H W R) ?_, by simp⟩
  refine at2_congr (at2_add (φ := .f32) (at2_add (φ := .f32) (at2_add (φ := .f32) (at2_add (φ := .f32) (at2_add (φ := .f32) (at2_add (φ := .f32) (at2_add (φ := .f32) (at2_add (φ := .f32)
    (device (p := 0) h0 h1) (device (p := 1) h0 h1)) (device (p := 2) h0 h1)) (device (p := 3) h0 h1)) (device (p := 4) h0 h1)) (device (p := 5) h0 h1)) (device (p := 6) h0 h1)) (device (p := 7) h0 h1)) (ld2w h2)) fun i j _ _ => ?_
  unfold eight
  rw [Fin.sum_univ_eight]
  rfl
end Down

/-! ## The backward kernel of the down projection -/

section Dhid
variable {x0 : Vec Ideal S1024x2048 .bf16} {x1 : Vec Ideal S1x704x2048 .bf16} {x2 : Vec Ideal S2x1x1024x704 .bf16}
  {X : ℕ → ℕ → EReal} {P : ℕ → ℕ → ℕ → EReal} {K : ℕ → ℕ → ℕ → ℕ → EReal}
  (h0 : At2 x0 X) (h1 : At3 x1 P) (h2 : At4 x2 K)

include h0 h1 h2 in
theorem dhid_out : At4 (a := 2) (b := 1) (c := 1024) (d := 704) (out2_3 x0 x1 x2) (fun w _ s f => nt X (P 0) s f * K w 0 s f) := fun y => by
  unfold out2_3
  refine View.canon_apply_of_pieces (Val := Elt Ideal) (fun y => nt X (P 0) (y 2).val (y 3).val * K (y 0).val 0 (y 2).val (y 3).val) _ ?_ _ (cover2_3 _ _ y)
  simp only [List.forall_mem_cons]
  have hp : At2 (a := 1024) (b := 704) (k2_pay1 (F := Ideal) (View.ld x0 r2_0) (View.ld x1 r2_1)) (nt X (P 0)) :=
    mulNT (M := 1024) (K := 2048) (N := 704) (φ₁ := .bf16) (φ₂ := .bf16) none (at2_self (φ := .bf16) (ld2 h0)) (ld3 h1)
  exact ⟨put4 (φ := .bf16) (p := 1) (q := 0) (f := fun w _ s f => nt X (P 0) s f * K w 0 s f) (at4_of2 (φ := .bf16) (at2_mul (φ := .f32) hp (ld4 h2))),
    put4 (φ := .bf16) (p := 0) (q := 0) (f := fun w _ s f => nt X (P 0) s f * K w 0 s f) (at4_of2 (φ := .bf16) (at2_mul (φ := .f32) hp (ld4 h2))), by simp⟩
end Dhid

end Cert.FfnPair

end
-- ==== Proof.FfnRun.lean ====
/- The feed-forward layer's three kernels: what all their grid points leave in the arrays, and what a run of the program
   leaves in its two results. -/
module

public import proofs.«01_k».proof.Proof.FfnBody

@[expose] public section

set_option maxRecDepth 16384

noncomputable section

namespace Cert.FfnPair

open Cert.FfnIdeal Cert.FfnIdeal.Gen Idealize.ShloMosaic Idealize.ShloMosaic.TcCoe Idealize.ShloMosaic.Tactic Idealize.SL Idealize.SL.Sem Cert.Prod

variable {X D W R : ℕ → ℕ → EReal} {Z Wd Hid : ℕ → ℕ → ℕ → EReal} {K : ℕ → ℕ → ℕ → ℕ → EReal}

/-! ## The forward kernel of the gate and the up projection -/

/-- The gate's `a` of device `e`'s columns, and the up projection's `b`. -/
def gateOf (X : ℕ → ℕ → EReal) (Z : ℕ → ℕ → ℕ → EReal) (e s f : ℕ) : EReal := nt X (Z e) s f
def upOf (X : ℕ → ℕ → EReal) (Z : ℕ → ℕ → ℕ → EReal) (e s f : ℕ) : EReal := nt X (fun f => Z e (704 + f)) s f

section Region0
variable (V : (c : Dev nD) → (b : Ref sig .tc) → Buf (Elt Ideal) ((c : Thread nD τ).loc b)) (c : Dev nD)
  (hx : At2 (V c main_v0 : S2048x2048.Idx → EReal) X) (hz : At3 (V c main_v7 : S8x1408x2048.Idx → EReal) Z)

theorem index0_0 : ∀ t : Fin cfg0.N, win0_0.index t 0 = t.val / 8 ∧ win0_0.index t 1 = 0 :=
  (by decide +kernel : ∀ t : Fin grid0.N, win0_0.index t 0 = t.val / 8 ∧ win0_0.index t 1 = 0)
theorem index0_1 : ∀ t : Fin cfg0.N, win0_1.index t 0 = t.val % 8 ∧ win0_1.index t 1 = 0 ∧ win0_1.index t 2 = 0 :=
  (by decide +kernel : ∀ t : Fin grid0.N, win0_1.index t 0 = t.val % 8 ∧ win0_1.index t 1 = 0 ∧ win0_1.index t 2 = 0)
theorem index0_2 : ∀ t : Fin cfg0.N, win0_2.index t 0 = t.val % 8 ∧ win0_2.index t 1 = 1 ∧ win0_2.index t 2 = 0 :=
  (by decide +kernel : ∀ t : Fin grid0.N, win0_2.index t 0 = t.val % 8 ∧ win0_2.index t 1 = 1 ∧ win0_2.index t 2 = 0)
theorem index0_3 : ∀ t : Fin cfg0.N, win0_3.index t 0 = 0 ∧ win0_3.index t 1 = t.val % 8 ∧ win0_3.index t 2 = t.val / 8 ∧ win0_3.index t 3 = 0 :=
  (by decide +kernel : ∀ t : Fin grid0.N, win0_3.index t 0 = 0 ∧ win0_3.index t 1 = t.val % 8 ∧ win0_3.index t 2 = t.val / 8 ∧ win0_3.index t 3 = 0)
theorem index0_4 : ∀ t : Fin cfg0.N, win0_4.index t 0 = t.val % 8 ∧ win0_4.index t 1 = t.val / 8 ∧ win0_4.index t 2 = 0 :=
  (by decide +kernel : ∀ t : Fin grid0.N, win0_4.index t 0 = t.val % 8 ∧ win0_4.index t 1 = t.val / 8 ∧ win0_4.index t 2 = 0)

include hx in
theorem in0_0 (t : Fin cfg0.N) : At2 (a := 1024) (b := 2048) (iblk0 V c 0 t) (fun s k => X (t.val / 8 * 1024 + s) k) := fun y => by
  refine (hx ((win0_0.rect t).emb y)).trans ?_
  obtain ⟨i0, i1⟩ := index0_0 t
  have e0 := win0_0.rect_emb_val t y 0
  have e1 := win0_0.rect_emb_val_of_index_zero t 1 i1 y
  rw [i0] at e0
  replace e0 : ((win0_0.rect t).emb y 0).val = t.val / 8 * 1024 + (y 0).val := e0
  rw [e0, e1]

include hz in
theorem in0_1 (t : Fin cfg0.N) : At3 (a := 1) (b := 704) (c := 2048) (iblk0 V c 1 t) (fun z f k => Z (t.val % 8 + z) f k) := fun y => by
  refine (hz ((win0_1.rect t).emb y)).trans ?_
  obtain ⟨i0, i1, i2⟩ := index0_1 t
  have e0 := win0_1.rect_emb_val t y 0
  have e1 := win0_1.rect_emb_val_of_index_zero t 1 i1 y
  have e2 := win0_1.rect_emb_val_of_index_zero t 2 i2 y
  rw [i0] at e0
  replace e0 : ((win0_1.rect t).emb y 0).val = t.val % 8 + (y 0).val := e0.trans (congrArg (· + (y 0).val) (Nat.mul_one _))
  rw [e0, e1, e2]

include hz in
theorem in0_2 (t : Fin cfg0.N) : At3 (a := 1) (b := 704) (c := 2048) (iblk0 V c 2 t) (fun z f k => Z (t.val % 8 + z) (704 + f) k) := fun y => by
  refine (hz ((win0_2.rect t).emb y)).trans ?_
  obtain ⟨i0, i1, i2⟩ := index0_2 t
  have e0 := win0_2.rect_emb_val t y 0
  have e1 := win0_2.rect_emb_val t y 1
  have e2 := win0_2.rect_emb_val_of_index_zero t 2 i2 y
  rw [i0] at e0
  rw [i1] at e1
  replace e0 : ((win0_2.rect t).emb y 0).val = t.val % 8 + (y 0).val := e0.trans (congrArg (· + (y 0).val) (Nat.mul_one _))
  replace e1 : ((win0_2.rect t).emb y 1).val = 704 + (y 1).val := e1.trans (congrArg (· + (y 1).val) (Nat.one_mul _))
  rw [e0, e1, e2]

include hx hz in
theorem result0_3 (i : S2x8x2048x704.Idx) : ((dat0 V c).arrAt 3 cfg0.N : S2x8x2048x704.Idx → EReal) i
    = kept (gateOf X Z (i 1).val (i 2).val (i 3).val) (upOf X Z (i 1).val (i 2).val (i 3).val) (i 0).val := by
  refine (dat0 V c).arrAt_forall_of_covers 3 (fun (i : S2x8x2048x704.Idx) (v : EReal) => v = kept (gateOf X Z (i 1).val (i 2).val (i 3).val) (upOf X Z (i 1).val (i 2).val (i 3).val) (i 0).val)
    (by decide +kernel) (fun t hf (y : S2x1x1024x704.Idx) => ?_) i
  show (dat0 V c).after 3 t y = _
  rw [after0_3]
  refine (up_kept (in0_0 V c hx t) (in0_1 V c hz t) (in0_2 V c hz t) y).trans ?_
  obtain ⟨i0, i1, i2, i3⟩ := index0_3 t
  have e0 := win0_3.rect_emb_val_of_index_zero t 0 i0 y
  have e1 := win0_3.rect_emb_val t y 1
  have e2 := win0_3.rect_emb_val t y 2
  have e3 := win0_3.rect_emb_val_of_index_zero t 3 i3 y
  rw [i1] at e1
  rw [i2] at e2
  have hy1 := (y 1).isLt; change (y 1).val < 1 at hy1
  have e0' : (((cfg0.win 3).blk t).view.emb y 0).val = (y 0).val := e0
  have e1' : (((cfg0.win 3).blk t).view.emb y 1).val = t.val % 8 := (e1.trans (congrArg (· + (y 1).val) (Nat.mul_one _))).trans (by omega)
  have e2' : (((cfg0.win 3).blk t).view.emb y 2).val = t.val / 8 * 1024 + (y 2).val := e2
  have e3' : (((cfg0.win 3).blk t).view.emb y 3).val = (y 3).val := e3
  rw [e0', e1', e2', e3']
  rfl

include hx hz in
theorem result0_4 (i : S8x2048x704.Idx) : ((dat0 V c).arrAt 4 cfg0.N : S8x2048x704.Idx → EReal) i
    = silu (gateOf X Z (i 0).val (i 1).val (i 2).val) * upOf X Z (i 0).val (i 1).val (i 2).val := by
  refine (dat0 V c).arrAt_forall_of_covers 4 (fun (i : S8x2048x704.Idx) (v : EReal) => v = silu (gateOf X Z (i 0).val (i 1).val (i 2).val) * upOf X Z (i 0).val (i 1).val (i 2).val)
    (by decide +kernel) (fun t hf (y : S1x1024x704.Idx) => ?_) i
  show (dat0 V c).after 4 t y = _
  rw [after0_4]
  refine (up_hid (in0_0 V c hx t) (in0_1 V c hz t) (in0_2 V c hz t) y).trans ?_
  obtain ⟨i0, i1, i2⟩ := index0_4 t
  have e0 := win0_4.rect_emb_val t y 0
  have e1 := win0_4.rect_emb_val t y 1
  have e2 := win0_4.rect_emb_val_of_index_zero t 2 i2 y
  rw [i0] at e0
  rw [i1] at e1
  have hy0 := (y 0).isLt; change (y 0).val < 1 at hy0
  have e0' : (((cfg0.win 4).blk t).view.emb y 0).val = t.val % 8 := (e0.trans (congrArg (· + (y 0).val) (Nat.mul_one _))).trans (by omega)
  have e1' : (((cfg0.win 4).blk t).view.emb y 1).val = t.val / 8 * 1024 + (y 1).val := e1
  have e2' : (((cfg0.win 4).blk t).view.emb y 2).val = (y 2).val := e2
  rw [e0', e1', e2']
  rfl
end Region0

/-! ## The forward kernel of the down projection -/

section Region1
variable (V : (c : Dev nD) → (b : Ref sig .tc) → Buf (Elt Ideal) ((c : Thread nD τ).loc b)) (c : Dev nD)
  (hh : At3 (V c main_v10_1 : S8x2048x704.Idx → EReal) Hid) (hw : At3 (V c main_v9 : S8x704x2048.Idx → EReal) Wd)
  (hr : At2 (V c main_arg4 : S2048x2048.Idx → EReal) R)

theorem index1_0 : ∀ t : Fin cfg1.N, win1_0.index t 0 = 0 ∧ win1_0.index t 1 = t.val / 2 ∧ win1_0.index t 2 = 0 :=
  (by decide +kernel : ∀ t : Fin grid1.N, win1_0.index t 0 = 0 ∧ win1_0.index t 1 = t.val / 2 ∧ win1_0.index t 2 = 0)
theorem index1_1 : ∀ t : Fin cfg1.N, win1_1.index t 0 = 0 ∧ win1_1.index t 1 = 0 ∧ win1_1.index t 2 = t.val % 2 :=
  (by decide +kernel : ∀ t : Fin grid1.N, win1_1.index t 0 = 0 ∧ win1_1.index t 1 = 0 ∧ win1_1.index t 2 = t.val % 2)
theorem index1_2 : ∀ t : Fin cfg1.N, win1_2.index t 0 = t.val / 2 ∧ win1_2.index t 1 = t.val % 2 :=
  (by decide +kernel : ∀ t : Fin grid1.N, win1_2.index t 0 = t.val / 2 ∧ win1_2.index t 1 = t.val % 2)
theorem index1_3 : ∀ t : Fin cfg1.N, win1_3.index t 0 = t.val / 2 ∧ win1_3.index t 1 = t.val % 2 :=
  (by decide +kernel : ∀ t : Fin grid1.N, win1_3.index t 0 = t.val / 2 ∧ win1_3.index t 1 = t.val % 2)

include hh in
theorem in1_0 (t : Fin cfg1.N) : At3 (a := 8) (b := 512) (c := 704) (iblk1 V c 0 t) (fun e s f => Hid e (t.val / 2 * 512 + s) f) := fun y => by
  refine (hh ((win1_0.rect t).emb y)).trans ?_
  obtain ⟨i0, i1, i2⟩ := index1_0 t
  have e0 := win1_0.rect_emb_val_of_index_zero t 0 i0 y
  have e1 := win1_0.rect_emb_val t y 1
  have e2 := win1_0.rect_emb_val_of_index_zero t 2 i2 y
  rw [i1] at e1
  replace e1 : ((win1_0.rect t).emb y 1).val = t.val / 2 * 512 + (y 1).val := e1
  rw [e0, e1, e2]

include hw in
theorem in1_1 (t : Fin cfg1.N) : At3 (a := 8) (b := 704) (c := 1024) (iblk1 V c 1 t) (fun e f j => Wd e f (t.val % 2 * 1024 + j)) := fun y => by
  refine (hw ((win1_1.rect t).emb y)).trans ?_
  obtain ⟨i0, i1, i2⟩ := index1_1 t
  have e0 := win1_1.rect_emb_val_of_index_zero t 0 i0 y
  have e1 := win1_1.rect_emb_val_of_index_zero t 1 i1 y
  have e2 := win1_1.rect_emb_val t y 2
  rw [i2] at e2
  replace e2 : ((win1_1.rect t).emb y 2).val = t.val % 2 * 1024 + (y 2).val := e2
  rw [e0, e1, e2]

include hr in
theorem in1_2 (t : Fin cfg1.N) : At2 (a := 512) (b := 1024) (iblk1 V c 2 t) (fun s j => R (t.val / 2 * 512 + s) (t.val % 2 * 1024 + j)) := fun y => by
  refine (hr ((win1_2.rect t).emb y)).trans ?_
  obtain ⟨i0, i1⟩ := index1_2 t
  have e0 := win1_2.rect_emb_val t y 0
  have e1 := win1_2.rect_emb_val t y 1
  rw [i0] at e0
  rw [i1] at e1
  replace e0 : ((win1_2.rect t).emb y 0).val = t.val / 2 * 512 + (y 0).val := e0
  replace e1 : ((win1_2.rect t).emb y 1).val = t.val % 2 * 1024 + (y 1).val := e1
  rw [e0, e1]

include hh hw hr in
theorem result1_3 (i : S2048x2048.Idx) : ((dat1 V c).arrAt 3 cfg1.N : S2048x2048.Idx → EReal) i = eight Hid Wd R (i 0).val (i 1).val := by
  refine (dat1 V c).arrAt_forall_of_covers 3 (fun (i : S2048x2048.Idx) (v : EReal) => v = eight Hid Wd R (i 0).val (i 1).val) (by decide +kernel) (fun t hf (y : S512x1024.Idx) => ?_) i
  show (dat1 V c).after 3 t y = _
  rw [after1_3]
  refine (down_out (in1_0 V c hh t) (in1_1 V c hw t) (in1_2 V c hr t) y).trans ?_
  obtain ⟨i0, i1⟩ := index1_3 t
  have e0 := win1_3.rect_emb_val t y 0
  have e1 := win1_3.rect_emb_val t y 1
  rw [i0] at e0
  rw [i1] at e1
  have e0' : (((cfg1.win 3).blk t).view.emb y 0).val = t.val / 2 * 512 + (y 0).val := e0
  have e1' : (((cfg1.win 3).blk t).view.emb y 1).val = t.val % 2 * 1024 + (y 1).val := e1
  rw [e0', e1']
  rfl
end Region1

/-! ## The backward kernel of the down projection -/

section Region2
variable (V : (c : Dev nD) → (b : Ref sig .tc) → Buf (Elt Ideal) ((c : Thread nD τ).loc b)) (c : Dev nD)
  (hd : At2 (V c main_v1 : S2048x2048.Idx → EReal) D) (hw : At3 (V c main_v9 : S8x704x2048.Idx → EReal) Wd)
  (hk : At4 (V c main_v10_0 : S2x8x2048x704.Idx → EReal) K)

theorem index2_0 : ∀ t : Fin cfg2.N, win2_0.index t 0 = t.val / 8 ∧ win2_0.index t 1 = 0 :=
  (by decide +kernel : ∀ t : Fin grid2.N, win2_0.index t 0 = t.val / 8 ∧ win2_0.index t 1 = 0)
theorem index2_1 : ∀ t : Fin cfg2.N, win2_1.index t 0 = t.val % 8 ∧ win2_1.index t 1 = 0 ∧ win2_1.index t 2 = 0 :=
  (by decide +kernel : ∀ t : Fin grid2.N, win2_1.index t 0 = t.val % 8 ∧ win2_1.index t 1 = 0 ∧ win2_1.index t 2 = 0)
theorem index2_2 : ∀ t : Fin cfg2.N, win2_2.index t 0 = 0 ∧ win2_2.index t 1 = t.val % 8 ∧ win2_2.index t 2 = t.val / 8 ∧ win2_2.index t 3 = 0 :=
  (by decide +kernel : ∀ t : Fin grid2.N, win2_2.index t 0 = 0 ∧ win2_2.index t 1 = t.val % 8 ∧ win2_2.index t 2 = t.val / 8 ∧ win2_2.index t 3 = 0)
theorem index2_3 : ∀ t : Fin cfg2.N, win2_3.index t 0 = 0 ∧ win2_3.index t 1 = t.val % 8 ∧ win2_3.index t 2 = t.val / 8 ∧ win2_3.index t 3 = 0 :=
  (by decide +kernel : ∀ t : Fin grid2.N, win2_3.index t 0 = 0 ∧ win2_3.index t 1 = t.val % 8 ∧ win2_3.index t 2 = t.val / 8 ∧ win2_3.index t 3 = 0)

include hd in
theorem in2_0 (t : Fin cfg2.N) : At2 (a := 1024) (b := 2048) (iblk2 V c 0 t) (fun s k => D (t.val / 8 * 1024 + s) k) := fun y => by
  refine (hd ((win2_0.rect t).emb y)).trans ?_
  obtain ⟨i0, i1⟩ := index2_0 t
  have e0 := win2_0.rect_emb_val t y 0
  have e1 := win2_0.rect_emb_val_of_index_zero t 1 i1 y
  rw [i0] at e0
  replace e0 : ((win2_0.rect t).emb y 0).val = t.val / 8 * 1024 + (y 0).val := e0
  rw [e0, e1]

include hw in
theorem in2_1 (t : Fin cfg2.N) : At3 (a := 1) (b := 704) (c := 2048) (iblk2 V c 1 t) (fun z f k => Wd (t.val % 8 + z) f k) := fun y => by
  refine (hw ((win2_1.rect t).emb y)).trans ?_
  obtain ⟨i0, i1, i2⟩ := index2_1 t
  have e0 := win2_1.rect_emb_val t y 0
  have e1 := win2_1.rect_emb_val_of_index_zero t 1 i1 y
  have e2 := win2_1.rect_emb_val_of_index_zero t 2 i2 y
  rw [i0] at e0
  replace e0 : ((win2_1.rect t).emb y 0).val = t.val % 8 + (y 0).val := e0.trans (congrArg (· + (y 0).val) (Nat.mul_one _))
  rw [e0, e1, e2]

include hk in
theorem in2_2 (t : Fin cfg2.N) : At4 (a := 2) (b := 1) (c := 1024) (d := 704) (iblk2 V c 2 t) (fun w z s f => K w (t.val % 8 + z) (t.val / 8 * 1024 + s) f) := fun y => by
  refine (hk ((win2_2.rect t).emb y)).trans ?_
  obtain ⟨i0, i1, i2, i3⟩ := index2_2 t
  have e0 := win2_2.rect_emb_val_of_index_zero t 0 i0 y
  have e1 := win2_2.rect_emb_val t y 1
  have e2 := win2_2.rect_emb_val t y 2
  have e3 := win2_2.rect_emb_val_of_index_zero t 3 i3 y
  rw [i1] at e1
  rw [i2] at e2
  replace e1 : ((win2_2.rect t).emb y 1).val = t.val % 8 + (y 1).val := e1.trans (congrArg (· + (y 1).val) (Nat.mul_one _))
  replace e2 : ((win2_2.rect t).emb y 2).val = t.val / 8 * 1024 + (y 2).val := e2
  rw [e0, e1, e2, e3]

include hd hw hk in
theorem result2_3 (i : S2x8x2048x704.Idx) : ((dat2 V c).arrAt 3 cfg2.N : S2x8x2048x704.Idx → EReal) i
    = nt D (Wd (i 1).val) (i 2).val (i 3).val * K (i 0).val (i 1).val (i 2).val (i 3).val := by
  refine (dat2 V c).arrAt_forall_of_covers 3 (fun (i : S2x8x2048x704.Idx) (v : EReal) => v = nt D (Wd (i 1).val) (i 2).val (i 3).val * K (i 0).val (i 1).val (i 2).val (i 3).val)
    (by decide +kernel) (fun t hf (y : S2x1x1024x704.Idx) => ?_) i
  show (dat2 V c).after 3 t y = _
  rw [after2_3]
  refine (dhid_out (in2_0 V c hd t) (in2_1 V c hw t) (in2_2 V c hk t) y).trans ?_
  obtain ⟨i0, i1, i2, i3⟩ := index2_3 t
  have e0 := win2_3.rect_emb_val_of_index_zero t 0 i0 y
  have e1 := win2_3.rect_emb_val t y 1
  have e2 := win2_3.rect_emb_val t y 2
  have e3 := win2_3.rect_emb_val_of_index_zero t 3 i3 y
  rw [i1] at e1
  rw [i2] at e2
  have hy1 := (y 1).isLt; change (y 1).val < 1 at hy1
  have e0' : (((cfg2.win 3).blk t).view.emb y 0).val = (y 0).val := e0
  have e1' : (((cfg2.win 3).blk t).view.emb y 1).val = t.val % 8 := (e1.trans (congrArg (· + (y 1).val) (Nat.mul_one _))).trans (by omega)
  have e2' : (((cfg2.win 3).blk t).view.emb y 2).val = t.val / 8 * 1024 + (y 2).val := e2
  have e3' : (((cfg2.win 3).blk t).view.emb y 3).val = (y 3).val := e3
  rw [e0', e1', e2', e3']
  rfl
end Region2

end Cert.FfnPair

end
-- ==== Proof.FfnWhole.lean ====
/- The feed-forward layer: the three kernels one after the other, and a run of the program. -/
module

public import proofs.«01_k».proof.Proof.FfnRun

@[expose] public section

set_option maxRecDepth 16384

noncomputable section

namespace Cert.FfnPair

open Cert.FfnIdeal Cert.FfnIdeal.Gen Idealize.ShloMosaic Idealize.ShloMosaic.TcCoe Idealize.ShloMosaic.Tactic Idealize.SL Idealize.SL.Sem Cert.Prod

variable (m : (ℓ : Loc nD τ sig) → Buf (Elt Ideal) ℓ) (ρ : Dev nD → PrngReg) (c : Dev nD)
variable {X G U W R D : ℕ → ℕ → EReal}
  (hx : At2 (m ((c : Thread nD τ).loc main_arg0) : S2048x2048.Idx → EReal) X)
  (hg : At2 (m ((c : Thread nD τ).loc main_arg1) : S2048x5632.Idx → EReal) G)
  (hu : At2 (m ((c : Thread nD τ).loc main_arg2) : S2048x5632.Idx → EReal) U)
  (hw : At2 (m ((c : Thread nD τ).loc main_arg3) : S5632x2048.Idx → EReal) W)
  (hr : At2 (m ((c : Thread nD τ).loc main_arg4) : S2048x2048.Idx → EReal) R)
  (hd : At2 (m ((c : Thread nD τ).loc main_arg5) : S2048x2048.Idx → EReal) D)

/-! ## What the host prepares -/

theorem V1_xn : (V1 m ρ c main_v0 : S2048x2048.Idx → EReal) = (m ((c : Thread nD τ).loc main_arg0) : S2048x2048.Idx → EReal) := rfl
theorem V1_d : (V1 m ρ c main_v1 : S2048x2048.Idx → EReal) = (m ((c : Thread nD τ).loc main_arg5) : S2048x2048.Idx → EReal) := rfl
theorem V1_gathered : V1 m ρ c main_v7 = truncf (F := Ideal) .bf16 (concatenate S8x1408x2048 1
    [⟨S8x704x2048, shapeCast S8x704x2048 (transpose S5632x2048 [1, 0] (m ((c : Thread nD τ).loc main_arg1)) transposes_S2048x5632_S5632x2048_1_0) shapeCasts_S5632x2048_S8x704x2048⟩,
     ⟨S8x704x2048, shapeCast S8x704x2048 (transpose S5632x2048 [1, 0] (m ((c : Thread nD τ).loc main_arg2)) transposes_S2048x5632_S5632x2048_1_0) shapeCasts_S5632x2048_S8x704x2048⟩]
    concatenates_S8x704x2048_S8x704x2048_S8x1408x2048_d1 : FVec Ideal S8x1408x2048 .f32) bitsLt_bf16_f32 := rfl
theorem V1_down : (V1 m ρ c main_v9 : S8x704x2048.Idx → EReal)
    = shapeCast S8x704x2048 (m ((c : Thread nD τ).loc main_arg3) : S5632x2048.Idx → EReal) shapeCasts_S5632x2048_S8x704x2048 := rfl

include hx in
theorem xn_at : At2 (V1 m ρ c main_v0 : S2048x2048.Idx → EReal) X := fun i => (congrFun (V1_xn m ρ c) i).trans (hx i)
include hg hu in
theorem gathered_weights : At3 (V1 m ρ c main_v7 : S8x1408x2048.Idx → EReal) (gath G U) := fun i => (congrFun (V1_gathered m ρ c) i).trans (gathered_at hg hu i)

/-- Device `e`'s row `f` of the down projection. -/
def rowsOf (W : ℕ → ℕ → EReal) (e f j : ℕ) : EReal := W (e * 704 + f) j

include hw in
theorem down_at : At3 (V1 m ρ c main_v9 : S8x704x2048.Idx → EReal) (rowsOf W) := fun i => by
  have h0 : (i 0).val < 8 := (i 0).isLt
  have h1 : (i 1).val < 704 := (i 1).isLt
  have h : (i 0).val * 704 + (i 1).val < 5632 := by omega
  refine (congrFun (V1_down m ρ c) i).trans ((shapeCast_apply (s := S5632x2048) (t := S8x704x2048) _ _ i (ValueIdx.ix2 ⟨(i 0).val * 704 + (i 1).val, h⟩ (i 2)) ?_).trans (hw _))
  rw [Shape.rowMajor_val_three, Shape.rowMajor_val_two]
  rfl

/-! ## After the first kernel -/

include hx hg hu in
theorem kept_at : At4 (V2 m ρ c main_v10_0 : S2x8x2048x704.Idx → EReal) (fun w e s f => kept (gateOf X (gath G U) e s f) (upOf X (gath G U) e s f) w) := fun i =>
  (congrFun (W2_arr m ρ c 3) i).trans (result0_3 (V1 m ρ) c (xn_at m ρ c hx) (gathered_weights m ρ c hg hu) i)
include hx hg hu in
theorem hid_at : At3 (V2 m ρ c main_v10_1 : S8x2048x704.Idx → EReal) (fun e s f => silu (gateOf X (gath G U) e s f) * upOf X (gath G U) e s f) := fun i =>
  (congrFun (W2_arr m ρ c 4) i).trans (result0_4 (V1 m ρ) c (xn_at m ρ c hx) (gathered_weights m ρ c hg hu) i)
include hw in
theorem down_at2 : At3 (V2 m ρ c main_v9 : S8x704x2048.Idx → EReal) (rowsOf W) := fun i =>
  (congrFun (W2_of m ρ c main_v9 (by decide)) i).trans (down_at m ρ c hw i)
include hr in
theorem res_at : At2 (V2 m ρ c main_arg4 : S2048x2048.Idx → EReal) R := fun i =>
  (congrFun (W2_args m ρ c main_arg4 (by decide)) i).trans (hr i)
include hd in
theorem d_at : At2 (V3 m ρ c main_v1 : S2048x2048.Idx → EReal) D := fun i =>
  (congrFun ((W3_of m ρ c main_v1 (by decide)).trans (W2_of m ρ c main_v1 (by decide))) i).trans ((congrFun (V1_d m ρ c) i).trans (hd i))
include hw in
theorem down_at3 : At3 (V3 m ρ c main_v9 : S8x704x2048.Idx → EReal) (rowsOf W) := fun i =>
  (congrFun (W3_of m ρ c main_v9 (by decide)) i).trans (down_at2 m ρ c hw i)
include hx hg hu in
theorem kept_at3 : At4 (V3 m ρ c main_v10_0 : S2x8x2048x704.Idx → EReal) (fun w e s f => kept (gateOf X (gath G U) e s f) (upOf X (gath G U) e s f) w) := fun i =>
  (congrFun (W3_of m ρ c main_v10_0 (by decide)) i).trans (kept_at m ρ c hx hg hu i)

/-! ## The results -/

include hx hg hu hw hr in
/-- The layer's output. -/
theorem h_out (i : S2048x2048.Idx) : (W4 m ρ c (Proc.devRef .tc main_v11) : S2048x2048.Idx → EReal) i
    = eight (fun e s f => silu (gateOf X (gath G U) e s f) * upOf X (gath G U) e s f) (rowsOf W) R (i 0).val (i 1).val :=
  (congrFun ((W4_of m ρ c main_v11 (by decide)).trans (W3_arr m ρ c 3)) i).trans
    (result1_3 (V2 m ρ) c (hid_at m ρ c hx hg hu) (down_at2 m ρ c hw) (res_at m ρ c hr) i)

include hx hg hu hw hd in
/-- The derivatives by the layer's two inner arrays. -/
theorem dab (i : S2x8x2048x704.Idx) : (W4 m ρ c (Proc.devRef .tc main_v12) : S2x8x2048x704.Idx → EReal) i
    = nt D (rowsOf W (i 1).val) (i 2).val (i 3).val * kept (gateOf X (gath G U) (i 1).val (i 2).val (i 3).val) (upOf X (gath G U) (i 1).val (i 2).val (i 3).val) (i 0).val :=
  (congrFun (W4_arr m ρ c 3) i).trans
    (result2_3 (V3 m ρ) c (d_at m ρ c hd) (down_at3 m ρ c hw) (kept_at3 m ρ c hx hg hu) i)

end Cert.FfnPair

end
-- ==== Proof.FfnLaunch.lean ====
/- The feed-forward layer: a run of the program leaves in its two results what the three kernels leave there. -/
module

public import proofs.«01_k».proof.Proof.Gen.FfnIdeal.Frame

@[expose] public section

set_option maxRecDepth 16384

noncomputable section

namespace Cert.FfnPair

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (m : (ℓ : Loc nD τ sig) → Buf (Elt F) ℓ) (ρ : Dev nD → PrngReg)

set_option backward.isDefEq.respectTransparency.types false in
/-- Every buffer that outlives the kernels ends as the chain of the program's pieces leaves it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h _ => h)

/-- What a run of the program leaves in its results and its arguments. -/
theorem run : θ_run defs (onTc (τ := τ) (main (F := F))) ⟨m, fun _ => 0, ρ⟩ (fun r => ∀ c : Dev nD,
      r.2.mem ((c.tc : Thread nD τ).loc main_v11) = W4 m ρ c (Proc.devRef .tc main_v11)
      ∧ r.2.mem ((c.tc : Thread nD τ).loc main_v12) = W4 m ρ c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨h c _ (mem_uc main_v11 (by decide)), h c _ (mem_uc main_v12 (by decide)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩) (run_all m ρ)

end Cert.FfnPair

end
-- ==== Proof.Ffn.lean ====
/- The feed-forward layer: the kernels' results are the reference's. -/
module

public import proofs.«01_k».proof.Proof.FfnWhole
public import proofs.«01_k».proof.Proof.FfnLaunch
public import proofs.«01_k».proof.Proof.Finite
public import proofs.«01_k».proof.Proof.Gen.Ffn.Frame
public import proofs.«01_k».proof.Proof.Gen.FfnReferenceIdeal.Run
public import proofs.«01_k».proof.Proof.Gen.FfnReferenceIdeal.Read
public import proofs.«01_k».proof.Proof.Gen.Pre_finite2
public import proofs.«01_k».proof.Defs

@[expose] public section

set_option maxRecDepth 16384

noncomputable section

namespace Cert.FfnPair

open Idealize.ShloMosaic Idealize.ShloMosaic.TcCoe Idealize.SL.Sem Cert.Prod

variable {X G U W R D : ℕ → ℕ → EReal}

/-! ## Finite numbers -/

/-- Every number of the array is a real number. -/
def Finite2 (f : ℕ → ℕ → EReal) : Prop := ∀ i j, ∃ r : ℝ, f i j = (r : EReal)

theorem finite_ent {a b : ℕ} {v : (⟨2, ![a, b]⟩ : Shape).Idx → EReal} (hv : ∀ i, v i = (((v i).toReal : ℝ) : EReal)) : Finite2 (ent2 v) := fun i j => by
  unfold ent2
  by_cases h : i < a ∧ j < b
  · rw [dif_pos h]; exact ⟨_, hv _⟩
  · rw [dif_neg h]; exact ⟨0, rfl⟩

theorem finite_sum {n : ℕ} {f g : Fin n → EReal} (hf : ∀ k, ∃ r : ℝ, f k = (r : EReal)) (hg : ∀ k, ∃ r : ℝ, g k = (r : EReal)) : ∃ r : ℝ, ∑ k, f k * g k = (r : EReal) := by
  choose u hu using hf
  choose v hv using hg
  refine ⟨∑ k, u k * v k, ?_⟩
  rw [← Cert.Lift.sumC]
  exact Finset.sum_congr rfl fun k _ => by rw [hu, hv, Cert.Lift.mulE]

/-- The derivative by the gate's `a`: the kernel's grouping of it and the reference's. -/
theorem deriv (g b : ℝ) (a : EReal) : (g : EReal) * ((b : EReal) * dsilu a)
    = ((g : EReal) * b) * Ideal.logistic a + (a * ((g : EReal) * b)) * (Ideal.logistic a * (1 - Ideal.logistic a)) := by
  unfold dsilu
  have h1 : (1 : EReal) - 1 = 0 := by
    rw [← EReal.coe_one, ← EReal.coe_sub, sub_self, EReal.coe_zero]
  induction a with
  | bot => simp only [Ideal.logistic_bot, zero_mul, mul_zero, add_zero]
  | top => simp only [Ideal.logistic_top, h1, mul_zero, add_zero, mul_one]
  | coe a =>
    rw [Ideal.logistic_coe, ← EReal.coe_one]
    generalize (1 + Real.exp (-a))⁻¹ = s
    simp only [← EReal.coe_sub, ← EReal.coe_mul, ← EReal.coe_add]
    exact congrArg Real.toEReal (by ring)

/-! ## The reference -/

/-- Rows of `X` against columns of `G`. -/
def nn (X G : ℕ → ℕ → EReal) (i j : ℕ) : EReal := ∑ k : Fin 2048, X i k.val * G k.val j
/-- The derivative by the gate's `a`, as the reference writes it. -/
def byGate (X G U W D : ℕ → ℕ → EReal) (i j : ℕ) : EReal :=
  (nt D W i j * nn X U i j) * Ideal.logistic (nn X G i j)
    + (nn X G i j * (nt D W i j * nn X U i j)) * (Ideal.logistic (nn X G i j) * (1 - Ideal.logistic (nn X G i j)))
/-- The derivative by the up projection's `b`. -/
def byUp (X G W D : ℕ → ℕ → EReal) (i j : ℕ) : EReal := silu (nn X G i j) * nt D W i j

section Reference
open Cert.FfnReferenceIdeal Cert.FfnReferenceIdeal.Gen Cert.FfnReferenceIdeal.Read

variable {x0 x4 x5 : S2048x2048.Idx → EReal} {x1 x2 : S2048x5632.Idx → EReal} {x3 : S5632x2048.Idx → EReal}

theorem ref_a (hx : At2 x0 X) (hg : At2 x1 G) : At2 (a := 2048) (b := 5632) (val_main_v0 (F := Ideal) x0 x1) (nn X G) := fun i => by
  rw [val_main_v0_apply]
  exact Finset.sum_congr rfl fun k _ => by rw [hx, hg]
theorem ref_b (hx : At2 x0 X) (hu : At2 x2 U) : At2 (a := 2048) (b := 5632) (val_main_v1 (F := Ideal) x0 x2) (nn X U) := fun i => by
  rw [val_main_v1_apply]
  exact Finset.sum_congr rfl fun k _ => by rw [hx, hu]
theorem ref_g (hw : At2 x3 W) (hd : At2 x5 D) : At2 (a := 2048) (b := 5632) (val_main_v6 (F := Ideal) x3 x5) (nt D W) := fun i => by
  rw [val_main_v6_apply]
  exact Finset.sum_congr rfl fun k _ => by rw [hw, hd]

theorem ref_sig (hx : At2 x0 X) (hg : At2 x1 G) : At2 (a := 2048) (b := 5632) (val_main_v2_2 (F := Ideal) x0 x1) (fun i j => Ideal.logistic (nn X G i j)) := fun i => by
  rw [val_main_v2_2_apply, val_main_call0_v4_apply, val_main_call0_cst_0_apply, val_main_call0_v3_apply, val_main_call0_v2_apply, val_main_call0_cst_apply,
    val_main_call0_v1_apply, val_main_call0_v0_apply, ref_a hx hg]
  show Ideal.div (Ideal.ofBits .f32 0x3F800000#32) (Ideal.ofBits .f32 0x3F800000#32 + Ideal.exp (-nn X G (i 0).val (i 1).val)) = _
  rw [one_eq]
  rfl

theorem ref_silu (hx : At2 x0 X) (hg : At2 x1 G) : At2 (a := 2048) (b := 5632) (val_main_v2_0 (F := Ideal) x0 x1) (fun i j => silu (nn X G i j)) := fun i => by
  rw [val_main_v2_0_apply, ref_a hx hg, ref_sig hx hg]
  rfl

theorem ref_dsig (hx : At2 x0 X) (hg : At2 x1 G) : At2 (a := 2048) (b := 5632) (val_main_v2_1 (F := Ideal) x0 x1)
    (fun i j => Ideal.logistic (nn X G i j) * (1 - Ideal.logistic (nn X G i j))) := fun i => by
  rw [val_main_v2_1_apply, val_main_call0_v7_apply, val_main_call0_v6_apply, val_main_call0_cst_1_apply, ref_sig hx hg]
  show _ * (Ideal.ofBits .f32 0x3F800000#32 - _) = _
  rw [one_eq]

/-- The layer's output. -/
theorem ref_out (hx : At2 x0 X) (hg : At2 x1 G) (hu : At2 x2 U) (hw : At2 x3 W) (hr : At2 x4 R) : At2 (a := 2048) (b := 2048) (val_main_v5 (F := Ideal) x0 x1 x2 x3 x4)
    (fun i j => R i j + ∑ k : Fin 5632, silu (nn X G i k.val) * nn X U i k.val * W k.val j) := fun i => by
  rw [val_main_v5_apply, val_main_v4_apply, hr]
  refine congrArg (fun z : EReal => R (i 0).val (i 1).val + z) (Finset.sum_congr rfl fun k _ => ?_)
  rw [val_main_v3_apply, ref_silu hx hg, ref_b hx hu, hw]
  rfl

theorem ref_byGate (hx : At2 x0 X) (hg : At2 x1 G) (hu : At2 x2 U) (hw : At2 x3 W) (hd : At2 x5 D) :
    At2 (a := 2048) (b := 5632) (val_main_v9 (F := Ideal) x0 x1 x2 x3 x5) (byGate X G U W D) := fun i => by
  rw [val_main_v9_apply, val_main_call1_v1_apply, val_main_call1_v2_apply, val_main_call1_v0_apply, val_main_v8_apply, ref_g hw hd, ref_b hx hu, ref_a hx hg,
    ref_sig hx hg, ref_dsig hx hg]
  rfl
theorem ref_byUp (hx : At2 x0 X) (hg : At2 x1 G) (hw : At2 x3 W) (hd : At2 x5 D) :
    At2 (a := 2048) (b := 5632) (val_main_v7 (F := Ideal) x0 x1 x3 x5) (byUp X G W D) := fun i => by
  rw [val_main_v7_apply, ref_silu hx hg, ref_g hw hd]
  rfl

theorem ref_both (hx : At2 x0 X) (hg : At2 x1 G) (hu : At2 x2 U) (hw : At2 x3 W) (hd : At2 x5 D) :
    At3 (val_main_v12 (F := Ideal) x0 x1 x2 x3 x5) (pick (byGate X G U W D) (byUp X G W D)) :=
  join3 (h := concatenates_S1x2048x5632_S1x2048x5632_S2x2048x5632_d0)
    (fun i => by rw [val_main_v10_apply]; exact ref_byGate hx hg hu hw hd _) (fun i => by rw [val_main_v11_apply]; exact ref_byUp hx hg hw hd _)

/-- The two derivatives, their columns cut over the devices. -/
theorem ref_dab (hx : At2 x0 X) (hg : At2 x1 G) (hu : At2 x2 U) (hw : At2 x3 W) (hd : At2 x5 D) : At4 (a := 2) (b := 8) (c := 2048) (d := 704) (val_main_v15 (F := Ideal) x0 x1 x2 x3 x5)
    (fun w e s f => pick (byGate X G U W D) (byUp X G W D) w s (e * 704 + f)) := fun i => by
  have h0 : (i 0).val < 2 := (i 0).isLt
  have h1 : (i 1).val < 8 := (i 1).isLt
  have h2 : (i 2).val < 2048 := (i 2).isLt
  have h3 : (i 3).val < 704 := (i 3).isLt
  rw [val_main_v15_apply, val_main_v14_apply, val_main_v13_apply]
  refine (ref_both hx hg hu hw hd _).trans ?_
  show pick (byGate X G U W D) (byUp X G W D) (((((i 0).val * 2048 + (i 2).val) * 8 + (i 1).val) * 704 + (i 3).val) / 11534336)
    (((((i 0).val * 2048 + (i 2).val) * 8 + (i 1).val) * 704 + (i 3).val) / 5632 % 2048) (((((i 0).val * 2048 + (i 2).val) * 8 + (i 1).val) * 704 + (i 3).val) % 5632) = _
  rw [show ((((i 0).val * 2048 + (i 2).val) * 8 + (i 1).val) * 704 + (i 3).val) / 11534336 = (i 0).val by omega,
    show ((((i 0).val * 2048 + (i 2).val) * 8 + (i 1).val) * 704 + (i 3).val) / 5632 % 2048 = (i 2).val by omega,
    show ((((i 0).val * 2048 + (i 2).val) * 8 + (i 1).val) * 704 + (i 3).val) % 5632 = (i 1).val * 704 + (i 3).val by omega]

end Reference

/-! ## The kernel's device-by-device numbers -/

theorem gateOf_eq (e s : ℕ) {f : ℕ} (hf : f < 704) : gateOf X (gath G U) e s f = nn X G s (e * 704 + f) := by
  unfold gateOf nt nn gath
  simp only [if_pos hf]
theorem upOf_eq (e s f : ℕ) : upOf X (gath G U) e s f = nn X U s (e * 704 + f) := by
  unfold upOf nt nn gath
  simp only [if_neg (show ¬ 704 + f < 704 by omega), Nat.add_sub_cancel_left]

theorem out_eq (i j : ℕ) : eight (fun e s f => silu (gateOf X (gath G U) e s f) * upOf X (gath G U) e s f) (rowsOf W) R i j
    = R i j + ∑ k : Fin 5632, silu (nn X G i k.val) * nn X U i k.val * W k.val j := by
  unfold eight
  rw [add_comm]
  refine congrArg (fun z : EReal => R i j + z) (Eq.symm ?_)
  refine (sum_blocks 8 704 (fun k => silu (nn X G i k) * nn X U i k * W k j)).trans (Finset.sum_congr rfl fun e _ => Finset.sum_congr rfl fun f _ => ?_)
  dsimp only
  rw [gateOf_eq _ _ f.isLt, upOf_eq]
  rfl

theorem dab_eq (hx : Finite2 X) (hu : Finite2 U) (hw : Finite2 W) (hd : Finite2 D) (w e s : ℕ) {f : ℕ} (hf : f < 704) :
    nt D (rowsOf W e) s f * kept (gateOf X (gath G U) e s f) (upOf X (gath G U) e s f) w = pick (byGate X G U W D) (byUp X G W D) w s (e * 704 + f) := by
  rw [gateOf_eq _ _ hf, upOf_eq]
  have hn : nt D (rowsOf W e) s f = nt D W s (e * 704 + f) := rfl
  rw [hn]
  unfold kept pick
  by_cases h : w = 0
  · rw [if_pos h, if_pos h]
    unfold byGate
    obtain ⟨g, eg⟩ : ∃ r : ℝ, nt D W s (e * 704 + f) = r := finite_sum (fun k => hd s k.val) fun k => hw (e * 704 + f) k.val
    obtain ⟨b, eb⟩ : ∃ r : ℝ, nn X U s (e * 704 + f) = r := finite_sum (fun k => hx s k.val) fun k => hu k.val (e * 704 + f)
    rw [eg, eb]
    exact deriv g b _
  · rw [if_neg h, if_neg h]
    exact mul_comm _ _

/-! ## The claims -/

theorem frame_p : Cert.quiescent_Ffn := fun m ρ _ => Cert.Ffn.Gen.frame m ρ
theorem frame_pi : Cert.quiescent_FfnIdeal := fun m ρ _ => Cert.FfnIdeal.Gen.frame m ρ
theorem frame_pi_pre : Cert.quiescent_FfnIdeal_pre_finite2 := fun m ρ _ => Cert.FfnIdeal.Gen.frame m ρ
theorem frame_ri : Cert.quiescent_FfnReferenceIdeal := fun m ρ _ =>
  (θ_run Cert.FfnReferenceIdeal.defs _ _).mono
    (fun r h => ⟨fun c => (h c).2.2, sem_eq_zero_of_no_sems (by decide) r.2⟩) (Cert.FfnReferenceIdeal.Value.run (F := Ideal) m ρ)
theorem frame_ri_pre : Cert.quiescent_FfnReferenceIdeal_pre_finite2 := fun m ρ _ => frame_ri m ρ trivial
theorem preserves : Cert.preserves_Ffn_FfnIdeal := trivial

theorem algebraic : Cert.algebraic_FfnIdeal_FfnReferenceIdeal_pre_finite2 := fun m ρ m' ρ' hpre hargs => by
  refine ⟨_, _, run m ρ, ?_⟩
  refine (θ_run Cert.FfnReferenceIdeal.defs _ _).mono (fun r h c => ?_) (Cert.FfnReferenceIdeal.Value.run (F := Ideal) m' ρ')
  obtain ⟨r0, r1, rest⟩ := h c
  obtain ⟨a0, a1, a2, a3, a4, a5⟩ := hargs c
  have hx := at2_ent (a := 2048) (b := 2048) (m (c.tc.loc Cert.FfnIdeal.main_arg0))
  have hg := at2_ent (a := 2048) (b := 5632) (m (c.tc.loc Cert.FfnIdeal.main_arg1))
  have hu := at2_ent (a := 2048) (b := 5632) (m (c.tc.loc Cert.FfnIdeal.main_arg2))
  have hw := at2_ent (a := 5632) (b := 2048) (m (c.tc.loc Cert.FfnIdeal.main_arg3))
  have hr := at2_ent (a := 2048) (b := 2048) (m (c.tc.loc Cert.FfnIdeal.main_arg4))
  have hd := at2_ent (a := 2048) (b := 2048) (m (c.tc.loc Cert.FfnIdeal.main_arg5))
  have fx := finite_ent (a := 2048) (b := 2048) fun i => Cert.Finite.real_of_lt (m (c.tc.loc Cert.FfnIdeal.main_arg0) i) (congrFun (hpre c).1 i)
  have fu := finite_ent (a := 2048) (b := 5632) fun i => Cert.Finite.real_of_lt (m (c.tc.loc Cert.FfnIdeal.main_arg2) i) (congrFun (hpre c).2.1 i)
  have fw := finite_ent (a := 5632) (b := 2048) fun i => Cert.Finite.real_of_lt (m (c.tc.loc Cert.FfnIdeal.main_arg3) i) (congrFun (hpre c).2.2.1 i)
  have fd := finite_ent (a := 2048) (b := 2048) fun i => Cert.Finite.real_of_lt (m (c.tc.loc Cert.FfnIdeal.main_arg5) i) (congrFun (hpre c).2.2.2 i)
  refine ⟨r0.trans ?_, r1.trans ?_, rest⟩
  · rw [Cert.FfnReferenceIdeal.Read.val_main_v5_eq, a0, a1, a2, a3, a4]
    exact funext fun i => (ref_out hx hg hu hw hr i).trans ((h_out m ρ c hx hg hu hw hr i).trans (out_eq _ _)).symm
  · rw [Cert.FfnReferenceIdeal.Read.val_main_v15_eq, a0, a1, a2, a3, a5]
    exact funext fun i => (ref_dab hx hg hu hw hd i).trans ((dab m ρ c hx hg hu hw hd i).trans (dab_eq fx fu fw fd _ _ _ (i 3).isLt)).symm

end Cert.FfnPair

end
-- ==== Proof.DxBody.lean ====
/- The gradient of the feed-forward layer's input: what one grid point adds up. -/
module

public import proofs.«01_k».proof.Proof.Prod
public import proofs.«01_k».proof.Proof.Gen.FfnDxIdeal.Value

@[expose] public section

set_option maxRecDepth 16384

noncomputable section

namespace Cert.Dx

open Cert.FfnDxIdeal Cert.FfnDxIdeal.Gen Idealize.ShloMosaic Idealize.ShloMosaic.TcCoe Idealize.ShloMosaic.Tactic Cert.Prod

/-- The products of four pairs of matrices, added. -/
def four (X W : ℕ → ℕ → ℕ → EReal) (i j : ℕ) : EReal := ∑ c : Fin 4, ∑ f : Fin 704, X c.val i f.val * W c.val f.val j

section Body
variable (c : Dev nD) (i : grid0.Coords) (arg3 : Memref sig .tc .vmem S1x4x1024x704 .bf16) (harg3 : arg3.IsWhole)
  (arg4 : Memref sig .tc .vmem S4x704x1024 .bf16) (harg4 : arg4.IsWhole) (arg5 : Memref sig .tc .vmem S1024x1024 .f32) (harg5 : arg5.IsWhole)
  (arg6 : Memref sig .tc .vmem S1024x1024 .f32) (harg6 : arg6.IsWhole)
  {x0 : Vec Ideal S1x4x1024x704 .bf16} {x1 : Vec Ideal S4x704x1024 .bf16} {xs : Vec Ideal S1024x1024 .f32}
  {X : ℕ → ℕ → ℕ → ℕ → EReal} {W : ℕ → ℕ → ℕ → EReal} {A : ℕ → ℕ → EReal}
  (hx0 : At4 x0 X) (hx1 : At3 x1 W) (hxs : At2 xs A)

include hx0 hx1 in
/-- The products of a point's blocks, added. -/
theorem prods {i0 i1 i2 i3 j0 j1 j2 j3} : At2 (a := 1024) (b := 1024)
    (k0_pay3 (F := Ideal)
      (View.readAt (Elt Ideal) arg3.view (Rect.unit (s := S1x4x1024x704) ![0, 0, 0, 0] S1x1x1024x704.size i0).toLoadRect (harg3.unread x0))
      (View.readAt (Elt Ideal) arg4.view (Rect.unit (s := S4x704x1024) ![0, 0, 0] S1x704x1024.size j0).toLoadRect (harg4.unread x1))
      (View.readAt (Elt Ideal) arg3.view (Rect.unit (s := S1x4x1024x704) ![0, 1, 0, 0] S1x1x1024x704.size i1).toLoadRect (harg3.unread x0))
      (View.readAt (Elt Ideal) arg4.view (Rect.unit (s := S4x704x1024) ![1, 0, 0] S1x704x1024.size j1).toLoadRect (harg4.unread x1))
      (View.readAt (Elt Ideal) arg3.view (Rect.unit (s := S1x4x1024x704) ![0, 2, 0, 0] S1x1x1024x704.size i2).toLoadRect (harg3.unread x0))
      (View.readAt (Elt Ideal) arg4.view (Rect.unit (s := S4x704x1024) ![2, 0, 0] S1x704x1024.size j2).toLoadRect (harg4.unread x1))
      (View.readAt (Elt Ideal) arg3.view (Rect.unit (s := S1x4x1024x704) ![0, 3, 0, 0] S1x1x1024x704.size i3).toLoadRect (harg3.unread x0))
      (View.readAt (Elt Ideal) arg4.view (Rect.unit (s := S4x704x1024) ![3, 0, 0] S1x704x1024.size j3).toLoadRect (harg4.unread x1)))
    (four (X 0) W) := by
  refine at2_congr (at2_add (φ := .f32) (at2_add (φ := .f32) (at2_add (φ := .f32) (mulNN (M := 1024) (K := 704) (N := 1024) (φ₁ := .bf16) (φ₂ := .bf16) none (one4 harg3 hx0) (one3 harg4 hx1))
    (mulNN (M := 1024) (K := 704) (N := 1024) (φ₁ := .bf16) (φ₂ := .bf16) none (one4 harg3 hx0) (one3 harg4 hx1)))
    (mulNN (M := 1024) (K := 704) (N := 1024) (φ₁ := .bf16) (φ₂ := .bf16) none (one4 harg3 hx0) (one3 harg4 hx1)))
    (mulNN (M := 1024) (K := 704) (N := 1024) (φ₁ := .bf16) (φ₂ := .bf16) none (one4 harg3 hx0) (one3 harg4 hx1))) fun t j _ _ => ?_
  unfold four
  rw [Fin.sum_univ_four]
  rfl

include hx0 hx1 in
/-- The first point's scratch: its own products. -/
theorem scratch_A (hc0 : cond0_0 i) (hc1 : ¬cond0_1 i) (hc2 : ¬cond0_2 i) :
    At2 (a := 1024) (b := 1024) (sout0_A_0 c i arg3 harg3 arg4 harg4 arg5 harg5 arg6 harg6 hc0 hc1 hc2 x0 x1) (four (X 0) W) := fun y => by
  unfold sout0_A_0
  refine (congrFun (View.read_writes_junk_eq_canon _ _) y).trans (View.canon_apply_of_pieces (fun y => four (X 0) W (y 0).val (y 1).val) _ ?_ _ (scover0_A_0 c i arg3 harg3 arg4 harg4 arg5 harg5 arg6 harg6 hc0 hc1 hc2 x0 x1 _))
  unfold kernelRun0_A
  simp only [List.forall_mem_cons]
  exact ⟨put2 (φ := .f32) (at2_self (φ := .f32) (prods arg3 harg3 arg4 harg4 hx0 hx1)), by simp⟩

include hx0 hx1 hxs in
/-- A middle point's scratch: what was there and its own products. -/
theorem scratch_B (hc0 : ¬cond0_0 i) (hc1 : cond0_1 i) (hc2 : ¬cond0_2 i) :
    At2 (a := 1024) (b := 1024) (sout0_B_0 c i arg3 harg3 arg4 harg4 arg5 harg5 arg6 harg6 hc0 hc1 hc2 x0 x1 xs) (fun t j => A t j + four (X 0) W t j) := fun y => by
  unfold sout0_B_0
  refine (congrFun (View.read_writes_junk_eq_canon _ _) y).trans (View.canon_apply_of_pieces (fun y => A (y 0).val (y 1).val + four (X 0) W (y 0).val (y 1).val) _ ?_ _ (scover0_B_0 c i arg3 harg3 arg4 harg4 arg5 harg5 arg6 harg6 hc0 hc1 hc2 x0 x1 xs _))
  unfold kernelRun0_B
  simp only [List.forall_mem_cons]
  exact ⟨put2 (φ := .f32) (at2_self (φ := .f32) (at2_add (φ := .f32) (whole2w harg6 hxs) (prods arg3 harg3 arg4 harg4 hx0 hx1))), by simp⟩

include hx0 hx1 hxs in
/-- What the last point stores into its scratch. -/
theorem last_store : ∀ p ∈ kernelRun0_C.sl.HS0_1 (F := Ideal) c arg3 harg3 arg4 harg4 arg6 harg6 x0 x1 xs, ∀ x : p.1.shape.Idx,
    p.2 x = A (p.1.emb x 0).val (p.1.emb x 1).val + four (X 0) W (p.1.emb x 0).val (p.1.emb x 1).val := by
  unfold kernelRun0_C.sl.HS0_1
  simp only [List.forall_mem_cons]
  exact ⟨put2 (φ := .f32) (f := fun t j => A t j + four (X 0) W t j) (at2_self (φ := .f32) (at2_add (φ := .f32) (whole2w harg6 hxs) (prods arg3 harg3 arg4 harg4 hx0 hx1))), by simp⟩

include hx0 hx1 hxs in
/-- The last point's output: what its scratch holds. -/
theorem out_C (hc0 : ¬cond0_0 i) (hc1 : cond0_1 i) (hc2 : cond0_2 i) :
    At2 (a := 1024) (b := 1024) (out0_C_2 c i arg3 harg3 arg4 harg4 arg5 harg5 arg6 harg6 hc0 hc1 hc2 x0 x1 xs) (fun t j => A t j + four (X 0) W t j) := fun y => by
  unfold out0_C_2
  refine (congrFun (View.read_writes_junk_eq_canon _ _) y).trans (View.canon_apply_of_pieces (fun y => A (y 0).val (y 1).val + four (X 0) W (y 0).val (y 1).val) _ ?_ _ (cover0_C_2 c i arg3 harg3 arg4 harg4 arg5 harg5 arg6 harg6 hc0 hc1 hc2 x0 x1 xs _))
  unfold kernelRun0_C
  simp only [List.forall_mem_cons]
  refine ⟨put2 (φ := .f32) (f := fun t j => A t j + four (X 0) W t j) ?_, by simp⟩
  intro y
  unfold kernelRun0_C.sl.v32
  rw [View.readCov_eq_canon']
  refine (View.canon_apply_of_pieces (fun y => A (y 0).val (y 1).val + four (X 0) W (y 0).val (y 1).val) _ (last_store c arg3 harg3 arg4 harg4 arg6 harg6 hx0 hx1 hxs) _
    (View.cover_of_tiledL (kernelRun0_C.sl.HS0_1 c arg3 harg3 arg4 harg4 arg6 harg6 x0 x1 xs) S1024x1024.size (by sl_kernel_rfl) _)).trans ?_
  show A (0 + 1 * (y 0).val) (0 + 1 * (y 1).val) + four (X 0) W (0 + 1 * (y 0).val) (0 + 1 * (y 1).val) = _
  simp only [Nat.zero_add, Nat.one_mul]
end Body
end Cert.Dx

end
-- ==== Proof.DxRun.lean ====
/- The gradient of the feed-forward layer's input: the kernel's sixteen grid points, four to a block of the result, and
   what the result holds after them. -/
module

public import proofs.«01_k».proof.Proof.DxBody
public import proofs.«01_k».proof.Proof.Gathered

@[expose] public section

set_option maxRecDepth 16384

noncomputable section

namespace Cert.Dx

open Cert.FfnDxIdeal Cert.FfnDxIdeal.Gen Idealize.ShloMosaic Idealize.ShloMosaic.TcCoe Idealize.ShloMosaic.ValueIdx Cert.Prod

/-- What the `k`-th of four points adds to the result: the products over four devices' gate or up columns. -/
def part (B : ℕ → ℕ → ℕ → ℕ → EReal) (W : ℕ → ℕ → ℕ → EReal) (k : ℕ) : ℕ → ℕ → EReal :=
  four (fun c s f => B (k / 2) (4 * (k % 2) + c) s f) (fun c f n => W (4 * (k % 2) + c) (704 * (k / 2) + f) n)

variable (m : (ℓ : Loc nD τ sig) → Buf (Elt Ideal) ℓ) (c : Dev nD)
variable {B : ℕ → ℕ → ℕ → ℕ → EReal} {G U : ℕ → ℕ → EReal}
  (hb : At4 (m ((c : Thread nD τ).loc main_arg0) : S2x8x2048x704.Idx → EReal) B)
  (hg : At2 (m ((c : Thread nD τ).loc main_arg1) : S2048x5632.Idx → EReal) G)
  (hu : At2 (m ((c : Thread nD τ).loc main_arg2) : S2048x5632.Idx → EReal) U)

/-! ## The arrays the kernel reads -/

theorem V_dab : V m c main_v0 = shapeCast S4x4x2048x704 (m ((c : Thread nD τ).loc main_arg0)) shapeCasts_S2x8x2048x704_S4x4x2048x704 := rfl
theorem V_gathered : V m c main_v6 = truncf (F := Ideal) .bf16 (concatenate S8x1408x2048 1
    [⟨S8x704x2048, shapeCast S8x704x2048 (transpose S5632x2048 [1, 0] (m ((c : Thread nD τ).loc main_arg1)) transposes_S2048x5632_S5632x2048_1_0) shapeCasts_S5632x2048_S8x704x2048⟩,
     ⟨S8x704x2048, shapeCast S8x704x2048 (transpose S5632x2048 [1, 0] (m ((c : Thread nD τ).loc main_arg2)) transposes_S2048x5632_S5632x2048_1_0) shapeCasts_S5632x2048_S8x704x2048⟩]
    concatenates_S8x704x2048_S8x704x2048_S8x1408x2048_d1 : FVec Ideal S8x1408x2048 .f32) bitsLt_bf16_f32 := rfl

include hb in
theorem dab_at : At4 (V m c main_v0 : S4x4x2048x704.Idx → EReal) (fun k c s f => B (k / 2) (4 * (k % 2) + c) s f) := fun i => by
  have h0 : (i 0).val < 4 := (i 0).isLt
  have h1 : (i 1).val < 4 := (i 1).isLt
  have h2 : (i 0).val / 2 < 2 := by omega
  have h3 : 4 * ((i 0).val % 2) + (i 1).val < 8 := by omega
  refine (congrFun (V_dab m c) i).trans ((shapeCast_apply (s := S2x8x2048x704) (t := S4x4x2048x704) _ _ i (ValueIdx.ix4 ⟨(i 0).val / 2, h2⟩ ⟨4 * ((i 0).val % 2) + (i 1).val, h3⟩ (i 2) (i 3)) ?_).trans (hb _))
  rw [Shape.rowMajor_val_four, Shape.rowMajor_val_four]
  show (((i 0).val / 2 * 8 + (4 * ((i 0).val % 2) + (i 1).val)) * 2048 + (i 2).val) * 704 + (i 3).val = (((i 0).val * 4 + (i 1).val) * 2048 + (i 2).val) * 704 + (i 3).val
  rw [show (i 0).val / 2 * 8 + (4 * ((i 0).val % 2) + (i 1).val) = (i 0).val * 4 + (i 1).val by omega]

include hg hu in
theorem weights_at : At3 (V m c main_v6 : S8x1408x2048.Idx → EReal) (gath G U) := fun i =>
  (congrFun (V_gathered m c) i).trans (gathered_at hg hu i)

/-! ## The blocks -/

theorem index0 : ∀ t : Fin cfg0.N, win0_0.index t 0 = t.val % 4 ∧ win0_0.index t 1 = 0 ∧ win0_0.index t 2 = t.val / 8 ∧ win0_0.index t 3 = 0 :=
  (by decide +kernel : ∀ t : Fin grid0.N, win0_0.index t 0 = t.val % 4 ∧ win0_0.index t 1 = 0 ∧ win0_0.index t 2 = t.val / 8 ∧ win0_0.index t 3 = 0)
theorem index1 : ∀ t : Fin cfg0.N, win0_1.index t 0 = t.val % 4 % 2 ∧ win0_1.index t 1 = t.val % 4 / 2 ∧ win0_1.index t 2 = t.val / 4 % 2 :=
  (by decide +kernel : ∀ t : Fin grid0.N, win0_1.index t 0 = t.val % 4 % 2 ∧ win0_1.index t 1 = t.val % 4 / 2 ∧ win0_1.index t 2 = t.val / 4 % 2)
theorem index2 : ∀ t : Fin cfg0.N, win0_2.index t 0 = t.val / 8 ∧ win0_2.index t 1 = t.val / 4 % 2 :=
  (by decide +kernel : ∀ t : Fin grid0.N, win0_2.index t 0 = t.val / 8 ∧ win0_2.index t 1 = t.val / 4 % 2)

include hb in
theorem in0 (t : Fin cfg0.N) : At4 (a := 1) (b := 4) (c := 1024) (d := 704) (iblk m c 0 t)
    (fun z c s f => B ((t.val % 4 + z) / 2) (4 * ((t.val % 4 + z) % 2) + c) (t.val / 8 * 1024 + s) f) := fun y => by
  refine (dab_at m c hb ((win0_0.rect t).emb y)).trans ?_
  obtain ⟨i0, i1, i2, i3⟩ := index0 t
  have e0 := win0_0.rect_emb_val t y 0
  have e1 := win0_0.rect_emb_val_of_index_zero t 1 i1 y
  have e2 := win0_0.rect_emb_val t y 2
  have e3 := win0_0.rect_emb_val_of_index_zero t 3 i3 y
  rw [i0] at e0
  rw [i2] at e2
  replace e0 : ((win0_0.rect t).emb y 0).val = t.val % 4 + (y 0).val := e0.trans (by rw [show win0_0.size 0 = 1 from rfl, Nat.mul_one])
  replace e2 : ((win0_0.rect t).emb y 2).val = t.val / 8 * 1024 + (y 2).val := e2
  dsimp only
  rw [e0, e1, e2, e3]

include hg hu in
theorem in1 (t : Fin cfg0.N) : At3 (a := 4) (b := 704) (c := 1024) (iblk m c 1 t)
    (fun c f n => gath G U (4 * (t.val % 4 % 2) + c) (704 * (t.val % 4 / 2) + f) (t.val / 4 % 2 * 1024 + n)) := fun y => by
  refine (weights_at m c hg hu ((win0_1.rect t).emb y)).trans ?_
  obtain ⟨i0, i1, i2⟩ := index1 t
  have e0 := win0_1.rect_emb_val t y 0
  have e1 := win0_1.rect_emb_val t y 1
  have e2 := win0_1.rect_emb_val t y 2
  rw [i0] at e0
  rw [i1] at e1
  rw [i2] at e2
  replace e0 : ((win0_1.rect t).emb y 0).val = 4 * (t.val % 4 % 2) + (y 0).val := e0.trans (congrArg (· + (y 0).val) (Nat.mul_comm _ _))
  replace e1 : ((win0_1.rect t).emb y 1).val = 704 * (t.val % 4 / 2) + (y 1).val := e1.trans (congrArg (· + (y 1).val) (Nat.mul_comm _ _))
  replace e2 : ((win0_1.rect t).emb y 2).val = t.val / 4 % 2 * 1024 + (y 2).val := e2
  rw [e0, e1, e2]

/-- A point's blocks make its part of the result. -/
theorem four_part (t i j : ℕ) : four (fun c s f => B ((t % 4 + 0) / 2) (4 * ((t % 4 + 0) % 2) + c) (t / 8 * 1024 + s) f)
    (fun c f n => gath G U (4 * (t % 4 % 2) + c) (704 * (t % 4 / 2) + f) (t / 4 % 2 * 1024 + n)) i j
      = part B (gath G U) (t % 4) (t / 8 * 1024 + i) (t / 4 % 2 * 1024 + j) := rfl

/-! ## The sums over the points -/

theorem snd_of_eq {o : Vec Ideal S1024x1024 .f32 × Vec Ideal S1024x1024 .f32} {o1 o2 : Vec Ideal S1024x1024 .f32} {f : ℕ → ℕ → EReal} (h : o = (o1, o2))
    (h2 : At2 (a := 1024) (b := 1024) o2 f) : At2 (a := 1024) (b := 1024) o.2 f := by subst h; exact h2
theorem fst_of_eq {o : Vec Ideal S1024x1024 .f32 × Vec Ideal S1024x1024 .f32} {o1 o2 : Vec Ideal S1024x1024 .f32} {f : ℕ → ℕ → EReal} (h : o = (o1, o2))
    (h1 : At2 (a := 1024) (b := 1024) o1 f) : At2 (a := 1024) (b := 1024) o.1 f := by subst h; exact h1

/-- The parts of the first `n` of a block's points, added. -/
def sofar (B : ℕ → ℕ → ℕ → ℕ → EReal) (W : ℕ → ℕ → ℕ → EReal) (t n i j : ℕ) : EReal :=
  ∑ k ∈ Finset.range n, part B W k (t / 8 * 1024 + i) (t / 4 % 2 * 1024 + j)

theorem sofar_succ {W : ℕ → ℕ → ℕ → EReal} {t : ℕ} (h : ¬t % 4 = 0) (i j : ℕ) :
    sofar B W (t - 1) ((t - 1) % 4 + 1) i j + part B W (t % 4) (t / 8 * 1024 + i) (t / 4 % 2 * 1024 + j) = sofar B W t (t % 4 + 1) i j := by
  unfold sofar
  rw [show (t - 1) % 4 + 1 = t % 4 by omega, show (t - 1) / 8 = t / 8 by omega, show (t - 1) / 4 = t / 4 by omega, Finset.sum_range_succ]

include hb hg hu in
/-- The scratch after a point that is not the last of its block. -/
theorem scratch (n : ℕ) (hn : n < cfg0.N) (h3 : ¬n % 4 = 3) :
    At2 (a := 1024) (b := 1024) (outsAt0 m c n hn).2 (sofar B (gath G U) n (n % 4 + 1)) := by
  induction n using Nat.strong_induction_on with
  | _ n ih =>
    have hc1 := hcond0_1 ⟨n, hn⟩
    have hc2 : ¬cond0_2 (grid0.coords ⟨n, hn⟩) := fun h => h3 ((hcond0_2 ⟨n, hn⟩).mp h)
    by_cases h0 : n % 4 = 0
    · have h1 : ¬1 ≤ n % 4 := by omega
      refine at2_congr (snd_of_eq (outsAt0_A m c ⟨n, hn⟩ h0 h1 h3) (scratch_A c _ _ _ _ _ _ _ _ _ (in0 m c hb ⟨n, hn⟩) (in1 m c hg hu ⟨n, hn⟩) _ _ _)) fun i j _ _ => ?_
      refine (four_part n i j).trans ?_
      unfold sofar
      rw [h0, Finset.sum_range_one]
    · have h1 : 1 ≤ n % 4 := by omega
      have hp := ih (n - 1) (by omega) (Nat.lt_of_le_of_lt (Nat.sub_le _ _) hn) (by omega)
      refine at2_congr (snd_of_eq (outsAt0_B m c ⟨n, hn⟩ h0 h1 h3) (scratch_B c _ _ _ _ _ _ _ _ _ (in0 m c hb ⟨n, hn⟩) (in1 m c hg hu ⟨n, hn⟩) hp _ _ _)) fun i j _ _ => ?_
      exact sofar_succ h0 i j

include hb hg hu in
/-- The output's block after the last point of a block. -/
theorem block (t : Fin cfg0.N) (h3 : t.val % 4 = 3) :
    At2 (a := 1024) (b := 1024) (outsAt0 m c t.val t.isLt).1 (sofar B (gath G U) t.val 4) := by
  have h0 : ¬t.val % 4 = 0 := by omega
  have h1 : 1 ≤ t.val % 4 := by omega
  have hp := scratch m c hb hg hu (t.val - 1) (Nat.lt_of_le_of_lt (Nat.sub_le _ _) t.isLt) (by omega)
  refine at2_congr (fst_of_eq (outsAt0_C m c t h0 h1 h3) (out_C c _ _ _ _ _ _ _ _ _ (in0 m c hb t) (in1 m c hg hu t) hp _ _ _)) fun i j _ _ => ?_
  refine (sofar_succ (W := gath G U) h0 i j).trans ?_
  rw [h3]

/-! ## The result -/

include hb hg hu in
theorem result (i : S2048x2048.Idx) : ((dats m 0 c).arrAt 2 cfg0.N : S2048x2048.Idx → EReal) i
    = ∑ k ∈ Finset.range 4, part B (gath G U) k (i 0).val (i 1).val := by
  refine (dats m 0 c).arrAt_forall_of_covers 2 (fun (i : S2048x2048.Idx) (v : EReal) => v = ∑ k ∈ Finset.range 4, part B (gath G U) k (i 0).val (i 1).val) (by decide +kernel) (fun t hf y => ?_) i
  have h3 : t.val % 4 = 3 := (flush0_2 t).mp hf
  show (dats m 0 c).after 2 t y = _
  rw [after0_2]
  refine (block m c hb hg hu t h3 y).trans ?_
  obtain ⟨i0, i1⟩ := index2 t
  have e0 := win0_2.rect_emb_val t y 0
  have e1 := win0_2.rect_emb_val t y 1
  rw [i0] at e0
  rw [i1] at e1
  have e0' : (((cfg0.win 2).blk t).view.emb y 0).val = t.val / 8 * 1024 + (y 0).val := e0
  have e1' : (((cfg0.win 2).blk t).view.emb y 1).val = t.val / 4 % 2 * 1024 + (y 1).val := e1
  unfold sofar
  rw [e0', e1']

end Cert.Dx

end
-- ==== Proof.Dx.lean ====
/- The gradient of the feed-forward layer's input: the kernel's result is the reference's. -/
module

public import proofs.«01_k».proof.Proof.DxRun
public import proofs.«01_k».proof.Proof.Gen.FfnDx.Frame
public import proofs.«01_k».proof.Proof.Gen.FfnDxReferenceIdeal.Run
public import proofs.«01_k».proof.Proof.Gen.FfnDxReferenceIdeal.Read
public import proofs.«01_k».proof.Defs

@[expose] public section

set_option maxRecDepth 16384

noncomputable section

namespace Cert.Dx

open Idealize.ShloMosaic Idealize.ShloMosaic.TcCoe Idealize.SL.Sem Cert.Prod

variable {B : ℕ → ℕ → ℕ → ℕ → EReal} {G U : ℕ → ℕ → EReal}

/-- The four points' parts are the sums over all columns of the gate and of the up projection. -/
theorem parts (r n : ℕ) : ∑ k ∈ Finset.range 4, part B (gath G U) k r n
    = (∑ k : Fin 5632, B 1 (k.val / 704) r (k.val % 704) * U n k.val) + ∑ k : Fin 5632, B 0 (k.val / 704) r (k.val % 704) * G n k.val := by
  have hs : ∀ (p : ℕ) (V : ℕ → ℕ → EReal), ∑ k : Fin 5632, B p (k.val / 704) r (k.val % 704) * V n k.val
      = ∑ e : Fin 8, ∑ f : Fin 704, B p e.val r f.val * V n (e.val * 704 + f.val) := fun p V => by
    refine (sum_blocks 8 704 (fun k => B p (k / 704) r (k % 704) * V n k)).trans (Finset.sum_congr rfl fun e _ => Finset.sum_congr rfl fun f _ => ?_)
    have hf : f.val < 704 := f.isLt
    rw [show (e.val * 704 + f.val) / 704 = e.val by omega, show (e.val * 704 + f.val) % 704 = f.val by omega]
  have hg : ∀ e : ℕ, (∑ f : Fin 704, B 0 e r f.val * gath G U e (704 * 0 + f.val) n) = ∑ f : Fin 704, B 0 e r f.val * G n (e * 704 + f.val) := fun e =>
    Finset.sum_congr rfl fun f _ => by unfold gath; rw [if_pos (by have := f.isLt; omega), Nat.mul_zero, Nat.zero_add]
  have hu : ∀ e : ℕ, (∑ f : Fin 704, B 1 e r f.val * gath G U e (704 * 1 + f.val) n) = ∑ f : Fin 704, B 1 e r f.val * U n (e * 704 + f.val) := fun e =>
    Finset.sum_congr rfl fun f _ => by unfold gath; rw [if_neg (by omega), show 704 * 1 + f.val - 704 = f.val by omega]
  have h0 : part B (gath G U) 0 r n = ∑ c : Fin 4, ∑ f : Fin 704, B 0 c.val r f.val * G n (c.val * 704 + f.val) := by
    unfold part four
    exact Finset.sum_congr rfl fun c _ => by simpa using hg c.val
  have h1 : part B (gath G U) 1 r n = ∑ c : Fin 4, ∑ f : Fin 704, B 0 (4 + c.val) r f.val * G n ((4 + c.val) * 704 + f.val) := by
    unfold part four
    exact Finset.sum_congr rfl fun c _ => by simpa using hg (4 + c.val)
  have h2 : part B (gath G U) 2 r n = ∑ c : Fin 4, ∑ f : Fin 704, B 1 c.val r f.val * U n (c.val * 704 + f.val) := by
    unfold part four
    exact Finset.sum_congr rfl fun c _ => by simpa using hu c.val
  have h3 : part B (gath G U) 3 r n = ∑ c : Fin 4, ∑ f : Fin 704, B 1 (4 + c.val) r f.val * U n ((4 + c.val) * 704 + f.val) := by
    unfold part four
    exact Finset.sum_congr rfl fun c _ => by simpa using hu (4 + c.val)
  have hh : ∀ g : ℕ → EReal, ∑ e : Fin 8, g e.val = ∑ c : Fin 4, g c.val + ∑ c : Fin 4, g (4 + c.val) := fun g => by
    rw [show (8 : ℕ) = 4 + 4 from rfl, Fin.sum_univ_add]
    rfl
  rw [hs 1 U, hs 0 G, hh fun e => ∑ f : Fin 704, B 1 e r f.val * U n (e * 704 + f.val), hh fun e => ∑ f : Fin 704, B 0 e r f.val * G n (e * 704 + f.val),
    ← h0, ← h1, ← h2, ← h3]
  simp only [Finset.sum_range_succ, Finset.sum_range_zero, zero_add]
  ac_rfl

section Reference
open Cert.FfnDxReferenceIdeal Cert.FfnDxReferenceIdeal.Gen Cert.FfnDxReferenceIdeal.Read

variable {b : S2x8x2048x704.Idx → EReal} {g u : S2048x5632.Idx → EReal}

theorem ref_layout (hb : At4 b B) (i : S2x2048x5632.Idx) : val_main_v5 (F := Ideal) b i = B (i 0).val ((i 2).val / 704) (i 1).val ((i 2).val % 704) := by
  have h0 : (i 0).val < 2 := (i 0).isLt
  have h1 : (i 1).val < 2048 := (i 1).isLt
  have h2 : (i 2).val < 5632 := (i 2).isLt
  rw [val_main_v5_apply, val_main_v4_apply, val_main_v3_apply]
  refine (hb _).trans ?_
  show B ((((i 0).val * 2048 + (i 1).val) * 5632 + (i 2).val) / 11534336) ((((i 0).val * 2048 + (i 1).val) * 5632 + (i 2).val) / 704 % 8)
    ((((i 0).val * 2048 + (i 1).val) * 5632 + (i 2).val) / 5632 % 2048) ((((i 0).val * 2048 + (i 1).val) * 5632 + (i 2).val) % 704) = _
  congr 1 <;> omega

theorem ref_gate (hb : At4 b B) (i : S2048x5632.Idx) : val_main_v7 (F := Ideal) b i = B 0 ((i 1).val / 704) (i 0).val ((i 1).val % 704) := by
  have h0 : (i 0).val < 2048 := (i 0).isLt
  have h1 : (i 1).val < 5632 := (i 1).isLt
  rw [val_main_v7_apply, val_main_v6_apply, ref_layout hb]
  show B 0 (((i 0).val * 5632 + (i 1).val) % 5632 / 704) (((i 0).val * 5632 + (i 1).val) / 5632 % 2048) (((i 0).val * 5632 + (i 1).val) % 5632 % 704) = _
  congr 1 <;> omega

theorem ref_up (hb : At4 b B) (i : S2048x5632.Idx) : val_main_v9 (F := Ideal) b i = B 1 ((i 1).val / 704) (i 0).val ((i 1).val % 704) := by
  have h0 : (i 0).val < 2048 := (i 0).isLt
  have h1 : (i 1).val < 5632 := (i 1).isLt
  rw [val_main_v9_apply, val_main_v8_apply, ref_layout hb]
  show B 1 (((i 0).val * 5632 + (i 1).val) % 5632 / 704) (((i 0).val * 5632 + (i 1).val) / 5632 % 2048) (((i 0).val * 5632 + (i 1).val) % 5632 % 704) = _
  congr 1 <;> omega

theorem ref (hb : At4 b B) (hg : At2 g G) (hu : At2 u U) (i : S2048x2048.Idx) : val_main_v12 (F := Ideal) b g u i
    = (∑ k : Fin 5632, B 1 (k.val / 704) (i 0).val (k.val % 704) * U (i 1).val k.val) + ∑ k : Fin 5632, B 0 (k.val / 704) (i 0).val (k.val % 704) * G (i 1).val k.val := by
  rw [val_main_v12_apply, val_main_v10_apply, val_main_v11_apply]
  refine congrArg₂ (fun a b : EReal => a + b) (Finset.sum_congr rfl fun k _ => ?_) (Finset.sum_congr rfl fun k _ => ?_)
  · rw [ref_up hb, hu]
  · rw [ref_gate hb, hg]

end Reference

theorem frame_p : Cert.quiescent_FfnDx := fun m ρ _ => Cert.FfnDx.Gen.frame m ρ
theorem frame_pi : Cert.quiescent_FfnDxIdeal := fun m ρ _ => Cert.FfnDxIdeal.Gen.frame m ρ
theorem frame_ri : Cert.quiescent_FfnDxReferenceIdeal := fun m ρ _ =>
  (θ_run Cert.FfnDxReferenceIdeal.defs _ _).mono
    (fun r h => ⟨fun c => (h c).2, sem_eq_zero_of_no_sems (by decide) r.2⟩) (Cert.FfnDxReferenceIdeal.Value.run (F := Ideal) m ρ)
theorem preserves : Cert.preserves_FfnDx_FfnDxIdeal := trivial

theorem algebraic : Cert.algebraic_FfnDxIdeal_FfnDxReferenceIdeal := fun m ρ m' ρ' hpre hargs => by
  refine ⟨fun c => (Cert.FfnDxIdeal.Gen.dats m 0 c).arrAt 2 Cert.FfnDxIdeal.cfg0.N, Cert.FfnDxIdeal.Value.run_blocks m ρ, ?_⟩
  refine (θ_run Cert.FfnDxReferenceIdeal.defs _ _).mono (fun r h c => ?_) (Cert.FfnDxReferenceIdeal.Value.run (F := Ideal) m' ρ')
  obtain ⟨r0, rest⟩ := h c
  obtain ⟨a0, a1, a2⟩ := hargs c
  have hb := at4_ent (a := 2) (b := 8) (c := 2048) (d := 704) (m (c.tc.loc Cert.FfnDxIdeal.main_arg0))
  have hg := at2_ent (a := 2048) (b := 5632) (m (c.tc.loc Cert.FfnDxIdeal.main_arg1))
  have hu := at2_ent (a := 2048) (b := 5632) (m (c.tc.loc Cert.FfnDxIdeal.main_arg2))
  refine ⟨r0.trans ?_, rest⟩
  rw [Cert.FfnDxReferenceIdeal.Read.val_main_v12_eq, a0, a1, a2]
  exact funext fun i => (ref hb hg hu i).trans ((result m c hb hg hu i).trans (parts _ _)).symm

end Cert.Dx

end
-- ==== Proof.DwTable.lean ====
/- The two calls that make the weights' gradients read a table of two numbers that picks the device's half of the
   stacks. It holds zeros here, so every block lies inside its array. -/
module

public import proofs.«01_k».proof.Proof.Gen.FfnDwDown.Frame
public import proofs.«01_k».proof.Proof.Gen.FfnDwDownIdeal.Frame
public import proofs.«01_k».proof.Proof.Gen.FfnDwUp.Frame
public import proofs.«01_k».proof.Proof.Gen.FfnDwUpIdeal.Frame
public import Idealize.ShloMosaic.Lib.Pipeline.Value

@[expose] public section

set_option maxRecDepth 16384

noncomputable section

namespace Cert.DwTable

open Idealize.ShloMosaic Idealize.ShloMosaic.TcCoe

/-- Two numbers, the same, joined are an array of that number. -/
theorem joined {α : Type} {a b : (⟨1, ![1]⟩ : Shape).Idx → α} {v : α} (ha : ∀ i, a i = v) (hb : ∀ i, b i = v)
    (h : Shape.Concatenates [⟨1, ![1]⟩, ⟨1, ![1]⟩] ⟨1, ![2]⟩ 0) (i : (⟨1, ![2]⟩ : Shape).Idx) :
    concatenate ⟨1, ![2]⟩ 0 [⟨⟨1, ![1]⟩, a⟩, ⟨⟨1, ![1]⟩, b⟩] h i = v := by
  have h2 : (i 0).val < 2 := (i 0).isLt
  by_cases h0 : (i 0).val = 0
  · exact (concatenate_pair_apply_left 0 a b h i rfl (fun x => ⟨0, by fin_cases x; exact Nat.one_pos⟩) (fun x => by fin_cases x; exact h0.symm)).trans (ha _)
  · refine (concatenate_pair_apply_right 0 a b h i rfl rfl (fun x => ⟨0, by fin_cases x; exact Nat.one_pos⟩) (fun x hx => absurd (by fin_cases x; rfl) hx) ?_).trans (hb _)
    show 0 + 1 = (i 0).val
    omega

variable {F : FTy → Type} [FloatOps F]

section
open Cert.FfnDwDown Cert.FfnDwDown.Gen
variable (m : (ℓ : Loc nD τ sig) → Buf (Elt F) ℓ)

theorem down_table : V m 0 main_v3 = concatenate S2 0 [⟨S1, broadcastInDim S1 ![] bcast_S_S1 (constantI S_ 32 0#32)⟩,
    ⟨S1, broadcastInDim S1 ![] bcast_S_S1 (constantI S_ 32 0#32)⟩] concatenates_S1_S1_S2_d0 := rfl

theorem down_index : cc0_transform_0 inb_S2_S1_0 numel1_S1 (tbl m) = fun i => ![(BitVec.ofNat 32 (i 0).val).toNat, 0, 0, 0] := funext fun i => by
  have h : (tbl m).at 0 (Rect.unit (s := S2) ![0] S1.size inb_S2_S1_0) numel1_S1 = 0#32 :=
    (congrFun (down_table m) _).trans (joined (v := 0#32) (fun _ => rfl) (fun _ => rfl) concatenates_S1_S1_S2_d0 _)
  unfold cc0_transform_0
  rw [h]
  rfl

theorem down_ok : Ok m := by
  show ok0 (tbl m)
  unfold ok0
  rw [down_index]
  exact fun i => ⟨(by decide +kernel : ∀ (i : grid0.Coords) a, ((![(BitVec.ofNat 32 (i 0).val).toNat, 0, 0, 0] : Fin 4 → ℕ) a + 1) * S1x1x2048x704.size a ≤ S4x2x2048x704.size a) i,
    .inr (Affine.block_words_dvd (of_decide_eq_true rfl) (by decide))⟩
end

section
open Cert.FfnDwDownIdeal Cert.FfnDwDownIdeal.Gen
variable (m : (ℓ : Loc nD τ sig) → Buf (Elt F) ℓ)

theorem downI_table : V m 0 main_v3 = concatenate S2 0 [⟨S1, broadcastInDim S1 ![] bcast_S_S1 (constantI S_ 32 0#32)⟩,
    ⟨S1, broadcastInDim S1 ![] bcast_S_S1 (constantI S_ 32 0#32)⟩] concatenates_S1_S1_S2_d0 := rfl

theorem downI_index : cc0_transform_0 inb_S2_S1_0 numel1_S1 (tbl m) = fun i => ![(BitVec.ofNat 32 (i 0).val).toNat, 0, 0, 0] := funext fun i => by
  have h : (tbl m).at 0 (Rect.unit (s := S2) ![0] S1.size inb_S2_S1_0) numel1_S1 = 0#32 :=
    (congrFun (downI_table m) _).trans (joined (v := 0#32) (fun _ => rfl) (fun _ => rfl) concatenates_S1_S1_S2_d0 _)
  unfold cc0_transform_0
  rw [h]
  rfl

theorem downI_ok : Ok m := by
  show ok0 (tbl m)
  unfold ok0
  rw [downI_index]
  exact fun i => ⟨(by decide +kernel : ∀ (i : grid0.Coords) a, ((![(BitVec.ofNat 32 (i 0).val).toNat, 0, 0, 0] : Fin 4 → ℕ) a + 1) * S1x1x2048x704.size a ≤ S4x2x2048x704.size a) i,
    .inr (Affine.block_words_dvd (of_decide_eq_true rfl) (by decide))⟩
end

section
open Cert.FfnDwUp Cert.FfnDwUp.Gen
variable (m : (ℓ : Loc nD τ sig) → Buf (Elt F) ℓ)

theorem up_table : V m 0 main_v3 = concatenate S2 0 [⟨S1, broadcastInDim S1 ![] bcast_S_S1 (constantI S_ 32 0#32)⟩,
    ⟨S1, broadcastInDim S1 ![] bcast_S_S1 (constantI S_ 32 0#32)⟩] concatenates_S1_S1_S2_d0 := rfl

theorem up_index : cc0_transform_0 inb_S2_S1_0 numel1_S1 (tbl m) = fun i => ![(BitVec.ofNat 32 (i 0).val).toNat, (BitVec.ofNat 32 (i 1).val).toNat, 0, 0, 0] := funext fun i => by
  have h : (tbl m).at 0 (Rect.unit (s := S2) ![0] S1.size inb_S2_S1_0) numel1_S1 = 0#32 :=
    (congrFun (up_table m) _).trans (joined (v := 0#32) (fun _ => rfl) (fun _ => rfl) concatenates_S1_S1_S2_d0 _)
  unfold cc0_transform_0
  rw [h]
  rfl

theorem up_ok : Ok m := by
  show ok0 (tbl m)
  unfold ok0
  rw [up_index]
  exact fun i => ⟨(by decide +kernel : ∀ (i : grid0.Coords) a, ((![(BitVec.ofNat 32 (i 0).val).toNat, (BitVec.ofNat 32 (i 1).val).toNat, 0, 0, 0] : Fin 5 → ℕ) a + 1) * S1x1x1x2048x704.size a ≤ S2x4x2x2048x704.size a) i,
    .inr (Affine.block_words_dvd (of_decide_eq_true rfl) (by decide))⟩
end

section
open Cert.FfnDwUpIdeal Cert.FfnDwUpIdeal.Gen
variable (m : (ℓ : Loc nD τ sig) → Buf (Elt F) ℓ)

theorem upI_table : V m 0 main_v3 = concatenate S2 0 [⟨S1, broadcastInDim S1 ![] bcast_S_S1 (constantI S_ 32 0#32)⟩,
    ⟨S1, broadcastInDim S1 ![] bcast_S_S1 (constantI S_ 32 0#32)⟩] concatenates_S1_S1_S2_d0 := rfl

theorem upI_index : cc0_transform_0 inb_S2_S1_0 numel1_S1 (tbl m) = fun i => ![(BitVec.ofNat 32 (i 0).val).toNat, (BitVec.ofNat 32 (i 1).val).toNat, 0, 0, 0] := funext fun i => by
  have h : (tbl m).at 0 (Rect.unit (s := S2) ![0] S1.size inb_S2_S1_0) numel1_S1 = 0#32 :=
    (congrFun (upI_table m) _).trans (joined (v := 0#32) (fun _ => rfl) (fun _ => rfl) concatenates_S1_S1_S2_d0 _)
  unfold cc0_transform_0
  rw [h]
  rfl

theorem upI_ok : Ok m := by
  show ok0 (tbl m)
  unfold ok0
  rw [upI_index]
  exact fun i => ⟨(by decide +kernel : ∀ (i : grid0.Coords) a, ((![(BitVec.ofNat 32 (i 0).val).toNat, (BitVec.ofNat 32 (i 1).val).toNat, 0, 0, 0] : Fin 5 → ℕ) a + 1) * S1x1x1x2048x704.size a ≤ S2x4x2x2048x704.size a) i,
    .inr (Affine.block_words_dvd (of_decide_eq_true rfl) (by decide))⟩
end

end Cert.DwTable

end
-- ==== Proof.DwDownRun.lean ====
/- The gradient of the down projection's weights: what the kernel's eight grid points leave in the result. -/
module

public import proofs.«01_k».proof.Proof.Prod
public import proofs.«01_k».proof.Proof.DwTable

@[expose] public section

set_option maxRecDepth 16384

noncomputable section

namespace Cert.DwDown

open Cert.FfnDwDownIdeal Cert.FfnDwDownIdeal.Gen Idealize.ShloMosaic Idealize.ShloMosaic.TcCoe Idealize.ShloMosaic.Tactic Idealize.SL.Sem Cert.Prod Cert.DwTable

/-- Two products over the tokens, added: the own batch row's and its sibling's. -/
def both (X D Y E : ℕ → ℕ → EReal) (i j : ℕ) : EReal := (∑ s : Fin 2048, X s.val i * D s.val j) + ∑ s : Fin 2048, Y s.val i * E s.val j

section Body
variable (c : Dev nD) (i : grid0.Coords) (arg3 : Memref sig .tc .vmem S1x1x2048x704 .bf16) (harg3 : arg3.IsWhole)
  (arg4 : Memref sig .tc .vmem S2048x1024 .bf16) (harg4 : arg4.IsWhole) (arg5 : Memref sig .tc .vmem S1x2048x704 .bf16) (harg5 : arg5.IsWhole)
  (arg6 : Memref sig .tc .vmem S2048x1024 .bf16) (harg6 : arg6.IsWhole) (arg7 : Memref sig .tc .vmem S1x704x1024 .bf16) (harg7 : arg7.IsWhole)
  {x0 : Vec Ideal S1x1x2048x704 .bf16} {x1 : Vec Ideal S2048x1024 .bf16} {x2 : Vec Ideal S1x2048x704 .bf16} {x3 : Vec Ideal S2048x1024 .bf16}
  (xt0 : TbBuf0 (F := Ideal) c tbM0_0)
  {X : ℕ → ℕ → ℕ → ℕ → EReal} {D : ℕ → ℕ → EReal} {Y : ℕ → ℕ → ℕ → EReal} {E : ℕ → ℕ → EReal}
  (hx0 : At4 x0 X) (hx1 : At2 x1 D) (hx2 : At3 x2 Y) (hx3 : At2 x3 E)

include hx0 hx1 hx2 hx3 in
/-- What a point leaves in the result's block. -/
theorem out : At3 (a := 1) (b := 704) (c := 1024) (out0_A_4 c i arg3 harg3 arg4 harg4 arg5 harg5 arg6 harg6 arg7 harg7 x0 x1 x2 x3 xt0)
    (fun _ => both (X 0 0) D (Y 0) E) := fun y => by
  unfold out0_A_4
  refine (congrFun (View.read_writes_junk_eq_canon _ _) y).trans (View.canon_apply_of_pieces (fun y => both (X 0 0) D (Y 0) E (y 1).val (y 2).val) _ ?_ _ (cover0_A_4 c i arg3 harg3 arg4 harg4 arg5 harg5 arg6 harg6 arg7 harg7 x0 x1 x2 x3 xt0 _))
  unfold kernelRun0_A
  simp only [List.forall_mem_cons]
  exact ⟨put3 (p := 0) (φ := .bf16) (f := fun _ => both (X 0 0) D (Y 0) E) (at3_of2 (φ := .bf16) (at2_add (φ := .f32)
    (mulTN (M := 704) (K := 2048) (N := 1024) (φ₁ := .bf16) (φ₂ := .bf16) none (one4 harg3 hx0) (whole2 harg4 hx1))
    (mulTN (M := 704) (K := 2048) (N := 1024) (φ₁ := .bf16) (φ₂ := .bf16) none (one3 harg5 hx2) (whole2 harg6 hx3)))), by simp⟩

end Body

variable (m : (ℓ : Loc nD τ sig) → Buf (Elt Ideal) ℓ) (hO : Ok m) (c : Dev nD)
variable {H : ℕ → ℕ → ℕ → EReal} {D : ℕ → ℕ → EReal} {Y : ℕ → ℕ → ℕ → EReal} {E : ℕ → ℕ → EReal}
  (hh : At3 (m ((c : Thread nD τ).loc main_arg0) : S8x2048x704.Idx → EReal) H)
  (hd : At2 (m ((c : Thread nD τ).loc main_arg1) : S2048x2048.Idx → EReal) D)
  (hy : At3 (m ((c : Thread nD τ).loc main_arg2) : S4x2048x704.Idx → EReal) Y)
  (he : At2 (m ((c : Thread nD τ).loc main_arg3) : S2048x2048.Idx → EReal) E)

/-! ## The blocks -/

theorem V_hid : V m c main_v4 = shapeCast S4x2x2048x704 (m ((c : Thread nD τ).loc main_arg0)) shapeCasts_S8x2048x704_S4x2x2048x704 := rfl

include hh in
theorem hid_at : At4 (V m c main_v4 : S4x2x2048x704.Idx → EReal) (fun k h s f => H (2 * k + h) s f) := fun i => by
  have h0 : (i 0).val < 4 := (i 0).isLt
  have h1 : (i 1).val < 2 := (i 1).isLt
  refine (congrFun (V_hid m c) i).trans ((shapeCast_apply (s := S8x2048x704) (t := S4x2x2048x704) _ _ i (ValueIdx.ix3 ⟨2 * (i 0).val + (i 1).val, by omega⟩ (i 2) (i 3)) ?_).trans (hh _))
  rw [Shape.rowMajor_val_three, Shape.rowMajor_val_four]
  show ((2 * (i 0).val + (i 1).val) * 2048 + (i 2).val) * 704 + (i 3).val = (((i 0).val * 2 + (i 1).val) * 2048 + (i 2).val) * 704 + (i 3).val
  rw [Nat.mul_comm 2]

theorem index0 (t : Fin (cfgM m hO).N) : ((cfgM m hO).win 0).index t (0 : Fin 4) = t.val / 2 ∧ ((cfgM m hO).win 0).index t (1 : Fin 4) = 0
    ∧ ((cfgM m hO).win 0).index t (2 : Fin 4) = 0 ∧ ((cfgM m hO).win 0).index t (3 : Fin 4) = 0 := by
  have h : ((cfgM m hO).win 0).index t = ![(BitVec.ofNat 32 (grid0.coords t 0).val).toNat, 0, 0, 0] := congrFun (downI_index m) (grid0.coords t)
  rw [h]
  exact (by decide +kernel : ∀ t : Fin grid0.N, (![(BitVec.ofNat 32 (grid0.coords t 0).val).toNat, 0, 0, 0] : Fin 4 → ℕ) 0 = t.val / 2
    ∧ (![(BitVec.ofNat 32 (grid0.coords t 0).val).toNat, 0, 0, 0] : Fin 4 → ℕ) 1 = 0 ∧ (![(BitVec.ofNat 32 (grid0.coords t 0).val).toNat, 0, 0, 0] : Fin 4 → ℕ) 2 = 0
    ∧ (![(BitVec.ofNat 32 (grid0.coords t 0).val).toNat, 0, 0, 0] : Fin 4 → ℕ) 3 = 0) t
theorem index1 (t : Fin (cfgM m hO).N) : ((cfgM m hO).win 1).index t (0 : Fin 2) = 0 ∧ ((cfgM m hO).win 1).index t (1 : Fin 2) = t.val % 2 :=
  (by decide +kernel : ∀ t : Fin grid0.N, cc0_transform_1 (grid0.coords t) 0 = 0 ∧ cc0_transform_1 (grid0.coords t) 1 = t.val % 2) t
theorem index2 (t : Fin (cfgM m hO).N) : ((cfgM m hO).win 2).index t (0 : Fin 3) = t.val / 2 ∧ ((cfgM m hO).win 2).index t (1 : Fin 3) = 0 ∧ ((cfgM m hO).win 2).index t (2 : Fin 3) = 0 :=
  (by decide +kernel : ∀ t : Fin grid0.N, cc0_transform_2 (grid0.coords t) 0 = t.val / 2 ∧ cc0_transform_2 (grid0.coords t) 1 = 0 ∧ cc0_transform_2 (grid0.coords t) 2 = 0) t
theorem index3 (t : Fin (cfgM m hO).N) : ((cfgM m hO).win 3).index t (0 : Fin 2) = 0 ∧ ((cfgM m hO).win 3).index t (1 : Fin 2) = t.val % 2 :=
  (by decide +kernel : ∀ t : Fin grid0.N, cc0_transform_3 (grid0.coords t) 0 = 0 ∧ cc0_transform_3 (grid0.coords t) 1 = t.val % 2) t
theorem index4 (t : Fin (cfgM m hO).N) : ((cfgM m hO).win 4).index t (0 : Fin 3) = t.val / 2 ∧ ((cfgM m hO).win 4).index t (1 : Fin 3) = 0 ∧ ((cfgM m hO).win 4).index t (2 : Fin 3) = t.val % 2 :=
  (by decide +kernel : ∀ t : Fin grid0.N, cc0_transform_4 (grid0.coords t) 0 = t.val / 2 ∧ cc0_transform_4 (grid0.coords t) 1 = 0 ∧ cc0_transform_4 (grid0.coords t) 2 = t.val % 2) t

include hh in
theorem in0 (t : Fin (cfgM m hO).N) : At4 (a := 1) (b := 1) (c := 2048) (d := 704) (iblk m hO c 0 t)
    (fun k h s f => H (2 * (t.val / 2 + k) + h) s f) := fun y => by
  refine (hid_at m c hh (((cfgM m hO).win 0).rect t |>.emb y)).trans ?_
  obtain ⟨i0, i1, i2, i3⟩ := index0 m hO t
  have e0 := ((cfgM m hO).win 0).rect_emb_val t y (0 : Fin 4)
  have e1 := ((cfgM m hO).win 0).rect_emb_val_of_index_zero t (1 : Fin 4) i1 y
  have e2 := ((cfgM m hO).win 0).rect_emb_val_of_index_zero t (2 : Fin 4) i2 y
  have e3 := ((cfgM m hO).win 0).rect_emb_val_of_index_zero t (3 : Fin 4) i3 y
  rw [i0] at e0
  replace e0 : ((((cfgM m hO).win 0).rect t).emb y (0 : Fin 4)).val = t.val / 2 + (y 0).val := e0.trans (congrArg (· + (y 0).val) (Nat.mul_one _))
  dsimp only
  rw [e0, e1, e2, e3]

include hd in
theorem in1 (t : Fin (cfgM m hO).N) : At2 (a := 2048) (b := 1024) (iblk m hO c 1 t) (fun s j => D s (t.val % 2 * 1024 + j)) := fun y => by
  refine (congrFun (V_main_arg1 m c) _).trans ((hd (((cfgM m hO).win 1).rect t |>.emb y)).trans ?_)
  obtain ⟨i0, i1⟩ := index1 m hO t
  have e0 := ((cfgM m hO).win 1).rect_emb_val_of_index_zero t (0 : Fin 2) i0 y
  have e1 := ((cfgM m hO).win 1).rect_emb_val t y (1 : Fin 2)
  rw [i1] at e1
  replace e1 : ((((cfgM m hO).win 1).rect t).emb y (1 : Fin 2)).val = t.val % 2 * 1024 + (y 1).val := e1
  rw [e0, e1]

include hy in
theorem in2 (t : Fin (cfgM m hO).N) : At3 (a := 1) (b := 2048) (c := 704) (iblk m hO c 2 t) (fun k s f => Y (t.val / 2 + k) s f) := fun y => by
  refine (congrFun (V_main_arg2 m c) _).trans ((hy (((cfgM m hO).win 2).rect t |>.emb y)).trans ?_)
  obtain ⟨i0, i1, i2⟩ := index2 m hO t
  have e0 := ((cfgM m hO).win 2).rect_emb_val t y (0 : Fin 3)
  have e1 := ((cfgM m hO).win 2).rect_emb_val_of_index_zero t (1 : Fin 3) i1 y
  have e2 := ((cfgM m hO).win 2).rect_emb_val_of_index_zero t (2 : Fin 3) i2 y
  rw [i0] at e0
  replace e0 : ((((cfgM m hO).win 2).rect t).emb y (0 : Fin 3)).val = t.val / 2 + (y 0).val := e0.trans (congrArg (· + (y 0).val) (Nat.mul_one _))
  rw [e0, e1, e2]

include he in
theorem in3 (t : Fin (cfgM m hO).N) : At2 (a := 2048) (b := 1024) (iblk m hO c 3 t) (fun s j => E s (t.val % 2 * 1024 + j)) := fun y => by
  refine (congrFun (V_main_arg3 m c) _).trans ((he (((cfgM m hO).win 3).rect t |>.emb y)).trans ?_)
  obtain ⟨i0, i1⟩ := index3 m hO t
  have e0 := ((cfgM m hO).win 3).rect_emb_val_of_index_zero t (0 : Fin 2) i0 y
  have e1 := ((cfgM m hO).win 3).rect_emb_val t y (1 : Fin 2)
  rw [i1] at e1
  replace e1 : ((((cfgM m hO).win 3).rect t).emb y (1 : Fin 2)).val = t.val % 2 * 1024 + (y 1).val := e1
  rw [e0, e1]

/-! ## The result -/

/-- The eight blocks make up the result. -/
theorem covers : ((cfgM m hO).win 4).Covers :=
  ⟨(by decide : ∀ a : Fin 3, 0 < S1x704x1024.size a), fun β => by
    have hn : (cfgM m hO).N = 8 := (by decide +kernel : grid0.N = 8)
    have b0 : (β (0 : Fin 3)).val < 4 := (β (0 : Fin 3)).isLt.trans_eq (by show (4 + 1 - 1) / 1 = 4; rfl)
    have b1 : (β (1 : Fin 3)).val < 1 := (β (1 : Fin 3)).isLt.trans_eq (by show (704 + 704 - 1) / 704 = 1; rfl)
    have b2 : (β (2 : Fin 3)).val < 2 := (β (2 : Fin 3)).isLt.trans_eq (by show (2048 + 1024 - 1) / 1024 = 2; rfl)
    have ht : 2 * (β (0 : Fin 3)).val + (β (2 : Fin 3)).val < (cfgM m hO).N := by rw [hn]; omega
    refine ⟨⟨_, ht⟩, flush0_4 (adm m hO) _, ?_⟩
    obtain ⟨i0, i1, i2⟩ := index4 m hO ⟨_, ht⟩
    dsimp only at i0 i1 i2
    exact fun (a : Fin 3) => ⟨match a with
      | 0 => i0.trans (by omega)
      | 1 => i1.trans (by omega)
      | 2 => i2.trans (by omega), .inl rfl⟩⟩

include hh hd hy he in
theorem result (i : S4x704x2048.Idx) : ((dats m hO 0 c).arrAt 4 (cfgM m hO).N : S4x704x2048.Idx → EReal) i
    = both (H (2 * (i 0).val)) D (Y (i 0).val) E (i 1).val (i 2).val := by
  refine (dats m hO 0 c).arrAt_forall_of_covers 4 (fun (i : S4x704x2048.Idx) (v : EReal) => v = both (H (2 * (i 0).val)) D (Y (i 0).val) E (i 1).val (i 2).val) ?_ (fun t hf (y : S1x704x1024.Idx) => ?_) i
  · exact covers m hO
  show (dats m hO 0 c).after 4 t y = _
  rw [after0_4]
  refine (out c _ _ _ _ _ _ _ _ _ _ _ _ (in0 m hO c hh t) (in1 m hO c hd t) (in2 m hO c hy t) (in3 m hO c he t) y).trans ?_
  obtain ⟨i0, i1, i2⟩ := index4 m hO t
  have e0 := ((cfgM m hO).win 4).rect_emb_val t y (0 : Fin 3)
  have e1 := ((cfgM m hO).win 4).rect_emb_val_of_index_zero t (1 : Fin 3) i1 y
  have e2 := ((cfgM m hO).win 4).rect_emb_val t y (2 : Fin 3)
  rw [i0] at e0
  rw [i2] at e2
  have hy0 := (y 0).isLt; change (y 0).val < 1 at hy0
  have e0' : ((((cfgM m hO).win 4).blk t).view.emb y (0 : Fin 3)).val = t.val / 2 := (e0.trans (congrArg (· + (y 0).val) (Nat.mul_one _))).trans (by omega)
  have e1' : ((((cfgM m hO).win 4).blk t).view.emb y (1 : Fin 3)).val = (y 1).val := e1
  have e2' : ((((cfgM m hO).win 4).blk t).view.emb y (2 : Fin 3)).val = t.val % 2 * 1024 + (y 2).val := e2
  rw [e0', e1', e2']
  rfl

/-- What a run of the program leaves. -/
theorem run (ρ : Dev nD → PrngReg) : θ_run defs (onTc (τ := τ) (main (F := Ideal))) ⟨m, fun _ => 0, ρ⟩ (fun r => ∀ c : Dev nD,
    r.2.mem ((c.tc : Thread nD τ).loc main_v5) = (dats m (downI_ok m) 0 c).arrAt 4 (cfgM m (downI_ok m)).N
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) :=
  have h5 : θ_run defs (onTc (τ := τ) (main (F := Ideal))) ⟨m, fun _ => 0, ρ⟩ (fun r => ∀ c : Dev nD,
      r.2.mem ((c.tc : Thread nD τ).loc main_v5) = (dats m (downI_ok m) 0 c).arrAt 4 (cfgM m (downI_ok m)).N) :=
    (θ_run defs _ _).mono (fun r h c => (h c).1 4) (run_main m ρ (downI_ok m))
  (θ_run defs _ _).mono (fun r h c => ⟨h.1 c, h.2 c⟩) (θ_run_and h5 (unchanged m ρ (downI_ok m)))

end Cert.DwDown

end
-- ==== Proof.DwDown.lean ====
/- The gradient of the down projection's weights: the kernel's result is the reference's. -/
module

public import proofs.«01_k».proof.Proof.DwDownRun
public import proofs.«01_k».proof.Proof.Join
public import proofs.«01_k».proof.Proof.Gen.FfnDwDownReferenceIdeal.Run
public import proofs.«01_k».proof.Proof.Gen.FfnDwDownReferenceIdeal.Read
public import proofs.«01_k».proof.Defs

@[expose] public section

set_option maxRecDepth 16384

noncomputable section

namespace Cert.DwDown

open Idealize.ShloMosaic Idealize.ShloMosaic.TcCoe Idealize.SL.Sem Cert.Prod

section Reference
open Cert.FfnDwDownReferenceIdeal Cert.FfnDwDownReferenceIdeal.Gen Cert.FfnDwDownReferenceIdeal.Read

variable {x0 : S8x2048x704.Idx → EReal} {x1 x3 : S2048x2048.Idx → EReal} {x2 : S4x2048x704.Idx → EReal}
  {H : ℕ → ℕ → ℕ → EReal} {D : ℕ → ℕ → EReal} {Y : ℕ → ℕ → ℕ → EReal} {E : ℕ → ℕ → EReal}

theorem ref_mine (hh : At3 x0 H) : At4 (val_main_v3 (F := Ideal) x0) (fun _ k s f => H (2 * k) s f) := fun i => by
  have h1 : (i 1).val < 4 := (i 1).isLt
  have h2 : (i 2).val < 2048 := (i 2).isLt
  have h3 : (i 3).val < 704 := (i 3).isLt
  rw [val_main_v3_apply, val_main_v2_apply, val_main_v1_apply, val_main_v0_apply]
  refine (hh _).trans ?_
  have e0 : (((i 1).val * 2048 + (i 2).val) * 704 + (i 3).val) / 1441792 = (i 1).val := by omega
  have e1 : (((i 1).val * 2048 + (i 2).val) * 704 + (i 3).val) / 704 % 2048 = (i 2).val := by omega
  have e2 : (((i 1).val * 2048 + (i 2).val) * 704 + (i 3).val) % 704 = (i 3).val := by omega
  show H ((((((((i 1).val * 2048 + (i 2).val) * 704 + (i 3).val) / 1441792) * 2 + 0) * 2048 + (((i 1).val * 2048 + (i 2).val) * 704 + (i 3).val) / 704 % 2048) * 704 + (((i 1).val * 2048 + (i 2).val) * 704 + (i 3).val) % 704) / 1441792)
    ((((((((i 1).val * 2048 + (i 2).val) * 704 + (i 3).val) / 1441792) * 2 + 0) * 2048 + (((i 1).val * 2048 + (i 2).val) * 704 + (i 3).val) / 704 % 2048) * 704 + (((i 1).val * 2048 + (i 2).val) * 704 + (i 3).val) % 704) / 704 % 2048)
    ((((((((i 1).val * 2048 + (i 2).val) * 704 + (i 3).val) / 1441792) * 2 + 0) * 2048 + (((i 1).val * 2048 + (i 2).val) * 704 + (i 3).val) / 704 % 2048) * 704 + (((i 1).val * 2048 + (i 2).val) * 704 + (i 3).val) % 704) % 704) = _
  rw [e0, e1, e2]
  congr 1 <;> omega

theorem ref_sibling (hy : At3 x2 Y) : At4 (val_main_v4 (F := Ideal) x2) (fun _ => Y) := fun i => by
  rw [val_main_v4_apply]
  exact hy _

/-- The hidden values of the two batch rows, the devices' columns side by side. -/
theorem ref_hid (hh : At3 x0 H) (hy : At3 x2 Y) :
    At3 (val_main_v8 (F := Ideal) x0 x2) (fun p s n => pick (fun k => H (2 * k)) Y p (n / 704) s (n % 704)) := fun i => by
  have h0 : (i 0).val < 2 := (i 0).isLt
  have h1 : (i 1).val < 2048 := (i 1).isLt
  have h2 : (i 2).val < 2816 := (i 2).isLt
  rw [val_main_v8_apply, val_main_v7_apply, val_main_v6_apply]
  refine (join4 (h := concatenates_S1x4x2048x704_S1x4x2048x704_S2x4x2048x704_d0) (ref_mine hh) (ref_sibling hy) _).trans ?_
  have e0 : (((i 0).val * 2048 + (i 1).val) * 2816 + (i 2).val) / 5767168 = (i 0).val := by omega
  have e1 : (((i 0).val * 2048 + (i 1).val) * 2816 + (i 2).val) / 704 % 4 = (i 2).val / 704 := by omega
  have e2 : (((i 0).val * 2048 + (i 1).val) * 2816 + (i 2).val) / 2816 % 2048 = (i 1).val := by omega
  have e3 : (((i 0).val * 2048 + (i 1).val) * 2816 + (i 2).val) % 704 = (i 2).val % 704 := by omega
  show pick (fun k s f => H (2 * k) s f) Y ((((i 0).val * 2048 + (i 1).val) * 2816 + (i 2).val) / 5767168) ((((i 0).val * 2048 + (i 1).val) * 2816 + (i 2).val) / 704 % 4)
    ((((i 0).val * 2048 + (i 1).val) * 2816 + (i 2).val) / 2816 % 2048) ((((i 0).val * 2048 + (i 1).val) * 2816 + (i 2).val) % 704) = _
  rw [e0, e1, e2, e3]

/-- The gradients of the two batch rows' outputs. -/
theorem ref_dout (hd : At2 x1 D) (he : At2 x3 E) : At3 (val_main_v14 (F := Ideal) x1 x3) (pick D E) :=
  join3 (h := concatenates_S1x2048x2048_S1x2048x2048_S2x2048x2048_d0) (fun i => by rw [val_main_v11_apply]; exact hd _) (fun i => by rw [val_main_v12_apply]; exact he _)

theorem ref_prod (hh : At3 x0 H) (hd : At2 x1 D) (hy : At3 x2 Y) (he : At2 x3 E) : At2 (a := 2048) (b := 2816) (val_main_v15 (F := Ideal) x0 x1 x2 x3)
    (fun i n => ∑ p : Fin 2, ∑ k : Fin 2048, pick D E p.val k.val i * pick (fun k => H (2 * k)) Y p.val (n / 704) k.val (n % 704)) :=
  mul_stacked (K := 2048) (M := 2048) (N := 2816) (φ := .f32) 2 none (ref_dout hd he) (ref_hid hh hy)

theorem ref (hh : At3 x0 H) (hd : At2 x1 D) (hy : At3 x2 Y) (he : At2 x3 E) (i : S4x704x2048.Idx) :
    val_main_v18 (F := Ideal) x0 x1 x2 x3 i = both (H (2 * (i 0).val)) D (Y (i 0).val) E (i 1).val (i 2).val := by
  have h0 : (i 0).val < 4 := (i 0).isLt
  have h1 : (i 1).val < 704 := (i 1).isLt
  have h2 : (i 2).val < 2048 := (i 2).isLt
  rw [val_main_v18_apply]
  show val_main_v17 (F := Ideal) x0 x1 x2 x3 i = _
  rw [val_main_v17_apply, val_main_v16_apply, ref_prod hh hd hy he]
  show ∑ p : Fin 2, ∑ k : Fin 2048, pick D E p.val k.val ((((i 0).val * 704 + (i 1).val) * 2048 + (i 2).val) % 2048)
    * pick (fun k => H (2 * k)) Y p.val ((((i 0).val * 704 + (i 1).val) * 2048 + (i 2).val) / 2048 / 704) k.val ((((i 0).val * 704 + (i 1).val) * 2048 + (i 2).val) / 2048 % 704) = _
  rw [show (((i 0).val * 704 + (i 1).val) * 2048 + (i 2).val) % 2048 = (i 2).val by omega,
    show (((i 0).val * 704 + (i 1).val) * 2048 + (i 2).val) / 2048 / 704 = (i 0).val by omega,
    show (((i 0).val * 704 + (i 1).val) * 2048 + (i 2).val) / 2048 % 704 = (i 1).val by omega, Fin.sum_univ_two]
  exact congrArg₂ (fun a b : EReal => a + b) (Finset.sum_congr rfl fun k _ => mul_comm _ _) (Finset.sum_congr rfl fun k _ => mul_comm _ _)

end Reference

theorem frame_p : Cert.quiescent_FfnDwDown := fun m ρ _ => Cert.FfnDwDown.Gen.frame m ρ (Cert.DwTable.down_ok m)
theorem frame_pi : Cert.quiescent_FfnDwDownIdeal := fun m ρ _ => Cert.FfnDwDownIdeal.Gen.frame m ρ (Cert.DwTable.downI_ok m)
theorem frame_ri : Cert.quiescent_FfnDwDownReferenceIdeal := fun m ρ _ =>
  (θ_run Cert.FfnDwDownReferenceIdeal.defs _ _).mono
    (fun r h => ⟨fun c => (h c).2, sem_eq_zero_of_no_sems (by decide) r.2⟩) (Cert.FfnDwDownReferenceIdeal.Value.run (F := Ideal) m ρ)
theorem preserves : Cert.preserves_FfnDwDown_FfnDwDownIdeal := trivial

theorem algebraic : Cert.algebraic_FfnDwDownIdeal_FfnDwDownReferenceIdeal := fun m ρ m' ρ' hpre hargs => by
  refine ⟨_, run m ρ, ?_⟩
  refine (θ_run Cert.FfnDwDownReferenceIdeal.defs _ _).mono (fun r h c => ?_) (Cert.FfnDwDownReferenceIdeal.Value.run (F := Ideal) m' ρ')
  obtain ⟨r0, rest⟩ := h c
  obtain ⟨a0, a1, a2, a3⟩ := hargs c
  have hh := at3_ent (a := 8) (b := 2048) (c := 704) (m (c.tc.loc Cert.FfnDwDownIdeal.main_arg0))
  have hd := at2_ent (a := 2048) (b := 2048) (m (c.tc.loc Cert.FfnDwDownIdeal.main_arg1))
  have hy := at3_ent (a := 4) (b := 2048) (c := 704) (m (c.tc.loc Cert.FfnDwDownIdeal.main_arg2))
  have he := at2_ent (a := 2048) (b := 2048) (m (c.tc.loc Cert.FfnDwDownIdeal.main_arg3))
  refine ⟨r0.trans ?_, rest⟩
  rw [Cert.FfnDwDownReferenceIdeal.Read.val_main_v18_eq, a0, a1, a2, a3]
  exact funext fun i => (ref hh hd hy he i).trans (result m (Cert.DwTable.downI_ok m) c hh hd hy he i).symm

end Cert.DwDown

end
-- ==== Proof.DwUpRun.lean ====
/- The gradients of the gate and up projections' weights: what the kernel's sixteen grid points leave in the result. -/
module

public import proofs.«01_k».proof.Proof.Five
public import proofs.«01_k».proof.Proof.DwDownRun

@[expose] public section

set_option maxRecDepth 16384

noncomputable section

namespace Cert.DwUp

open Cert.FfnDwUpIdeal Cert.FfnDwUpIdeal.Gen Idealize.ShloMosaic Idealize.ShloMosaic.TcCoe Idealize.ShloMosaic.Tactic Idealize.SL.Sem Cert.Prod Cert.DwTable
open Cert.DwDown (both)

section Body
variable (c : Dev nD) (i : grid0.Coords) (arg4 : Memref sig .tc .vmem S1x1x1x2048x704 .bf16) (harg4 : arg4.IsWhole)
  (arg5 : Memref sig .tc .vmem S2048x1024 .bf16) (harg5 : arg5.IsWhole) (arg6 : Memref sig .tc .vmem S1x1x2048x704 .bf16) (harg6 : arg6.IsWhole)
  (arg7 : Memref sig .tc .vmem S2048x1024 .bf16) (harg7 : arg7.IsWhole) (arg8 : Memref sig .tc .vmem S1x704x1024 .bf16) (harg8 : arg8.IsWhole)
  {x0 : Vec Ideal S1x1x1x2048x704 .bf16} {x1 : Vec Ideal S2048x1024 .bf16} {x2 : Vec Ideal S1x1x2048x704 .bf16} {x3 : Vec Ideal S2048x1024 .bf16}
  (xt0 : TbBuf0 (F := Ideal) c tbM0_0)
  {X : ℕ → ℕ → ℕ → ℕ → ℕ → EReal} {D : ℕ → ℕ → EReal} {Y : ℕ → ℕ → ℕ → ℕ → EReal} {E : ℕ → ℕ → EReal}
  (hx0 : At5 x0 X) (hx1 : At2 x1 D) (hx2 : At4 x2 Y) (hx3 : At2 x3 E)

include hx0 hx1 hx2 hx3 in
/-- What a point leaves in the result's block. -/
theorem out : At3 (a := 1) (b := 704) (c := 1024) (out0_A_4 c i arg4 harg4 arg5 harg5 arg6 harg6 arg7 harg7 arg8 harg8 x0 x1 x2 x3 xt0)
    (fun _ => both (X 0 0 0) D (Y 0 0) E) := fun y => by
  unfold out0_A_4
  refine (congrFun (View.read_writes_junk_eq_canon _ _) y).trans (View.canon_apply_of_pieces (fun y => both (X 0 0 0) D (Y 0 0) E (y 1).val (y 2).val) _ ?_ _ (cover0_A_4 c i arg4 harg4 arg5 harg5 arg6 harg6 arg7 harg7 arg8 harg8 x0 x1 x2 x3 xt0 _))
  unfold kernelRun0_A
  simp only [List.forall_mem_cons]
  exact ⟨put3 (p := 0) (φ := .bf16) (f := fun _ => both (X 0 0 0) D (Y 0 0) E) (at3_of2 (φ := .bf16) (at2_add (φ := .f32)
    (mulTN (M := 704) (K := 2048) (N := 1024) (φ₁ := .bf16) (φ₂ := .bf16) none (one5 harg4 hx0) (whole2 harg5 hx1))
    (mulTN (M := 704) (K := 2048) (N := 1024) (φ₁ := .bf16) (φ₂ := .bf16) none (one4 harg6 hx2) (whole2 harg7 hx3)))), by simp⟩

end Body

variable (m : (ℓ : Loc nD τ sig) → Buf (Elt Ideal) ℓ) (hO : Ok m) (c : Dev nD)
variable {B : ℕ → ℕ → ℕ → ℕ → EReal} {D : ℕ → ℕ → EReal} {Y : ℕ → ℕ → ℕ → ℕ → EReal} {E : ℕ → ℕ → EReal}
  (hb : At4 (m ((c : Thread nD τ).loc main_arg0) : S2x8x2048x704.Idx → EReal) B)
  (hd : At2 (m ((c : Thread nD τ).loc main_arg1) : S2048x2048.Idx → EReal) D)
  (hy : At4 (m ((c : Thread nD τ).loc main_arg2) : S2x4x2048x704.Idx → EReal) Y)
  (he : At2 (m ((c : Thread nD τ).loc main_arg3) : S2048x2048.Idx → EReal) E)

/-! ## The blocks -/

theorem V_own : V m c main_v4 = shapeCast S2x4x2x2048x704 (m ((c : Thread nD τ).loc main_arg0)) shapeCasts_S2x8x2048x704_S2x4x2x2048x704 := rfl

include hb in
theorem own_at : At5 (V m c main_v4 : S2x4x2x2048x704.Idx → EReal) (fun w k h s f => B w (2 * k + h) s f) := fun i => by
  have h0 : (i 0).val < 2 := (i 0).isLt
  have h1 : (i 1).val < 4 := (i 1).isLt
  have h2 : (i 2).val < 2 := (i 2).isLt
  refine (congrFun (V_own m c) i).trans ((shapeCast_apply (s := S2x8x2048x704) (t := S2x4x2x2048x704) _ _ i (ValueIdx.ix4 (i 0) ⟨2 * (i 1).val + (i 2).val, by omega⟩ (i 3) (i 4)) ?_).trans (hb _))
  rw [Shape.rowMajor_val_four, Shape.rowMajor_val_five]
  show (((i 0).val * 8 + (2 * (i 1).val + (i 2).val)) * 2048 + (i 3).val) * 704 + (i 4).val = ((((i 0).val * 4 + (i 1).val) * 2 + (i 2).val) * 2048 + (i 3).val) * 704 + (i 4).val
  rw [show (i 0).val * 8 + (2 * (i 1).val + (i 2).val) = ((i 0).val * 4 + (i 1).val) * 2 + (i 2).val by omega]

theorem index0 (t : Fin (cfgM m hO).N) : ((cfgM m hO).win 0).index t (0 : Fin 5) = t.val / 8 ∧ ((cfgM m hO).win 0).index t (1 : Fin 5) = t.val / 2 % 4
    ∧ ((cfgM m hO).win 0).index t (2 : Fin 5) = 0 ∧ ((cfgM m hO).win 0).index t (3 : Fin 5) = 0 ∧ ((cfgM m hO).win 0).index t (4 : Fin 5) = 0 := by
  have h : ((cfgM m hO).win 0).index t = ![(BitVec.ofNat 32 (grid0.coords t 0).val).toNat, (BitVec.ofNat 32 (grid0.coords t 1).val).toNat, 0, 0, 0] :=
    congrFun (upI_index m) (grid0.coords t)
  rw [h]
  exact (by decide +kernel : ∀ t : Fin grid0.N, (![(BitVec.ofNat 32 (grid0.coords t 0).val).toNat, (BitVec.ofNat 32 (grid0.coords t 1).val).toNat, 0, 0, 0] : Fin 5 → ℕ) 0 = t.val / 8
    ∧ (![(BitVec.ofNat 32 (grid0.coords t 0).val).toNat, (BitVec.ofNat 32 (grid0.coords t 1).val).toNat, 0, 0, 0] : Fin 5 → ℕ) 1 = t.val / 2 % 4
    ∧ (![(BitVec.ofNat 32 (grid0.coords t 0).val).toNat, (BitVec.ofNat 32 (grid0.coords t 1).val).toNat, 0, 0, 0] : Fin 5 → ℕ) 2 = 0
    ∧ (![(BitVec.ofNat 32 (grid0.coords t 0).val).toNat, (BitVec.ofNat 32 (grid0.coords t 1).val).toNat, 0, 0, 0] : Fin 5 → ℕ) 3 = 0
    ∧ (![(BitVec.ofNat 32 (grid0.coords t 0).val).toNat, (BitVec.ofNat 32 (grid0.coords t 1).val).toNat, 0, 0, 0] : Fin 5 → ℕ) 4 = 0) t
theorem index1 (t : Fin (cfgM m hO).N) : ((cfgM m hO).win 1).index t (0 : Fin 2) = 0 ∧ ((cfgM m hO).win 1).index t (1 : Fin 2) = t.val % 2 :=
  (by decide +kernel : ∀ t : Fin grid0.N, cc0_transform_1 (grid0.coords t) 0 = 0 ∧ cc0_transform_1 (grid0.coords t) 1 = t.val % 2) t
theorem index2 (t : Fin (cfgM m hO).N) : ((cfgM m hO).win 2).index t (0 : Fin 4) = t.val / 8 ∧ ((cfgM m hO).win 2).index t (1 : Fin 4) = t.val / 2 % 4
    ∧ ((cfgM m hO).win 2).index t (2 : Fin 4) = 0 ∧ ((cfgM m hO).win 2).index t (3 : Fin 4) = 0 :=
  (by decide +kernel : ∀ t : Fin grid0.N, cc0_transform_2 (grid0.coords t) 0 = t.val / 8 ∧ cc0_transform_2 (grid0.coords t) 1 = t.val / 2 % 4
    ∧ cc0_transform_2 (grid0.coords t) 2 = 0 ∧ cc0_transform_2 (grid0.coords t) 3 = 0) t
theorem index3 (t : Fin (cfgM m hO).N) : ((cfgM m hO).win 3).index t (0 : Fin 2) = 0 ∧ ((cfgM m hO).win 3).index t (1 : Fin 2) = t.val % 2 :=
  (by decide +kernel : ∀ t : Fin grid0.N, cc0_transform_3 (grid0.coords t) 0 = 0 ∧ cc0_transform_3 (grid0.coords t) 1 = t.val % 2) t
theorem index4 (t : Fin (cfgM m hO).N) : ((cfgM m hO).win 4).index t (0 : Fin 3) = t.val / 2 % 4 ∧ ((cfgM m hO).win 4).index t (1 : Fin 3) = t.val / 8 ∧ ((cfgM m hO).win 4).index t (2 : Fin 3) = t.val % 2 :=
  (by decide +kernel : ∀ t : Fin grid0.N, cc0_transform_4 (grid0.coords t) 0 = t.val / 2 % 4 ∧ cc0_transform_4 (grid0.coords t) 1 = t.val / 8 ∧ cc0_transform_4 (grid0.coords t) 2 = t.val % 2) t

include hb in
theorem in0 (t : Fin (cfgM m hO).N) : At5 (a := 1) (b := 1) (c := 1) (d := 2048) (e := 704) (iblk m hO c 0 t)
    (fun w k h s f => B (t.val / 8 + w) (2 * (t.val / 2 % 4 + k) + h) s f) := fun y => by
  refine (own_at m c hb (((cfgM m hO).win 0).rect t |>.emb y)).trans ?_
  obtain ⟨i0, i1, i2, i3, i4⟩ := index0 m hO t
  have e0 := ((cfgM m hO).win 0).rect_emb_val t y (0 : Fin 5)
  have e1 := ((cfgM m hO).win 0).rect_emb_val t y (1 : Fin 5)
  have e2 := ((cfgM m hO).win 0).rect_emb_val_of_index_zero t (2 : Fin 5) i2 y
  have e3 := ((cfgM m hO).win 0).rect_emb_val_of_index_zero t (3 : Fin 5) i3 y
  have e4 := ((cfgM m hO).win 0).rect_emb_val_of_index_zero t (4 : Fin 5) i4 y
  rw [i0] at e0
  rw [i1] at e1
  replace e0 : ((((cfgM m hO).win 0).rect t).emb y (0 : Fin 5)).val = t.val / 8 + (y 0).val := e0.trans (congrArg (· + (y 0).val) (Nat.mul_one _))
  replace e1 : ((((cfgM m hO).win 0).rect t).emb y (1 : Fin 5)).val = t.val / 2 % 4 + (y 1).val := e1.trans (congrArg (· + (y 1).val) (Nat.mul_one _))
  dsimp only
  rw [e0, e1, e2, e3, e4]

include hd in
theorem in1 (t : Fin (cfgM m hO).N) : At2 (a := 2048) (b := 1024) (iblk m hO c 1 t) (fun s j => D s (t.val % 2 * 1024 + j)) := fun y => by
  refine (congrFun (V_main_arg1 m c) _).trans ((hd (((cfgM m hO).win 1).rect t |>.emb y)).trans ?_)
  obtain ⟨i0, i1⟩ := index1 m hO t
  have e0 := ((cfgM m hO).win 1).rect_emb_val_of_index_zero t (0 : Fin 2) i0 y
  have e1 := ((cfgM m hO).win 1).rect_emb_val t y (1 : Fin 2)
  rw [i1] at e1
  replace e1 : ((((cfgM m hO).win 1).rect t).emb y (1 : Fin 2)).val = t.val % 2 * 1024 + (y 1).val := e1
  rw [e0, e1]

include hy in
theorem in2 (t : Fin (cfgM m hO).N) : At4 (a := 1) (b := 1) (c := 2048) (d := 704) (iblk m hO c 2 t) (fun w k s f => Y (t.val / 8 + w) (t.val / 2 % 4 + k) s f) := fun y => by
  refine (congrFun (V_main_arg2 m c) _).trans ((hy (((cfgM m hO).win 2).rect t |>.emb y)).trans ?_)
  obtain ⟨i0, i1, i2, i3⟩ := index2 m hO t
  have e0 := ((cfgM m hO).win 2).rect_emb_val t y (0 : Fin 4)
  have e1 := ((cfgM m hO).win 2).rect_emb_val t y (1 : Fin 4)
  have e2 := ((cfgM m hO).win 2).rect_emb_val_of_index_zero t (2 : Fin 4) i2 y
  have e3 := ((cfgM m hO).win 2).rect_emb_val_of_index_zero t (3 : Fin 4) i3 y
  rw [i0] at e0
  rw [i1] at e1
  replace e0 : ((((cfgM m hO).win 2).rect t).emb y (0 : Fin 4)).val = t.val / 8 + (y 0).val := e0.trans (congrArg (· + (y 0).val) (Nat.mul_one _))
  replace e1 : ((((cfgM m hO).win 2).rect t).emb y (1 : Fin 4)).val = t.val / 2 % 4 + (y 1).val := e1.trans (congrArg (· + (y 1).val) (Nat.mul_one _))
  dsimp only
  rw [e0, e1, e2, e3]

include he in
theorem in3 (t : Fin (cfgM m hO).N) : At2 (a := 2048) (b := 1024) (iblk m hO c 3 t) (fun s j => E s (t.val % 2 * 1024 + j)) := fun y => by
  refine (congrFun (V_main_arg3 m c) _).trans ((he (((cfgM m hO).win 3).rect t |>.emb y)).trans ?_)
  obtain ⟨i0, i1⟩ := index3 m hO t
  have e0 := ((cfgM m hO).win 3).rect_emb_val_of_index_zero t (0 : Fin 2) i0 y
  have e1 := ((cfgM m hO).win 3).rect_emb_val t y (1 : Fin 2)
  rw [i1] at e1
  replace e1 : ((((cfgM m hO).win 3).rect t).emb y (1 : Fin 2)).val = t.val % 2 * 1024 + (y 1).val := e1
  rw [e0, e1]

/-! ## The result -/

/-- The sixteen blocks make up the result. -/
theorem covers : ((cfgM m hO).win 4).Covers :=
  ⟨(by decide : ∀ a : Fin 3, 0 < S1x704x1024.size a), fun β => by
    have hn : (cfgM m hO).N = 16 := (by decide +kernel : grid0.N = 16)
    have b0 : (β (0 : Fin 3)).val < 4 := (β (0 : Fin 3)).isLt.trans_eq (by show (4 + 1 - 1) / 1 = 4; rfl)
    have b1 : (β (1 : Fin 3)).val < 2 := (β (1 : Fin 3)).isLt.trans_eq (by show (1408 + 704 - 1) / 704 = 2; rfl)
    have b2 : (β (2 : Fin 3)).val < 2 := (β (2 : Fin 3)).isLt.trans_eq (by show (2048 + 1024 - 1) / 1024 = 2; rfl)
    have ht : 8 * (β (1 : Fin 3)).val + 2 * (β (0 : Fin 3)).val + (β (2 : Fin 3)).val < (cfgM m hO).N := by rw [hn]; omega
    refine ⟨⟨_, ht⟩, flush0_4 (adm m hO) _, ?_⟩
    obtain ⟨i0, i1, i2⟩ := index4 m hO ⟨_, ht⟩
    dsimp only at i0 i1 i2
    exact fun (a : Fin 3) => ⟨match a with
      | 0 => i0.trans (by omega)
      | 1 => i1.trans (by omega)
      | 2 => i2.trans (by omega), .inl rfl⟩⟩

/-- What the result holds at device `k`, row `n` and column `j`: the first 704 rows are the gate's, the others the up projection's. -/
def value (B : ℕ → ℕ → ℕ → ℕ → EReal) (D : ℕ → ℕ → EReal) (Y : ℕ → ℕ → ℕ → ℕ → EReal) (E : ℕ → ℕ → EReal) (k n j : ℕ) : EReal :=
  both (B (n / 704) (2 * k)) D (Y (n / 704) k) E (n % 704) j

include hb hd hy he in
theorem result (i : S4x1408x2048.Idx) : ((dats m hO 0 c).arrAt 4 (cfgM m hO).N : S4x1408x2048.Idx → EReal) i
    = value B D Y E (i 0).val (i 1).val (i 2).val := by
  refine (dats m hO 0 c).arrAt_forall_of_covers 4 (fun (i : S4x1408x2048.Idx) (v : EReal) => v = value B D Y E (i 0).val (i 1).val (i 2).val) ?_ (fun t hf (y : S1x704x1024.Idx) => ?_) i
  · exact covers m hO
  show (dats m hO 0 c).after 4 t y = _
  rw [after0_4]
  refine (out c _ _ _ _ _ _ _ _ _ _ _ _ (in0 m hO c hb t) (in1 m hO c hd t) (in2 m hO c hy t) (in3 m hO c he t) y).trans ?_
  obtain ⟨i0, i1, i2⟩ := index4 m hO t
  have e0 := ((cfgM m hO).win 4).rect_emb_val t y (0 : Fin 3)
  have e1 := ((cfgM m hO).win 4).rect_emb_val t y (1 : Fin 3)
  have e2 := ((cfgM m hO).win 4).rect_emb_val t y (2 : Fin 3)
  rw [i0] at e0
  rw [i1] at e1
  rw [i2] at e2
  have hy0 := (y 0).isLt; change (y 0).val < 1 at hy0
  have hy1 := (y 1).isLt; change (y 1).val < 704 at hy1
  have e0' : ((((cfgM m hO).win 4).blk t).view.emb y (0 : Fin 3)).val = t.val / 2 % 4 := (e0.trans (congrArg (· + (y 0).val) (Nat.mul_one _))).trans (by omega)
  have e1' : ((((cfgM m hO).win 4).blk t).view.emb y (1 : Fin 3)).val = t.val / 8 * 704 + (y 1).val := e1
  have e2' : ((((cfgM m hO).win 4).blk t).view.emb y (2 : Fin 3)).val = t.val % 2 * 1024 + (y 2).val := e2
  rw [e0', e1', e2']
  unfold value
  rw [show (t.val / 8 * 704 + (y 1).val) / 704 = t.val / 8 by omega, show (t.val / 8 * 704 + (y 1).val) % 704 = (y 1).val by omega]
  rfl

/-- What a run of the program leaves. -/
theorem run (ρ : Dev nD → PrngReg) : θ_run defs (onTc (τ := τ) (main (F := Ideal))) ⟨m, fun _ => 0, ρ⟩ (fun r => ∀ c : Dev nD,
    r.2.mem ((c.tc : Thread nD τ).loc main_v5) = (dats m (upI_ok m) 0 c).arrAt 4 (cfgM m (upI_ok m)).N
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) :=
  have h5 : θ_run defs (onTc (τ := τ) (main (F := Ideal))) ⟨m, fun _ => 0, ρ⟩ (fun r => ∀ c : Dev nD,
      r.2.mem ((c.tc : Thread nD τ).loc main_v5) = (dats m (upI_ok m) 0 c).arrAt 4 (cfgM m (upI_ok m)).N) :=
    (θ_run defs _ _).mono (fun r h c => (h c).1 4) (run_main m ρ (upI_ok m))
  (θ_run defs _ _).mono (fun r h c => ⟨h.1 c, h.2 c⟩) (θ_run_and h5 (unchanged m ρ (upI_ok m)))

end Cert.DwUp

end
-- ==== Proof.DwUp.lean ====
/- The gradients of the gate and up projections' weights: the kernel's result is the reference's. -/
module

public import proofs.«01_k».proof.Proof.DwUpRun
public import proofs.«01_k».proof.Proof.Gen.FfnDwUpReferenceIdeal.Run
public import proofs.«01_k».proof.Proof.Gen.FfnDwUpReferenceIdeal.Read
public import proofs.«01_k».proof.Defs

@[expose] public section

set_option maxRecDepth 16384

noncomputable section

namespace Cert.DwUp

open Idealize.ShloMosaic Idealize.ShloMosaic.TcCoe Idealize.SL.Sem Cert.Prod
open Cert.DwDown (both)

section Reference
open Cert.FfnDwUpReferenceIdeal Cert.FfnDwUpReferenceIdeal.Gen Cert.FfnDwUpReferenceIdeal.Read

variable {x0 : S2x8x2048x704.Idx → EReal} {x1 x3 : S2048x2048.Idx → EReal} {x2 : S2x4x2048x704.Idx → EReal}
  {B : ℕ → ℕ → ℕ → ℕ → EReal} {D : ℕ → ℕ → EReal} {Y : ℕ → ℕ → ℕ → ℕ → EReal} {E : ℕ → ℕ → EReal}

theorem ref_split (hb : At4 x0 B) : At5 (val_main_v0 (F := Ideal) x0) (fun w k h s f => B w (2 * k + h) s f) := fun i => by
  have h0 : (i 0).val < 2 := (i 0).isLt
  have h1 : (i 1).val < 4 := (i 1).isLt
  have h2 : (i 2).val < 2 := (i 2).isLt
  have h3 : (i 3).val < 2048 := (i 3).isLt
  have h4 : (i 4).val < 704 := (i 4).isLt
  rw [val_main_v0_apply]
  refine (hb _).trans ?_
  show B ((((((i 0).val * 4 + (i 1).val) * 2 + (i 2).val) * 2048 + (i 3).val) * 704 + (i 4).val) / 11534336)
    ((((((i 0).val * 4 + (i 1).val) * 2 + (i 2).val) * 2048 + (i 3).val) * 704 + (i 4).val) / 1441792 % 8)
    ((((((i 0).val * 4 + (i 1).val) * 2 + (i 2).val) * 2048 + (i 3).val) * 704 + (i 4).val) / 704 % 2048)
    ((((((i 0).val * 4 + (i 1).val) * 2 + (i 2).val) * 2048 + (i 3).val) * 704 + (i 4).val) % 704) = _
  congr 1 <;> omega

theorem ref_own (hb : At4 x0 B) : At4 (val_main_v2 (F := Ideal) x0) (fun w k s f => B w (2 * k) s f) := fun i => by
  have h0 : (i 0).val < 2 := (i 0).isLt
  have h1 : (i 1).val < 4 := (i 1).isLt
  have h2 : (i 2).val < 2048 := (i 2).isLt
  have h3 : (i 3).val < 704 := (i 3).isLt
  rw [val_main_v2_apply, val_main_v1_apply]
  refine (ref_split hb _).trans ?_
  show B (((((i 0).val * 4 + (i 1).val) * 2048 + (i 2).val) * 704 + (i 3).val) / 5767168)
    (2 * (((((i 0).val * 4 + (i 1).val) * 2048 + (i 2).val) * 704 + (i 3).val) / 1441792 % 4) + 0)
    (((((i 0).val * 4 + (i 1).val) * 2048 + (i 2).val) * 704 + (i 3).val) / 704 % 2048)
    (((((i 0).val * 4 + (i 1).val) * 2048 + (i 2).val) * 704 + (i 3).val) % 704) = _
  congr 1 <;> omega

theorem ref_mine (hb : At4 x0 B) : At5 (val_main_v3 (F := Ideal) x0) (fun _ w k s f => B w (2 * k) s f) := fun i => by
  rw [val_main_v3_apply]
  exact ref_own hb _

theorem ref_sibling (hy : At4 x2 Y) : At5 (val_main_v4 (F := Ideal) x2) (fun _ => Y) := fun i => by
  rw [val_main_v4_apply]
  exact hy _

theorem ref_joined (hb : At4 x0 B) (hy : At4 x2 Y) : At5 (val_main_v5 (F := Ideal) x0 x2) (pick (fun w k => B w (2 * k)) Y) :=
  join5 (h := concatenates_S1x2x4x2048x704_S1x2x4x2048x704_S2x2x4x2048x704_d0) (ref_mine hb) (ref_sibling hy)

/-- The gradients of the two projections' outputs on the two batch rows, the devices' columns side by side. -/
theorem ref_dab (hb : At4 x0 B) (hy : At4 x2 Y) :
    At4 (val_main_v8 (F := Ideal) x0 x2) (fun w p s n => pick (fun w k => B w (2 * k)) Y p w (n / 704) s (n % 704)) := fun i => by
  have h0 : (i 0).val < 2 := (i 0).isLt
  have h1 : (i 1).val < 2 := (i 1).isLt
  have h2 : (i 2).val < 2048 := (i 2).isLt
  have h3 : (i 3).val < 2816 := (i 3).isLt
  rw [val_main_v8_apply, val_main_v7_apply, val_main_v6_apply]
  refine (ref_joined hb hy _).trans ?_
  show pick (fun w k => B w (2 * k)) Y (((((i 0).val * 2 + (i 1).val) * 2048 + (i 2).val) * 2816 + (i 3).val) / 5767168 % 2)
    (((((i 0).val * 2 + (i 1).val) * 2048 + (i 2).val) * 2816 + (i 3).val) / 11534336)
    (((((i 0).val * 2 + (i 1).val) * 2048 + (i 2).val) * 2816 + (i 3).val) / 704 % 4)
    (((((i 0).val * 2 + (i 1).val) * 2048 + (i 2).val) * 2816 + (i 3).val) / 2816 % 2048)
    (((((i 0).val * 2 + (i 1).val) * 2048 + (i 2).val) * 2816 + (i 3).val) % 704) = _
  rw [show ((((i 0).val * 2 + (i 1).val) * 2048 + (i 2).val) * 2816 + (i 3).val) / 5767168 % 2 = (i 1).val by omega,
    show ((((i 0).val * 2 + (i 1).val) * 2048 + (i 2).val) * 2816 + (i 3).val) / 11534336 = (i 0).val by omega,
    show ((((i 0).val * 2 + (i 1).val) * 2048 + (i 2).val) * 2816 + (i 3).val) / 704 % 4 = (i 3).val / 704 by omega,
    show ((((i 0).val * 2 + (i 1).val) * 2048 + (i 2).val) * 2816 + (i 3).val) / 2816 % 2048 = (i 2).val by omega,
    show ((((i 0).val * 2 + (i 1).val) * 2048 + (i 2).val) * 2816 + (i 3).val) % 704 = (i 3).val % 704 by omega]

/-- The gate's half. -/
theorem ref_gate (hb : At4 x0 B) (hy : At4 x2 Y) :
    At3 (val_main_v17 (F := Ideal) x0 x2) (fun p s n => pick (fun w k => B w (2 * k)) Y p 0 (n / 704) s (n % 704)) := fun i => by
  have h0 : (i 0).val < 2 := (i 0).isLt
  have h1 : (i 1).val < 2048 := (i 1).isLt
  have h2 : (i 2).val < 2816 := (i 2).isLt
  rw [val_main_v17_apply, val_main_v16_apply]
  refine (ref_dab hb hy _).trans ?_
  show pick (fun w k => B w (2 * k)) Y ((((i 0).val * 2048 + (i 1).val) * 2816 + (i 2).val) / 5767168 % 2) 0
    ((((i 0).val * 2048 + (i 1).val) * 2816 + (i 2).val) % 2816 / 704) ((((i 0).val * 2048 + (i 1).val) * 2816 + (i 2).val) / 2816 % 2048)
    ((((i 0).val * 2048 + (i 1).val) * 2816 + (i 2).val) % 2816 % 704) = _
  rw [show (((i 0).val * 2048 + (i 1).val) * 2816 + (i 2).val) / 5767168 % 2 = (i 0).val by omega,
    show (((i 0).val * 2048 + (i 1).val) * 2816 + (i 2).val) % 2816 = (i 2).val by omega,
    show (((i 0).val * 2048 + (i 1).val) * 2816 + (i 2).val) / 2816 % 2048 = (i 1).val by omega]

/-- The up projection's half. -/
theorem ref_up (hb : At4 x0 B) (hy : At4 x2 Y) :
    At3 (val_main_v19 (F := Ideal) x0 x2) (fun p s n => pick (fun w k => B w (2 * k)) Y p 1 (n / 704) s (n % 704)) := fun i => by
  have h0 : (i 0).val < 2 := (i 0).isLt
  have h1 : (i 1).val < 2048 := (i 1).isLt
  have h2 : (i 2).val < 2816 := (i 2).isLt
  rw [val_main_v19_apply, val_main_v18_apply]
  refine (ref_dab hb hy _).trans ?_
  show pick (fun w k => B w (2 * k)) Y ((((i 0).val * 2048 + (i 1).val) * 2816 + (i 2).val) / 5767168 % 2) (1 + 0)
    ((((i 0).val * 2048 + (i 1).val) * 2816 + (i 2).val) % 2816 / 704) ((((i 0).val * 2048 + (i 1).val) * 2816 + (i 2).val) / 2816 % 2048)
    ((((i 0).val * 2048 + (i 1).val) * 2816 + (i 2).val) % 2816 % 704) = _
  rw [show (((i 0).val * 2048 + (i 1).val) * 2816 + (i 2).val) / 5767168 % 2 = (i 0).val by omega,
    show (((i 0).val * 2048 + (i 1).val) * 2816 + (i 2).val) % 2816 = (i 2).val by omega,
    show (((i 0).val * 2048 + (i 1).val) * 2816 + (i 2).val) / 2816 % 2048 = (i 1).val by omega]

theorem ref_pair (hd : At2 x1 D) (he : At2 x3 E) : At3 (val_main_v11 (F := Ideal) x1 x3) (pick D E) :=
  join3 (h := concatenates_S1x2048x2048_S1x2048x2048_S2x2048x2048_d0) (fun i => by rw [val_main_v9_apply]; exact hd _) (fun i => by rw [val_main_v10_apply]; exact he _)

/-- The normalised inputs of the two batch rows. -/
theorem ref_xf (hd : At2 x1 D) (he : At2 x3 E) : At3 (val_main_v12 (F := Ideal) x1 x3) (pick D E) := fun i => by
  rw [val_main_v12_apply]
  exact ref_pair hd he _

theorem ref_prod_gate (hb : At4 x0 B) (hd : At2 x1 D) (hy : At4 x2 Y) (he : At2 x3 E) : At2 (a := 2816) (b := 2048) (val_main_v22 (F := Ideal) x0 x1 x2 x3)
    (fun n j => ∑ p : Fin 2, ∑ s : Fin 2048, pick (fun w k => B w (2 * k)) Y p.val 0 (n / 704) s.val (n % 704) * pick D E p.val s.val j) :=
  mul_stacked (K := 2048) (M := 2816) (N := 2048) (φ := .f32) 2 none (ref_gate hb hy) (ref_xf hd he)

theorem ref_prod_up (hb : At4 x0 B) (hd : At2 x1 D) (hy : At4 x2 Y) (he : At2 x3 E) : At2 (a := 2816) (b := 2048) (val_main_v20 (F := Ideal) x0 x1 x2 x3)
    (fun n j => ∑ p : Fin 2, ∑ s : Fin 2048, pick (fun w k => B w (2 * k)) Y p.val 1 (n / 704) s.val (n % 704) * pick D E p.val s.val j) :=
  mul_stacked (K := 2048) (M := 2816) (N := 2048) (φ := .f32) 2 none (ref_up hb hy) (ref_xf hd he)

theorem pair_sum (w q r j : ℕ) : ∑ p : Fin 2, ∑ s : Fin 2048, pick (fun w k => B w (2 * k)) Y p.val w q s.val r * pick D E p.val s.val j
    = both (B w (2 * q)) D (Y w q) E r j := by
  rw [Fin.sum_univ_two]
  rfl

theorem ref_gate_stack (hb : At4 x0 B) (hd : At2 x1 D) (hy : At4 x2 Y) (he : At2 x3 E) : At3 (val_main_v25 (F := Ideal) x0 x1 x2 x3)
    (fun k n j => both (B 0 (2 * k)) D (Y 0 k) E n j) := fun i => by
  have h0 : (i 0).val < 4 := (i 0).isLt
  have h1 : (i 1).val < 704 := (i 1).isLt
  have h2 : (i 2).val < 2048 := (i 2).isLt
  rw [val_main_v25_apply, val_main_v24_apply, val_main_v23_apply]
  refine (ref_prod_gate hb hd hy he _).trans ((pair_sum _ _ _ _).trans ?_)
  show both (B 0 (2 * ((((i 0).val * 704 + (i 1).val) * 2048 + (i 2).val) / 2048 / 704))) D (Y 0 ((((i 0).val * 704 + (i 1).val) * 2048 + (i 2).val) / 2048 / 704)) E
    ((((i 0).val * 704 + (i 1).val) * 2048 + (i 2).val) / 2048 % 704) ((((i 0).val * 704 + (i 1).val) * 2048 + (i 2).val) % 2048) = _
  rw [show (((i 0).val * 704 + (i 1).val) * 2048 + (i 2).val) % 2048 = (i 2).val by omega,
    show (((i 0).val * 704 + (i 1).val) * 2048 + (i 2).val) / 2048 / 704 = (i 0).val by omega,
    show (((i 0).val * 704 + (i 1).val) * 2048 + (i 2).val) / 2048 % 704 = (i 1).val by omega]

theorem ref_up_stack (hb : At4 x0 B) (hd : At2 x1 D) (hy : At4 x2 Y) (he : At2 x3 E) : At3 (val_main_v27 (F := Ideal) x0 x1 x2 x3)
    (fun k n j => both (B 1 (2 * k)) D (Y 1 k) E n j) := fun i => by
  have h0 : (i 0).val < 4 := (i 0).isLt
  have h1 : (i 1).val < 704 := (i 1).isLt
  have h2 : (i 2).val < 2048 := (i 2).isLt
  rw [val_main_v27_apply, val_main_v26_apply, val_main_v21_apply]
  refine (ref_prod_up hb hd hy he _).trans ((pair_sum _ _ _ _).trans ?_)
  show both (B 1 (2 * ((((i 0).val * 704 + (i 1).val) * 2048 + (i 2).val) / 2048 / 704))) D (Y 1 ((((i 0).val * 704 + (i 1).val) * 2048 + (i 2).val) / 2048 / 704)) E
    ((((i 0).val * 704 + (i 1).val) * 2048 + (i 2).val) / 2048 % 704) ((((i 0).val * 704 + (i 1).val) * 2048 + (i 2).val) % 2048) = _
  rw [show (((i 0).val * 704 + (i 1).val) * 2048 + (i 2).val) % 2048 = (i 2).val by omega,
    show (((i 0).val * 704 + (i 1).val) * 2048 + (i 2).val) / 2048 / 704 = (i 0).val by omega,
    show (((i 0).val * 704 + (i 1).val) * 2048 + (i 2).val) / 2048 % 704 = (i 1).val by omega]

theorem ref_rows (hb : At4 x0 B) (hd : At2 x1 D) (hy : At4 x2 Y) (he : At2 x3 E) : At3 (a := 4) (b := 1408) (c := 2048) (val_main_v28 (F := Ideal) x0 x1 x2 x3)
    (fun k n j => if n < 704 then both (B 0 (2 * k)) D (Y 0 k) E n j else both (B 1 (2 * k)) D (Y 1 k) E (n - 704) j) :=
  join_rows (b := 704) (b' := 704) (h := concatenates_S4x704x2048_S4x704x2048_S4x1408x2048_d1) (ref_gate_stack hb hd hy he) (ref_up_stack hb hd hy he)

theorem ref (hb : At4 x0 B) (hd : At2 x1 D) (hy : At4 x2 Y) (he : At2 x3 E) (i : S4x1408x2048.Idx) :
    val_main_v29 (F := Ideal) x0 x1 x2 x3 i = value B D Y E (i 0).val (i 1).val (i 2).val := by
  have h1 : (i 1).val < 1408 := (i 1).isLt
  rw [val_main_v29_apply]
  refine (ref_rows hb hd hy he i).trans ?_
  unfold value
  dsimp only
  by_cases h : (i 1).val < 704
  · rw [if_pos h, show (i 1).val / 704 = 0 by omega, show (i 1).val % 704 = (i 1).val by omega]
  · rw [if_neg h, show (i 1).val / 704 = 1 by omega, show (i 1).val % 704 = (i 1).val - 704 by omega]

end Reference

theorem frame_p : Cert.quiescent_FfnDwUp := fun m ρ _ => Cert.FfnDwUp.Gen.frame m ρ (Cert.DwTable.up_ok m)
theorem frame_pi : Cert.quiescent_FfnDwUpIdeal := fun m ρ _ => Cert.FfnDwUpIdeal.Gen.frame m ρ (Cert.DwTable.upI_ok m)
theorem frame_ri : Cert.quiescent_FfnDwUpReferenceIdeal := fun m ρ _ =>
  (θ_run Cert.FfnDwUpReferenceIdeal.defs _ _).mono
    (fun r h => ⟨fun c => (h c).2, sem_eq_zero_of_no_sems (by decide) r.2⟩) (Cert.FfnDwUpReferenceIdeal.Value.run (F := Ideal) m ρ)
theorem preserves : Cert.preserves_FfnDwUp_FfnDwUpIdeal := trivial

theorem algebraic : Cert.algebraic_FfnDwUpIdeal_FfnDwUpReferenceIdeal := fun m ρ m' ρ' hpre hargs => by
  refine ⟨_, run m ρ, ?_⟩
  refine (θ_run Cert.FfnDwUpReferenceIdeal.defs _ _).mono (fun r h c => ?_) (Cert.FfnDwUpReferenceIdeal.Value.run (F := Ideal) m' ρ')
  obtain ⟨r0, rest⟩ := h c
  obtain ⟨a0, a1, a2, a3⟩ := hargs c
  have hb := at4_ent (a := 2) (b := 8) (c := 2048) (d := 704) (m (c.tc.loc Cert.FfnDwUpIdeal.main_arg0))
  have hd := at2_ent (a := 2048) (b := 2048) (m (c.tc.loc Cert.FfnDwUpIdeal.main_arg1))
  have hy := at4_ent (a := 2) (b := 4) (c := 2048) (d := 704) (m (c.tc.loc Cert.FfnDwUpIdeal.main_arg2))
  have he := at2_ent (a := 2048) (b := 2048) (m (c.tc.loc Cert.FfnDwUpIdeal.main_arg3))
  refine ⟨r0.trans ?_, rest⟩
  rw [Cert.FfnDwUpReferenceIdeal.Read.val_main_v29_eq, a0, a1, a2, a3]
  exact funext fun i => (ref hb hd hy he i).trans (result m (Cert.DwTable.upI_ok m) c hb hd hy he i).symm

end Cert.DwUp

end
-- ==== Proof.Weights.lean ====
/- The layouts in which the projections' weights reach the kernels: a matrix's rows cut over the devices, two such matrices
   one below the other, and a matrix's columns cut over the devices. -/
module

public import proofs.«01_k».proof.Proof.Windows

@[expose] public section

noncomputable section

namespace Cert.Prod

open Idealize.ShloMosaic Idealize.ShloMosaic.ValueIdx

/-- Rows of `X` against columns of `G`. -/
def nn (n : ℕ) (X G : ℕ → ℕ → EReal) (i j : ℕ) : EReal := ∑ k : Fin n, X i k.val * G k.val j
/-- Rows of `X` against rows of `G`. -/
def nt (n : ℕ) (X G : ℕ → ℕ → EReal) (i j : ℕ) : EReal := ∑ k : Fin n, X i k.val * G j k.val
/-- Columns of `X` against columns of `G`. -/
def tn (n : ℕ) (X G : ℕ → ℕ → EReal) (i j : ℕ) : EReal := ∑ k : Fin n, X k.val i * G k.val j

/-- Device `e`'s rows of `W`. -/
def rowsOf (w : ℕ) (W : ℕ → ℕ → EReal) (e r j : ℕ) : EReal := W (e * w + r) j
/-- Device `e`'s rows of `P`, and below them its rows of `Q`. -/
def bothOf (P Q : ℕ → ℕ → EReal) (e r j : ℕ) : EReal := if r < 256 then P (e * 256 + r) j else Q (e * 256 + (r - 256)) j
/-- Device `e`'s columns of `W`. -/
def colsOf (w : ℕ) (W : ℕ → ℕ → EReal) (e i j : ℕ) : EReal := W i (e * w + j)

theorem both_at {p q : (⟨2, ![2048, 2048]⟩ : Shape).Idx → EReal} {P Q : ℕ → ℕ → EReal} (hp : At2 p P) (hq : At2 q Q) {h1 h2 h5} :
    At3 (concatenate ⟨3, ![8, 512, 2048]⟩ 1
      [⟨⟨3, ![8, 256, 2048]⟩, shapeCast ⟨3, ![8, 256, 2048]⟩ p h1⟩,
       ⟨⟨3, ![8, 256, 2048]⟩, shapeCast ⟨3, ![8, 256, 2048]⟩ q h2⟩] h5) (bothOf P Q) := fun i => by
  have hi : (i 1).val < 512 := (i 1).isLt
  unfold bothOf
  by_cases hc : (i 1).val < 256
  · rw [if_pos hc, concatenate_pair_apply_left _ _ _ h5 i rfl (ValueIdx.ix3 (i 0) ⟨(i 1).val, hc⟩ (i 2)) (fun b => by fin_cases b <;> rfl)]
    exact at3_cut (by norm_num) hp _
  · have hc' : (i 1).val - 256 < 256 := by omega
    rw [if_neg hc, concatenate_pair_apply_right _ _ _ h5 i rfl rfl (ValueIdx.ix3 (i 0) ⟨(i 1).val - 256, hc'⟩ (i 2))
      (fun b hb => by fin_cases b <;> first | rfl | exact absurd rfl hb) (by show (i 1).val - 256 + 256 = (i 1).val; omega)]
    exact at3_cut (by norm_num) hq _

/-- A matrix's columns cut over `n` devices. -/
theorem cols_at {m n w N : ℕ} {v : (⟨2, ![m, N]⟩ : Shape).Idx → EReal} {W : ℕ → ℕ → EReal} (hN : N = n * w) (hv : At2 v W) {h h'} :
    At3 (transpose ⟨3, ![n, m, w]⟩ [1, 0, 2] (shapeCast ⟨3, ![m, n, w]⟩ v h) h') (colsOf w W) := fun i => by
  have h0 : (i 0).val < n := (i 0).isLt
  have h2 : (i 2).val < w := (i 2).isLt
  have hr : (i 0).val * w + (i 2).val < N := by
    rw [hN]
    calc (i 0).val * w + (i 2).val < (i 0).val * w + w := Nat.add_lt_add_left h2 _
      _ = ((i 0).val + 1) * w := (Nat.succ_mul _ _).symm
      _ ≤ n * w := Nat.mul_le_mul_right w h0
  refine (transpose_apply [1, 0, 2] (shapeCast ⟨3, ![m, n, w]⟩ v h) h' _ (ValueIdx.ix3 (i 1) (i 0) (i 2)) (fun b => by fin_cases b <;> rfl)).trans ?_
  refine (shapeCast_apply v h _ (ValueIdx.ix2 (i 1) ⟨(i 0).val * w + (i 2).val, hr⟩) ?_).trans (hv _)
  rw [Shape.rowMajor_val_three, Shape.rowMajor_val_two]
  show (i 1).val * N + ((i 0).val * w + (i 2).val) = ((i 1).val * n + (i 0).val) * w + (i 2).val
  rw [hN]; ring

/-- A sum over stacked rows is the sum over the matrix's rows. -/
theorem rows_back (w : ℕ) (W : ℕ → ℕ → EReal) (k j : ℕ) : rowsOf w W (k / w) (k % w) j = W k j := by
  unfold rowsOf; rw [Nat.div_add_mod']
theorem both_first (P Q : ℕ → ℕ → EReal) (k j : ℕ) : bothOf P Q (k / 256) (k % 256) j = P k j := by
  unfold bothOf; rw [if_pos (Nat.mod_lt _ (by norm_num)), Nat.div_add_mod']
theorem both_second (P Q : ℕ → ℕ → EReal) (k j : ℕ) : bothOf P Q (k / 256) (256 + k % 256) j = Q k j := by
  unfold bothOf; rw [if_neg (by omega), Nat.add_sub_cancel_left, Nat.div_add_mod']

end Cert.Prod

end
-- ==== Proof.MixerGate.lean ====
/- The mixer's gate over the extended reals: gelu, the normalised second half of a row, the masked mixing of 128 rows, and
   what one grid point of the gate's kernel makes of its block. -/
module

public import proofs.«01_k».proof.Proof.Windows
public import proofs.«01_k».proof.Proof.Gen.MixerIdeal.Frame

@[expose] public section

set_option maxRecDepth 16384

noncomputable section

namespace Cert.MixFwd

open Idealize.ShloMosaic Cert.Prod Cert.Lift

/-! ## The formulas -/

/-- gelu by its tanh formula. -/
def gel (x : EReal) : EReal :=
  ((1 / 2 : ℝ) : EReal) * x * (((1 : ℝ) : EReal) + Ideal.tanh (((kC : ℝ) : EReal) * (x + ((kk : ℝ) : EReal) * (x * x * x))))
/-- The second half of a row. -/
def vee (X : ℕ → ℕ → EReal) (i j : ℕ) : EReal := gel (X i (2048 + j))
/-- One over the root of its mean square. -/
def inv (X : ℕ → ℕ → EReal) (i : ℕ) : EReal :=
  Ideal.rsqrt (Ideal.div (∑ k : Fin 2048, vee X i k.val * vee X i k.val) ((2048 : ℝ) : EReal) + ((eps : ℝ) : EReal))
/-- The second half, normalised and scaled. -/
def veen (X : ℕ → ℕ → EReal) (G : ℕ → EReal) (i j : ℕ) : EReal := vee X i j * inv X i * G j
/-- The mixing weights on and below the diagonal. -/
def low (W : ℕ → ℕ → ℕ → EReal) (g t s : ℕ) : EReal := if s ≤ t then W g t s else ((0 : ℝ) : EReal)
/-- The first half of a row times the mixed second halves of the rows up to it, in a block of 128 rows. -/
def mix (X : ℕ → ℕ → EReal) (G : ℕ → EReal) (W : ℕ → ℕ → ℕ → EReal) (B : ℕ → ℕ → EReal) (t j : ℕ) : EReal :=
  gel (X t j) * ((∑ s : Fin 128, low W (j / 256) t s.val * veen X G s.val j) + B (j / 256) t)
/-- The same for all rows, in blocks of 128. -/
def gated (X : ℕ → ℕ → EReal) (G : ℕ → EReal) (W : ℕ → ℕ → ℕ → EReal) (B : ℕ → ℕ → EReal) (i j : ℕ) : EReal :=
  mix (fun t k => X (i / 128 * 128 + t) k) G W B (i % 128) j

/-! ## Loads, columns and rows -/

section Layout
variable {a b n p : ℕ} {φ : FTy}

theorem ld2cw {x : Vec Ideal ⟨2, ![a, n]⟩ .f32} {f : ℕ → ℕ → EReal} (hx : At2 x f) {inb} :
    At2 (a := a) (b := b) (View.ld x (Rect.unit (s := ⟨2, ![a, n]⟩) ![0, p] (⟨2, ![a, b]⟩ : Shape).size inb)) (fun i j => f i (p + j)) := by
  rw [View.ld_unit]
  intro i
  refine (hx _).trans ?_
  show f (0 + (i 0).val) (p + (i 1).val) = _
  rw [Nat.zero_add]

theorem ld3w {x : Vec Ideal ⟨3, ![n, a, b]⟩ .f32} {f : ℕ → ℕ → ℕ → EReal} (hx : At3 x f) {inb h} :
    At2 (shapeCast (α := EReal) ⟨2, ![a, b]⟩ (View.ld x (Rect.unit (s := ⟨3, ![n, a, b]⟩) ![p, 0, 0] (⟨3, ![1, a, b]⟩ : Shape).size inb)) h) (f p) := by
  refine at2_of3 (φ := .f32) (f := fun _ => f p) ?_
  rw [View.ld_unit]
  intro i
  refine (hx _).trans ?_
  have := (i 0).isLt; change (i 0).val < 1 at this
  show f (p + (i 0).val) (0 + (i 1).val) (0 + (i 2).val) = _
  rw [show p + (i 0).val = p by omega, Nat.zero_add, Nat.zero_add]

/-- A column repeated over the columns. -/
theorem at2_cols {x : (⟨2, ![a, 1]⟩ : Shape).Idx → EReal} {f : ℕ → ℕ → EReal} {h} (hv : At2 x f) :
    At2 (broadcastTo ⟨2, ![a, b]⟩ x h) (fun t _ => f t 0) := fun i => by
  rw [broadcastTo_apply x _ i (ValueIdx.ix2 (i 0) 0) (by
    intro k
    match k with
    | ⟨0, _⟩ => exact (by
        show (i 0).val = if a = 1 then 0 else (i 0).val
        split
        · next h1 => have := (i 0).isLt; change (i 0).val < a at this; omega
        · rfl)
    | ⟨1, _⟩ => rfl)]
  exact hv _

/-- A vector as a column. -/
theorem at2_col {x : (⟨1, ![a]⟩ : Shape).Idx → EReal} {r : ℕ → EReal} {h} (hv : At1 x r) :
    At2 (shapeCast ⟨2, ![a, 1]⟩ x h) (fun t _ => r t) := fun i => by
  rw [shapeCast_apply x _ i (ValueIdx.ix1 (i 0)) (by
    rw [Shape.rowMajor_val_one, Shape.rowMajor_val_two]
    show (i 0).val = (i 0).val * 1 + (i 1).val
    have := (i 1).isLt; change (i 1).val < 1 at this; omega), hv]
  rfl

/-- The sums of a matrix's rows. -/
theorem at1_sums {v : FVec Ideal ⟨2, ![a, b]⟩ φ} {f : ℕ → ℕ → EReal} {acc : BitVec φ.bits} {h hφ hacc} (hv : At2 v f) :
    At1 (multiReduction .add [1] ⟨1, ![a]⟩ v acc h hφ hacc) (fun t => ∑ k : Fin b, f t k.val) := fun j => by
  refine (Ideal.multiReduction_add_single v _ _ _ _ j).trans ?_
  exact Finset.sum_congr rfl fun k _ => by rw [hv]; rfl

/-- Stored columns `p`, `p + 1`, …, seen at the block's coordinates. -/
theorem put2c {w : FVec Ideal ⟨2, ![a, b]⟩ φ} {f : ℕ → ℕ → EReal} {inb} (hw : At2 w (fun i j => f i (p + j)))
    (x : (⟨2, ![a, b]⟩ : Shape).Idx) : w x = f ((Rect.unit (s := ⟨2, ![a, n]⟩) ![0, p] ![a, b] inb).emb x 0).val ((Rect.unit (s := ⟨2, ![a, n]⟩) ![0, p] ![a, b] inb).emb x 1).val := by
  rw [hw x]
  show _ = f (0 + 1 * (x 0).val) (p + 1 * (x 1).val)
  rw [Nat.one_mul, Nat.one_mul, Nat.zero_add]
end Layout

/-! ## One grid point of the gate's kernel -/

section Point
open Cert.MixerIdeal Cert.MixerIdeal.Gen

variable {X U N B : ℕ → ℕ → EReal} {W : ℕ → ℕ → ℕ → EReal} {G : ℕ → ℕ → EReal}

theorem cube : Named.named (F := Ideal) κ (φ := .f32) "cube" 0x3D372713#32 = ((kk : ℝ) : EReal) :=
  IdealRules.named_const.ideal_named_scalar _ _ _ _ rfl

theorem gel_at {x : Vec Ideal S128x2048 .f32} {f : ℕ → ℕ → EReal} (h : At2 (a := 128) (b := 2048) x f) :
    At2 (a := 128) (b := 2048) (k1_pay2 (F := Ideal) x) (fun t j => gel (f t j)) := fun i => by
  unfold k1_pay2
  have hx := at2_self (a := 128) (b := 2048) (φ := .f32) (h := shapeCasts_S128x2048_S128x2048) h
  generalize shapeCast S128x2048 x shapeCasts_S128x2048_S128x2048 = z at hx ⊢
  show FloatOps.mulf (FloatOps.mulf (Ideal.ofBits .f32 0x3F000000#32) (z i)) (FloatOps.addf (Ideal.ofBits .f32 0x3F800000#32)
    (FloatOps.tanh (FloatOps.mulf (Ideal.ofBits .f32 0x3F4C422A#32) (FloatOps.addf (z i)
      (FloatOps.mulf (Named.named (F := Ideal) κ (φ := .f32) "cube" 0x3D372713#32) (FloatOps.mulf (FloatOps.mulf (z i) (z i)) (z i))))))) = _
  rw [hx i, cube, lit_kC, lit_half, lit_one]
  rfl

theorem norm_at {x : Vec Ideal S128x2048 .f32} (h : At2 (a := 128) (b := 2048) x (fun t j => X t (2048 + j))) :
    At2 (a := 128) (b := 2048) (k1_pay3 (F := Ideal) x) (fun t j => vee X t j * inv X t) := by
  have hv : At2 (a := 128) (b := 2048) (k1_pay2 (F := Ideal) x) (vee X) := gel_at h
  have hs := at2_col (a := 128) (h := shapeCasts_S128_S128x1)
    (at1_sums (a := 128) (b := 2048) (acc := 0x00000000#32) (h := reduces_S128x2048_S128) (hφ := .inl rfl) (hacc := rfl) (at2_mul (a := 128) (b := 2048) (φ := .f32) hv hv))
  have hr : At2 (a := 128) (b := 1) (rsqrt (addf (divf (shapeCast S128x1 (multiReduction .add [1] S128 (mulf (k1_pay2 (F := Ideal) x) (k1_pay2 (F := Ideal) x)) 0x00000000#32 reduces_S128x2048_S128 (.inl rfl) rfl) shapeCasts_S128_S128x1)
      (broadcast S128x1 (Scalar.ofBits .f32 0x45000000#32))) (broadcast S128x1 (Scalar.ofBits .f32 0x3727C5AC#32)) : FVec Ideal S128x1 .f32)) (fun t _ => inv X t) := fun i => by
    generalize shapeCast S128x1 _ shapeCasts_S128_S128x1 = z at hs ⊢
    show FloatOps.rsqrt (FloatOps.addf (FloatOps.divf (z i) (Ideal.ofBits .f32 0x45000000#32)) (Ideal.ofBits .f32 0x3727C5AC#32)) = _
    rw [hs i, lit_2048, lit_eps]
    rfl
  exact at2_mul (a := 128) (b := 2048) (φ := .f32) hv (at2_cols (a := 128) (b := 2048) (h := broadcasts_S128x1_S128x2048) hr)

theorem veen_at {v : FVec Ideal S128x2048 .f32} {g : FVec Ideal S1x2048 .f32} (hv : At2 (a := 128) (b := 2048) v (fun t j => vee X t j * inv X t)) (hg : At2 (a := 1) (b := 2048) g G) :
    At2 (a := 128) (b := 2048) (k1_pay5 (F := Ideal) v g) (veen X (G 0)) :=
  at2_mul (a := 128) (b := 2048) (φ := .f32) hv (at2_row (a := 128) (b := 2048) hg)

theorem low_at {v : FVec Ideal S128x128 .f32} {g : ℕ} (h : At2 (a := 128) (b := 128) v (W g)) :
    At2 (a := 128) (b := 128) (select k1_pay6 v (broadcast S128x128 (Scalar.ofBits (F := Ideal) .f32 0x00000000#32))) (low W g) := fun i => by
  show Scalar.select (k1_pay6 i) (v i) (Ideal.ofBits .f32 0x00000000#32) = _
  have hm : k1_pay6 i = if (i 1).val ≤ (i 0).val then 1#1 else 0#1 := by
    unfold k1_pay6
    show IntOp.cmpi .sge (iota .tc S128x128 32 [0] iota_S128x128_d0_w32 i) (iota .tc S128x128 32 [1] iota_S128x128_d1_w32 i) = _
    rw [iota_single_apply, iota_single_apply]
    exact mask_bit _ _ (i 0).isLt (i 1).isLt
  rw [hm, h i, lit_zero]
  unfold low
  split <;> rfl

/-- One group of 256 columns. -/
theorem group (g : ℕ) {u : FVec Ideal S128x2048 .f32} {n : FVec Ideal S128x2048 .bf16} {x2 : Vec Ideal S8x128x128 .f32} {x3 : Vec Ideal S128x8 .f32}
    (hu : At2 (a := 128) (b := 2048) u (fun t j => gel (X t j))) (hn : At2 (a := 128) (b := 2048) n (veen X (G 0))) (h2 : At3 (a := 8) (b := 128) (c := 128) x2 W) (h3 : At2 (a := 128) (b := 8) x3 (fun t g => B g t))
    {hs : S128x2048.Slices ![0, 256 * g] S128x256} {i2 i3} :
    At2 (a := 128) (b := 256) (mulf (extractStridedSlice S128x256 ![0, 256 * g] u hs) (addf
      (FloatOps.matmul (F := Ideal) (φ₁ := .bf16) (φ₂ := .bf16) (DotDims.plain 128 128 256) none
        (select k1_pay6 (shapeCast (α := EReal) S128x128 (View.ld x2 (Rect.unit (s := S8x128x128) ![g, 0, 0] S1x128x128.size i2)) shapeCasts_S1x128x128_S128x128) (broadcast S128x128 (Scalar.ofBits (F := Ideal) .f32 0x00000000#32)))
        (extractStridedSlice S128x256 ![0, 256 * g] n hs) (constant S128x256 .f32 0x00000000#32))
      (broadcastTo S128x256 (shapeCast (α := EReal) S128x1 (View.ld x3 (Rect.unit (s := S128x8) ![0, g] S128x1.size i3)) shapeCasts_S128x1_S128x1) broadcasts_S128x1_S128x256)) : FVec Ideal S128x256 .f32)
      (fun t j => mix X (G 0) W B t (256 * g + j)) := by
  have ew := low_at (W := W) (g := g) (ld3w (a := 128) (b := 128) (n := 8) (p := g) (inb := i2) (h := shapeCasts_S1x128x128_S128x128) h2)
  have en := at2_slice (a := 128) (b := 256) (n := 2048) (p := 256 * g) (h := hs) hn
  have eu := at2_slice (a := 128) (b := 256) (n := 2048) (p := 256 * g) (h := hs) hu
  have eb := at2_cols (a := 128) (b := 256) (h := broadcasts_S128x1_S128x256)
    (at2_self (a := 128) (b := 1) (φ := .f32) (h := shapeCasts_S128x1_S128x1) (ld2cw (a := 128) (b := 1) (n := 8) (p := g) (inb := i3) h3))
  have e := at2_mul (a := 128) (b := 256) (φ := .f32) eu (at2_add (a := 128) (b := 256) (φ := .f32)
    (mulNN (M := 128) (K := 128) (N := 256) (φ₁ := .bf16) (φ₂ := .bf16) none ew en) eb)
  refine at2_congr e fun t j _ hj => ?_
  unfold mix
  rw [show (256 * g + j) / 256 = g by omega]
  rfl

/-- The block of gated rows. -/
theorem out_gate {x0 : Vec Ideal S128x4096 .f32} {x1 : Vec Ideal S1x2048 .f32} {x2 : Vec Ideal S8x128x128 .f32} {x3 : Vec Ideal S128x8 .f32}
    (h0 : At2 (a := 128) (b := 4096) x0 X) (h1 : At2 (a := 1) (b := 2048) x1 G) (h2 : At3 (a := 8) (b := 128) (c := 128) x2 W) (h3 : At2 (a := 128) (b := 8) x3 (fun t g => B g t)) :
    At2 (a := 128) (b := 2048) (out1_4 x0 x1 x2 x3) (mix X (G 0) W B) := fun y => by
  unfold out1_4
  refine View.canon_apply_of_pieces (Val := Elt Ideal) (fun y => mix X (G 0) W B (y 0).val (y 1).val) _ ?_ _ (cover1_4 _ _ _ _ _ _ _ _ y)
  have hu : At2 (a := 128) (b := 2048) (k1_pay15 (F := Ideal) x0 x1 x2 x3) (fun t j => gel (X t j)) :=
    gel_at (at2_congr (ld2cw (a := 128) (b := 2048) (n := 4096) (p := 0) (inb := inb_S128x4096_S128x2048_0_0) h0) fun t j _ _ => by rw [Nat.zero_add])
  have hn : At2 (a := 128) (b := 2048) (k1_pay18 (F := Ideal) x0 x1 x2 x3) (veen X (G 0)) :=
    veen_at (norm_at (ld2cw (a := 128) (b := 2048) (n := 4096) (p := 2048) (inb := inb_S128x4096_S128x2048_0_2048) h0))
      (at2_self (a := 1) (b := 2048) (φ := .f32) (ld2w (inb := inb_S1x2048_S1x2048_0_0) h1))
  simp only [List.forall_mem_cons]
  refine ⟨put2c (p := 1792) (φ := .bf16) (f := mix X (G 0) W B) ?_, put2c (p := 1536) (φ := .bf16) (f := mix X (G 0) W B) ?_, put2c (p := 1280) (φ := .bf16) (f := mix X (G 0) W B) ?_,
    put2c (p := 1024) (φ := .bf16) (f := mix X (G 0) W B) ?_, put2c (p := 768) (φ := .bf16) (f := mix X (G 0) W B) ?_, put2c (p := 512) (φ := .bf16) (f := mix X (G 0) W B) ?_,
    put2c (p := 256) (φ := .bf16) (f := mix X (G 0) W B) ?_, put2c (p := 0) (φ := .bf16) (f := mix X (G 0) W B) ?_, by simp⟩
  · exact group 7 hu hn h2 h3 (hs := slices_S128x2048_o0_1792_S128x256)
  · exact group 6 hu hn h2 h3 (hs := slices_S128x2048_o0_1536_S128x256)
  · exact group 5 hu hn h2 h3 (hs := slices_S128x2048_o0_1280_S128x256)
  · exact group 4 hu hn h2 h3 (hs := slices_S128x2048_o0_1024_S128x256)
  · exact group 3 hu hn h2 h3 (hs := slices_S128x2048_o0_768_S128x256)
  · exact group 2 hu hn h2 h3 (hs := slices_S128x2048_o0_512_S128x256)
  · exact group 1 hu hn h2 h3 (hs := slices_S128x2048_o0_256_S128x256)
  · exact group 0 hu hn h2 h3 (hs := slices_S128x2048_o0_0_S128x256)
end Point

end Cert.MixFwd

end
-- ==== Proof.MixerRun.lean ====
/- The mixer, forward: what the three kernels leave in their arrays, and what a run of the program leaves in its three
   results. -/
module

public import proofs.«01_k».proof.Proof.Weights
public import proofs.«01_k».proof.Proof.MixerGate

@[expose] public section

set_option maxRecDepth 16384

noncomputable section

namespace Cert.MixFwd

open Cert.MixerIdeal Cert.MixerIdeal.Gen Idealize.ShloMosaic Idealize.ShloMosaic.TcCoe Idealize.ShloMosaic.Tactic Idealize.SL Idealize.SL.Sem Cert.Prod

variable {X Y G H P Q B : ℕ → ℕ → EReal} {W : ℕ → ℕ → ℕ → EReal} {g : ℕ → EReal}

/-! ## One grid point of the two products -/

/-- Rows of `X` against the columns of a stack of matrices, `512` columns each. -/
def byCols (X : ℕ → ℕ → EReal) (W : ℕ → ℕ → ℕ → EReal) (i j : ℕ) : EReal := nn 2048 X (W (j / 512)) i (j % 512)
/-- Rows of `X` against the columns of a stack of matrices laid one above the other, added to `H`. -/
def onto (X : ℕ → ℕ → EReal) (W : ℕ → ℕ → ℕ → EReal) (H : ℕ → ℕ → EReal) (i j : ℕ) : EReal :=
  (∑ k : Fin 2048, X i k.val * W (k.val / 256) (k.val % 256) j) + H i j

section In
variable {x0 : Vec Ideal S1024x2048 .bf16} {x1 : Vec Ideal S1x2048x512 .bf16} (h0 : At2 x0 X) (h1 : At3 x1 W)

include h0 h1 in
theorem out_in : At2 (a := 1024) (b := 512) (out0_2 x0 x1) (nn 2048 X (W 0)) := fun y => by
  unfold out0_2
  refine View.canon_apply_of_pieces (Val := Elt Ideal) (fun y => nn 2048 X (W 0) (y 0).val (y 1).val) _ ?_ _ (cover0_2 _ y)
  simp only [List.forall_mem_cons]
  refine ⟨put2 (φ := .f32) (f := nn 2048 X (W 0)) ?_, by simp⟩
  have e := mulNN (M := 1024) (K := 2048) (N := 512) (φ₁ := .bf16) (φ₂ := .bf16) none
    (at2_self (a := 1024) (b := 2048) (φ := .bf16) (h := shapeCasts_S1024x2048_S1024x2048) (ld2 (inb := inb_S1024x2048_S1024x2048_0_0) h0))
    (ld3 (a := 2048) (b := 512) (n := 1) (p := 0) (inb := inb_S1x2048x512_S1x2048x512_0_0_0) (h := shapeCasts_S1x2048x512_S2048x512) h1)
  exact e
end In

section Out
variable {x0 : Vec Ideal S1024x2048 .bf16} {x1 : Vec Ideal S8x256x1024 .bf16} {x2 : Vec Ideal S1024x1024 .f32} (h0 : At2 x0 X) (h1 : At3 x1 W) (h2 : At2 x2 H)

include h0 h1 h2 in
theorem out_out : At2 (a := 1024) (b := 1024) (out2_3 x0 x1 x2) (onto X W H) := fun y => by
  unfold out2_3
  refine View.canon_apply_of_pieces (Val := Elt Ideal) (fun y => onto X W H (y 0).val (y 1).val) _ ?_ _ (cover2_3 _ y)
  simp only [List.forall_mem_cons]
  refine ⟨put2 (φ := .f32) (f := onto X W H) ?_, by simp⟩
  have ew := at2_stack (n := 8) (a := 256) (b := 1024) (R := 2048) (h := shapeCasts_S8x256x1024_S2048x1024) (by norm_num)
    (at3_self (n := 8) (a := 256) (b := 1024) (φ := .bf16) (h := shapeCasts_S8x256x1024_S8x256x1024) (lds3 (inb := inb_S8x256x1024_S8x256x1024_0_0_0) h1))
  have e := mulNN (M := 1024) (K := 2048) (N := 1024) (φ₁ := .bf16) (φ₂ := .bf16) none
    (at2_self (a := 1024) (b := 2048) (φ := .bf16) (h := shapeCasts_S1024x2048_S1024x2048) (ld2 (inb := inb_S1024x2048_S1024x2048_0_0) h0)) ew
  have e' := at2_add (a := 1024) (b := 1024) (φ := .f32) e (ld2w (inb := inb_S1024x1024_S1024x1024_0_0) h2)
  exact e'
end Out

/-! ## The blocks the points read and write -/

theorem index0_0 : ∀ t : Fin cfg0.N, win0_0.index t 0 = t.val / 8 ∧ win0_0.index t 1 = 0 :=
  (by decide +kernel : ∀ t : Fin grid0.N, win0_0.index t 0 = t.val / 8 ∧ win0_0.index t 1 = 0)
theorem index0_1 : ∀ t : Fin cfg0.N, win0_1.index t 0 = t.val % 8 ∧ win0_1.index t 1 = 0 ∧ win0_1.index t 2 = 0 :=
  (by decide +kernel : ∀ t : Fin grid0.N, win0_1.index t 0 = t.val % 8 ∧ win0_1.index t 1 = 0 ∧ win0_1.index t 2 = 0)
theorem index0_2 : ∀ t : Fin cfg0.N, win0_2.index t 0 = t.val / 8 ∧ win0_2.index t 1 = t.val % 8 :=
  (by decide +kernel : ∀ t : Fin grid0.N, win0_2.index t 0 = t.val / 8 ∧ win0_2.index t 1 = t.val % 8)
theorem index1_0 : ∀ t : Fin cfg1.N, win1_0.index t 0 = t.val ∧ win1_0.index t 1 = 0 :=
  (by decide +kernel : ∀ t : Fin grid1.N, win1_0.index t 0 = t.val ∧ win1_0.index t 1 = 0)
theorem index1_1 : ∀ t : Fin cfg1.N, win1_1.index t 0 = 0 ∧ win1_1.index t 1 = 0 :=
  (by decide +kernel : ∀ t : Fin grid1.N, win1_1.index t 0 = 0 ∧ win1_1.index t 1 = 0)
theorem index1_2 : ∀ t : Fin cfg1.N, win1_2.index t 0 = 0 ∧ win1_2.index t 1 = 0 ∧ win1_2.index t 2 = 0 :=
  (by decide +kernel : ∀ t : Fin grid1.N, win1_2.index t 0 = 0 ∧ win1_2.index t 1 = 0 ∧ win1_2.index t 2 = 0)
theorem index1_3 : ∀ t : Fin cfg1.N, win1_3.index t 0 = 0 ∧ win1_3.index t 1 = 0 :=
  (by decide +kernel : ∀ t : Fin grid1.N, win1_3.index t 0 = 0 ∧ win1_3.index t 1 = 0)
theorem index1_4 : ∀ t : Fin cfg1.N, win1_4.index t 0 = t.val ∧ win1_4.index t 1 = 0 :=
  (by decide +kernel : ∀ t : Fin grid1.N, win1_4.index t 0 = t.val ∧ win1_4.index t 1 = 0)
theorem index2_0 : ∀ t : Fin cfg2.N, win2_0.index t 0 = t.val / 2 ∧ win2_0.index t 1 = 0 :=
  (by decide +kernel : ∀ t : Fin grid2.N, win2_0.index t 0 = t.val / 2 ∧ win2_0.index t 1 = 0)
theorem index2_1 : ∀ t : Fin cfg2.N, win2_1.index t 0 = 0 ∧ win2_1.index t 1 = 0 ∧ win2_1.index t 2 = t.val % 2 :=
  (by decide +kernel : ∀ t : Fin grid2.N, win2_1.index t 0 = 0 ∧ win2_1.index t 1 = 0 ∧ win2_1.index t 2 = t.val % 2)
theorem index2_2 : ∀ t : Fin cfg2.N, win2_2.index t 0 = t.val / 2 ∧ win2_2.index t 1 = t.val % 2 :=
  (by decide +kernel : ∀ t : Fin grid2.N, win2_2.index t 0 = t.val / 2 ∧ win2_2.index t 1 = t.val % 2)
theorem index2_3 : ∀ t : Fin cfg2.N, win2_3.index t 0 = t.val / 2 ∧ win2_3.index t 1 = t.val % 2 :=
  (by decide +kernel : ∀ t : Fin grid2.N, win2_3.index t 0 = t.val / 2 ∧ win2_3.index t 1 = t.val % 2)

/-! ## The three kernels -/

section Region0
variable (V : (c : Dev nD) → (b : Ref sig .tc) → Buf (Elt Ideal) ((c : Thread nD τ).loc b)) (c : Dev nD)
  (hx : At2 (V c main_v0 : S2048x2048.Idx → EReal) X) (hw : At3 (V c main_v3 : S8x2048x512.Idx → EReal) W)

include hx hw in
theorem result0 (i : S2048x4096.Idx) : ((dat0 V c).arrAt 2 cfg0.N : S2048x4096.Idx → EReal) i = byCols X W (i 0).val (i 1).val := by
  refine (dat0 V c).arrAt_forall_of_covers 2 (fun (i : S2048x4096.Idx) (v : EReal) => v = byCols X W (i 0).val (i 1).val)
    (by decide +kernel) (fun t hf (y : S1024x512.Idx) => ?_) i
  show (dat0 V c).after 2 t y = byCols X W ((win0_2.rect t).emb y 0).val ((win0_2.rect t).emb y 1).val
  rw [after0_2, place win0_2 t 0 (index0_2 t).1 y, place win0_2 t 1 (index0_2 t).2 y]
  have e0 : At2 (a := 1024) (b := 2048) (iblk0 V c 0 t) (fun s k => X (t.val / 8 * 1024 + s) k) :=
    block2 X hx (place win0_0 t 0 (index0_0 t).1) (win0_0.rect_emb_val_of_index_zero t 1 (index0_0 t).2)
  have e1 : At3 (a := 1) (b := 2048) (c := 512) (iblk0 V c 1 t) (fun e r j => W (t.val % 8 * 1 + e) r j) :=
    block3 W hw (place win0_1 t 0 (index0_1 t).1) (win0_1.rect_emb_val_of_index_zero t 1 (index0_1 t).2.1) (win0_1.rect_emb_val_of_index_zero t 2 (index0_1 t).2.2)
  refine (out_in e0 e1 y).trans ?_
  have hy : (y 1).val < 512 := (y 1).isLt
  show _ = nn 2048 X (W ((t.val % 8 * 512 + (y 1).val) / 512)) (t.val / 8 * 1024 + (y 0).val) ((t.val % 8 * 512 + (y 1).val) % 512)
  rw [show (t.val % 8 * 512 + (y 1).val) / 512 = t.val % 8 * 1 + 0 by omega, show (t.val % 8 * 512 + (y 1).val) % 512 = (y 1).val by omega]
  rfl
end Region0

section Region1
variable (V : (c : Dev nD) → (b : Ref sig .tc) → Buf (Elt Ideal) ((c : Thread nD τ).loc b)) (c : Dev nD)
  (hx : At2 (V c main_v4 : S2048x4096.Idx → EReal) X) (hg : At2 (V c main_v5 : S1x2048.Idx → EReal) (fun _ j => g j))
  (hw : At3 (V c main_arg3 : S8x128x128.Idx → EReal) W) (hb : At2 (V c main_v6 : S128x8.Idx → EReal) (fun t e => B e t))

include hx hg hw hb in
theorem result1 (i : S2048x2048.Idx) : ((dat1 V c).arrAt 4 cfg1.N : S2048x2048.Idx → EReal) i = gated X g W B (i 0).val (i 1).val := by
  refine (dat1 V c).arrAt_forall_of_covers 4 (fun (i : S2048x2048.Idx) (v : EReal) => v = gated X g W B (i 0).val (i 1).val)
    (by decide +kernel) (fun t hf (y : S128x2048.Idx) => ?_) i
  show (dat1 V c).after 4 t y = gated X g W B ((win1_4.rect t).emb y 0).val ((win1_4.rect t).emb y 1).val
  rw [after1_4, place win1_4 t 0 (index1_4 t).1 y, win1_4.rect_emb_val_of_index_zero t 1 (index1_4 t).2]
  have e0 : At2 (a := 128) (b := 4096) (iblk1 V c 0 t) (fun s k => X (t.val * 128 + s) k) :=
    block2 X hx (place win1_0 t 0 (index1_0 t).1) (win1_0.rect_emb_val_of_index_zero t 1 (index1_0 t).2)
  have e1 : At2 (a := 1) (b := 2048) (iblk1 V c 1 t) (fun _ j => g j) :=
    block2 (fun _ j => g j) hg (p := fun k => k) (q := fun k => k) (win1_1.rect_emb_val_of_index_zero t 0 (index1_1 t).1) (win1_1.rect_emb_val_of_index_zero t 1 (index1_1 t).2)
  have e2 : At3 (a := 8) (b := 128) (c := 128) (iblk1 V c 2 t) W :=
    block3 W hw (win1_2.rect_emb_val_of_index_zero t 0 (index1_2 t).1) (win1_2.rect_emb_val_of_index_zero t 1 (index1_2 t).2.1) (win1_2.rect_emb_val_of_index_zero t 2 (index1_2 t).2.2)
  have e3 : At2 (a := 128) (b := 8) (iblk1 V c 3 t) (fun t e => B e t) :=
    block2 (fun t e => B e t) hb (win1_3.rect_emb_val_of_index_zero t 0 (index1_3 t).1) (win1_3.rect_emb_val_of_index_zero t 1 (index1_3 t).2)
  refine (out_gate e0 e1 e2 e3 y).trans ?_
  have hy : (y 0).val < 128 := (y 0).isLt
  show _ = mix (fun s k => X ((t.val * 128 + (y 0).val) / 128 * 128 + s) k) g W B ((t.val * 128 + (y 0).val) % 128) (y 1).val
  rw [show (t.val * 128 + (y 0).val) / 128 = t.val by omega, show (t.val * 128 + (y 0).val) % 128 = (y 0).val by omega]
end Region1

section Region2
variable (V : (c : Dev nD) → (b : Ref sig .tc) → Buf (Elt Ideal) ((c : Thread nD τ).loc b)) (c : Dev nD)
  (hx : At2 (V c main_v7 : S2048x2048.Idx → EReal) X) (hw : At3 (V c main_v9 : S8x256x2048.Idx → EReal) W) (hh : At2 (V c main_arg6 : S2048x2048.Idx → EReal) H)

include hx hw hh in
theorem result2 (i : S2048x2048.Idx) : ((dat2 V c).arrAt 3 cfg2.N : S2048x2048.Idx → EReal) i = onto X W H (i 0).val (i 1).val := by
  refine (dat2 V c).arrAt_forall_of_covers 3 (fun (i : S2048x2048.Idx) (v : EReal) => v = onto X W H (i 0).val (i 1).val)
    (by decide +kernel) (fun t hf (y : S1024x1024.Idx) => ?_) i
  show (dat2 V c).after 3 t y = onto X W H ((win2_3.rect t).emb y 0).val ((win2_3.rect t).emb y 1).val
  rw [after2_3, place win2_3 t 0 (index2_3 t).1 y, place win2_3 t 1 (index2_3 t).2 y]
  have e0 : At2 (a := 1024) (b := 2048) (iblk2 V c 0 t) (fun s k => X (t.val / 2 * 1024 + s) k) :=
    block2 X hx (place win2_0 t 0 (index2_0 t).1) (win2_0.rect_emb_val_of_index_zero t 1 (index2_0 t).2)
  have e1 : At3 (a := 8) (b := 256) (c := 1024) (iblk2 V c 1 t) (fun e r j => W e r (t.val % 2 * 1024 + j)) :=
    block3 W hw (win2_1.rect_emb_val_of_index_zero t 0 (index2_1 t).1) (win2_1.rect_emb_val_of_index_zero t 1 (index2_1 t).2.1) (place win2_1 t 2 (index2_1 t).2.2)
  have e2 : At2 (a := 1024) (b := 1024) (iblk2 V c 2 t) (fun s k => H (t.val / 2 * 1024 + s) (t.val % 2 * 1024 + k)) :=
    block2 H hh (place win2_2 t 0 (index2_2 t).1) (place win2_2 t 1 (index2_2 t).2)
  exact out_out e0 e1 e2 y
end Region2

/-! ## What the host prepares, and the kernels one after the other -/

section Whole
variable (m : (ℓ : Loc nD τ sig) → Buf (Elt Ideal) ℓ) (ρ : Dev nD → PrngReg) (c : Dev nD)
  (hx : At2 (m ((c : Thread nD τ).loc main_arg0) : S2048x2048.Idx → EReal) X)
  (hp : At2 (m ((c : Thread nD τ).loc main_arg1) : S2048x4096.Idx → EReal) P)
  (hg : At1 (m ((c : Thread nD τ).loc main_arg2) : S2048.Idx → EReal) g)
  (hw : At3 (m ((c : Thread nD τ).loc main_arg3) : S8x128x128.Idx → EReal) W)
  (hb : At2 (m ((c : Thread nD τ).loc main_arg4) : S8x128.Idx → EReal) B)
  (hq : At2 (m ((c : Thread nD τ).loc main_arg5) : S2048x2048.Idx → EReal) Q)
  (hh : At2 (m ((c : Thread nD τ).loc main_arg6) : S2048x2048.Idx → EReal) H)

theorem V1_cast : (V1 m ρ c main_v0 : S2048x2048.Idx → EReal) = (m ((c : Thread nD τ).loc main_arg0) : S2048x2048.Idx → EReal) := rfl
theorem V1_cols : (V1 m ρ c main_v3 : S8x2048x512.Idx → EReal)
    = transpose S8x2048x512 [1, 0, 2] (shapeCast S2048x8x512 (m ((c : Thread nD τ).loc main_arg1) : S2048x4096.Idx → EReal) shapeCasts_S2048x4096_S2048x8x512) transposes_S2048x8x512_S8x2048x512_1_0_2 := rfl
theorem V3_gain : (V3 m ρ c main_v5 : S1x2048.Idx → EReal) = shapeCast S1x2048 (W2 m ρ c (Proc.devRef .tc main_arg2) : S2048.Idx → EReal) shapeCasts_S2048_S1x2048 := rfl
theorem V3_bias : (V3 m ρ c main_v6 : S128x8.Idx → EReal) = transpose S128x8 [1, 0] (W2 m ρ c (Proc.devRef .tc main_arg4) : S8x128.Idx → EReal) transposes_S8x128_S128x8_1_0 := rfl
theorem V5_rows : (V5 m ρ c main_v9 : S8x256x2048.Idx → EReal)
    = shapeCast S8x256x2048 (W4 m ρ c (Proc.devRef .tc main_arg5) : S2048x2048.Idx → EReal) shapeCasts_S2048x2048_S8x256x2048 := rfl

include hx hp in
/-- The first product, when its kernel is done. -/
theorem z_first (i : S2048x4096.Idx) : (W2 m ρ c (Proc.devRef .tc main_v4) : S2048x4096.Idx → EReal) i = byCols X (colsOf 512 P) (i 0).val (i 1).val :=
  (congrFun (W2_arr m ρ c 2) i).trans
    (result0 (V1 m ρ) c (fun i => (congrFun (V1_cast m ρ c) i).trans (hx i))
      (fun i => (congrFun (V1_cols m ρ c) i).trans (cols_at (m := 2048) (w := 512) (N := 4096) (by norm_num) hp i)) i)

include hx hp in
theorem z_out (i : S2048x4096.Idx) : (W6 m ρ c (Proc.devRef .tc main_v4) : S2048x4096.Idx → EReal) i = byCols X (colsOf 512 P) (i 0).val (i 1).val :=
  (congrFun (((W6_of m ρ c main_v4 (by decide)).trans (W5_of m ρ c main_v4 (by decide))).trans
    ((W4_of m ρ c main_v4 (by decide)).trans (W3_of m ρ c main_v4 (by decide)))) i).trans (z_first m ρ c hx hp i)

include hx hp hg hw hb in
/-- The gated product, when its kernel is done. -/
theorem g_first (i : S2048x2048.Idx) : (W4 m ρ c (Proc.devRef .tc main_v7) : S2048x2048.Idx → EReal) i = gated (byCols X (colsOf 512 P)) g W B (i 0).val (i 1).val :=
  (congrFun (W4_arr m ρ c 4) i).trans
    (result1 (V3 m ρ) c (fun i => (congrFun (W3_of m ρ c main_v4 (by decide)) i).trans (z_first m ρ c hx hp i))
      (fun i => (congrFun (V3_gain m ρ c) i).trans (at2_of1 (b := 2048) (fun k => (congrFun (W2_args m ρ c main_arg2 (by decide)) k).trans (hg k)) i))
      (fun i => (congrFun (W3_args m ρ c main_arg3 (by decide)) i).trans (hw i))
      (fun i => (congrFun (V3_bias m ρ c) i).trans (at2_swap (a := 8) (b := 128) (fun k => (congrFun (W2_args m ρ c main_arg4 (by decide)) k).trans (hb k)) i)) i)

include hx hp hg hw hb in
theorem g_out (i : S2048x2048.Idx) : (W6 m ρ c (Proc.devRef .tc main_v7) : S2048x2048.Idx → EReal) i = gated (byCols X (colsOf 512 P)) g W B (i 0).val (i 1).val :=
  (congrFun ((W6_of m ρ c main_v7 (by decide)).trans (W5_of m ρ c main_v7 (by decide))) i).trans (g_first m ρ c hx hp hg hw hb i)

include hx hp hg hw hb hq hh in
/-- The mixer's output added to its input. -/
theorem h_out (i : S2048x2048.Idx) : (W6 m ρ c (Proc.devRef .tc main_v10) : S2048x2048.Idx → EReal) i
    = onto (gated (byCols X (colsOf 512 P)) g W B) (rowsOf 256 Q) H (i 0).val (i 1).val :=
  (congrFun (W6_arr m ρ c 3) i).trans
    (result2 (V5 m ρ) c (fun i => (congrFun (W5_of m ρ c main_v7 (by decide)) i).trans (g_first m ρ c hx hp hg hw hb i))
      (fun i => (congrFun (V5_rows m ρ c) i).trans (at3_cut (by norm_num) (fun k => (congrFun (W4_args m ρ c main_arg5 (by decide)) k).trans (hq k)) i))
      (fun i => (congrFun (W5_args m ρ c main_arg6 (by decide)) i).trans (hh i)) i)
end Whole

end Cert.MixFwd

end
-- ==== Proof.MixerLaunch.lean ====
/- The mixer, forward: a run of the program leaves in its three results what the three kernels leave there. -/
module

public import proofs.«01_k».proof.Proof.Gen.MixerIdeal.Frame

@[expose] public section

set_option maxRecDepth 16384

noncomputable section

namespace Cert.MixFwd

open Cert.MixerIdeal Cert.MixerIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] (m : (ℓ : Loc nD τ sig) → Buf (Elt F) ℓ) (ρ : Dev nD → PrngReg)

set_option backward.isDefEq.respectTransparency.types false in
/-- Every buffer that outlives the kernels ends as the chain of the program's pieces leaves it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun _ h _ => h)

/-- What a run of the program leaves in its results and its arguments. -/
theorem run : θ_run defs (onTc (τ := τ) (main (F := F))) ⟨m, fun _ => 0, ρ⟩ (fun r => ∀ c : Dev nD,
      r.2.mem ((c.tc : Thread nD τ).loc main_v4) = W6 m ρ c (Proc.devRef .tc main_v4)
      ∧ r.2.mem ((c.tc : Thread nD τ).loc main_v7) = W6 m ρ c (Proc.devRef .tc main_v7)
      ∧ r.2.mem ((c.tc : Thread nD τ).loc main_v10) = W6 m ρ c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨h c _ (mem_uc main_v4 (by decide)), h c _ (mem_uc main_v7 (by decide)), h c _ (mem_uc main_v10 (by decide)),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c)⟩) (run_all m ρ)

end Cert.MixFwd

end
-- ==== Proof.Mixer.lean ====
/- The mixer, forward: the kernels' results are the reference's. -/
module

public import proofs.«01_k».proof.Proof.MixerRun
public import proofs.«01_k».proof.Proof.MixerLaunch
public import proofs.«01_k».proof.Proof.Gen.Mixer.Frame
public import proofs.«01_k».proof.Proof.Gen.MixerReferenceIdeal.Run
public import proofs.«01_k».proof.Proof.Gen.MixerReferenceIdeal.Read
public import proofs.«01_k».proof.Defs

@[expose] public section

set_option maxRecDepth 16384

noncomputable section

namespace Cert.MixFwd

open Idealize.ShloMosaic Idealize.ShloMosaic.TcCoe Idealize.SL.Sem Cert.Prod Cert.Lift

variable {X P Q H B Z : ℕ → ℕ → EReal} {W : ℕ → ℕ → ℕ → EReal} {g : ℕ → EReal}

/-! ## The reference -/

section Reference
open Cert.MixerReferenceIdeal Cert.MixerReferenceIdeal.Gen Cert.MixerReferenceIdeal.Read

variable {x0 x5 x6 : S2048x2048.Idx → EReal} {x1 : S2048x4096.Idx → EReal} {x2 : S2048.Idx → EReal} {x3 : S8x128x128.Idx → EReal} {x4 : S8x128.Idx → EReal}

theorem ref_z (hx : At2 x0 X) (hp : At2 x1 P) : At2 (a := 2048) (b := 4096) (val_main_v0 (F := Ideal) x0 x1) (nn 2048 X P) := fun i => by
  rw [val_main_v0_apply]
  refine Finset.sum_congr rfl fun k _ => ?_
  rw [hp]
  exact congrArg (fun z : EReal => z * _) (hx _)

theorem ref_kk (i : S_.Idx) : val_main_v1 (F := Ideal) i = ((kk : ℝ) : EReal) := by
  rw [val_main_v1_apply, val_main_cst_apply, val_main_cst_0_apply, Ideal.ofBits_def, Ideal.ofBits_def, lit_8943, lit_200000, hostDivC _ (by norm_num)]
  rfl

theorem row_of (c t e d : ℕ) (ht : t < 128) (he : e < 8) (hd : d < 256) :
    (((c * 128 + t) * 8 + e) * 256 + d) / 2048 = c * 128 + t ∧ (((c * 128 + t) * 8 + e) * 256 + d) % 2048 = 256 * e + d := by omega

section Rows
variable (hz : At2 (a := 2048) (b := 4096) (val_main_v0 (F := Ideal) x0 x1) Z)
include hz

theorem ref_gel : At2 (a := 2048) (b := 4096) (val_main_v14 (F := Ideal) x0 x1) (fun i j => gel (Z i j)) := fun i => by
  simp only [val_main_v14_apply, val_main_v13_apply, val_main_v12_apply, val_main_v11_apply, val_main_v10_apply, val_main_v9_apply, val_main_v8_apply, val_main_v7_apply,
    val_main_v6_apply, val_main_v5_apply, val_main_v4_apply, val_main_v3_apply, val_main_v2_apply, ref_kk, val_main_cst_1_apply, val_main_cst_2_apply, val_main_cst_3_apply,
    Ideal.ofBits_def, lit_half, lit_one, lit_kC, hz i]
  show Z (i 0).val (i 1).val * (((1 / 2 : ℝ) : EReal) * _) = gel _
  rw [← mul_assoc, mul_comm (Z _ _)]
  rfl

theorem ref_u : At2 (a := 2048) (b := 2048) (val_main_v15 (F := Ideal) x0 x1) (fun i j => gel (Z i j)) := fun i => by
  rw [val_main_v15_apply]
  exact ref_gel hz _

theorem ref_v : At2 (a := 2048) (b := 2048) (val_main_v16 (F := Ideal) x0 x1) (vee Z) := fun i => by
  rw [val_main_v16_apply]
  exact ref_gel hz _

theorem ref_inv (i : S2048x1.Idx) : val_main_v24 (F := Ideal) x0 x1 i = inv Z (i 0).val := by
  simp only [val_main_v24_apply, val_main_v23_apply, val_main_v22_apply, val_main_v21_apply, val_main_v20_apply, val_main_v19_apply, val_main_v18_apply, val_main_v17_apply,
    val_main_cst_4_apply, val_main_cst_5_apply, val_main_cst_6_apply, Ideal.ofBits_def, lit_zero, lit_2048, lit_eps, ref_v hz _, EReal.coe_zero, zero_add]
  rfl

theorem ref_veen (hg : At1 x2 g) : At2 (a := 2048) (b := 2048) (val_main_v29 (F := Ideal) x0 x1 x2) (veen Z g) := fun i => by
  simp only [val_main_v29_apply, val_main_v28_apply, val_main_v27_apply, val_main_v26_apply, val_main_v25_apply, ref_inv hz, ref_v hz i, hg _]
  rfl

theorem ref_cut (hg : At1 x2 g) (i : S16x128x8x256.Idx) :
    val_main_v30 (F := Ideal) x0 x1 x2 i = veen Z g ((i 0).val * 128 + (i 1).val) (256 * (i 2).val + (i 3).val) := by
  rw [val_main_v30_apply]
  refine (ref_veen hz hg _).trans ?_
  obtain ⟨e, e'⟩ := row_of (i 0).val (i 1).val (i 2).val (i 3).val (i 1).isLt (i 2).isLt (i 3).isLt
  exact congrArg₂ (veen Z g) e e'
end Rows

theorem ref_low (hw : At3 x3 W) : At3 (a := 8) (b := 128) (c := 128) (val_main_v31 (F := Ideal) x3) (low W) := fun i => by
  have hm : val_main_call0_v5 (F := Ideal) i = if (i 2).val ≤ (i 1).val then 1#1 else 0#1 := by
    rw [val_main_call0_v5_apply, val_main_call0_v4_apply, val_main_call0_v2_apply, val_main_call0_v1_apply, val_main_call0_c_apply,
      val_main_call0_v0_apply, val_main_call0_v3_apply]
    have : IntOp.addi (BitVec.ofNat 32 (i 1).val) 0#32 = BitVec.ofNat 32 (i 1).val := by simp [IntOp.addi]
    show IntOp.cmpi .sge (IntOp.addi (BitVec.ofNat 32 (i 1).val) 0#32) (BitVec.ofNat 32 (i 2).val) = _
    rw [this, mask_bit _ _ (i 1).isLt (i 2).isLt]
  rw [val_main_v31_apply, hm, hw, val_main_call0_v6_apply, val_main_call0_cst_apply, Ideal.ofBits_def, lit_zero]
  unfold low
  split <;> rfl

theorem ref_mixed (hz : At2 (a := 2048) (b := 4096) (val_main_v0 (F := Ideal) x0 x1) Z) (hg : At1 x2 g) (hw : At3 x3 W) (hb : At2 x4 B) (i : S16x128x8x256.Idx) :
    val_main_v37 (F := Ideal) x0 x1 x2 x3 x4 i
      = (∑ s : Fin 128, low W (i 2).val (i 1).val s.val * veen Z g ((i 0).val * 128 + s.val) (256 * (i 2).val + (i 3).val)) + B (i 2).val (i 1).val := by
  rw [val_main_v37_apply, val_main_v33_apply, val_main_v32_apply, val_main_v36_apply, val_main_v35_apply, val_main_v34_apply, hb]
  refine congrArg (fun z : EReal => z + _) (Finset.sum_congr rfl fun k _ => ?_)
  rw [ref_cut hz hg, ref_low hw]
  exact mul_comm _ _

theorem ref_gated (hz : At2 (a := 2048) (b := 4096) (val_main_v0 (F := Ideal) x0 x1) Z) (hg : At1 x2 g) (hw : At3 x3 W) (hb : At2 x4 B) :
    At2 (a := 2048) (b := 2048) (val_main_v39 (F := Ideal) x0 x1 x2 x3 x4) (gated Z g W B) := fun i => by
  rw [val_main_v39_apply, val_main_v38_apply, ref_mixed hz hg hw hb, ref_u hz i]
  have h1 : (i 1).val < 2048 := (i 1).isLt
  have a0 : ((i 0).val * 2048 + (i 1).val) / 262144 = (i 0).val / 128 := by omega
  have a1 : ((i 0).val * 2048 + (i 1).val) / 2048 % 128 = (i 0).val % 128 := by omega
  have a2 : ((i 0).val * 2048 + (i 1).val) / 256 % 8 = (i 1).val / 256 := by omega
  have a3 : 256 * ((i 1).val / 256) + ((i 0).val * 2048 + (i 1).val) % 256 = (i 1).val := by omega
  show gel (Z (i 0).val (i 1).val) * ((∑ s : Fin 128, low W (((i 0).val * 2048 + (i 1).val) / 256 % 8) (((i 0).val * 2048 + (i 1).val) / 2048 % 128) s.val
    * veen Z g (((i 0).val * 2048 + (i 1).val) / 262144 * 128 + s.val) (256 * (((i 0).val * 2048 + (i 1).val) / 256 % 8) + ((i 0).val * 2048 + (i 1).val) % 256))
    + B (((i 0).val * 2048 + (i 1).val) / 256 % 8) (((i 0).val * 2048 + (i 1).val) / 2048 % 128)) = _
  rw [a0, a1, a2, a3]
  unfold gated mix
  dsimp only
  rw [Nat.div_add_mod']
  rfl

theorem ref_h (hz : At2 (a := 2048) (b := 4096) (val_main_v0 (F := Ideal) x0 x1) Z) (hg : At1 x2 g) (hw : At3 x3 W) (hb : At2 x4 B) (hq : At2 x5 Q) (hh : At2 x6 H) :
    At2 (a := 2048) (b := 2048) (val_main_v42 (F := Ideal) x0 x1 x2 x3 x4 x5 x6) (fun i j => nn 2048 (gated Z g W B) Q i j + H i j) := fun i => by
  rw [val_main_v42_apply, val_main_v41_apply, hh]
  refine (add_comm _ _).trans (congrArg (fun z : EReal => z + _) (Finset.sum_congr rfl fun k _ => ?_))
  rw [hq, ref_gated hz hg hw hb]
end Reference

/-! ## The kernels' cut weights -/

theorem cols_all (i j : ℕ) : byCols X (colsOf 512 P) i j = nn 2048 X P i j := by
  unfold byCols nn colsOf
  rw [Nat.div_add_mod']
theorem onto_all (i j : ℕ) : onto Z (rowsOf 256 Q) H i j = nn 2048 Z Q i j + H i j :=
  congrArg (fun z : EReal => z + H i j) (Finset.sum_congr rfl fun k _ => congrArg (fun z : EReal => Z i k.val * z) (rows_back 256 Q k.val j))

/-! ## The claims -/

theorem frame_p : Cert.quiescent_Mixer := fun m ρ _ => Cert.Mixer.Gen.frame m ρ
theorem frame_pi : Cert.quiescent_MixerIdeal := fun m ρ _ => Cert.MixerIdeal.Gen.frame m ρ
theorem frame_ri : Cert.quiescent_MixerReferenceIdeal := fun m ρ _ =>
  (θ_run Cert.MixerReferenceIdeal.defs _ _).mono
    (fun r h => ⟨fun c => (h c).2.2.2, sem_eq_zero_of_no_sems (by decide) r.2⟩) (Cert.MixerReferenceIdeal.Value.run (F := Ideal) m ρ)
theorem preserves : Cert.preserves_Mixer_MixerIdeal :=
  IdealRules.named_const.statement Cert.MixerIdeal.κ "cube" .f32 0x3D372713#32 _ rfl

theorem algebraic : Cert.algebraic_MixerIdeal_MixerReferenceIdeal := fun m ρ m' ρ' hpre hargs => by
  refine ⟨_, _, _, run m ρ, ?_⟩
  refine (θ_run Cert.MixerReferenceIdeal.defs _ _).mono (fun r h c => ?_) (Cert.MixerReferenceIdeal.Value.run (F := Ideal) m' ρ')
  obtain ⟨r0, r1, r2, rest⟩ := h c
  obtain ⟨a0, a1, a2, a3, a4, a5, a6⟩ := hargs c
  have hx := at2_ent (a := 2048) (b := 2048) (m (c.tc.loc Cert.MixerIdeal.main_arg0))
  have hp := at2_ent (a := 2048) (b := 4096) (m (c.tc.loc Cert.MixerIdeal.main_arg1))
  have hg := at1_ent (a := 2048) (m (c.tc.loc Cert.MixerIdeal.main_arg2))
  have hw := at3_ent (a := 8) (b := 128) (c := 128) (m (c.tc.loc Cert.MixerIdeal.main_arg3))
  have hb := at2_ent (a := 8) (b := 128) (m (c.tc.loc Cert.MixerIdeal.main_arg4))
  have hq := at2_ent (a := 2048) (b := 2048) (m (c.tc.loc Cert.MixerIdeal.main_arg5))
  have hh := at2_ent (a := 2048) (b := 2048) (m (c.tc.loc Cert.MixerIdeal.main_arg6))
  have hz := ref_z hx hp
  rw [show nn 2048 _ _ = byCols _ _ from funext fun i => funext fun j => (cols_all i j).symm] at hz
  refine ⟨r0.trans ?_, r1.trans ?_, r2.trans ?_, rest⟩
  · rw [Cert.MixerReferenceIdeal.Read.val_main_v0_eq, a0, a1]
    exact funext fun i => (hz i).trans (z_out m ρ c hx hp i).symm
  · rw [Cert.MixerReferenceIdeal.Read.val_main_v40_eq, a0, a1, a2, a3, a4]
    exact funext fun i => (ref_gated hz hg hw hb i).trans (g_out m ρ c hx hp hg hw hb i).symm
  · rw [Cert.MixerReferenceIdeal.Read.val_main_v42_eq, a0, a1, a2, a3, a4, a5, a6]
    exact funext fun i => (ref_h hz hg hw hb hq hh i).trans ((h_out m ρ c hx hp hg hw hb hq hh i).trans (onto_all _ _)).symm

end Cert.MixFwd

end
-- ==== Proof.MixerBackRun.lean ====
/- The mixer's products, backward: what the three kernels leave in their arrays, and what a run of the program leaves in its
   three results. -/
module

public import proofs.«01_k».proof.Proof.Weights
public import proofs.«01_k».proof.Proof.Gen.MixerBackIdeal.Frame

@[expose] public section

set_option maxRecDepth 16384

noncomputable section

namespace Cert.MixBwd

open Cert.MixerBackIdeal Cert.MixerBackIdeal.Gen Idealize.ShloMosaic Idealize.ShloMosaic.TcCoe Idealize.ShloMosaic.Tactic Idealize.SL Idealize.SL.Sem Cert.Prod

variable {X Y D G Z P Q : ℕ → ℕ → EReal} {W : ℕ → ℕ → ℕ → EReal}

/-! ## One grid point -/

/-- Rows of `X` against the rows of a stack of matrices. -/
def stackRows (X : ℕ → ℕ → EReal) (W : ℕ → ℕ → ℕ → EReal) (i j : ℕ) : EReal := ∑ k : Fin 2048, X i k.val * W (j / 256) (j % 256) k.val

section Rows
variable {x0 : Vec Ideal S1024x2048 .bf16} {x1 : Vec Ideal S4x256x2048 .bf16} (h0 : At2 x0 X) (h1 : At3 x1 W)

include h1 in
theorem weights : At2 (a := 1024) (b := 2048) (shapeCast (α := EReal) S1024x2048 (shapeCast (α := EReal) S4x256x2048 (View.ld x1 r0_1) shapeCasts_S4x256x2048_S4x256x2048) shapeCasts_S4x256x2048_S1024x2048)
    (fun j k => W (j / 256) (j % 256) k) :=
  at2_stack (n := 4) (a := 256) (b := 2048) (R := 1024) (by norm_num) (at3_self (n := 4) (a := 256) (b := 2048) (φ := .bf16) (lds3 h1))

include h0 h1 in
theorem product : At2 (a := 1024) (b := 1024) (FloatOps.matmul (F := Ideal) (φ₁ := .bf16) (φ₂ := .bf16) (DotDims.transposedRhs 1024 2048 1024) none (View.ld x0 r0_0)
    (shapeCast (α := EReal) S1024x2048 (shapeCast (α := EReal) S4x256x2048 (View.ld x1 r0_1) shapeCasts_S4x256x2048_S4x256x2048) shapeCasts_S4x256x2048_S1024x2048)
    (constant S1024x1024 .f32 0x00000000#32)) (stackRows X W) := by
  have e := mulNT (M := 1024) (K := 2048) (N := 1024) (φ₁ := .bf16) (φ₂ := .bf16) none (ld2 (inb := inb_S1024x2048_S1024x2048_0_0) h0) (weights h1)
  exact e

include h0 h1 in
theorem out_g : At2 (a := 1024) (b := 1024) (out0_2 x0 x1) (stackRows X W) := fun y => by
  unfold out0_2
  refine View.canon_apply_of_pieces (Val := Elt Ideal) (fun y => stackRows X W (y 0).val (y 1).val) _ ?_ _ (cover0_2 _ y)
  simp only [List.forall_mem_cons]
  refine ⟨put2 (φ := .f32) (f := stackRows X W) ?_, by simp⟩
  have e := product h0 h1
  exact e
end Rows

section Columns
variable (c : Dev nD) (arg1 : Memref sig .tc .vmem S2048x256 .bf16) (harg1 : arg1.IsWhole) (arg2 : Memref sig .tc .vmem S2048x2048 .bf16) (harg2 : arg2.IsWhole)
  (arg4 : Memref sig .tc .vmem S1x256x2048 .bf16) (harg4 : arg4.IsWhole) {x0 : Vec Ideal S2048x256 .bf16} {x1 : Vec Ideal S2048x2048 .bf16} (h0 : At2 x0 X) (h1 : At2 x1 Y)

include h0 h1 in
theorem out_o (i : grid1.Coords) : At3 (a := 1) (b := 256) (c := 2048) (out1_A_2 c i arg1 harg1 arg2 harg2 arg4 harg4 x0 x1) (fun _ => tn 2048 X Y) := fun y => by
  unfold out1_A_2
  refine (congrFun (View.read_writes_junk_eq_canon _ _) y).trans (View.canon_apply_of_pieces (Val := Elt Ideal) (fun y => tn 2048 X Y (y 1).val (y 2).val) _ ?_ _
    (cover1_A_2 c i arg1 harg1 arg2 harg2 arg4 harg4 x0 x1 _))
  unfold kernelRun1_A
  simp only [List.forall_mem_cons]
  exact ⟨put3 (p := 0) (φ := .bf16) (f := fun _ => tn 2048 X Y) (at3_of2 (φ := .bf16)
    (mulTN (M := 256) (K := 2048) (N := 2048) (φ₁ := .bf16) (φ₂ := .bf16) none (whole2 harg1 h0) (whole2 harg2 h1))), by simp⟩
end Columns

/-- Rows of `X`, cut into eight, against the rows of eight matrices. -/
def eightRows (X : ℕ → ℕ → EReal) (W : ℕ → ℕ → ℕ → EReal) (i j : ℕ) : EReal := ∑ e : Fin 8, ∑ k : Fin 512, X i (512 * e.val + k.val) * W e.val j k.val

section Eight
variable {x0 : Vec Ideal S1024x4096 .bf16} {x1 : Vec Ideal S8x1024x512 .bf16} (h0 : At2 x0 X) (h1 : At3 x1 W)

include h0 h1 in
/-- One of the eight products. -/
theorem one (e : ℕ) {i0 j0 hc} : At2 (a := 1024) (b := 1024) (FloatOps.matmul (F := Ideal) (φ₁ := .bf16) (φ₂ := .bf16) (DotDims.transposedRhs 1024 512 1024) none
    (View.ld x0 (Rect.unit (s := S1024x4096) ![0, 512 * e] S1024x512.size i0))
    (shapeCast (α := EReal) S1024x512 (View.ld x1 (Rect.unit (s := S8x1024x512) ![e, 0, 0] S1x1024x512.size j0)) hc)
    (constant S1024x1024 .f32 0x00000000#32)) (fun i j => ∑ k : Fin 512, X i (512 * e + k.val) * W e j k.val) := by
  have h := mulNT (M := 1024) (K := 512) (N := 1024) (φ₁ := .bf16) (φ₂ := .bf16) none (ld2c (a := 1024) (b := 512) (n := 4096) (p := 512 * e) (inb := i0) h0)
    (ld3 (a := 1024) (b := 512) (n := 8) (p := e) (inb := j0) (h := hc) h1)
  exact h

include h0 h1 in
theorem out_x : At2 (a := 1024) (b := 1024) (out2_2 x0 x1) (eightRows X W) := fun y => by
  unfold out2_2
  refine View.canon_apply_of_pieces (Val := Elt Ideal) (fun y => eightRows X W (y 0).val (y 1).val) _ ?_ _ (cover2_2 _ y)
  simp only [List.forall_mem_cons]
  refine ⟨put2 (φ := .f32) (f := eightRows X W) ?_, by simp⟩
  refine at2_congr (at2_add (a := 1024) (b := 1024) (φ := .f32) (at2_add (a := 1024) (b := 1024) (φ := .f32) (at2_add (a := 1024) (b := 1024) (φ := .f32) (at2_add (a := 1024) (b := 1024) (φ := .f32) (at2_add (a := 1024) (b := 1024) (φ := .f32)
    (at2_add (a := 1024) (b := 1024) (φ := .f32) (at2_add (a := 1024) (b := 1024) (φ := .f32) (one h0 h1 0) (one h0 h1 1)) (one h0 h1 2)) (one h0 h1 3)) (one h0 h1 4)) (one h0 h1 5)) (one h0 h1 6)) (one h0 h1 7)) fun i j _ _ => ?_
  unfold eightRows
  rw [Fin.sum_univ_eight]
  rfl
end Eight

/-! ## The blocks the points read and write -/

theorem index0_0 : ∀ t : Fin cfg0.N, win0_0.index t 0 = t.val / 2 ∧ win0_0.index t 1 = 0 :=
  (by decide +kernel : ∀ t : Fin grid0.N, win0_0.index t 0 = t.val / 2 ∧ win0_0.index t 1 = 0)
theorem index0_1 : ∀ t : Fin cfg0.N, win0_1.index t 0 = t.val % 2 ∧ win0_1.index t 1 = 0 ∧ win0_1.index t 2 = 0 :=
  (by decide +kernel : ∀ t : Fin grid0.N, win0_1.index t 0 = t.val % 2 ∧ win0_1.index t 1 = 0 ∧ win0_1.index t 2 = 0)
theorem index0_2 : ∀ t : Fin cfg0.N, win0_2.index t 0 = t.val / 2 ∧ win0_2.index t 1 = t.val % 2 :=
  (by decide +kernel : ∀ t : Fin grid0.N, win0_2.index t 0 = t.val / 2 ∧ win0_2.index t 1 = t.val % 2)
theorem index1_0 : ∀ t : Fin cfg1.N, win1_0.index t 0 = 0 ∧ win1_0.index t 1 = t.val :=
  (by decide +kernel : ∀ t : Fin grid1.N, win1_0.index t 0 = 0 ∧ win1_0.index t 1 = t.val)
theorem index1_1 : ∀ t : Fin cfg1.N, win1_1.index t 0 = 0 ∧ win1_1.index t 1 = 0 :=
  (by decide +kernel : ∀ t : Fin grid1.N, win1_1.index t 0 = 0 ∧ win1_1.index t 1 = 0)
theorem index1_2 : ∀ t : Fin cfg1.N, win1_2.index t 0 = t.val ∧ win1_2.index t 1 = 0 ∧ win1_2.index t 2 = 0 :=
  (by decide +kernel : ∀ t : Fin grid1.N, win1_2.index t 0 = t.val ∧ win1_2.index t 1 = 0 ∧ win1_2.index t 2 = 0)
theorem index2_0 : ∀ t : Fin cfg2.N, win2_0.index t 0 = t.val / 2 ∧ win2_0.index t 1 = 0 :=
  (by decide +kernel : ∀ t : Fin grid2.N, win2_0.index t 0 = t.val / 2 ∧ win2_0.index t 1 = 0)
theorem index2_1 : ∀ t : Fin cfg2.N, win2_1.index t 0 = 0 ∧ win2_1.index t 1 = t.val % 2 ∧ win2_1.index t 2 = 0 :=
  (by decide +kernel : ∀ t : Fin grid2.N, win2_1.index t 0 = 0 ∧ win2_1.index t 1 = t.val % 2 ∧ win2_1.index t 2 = 0)
theorem index2_2 : ∀ t : Fin cfg2.N, win2_2.index t 0 = t.val / 2 ∧ win2_2.index t 1 = t.val % 2 :=
  (by decide +kernel : ∀ t : Fin grid2.N, win2_2.index t 0 = t.val / 2 ∧ win2_2.index t 1 = t.val % 2)

/-- Four stacked matrices of the eight: their row `s` is the whole stack's row `s`, counted on from theirs. -/
theorem stack_block (X : ℕ → ℕ → EReal) (W : ℕ → ℕ → ℕ → EReal) (p q i j : ℕ) (hj : j < 1024) :
    stackRows (fun s k => X (p * 1024 + s) k) (fun e r k => W (q * 4 + e) r k) i j = stackRows X W (p * 1024 + i) (q * 1024 + j) := by
  unfold stackRows
  rw [show (q * 1024 + j) / 256 = q * 4 + j / 256 by omega, show (q * 1024 + j) % 256 = j % 256 by omega]

/-! ## The three kernels -/

section Region0
variable (V : (c : Dev nD) → (b : Ref sig .tc) → Buf (Elt Ideal) ((c : Thread nD τ).loc b)) (c : Dev nD)
  (hx : At2 (V c main_arg0 : S2048x2048.Idx → EReal) X) (hw : At3 (V c main_v1 : S8x256x2048.Idx → EReal) W)

include hx hw in
theorem result0 (i : S2048x2048.Idx) : ((dat0 V c).arrAt 2 cfg0.N : S2048x2048.Idx → EReal) i = stackRows X W (i 0).val (i 1).val := by
  refine (dat0 V c).arrAt_forall_of_covers 2 (fun (i : S2048x2048.Idx) (v : EReal) => v = stackRows X W (i 0).val (i 1).val)
    (by decide +kernel) (fun t hf (y : S1024x1024.Idx) => ?_) i
  show (dat0 V c).after 2 t y = stackRows X W ((win0_2.rect t).emb y 0).val ((win0_2.rect t).emb y 1).val
  rw [after0_2, place win0_2 t 0 (index0_2 t).1 y, place win0_2 t 1 (index0_2 t).2 y]
  have e0 : At2 (a := 1024) (b := 2048) (iblk0 V c 0 t) (fun s k => X (t.val / 2 * 1024 + s) k) :=
    block2 X hx (place win0_0 t 0 (index0_0 t).1) (win0_0.rect_emb_val_of_index_zero t 1 (index0_0 t).2)
  have e1 : At3 (a := 4) (b := 256) (c := 2048) (iblk0 V c 1 t) (fun e r j => W (t.val % 2 * 4 + e) r j) :=
    block3 W hw (place win0_1 t 0 (index0_1 t).1) (win0_1.rect_emb_val_of_index_zero t 1 (index0_1 t).2.1) (win0_1.rect_emb_val_of_index_zero t 2 (index0_1 t).2.2)
  exact (out_g e0 e1 y).trans (stack_block X W _ _ _ _ (y 1).isLt)
end Region0

section Region1
variable (V : (c : Dev nD) → (b : Ref sig .tc) → Buf (Elt Ideal) ((c : Thread nD τ).loc b)) (c : Dev nD)
  (hx : At2 (V c main_arg1 : S2048x2048.Idx → EReal) X) (hy : At2 (V c main_arg0 : S2048x2048.Idx → EReal) Y)

include hx hy in
theorem result1 (i : S8x256x2048.Idx) : ((dat1 V c).arrAt 2 cfg1.N : S8x256x2048.Idx → EReal) i = tn 2048 X Y ((i 0).val * 256 + (i 1).val) (i 2).val := by
  refine (dat1 V c).arrAt_forall_of_covers 2 (fun (i : S8x256x2048.Idx) (v : EReal) => v = tn 2048 X Y ((i 0).val * 256 + (i 1).val) (i 2).val)
    (by decide +kernel) (fun t hf (y : S1x256x2048.Idx) => ?_) i
  show (dat1 V c).after 2 t y = tn 2048 X Y (((win1_2.rect t).emb y 0).val * 256 + ((win1_2.rect t).emb y 1).val) ((win1_2.rect t).emb y 2).val
  have hy0 := (y 0).isLt; change (y 0).val < 1 at hy0
  rw [after1_2, place win1_2 t 0 (index1_2 t).1 y, win1_2.rect_emb_val_of_index_zero t 1 (index1_2 t).2.1, win1_2.rect_emb_val_of_index_zero t 2 (index1_2 t).2.2]
  have e0 : At2 (a := 2048) (b := 256) (iblk1 V c 0 t) (fun s k => X s (t.val * 256 + k)) :=
    block2 X hx (win1_0.rect_emb_val_of_index_zero t 0 (index1_0 t).1) (place win1_0 t 1 (index1_0 t).2)
  have e1 : At2 (a := 2048) (b := 2048) (iblk1 V c 1 t) Y :=
    block2 Y hy (win1_1.rect_emb_val_of_index_zero t 0 (index1_1 t).1) (win1_1.rect_emb_val_of_index_zero t 1 (index1_1 t).2)
  refine (out_o c _ _ _ _ _ _ e0 e1 _ y).trans ?_
  show _ = tn 2048 X Y ((t.val * 1 + (y 0).val) * 256 + (y 1).val) (y 2).val
  rw [show (t.val * 1 + (y 0).val) * 256 + (y 1).val = t.val * 256 + (y 1).val by omega]
  rfl
end Region1

section Region2
variable (V : (c : Dev nD) → (b : Ref sig .tc) → Buf (Elt Ideal) ((c : Thread nD τ).loc b)) (c : Dev nD)
  (hx : At2 (V c main_arg2 : S2048x4096.Idx → EReal) X) (hw : At3 (V c main_v6 : S8x2048x512.Idx → EReal) W)

include hx hw in
theorem result2 (i : S2048x2048.Idx) : ((dat2 V c).arrAt 2 cfg2.N : S2048x2048.Idx → EReal) i = eightRows X W (i 0).val (i 1).val := by
  refine (dat2 V c).arrAt_forall_of_covers 2 (fun (i : S2048x2048.Idx) (v : EReal) => v = eightRows X W (i 0).val (i 1).val)
    (by decide +kernel) (fun t hf (y : S1024x1024.Idx) => ?_) i
  show (dat2 V c).after 2 t y = eightRows X W ((win2_2.rect t).emb y 0).val ((win2_2.rect t).emb y 1).val
  rw [after2_2, place win2_2 t 0 (index2_2 t).1 y, place win2_2 t 1 (index2_2 t).2 y]
  have e0 : At2 (a := 1024) (b := 4096) (iblk2 V c 0 t) (fun s k => X (t.val / 2 * 1024 + s) k) :=
    block2 X hx (place win2_0 t 0 (index2_0 t).1) (win2_0.rect_emb_val_of_index_zero t 1 (index2_0 t).2)
  have e1 : At3 (a := 8) (b := 1024) (c := 512) (iblk2 V c 1 t) (fun e r j => W e (t.val % 2 * 1024 + r) j) :=
    block3 W hw (win2_1.rect_emb_val_of_index_zero t 0 (index2_1 t).1) (place win2_1 t 1 (index2_1 t).2.1) (win2_1.rect_emb_val_of_index_zero t 2 (index2_1 t).2.2)
  exact out_x e0 e1 y
end Region2

/-! ## What the host prepares, and the kernels one after the other -/

section Whole
variable (m : (ℓ : Loc nD τ sig) → Buf (Elt Ideal) ℓ) (ρ : Dev nD → PrngReg) (c : Dev nD)
  (hd : At2 (m ((c : Thread nD τ).loc main_arg0) : S2048x2048.Idx → EReal) D)
  (hg : At2 (m ((c : Thread nD τ).loc main_arg1) : S2048x2048.Idx → EReal) G)
  (hz : At2 (m ((c : Thread nD τ).loc main_arg2) : S2048x4096.Idx → EReal) Z)
  (hp : At2 (m ((c : Thread nD τ).loc main_arg3) : S2048x4096.Idx → EReal) P)
  (hq : At2 (m ((c : Thread nD τ).loc main_arg4) : S2048x2048.Idx → EReal) Q)

theorem V1_rows : (V1 m ρ c main_v1 : S8x256x2048.Idx → EReal)
    = shapeCast S8x256x2048 (m ((c : Thread nD τ).loc main_arg4) : S2048x2048.Idx → EReal) shapeCasts_S2048x2048_S8x256x2048 := rfl
theorem V5_cols : (V5 m ρ c main_v6 : S8x2048x512.Idx → EReal)
    = transpose S8x2048x512 [1, 0, 2] (shapeCast S2048x8x512 (W4 m ρ c (Proc.devRef .tc main_arg3) : S2048x4096.Idx → EReal) shapeCasts_S2048x4096_S2048x8x512) transposes_S2048x8x512_S8x2048x512_1_0_2 := rfl

include hd hq in
/-- The gradient of the gated product. -/
theorem g_out (i : S2048x2048.Idx) : (W6 m ρ c (Proc.devRef .tc main_v2) : S2048x2048.Idx → EReal) i = stackRows D (rowsOf 256 Q) (i 0).val (i 1).val :=
  (congrFun (((W6_of m ρ c main_v2 (by decide)).trans (W5_of m ρ c main_v2 (by decide))).trans
    ((W4_of m ρ c main_v2 (by decide)).trans ((W3_of m ρ c main_v2 (by decide)).trans (W2_arr m ρ c 2)))) i).trans
    (result0 (V1 m ρ) c (fun i => (congrFun (W1_args m ρ c main_arg0 (by decide)) i).trans (hd i))
      (fun i => (congrFun (V1_rows m ρ c) i).trans (at3_cut (by norm_num) hq i)) i)

include hd hg in
/-- The gradient of the second weight matrix, its rows cut over the devices. -/
theorem w_out : At3 (a := 8) (b := 256) (c := 2048) (W6 m ρ c (Proc.devRef .tc main_v3) : S8x256x2048.Idx → EReal) (rowsOf 256 (tn 2048 G D)) := fun i =>
  (congrFun ((W6_of m ρ c main_v3 (by decide)).trans ((W5_of m ρ c main_v3 (by decide)).trans (W4_arr m ρ c 2))) i).trans
    (result1 (V3 m ρ) c (fun i => (congrFun (W3_args m ρ c main_arg1 (by decide)) i).trans (hg i)) (fun i => (congrFun (W3_args m ρ c main_arg0 (by decide)) i).trans (hd i)) i)

include hz hp in
/-- The gradient of the normalised input. -/
theorem x_out (i : S2048x2048.Idx) : (W6 m ρ c (Proc.devRef .tc main_v7) : S2048x2048.Idx → EReal) i = eightRows Z (colsOf 512 P) (i 0).val (i 1).val :=
  (congrFun (W6_arr m ρ c 2) i).trans
    (result2 (V5 m ρ) c (fun i => (congrFun (W5_args m ρ c main_arg2 (by decide)) i).trans (hz i))
      (fun i => (congrFun (V5_cols m ρ c) i).trans (cols_at (m := 2048) (w := 512) (N := 4096) (by norm_num) (fun k => (congrFun (W4_args m ρ c main_arg3 (by decide)) k).trans (hp k)) i)) i)
end Whole

end Cert.MixBwd

end
-- ==== Proof.MixerBackLaunch.lean ====
/- The mixer's products, backward: a run of the program leaves in its three results what the three kernels leave there. -/
module

public import proofs.«01_k».proof.Proof.Gen.MixerBackIdeal.Frame

@[expose] public section

set_option maxRecDepth 16384

noncomputable section

namespace Cert.MixBwd

open Cert.MixerBackIdeal Cert.MixerBackIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (m : (ℓ : Loc nD τ sig) → Buf (Elt F) ℓ) (ρ : Dev nD → PrngReg)

set_option backward.isDefEq.respectTransparency.types false in
/-- Every buffer that outlives the kernels ends as the chain of the program's pieces leaves it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun _ h _ => h)

/-- What a run of the program leaves in its results and its arguments. -/
theorem run : θ_run defs (onTc (τ := τ) (main (F := F))) ⟨m, fun _ => 0, ρ⟩ (fun r => ∀ c : Dev nD,
      r.2.mem ((c.tc : Thread nD τ).loc main_v2) = W6 m ρ c (Proc.devRef .tc main_v2)
      ∧ r.2.mem ((c.tc : Thread nD τ).loc main_v3) = W6 m ρ c (Proc.devRef .tc main_v3)
      ∧ r.2.mem ((c.tc : Thread nD τ).loc main_v7) = W6 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨h c _ (mem_uc main_v2 (by decide)), h c _ (mem_uc main_v3 (by decide)), h c _ (mem_uc main_v7 (by decide)),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c)⟩) (run_all m ρ)

end Cert.MixBwd

end
-- ==== Proof.MixerBack.lean ====
/- The mixer's products, backward: the kernels' results are the reference's. -/
module

public import proofs.«01_k».proof.Proof.MixerBackRun
public import proofs.«01_k».proof.Proof.MixerBackLaunch
public import proofs.«01_k».proof.Proof.Gen.MixerBack.Frame
public import proofs.«01_k».proof.Proof.Gen.MixerBackReferenceIdeal.Run
public import proofs.«01_k».proof.Proof.Gen.MixerBackReferenceIdeal.Read
public import proofs.«01_k».proof.Defs

@[expose] public section

set_option maxRecDepth 16384

noncomputable section

namespace Cert.MixBwd

open Idealize.ShloMosaic Idealize.ShloMosaic.TcCoe Idealize.SL.Sem Cert.Prod

variable {D G Z P Q X : ℕ → ℕ → EReal}

/-! ## The reference -/

section Reference
open Cert.MixerBackReferenceIdeal Cert.MixerBackReferenceIdeal.Gen Cert.MixerBackReferenceIdeal.Read

variable {x0 x1 x4 : S2048x2048.Idx → EReal} {x2 x3 : S2048x4096.Idx → EReal}

theorem ref_g (hd : At2 x0 D) (hq : At2 x4 Q) : At2 (a := 2048) (b := 2048) (val_main_v5 (F := Ideal) x0 x4) (nt 2048 D Q) := fun i => by
  rw [val_main_v5_apply]
  refine Finset.sum_congr rfl fun k _ => ?_
  rw [hq]
  exact congrArg (fun z : EReal => z * _) (hd _)

theorem ref_x (hz : At2 x2 Z) (hp : At2 x3 P) : At2 (a := 2048) (b := 2048) (val_main_v11 (F := Ideal) x2 x3) (nt 4096 Z P) := fun i => by
  rw [val_main_v11_apply]
  refine Finset.sum_congr rfl fun k _ => ?_
  rw [hp]
  exact congrArg (fun z : EReal => z * _) (hz _)

theorem ref_o (hd : At2 x0 D) (hg : At2 x1 G) : At2 (a := 2048) (b := 2048) (val_main_v4 (F := Ideal) x0 x1) (tn 2048 G D) := fun i => by
  rw [val_main_v4_apply, val_main_v3_apply]
  refine Finset.sum_congr rfl fun k _ => ?_
  rw [val_main_v0_apply, val_main_v1_apply]
  refine (mul_comm _ _).trans ?_
  exact congrArg₂ (fun z w : EReal => z * w) (hg _) (hd _)

theorem ref_w (hd : At2 x0 D) (hg : At2 x1 G) : At3 (a := 8) (b := 256) (c := 2048) (val_main_v13 (F := Ideal) x0 x1) (rowsOf 256 (tn 2048 G D)) := fun i => by
  rw [val_main_v13_apply]
  exact at3_cut (n := 8) (a := 256) (R := 2048) (h := shapeCasts_S2048x2048_S8x256x2048) (by norm_num) (ref_o hd hg) i
end Reference

/-! ## The kernels' cut weights -/

theorem stack_all (i j : ℕ) : stackRows X (rowsOf 256 Q) i j = nt 2048 X Q i j :=
  Finset.sum_congr rfl fun k _ => congrArg (fun z : EReal => X i k.val * z) (rows_back 256 Q j k.val)
theorem eight_all (i j : ℕ) : eightRows X (colsOf 512 P) i j = nt 4096 X P i j := by
  refine Eq.trans ?_ (sum_blocks 8 512 (fun k => X i k * P j k)).symm
  refine Finset.sum_congr rfl fun e _ => Finset.sum_congr rfl fun k _ => ?_
  rw [Nat.mul_comm 512 e.val]
  rfl

/-! ## The claims -/

theorem frame_p : Cert.quiescent_MixerBack := fun m ρ _ => Cert.MixerBack.Gen.frame m ρ
theorem frame_pi : Cert.quiescent_MixerBackIdeal := fun m ρ _ => Cert.MixerBackIdeal.Gen.frame m ρ
theorem frame_ri : Cert.quiescent_MixerBackReferenceIdeal := fun m ρ _ =>
  (θ_run Cert.MixerBackReferenceIdeal.defs _ _).mono
    (fun r h => ⟨fun c => (h c).2.2.2, sem_eq_zero_of_no_sems (by decide) r.2⟩) (Cert.MixerBackReferenceIdeal.Value.run (F := Ideal) m ρ)
theorem preserves : Cert.preserves_MixerBack_MixerBackIdeal := trivial

theorem algebraic : Cert.algebraic_MixerBackIdeal_MixerBackReferenceIdeal := fun m ρ m' ρ' hpre hargs => by
  refine ⟨_, _, _, run m ρ, ?_⟩
  refine (θ_run Cert.MixerBackReferenceIdeal.defs _ _).mono (fun r h c => ?_) (Cert.MixerBackReferenceIdeal.Value.run (F := Ideal) m' ρ')
  obtain ⟨r0, r1, r2, rest⟩ := h c
  obtain ⟨a0, a1, a2, a3, a4, a5⟩ := hargs c
  have hd := at2_ent (a := 2048) (b := 2048) (m (c.tc.loc Cert.MixerBackIdeal.main_arg0))
  have hg := at2_ent (a := 2048) (b := 2048) (m (c.tc.loc Cert.MixerBackIdeal.main_arg1))
  have hz := at2_ent (a := 2048) (b := 4096) (m (c.tc.loc Cert.MixerBackIdeal.main_arg2))
  have hp := at2_ent (a := 2048) (b := 4096) (m (c.tc.loc Cert.MixerBackIdeal.main_arg3))
  have hq := at2_ent (a := 2048) (b := 2048) (m (c.tc.loc Cert.MixerBackIdeal.main_arg4))
  refine ⟨r0.trans ?_, r1.trans ?_, r2.trans ?_, rest⟩
  · rw [Cert.MixerBackReferenceIdeal.Read.val_main_v5_eq, a0, a4]
    exact funext fun i => (ref_g hd hq i).trans ((g_out m ρ c hd hq i).trans (stack_all _ _)).symm
  · rw [Cert.MixerBackReferenceIdeal.Read.val_main_v13_eq, a0, a1]
    exact funext fun i => (ref_w hd hg i).trans (w_out m ρ c hd hg i).symm
  · rw [Cert.MixerBackReferenceIdeal.Read.val_main_v11_eq, a2, a3]
    exact funext fun i => (ref_x hz hp i).trans ((x_out m ρ c hz hp i).trans (eight_all _ _)).symm

end Cert.MixBwd

end
-- ==== Proof.MixerDwInRun.lean ====
/- The gradient of the gMLP mixer's input weight: each block of columns of the input is kept transposed over eight grid
   points, and each point multiplies it with one device's columns of the output's gradient. -/
module

public import proofs.«01_k».proof.Proof.Windows
public import proofs.«01_k».proof.Proof.Weights
public import proofs.«01_k».proof.Proof.Gen.MixerDwInIdeal.Value

@[expose] public section

set_option maxRecDepth 16384

noncomputable section

namespace Cert.MixDw

open Cert.MixerDwInIdeal Cert.MixerDwInIdeal.Gen Idealize.ShloMosaic Idealize.ShloMosaic.TcCoe Idealize.ShloMosaic.Tactic Idealize.ShloMosaic.ValueIdx Cert.Prod

/-! ## One grid point -/

section Body
variable (c : Dev nD) (i : grid0.Coords) (arg2 : Memref sig .tc .vmem S2048x512 .bf16) (harg2 : arg2.IsWhole)
  (arg3 : Memref sig .tc .vmem S2048x512 .bf16) (harg3 : arg3.IsWhole) (arg5 : Memref sig .tc .vmem S1x512x512 .bf16) (harg5 : arg5.IsWhole)
  (arg6 : Memref sig .tc .vmem S512x2048 .bf16) (harg6 : arg6.IsWhole)
  {x0 x1 : Vec Ideal S2048x512 .bf16} {xs : Vec Ideal S512x2048 .bf16} {X E T : ℕ → ℕ → EReal}
  (hx0 : At2 x0 X) (hx1 : At2 x1 E) (hxs : At2 xs T)

include hx0 in
/-- What the first point of a block stores into the scratch. -/
theorem kept : ∀ p ∈ kernelRun0_A.sl.HS0_1 (F := Ideal) c arg2 harg2 x0, ∀ x : p.1.shape.Idx, p.2 x = X (p.1.emb x 1).val (p.1.emb x 0).val := by
  unfold kernelRun0_A.sl.HS0_1
  simp only [List.forall_mem_cons]
  exact ⟨put2 (φ := .bf16) (f := fun i j => X j i) (at2_self (φ := .bf16) (at2_swap (a := 2048) (b := 512) (whole2 harg2 hx0))), by simp⟩

include hx0 in
/-- The first point of a block keeps the columns of the input transposed. -/
theorem scratch_A (hc0 : cond0_0 i) : At2 (a := 512) (b := 2048) (sout0_A_0 c i arg2 harg2 arg3 harg3 arg5 harg5 arg6 harg6 hc0 x0 x1) (fun i j => X j i) := fun y => by
  unfold sout0_A_0
  refine (congrFun (View.read_writes_junk_eq_canon _ _) y).trans (View.canon_apply_of_pieces (Val := Elt Ideal) (fun y => X (y 1).val (y 0).val) _ ?_ _ (scover0_A_0 c i arg2 harg2 arg3 harg3 arg5 harg5 arg6 harg6 hc0 x0 x1 _))
  unfold kernelRun0_A
  exact kept c arg2 harg2 hx0

include hx1 hxs in
/-- A later point's output: the kept block times its columns. -/
theorem out_B (hc0 : ¬cond0_0 i) : At3 (a := 1) (b := 512) (c := 512) (out0_B_2 c i arg2 harg2 arg3 harg3 arg5 harg5 arg6 harg6 hc0 x0 x1 xs) (fun _ => nn 2048 T E) := fun y => by
  unfold out0_B_2
  refine (congrFun (View.read_writes_junk_eq_canon _ _) y).trans (View.canon_apply_of_pieces (Val := Elt Ideal) (fun y => nn 2048 T E (y 1).val (y 2).val) _ ?_ _ (cover0_B_2 c i arg2 harg2 arg3 harg3 arg5 harg5 arg6 harg6 hc0 x0 x1 xs _))
  unfold kernelRun0_B
  simp only [List.forall_mem_cons]
  refine ⟨put3 (p := 0) (φ := .bf16) (f := fun _ => nn 2048 T E) (at3_of2 (φ := .bf16) ?_), by simp⟩
  exact mulNN (M := 512) (K := 2048) (N := 512) (φ₁ := .bf16) (φ₂ := .bf16) none (whole2 harg6 hxs) (whole2 harg3 hx1)

include hx0 hx1 in
/-- The first point's output: the block it has just kept times its columns. -/
theorem out_A (hc0 : cond0_0 i) : At3 (a := 1) (b := 512) (c := 512) (out0_A_2 c i arg2 harg2 arg3 harg3 arg5 harg5 arg6 harg6 hc0 x0 x1) (fun _ => tn 2048 X E) := fun y => by
  unfold out0_A_2
  refine (congrFun (View.read_writes_junk_eq_canon _ _) y).trans (View.canon_apply_of_pieces (Val := Elt Ideal) (fun y => tn 2048 X E (y 1).val (y 2).val) _ ?_ _ (cover0_A_2 c i arg2 harg2 arg3 harg3 arg5 harg5 arg6 harg6 hc0 x0 x1 _))
  unfold kernelRun0_A
  simp only [List.forall_mem_cons]
  refine ⟨put3 (p := 0) (φ := .bf16) (f := fun _ => tn 2048 X E) (at3_of2 (φ := .bf16) ?_), by simp⟩
  refine mulNN (M := 512) (K := 2048) (N := 512) (φ₁ := .bf16) (φ₂ := .bf16) none (L := fun i j => X j i) ?_ (whole2 harg3 hx1)
  intro y
  unfold kernelRun0_A.sl.v3
  rw [View.readCov_eq_canon']
  refine (View.canon_apply_of_pieces (Val := Elt Ideal) (fun y => X (y 1).val (y 0).val) _ (kept c arg2 harg2 hx0) _
    (View.cover_of_tiledL (kernelRun0_A.sl.HS0_1 c arg2 harg2 x0) S512x2048.size (by sl_kernel_rfl) _)).trans ?_
  show X (0 + 1 * (y 1).val) (0 + 1 * (y 0).val) = _
  simp only [Nat.zero_add, Nat.one_mul]
end Body

/-! ## The arrays and the blocks -/

variable (m : (ℓ : Loc nD τ sig) → Buf (Elt Ideal) ℓ) (c : Dev nD)
variable {X E : ℕ → ℕ → EReal}
  (hx : At2 (m ((c : Thread nD τ).loc main_arg0) : S2048x2048.Idx → EReal) X)
  (he : At2 (m ((c : Thread nD τ).loc main_arg1) : S2048x4096.Idx → EReal) E)

theorem index0 : ∀ t : Fin cfg0.N, win0_0.index t 0 = 0 ∧ win0_0.index t 1 = t.val / 8 :=
  (by decide +kernel : ∀ t : Fin grid0.N, win0_0.index t 0 = 0 ∧ win0_0.index t 1 = t.val / 8)
theorem index1 : ∀ t : Fin cfg0.N, win0_1.index t 0 = 0 ∧ win0_1.index t 1 = t.val % 8 :=
  (by decide +kernel : ∀ t : Fin grid0.N, win0_1.index t 0 = 0 ∧ win0_1.index t 1 = t.val % 8)
theorem index2 : ∀ t : Fin cfg0.N, win0_2.index t 0 = t.val % 8 ∧ win0_2.index t 1 = t.val / 8 ∧ win0_2.index t 2 = 0 :=
  (by decide +kernel : ∀ t : Fin grid0.N, win0_2.index t 0 = t.val % 8 ∧ win0_2.index t 1 = t.val / 8 ∧ win0_2.index t 2 = 0)

include hx in
theorem in0 (t : Fin cfg0.N) : At2 (a := 2048) (b := 512) (iblk m c 0 t) (fun s d => X s (t.val / 8 * 512 + d)) := fun y => by
  refine (hx ((win0_0.rect t).emb y)).trans ?_
  obtain ⟨i0, i1⟩ := index0 t
  have e0 := win0_0.rect_emb_val_of_index_zero t 0 i0 y
  have e1 := win0_0.rect_emb_val t y 1
  rw [i1] at e1
  replace e1 : ((win0_0.rect t).emb y 1).val = t.val / 8 * 512 + (y 1).val := e1
  rw [e0, e1]

include he in
theorem in1 (t : Fin cfg0.N) : At2 (a := 2048) (b := 512) (iblk m c 1 t) (fun s f => E s (t.val % 8 * 512 + f)) := fun y => by
  refine (he ((win0_1.rect t).emb y)).trans ?_
  obtain ⟨i0, i1⟩ := index1 t
  have e0 := win0_1.rect_emb_val_of_index_zero t 0 i0 y
  have e1 := win0_1.rect_emb_val t y 1
  rw [i1] at e1
  replace e1 : ((win0_1.rect t).emb y 1).val = t.val % 8 * 512 + (y 1).val := e1
  rw [e0, e1]

/-! ## The grid points -/

theorem snd_of_eq {o : Vec Ideal S1x512x512 .bf16 × Vec Ideal S512x2048 .bf16} {o1 : Vec Ideal S1x512x512 .bf16} {o2 : Vec Ideal S512x2048 .bf16} {f : ℕ → ℕ → EReal} (h : o = (o1, o2))
    (h2 : At2 (a := 512) (b := 2048) o2 f) : At2 (a := 512) (b := 2048) o.2 f := by subst h; exact h2
theorem fst_of_eq {o : Vec Ideal S1x512x512 .bf16 × Vec Ideal S512x2048 .bf16} {o1 : Vec Ideal S1x512x512 .bf16} {o2 : Vec Ideal S512x2048 .bf16} {f : ℕ → ℕ → ℕ → EReal} (h : o = (o1, o2))
    (h1 : At3 (a := 1) (b := 512) (c := 512) o1 f) : At3 (a := 1) (b := 512) (c := 512) o.1 f := by subst h; exact h1

include hx in
/-- The scratch holds the block's columns of the input, transposed. -/
theorem scratch (n : ℕ) (hn : n < cfg0.N) : At2 (a := 512) (b := 2048) (outsAt0 m c n hn).2 (fun d s => X s (n / 8 * 512 + d)) := by
  induction n using Nat.strong_induction_on with
  | _ n ih =>
    by_cases h0 : n % 8 = 0
    · exact snd_of_eq (outsAt0_A m c ⟨n, hn⟩ h0) (scratch_A c _ _ _ _ _ _ _ _ _ (in0 m c hx ⟨n, hn⟩) _)
    · have hp := ih (n - 1) (by omega) (Nat.lt_of_le_of_lt (Nat.sub_le _ _) hn)
      rw [show (n - 1) / 8 = n / 8 by omega] at hp
      exact snd_of_eq (outsAt0_B m c ⟨n, hn⟩ h0) hp

include hx he in
/-- Each point's block of the result. -/
theorem block (t : Fin cfg0.N) : At3 (a := 1) (b := 512) (c := 512) (outsAt0 m c t.val t.isLt).1
    (fun _ => tn 2048 (fun s d => X s (t.val / 8 * 512 + d)) (fun s f => E s (t.val % 8 * 512 + f))) := by
  by_cases h0 : t.val % 8 = 0
  · exact fst_of_eq (outsAt0_A m c t h0) (out_A c _ _ _ _ _ _ _ _ _ (in0 m c hx t) (in1 m c he t) _)
  · have hp := scratch m c hx (t.val - 1) (Nat.lt_of_le_of_lt (Nat.sub_le _ _) t.isLt)
    rw [show (t.val - 1) / 8 = t.val / 8 by omega] at hp
    exact fst_of_eq (outsAt0_B m c t h0) (out_B c _ _ _ _ _ _ _ _ _ (in1 m c he t) hp _)

/-! ## The result -/

include hx he in
theorem result (i : S8x2048x512.Idx) : ((dats m 0 c).arrAt 2 cfg0.N : S8x2048x512.Idx → EReal) i = colsOf 512 (tn 2048 X E) (i 0).val (i 1).val (i 2).val := by
  refine (dats m 0 c).arrAt_forall_of_covers 2 (fun (i : S8x2048x512.Idx) (v : EReal) => v = colsOf 512 (tn 2048 X E) (i 0).val (i 1).val (i 2).val) (by decide +kernel) (fun t _ y => ?_) i
  show (dats m 0 c).after 2 t y = _
  rw [after0_2]
  refine (block m c hx he t y).trans ?_
  obtain ⟨i0, i1, i2⟩ := index2 t
  have e0 := win0_2.rect_emb_val t y 0
  have e1 := win0_2.rect_emb_val t y 1
  have e2 := win0_2.rect_emb_val_of_index_zero t 2 i2 y
  rw [i0] at e0
  rw [i1] at e1
  have hy : (y 0).val < 1 := (y 0).isLt
  have e0' : (((cfg0.win 2).blk t).view.emb y 0).val = t.val % 8 := e0.trans (by rw [show win0_2.size 0 = 1 from rfl]; omega)
  have e1' : (((cfg0.win 2).blk t).view.emb y 1).val = t.val / 8 * 512 + (y 1).val := e1
  have e2' : (((cfg0.win 2).blk t).view.emb y 2).val = (y 2).val := e2
  unfold colsOf
  rw [e0', e1', e2']
  rfl

end Cert.MixDw

end
-- ==== Proof.MixerDwIn.lean ====
/- The gradient of the gMLP mixer's input weight: the kernel's result is the reference's. -/
module

public import proofs.«01_k».proof.Proof.MixerDwInRun
public import proofs.«01_k».proof.Proof.Gen.MixerDwIn.Frame
public import proofs.«01_k».proof.Proof.Gen.MixerDwInReferenceIdeal.Run
public import proofs.«01_k».proof.Proof.Gen.MixerDwInReferenceIdeal.Read
public import proofs.«01_k».proof.Defs

@[expose] public section

set_option maxRecDepth 16384

noncomputable section

namespace Cert.MixDw

open Idealize.ShloMosaic Idealize.ShloMosaic.TcCoe Idealize.SL.Sem Cert.Prod

section Reference
open Cert.MixerDwInReferenceIdeal Cert.MixerDwInReferenceIdeal.Gen Cert.MixerDwInReferenceIdeal.Read

variable {X E : ℕ → ℕ → EReal} {x0 : S2048x2048.Idx → EReal} {x1 : S2048x4096.Idx → EReal}

theorem ref_whole (hx : At2 x0 X) (he : At2 x1 E) : At2 (a := 2048) (b := 4096) (val_main_v5 (F := Ideal) x0 x1) (tn 2048 X E) := fun i => by
  rw [val_main_v5_apply, val_main_v4_apply]
  refine Finset.sum_congr rfl fun k _ => ?_
  rw [val_main_v2_apply, val_main_v0_apply]
  refine (mul_comm _ _).trans ?_
  exact congrArg₂ (fun z w : EReal => z * w) (hx _) (he _)

theorem ref (hx : At2 x0 X) (he : At2 x1 E) : At3 (a := 8) (b := 2048) (c := 512) (val_main_v9 (F := Ideal) x0 x1) (colsOf 512 (tn 2048 X E)) := fun i => by
  rw [val_main_v9_apply]
  exact cols_at (n := 8) (m := 2048) (w := 512) (N := 4096) (h := shapeCasts_S2048x4096_S2048x8x512) (h' := transposes_S2048x8x512_S8x2048x512_1_0_2) (by norm_num)
    (ref_whole hx he) i
end Reference

theorem frame_p : Cert.quiescent_MixerDwIn := fun m ρ _ => Cert.MixerDwIn.Gen.frame m ρ
theorem frame_pi : Cert.quiescent_MixerDwInIdeal := fun m ρ _ => Cert.MixerDwInIdeal.Gen.frame m ρ
theorem frame_ri : Cert.quiescent_MixerDwInReferenceIdeal := fun m ρ _ =>
  (θ_run Cert.MixerDwInReferenceIdeal.defs _ _).mono
    (fun r h => ⟨fun c => (h c).2, sem_eq_zero_of_no_sems (by decide) r.2⟩) (Cert.MixerDwInReferenceIdeal.Value.run (F := Ideal) m ρ)
theorem preserves : Cert.preserves_MixerDwIn_MixerDwInIdeal := trivial

theorem algebraic : Cert.algebraic_MixerDwInIdeal_MixerDwInReferenceIdeal := fun m ρ m' ρ' hpre hargs => by
  refine ⟨fun c => (Cert.MixerDwInIdeal.Gen.dats m 0 c).arrAt 2 Cert.MixerDwInIdeal.cfg0.N, Cert.MixerDwInIdeal.Value.run_blocks m ρ, ?_⟩
  refine (θ_run Cert.MixerDwInReferenceIdeal.defs _ _).mono (fun r h c => ?_) (Cert.MixerDwInReferenceIdeal.Value.run (F := Ideal) m' ρ')
  obtain ⟨r0, rest⟩ := h c
  obtain ⟨a0, a1, a2⟩ := hargs c
  have hx := at2_ent (a := 2048) (b := 2048) (m (c.tc.loc Cert.MixerDwInIdeal.main_arg0))
  have he := at2_ent (a := 2048) (b := 4096) (m (c.tc.loc Cert.MixerDwInIdeal.main_arg1))
  refine ⟨r0.trans ?_, rest⟩
  rw [Cert.MixerDwInReferenceIdeal.Read.val_main_v9_eq, a0, a1]
  exact funext fun i => (ref hx he i).trans (result m c hx he i).symm

end Cert.MixDw

end
-- ==== Proof.ProjRun.lean ====
/- The attention's projections, forward: what the two kernels leave in their arrays, and what a run of the program leaves in
   its two results. -/
module

public import proofs.«01_k».proof.Proof.Weights
public import proofs.«01_k».proof.Proof.Gen.ProjIdeal.Frame

@[expose] public section

set_option maxRecDepth 16384

noncomputable section

namespace Cert.ProjFwd

open Cert.ProjIdeal Cert.ProjIdeal.Gen Idealize.ShloMosaic Idealize.ShloMosaic.TcCoe Idealize.ShloMosaic.Tactic Idealize.SL Idealize.SL.Sem Cert.Prod

variable {X R B A P Q C : ℕ → ℕ → EReal} {W : ℕ → ℕ → ℕ → EReal}

/-! ## One grid point -/

/-- Rows of `X` against the columns of a stack of matrices. -/
def stackMul (X : ℕ → ℕ → EReal) (W : ℕ → ℕ → ℕ → EReal) (i j : ℕ) : EReal := ∑ k : Fin 2048, X i k.val * W (k.val / 256) (k.val % 256) j

section Point
variable {x0 : Vec Ideal S1024x2048 .bf16} {x1 : Vec Ideal S8x256x1024 .bf16} {xr : Vec Ideal S1024x1024 .f32} {xb : Vec Ideal S1x1024 .f32}
  (h0 : At2 x0 X) (h1 : At3 x1 W) (hr : At2 xr R) (hb : At2 xb B)

include h1 in
theorem weights : At2 (a := 2048) (b := 1024) (shapeCast (α := EReal) S2048x1024 (shapeCast (α := EReal) S8x256x1024 (View.ld x1 r0_1) shapeCasts_S8x256x1024_S8x256x1024) shapeCasts_S8x256x1024_S2048x1024)
    (fun k j => W (k / 256) (k % 256) j) :=
  at2_stack (n := 8) (a := 256) (b := 1024) (R := 2048) (by norm_num) (at3_self (n := 8) (a := 256) (b := 1024) (φ := .bf16) (lds3 h1))

include h0 h1 in
theorem product : At2 (a := 1024) (b := 1024) (FloatOps.matmul (F := Ideal) (φ₁ := .bf16) (φ₂ := .bf16) (DotDims.plain 1024 2048 1024) none (View.ld x0 r0_0)
    (shapeCast (α := EReal) S2048x1024 (shapeCast (α := EReal) S8x256x1024 (View.ld x1 r0_1) shapeCasts_S8x256x1024_S8x256x1024) shapeCasts_S8x256x1024_S2048x1024)
    (constant S1024x1024 .f32 0x00000000#32)) (stackMul X W) := by
  have e := mulNN (M := 1024) (K := 2048) (N := 1024) (φ₁ := .bf16) (φ₂ := .bf16) none (ld2 (inb := inb_S1024x2048_S1024x2048_0_0) h0) (weights h1)
  exact e

include hb in
theorem bias : At2 (a := 1024) (b := 1024) (broadcastTo S1024x1024 (shapeCast (α := EReal) S1x1024 (View.ld xb r0_2) shapeCasts_S1x1024_S1x1024) broadcasts_S1x1024_S1024x1024) (fun _ j => B 0 j) :=
  at2_row (a := 1024) (b := 1024) (at2_self (a := 1) (b := 1024) (φ := .f32) (ld2w hb))

include h0 h1 hb in
theorem out_q : At2 (a := 1024) (b := 1024) (out0_3 x0 x1 xb) (fun i j => stackMul X W i j + B 0 j) := fun y => by
  unfold out0_3
  refine View.canon_apply_of_pieces (Val := Elt Ideal) (fun y => stackMul X W (y 0).val (y 1).val + B 0 (y 1).val) _ ?_ _ (cover0_3 _ y)
  simp only [List.forall_mem_cons]
  refine ⟨put2 (φ := .bf16) (f := fun i j => stackMul X W i j + B 0 j) ?_, by simp⟩
  have e := product h0 h1
  have e' : View.ld x0 r0_0 = shapeCast (α := EReal) S1024x2048 (View.ld x0 r0_0) shapeCasts_S1024x2048_S1024x2048 := (shapeCast_self _ _).symm
  rw [e'] at e
  exact at2_add (a := 1024) (b := 1024) (φ := .f32) e (bias hb)

include h0 h1 hr hb in
theorem out_o : At2 (a := 1024) (b := 1024) (out1_4 x0 x1 xr xb) (fun i j => stackMul X W i j + R i j + B 0 j) := fun y => by
  unfold out1_4
  refine View.canon_apply_of_pieces (Val := Elt Ideal) (fun y => stackMul X W (y 0).val (y 1).val + R (y 0).val (y 1).val + B 0 (y 1).val) _ ?_ _ (cover1_4 _ y)
  simp only [List.forall_mem_cons]
  refine ⟨put2 (φ := .f32) (f := fun i j => stackMul X W i j + R i j + B 0 j) ?_, by simp⟩
  exact at2_add (a := 1024) (b := 1024) (φ := .f32) (at2_add (a := 1024) (b := 1024) (φ := .f32) (product h0 h1) (ld2w hr)) (bias hb)
end Point

/-! ## The query's kernel -/

section Region0
variable (V : (c : Dev nD) → (b : Ref sig .tc) → Buf (Elt Ideal) ((c : Thread nD τ).loc b)) (c : Dev nD)
  (hx : At2 (V c main_v4 : S2048x2048.Idx → EReal) X) (hw : At3 (V c main_v3 : S8x512x2048.Idx → EReal) W) (hb : At2 (V c main_v5 : S1x2048.Idx → EReal) B)

theorem index0_0 : ∀ t : Fin cfg0.N, win0_0.index t 0 = t.val / 2 ∧ win0_0.index t 1 = 0 :=
  (by decide +kernel : ∀ t : Fin grid0.N, win0_0.index t 0 = t.val / 2 ∧ win0_0.index t 1 = 0)
theorem index0_1 : ∀ t : Fin cfg0.N, win0_1.index t 0 = 0 ∧ win0_1.index t 1 = 0 ∧ win0_1.index t 2 = t.val % 2 :=
  (by decide +kernel : ∀ t : Fin grid0.N, win0_1.index t 0 = 0 ∧ win0_1.index t 1 = 0 ∧ win0_1.index t 2 = t.val % 2)
theorem index0_2 : ∀ t : Fin cfg0.N, win0_2.index t 0 = 0 ∧ win0_2.index t 1 = t.val % 2 :=
  (by decide +kernel : ∀ t : Fin grid0.N, win0_2.index t 0 = 0 ∧ win0_2.index t 1 = t.val % 2)
theorem index0_3 : ∀ t : Fin cfg0.N, win0_3.index t 0 = t.val / 2 ∧ win0_3.index t 1 = t.val % 2 :=
  (by decide +kernel : ∀ t : Fin grid0.N, win0_3.index t 0 = t.val / 2 ∧ win0_3.index t 1 = t.val % 2)

include hx hw hb in
theorem result0 (i : S2048x2048.Idx) : ((dat0 V c).arrAt 3 cfg0.N : S2048x2048.Idx → EReal) i = stackMul X W (i 0).val (i 1).val + B 0 (i 1).val := by
  refine (dat0 V c).arrAt_forall_of_covers 3 (fun (i : S2048x2048.Idx) (v : EReal) => v = stackMul X W (i 0).val (i 1).val + B 0 (i 1).val)
    (by decide +kernel) (fun t hf (y : S1024x1024.Idx) => ?_) i
  show (dat0 V c).after 3 t y = stackMul X W ((win0_3.rect t).emb y 0).val ((win0_3.rect t).emb y 1).val + B 0 ((win0_3.rect t).emb y 1).val
  rw [after0_3, place win0_3 t 0 (index0_3 t).1 y, place win0_3 t 1 (index0_3 t).2 y]
  have e0 : At2 (a := 1024) (b := 2048) (iblk0 V c 0 t) (fun s k => X (t.val / 2 * 1024 + s) k) :=
    block2 X hx (place win0_0 t 0 (index0_0 t).1) (win0_0.rect_emb_val_of_index_zero t 1 (index0_0 t).2)
  have e1 : At3 (a := 8) (b := 256) (c := 1024) (iblk0 V c 1 t) (fun e r j => W e r (t.val % 2 * 1024 + j)) :=
    block3 W hw (win0_1.rect_emb_val_of_index_zero t 0 (index0_1 t).1) (win0_1.rect_emb_val_of_index_zero t 1 (index0_1 t).2.1) (place win0_1 t 2 (index0_1 t).2.2)
  have e2 : At2 (a := 1) (b := 1024) (iblk0 V c 2 t) (fun s j => B s (t.val % 2 * 1024 + j)) :=
    block2 B hb (win0_2.rect_emb_val_of_index_zero t 0 (index0_2 t).1) (place win0_2 t 1 (index0_2 t).2)
  exact out_q e0 e1 e2 y
end Region0

/-! ## The output projection's kernel -/

section Region1
variable (V : (c : Dev nD) → (b : Ref sig .tc) → Buf (Elt Ideal) ((c : Thread nD τ).loc b)) (c : Dev nD)
  (hx : At2 (V c main_arg3 : S2048x2048.Idx → EReal) X) (hw : At3 (V c main_v3 : S8x512x2048.Idx → EReal) W)
  (hr : At2 (V c main_arg6 : S2048x2048.Idx → EReal) R) (hb : At2 (V c main_v7 : S1x2048.Idx → EReal) B)

theorem index1_0 : ∀ t : Fin cfg1.N, win1_0.index t 0 = t.val / 2 ∧ win1_0.index t 1 = 0 :=
  (by decide +kernel : ∀ t : Fin grid1.N, win1_0.index t 0 = t.val / 2 ∧ win1_0.index t 1 = 0)
theorem index1_1 : ∀ t : Fin cfg1.N, win1_1.index t 0 = 0 ∧ win1_1.index t 1 = 1 ∧ win1_1.index t 2 = t.val % 2 :=
  (by decide +kernel : ∀ t : Fin grid1.N, win1_1.index t 0 = 0 ∧ win1_1.index t 1 = 1 ∧ win1_1.index t 2 = t.val % 2)
theorem index1_2 : ∀ t : Fin cfg1.N, win1_2.index t 0 = t.val / 2 ∧ win1_2.index t 1 = t.val % 2 :=
  (by decide +kernel : ∀ t : Fin grid1.N, win1_2.index t 0 = t.val / 2 ∧ win1_2.index t 1 = t.val % 2)
theorem index1_3 : ∀ t : Fin cfg1.N, win1_3.index t 0 = 0 ∧ win1_3.index t 1 = t.val % 2 :=
  (by decide +kernel : ∀ t : Fin grid1.N, win1_3.index t 0 = 0 ∧ win1_3.index t 1 = t.val % 2)
theorem index1_4 : ∀ t : Fin cfg1.N, win1_4.index t 0 = t.val / 2 ∧ win1_4.index t 1 = t.val % 2 :=
  (by decide +kernel : ∀ t : Fin grid1.N, win1_4.index t 0 = t.val / 2 ∧ win1_4.index t 1 = t.val % 2)

include hx hw hr hb in
theorem result1 (i : S2048x2048.Idx) : ((dat1 V c).arrAt 4 cfg1.N : S2048x2048.Idx → EReal) i
    = stackMul X (fun e r j => W e (256 + r) j) (i 0).val (i 1).val + R (i 0).val (i 1).val + B 0 (i 1).val := by
  refine (dat1 V c).arrAt_forall_of_covers 4 (fun (i : S2048x2048.Idx) (v : EReal) => v = stackMul X (fun e r j => W e (256 + r) j) (i 0).val (i 1).val + R (i 0).val (i 1).val + B 0 (i 1).val)
    (by decide +kernel) (fun t hf (y : S1024x1024.Idx) => ?_) i
  show (dat1 V c).after 4 t y = stackMul X (fun e r j => W e (256 + r) j) ((win1_4.rect t).emb y 0).val ((win1_4.rect t).emb y 1).val
    + R ((win1_4.rect t).emb y 0).val ((win1_4.rect t).emb y 1).val + B 0 ((win1_4.rect t).emb y 1).val
  rw [after1_4, place win1_4 t 0 (index1_4 t).1 y, place win1_4 t 1 (index1_4 t).2 y]
  have e0 : At2 (a := 1024) (b := 2048) (iblk1 V c 0 t) (fun s k => X (t.val / 2 * 1024 + s) k) :=
    block2 X hx (place win1_0 t 0 (index1_0 t).1) (win1_0.rect_emb_val_of_index_zero t 1 (index1_0 t).2)
  have e1 : At3 (a := 8) (b := 256) (c := 1024) (iblk1 V c 1 t) (fun e r j => W e (1 * 256 + r) (t.val % 2 * 1024 + j)) :=
    block3 W hw (win1_1.rect_emb_val_of_index_zero t 0 (index1_1 t).1) (place win1_1 t 1 (index1_1 t).2.1) (place win1_1 t 2 (index1_1 t).2.2)
  have e2 : At2 (a := 1024) (b := 1024) (iblk1 V c 2 t) (fun s j => R (t.val / 2 * 1024 + s) (t.val % 2 * 1024 + j)) :=
    block2 R hr (place win1_2 t 0 (index1_2 t).1) (place win1_2 t 1 (index1_2 t).2)
  have e3 : At2 (a := 1) (b := 1024) (iblk1 V c 3 t) (fun s j => B s (t.val % 2 * 1024 + j)) :=
    block2 B hb (win1_3.rect_emb_val_of_index_zero t 0 (index1_3 t).1) (place win1_3 t 1 (index1_3 t).2)
  exact out_o e0 e1 e2 e3 y
end Region1

/-! ## What the host prepares, and the two kernels one after the other -/

section Whole
variable (m : (ℓ : Loc nD τ sig) → Buf (Elt Ideal) ℓ) (ρ : Dev nD → PrngReg) (c : Dev nD) {b₁ b₂ : ℕ → EReal}
  (hx : At2 (m ((c : Thread nD τ).loc main_arg0) : S2048x2048.Idx → EReal) X)
  (hp : At2 (m ((c : Thread nD τ).loc main_arg1) : S2048x2048.Idx → EReal) P)
  (hb : At1 (m ((c : Thread nD τ).loc main_arg2) : S2048.Idx → EReal) b₁)
  (ha : At2 (m ((c : Thread nD τ).loc main_arg3) : S2048x2048.Idx → EReal) A)
  (hq : At2 (m ((c : Thread nD τ).loc main_arg4) : S2048x2048.Idx → EReal) Q)
  (ho : At1 (m ((c : Thread nD τ).loc main_arg5) : S2048.Idx → EReal) b₂)
  (hr : At2 (m ((c : Thread nD τ).loc main_arg6) : S2048x2048.Idx → EReal) R)

theorem V1_xn : (V1 m ρ c main_v4 : S2048x2048.Idx → EReal) = (m ((c : Thread nD τ).loc main_arg0) : S2048x2048.Idx → EReal) := rfl
theorem V1_both : (V1 m ρ c main_v3 : S8x512x2048.Idx → EReal) = concatenate S8x512x2048 1
    [⟨S8x256x2048, shapeCast S8x256x2048 (m ((c : Thread nD τ).loc main_arg1) : S2048x2048.Idx → EReal) shapeCasts_S2048x2048_S8x256x2048⟩,
     ⟨S8x256x2048, shapeCast S8x256x2048 (m ((c : Thread nD τ).loc main_arg4) : S2048x2048.Idx → EReal) shapeCasts_S2048x2048_S8x256x2048⟩]
    concatenates_S8x256x2048_S8x256x2048_S8x512x2048_d1 := rfl
theorem V1_bias : (V1 m ρ c main_v5 : S1x2048.Idx → EReal) = shapeCast S1x2048 (m ((c : Thread nD τ).loc main_arg2) : S2048.Idx → EReal) shapeCasts_S2048_S1x2048 := rfl
theorem V3_bias : (V3 m ρ c main_v7 : S1x2048.Idx → EReal) = shapeCast S1x2048 (W2 m ρ c (Proc.devRef .tc main_arg5) : S2048.Idx → EReal) shapeCasts_S2048_S1x2048 := rfl

include hp hq in
theorem both1 : At3 (V1 m ρ c main_v3 : S8x512x2048.Idx → EReal) (bothOf P Q) := fun i => (congrFun (V1_both m ρ c) i).trans (both_at hp hq i)

include hx hp hb hq in
/-- The query. -/
theorem q_out (i : S2048x2048.Idx) : (W4 m ρ c (Proc.devRef .tc main_v6) : S2048x2048.Idx → EReal) i = stackMul X (bothOf P Q) (i 0).val (i 1).val + b₁ (i 1).val :=
  (congrFun (((W4_of m ρ c main_v6 (by decide)).trans (W3_of m ρ c main_v6 (by decide))).trans (W2_arr m ρ c 3)) i).trans
    (result0 (B := fun _ j => b₁ j) (V1 m ρ) c (fun i => (congrFun (V1_xn m ρ c) i).trans (hx i)) (both1 m ρ c hp hq)
      (fun i => (congrFun (V1_bias m ρ c) i).trans (at2_of1 hb i)) i)

include hp ha hq ho hr in
/-- The layer's output. -/
theorem h_out (i : S2048x2048.Idx) : (W4 m ρ c (Proc.devRef .tc main_v8) : S2048x2048.Idx → EReal) i
    = stackMul A (fun e r j => bothOf P Q e (256 + r) j) (i 0).val (i 1).val + R (i 0).val (i 1).val + b₂ (i 1).val :=
  (congrFun (W4_arr m ρ c 4) i).trans
    (result1 (B := fun _ j => b₂ j) (V3 m ρ) c (fun i => (congrFun (W3_args m ρ c main_arg3 (by decide)) i).trans (ha i))
      (fun i => (congrFun ((W3_of m ρ c main_v3 (by decide)).trans (W2_of m ρ c main_v3 (by decide))) i).trans (both1 m ρ c hp hq i))
      (fun i => (congrFun (W3_args m ρ c main_arg6 (by decide)) i).trans (hr i))
      (fun i => (congrFun (V3_bias m ρ c) i).trans (at2_of1 (fun k => (congrFun (W2_args m ρ c main_arg5 (by decide)) k).trans (ho k)) i)) i)
end Whole

end Cert.ProjFwd

end
-- ==== Proof.ProjLaunch.lean ====
/- The attention's projections, forward: a run of the program leaves in its two results what the two kernels leave there. -/
module

public import proofs.«01_k».proof.Proof.Gen.ProjIdeal.Frame

@[expose] public section

set_option maxRecDepth 16384

noncomputable section

namespace Cert.ProjFwd

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (m : (ℓ : Loc nD τ sig) → Buf (Elt F) ℓ) (ρ : Dev nD → PrngReg)

set_option backward.isDefEq.respectTransparency.types false in
/-- Every buffer that outlives the kernels ends as the chain of the program's pieces leaves it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h _ => h)

/-- What a run of the program leaves in its results and its arguments. -/
theorem run : θ_run defs (onTc (τ := τ) (main (F := F))) ⟨m, fun _ => 0, ρ⟩ (fun r => ∀ c : Dev nD,
      r.2.mem ((c.tc : Thread nD τ).loc main_v6) = W4 m ρ c (Proc.devRef .tc main_v6)
      ∧ r.2.mem ((c.tc : Thread nD τ).loc main_v8) = W4 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨h c _ (mem_uc main_v6 (by decide)), h c _ (mem_uc main_v8 (by decide)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c)⟩) (run_all m ρ)

end Cert.ProjFwd

end
-- ==== Proof.Proj.lean ====
/- The attention's projections, forward: the kernels' results are the reference's. -/
module

public import proofs.«01_k».proof.Proof.ProjRun
public import proofs.«01_k».proof.Proof.ProjLaunch
public import proofs.«01_k».proof.Proof.Gen.Proj.Frame
public import proofs.«01_k».proof.Proof.Gen.ProjReferenceIdeal.Run
public import proofs.«01_k».proof.Proof.Gen.ProjReferenceIdeal.Read
public import proofs.«01_k».proof.Defs

@[expose] public section

set_option maxRecDepth 16384

noncomputable section

namespace Cert.ProjFwd

open Idealize.ShloMosaic Idealize.ShloMosaic.TcCoe Idealize.SL.Sem Cert.Prod

variable {X P Q A R : ℕ → ℕ → EReal} {b₁ b₂ : ℕ → EReal}

/-! ## The reference -/

section Reference
open Cert.ProjReferenceIdeal Cert.ProjReferenceIdeal.Gen Cert.ProjReferenceIdeal.Read

variable {x0 x1 x3 x4 x6 : S2048x2048.Idx → EReal} {x2 x5 : S2048.Idx → EReal}

theorem ref_q (hx : At2 x0 X) (hp : At2 x1 P) (hb : At1 x2 b₁) : At2 (a := 2048) (b := 2048) (val_main_v4 (F := Ideal) x0 x1 x2) (fun i j => nn 2048 X P i j + b₁ j) := fun i => by
  rw [val_main_v4_apply]
  show val_main_v3 (F := Ideal) x0 x1 x2 i = _
  rw [val_main_v3_apply, val_main_v2_apply, val_main_v1_apply, val_main_v0_apply, hb]
  refine congrArg (fun z : EReal => z + b₁ (i 1).val) (Finset.sum_congr rfl fun k _ => ?_)
  rw [hx, hp]

theorem ref_h (ha : At2 x3 A) (hq : At2 x4 Q) (ho : At1 x5 b₂) (hr : At2 x6 R) : At2 (a := 2048) (b := 2048) (val_main_v10 (F := Ideal) x3 x4 x5 x6)
    (fun i j => R i j + nn 2048 A Q i j + b₂ j) := fun i => by
  rw [val_main_v10_apply, val_main_v9_apply, val_main_v8_apply, val_main_v7_apply, val_main_v6_apply, ho, hr]
  refine congrArg (fun z : EReal => R (i 0).val (i 1).val + z + b₂ (i 1).val) (Finset.sum_congr rfl fun k _ => ?_)
  rw [val_main_v5_apply, hq]
  exact congrArg (fun z : EReal => z * _) (ha _)
end Reference

/-! ## The kernels' stacked weights -/

theorem stack_first (i j : ℕ) : stackMul X (bothOf P Q) i j = nn 2048 X P i j :=
  Finset.sum_congr rfl fun k _ => congrArg (fun z : EReal => X i k.val * z) (both_first P Q k.val j)
theorem stack_second (i j : ℕ) : stackMul X (fun e r j => bothOf P Q e (256 + r) j) i j = nn 2048 X Q i j :=
  Finset.sum_congr rfl fun k _ => congrArg (fun z : EReal => X i k.val * z) (both_second P Q k.val j)

/-! ## The claims -/

theorem frame_p : Cert.quiescent_Proj := fun m ρ _ => Cert.Proj.Gen.frame m ρ
theorem frame_pi : Cert.quiescent_ProjIdeal := fun m ρ _ => Cert.ProjIdeal.Gen.frame m ρ
theorem frame_ri : Cert.quiescent_ProjReferenceIdeal := fun m ρ _ =>
  (θ_run Cert.ProjReferenceIdeal.defs _ _).mono
    (fun r h => ⟨fun c => (h c).2.2, sem_eq_zero_of_no_sems (by decide) r.2⟩) (Cert.ProjReferenceIdeal.Value.run (F := Ideal) m ρ)
theorem preserves : Cert.preserves_Proj_ProjIdeal := trivial

theorem algebraic : Cert.algebraic_ProjIdeal_ProjReferenceIdeal := fun m ρ m' ρ' hpre hargs => by
  refine ⟨_, _, run m ρ, ?_⟩
  refine (θ_run Cert.ProjReferenceIdeal.defs _ _).mono (fun r h c => ?_) (Cert.ProjReferenceIdeal.Value.run (F := Ideal) m' ρ')
  obtain ⟨r0, r1, rest⟩ := h c
  obtain ⟨a0, a1, a2, a3, a4, a5, a6⟩ := hargs c
  have hx := at2_ent (a := 2048) (b := 2048) (m (c.tc.loc Cert.ProjIdeal.main_arg0))
  have hp := at2_ent (a := 2048) (b := 2048) (m (c.tc.loc Cert.ProjIdeal.main_arg1))
  have hb := at1_ent (a := 2048) (m (c.tc.loc Cert.ProjIdeal.main_arg2))
  have ha := at2_ent (a := 2048) (b := 2048) (m (c.tc.loc Cert.ProjIdeal.main_arg3))
  have hq := at2_ent (a := 2048) (b := 2048) (m (c.tc.loc Cert.ProjIdeal.main_arg4))
  have ho := at1_ent (a := 2048) (m (c.tc.loc Cert.ProjIdeal.main_arg5))
  have hr := at2_ent (a := 2048) (b := 2048) (m (c.tc.loc Cert.ProjIdeal.main_arg6))
  refine ⟨r0.trans ?_, r1.trans ?_, rest⟩
  · rw [Cert.ProjReferenceIdeal.Read.val_main_v4_eq, a0, a1, a2]
    exact funext fun i => (ref_q hx hp hb i).trans (((q_out m ρ c hx hp hb hq i).trans
      (congrArg (fun z : EReal => z + _) (stack_first _ _))).symm)
  · rw [Cert.ProjReferenceIdeal.Read.val_main_v10_eq, a3, a4, a5, a6]
    exact funext fun i => (ref_h ha hq ho hr i).trans (((h_out m ρ c hp ha hq ho hr i).trans
      (by rw [stack_second]; exact congrArg (fun z : EReal => z + _) (add_comm _ _))).symm)

end Cert.ProjFwd

end
-- ==== Proof.ProjBackRun.lean ====
/- The attention's projections, backward: what the four kernels leave in their arrays, and what a run of the program leaves in
   its three results. -/
module

public import proofs.«01_k».proof.Proof.Weights
public import proofs.«01_k».proof.Proof.Gen.ProjBackIdeal.Frame

@[expose] public section

set_option maxRecDepth 16384

noncomputable section

namespace Cert.ProjBwd

open Cert.ProjBackIdeal Cert.ProjBackIdeal.Gen Idealize.ShloMosaic Idealize.ShloMosaic.TcCoe Idealize.ShloMosaic.Tactic Idealize.SL Idealize.SL.Sem Cert.Prod

variable {X Y D A N E P Q : ℕ → ℕ → EReal} {W : ℕ → ℕ → ℕ → EReal}

/-! ## One grid point -/

/-- Rows of `X` against the rows of a stack of matrices. -/
def stackRows (X : ℕ → ℕ → EReal) (W : ℕ → ℕ → ℕ → EReal) (i j : ℕ) : EReal := ∑ k : Fin 2048, X i k.val * W (j / 256) (j % 256) k.val

section Rows
variable {x0 : Vec Ideal S1024x2048 .bf16} {x1 : Vec Ideal S4x256x2048 .bf16} (h0 : At2 x0 X) (h1 : At3 x1 W)

include h1 in
theorem weights : At2 (a := 1024) (b := 2048) (shapeCast (α := EReal) S1024x2048 (shapeCast (α := EReal) S4x256x2048 (View.ld x1 r0_1) shapeCasts_S4x256x2048_S4x256x2048) shapeCasts_S4x256x2048_S1024x2048)
    (fun j k => W (j / 256) (j % 256) k) :=
  at2_stack (n := 4) (a := 256) (b := 2048) (R := 1024) (by norm_num) (at3_self (n := 4) (a := 256) (b := 2048) (φ := .bf16) (lds3 h1))

include h0 h1 in
theorem product : At2 (a := 1024) (b := 1024) (FloatOps.matmul (F := Ideal) (φ₁ := .bf16) (φ₂ := .bf16) (DotDims.transposedRhs 1024 2048 1024) none (View.ld x0 r0_0)
    (shapeCast (α := EReal) S1024x2048 (shapeCast (α := EReal) S4x256x2048 (View.ld x1 r0_1) shapeCasts_S4x256x2048_S4x256x2048) shapeCasts_S4x256x2048_S1024x2048)
    (constant S1024x1024 .f32 0x00000000#32)) (stackRows X W) := by
  have e := mulNT (M := 1024) (K := 2048) (N := 1024) (φ₁ := .bf16) (φ₂ := .bf16) none (ld2 (inb := inb_S1024x2048_S1024x2048_0_0) h0) (weights h1)
  exact e

include h0 h1 in
theorem out_a : At2 (a := 1024) (b := 1024) (out0_2 x0 x1) (stackRows X W) := fun y => by
  unfold out0_2
  refine View.canon_apply_of_pieces (Val := Elt Ideal) (fun y => stackRows X W (y 0).val (y 1).val) _ ?_ _ (cover0_2 _ y)
  simp only [List.forall_mem_cons]
  exact ⟨put2 (φ := .bf16) (f := stackRows X W) (product h0 h1), by simp⟩

include h0 h1 in
theorem out_n : At2 (a := 1024) (b := 1024) (out3_2 x0 x1) (stackRows X W) := fun y => by
  unfold out3_2
  refine View.canon_apply_of_pieces (Val := Elt Ideal) (fun y => stackRows X W (y 0).val (y 1).val) _ ?_ _ (cover3_2 _ y)
  simp only [List.forall_mem_cons]
  refine ⟨put2 (φ := .f32) (f := stackRows X W) ?_, by simp⟩
  have e := product h0 h1
  exact e
end Rows

section Columns
variable (c : Dev nD) (arg1 : Memref sig .tc .vmem S2048x256 .bf16) (harg1 : arg1.IsWhole) (arg2 : Memref sig .tc .vmem S2048x2048 .bf16) (harg2 : arg2.IsWhole)
  (arg4 : Memref sig .tc .vmem S1x256x2048 .bf16) (harg4 : arg4.IsWhole) {x0 : Vec Ideal S2048x256 .bf16} {x1 : Vec Ideal S2048x2048 .bf16} (h0 : At2 x0 X) (h1 : At2 x1 Y)

include h0 h1 in
theorem out_o (i : grid1.Coords) : At3 (a := 1) (b := 256) (c := 2048) (out1_A_2 c i arg1 harg1 arg2 harg2 arg4 harg4 x0 x1) (fun _ => tn 2048 X Y) := fun y => by
  unfold out1_A_2
  refine (congrFun (View.read_writes_junk_eq_canon _ _) y).trans (View.canon_apply_of_pieces (Val := Elt Ideal) (fun y => tn 2048 X Y (y 1).val (y 2).val) _ ?_ _
    (cover1_A_2 c i arg1 harg1 arg2 harg2 arg4 harg4 x0 x1 _))
  unfold kernelRun1_A
  simp only [List.forall_mem_cons]
  exact ⟨put3 (p := 0) (φ := .bf16) (f := fun _ => tn 2048 X Y) (at3_of2 (φ := .bf16)
    (mulTN (M := 256) (K := 2048) (N := 2048) (φ₁ := .bf16) (φ₂ := .bf16) none (whole2 harg1 h0) (whole2 harg2 h1))), by simp⟩

include h0 h1 in
theorem out_q (i : grid2.Coords) : At3 (a := 1) (b := 256) (c := 2048) (out2_A_2 c i arg1 harg1 arg2 harg2 arg4 harg4 x0 x1) (fun _ => tn 2048 X Y) := fun y => by
  unfold out2_A_2
  refine (congrFun (View.read_writes_junk_eq_canon _ _) y).trans (View.canon_apply_of_pieces (Val := Elt Ideal) (fun y => tn 2048 X Y (y 1).val (y 2).val) _ ?_ _
    (cover2_A_2 c i arg1 harg1 arg2 harg2 arg4 harg4 x0 x1 _))
  unfold kernelRun2_A
  simp only [List.forall_mem_cons]
  exact ⟨put3 (p := 0) (φ := .bf16) (f := fun _ => tn 2048 X Y) (at3_of2 (φ := .bf16)
    (mulTN (M := 256) (K := 2048) (N := 2048) (φ₁ := .bf16) (φ₂ := .bf16) none (whole2 harg1 h0) (whole2 harg2 h1))), by simp⟩
end Columns

/-! ## The gradient of the heads' output -/

theorem index0_0 : ∀ t : Fin cfg0.N, win0_0.index t 0 = t.val / 2 ∧ win0_0.index t 1 = 0 :=
  (by decide +kernel : ∀ t : Fin grid0.N, win0_0.index t 0 = t.val / 2 ∧ win0_0.index t 1 = 0)
theorem index0_1 : ∀ t : Fin cfg0.N, win0_1.index t 0 = t.val % 2 ∧ win0_1.index t 1 = 1 ∧ win0_1.index t 2 = 0 :=
  (by decide +kernel : ∀ t : Fin grid0.N, win0_1.index t 0 = t.val % 2 ∧ win0_1.index t 1 = 1 ∧ win0_1.index t 2 = 0)
theorem index0_2 : ∀ t : Fin cfg0.N, win0_2.index t 0 = t.val / 2 ∧ win0_2.index t 1 = t.val % 2 :=
  (by decide +kernel : ∀ t : Fin grid0.N, win0_2.index t 0 = t.val / 2 ∧ win0_2.index t 1 = t.val % 2)
theorem index1_0 : ∀ t : Fin cfg1.N, win1_0.index t 0 = 0 ∧ win1_0.index t 1 = t.val :=
  (by decide +kernel : ∀ t : Fin grid1.N, win1_0.index t 0 = 0 ∧ win1_0.index t 1 = t.val)
theorem index1_1 : ∀ t : Fin cfg1.N, win1_1.index t 0 = 0 ∧ win1_1.index t 1 = 0 :=
  (by decide +kernel : ∀ t : Fin grid1.N, win1_1.index t 0 = 0 ∧ win1_1.index t 1 = 0)
theorem index1_2 : ∀ t : Fin cfg1.N, win1_2.index t 0 = t.val ∧ win1_2.index t 1 = 1 ∧ win1_2.index t 2 = 0 :=
  (by decide +kernel : ∀ t : Fin grid1.N, win1_2.index t 0 = t.val ∧ win1_2.index t 1 = 1 ∧ win1_2.index t 2 = 0)
theorem index2_0 : ∀ t : Fin cfg2.N, win2_0.index t 0 = 0 ∧ win2_0.index t 1 = t.val :=
  (by decide +kernel : ∀ t : Fin grid2.N, win2_0.index t 0 = 0 ∧ win2_0.index t 1 = t.val)
theorem index2_1 : ∀ t : Fin cfg2.N, win2_1.index t 0 = 0 ∧ win2_1.index t 1 = 0 :=
  (by decide +kernel : ∀ t : Fin grid2.N, win2_1.index t 0 = 0 ∧ win2_1.index t 1 = 0)
theorem index2_2 : ∀ t : Fin cfg2.N, win2_2.index t 0 = t.val ∧ win2_2.index t 1 = 0 ∧ win2_2.index t 2 = 0 :=
  (by decide +kernel : ∀ t : Fin grid2.N, win2_2.index t 0 = t.val ∧ win2_2.index t 1 = 0 ∧ win2_2.index t 2 = 0)
theorem index3_0 : ∀ t : Fin cfg3.N, win3_0.index t 0 = t.val / 2 ∧ win3_0.index t 1 = 0 :=
  (by decide +kernel : ∀ t : Fin grid3.N, win3_0.index t 0 = t.val / 2 ∧ win3_0.index t 1 = 0)
theorem index3_1 : ∀ t : Fin cfg3.N, win3_1.index t 0 = t.val % 2 ∧ win3_1.index t 1 = 0 ∧ win3_1.index t 2 = 0 :=
  (by decide +kernel : ∀ t : Fin grid3.N, win3_1.index t 0 = t.val % 2 ∧ win3_1.index t 1 = 0 ∧ win3_1.index t 2 = 0)
theorem index3_2 : ∀ t : Fin cfg3.N, win3_2.index t 0 = t.val / 2 ∧ win3_2.index t 1 = t.val % 2 :=
  (by decide +kernel : ∀ t : Fin grid3.N, win3_2.index t 0 = t.val / 2 ∧ win3_2.index t 1 = t.val % 2)

/-- Four stacked matrices of the eight: their row `s` is the whole stack's row `s`, counted on from theirs. -/
theorem stack_block (X : ℕ → ℕ → EReal) (W : ℕ → ℕ → ℕ → EReal) (p q i j : ℕ) (hj : j < 1024) :
    stackRows (fun s k => X (p * 1024 + s) k) (fun e r k => W (q * 4 + e) r k) i j = stackRows X W (p * 1024 + i) (q * 1024 + j) := by
  unfold stackRows
  rw [show (q * 1024 + j) / 256 = q * 4 + j / 256 by omega, show (q * 1024 + j) % 256 = j % 256 by omega]

section Region0
variable (V : (c : Dev nD) → (b : Ref sig .tc) → Buf (Elt Ideal) ((c : Thread nD τ).loc b)) (c : Dev nD)
  (hx : At2 (V c main_arg0 : S2048x2048.Idx → EReal) X) (hw : At3 (V c main_v3 : S8x512x2048.Idx → EReal) W)

include hx hw in
theorem result0 (i : S2048x2048.Idx) : ((dat0 V c).arrAt 2 cfg0.N : S2048x2048.Idx → EReal) i = stackRows X (fun e r j => W e (256 + r) j) (i 0).val (i 1).val := by
  refine (dat0 V c).arrAt_forall_of_covers 2 (fun (i : S2048x2048.Idx) (v : EReal) => v = stackRows X (fun e r j => W e (256 + r) j) (i 0).val (i 1).val)
    (by decide +kernel) (fun t hf (y : S1024x1024.Idx) => ?_) i
  show (dat0 V c).after 2 t y = stackRows X (fun e r j => W e (256 + r) j) ((win0_2.rect t).emb y 0).val ((win0_2.rect t).emb y 1).val
  rw [after0_2, place win0_2 t 0 (index0_2 t).1 y, place win0_2 t 1 (index0_2 t).2 y]
  have e0 : At2 (a := 1024) (b := 2048) (iblk0 V c 0 t) (fun s k => X (t.val / 2 * 1024 + s) k) :=
    block2 X hx (place win0_0 t 0 (index0_0 t).1) (win0_0.rect_emb_val_of_index_zero t 1 (index0_0 t).2)
  have e1 : At3 (a := 4) (b := 256) (c := 2048) (iblk0 V c 1 t) (fun e r j => W (t.val % 2 * 4 + e) (1 * 256 + r) j) :=
    block3 W hw (place win0_1 t 0 (index0_1 t).1) (place win0_1 t 1 (index0_1 t).2.1) (win0_1.rect_emb_val_of_index_zero t 2 (index0_1 t).2.2)
  exact (out_a e0 e1 y).trans (stack_block X (fun e r j => W e (256 + r) j) _ _ _ _ (y 1).isLt)
end Region0

section Region3
variable (V : (c : Dev nD) → (b : Ref sig .tc) → Buf (Elt Ideal) ((c : Thread nD τ).loc b)) (c : Dev nD)
  (hx : At2 (V c main_arg3 : S2048x2048.Idx → EReal) X) (hw : At3 (V c main_v3 : S8x512x2048.Idx → EReal) W)

include hx hw in
theorem result3 (i : S2048x2048.Idx) : ((dat3 V c).arrAt 2 cfg3.N : S2048x2048.Idx → EReal) i = stackRows X W (i 0).val (i 1).val := by
  refine (dat3 V c).arrAt_forall_of_covers 2 (fun (i : S2048x2048.Idx) (v : EReal) => v = stackRows X W (i 0).val (i 1).val)
    (by decide +kernel) (fun t hf (y : S1024x1024.Idx) => ?_) i
  show (dat3 V c).after 2 t y = stackRows X W ((win3_2.rect t).emb y 0).val ((win3_2.rect t).emb y 1).val
  rw [after3_2, place win3_2 t 0 (index3_2 t).1 y, place win3_2 t 1 (index3_2 t).2 y]
  have e0 : At2 (a := 1024) (b := 2048) (iblk3 V c 0 t) (fun s k => X (t.val / 2 * 1024 + s) k) :=
    block2 X hx (place win3_0 t 0 (index3_0 t).1) (win3_0.rect_emb_val_of_index_zero t 1 (index3_0 t).2)
  have e1 : At3 (a := 4) (b := 256) (c := 2048) (iblk3 V c 1 t) (fun e r j => W (t.val % 2 * 4 + e) r j) :=
    block3 W hw (place win3_1 t 0 (index3_1 t).1) (win3_1.rect_emb_val_of_index_zero t 1 (index3_1 t).2.1) (win3_1.rect_emb_val_of_index_zero t 2 (index3_1 t).2.2)
  exact (out_n e0 e1 y).trans (stack_block X W _ _ _ _ (y 1).isLt)
end Region3

/-! ## The weights' gradient: one kernel writes the lower half of every device's rows, the next the upper half -/

section Region1
variable (V : (c : Dev nD) → (b : Ref sig .tc) → Buf (Elt Ideal) ((c : Thread nD τ).loc b)) (c : Dev nD)
  (hx : At2 (V c main_arg1 : S2048x2048.Idx → EReal) X) (hy : At2 (V c main_arg0 : S2048x2048.Idx → EReal) Y)

include hx hy in
theorem result1 (i : S8x512x2048.Idx) (h : 256 ≤ (i 1).val) : ((dat1 V c).arrAt 2 cfg1.N : S8x512x2048.Idx → EReal) i
    = tn 2048 X Y ((i 0).val * 256 + ((i 1).val - 256)) (i 2).val := by
  have h0 : (i 0).val < 8 := (i 0).isLt
  have h1 : (i 1).val < 512 := (i 1).isLt
  have key := (dat1 V c).arrAt_forall_of_flushed 2 (fun (i : S8x512x2048.Idx) (v : EReal) => v = tn 2048 X Y ((i 0).val * 256 + ((i 1).val - 256)) (i 2).val)
    (fun t hf (y : S1x256x2048.Idx) => by
      show (dat1 V c).after 2 t y = tn 2048 X Y (((win1_2.rect t).emb y 0).val * 256 + (((win1_2.rect t).emb y 1).val - 256)) ((win1_2.rect t).emb y 2).val
      have hy0 := (y 0).isLt; change (y 0).val < 1 at hy0
      rw [after1_2, place win1_2 t 0 (index1_2 t).1 y, place win1_2 t 1 (index1_2 t).2.1 y, win1_2.rect_emb_val_of_index_zero t 2 (index1_2 t).2.2]
      have e0 : At2 (a := 2048) (b := 256) (iblk1 V c 0 t) (fun s k => X s (t.val * 256 + k)) :=
        block2 X hx (win1_0.rect_emb_val_of_index_zero t 0 (index1_0 t).1) (place win1_0 t 1 (index1_0 t).2)
      have e1 : At2 (a := 2048) (b := 2048) (iblk1 V c 1 t) Y :=
        block2 Y hy (win1_1.rect_emb_val_of_index_zero t 0 (index1_1 t).1) (win1_1.rect_emb_val_of_index_zero t 1 (index1_1 t).2)
      refine (out_o c _ _ _ _ _ _ e0 e1 _ y).trans ?_
      show _ = tn 2048 X Y ((t.val * 1 + (y 0).val) * 256 + (1 * 256 + (y 1).val - 256)) (y 2).val
      rw [show (t.val * 1 + (y 0).val) * 256 + (1 * 256 + (y 1).val - 256) = t.val * 256 + (y 1).val by omega]
      rfl)
    cfg1.N (⟨(i 0).val, h0⟩ : Fin grid1.N) i h0 ((by decide +kernel : ∀ t : Fin grid1.N, win1_2.flush t = true) _)
  refine key (Finset.mem_map.mpr ⟨(ValueIdx.ix3 0 ⟨(i 1).val - 256, by omega⟩ (i 2) : S1x256x2048.Idx), Finset.mem_univ _, ?_⟩)
  refine funext fun a => Fin.ext ?_
  show ((win1_2.rect (⟨(i 0).val, h0⟩ : Fin grid1.N)).emb (ValueIdx.ix3 0 ⟨(i 1).val - 256, by omega⟩ (i 2) : S1x256x2048.Idx) a).val = (i a).val
  match a with
  | 0 => exact (place win1_2 _ 0 (index1_2 _).1 _).trans (by show (i 0).val * 1 + 0 = _; omega)
  | 1 => exact (place win1_2 _ 1 (index1_2 _).2.1 _).trans (by show 1 * 256 + ((i 1).val - 256) = _; omega)
  | 2 => exact win1_2.rect_emb_val_of_index_zero _ 2 (index1_2 _).2.2 _
end Region1

section Region2
variable (V : (c : Dev nD) → (b : Ref sig .tc) → Buf (Elt Ideal) ((c : Thread nD τ).loc b)) (c : Dev nD)
  (hx : At2 (V c main_arg2 : S2048x2048.Idx → EReal) X) (hy : At2 (V c main_arg3 : S2048x2048.Idx → EReal) Y)

include hx hy in
theorem result2 (i : S8x512x2048.Idx) (h : (i 1).val < 256) : ((dat2 V c).arrAt 2 cfg2.N : S8x512x2048.Idx → EReal) i
    = tn 2048 X Y ((i 0).val * 256 + (i 1).val) (i 2).val := by
  have h0 : (i 0).val < 8 := (i 0).isLt
  have key := (dat2 V c).arrAt_forall_of_flushed 2 (fun (i : S8x512x2048.Idx) (v : EReal) => v = tn 2048 X Y ((i 0).val * 256 + (i 1).val) (i 2).val)
    (fun t hf (y : S1x256x2048.Idx) => by
      show (dat2 V c).after 2 t y = tn 2048 X Y (((win2_2.rect t).emb y 0).val * 256 + ((win2_2.rect t).emb y 1).val) ((win2_2.rect t).emb y 2).val
      have hy0 := (y 0).isLt; change (y 0).val < 1 at hy0
      rw [after2_2, place win2_2 t 0 (index2_2 t).1 y, win2_2.rect_emb_val_of_index_zero t 1 (index2_2 t).2.1, win2_2.rect_emb_val_of_index_zero t 2 (index2_2 t).2.2]
      have e0 : At2 (a := 2048) (b := 256) (iblk2 V c 0 t) (fun s k => X s (t.val * 256 + k)) :=
        block2 X hx (win2_0.rect_emb_val_of_index_zero t 0 (index2_0 t).1) (place win2_0 t 1 (index2_0 t).2)
      have e1 : At2 (a := 2048) (b := 2048) (iblk2 V c 1 t) Y :=
        block2 Y hy (win2_1.rect_emb_val_of_index_zero t 0 (index2_1 t).1) (win2_1.rect_emb_val_of_index_zero t 1 (index2_1 t).2)
      refine (out_q c _ _ _ _ _ _ e0 e1 _ y).trans ?_
      show _ = tn 2048 X Y ((t.val * 1 + (y 0).val) * 256 + (y 1).val) (y 2).val
      rw [show (t.val * 1 + (y 0).val) * 256 + (y 1).val = t.val * 256 + (y 1).val by omega]
      rfl)
    cfg2.N (⟨(i 0).val, h0⟩ : Fin grid2.N) i h0 ((by decide +kernel : ∀ t : Fin grid2.N, win2_2.flush t = true) _)
  refine key (Finset.mem_map.mpr ⟨(ValueIdx.ix3 0 ⟨(i 1).val, h⟩ (i 2) : S1x256x2048.Idx), Finset.mem_univ _, ?_⟩)
  refine funext fun a => Fin.ext ?_
  show ((win2_2.rect (⟨(i 0).val, h0⟩ : Fin grid2.N)).emb (ValueIdx.ix3 0 ⟨(i 1).val, h⟩ (i 2) : S1x256x2048.Idx) a).val = (i a).val
  match a with
  | 0 => exact (place win2_2 _ 0 (index2_2 _).1 _).trans (by show (i 0).val * 1 + 0 = _; omega)
  | 1 => exact win2_2.rect_emb_val_of_index_zero _ 1 (index2_2 _).2.1 _
  | 2 => exact win2_2.rect_emb_val_of_index_zero _ 2 (index2_2 _).2.2 _

/-- The second kernel leaves the lower halves as it finds them. -/
theorem keeps2 (i : S8x512x2048.Idx) (h : 256 ≤ (i 1).val) : ((dat2 V c).arrAt 2 cfg2.N : S8x512x2048.Idx → EReal) i = (V c main_v6 : S8x512x2048.Idx → EReal) i := by
  refine ((dat2 V c).arrAt_apply_of_forall_not_mem 2 cfg2.N i fun t _ _ hi => ?_).trans (congrFun (A_eq2 V c 2) i)
  obtain ⟨y, -, hy⟩ := Finset.mem_map.mp hi
  have hb : ((y : S1x256x2048.Idx) 1).val < 256 := ((y : S1x256x2048.Idx) 1).isLt
  have e : ((win2_2.rect t).emb (y : S1x256x2048.Idx) 1).val = (i 1).val := congrArg (fun z : S8x512x2048.Idx => (z 1).val) hy
  rw [win2_2.rect_emb_val_of_index_zero t 1 (index2_2 t).2.1] at e
  change ((y : S1x256x2048.Idx) 1).val = (i 1).val at e
  omega
end Region2

/-! ## What the host prepares, and the kernels one after the other -/

section Whole
variable (m : (ℓ : Loc nD τ sig) → Buf (Elt Ideal) ℓ) (ρ : Dev nD → PrngReg) (c : Dev nD)
  (hd : At2 (m ((c : Thread nD τ).loc main_arg0) : S2048x2048.Idx → EReal) D)
  (ha : At2 (m ((c : Thread nD τ).loc main_arg1) : S2048x2048.Idx → EReal) A)
  (hn : At2 (m ((c : Thread nD τ).loc main_arg2) : S2048x2048.Idx → EReal) N)
  (he : At2 (m ((c : Thread nD τ).loc main_arg3) : S2048x2048.Idx → EReal) E)
  (hp : At2 (m ((c : Thread nD τ).loc main_arg4) : S2048x2048.Idx → EReal) P)
  (hq : At2 (m ((c : Thread nD τ).loc main_arg5) : S2048x2048.Idx → EReal) Q)

theorem V1_both : (V1 m ρ c main_v3 : S8x512x2048.Idx → EReal) = concatenate S8x512x2048 1
    [⟨S8x256x2048, shapeCast S8x256x2048 (m ((c : Thread nD τ).loc main_arg4) : S2048x2048.Idx → EReal) shapeCasts_S2048x2048_S8x256x2048⟩,
     ⟨S8x256x2048, shapeCast S8x256x2048 (m ((c : Thread nD τ).loc main_arg5) : S2048x2048.Idx → EReal) shapeCasts_S2048x2048_S8x256x2048⟩]
    concatenates_S8x256x2048_S8x256x2048_S8x512x2048_d1 := rfl
theorem V5_copy : (V5 m ρ c main_v6 : S8x512x2048.Idx → EReal) = (W4 m ρ c (Proc.devRef .tc main_v5) : S8x512x2048.Idx → EReal) := rfl

include hp hq in
theorem both1 : At3 (V1 m ρ c main_v3 : S8x512x2048.Idx → EReal) (bothOf P Q) := fun i => (congrFun (V1_both m ρ c) i).trans (both_at hp hq i)

include hd hp hq in
/-- The gradient of the heads' output. -/
theorem a_out (i : S2048x2048.Idx) : (W7 m ρ c (Proc.devRef .tc main_v4) : S2048x2048.Idx → EReal) i
    = stackRows D (fun e r j => bothOf P Q e (256 + r) j) (i 0).val (i 1).val :=
  (congrFun (((((W7_of m ρ c main_v4 (by decide)).trans (W6_of m ρ c main_v4 (by decide))).trans (W5_of m ρ c main_v4 (by decide))).trans
    (W4_of m ρ c main_v4 (by decide))).trans ((W3_of m ρ c main_v4 (by decide)).trans (W2_arr m ρ c 2))) i).trans
    (result0 (V1 m ρ) c (fun i => (congrFun (W1_args m ρ c main_arg0 (by decide)) i).trans (hd i)) (both1 m ρ c hp hq) i)

include he hp hq in
/-- The gradient of the normalised input. -/
theorem n_out (i : S2048x2048.Idx) : (W7 m ρ c (Proc.devRef .tc main_v7) : S2048x2048.Idx → EReal) i = stackRows E (bothOf P Q) (i 0).val (i 1).val :=
  (congrFun (W7_arr m ρ c 2) i).trans
    (result3 (V6 m ρ) c (fun i => (congrFun (W6_args m ρ c main_arg3 (by decide)) i).trans (he i))
      (fun i => (congrFun (((W6_of m ρ c main_v3 (by decide)).trans (W5_of m ρ c main_v3 (by decide))).trans
        ((W4_of m ρ c main_v3 (by decide)).trans ((W3_of m ρ c main_v3 (by decide)).trans (W2_of m ρ c main_v3 (by decide))))) i).trans (both1 m ρ c hp hq i)) i)

include hd ha hn he in
/-- The gradient of the two weight matrices. -/
theorem w_out : At3 (a := 8) (b := 512) (c := 2048) (W7 m ρ c (Proc.devRef .tc main_v6) : S8x512x2048.Idx → EReal) (bothOf (tn 2048 N E) (tn 2048 A D)) := fun i => by
  refine (congrFun ((W7_of m ρ c main_v6 (by decide)).trans (W6_arr m ρ c 2)) i).trans ?_
  unfold bothOf
  by_cases h : (i 1).val < 256
  · rw [if_pos h]
    exact result2 (V5 m ρ) c (fun i => (congrFun (W5_args m ρ c main_arg2 (by decide)) i).trans (hn i)) (fun i => (congrFun (W5_args m ρ c main_arg3 (by decide)) i).trans (he i)) i h
  · rw [if_neg h]
    refine (keeps2 (V5 m ρ) c i (by omega)).trans ((congrFun ((V5_copy m ρ c).trans (W4_arr m ρ c 2)) i).trans ?_)
    exact result1 (V3 m ρ) c (fun i => (congrFun (W3_args m ρ c main_arg1 (by decide)) i).trans (ha i)) (fun i => (congrFun (W3_args m ρ c main_arg0 (by decide)) i).trans (hd i)) i (by omega)
end Whole

end Cert.ProjBwd

end
-- ==== Proof.ProjBackLaunch.lean ====
/- The attention's projections, backward: a run of the program leaves in its three results what the four kernels leave there. -/
module

public import proofs.«01_k».proof.Proof.Gen.ProjBackIdeal.Frame

@[expose] public section

set_option maxRecDepth 16384

noncomputable section

namespace Cert.ProjBwd

open Cert.ProjBackIdeal Cert.ProjBackIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (m : (ℓ : Loc nD τ sig) → Buf (Elt F) ℓ) (ρ : Dev nD → PrngReg)

set_option backward.isDefEq.respectTransparency.types false in
/-- Every buffer that outlives the kernels ends as the chain of the program's pieces leaves it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun _ h _ => h)

/-- What a run of the program leaves in its results and its arguments. -/
theorem run : θ_run defs (onTc (τ := τ) (main (F := F))) ⟨m, fun _ => 0, ρ⟩ (fun r => ∀ c : Dev nD,
      r.2.mem ((c.tc : Thread nD τ).loc main_v4) = W7 m ρ c (Proc.devRef .tc main_v4)
      ∧ r.2.mem ((c.tc : Thread nD τ).loc main_v6) = W7 m ρ c (Proc.devRef .tc main_v6)
      ∧ r.2.mem ((c.tc : Thread nD τ).loc main_v7) = W7 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨h c _ (mem_uc main_v4 (by decide)), h c _ (mem_uc main_v6 (by decide)), h c _ (mem_uc main_v7 (by decide)),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c)⟩) (run_all m ρ)

end Cert.ProjBwd

end
-- ==== Proof.ProjBack.lean ====
/- The attention's projections, backward: the kernels' results are the reference's. -/
module

public import proofs.«01_k».proof.Proof.ProjBackRun
public import proofs.«01_k».proof.Proof.ProjBackLaunch
public import proofs.«01_k».proof.Proof.Gen.ProjBack.Frame
public import proofs.«01_k».proof.Proof.Gen.ProjBackReferenceIdeal.Run
public import proofs.«01_k».proof.Proof.Gen.ProjBackReferenceIdeal.Read
public import proofs.«01_k».proof.Defs

@[expose] public section

set_option maxRecDepth 16384

noncomputable section

namespace Cert.ProjBwd

open Idealize.ShloMosaic Idealize.ShloMosaic.TcCoe Idealize.SL.Sem Cert.Prod

variable {D A N E P Q X : ℕ → ℕ → EReal}

/-! ## The reference -/

section Reference
open Cert.ProjBackReferenceIdeal Cert.ProjBackReferenceIdeal.Gen Cert.ProjBackReferenceIdeal.Read

variable {x0 x1 x2 x3 x4 x5 : S2048x2048.Idx → EReal}

theorem ref_a (hd : At2 x0 D) (hq : At2 x5 Q) : At2 (a := 2048) (b := 2048) (val_main_v15 (F := Ideal) x0 x5) (nt 2048 D Q) := fun i => by
  rw [val_main_v15_apply]
  show val_main_v5 (F := Ideal) x0 x5 i = _
  rw [val_main_v5_apply]
  refine Finset.sum_congr rfl fun k _ => ?_
  rw [hq]
  exact congrArg (fun z : EReal => z * _) (hd _)

theorem ref_n (he : At2 x3 E) (hp : At2 x4 P) : At2 (a := 2048) (b := 2048) (val_main_v11 (F := Ideal) x3 x4) (nt 2048 E P) := fun i => by
  rw [val_main_v11_apply]
  refine Finset.sum_congr rfl fun k _ => ?_
  rw [hp]
  exact congrArg (fun z : EReal => z * _) (he _)

theorem ref_wq (hn : At2 x2 N) (he : At2 x3 E) : At2 (a := 2048) (b := 2048) (val_main_v10 (F := Ideal) x2 x3) (tn 2048 N E) := fun i => by
  rw [val_main_v10_apply, val_main_v9_apply]
  refine Finset.sum_congr rfl fun k _ => ?_
  rw [val_main_v6_apply, val_main_v7_apply]
  refine (mul_comm _ _).trans ?_
  exact congrArg₂ (fun z w : EReal => z * w) (hn _) (he _)

theorem ref_wo (hd : At2 x0 D) (ha : At2 x1 A) : At2 (a := 2048) (b := 2048) (val_main_v4 (F := Ideal) x0 x1) (tn 2048 A D) := fun i => by
  rw [val_main_v4_apply, val_main_v3_apply]
  refine Finset.sum_congr rfl fun k _ => ?_
  rw [val_main_v0_apply, val_main_v1_apply]
  refine (mul_comm _ _).trans ?_
  exact congrArg₂ (fun z w : EReal => z * w) (ha _) (hd _)

theorem ref_w (hd : At2 x0 D) (ha : At2 x1 A) (hn : At2 x2 N) (he : At2 x3 E) :
    At3 (a := 8) (b := 512) (c := 2048) (val_main_v16 (F := Ideal) x0 x1 x2 x3) (bothOf (tn 2048 N E) (tn 2048 A D)) := fun i => by
  rw [val_main_v16_apply]
  exact both_at (ref_wq hn he) (ref_wo hd ha) (h5 := concatenates_S8x256x2048_S8x256x2048_S8x512x2048_d1) i
end Reference

/-! ## The kernels' stacked weights -/

theorem stack_first (i j : ℕ) : stackRows X (bothOf P Q) i j = nt 2048 X P i j :=
  Finset.sum_congr rfl fun k _ => congrArg (fun z : EReal => X i k.val * z) (both_first P Q j k.val)
theorem stack_second (i j : ℕ) : stackRows X (fun e r j => bothOf P Q e (256 + r) j) i j = nt 2048 X Q i j :=
  Finset.sum_congr rfl fun k _ => congrArg (fun z : EReal => X i k.val * z) (both_second P Q j k.val)

/-! ## The claims -/

theorem frame_p : Cert.quiescent_ProjBack := fun m ρ _ => Cert.ProjBack.Gen.frame m ρ
theorem frame_pi : Cert.quiescent_ProjBackIdeal := fun m ρ _ => Cert.ProjBackIdeal.Gen.frame m ρ
theorem frame_ri : Cert.quiescent_ProjBackReferenceIdeal := fun m ρ _ =>
  (θ_run Cert.ProjBackReferenceIdeal.defs _ _).mono
    (fun r h => ⟨fun c => (h c).2.2.2, sem_eq_zero_of_no_sems (by decide) r.2⟩) (Cert.ProjBackReferenceIdeal.Value.run (F := Ideal) m ρ)
theorem preserves : Cert.preserves_ProjBack_ProjBackIdeal := trivial

theorem algebraic : Cert.algebraic_ProjBackIdeal_ProjBackReferenceIdeal := fun m ρ m' ρ' hpre hargs => by
  refine ⟨_, _, _, run m ρ, ?_⟩
  refine (θ_run Cert.ProjBackReferenceIdeal.defs _ _).mono (fun r h c => ?_) (Cert.ProjBackReferenceIdeal.Value.run (F := Ideal) m' ρ')
  obtain ⟨r0, r1, r2, rest⟩ := h c
  obtain ⟨a0, a1, a2, a3, a4, a5, a6⟩ := hargs c
  have hd := at2_ent (a := 2048) (b := 2048) (m (c.tc.loc Cert.ProjBackIdeal.main_arg0))
  have ha := at2_ent (a := 2048) (b := 2048) (m (c.tc.loc Cert.ProjBackIdeal.main_arg1))
  have hn := at2_ent (a := 2048) (b := 2048) (m (c.tc.loc Cert.ProjBackIdeal.main_arg2))
  have he := at2_ent (a := 2048) (b := 2048) (m (c.tc.loc Cert.ProjBackIdeal.main_arg3))
  have hp := at2_ent (a := 2048) (b := 2048) (m (c.tc.loc Cert.ProjBackIdeal.main_arg4))
  have hq := at2_ent (a := 2048) (b := 2048) (m (c.tc.loc Cert.ProjBackIdeal.main_arg5))
  refine ⟨r0.trans ?_, r1.trans ?_, r2.trans ?_, rest⟩
  · rw [Cert.ProjBackReferenceIdeal.Read.val_main_v15_eq, a0, a5]
    exact funext fun i => (ref_a hd hq i).trans ((a_out m ρ c hd hp hq i).trans (stack_second _ _)).symm
  · rw [Cert.ProjBackReferenceIdeal.Read.val_main_v16_eq, a0, a1, a2, a3]
    exact funext fun i => (ref_w hd ha hn he i).trans (w_out m ρ c hd ha hn he i).symm
  · rw [Cert.ProjBackReferenceIdeal.Read.val_main_v11_eq, a3, a4]
    exact funext fun i => (ref_n he hp i).trans ((n_out m ρ c he hp hq i).trans (stack_first _ _)).symm

end Cert.ProjBwd

end
-- ==== Proof.KvRun.lean ====
/- The shared keys and values, forward and backward: what the three kernels leave in their arrays, and what a run of the
   program leaves in its four results. -/
module

public import proofs.«01_k».proof.Proof.Weights
public import proofs.«01_k».proof.Proof.Gen.KvIdeal.Frame

@[expose] public section

set_option maxRecDepth 16384

noncomputable section

namespace Cert.KvPair

open Cert.KvIdeal Cert.KvIdeal.Gen Idealize.ShloMosaic Idealize.ShloMosaic.TcCoe Idealize.ShloMosaic.Tactic Idealize.SL Idealize.SL.Sem Cert.Prod

variable {X Y H E P B K : ℕ → ℕ → EReal} {W : ℕ → ℕ → ℕ → EReal} {b : ℕ → EReal}

/-! ## One grid point -/

/-- Rows of `X` against the columns of a stack of matrices, with a bias. -/
def keyvals (X : ℕ → ℕ → EReal) (W : ℕ → ℕ → ℕ → EReal) (b : ℕ → EReal) (i j : ℕ) : EReal := (∑ k : Fin 2048, X i k.val * W (k.val / 256) (k.val % 256) j) + b j
/-- Head `h` of the columns from `o` on. -/
def head (o : ℕ) (K : ℕ → ℕ → EReal) (h s f : ℕ) : EReal := K s (o + (64 * h + f))

section Point
variable {x0 : Vec Ideal S1024x2048 .bf16} {x1 : Vec Ideal S8x256x512 .bf16} {xb : Vec Ideal S1x512 .f32}
  (h0 : At2 x0 X) (h1 : At3 x1 W) (hb : At2 xb B)

include h1 in
theorem weights : At2 (a := 2048) (b := 512) (shapeCast (α := EReal) S2048x512 (shapeCast (α := EReal) S8x256x512 (View.ld x1 r0_1) shapeCasts_S8x256x512_S8x256x512) shapeCasts_S8x256x512_S2048x512)
    (fun k j => W (k / 256) (k % 256) j) :=
  at2_stack (n := 8) (a := 256) (b := 512) (R := 2048) (by norm_num) (at3_self (n := 8) (a := 256) (b := 512) (φ := .bf16) (lds3 h1))

include h0 h1 hb in
theorem product : At2 (a := 1024) (b := 512) (k0_pay5 (F := Ideal) (View.ld x0 r0_0) (View.ld x1 r0_1) (View.ld xb r0_2)) (keyvals X W (B 0)) := by
  have e := mulNN (M := 1024) (K := 2048) (N := 512) (φ₁ := .bf16) (φ₂ := .bf16) none (ld2 (inb := inb_S1024x2048_S1024x2048_0_0) h0) (weights h1)
  have e' : At2 (a := 1024) (b := 512) (broadcastTo S1024x512 (shapeCast S1x512 (View.ld xb r0_2) shapeCasts_S1x512_S1x512) broadcasts_S1x512_S1024x512) (fun _ j => B 0 j) :=
    at2_row (a := 1024) (b := 512) (at2_self (a := 1) (b := 512) (φ := .f32) (ld2w hb))
  exact at2_add (a := 1024) (b := 512) (φ := .f32) e e'

/-- One head's block. -/
theorem piece {v : FVec Ideal S1024x512 .f32} (hv : At2 (a := 1024) (b := 512) v K) (p : ℕ) {hs : S1024x512.Slices ![0, p] S1024x64} {hc} :
    At3 (a := 1) (b := 1024) (c := 64) (shapeCast (α := EReal) S1x1024x64 (extractStridedSlice (α := EReal) S1024x64 ![0, p] v hs) hc) (fun _ s f => K s (p + f)) :=
  at3_of2 (a := 1024) (b := 64) (φ := .f32) (at2_slice (a := 1024) (b := 64) (n := 512) (p := p) hv)

include h0 h1 hb in
theorem out_k : At3 (a := 4) (b := 1024) (c := 64) (out0_3 x0 x1 xb) (head 0 (keyvals X W (B 0))) := fun y => by
  unfold out0_3
  refine View.canon_apply_of_pieces (Val := Elt Ideal) (fun y => head 0 (keyvals X W (B 0)) (y 0).val (y 1).val (y 2).val) _ ?_ _ (cover0_3 _ _ _ _ y)
  have e := product h0 h1 hb
  have g : ∀ p, (fun s f => keyvals X W (B 0) s (64 * p + f)) = head 0 (keyvals X W (B 0)) p := fun p => by
    unfold head; simp only [Nat.zero_add]
  simp only [List.forall_mem_cons]
  refine ⟨put3 (p := 3) (φ := .bf16) (f := head 0 (keyvals X W (B 0))) ?_, put3 (p := 2) (φ := .bf16) (f := head 0 (keyvals X W (B 0))) ?_,
    put3 (p := 1) (φ := .bf16) (f := head 0 (keyvals X W (B 0))) ?_, put3 (p := 0) (φ := .bf16) (f := head 0 (keyvals X W (B 0))) ?_, by simp⟩
  · rw [← g]; exact piece e 192 (hs := slices_S1024x512_o0_192_S1024x64)
  · rw [← g]; exact piece e 128 (hs := slices_S1024x512_o0_128_S1024x64)
  · rw [← g]; exact piece e 64 (hs := slices_S1024x512_o0_64_S1024x64)
  · rw [← g]; exact piece e 0 (hs := slices_S1024x512_o0_0_S1024x64)

include h0 h1 hb in
theorem out_v : At3 (a := 4) (b := 1024) (c := 64) (out0_4 x0 x1 xb) (head 256 (keyvals X W (B 0))) := fun y => by
  unfold out0_4
  refine View.canon_apply_of_pieces (Val := Elt Ideal) (fun y => head 256 (keyvals X W (B 0)) (y 0).val (y 1).val (y 2).val) _ ?_ _ (cover0_4 _ _ _ _ y)
  have e := product h0 h1 hb
  have g : ∀ p, (fun s f => keyvals X W (B 0) s (256 + 64 * p + f)) = head 256 (keyvals X W (B 0)) p := fun p => by
    unfold head; simp only [Nat.add_assoc]
  simp only [List.forall_mem_cons]
  refine ⟨put3 (p := 3) (φ := .bf16) (f := head 256 (keyvals X W (B 0))) ?_, put3 (p := 2) (φ := .bf16) (f := head 256 (keyvals X W (B 0))) ?_,
    put3 (p := 1) (φ := .bf16) (f := head 256 (keyvals X W (B 0))) ?_, put3 (p := 0) (φ := .bf16) (f := head 256 (keyvals X W (B 0))) ?_, by simp⟩
  · rw [← g]; exact piece e 448 (hs := slices_S1024x512_o0_448_S1024x64)
  · rw [← g]; exact piece e 384 (hs := slices_S1024x512_o0_384_S1024x64)
  · rw [← g]; exact piece e 320 (hs := slices_S1024x512_o0_320_S1024x64)
  · rw [← g]; exact piece e 256 (hs := slices_S1024x512_o0_256_S1024x64)
end Point

section Columns
variable (c : Dev nD) (arg1 : Memref sig .tc .vmem S2048x256 .bf16) (harg1 : arg1.IsWhole) (arg2 : Memref sig .tc .vmem S2048x512 .bf16) (harg2 : arg2.IsWhole)
  (arg4 : Memref sig .tc .vmem S1x256x512 .bf16) (harg4 : arg4.IsWhole) {x0 : Vec Ideal S2048x256 .bf16} {x1 : Vec Ideal S2048x512 .bf16} (h0 : At2 x0 X) (h1 : At2 x1 Y)

include h0 h1 in
theorem out_w (i : grid1.Coords) : At3 (a := 1) (b := 256) (c := 512) (out1_A_2 c i arg1 harg1 arg2 harg2 arg4 harg4 x0 x1) (fun _ => tn 2048 X Y) := fun y => by
  unfold out1_A_2
  refine (congrFun (View.read_writes_junk_eq_canon _ _) y).trans (View.canon_apply_of_pieces (Val := Elt Ideal) (fun y => tn 2048 X Y (y 1).val (y 2).val) _ ?_ _
    (cover1_A_2 c i arg1 harg1 arg2 harg2 arg4 harg4 x0 x1 _))
  unfold kernelRun1_A
  simp only [List.forall_mem_cons]
  exact ⟨put3 (p := 0) (φ := .bf16) (f := fun _ => tn 2048 X Y) (at3_of2 (φ := .bf16)
    (mulTN (M := 256) (K := 2048) (N := 512) (φ₁ := .bf16) (φ₂ := .bf16) none (whole2 harg1 h0) (whole2 harg2 h1))), by simp⟩
end Columns

section Rows
variable {x0 : Vec Ideal S1024x512 .bf16} {x1 : Vec Ideal S1x256x512 .bf16} (h0 : At2 x0 X) (h1 : At3 x1 W)

include h0 h1 in
theorem out_x : At2 (a := 1024) (b := 256) (out2_2 x0 x1) (nt 512 X (W 0)) := fun y => by
  unfold out2_2
  refine View.canon_apply_of_pieces (Val := Elt Ideal) (fun y => nt 512 X (W 0) (y 0).val (y 1).val) _ ?_ _ (cover2_2 _ y)
  simp only [List.forall_mem_cons]
  refine ⟨put2 (φ := .f32) (f := nt 512 X (W 0)) ?_, by simp⟩
  have e := mulNT (M := 1024) (K := 512) (N := 256) (φ₁ := .bf16) (φ₂ := .bf16) none (ld2 (inb := inb_S1024x512_S1024x512_0_0) h0)
    (ld3 (a := 256) (b := 512) (n := 1) (p := 0) (inb := inb_S1x256x512_S1x256x512_0_0_0) (h := shapeCasts_S1x256x512_S256x512) h1)
  exact e
end Rows

/-! ## The blocks the points read and write -/

theorem index0_0 : ∀ t : Fin cfg0.N, win0_0.index t 0 = t.val ∧ win0_0.index t 1 = 0 :=
  (by decide +kernel : ∀ t : Fin grid0.N, win0_0.index t 0 = t.val ∧ win0_0.index t 1 = 0)
theorem index0_1 : ∀ t : Fin cfg0.N, win0_1.index t 0 = 0 ∧ win0_1.index t 1 = 0 ∧ win0_1.index t 2 = 0 :=
  (by decide +kernel : ∀ t : Fin grid0.N, win0_1.index t 0 = 0 ∧ win0_1.index t 1 = 0 ∧ win0_1.index t 2 = 0)
theorem index0_2 : ∀ t : Fin cfg0.N, win0_2.index t 0 = 0 ∧ win0_2.index t 1 = 0 :=
  (by decide +kernel : ∀ t : Fin grid0.N, win0_2.index t 0 = 0 ∧ win0_2.index t 1 = 0)
theorem index0_3 : ∀ t : Fin cfg0.N, win0_3.index t 0 = 0 ∧ win0_3.index t 1 = t.val ∧ win0_3.index t 2 = 0 :=
  (by decide +kernel : ∀ t : Fin grid0.N, win0_3.index t 0 = 0 ∧ win0_3.index t 1 = t.val ∧ win0_3.index t 2 = 0)
theorem index0_4 : ∀ t : Fin cfg0.N, win0_4.index t 0 = 0 ∧ win0_4.index t 1 = t.val ∧ win0_4.index t 2 = 0 :=
  (by decide +kernel : ∀ t : Fin grid0.N, win0_4.index t 0 = 0 ∧ win0_4.index t 1 = t.val ∧ win0_4.index t 2 = 0)
theorem index1_0 : ∀ t : Fin cfg1.N, win1_0.index t 0 = 0 ∧ win1_0.index t 1 = t.val :=
  (by decide +kernel : ∀ t : Fin grid1.N, win1_0.index t 0 = 0 ∧ win1_0.index t 1 = t.val)
theorem index1_1 : ∀ t : Fin cfg1.N, win1_1.index t 0 = 0 ∧ win1_1.index t 1 = 0 :=
  (by decide +kernel : ∀ t : Fin grid1.N, win1_1.index t 0 = 0 ∧ win1_1.index t 1 = 0)
theorem index1_2 : ∀ t : Fin cfg1.N, win1_2.index t 0 = t.val ∧ win1_2.index t 1 = 0 ∧ win1_2.index t 2 = 0 :=
  (by decide +kernel : ∀ t : Fin grid1.N, win1_2.index t 0 = t.val ∧ win1_2.index t 1 = 0 ∧ win1_2.index t 2 = 0)
theorem index2_0 : ∀ t : Fin cfg2.N, win2_0.index t 0 = t.val / 8 ∧ win2_0.index t 1 = 0 :=
  (by decide +kernel : ∀ t : Fin grid2.N, win2_0.index t 0 = t.val / 8 ∧ win2_0.index t 1 = 0)
theorem index2_1 : ∀ t : Fin cfg2.N, win2_1.index t 0 = t.val % 8 ∧ win2_1.index t 1 = 0 ∧ win2_1.index t 2 = 0 :=
  (by decide +kernel : ∀ t : Fin grid2.N, win2_1.index t 0 = t.val % 8 ∧ win2_1.index t 1 = 0 ∧ win2_1.index t 2 = 0)
theorem index2_2 : ∀ t : Fin cfg2.N, win2_2.index t 0 = t.val / 8 ∧ win2_2.index t 1 = t.val % 8 :=
  (by decide +kernel : ∀ t : Fin grid2.N, win2_2.index t 0 = t.val / 8 ∧ win2_2.index t 1 = t.val % 8)

/-! ## The three kernels -/

section Region0
variable (V : (c : Dev nD) → (b : Ref sig .tc) → Buf (Elt Ideal) ((c : Thread nD τ).loc b)) (c : Dev nD)
  (hx : At2 (V c main_arg0 : S2048x2048.Idx → EReal) X) (hw : At3 (V c main_v1 : S8x256x512.Idx → EReal) W) (hb : At2 (V c main_v2 : S1x512.Idx → EReal) B)

include hx in
theorem block_x (t : Fin cfg0.N) : At2 (a := 1024) (b := 2048) (iblk0 V c 0 t) (fun s k => X (t.val * 1024 + s) k) :=
  block2 X hx (place win0_0 t 0 (index0_0 t).1) (win0_0.rect_emb_val_of_index_zero t 1 (index0_0 t).2)
include hw in
theorem block_w (t : Fin cfg0.N) : At3 (a := 8) (b := 256) (c := 512) (iblk0 V c 1 t) W :=
  block3 W hw (win0_1.rect_emb_val_of_index_zero t 0 (index0_1 t).1) (win0_1.rect_emb_val_of_index_zero t 1 (index0_1 t).2.1) (win0_1.rect_emb_val_of_index_zero t 2 (index0_1 t).2.2)
include hb in
theorem block_b (t : Fin cfg0.N) : At2 (a := 1) (b := 512) (iblk0 V c 2 t) B :=
  block2 B hb (win0_2.rect_emb_val_of_index_zero t 0 (index0_2 t).1) (win0_2.rect_emb_val_of_index_zero t 1 (index0_2 t).2)

include hx hw hb in
theorem result_k (i : S4x2048x64.Idx) : ((dat0 V c).arrAt 3 cfg0.N : S4x2048x64.Idx → EReal) i = head 0 (keyvals X W (B 0)) (i 0).val (i 1).val (i 2).val := by
  refine (dat0 V c).arrAt_forall_of_covers 3 (fun (i : S4x2048x64.Idx) (v : EReal) => v = head 0 (keyvals X W (B 0)) (i 0).val (i 1).val (i 2).val)
    (by decide +kernel) (fun t hf (y : S4x1024x64.Idx) => ?_) i
  show (dat0 V c).after 3 t y = head 0 (keyvals X W (B 0)) ((win0_3.rect t).emb y 0).val ((win0_3.rect t).emb y 1).val ((win0_3.rect t).emb y 2).val
  rw [after0_3, win0_3.rect_emb_val_of_index_zero t 0 (index0_3 t).1, place win0_3 t 1 (index0_3 t).2.1 y, win0_3.rect_emb_val_of_index_zero t 2 (index0_3 t).2.2]
  exact out_k (block_x V c hx t) (block_w V c hw t) (block_b V c hb t) y

include hx hw hb in
theorem result_v (i : S4x2048x64.Idx) : ((dat0 V c).arrAt 4 cfg0.N : S4x2048x64.Idx → EReal) i = head 256 (keyvals X W (B 0)) (i 0).val (i 1).val (i 2).val := by
  refine (dat0 V c).arrAt_forall_of_covers 4 (fun (i : S4x2048x64.Idx) (v : EReal) => v = head 256 (keyvals X W (B 0)) (i 0).val (i 1).val (i 2).val)
    (by decide +kernel) (fun t hf (y : S4x1024x64.Idx) => ?_) i
  show (dat0 V c).after 4 t y = head 256 (keyvals X W (B 0)) ((win0_4.rect t).emb y 0).val ((win0_4.rect t).emb y 1).val ((win0_4.rect t).emb y 2).val
  rw [after0_4, win0_4.rect_emb_val_of_index_zero t 0 (index0_4 t).1, place win0_4 t 1 (index0_4 t).2.1 y, win0_4.rect_emb_val_of_index_zero t 2 (index0_4 t).2.2]
  exact out_v (block_x V c hx t) (block_w V c hw t) (block_b V c hb t) y
end Region0

section Region1
variable (V : (c : Dev nD) → (b : Ref sig .tc) → Buf (Elt Ideal) ((c : Thread nD τ).loc b)) (c : Dev nD)
  (hx : At2 (V c main_arg0 : S2048x2048.Idx → EReal) X) (hy : At2 (V c main_arg3 : S2048x512.Idx → EReal) Y)

include hx hy in
theorem result1 (i : S8x256x512.Idx) : ((dat1 V c).arrAt 2 cfg1.N : S8x256x512.Idx → EReal) i = tn 2048 X Y ((i 0).val * 256 + (i 1).val) (i 2).val := by
  refine (dat1 V c).arrAt_forall_of_covers 2 (fun (i : S8x256x512.Idx) (v : EReal) => v = tn 2048 X Y ((i 0).val * 256 + (i 1).val) (i 2).val)
    (by decide +kernel) (fun t hf (y : S1x256x512.Idx) => ?_) i
  show (dat1 V c).after 2 t y = tn 2048 X Y (((win1_2.rect t).emb y 0).val * 256 + ((win1_2.rect t).emb y 1).val) ((win1_2.rect t).emb y 2).val
  have hy0 := (y 0).isLt; change (y 0).val < 1 at hy0
  rw [after1_2, place win1_2 t 0 (index1_2 t).1 y, win1_2.rect_emb_val_of_index_zero t 1 (index1_2 t).2.1, win1_2.rect_emb_val_of_index_zero t 2 (index1_2 t).2.2]
  have e0 : At2 (a := 2048) (b := 256) (iblk1 V c 0 t) (fun s k => X s (t.val * 256 + k)) :=
    block2 X hx (win1_0.rect_emb_val_of_index_zero t 0 (index1_0 t).1) (place win1_0 t 1 (index1_0 t).2)
  have e1 : At2 (a := 2048) (b := 512) (iblk1 V c 1 t) Y :=
    block2 Y hy (win1_1.rect_emb_val_of_index_zero t 0 (index1_1 t).1) (win1_1.rect_emb_val_of_index_zero t 1 (index1_1 t).2)
  refine (out_w c _ _ _ _ _ _ e0 e1 _ y).trans ?_
  show _ = tn 2048 X Y ((t.val * 1 + (y 0).val) * 256 + (y 1).val) (y 2).val
  rw [show (t.val * 1 + (y 0).val) * 256 + (y 1).val = t.val * 256 + (y 1).val by omega]
  rfl
end Region1

section Region2
variable (V : (c : Dev nD) → (b : Ref sig .tc) → Buf (Elt Ideal) ((c : Thread nD τ).loc b)) (c : Dev nD)
  (hx : At2 (V c main_arg3 : S2048x512.Idx → EReal) X) (hw : At3 (V c main_v1 : S8x256x512.Idx → EReal) (rowsOf 256 P))

include hx hw in
theorem result2 (i : S2048x2048.Idx) : ((dat2 V c).arrAt 2 cfg2.N : S2048x2048.Idx → EReal) i = nt 512 X P (i 0).val (i 1).val := by
  refine (dat2 V c).arrAt_forall_of_covers 2 (fun (i : S2048x2048.Idx) (v : EReal) => v = nt 512 X P (i 0).val (i 1).val)
    (by decide +kernel) (fun t hf (y : S1024x256.Idx) => ?_) i
  show (dat2 V c).after 2 t y = nt 512 X P ((win2_2.rect t).emb y 0).val ((win2_2.rect t).emb y 1).val
  rw [after2_2, place win2_2 t 0 (index2_2 t).1 y, place win2_2 t 1 (index2_2 t).2 y]
  have e0 : At2 (a := 1024) (b := 512) (iblk2 V c 0 t) (fun s k => X (t.val / 8 * 1024 + s) k) :=
    block2 X hx (place win2_0 t 0 (index2_0 t).1) (win2_0.rect_emb_val_of_index_zero t 1 (index2_0 t).2)
  have e1 : At3 (a := 1) (b := 256) (c := 512) (iblk2 V c 1 t) (fun e r k => rowsOf 256 P (t.val % 8 * 1 + e) r k) :=
    block3 (rowsOf 256 P) hw (place win2_1 t 0 (index2_1 t).1) (win2_1.rect_emb_val_of_index_zero t 1 (index2_1 t).2.1) (win2_1.rect_emb_val_of_index_zero t 2 (index2_1 t).2.2)
  refine (out_x e0 e1 y).trans ?_
  unfold nt rowsOf
  simp only [Nat.mul_one, Nat.add_zero]
  rfl
end Region2

/-! ## What the host prepares, and the kernels one after the other -/

section Whole
variable (m : (ℓ : Loc nD τ sig) → Buf (Elt Ideal) ℓ) (ρ : Dev nD → PrngReg) (c : Dev nD)
  (hh : At2 (m ((c : Thread nD τ).loc main_arg0) : S2048x2048.Idx → EReal) H)
  (hp : At2 (m ((c : Thread nD τ).loc main_arg1) : S2048x512.Idx → EReal) P)
  (hb : At1 (m ((c : Thread nD τ).loc main_arg2) : S512.Idx → EReal) b)
  (he : At2 (m ((c : Thread nD τ).loc main_arg3) : S2048x512.Idx → EReal) E)

theorem V1_rows : (V1 m ρ c main_v1 : S8x256x512.Idx → EReal)
    = shapeCast S8x256x512 (m ((c : Thread nD τ).loc main_arg1) : S2048x512.Idx → EReal) shapeCasts_S2048x512_S8x256x512 := rfl
theorem V1_bias : (V1 m ρ c main_v2 : S1x512.Idx → EReal) = shapeCast S1x512 (m ((c : Thread nD τ).loc main_arg2) : S512.Idx → EReal) shapeCasts_S512_S1x512 := rfl

include hp in
theorem rows1 : At3 (V1 m ρ c main_v1 : S8x256x512.Idx → EReal) (rowsOf 256 P) := fun i => (congrFun (V1_rows m ρ c) i).trans (at3_cut (by norm_num) hp i)

include hh hp hb in
/-- The keys. -/
theorem k_out (i : S4x2048x64.Idx) : (W5 m ρ c (Proc.devRef .tc main_v3_0) : S4x2048x64.Idx → EReal) i = head 0 (keyvals H (rowsOf 256 P) b) (i 0).val (i 1).val (i 2).val :=
  (congrFun ((W5_of m ρ c main_v3_0 (by decide)).trans ((W4_of m ρ c main_v3_0 (by decide)).trans ((W3_of m ρ c main_v3_0 (by decide)).trans (W2_arr m ρ c 3)))) i).trans
    (result_k (B := fun _ j => b j) (V1 m ρ) c (fun i => (congrFun (W1_args m ρ c main_arg0 (by decide)) i).trans (hh i)) (rows1 m ρ c hp)
      (fun i => (congrFun (V1_bias m ρ c) i).trans (at2_of1 hb i)) i)

include hh hp hb in
/-- The values. -/
theorem v_out (i : S4x2048x64.Idx) : (W5 m ρ c (Proc.devRef .tc main_v3_1) : S4x2048x64.Idx → EReal) i = head 256 (keyvals H (rowsOf 256 P) b) (i 0).val (i 1).val (i 2).val :=
  (congrFun ((W5_of m ρ c main_v3_1 (by decide)).trans ((W4_of m ρ c main_v3_1 (by decide)).trans ((W3_of m ρ c main_v3_1 (by decide)).trans (W2_arr m ρ c 4)))) i).trans
    (result_v (B := fun _ j => b j) (V1 m ρ) c (fun i => (congrFun (W1_args m ρ c main_arg0 (by decide)) i).trans (hh i)) (rows1 m ρ c hp)
      (fun i => (congrFun (V1_bias m ρ c) i).trans (at2_of1 hb i)) i)

include hh he in
/-- The weights' gradient, its rows cut over the devices. -/
theorem w_out : At3 (a := 8) (b := 256) (c := 512) (W5 m ρ c (Proc.devRef .tc main_v4) : S8x256x512.Idx → EReal) (rowsOf 256 (tn 2048 H E)) := fun i =>
  (congrFun ((W5_of m ρ c main_v4 (by decide)).trans (W4_arr m ρ c 2)) i).trans
    (result1 (V3 m ρ) c (fun i => (congrFun (W3_args m ρ c main_arg0 (by decide)) i).trans (hh i)) (fun i => (congrFun (W3_args m ρ c main_arg3 (by decide)) i).trans (he i)) i)

include he hp in
/-- The gradient of the normalised input. -/
theorem x_out (i : S2048x2048.Idx) : (W5 m ρ c (Proc.devRef .tc main_v5) : S2048x2048.Idx → EReal) i = nt 512 E P (i 0).val (i 1).val :=
  (congrFun (W5_arr m ρ c 2) i).trans
    (result2 (V4 m ρ) c (fun i => (congrFun (W4_args m ρ c main_arg3 (by decide)) i).trans (he i))
      (fun i => (congrFun ((W4_of m ρ c main_v1 (by decide)).trans ((W3_of m ρ c main_v1 (by decide)).trans (W2_of m ρ c main_v1 (by decide)))) i).trans (rows1 m ρ c hp i)) i)
end Whole

end Cert.KvPair

end
-- ==== Proof.KvLaunch.lean ====
/- The shared keys and values, forward and backward: a run of the program leaves in its four results what the three kernels leave there. -/
module

public import proofs.«01_k».proof.Proof.Gen.KvIdeal.Frame

@[expose] public section

set_option maxRecDepth 16384

noncomputable section

namespace Cert.KvPair

open Cert.KvIdeal Cert.KvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (m : (ℓ : Loc nD τ sig) → Buf (Elt F) ℓ) (ρ : Dev nD → PrngReg)

set_option backward.isDefEq.respectTransparency.types false in
/-- Every buffer that outlives the kernels ends as the chain of the program's pieces leaves it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun _ h _ => h)

/-- What a run of the program leaves in its results and its arguments. -/
theorem run : θ_run defs (onTc (τ := τ) (main (F := F))) ⟨m, fun _ => 0, ρ⟩ (fun r => ∀ c : Dev nD,
      r.2.mem ((c.tc : Thread nD τ).loc main_v3_0) = W5 m ρ c (Proc.devRef .tc main_v3_0)
      ∧ r.2.mem ((c.tc : Thread nD τ).loc main_v3_1) = W5 m ρ c (Proc.devRef .tc main_v3_1)
      ∧ r.2.mem ((c.tc : Thread nD τ).loc main_v4) = W5 m ρ c (Proc.devRef .tc main_v4)
      ∧ r.2.mem ((c.tc : Thread nD τ).loc main_v5) = W5 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨h c _ (mem_uc main_v3_0 (by decide)), h c _ (mem_uc main_v3_1 (by decide)), h c _ (mem_uc main_v4 (by decide)), h c _ (mem_uc main_v5 (by decide)),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c)⟩) (run_all m ρ)

end Cert.KvPair

end
-- ==== Proof.Kv.lean ====
/- The shared keys and values, forward and backward: the kernels' results are the reference's. -/
module

public import proofs.«01_k».proof.Proof.KvRun
public import proofs.«01_k».proof.Proof.KvLaunch
public import proofs.«01_k».proof.Proof.Gen.Kv.Frame
public import proofs.«01_k».proof.Proof.Gen.KvReferenceIdeal.Run
public import proofs.«01_k».proof.Proof.Gen.KvReferenceIdeal.Read
public import proofs.«01_k».proof.Defs

@[expose] public section

set_option maxRecDepth 16384

noncomputable section

namespace Cert.KvPair

open Idealize.ShloMosaic Idealize.ShloMosaic.TcCoe Idealize.SL.Sem Cert.Prod

variable {H E P X : ℕ → ℕ → EReal} {b : ℕ → EReal}

/-! ## The reference -/

section Reference
open Cert.KvReferenceIdeal Cert.KvReferenceIdeal.Gen Cert.KvReferenceIdeal.Read

variable {x0 : S2048x2048.Idx → EReal} {x1 x3 : S2048x512.Idx → EReal} {x2 : S512.Idx → EReal}

/-- The keys and values side by side. -/
theorem ref_kv (hh : At2 x0 H) (hp : At2 x1 P) (hb : At1 x2 b) : At2 (a := 2048) (b := 512) (val_main_v5 (F := Ideal) x0 x1 x2) (fun i j => nn 2048 H P i j + b j) := fun i => by
  rw [val_main_v5_apply, val_main_v4_apply, val_main_v3_apply, val_main_v2_apply, hb]
  refine congrArg (fun z : EReal => z + b (i 1).val) (Finset.sum_congr rfl fun k _ => ?_)
  rw [val_main_v0_apply, hp]
  exact congrArg (fun z : EReal => z * _) (hh _)

theorem ref_k (hh : At2 x0 H) (hp : At2 x1 P) (hb : At1 x2 b) : At3 (a := 4) (b := 2048) (c := 64) (val_main_v14 (F := Ideal) x0 x1 x2)
    (colsOf 64 fun i j => nn 2048 H P i (0 + j) + b (0 + j)) := fun i => by
  rw [val_main_v14_apply]
  exact cols_at (n := 4) (m := 2048) (w := 64) (N := 256) (h := shapeCasts_S2048x256_S2048x4x64) (h' := transposes_S2048x4x64_S4x2048x64_1_0_2) (by norm_num)
    (at2_slice (a := 2048) (b := 256) (n := 512) (p := 0) (h := slices_S2048x512_S2048x256_0_0) (ref_kv hh hp hb)) i

theorem ref_v (hh : At2 x0 H) (hp : At2 x1 P) (hb : At1 x2 b) : At3 (a := 4) (b := 2048) (c := 64) (val_main_v17 (F := Ideal) x0 x1 x2)
    (colsOf 64 fun i j => nn 2048 H P i (256 + j) + b (256 + j)) := fun i => by
  rw [val_main_v17_apply]
  exact cols_at (n := 4) (m := 2048) (w := 64) (N := 256) (h := shapeCasts_S2048x256_S2048x4x64) (h' := transposes_S2048x4x64_S4x2048x64_1_0_2) (by norm_num)
    (at2_slice (a := 2048) (b := 256) (n := 512) (p := 256) (h := slices_S2048x512_S2048x256_0_256) (ref_kv hh hp hb)) i

theorem ref_x (he : At2 x3 E) (hp : At2 x1 P) : At2 (a := 2048) (b := 2048) (val_main_v11 (F := Ideal) x1 x3) (nt 512 E P) := fun i => by
  rw [val_main_v11_apply]
  refine Finset.sum_congr rfl fun k _ => ?_
  rw [hp]
  exact congrArg (fun z : EReal => z * _) (he _)

theorem ref_d (hh : At2 x0 H) (he : At2 x3 E) : At2 (a := 2048) (b := 512) (val_main_v10 (F := Ideal) x0 x3) (tn 2048 H E) := fun i => by
  rw [val_main_v10_apply, val_main_v9_apply]
  refine Finset.sum_congr rfl fun k _ => ?_
  rw [val_main_v0_apply, val_main_v1_apply]
  refine (mul_comm _ _).trans ?_
  exact congrArg₂ (fun z w : EReal => z * w) (hh _) (he _)

theorem ref_w (hh : At2 x0 H) (he : At2 x3 E) : At3 (a := 8) (b := 256) (c := 512) (val_main_v19 (F := Ideal) x0 x3) (rowsOf 256 (tn 2048 H E)) := fun i => by
  rw [val_main_v19_apply]
  exact at3_cut (n := 8) (a := 256) (R := 2048) (h := shapeCasts_S2048x512_S8x256x512) (by norm_num) (ref_d hh he) i
end Reference

/-! ## The kernels' stacked weights -/

theorem heads_all (o h s f : ℕ) : head o (keyvals H (rowsOf 256 P) b) h s f = colsOf 64 (fun i j => nn 2048 H P i (o + j) + b (o + j)) h s f := by
  unfold head keyvals colsOf nn
  rw [Nat.mul_comm 64 h]
  exact congrArg (fun z : EReal => z + _) (Finset.sum_congr rfl fun k _ => congrArg (fun z : EReal => H s k.val * z) (rows_back 256 P k.val _))

/-! ## The claims -/

theorem frame_p : Cert.quiescent_Kv := fun m ρ _ => Cert.Kv.Gen.frame m ρ
theorem frame_pi : Cert.quiescent_KvIdeal := fun m ρ _ => Cert.KvIdeal.Gen.frame m ρ
theorem frame_ri : Cert.quiescent_KvReferenceIdeal := fun m ρ _ =>
  (θ_run Cert.KvReferenceIdeal.defs _ _).mono
    (fun r h => ⟨fun c => (h c).2.2.2.2, sem_eq_zero_of_no_sems (by decide) r.2⟩) (Cert.KvReferenceIdeal.Value.run (F := Ideal) m ρ)
theorem preserves : Cert.preserves_Kv_KvIdeal := trivial

theorem algebraic : Cert.algebraic_KvIdeal_KvReferenceIdeal := fun m ρ m' ρ' hpre hargs => by
  refine ⟨_, _, _, _, run m ρ, ?_⟩
  refine (θ_run Cert.KvReferenceIdeal.defs _ _).mono (fun r h c => ?_) (Cert.KvReferenceIdeal.Value.run (F := Ideal) m' ρ')
  obtain ⟨r0, r1, r2, r3, rest⟩ := h c
  obtain ⟨a0, a1, a2, a3, a4⟩ := hargs c
  have hh := at2_ent (a := 2048) (b := 2048) (m (c.tc.loc Cert.KvIdeal.main_arg0))
  have hp := at2_ent (a := 2048) (b := 512) (m (c.tc.loc Cert.KvIdeal.main_arg1))
  have hb := at1_ent (a := 512) (m (c.tc.loc Cert.KvIdeal.main_arg2))
  have he := at2_ent (a := 2048) (b := 512) (m (c.tc.loc Cert.KvIdeal.main_arg3))
  refine ⟨r0.trans ?_, r1.trans ?_, r2.trans ?_, r3.trans ?_, rest⟩
  · rw [Cert.KvReferenceIdeal.Read.val_main_v14_eq, a0, a1, a2]
    exact funext fun i => (ref_k hh hp hb i).trans ((k_out m ρ c hh hp hb i).trans (heads_all 0 _ _ _)).symm
  · rw [Cert.KvReferenceIdeal.Read.val_main_v17_eq, a0, a1, a2]
    exact funext fun i => (ref_v hh hp hb i).trans ((v_out m ρ c hh hp hb i).trans (heads_all 256 _ _ _)).symm
  · rw [Cert.KvReferenceIdeal.Read.val_main_v19_eq, a0, a3]
    exact funext fun i => (ref_w hh he i).trans (w_out m ρ c hh he i).symm
  · rw [Cert.KvReferenceIdeal.Read.val_main_v11_eq, a1, a3]
    exact funext fun i => (ref_x he hp i).trans (x_out m ρ c hp he i).symm

end Cert.KvPair

end
-- ==== Proof.lean ====
module

public import proofs.«01_k».proof.Defs
public import proofs.«01_k».proof.Proof.CoreAttn
public import proofs.«01_k».proof.Proof.Gen.AttnReferenceIdeal.Run
public import proofs.«01_k».proof.Proof.Gen.AttnReferenceIdeal.Read
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnReferenceIdeal
public import proofs.«01_k».proof.Proof.Gen.Pre_finite12
public import proofs.«01_k».proof.Proof.Gmlp
public import proofs.«01_k».proof.Proof.Ffn
public import proofs.«01_k».proof.Proof.Dx
public import proofs.«01_k».proof.Proof.DwDown
public import proofs.«01_k».proof.Proof.DwUp
public import proofs.«01_k».proof.Proof.Mixer
public import proofs.«01_k».proof.Proof.MixerBack
public import proofs.«01_k».proof.Proof.MixerDwIn
public import proofs.«01_k».proof.Proof.Proj
public import proofs.«01_k».proof.Proof.ProjBack
public import proofs.«01_k».proof.Proof.Kv
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnReferenceIdeal
public import proofs.«01_k».proof.Proof.Gen.FfnDx
public import proofs.«01_k».proof.Proof.Gen.FfnDx.Skeleton
public import proofs.«01_k».proof.Proof.Gen.FfnDx.Launch
public import proofs.«01_k».proof.Proof.Gen.FfnDx.Points
public import proofs.«01_k».proof.Proof.Gen.FfnDx.Frame
public import proofs.«01_k».proof.Proof.Gen.FfnDxIdeal
public import proofs.«01_k».proof.Proof.Gen.FfnDxIdeal.Skeleton
public import proofs.«01_k».proof.Proof.Gen.FfnDxIdeal.Launch
public import proofs.«01_k».proof.Proof.Gen.FfnDxIdeal.Points
public import proofs.«01_k».proof.Proof.Gen.FfnDxIdeal.Frame
public import proofs.«01_k».proof.Proof.Gen.FfnDxReferenceIdeal
public import proofs.«01_k».proof.Proof.Gen.FfnDwDown
public import proofs.«01_k».proof.Proof.Gen.FfnDwDown.Skeleton
public import proofs.«01_k».proof.Proof.Gen.FfnDwDown.Launch
public import proofs.«01_k».proof.Proof.Gen.FfnDwDown.Points
public import proofs.«01_k».proof.Proof.Gen.FfnDwDown.Frame
public import proofs.«01_k».proof.Proof.Gen.FfnDwDownIdeal
public import proofs.«01_k».proof.Proof.Gen.FfnDwDownIdeal.Skeleton
public import proofs.«01_k».proof.Proof.Gen.FfnDwDownIdeal.Launch
public import proofs.«01_k».proof.Proof.Gen.FfnDwDownIdeal.Points
public import proofs.«01_k».proof.Proof.Gen.FfnDwDownIdeal.Frame
public import proofs.«01_k».proof.Proof.Gen.FfnDwDownReferenceIdeal
public import proofs.«01_k».proof.Proof.Gen.FfnDwUp
public import proofs.«01_k».proof.Proof.Gen.FfnDwUp.Skeleton
public import proofs.«01_k».proof.Proof.Gen.FfnDwUp.Launch
public import proofs.«01_k».proof.Proof.Gen.FfnDwUp.Points
public import proofs.«01_k».proof.Proof.Gen.FfnDwUp.Frame
public import proofs.«01_k».proof.Proof.Gen.FfnDwUpIdeal
public import proofs.«01_k».proof.Proof.Gen.FfnDwUpIdeal.Skeleton
public import proofs.«01_k».proof.Proof.Gen.FfnDwUpIdeal.Launch
public import proofs.«01_k».proof.Proof.Gen.FfnDwUpIdeal.Points
public import proofs.«01_k».proof.Proof.Gen.FfnDwUpIdeal.Frame
public import proofs.«01_k».proof.Proof.Gen.FfnDwUpReferenceIdeal
public import proofs.«01_k».proof.Proof.Gen.Mixer
public import proofs.«01_k».proof.Proof.Gen.Mixer.Skeleton
public import proofs.«01_k».proof.Proof.Gen.Mixer.Launch
public import proofs.«01_k».proof.Proof.Gen.Mixer.Points
public import proofs.«01_k».proof.Proof.Gen.Mixer.Frame
public import proofs.«01_k».proof.Proof.Gen.MixerIdeal
public import proofs.«01_k».proof.Proof.Gen.MixerIdeal.Skeleton
public import proofs.«01_k».proof.Proof.Gen.MixerIdeal.Launch
public import proofs.«01_k».proof.Proof.Gen.MixerIdeal.Points
public import proofs.«01_k».proof.Proof.Gen.MixerIdeal.Frame
public import proofs.«01_k».proof.Proof.Gen.MixerReferenceIdeal
public import proofs.«01_k».proof.Proof.Gen.MixerBack
public import proofs.«01_k».proof.Proof.Gen.MixerBack.Skeleton
public import proofs.«01_k».proof.Proof.Gen.MixerBack.Launch
public import proofs.«01_k».proof.Proof.Gen.MixerBack.Points
public import proofs.«01_k».proof.Proof.Gen.MixerBack.Frame
public import proofs.«01_k».proof.Proof.Gen.MixerBackIdeal
public import proofs.«01_k».proof.Proof.Gen.MixerBackIdeal.Skeleton
public import proofs.«01_k».proof.Proof.Gen.MixerBackIdeal.Launch
public import proofs.«01_k».proof.Proof.Gen.MixerBackIdeal.Points
public import proofs.«01_k».proof.Proof.Gen.MixerBackIdeal.Frame
public import proofs.«01_k».proof.Proof.Gen.MixerBackReferenceIdeal
public import proofs.«01_k».proof.Proof.Gen.MixerDwIn
public import proofs.«01_k».proof.Proof.Gen.MixerDwIn.Skeleton
public import proofs.«01_k».proof.Proof.Gen.MixerDwIn.Launch
public import proofs.«01_k».proof.Proof.Gen.MixerDwIn.Points
public import proofs.«01_k».proof.Proof.Gen.MixerDwIn.Frame
public import proofs.«01_k».proof.Proof.Gen.MixerDwInIdeal
public import proofs.«01_k».proof.Proof.Gen.MixerDwInIdeal.Skeleton
public import proofs.«01_k».proof.Proof.Gen.MixerDwInIdeal.Launch
public import proofs.«01_k».proof.Proof.Gen.MixerDwInIdeal.Points
public import proofs.«01_k».proof.Proof.Gen.MixerDwInIdeal.Frame
public import proofs.«01_k».proof.Proof.Gen.MixerDwInReferenceIdeal
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjReferenceIdeal
public import proofs.«01_k».proof.Proof.Gen.ProjBack
public import proofs.«01_k».proof.Proof.Gen.ProjBack.Skeleton
public import proofs.«01_k».proof.Proof.Gen.ProjBack.Launch
public import proofs.«01_k».proof.Proof.Gen.ProjBack.Points
public import proofs.«01_k».proof.Proof.Gen.ProjBack.Frame
public import proofs.«01_k».proof.Proof.Gen.ProjBackIdeal
public import proofs.«01_k».proof.Proof.Gen.ProjBackIdeal.Skeleton
public import proofs.«01_k».proof.Proof.Gen.ProjBackIdeal.Launch
public import proofs.«01_k».proof.Proof.Gen.ProjBackIdeal.Points
public import proofs.«01_k».proof.Proof.Gen.ProjBackIdeal.Frame
public import proofs.«01_k».proof.Proof.Gen.ProjBackReferenceIdeal
public import proofs.«01_k».proof.Proof.Gen.Kv
public import proofs.«01_k».proof.Proof.Gen.Kv.Skeleton
public import proofs.«01_k».proof.Proof.Gen.Kv.Launch
public import proofs.«01_k».proof.Proof.Gen.Kv.Points
public import proofs.«01_k».proof.Proof.Gen.Kv.Frame
public import proofs.«01_k».proof.Proof.Gen.KvIdeal
public import proofs.«01_k».proof.Proof.Gen.KvIdeal.Skeleton
public import proofs.«01_k».proof.Proof.Gen.KvIdeal.Launch
public import proofs.«01_k».proof.Proof.Gen.KvIdeal.Points
public import proofs.«01_k».proof.Proof.Gen.KvIdeal.Frame
public import proofs.«01_k».proof.Proof.Gen.KvReferenceIdeal
public import proofs.«01_k».proof.Proof.Gen.Pre_finite
public import proofs.«01_k».proof.Proof.Gen.Pre_finite2
public import Idealize.ShloMosaic.Adequacy
public import Idealize.ShloMosaic.Init
public import proofs.«01_k».proof.Proof.Gen.ReferenceIdeal.Run
public import proofs.«01_k».proof.Proof.Gen.ReferenceIdeal.Read
public import proofs.«01_k».proof.Proof.Gen.FfnReferenceIdeal.Run
public import proofs.«01_k».proof.Proof.Gen.FfnReferenceIdeal.Read
public import proofs.«01_k».proof.Proof.Gen.FfnDxReferenceIdeal.Run
public import proofs.«01_k».proof.Proof.Gen.FfnDxReferenceIdeal.Read
public import proofs.«01_k».proof.Proof.Gen.FfnDwDownReferenceIdeal.Run
public import proofs.«01_k».proof.Proof.Gen.FfnDwDownReferenceIdeal.Read
public import proofs.«01_k».proof.Proof.Gen.FfnDwUpReferenceIdeal.Run
public import proofs.«01_k».proof.Proof.Gen.FfnDwUpReferenceIdeal.Read
public import proofs.«01_k».proof.Proof.Gen.MixerReferenceIdeal.Run
public import proofs.«01_k».proof.Proof.Gen.MixerReferenceIdeal.Read
public import proofs.«01_k».proof.Proof.Gen.MixerBackReferenceIdeal.Run
public import proofs.«01_k».proof.Proof.Gen.MixerBackReferenceIdeal.Read
public import proofs.«01_k».proof.Proof.Gen.MixerDwInReferenceIdeal.Run
public import proofs.«01_k».proof.Proof.Gen.MixerDwInReferenceIdeal.Read
public import proofs.«01_k».proof.Proof.Gen.ProjReferenceIdeal.Run
public import proofs.«01_k».proof.Proof.Gen.ProjReferenceIdeal.Read
public import proofs.«01_k».proof.Proof.Gen.ProjBackReferenceIdeal.Run
public import proofs.«01_k».proof.Proof.Gen.ProjBackReferenceIdeal.Read
public import proofs.«01_k».proof.Proof.Gen.KvReferenceIdeal.Run
public import proofs.«01_k».proof.Proof.Gen.KvReferenceIdeal.Read
public import proofs.«01_k».proof.Proof.Gen.KernelIdeal.Value
public import proofs.«01_k».proof.Proof.Gen.FfnDxIdeal.Value
public import proofs.«01_k».proof.Proof.Gen.MixerDwInIdeal.Value

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Ffn.Gen.facts, Cert.FfnIdeal.Gen.facts, Cert.FfnReferenceIdeal.Gen.facts,
    Cert.FfnDx.Gen.facts, Cert.FfnDxIdeal.Gen.facts, Cert.FfnDxReferenceIdeal.Gen.facts,
    Cert.FfnDwDown.Gen.facts, Cert.FfnDwDownIdeal.Gen.facts, Cert.FfnDwDownReferenceIdeal.Gen.facts,
    Cert.FfnDwUp.Gen.facts, Cert.FfnDwUpIdeal.Gen.facts, Cert.FfnDwUpReferenceIdeal.Gen.facts,
    Cert.Mixer.Gen.facts, Cert.MixerIdeal.Gen.facts, Cert.MixerReferenceIdeal.Gen.facts,
    Cert.MixerBack.Gen.facts, Cert.MixerBackIdeal.Gen.facts, Cert.MixerBackReferenceIdeal.Gen.facts,
    Cert.MixerDwIn.Gen.facts, Cert.MixerDwInIdeal.Gen.facts, Cert.MixerDwInReferenceIdeal.Gen.facts,
    Cert.Proj.Gen.facts, Cert.ProjIdeal.Gen.facts, Cert.ProjReferenceIdeal.Gen.facts,
    Cert.ProjBack.Gen.facts, Cert.ProjBackIdeal.Gen.facts, Cert.ProjBackReferenceIdeal.Gen.facts,
    Cert.Kv.Gen.facts, Cert.KvIdeal.Gen.facts, Cert.KvReferenceIdeal.Gen.facts,
    Cert.Attn.Gen.facts, Cert.AttnIdeal.Gen.facts, Cert.AttnReferenceIdeal.Gen.facts,
    Cert.Pre_finite.Gen.facts, Cert.Pre_finite2.Gen.facts, Cert.Pre_finite12.Gen.facts,
    Gmlp.frame_p, Gmlp.frame_pi, Gmlp.frame_pi_pre, Gmlp.frame_ri, Gmlp.frame_ri_pre,
    FfnPair.frame_p, FfnPair.frame_pi, FfnPair.frame_pi_pre, FfnPair.frame_ri, FfnPair.frame_ri_pre,
    Dx.frame_p, Dx.frame_pi, Dx.frame_ri,
    DwDown.frame_p, DwDown.frame_pi, DwDown.frame_ri,
    DwUp.frame_p, DwUp.frame_pi, DwUp.frame_ri,
    MixFwd.frame_p, MixFwd.frame_pi, MixFwd.frame_ri,
    MixBwd.frame_p, MixBwd.frame_pi, MixBwd.frame_ri,
    MixDw.frame_p, MixDw.frame_pi, MixDw.frame_ri,
    ProjFwd.frame_p, ProjFwd.frame_pi, ProjFwd.frame_ri,
    ProjBwd.frame_p, ProjBwd.frame_pi, ProjBwd.frame_ri,
    KvPair.frame_p, KvPair.frame_pi, KvPair.frame_ri,
    CorePair.frame_p, CorePair.frame_pi, CorePair.frame_pi_pre, CorePair.frame_ri, CorePair.frame_ri_pre,
    Gmlp.preserves, Gmlp.algebraic,
    FfnPair.preserves, FfnPair.algebraic,
    Dx.preserves, Dx.algebraic,
    DwDown.preserves, DwDown.algebraic,
    DwUp.preserves, DwUp.algebraic,
    MixFwd.preserves, MixFwd.algebraic,
    MixBwd.preserves, MixBwd.algebraic,
    MixDw.preserves, MixDw.algebraic,
    ProjFwd.preserves, ProjFwd.algebraic,
    ProjBwd.preserves, ProjBwd.algebraic,
    KvPair.preserves, KvPair.algebraic,
    CorePair.preserves, CorePair.algebraic⟩

end Cert.Proof

end
